-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5)
      ∧ r.2.mem ((c.tc : Thread Cert.Kernel29.nD Cert.Kernel29.τ).loc Cert.Kernel29.main_arg6) = m ((c.tc : Thread Cert.Kernel29.nD Cert.Kernel29.τ).loc Cert.Kernel29.main_arg6)
      ∧ r.2.mem ((c.tc : Thread Cert.Kernel29.nD Cert.Kernel29.τ).loc Cert.Kernel29.main_arg7) = m ((c.tc : Thread Cert.Kernel29.nD Cert.Kernel29.τ).loc Cert.Kernel29.main_arg7)
      ∧ r.2.mem ((c.tc : Thread Cert.Kernel29.nD Cert.Kernel29.τ).loc Cert.Kernel29.main_arg8) = m ((c.tc : Thread Cert.Kernel29.nD Cert.Kernel29.τ).loc Cert.Kernel29.main_arg8)
      ∧ r.2.mem ((c.tc : Thread Cert.Kernel29.nD Cert.Kernel29.τ).loc Cert.Kernel29.main_arg9) = m ((c.tc : Thread Cert.Kernel29.nD Cert.Kernel29.τ).loc Cert.Kernel29.main_arg9)
      ∧ r.2.mem ((c.tc : Thread Cert.Kernel29.nD Cert.Kernel29.τ).loc Cert.Kernel29.main_arg10) = m ((c.tc : Thread Cert.Kernel29.nD Cert.Kernel29.τ).loc Cert.Kernel29.main_arg10)
      ∧ r.2.mem ((c.tc : Thread Cert.Kernel29.nD Cert.Kernel29.τ).loc Cert.Kernel29.main_arg11) = m ((c.tc : Thread Cert.Kernel29.nD Cert.Kernel29.τ).loc Cert.Kernel29.main_arg11)
      ∧ r.2.mem ((c.tc : Thread Cert.Kernel29.nD Cert.Kernel29.τ).loc Cert.Kernel29.main_arg12) = m ((c.tc : Thread Cert.Kernel29.nD Cert.Kernel29.τ).loc Cert.Kernel29.main_arg12)
      ∧ r.2.mem ((c.tc : Thread Cert.Kernel29.nD Cert.Kernel29.τ).loc Cert.Kernel29.main_arg13) = m ((c.tc : Thread Cert.Kernel29.nD Cert.Kernel29.τ).loc Cert.Kernel29.main_arg13)
      ∧ r.2.mem ((c.tc : Thread Cert.Kernel29.nD Cert.Kernel29.τ).loc Cert.Kernel29.main_arg14) = m ((c.tc : Thread Cert.Kernel29.nD Cert.Kernel29.τ).loc Cert.Kernel29.main_arg14)
      ∧ r.2.mem ((c.tc : Thread Cert.Kernel29.nD Cert.Kernel29.τ).loc Cert.Kernel29.main_arg15) = m ((c.tc : Thread Cert.Kernel29.nD Cert.Kernel29.τ).loc Cert.Kernel29.main_arg15)
      ∧ r.2.mem ((c.tc : Thread Cert.Kernel29.nD Cert.Kernel29.τ).loc Cert.Kernel29.main_arg16) = m ((c.tc : Thread Cert.Kernel29.nD Cert.Kernel29.τ).loc Cert.Kernel29.main_arg16)
      ∧ r.2.mem ((c.tc : Thread Cert.Kernel29.nD Cert.Kernel29.τ).loc Cert.Kernel29.main_arg17) = m ((c.tc : Thread Cert.Kernel29.nD Cert.Kernel29.τ).loc Cert.Kernel29.main_arg17)
      ∧ r.2.mem ((c.tc : Thread Cert.Kernel29.nD Cert.Kernel29.τ).loc Cert.Kernel29.main_arg18) = m ((c.tc : Thread Cert.Kernel29.nD Cert.Kernel29.τ).loc Cert.Kernel29.main_arg18)
      ∧ r.2.mem ((c.tc : Thread Cert.Kernel29.nD Cert.Kernel29.τ).loc Cert.Kernel29.main_arg19) = m ((c.tc : Thread Cert.Kernel29.nD Cert.Kernel29.τ).loc Cert.Kernel29.main_arg19)
      ∧ r.2.mem ((c.tc : Thread Cert.Kernel29.nD Cert.Kernel29.τ).loc Cert.Kernel29.main_arg20) = m ((c.tc : Thread Cert.Kernel29.nD Cert.Kernel29.τ).loc Cert.Kernel29.main_arg20)
      ∧ r.2.mem ((c.tc : Thread Cert.Kernel29.nD Cert.Kernel29.τ).loc Cert.Kernel29.main_arg21) = m ((c.tc : Thread Cert.Kernel29.nD Cert.Kernel29.τ).loc Cert.Kernel29.main_arg21)
      ∧ r.2.mem ((c.tc : Thread Cert.Kernel29.nD Cert.Kernel29.τ).loc Cert.Kernel29.main_arg22) = m ((c.tc : Thread Cert.Kernel29.nD Cert.Kernel29.τ).loc Cert.Kernel29.main_arg22)
      ∧ r.2.mem ((c.tc : Thread Cert.Kernel29.nD Cert.Kernel29.τ).loc Cert.Kernel29.main_arg23) = m ((c.tc : Thread Cert.Kernel29.nD Cert.Kernel29.τ).loc Cert.Kernel29.main_arg23)
      ∧ r.2.mem ((c.tc : Thread Cert.Kernel29.nD Cert.Kernel29.τ).loc Cert.Kernel29.main_arg24) = m ((c.tc : Thread Cert.Kernel29.nD Cert.Kernel29.τ).loc Cert.Kernel29.main_arg24)
      ∧ r.2.mem ((c.tc : Thread Cert.Kernel29.nD Cert.Kernel29.τ).loc Cert.Kernel29.main_arg25) = m ((c.tc : Thread Cert.Kernel29.nD Cert.Kernel29.τ).loc Cert.Kernel29.main_arg25)
      ∧ r.2.mem ((c.tc : Thread Cert.Kernel29.nD Cert.Kernel29.τ).loc Cert.Kernel29.main_arg26) = m ((c.tc : Thread Cert.Kernel29.nD Cert.Kernel29.τ).loc Cert.Kernel29.main_arg26)
      ∧ r.2.mem ((c.tc : Thread Cert.Kernel29.nD Cert.Kernel29.τ).loc Cert.Kernel29.main_arg27) = m ((c.tc : Thread Cert.Kernel29.nD Cert.Kernel29.τ).loc Cert.Kernel29.main_arg27)
      ∧ r.2.mem ((c.tc : Thread Cert.Kernel29.nD Cert.Kernel29.τ).loc Cert.Kernel29.main_arg28) = m ((c.tc : Thread Cert.Kernel29.nD Cert.Kernel29.τ).loc Cert.Kernel29.main_arg28)
      ∧ r.2.mem ((c.tc : Thread Cert.Kernel29.nD Cert.Kernel29.τ).loc Cert.Kernel29.main_arg29) = m ((c.tc : Thread Cert.Kernel29.nD Cert.Kernel29.τ).loc Cert.Kernel29.main_arg29)
      ∧ r.2.mem ((c.tc : Thread Cert.Kernel29.nD Cert.Kernel29.τ).loc Cert.Kernel29.main_arg30) = m ((c.tc : Thread Cert.Kernel29.nD Cert.Kernel29.τ).loc Cert.Kernel29.main_arg30)
      ∧ r.2.mem ((c.tc : Thread Cert.Kernel29.nD Cert.Kernel29.τ).loc Cert.Kernel29.main_arg31) = m ((c.tc : Thread Cert.Kernel29.nD Cert.Kernel29.τ).loc Cert.Kernel29.main_arg31)
      ∧ r.2.mem ((c.tc : Thread Cert.Kernel29.nD Cert.Kernel29.τ).loc Cert.Kernel29.main_arg32) = m ((c.tc : Thread Cert.Kernel29.nD Cert.Kernel29.τ).loc Cert.Kernel29.main_arg32)
      ∧ r.2.mem ((c.tc : Thread Cert.Kernel29.nD Cert.Kernel29.τ).loc Cert.Kernel29.main_arg33) = m ((c.tc : Thread Cert.Kernel29.nD Cert.Kernel29.τ).loc Cert.Kernel29.main_arg33)
      ∧ r.2.mem ((c.tc : Thread Cert.Kernel29.nD Cert.Kernel29.τ).loc Cert.Kernel29.main_arg34) = m ((c.tc : Thread Cert.Kernel29.nD Cert.Kernel29.τ).loc Cert.Kernel29.main_arg34)
      ∧ r.2.mem ((c.tc : Thread Cert.Kernel29.nD Cert.Kernel29.τ).loc Cert.Kernel29.main_arg35) = m ((c.tc : Thread Cert.Kernel29.nD Cert.Kernel29.τ).loc Cert.Kernel29.main_arg35)
      ∧ r.2.mem ((c.tc : Thread Cert.Kernel29.nD Cert.Kernel29.τ).loc Cert.Kernel29.main_arg36) = m ((c.tc : Thread Cert.Kernel29.nD Cert.Kernel29.τ).loc Cert.Kernel29.main_arg36)
      ∧ r.2.mem ((c.tc : Thread Cert.Kernel29.nD Cert.Kernel29.τ).loc Cert.Kernel29.main_arg37) = m ((c.tc : Thread Cert.Kernel29.nD Cert.Kernel29.τ).loc Cert.Kernel29.main_arg37)
      ∧ r.2.mem ((c.tc : Thread Cert.Kernel29.nD Cert.Kernel29.τ).loc Cert.Kernel29.main_arg38) = m ((c.tc : Thread Cert.Kernel29.nD Cert.Kernel29.τ).loc Cert.Kernel29.main_arg38)
      ∧ r.2.mem ((c.tc : Thread Cert.Kernel29.nD Cert.Kernel29.τ).loc Cert.Kernel29.main_arg39) = m ((c.tc : Thread Cert.Kernel29.nD Cert.Kernel29.τ).loc Cert.Kernel29.main_arg39)
      ∧ r.2.mem ((c.tc : Thread Cert.Kernel29.nD Cert.Kernel29.τ).loc Cert.Kernel29.main_arg40) = m ((c.tc : Thread Cert.Kernel29.nD Cert.Kernel29.τ).loc Cert.Kernel29.main_arg40)
      ∧ r.2.mem ((c.tc : Thread Cert.Kernel29.nD Cert.Kernel29.τ).loc Cert.Kernel29.main_arg41) = m ((c.tc : Thread Cert.Kernel29.nD Cert.Kernel29.τ).loc Cert.Kernel29.main_arg41)
      ∧ r.2.mem ((c.tc : Thread Cert.Kernel29.nD Cert.Kernel29.τ).loc Cert.Kernel29.main_arg42) = m ((c.tc : Thread Cert.Kernel29.nD Cert.Kernel29.τ).loc Cert.Kernel29.main_arg42)
      ∧ r.2.mem ((c.tc : Thread Cert.Kernel29.nD Cert.Kernel29.τ).loc Cert.Kernel29.main_arg43) = m ((c.tc : Thread Cert.Kernel29.nD Cert.Kernel29.τ).loc Cert.Kernel29.main_arg43)
      ∧ r.2.mem ((c.tc : Thread Cert.Kernel29.nD Cert.Kernel29.τ).loc Cert.Kernel29.main_arg44) = m ((c.tc : Thread Cert.Kernel29.nD Cert.Kernel29.τ).loc Cert.Kernel29.main_arg44)
      ∧ r.2.mem ((c.tc : Thread Cert.Kernel29.nD Cert.Kernel29.τ).loc Cert.Kernel29.main_arg45) = m ((c.tc : Thread Cert.Kernel29.nD Cert.Kernel29.τ).loc Cert.Kernel29.main_arg45)
      ∧ r.2.mem ((c.tc : Thread Cert.Kernel29.nD Cert.Kernel29.τ).loc Cert.Kernel29.main_arg46) = m ((c.tc : Thread Cert.Kernel29.nD Cert.Kernel29.τ).loc Cert.Kernel29.main_arg46)
      ∧ r.2.mem ((c.tc : Thread Cert.Kernel29.nD Cert.Kernel29.τ).loc Cert.Kernel29.main_arg47) = m ((c.tc : Thread Cert.Kernel29.nD Cert.Kernel29.τ).loc Cert.Kernel29.main_arg47))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
      ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
      ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8)
      ∧ r.2.mem ((c.tc : Thread Cert.Kernel29Ideal.nD Cert.Kernel29Ideal.τ).loc Cert.Kernel29Ideal.main_arg9) = m ((c.tc : Thread Cert.Kernel29Ideal.nD Cert.Kernel29Ideal.τ).loc Cert.Kernel29Ideal.main_arg9)
      ∧ r.2.mem ((c.tc : Thread Cert.Kernel29Ideal.nD Cert.Kernel29Ideal.τ).loc Cert.Kernel29Ideal.main_arg10) = m ((c.tc : Thread Cert.Kernel29Ideal.nD Cert.Kernel29Ideal.τ).loc Cert.Kernel29Ideal.main_arg10)
      ∧ r.2.mem ((c.tc : Thread Cert.Kernel29Ideal.nD Cert.Kernel29Ideal.τ).loc Cert.Kernel29Ideal.main_arg11) = m ((c.tc : Thread Cert.Kernel29Ideal.nD Cert.Kernel29Ideal.τ).loc Cert.Kernel29Ideal.main_arg11)
      ∧ r.2.mem ((c.tc : Thread Cert.Kernel29Ideal.nD Cert.Kernel29Ideal.τ).loc Cert.Kernel29Ideal.main_arg12) = m ((c.tc : Thread Cert.Kernel29Ideal.nD Cert.Kernel29Ideal.τ).loc Cert.Kernel29Ideal.main_arg12)
      ∧ r.2.mem ((c.tc : Thread Cert.Kernel29Ideal.nD Cert.Kernel29Ideal.τ).loc Cert.Kernel29Ideal.main_arg13) = m ((c.tc : Thread Cert.Kernel29Ideal.nD Cert.Kernel29Ideal.τ).loc Cert.Kernel29Ideal.main_arg13)
      ∧ r.2.mem ((c.tc : Thread Cert.Kernel29Ideal.nD Cert.Kernel29Ideal.τ).loc Cert.Kernel29Ideal.main_arg14) = m ((c.tc : Thread Cert.Kernel29Ideal.nD Cert.Kernel29Ideal.τ).loc Cert.Kernel29Ideal.main_arg14)
      ∧ r.2.mem ((c.tc : Thread Cert.Kernel29Ideal.nD Cert.Kernel29Ideal.τ).loc Cert.Kernel29Ideal.main_arg15) = m ((c.tc : Thread Cert.Kernel29Ideal.nD Cert.Kernel29Ideal.τ).loc Cert.Kernel29Ideal.main_arg15)
      ∧ r.2.mem ((c.tc : Thread Cert.Kernel29Ideal.nD Cert.Kernel29Ideal.τ).loc Cert.Kernel29Ideal.main_arg16) = m ((c.tc : Thread Cert.Kernel29Ideal.nD Cert.Kernel29Ideal.τ).loc Cert.Kernel29Ideal.main_arg16)
      ∧ r.2.mem ((c.tc : Thread Cert.Kernel29Ideal.nD Cert.Kernel29Ideal.τ).loc Cert.Kernel29Ideal.main_arg17) = m ((c.tc : Thread Cert.Kernel29Ideal.nD Cert.Kernel29Ideal.τ).loc Cert.Kernel29Ideal.main_arg17)
      ∧ r.2.mem ((c.tc : Thread Cert.Kernel29Ideal.nD Cert.Kernel29Ideal.τ).loc Cert.Kernel29Ideal.main_arg18) = m ((c.tc : Thread Cert.Kernel29Ideal.nD Cert.Kernel29Ideal.τ).loc Cert.Kernel29Ideal.main_arg18)
      ∧ r.2.mem ((c.tc : Thread Cert.Kernel29Ideal.nD Cert.Kernel29Ideal.τ).loc Cert.Kernel29Ideal.main_arg19) = m ((c.tc : Thread Cert.Kernel29Ideal.nD Cert.Kernel29Ideal.τ).loc Cert.Kernel29Ideal.main_arg19)
      ∧ r.2.mem ((c.tc : Thread Cert.Kernel29Ideal.nD Cert.Kernel29Ideal.τ).loc Cert.Kernel29Ideal.main_arg20) = m ((c.tc : Thread Cert.Kernel29Ideal.nD Cert.Kernel29Ideal.τ).loc Cert.Kernel29Ideal.main_arg20)
      ∧ r.2.mem ((c.tc : Thread Cert.Kernel29Ideal.nD Cert.Kernel29Ideal.τ).loc Cert.Kernel29Ideal.main_arg21) = m ((c.tc : Thread Cert.Kernel29Ideal.nD Cert.Kernel29Ideal.τ).loc Cert.Kernel29Ideal.main_arg21)
      ∧ r.2.mem ((c.tc : Thread Cert.Kernel29Ideal.nD Cert.Kernel29Ideal.τ).loc Cert.Kernel29Ideal.main_arg22) = m ((c.tc : Thread Cert.Kernel29Ideal.nD Cert.Kernel29Ideal.τ).loc Cert.Kernel29Ideal.main_arg22)
      ∧ r.2.mem ((c.tc : Thread Cert.Kernel29Ideal.nD Cert.Kernel29Ideal.τ).loc Cert.Kernel29Ideal.main_arg23) = m ((c.tc : Thread Cert.Kernel29Ideal.nD Cert.Kernel29Ideal.τ).loc Cert.Kernel29Ideal.main_arg23)
      ∧ r.2.mem ((c.tc : Thread Cert.Kernel29Ideal.nD Cert.Kernel29Ideal.τ).loc Cert.Kernel29Ideal.main_arg24) = m ((c.tc : Thread Cert.Kernel29Ideal.nD Cert.Kernel29Ideal.τ).loc Cert.Kernel29Ideal.main_arg24)
      ∧ r.2.mem ((c.tc : Thread Cert.Kernel29Ideal.nD Cert.Kernel29Ideal.τ).loc Cert.Kernel29Ideal.main_arg25) = m ((c.tc : Thread Cert.Kernel29Ideal.nD Cert.Kernel29Ideal.τ).loc Cert.Kernel29Ideal.main_arg25)
      ∧ r.2.mem ((c.tc : Thread Cert.Kernel29Ideal.nD Cert.Kernel29Ideal.τ).loc Cert.Kernel29Ideal.main_arg26) = m ((c.tc : Thread Cert.Kernel29Ideal.nD Cert.Kernel29Ideal.τ).loc Cert.Kernel29Ideal.main_arg26)
      ∧ r.2.mem ((c.tc : Thread Cert.Kernel29Ideal.nD Cert.Kernel29Ideal.τ).loc Cert.Kernel29Ideal.main_arg27) = m ((c.tc : Thread Cert.Kernel29Ideal.nD Cert.Kernel29Ideal.τ).loc Cert.Kernel29Ideal.main_arg27)
      ∧ r.2.mem ((c.tc : Thread Cert.Kernel29Ideal.nD Cert.Kernel29Ideal.τ).loc Cert.Kernel29Ideal.main_arg28) = m ((c.tc : Thread Cert.Kernel29Ideal.nD Cert.Kernel29Ideal.τ).loc Cert.Kernel29Ideal.main_arg28)
      ∧ r.2.mem ((c.tc : Thread Cert.Kernel29Ideal.nD Cert.Kernel29Ideal.τ).loc Cert.Kernel29Ideal.main_arg29) = m ((c.tc : Thread Cert.Kernel29Ideal.nD Cert.Kernel29Ideal.τ).loc Cert.Kernel29Ideal.main_arg29)
      ∧ r.2.mem ((c.tc : Thread Cert.Kernel29Ideal.nD Cert.Kernel29Ideal.τ).loc Cert.Kernel29Ideal.main_arg30) = m ((c.tc : Thread Cert.Kernel29Ideal.nD Cert.Kernel29Ideal.τ).loc Cert.Kernel29Ideal.main_arg30)
      ∧ r.2.mem ((c.tc : Thread Cert.Kernel29Ideal.nD Cert.Kernel29Ideal.τ).loc Cert.Kernel29Ideal.main_arg31) = m ((c.tc : Thread Cert.Kernel29Ideal.nD Cert.Kernel29Ideal.τ).loc Cert.Kernel29Ideal.main_arg31)
      ∧ r.2.mem ((c.tc : Thread Cert.Kernel29Ideal.nD Cert.Kernel29Ideal.τ).loc Cert.Kernel29Ideal.main_arg32) = m ((c.tc : Thread Cert.Kernel29Ideal.nD Cert.Kernel29Ideal.τ).loc Cert.Kernel29Ideal.main_arg32)
      ∧ r.2.mem ((c.tc : Thread Cert.Kernel29Ideal.nD Cert.Kernel29Ideal.τ).loc Cert.Kernel29Ideal.main_arg33) = m ((c.tc : Thread Cert.Kernel29Ideal.nD Cert.Kernel29Ideal.τ).loc Cert.Kernel29Ideal.main_arg33)
      ∧ r.2.mem ((c.tc : Thread Cert.Kernel29Ideal.nD Cert.Kernel29Ideal.τ).loc Cert.Kernel29Ideal.main_arg34) = m ((c.tc : Thread Cert.Kernel29Ideal.nD Cert.Kernel29Ideal.τ).loc Cert.Kernel29Ideal.main_arg34)
      ∧ r.2.mem ((c.tc : Thread Cert.Kernel29Ideal.nD Cert.Kernel29Ideal.τ).loc Cert.Kernel29Ideal.main_arg35) = m ((c.tc : Thread Cert.Kernel29Ideal.nD Cert.Kernel29Ideal.τ).loc Cert.Kernel29Ideal.main_arg35)
      ∧ r.2.mem ((c.tc : Thread Cert.Kernel29Ideal.nD Cert.Kernel29Ideal.τ).loc Cert.Kernel29Ideal.main_arg36) = m ((c.tc : Thread Cert.Kernel29Ideal.nD Cert.Kernel29Ideal.τ).loc Cert.Kernel29Ideal.main_arg36)
      ∧ r.2.mem ((c.tc : Thread Cert.Kernel29Ideal.nD Cert.Kernel29Ideal.τ).loc Cert.Kernel29Ideal.main_arg37) = m ((c.tc : Thread Cert.Kernel29Ideal.nD Cert.Kernel29Ideal.τ).loc Cert.Kernel29Ideal.main_arg37)
      ∧ r.2.mem ((c.tc : Thread Cert.Kernel29Ideal.nD Cert.Kernel29Ideal.τ).loc Cert.Kernel29Ideal.main_arg38) = m ((c.tc : Thread Cert.Kernel29Ideal.nD Cert.Kernel29Ideal.τ).loc Cert.Kernel29Ideal.main_arg38)
      ∧ r.2.mem ((c.tc : Thread Cert.Kernel29Ideal.nD Cert.Kernel29Ideal.τ).loc Cert.Kernel29Ideal.main_arg39) = m ((c.tc : Thread Cert.Kernel29Ideal.nD Cert.Kernel29Ideal.τ).loc Cert.Kernel29Ideal.main_arg39)
      ∧ r.2.mem ((c.tc : Thread Cert.Kernel29Ideal.nD Cert.Kernel29Ideal.τ).loc Cert.Kernel29Ideal.main_arg40) = m ((c.tc : Thread Cert.Kernel29Ideal.nD Cert.Kernel29Ideal.τ).loc Cert.Kernel29Ideal.main_arg40)
      ∧ r.2.mem ((c.tc : Thread Cert.Kernel29Ideal.nD Cert.Kernel29Ideal.τ).loc Cert.Kernel29Ideal.main_arg41) = m ((c.tc : Thread Cert.Kernel29Ideal.nD Cert.Kernel29Ideal.τ).loc Cert.Kernel29Ideal.main_arg41)
      ∧ r.2.mem ((c.tc : Thread Cert.Kernel29Ideal.nD Cert.Kernel29Ideal.τ).loc Cert.Kernel29Ideal.main_arg42) = m ((c.tc : Thread Cert.Kernel29Ideal.nD Cert.Kernel29Ideal.τ).loc Cert.Kernel29Ideal.main_arg42)
      ∧ r.2.mem ((c.tc : Thread Cert.Kernel29Ideal.nD Cert.Kernel29Ideal.τ).loc Cert.Kernel29Ideal.main_arg43) = m ((c.tc : Thread Cert.Kernel29Ideal.nD Cert.Kernel29Ideal.τ).loc Cert.Kernel29Ideal.main_arg43)
      ∧ r.2.mem ((c.tc : Thread Cert.Kernel29Ideal.nD Cert.Kernel29Ideal.τ).loc Cert.Kernel29Ideal.main_arg44) = m ((c.tc : Thread Cert.Kernel29Ideal.nD Cert.Kernel29Ideal.τ).loc Cert.Kernel29Ideal.main_arg44)
      ∧ r.2.mem ((c.tc : Thread Cert.Kernel29Ideal.nD Cert.Kernel29Ideal.τ).loc Cert.Kernel29Ideal.main_arg45) = m ((c.tc : Thread Cert.Kernel29Ideal.nD Cert.Kernel29Ideal.τ).loc Cert.Kernel29Ideal.main_arg45)
      ∧ r.2.mem ((c.tc : Thread Cert.Kernel29Ideal.nD Cert.Kernel29Ideal.τ).loc Cert.Kernel29Ideal.main_arg46) = m ((c.tc : Thread Cert.Kernel29Ideal.nD Cert.Kernel29Ideal.τ).loc Cert.Kernel29Ideal.main_arg46)
      ∧ r.2.mem ((c.tc : Thread Cert.Kernel29Ideal.nD Cert.Kernel29Ideal.τ).loc Cert.Kernel29Ideal.main_arg47) = m ((c.tc : Thread Cert.Kernel29Ideal.nD Cert.Kernel29Ideal.τ).loc Cert.Kernel29Ideal.main_arg47))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6)
      ∧ r.2.mem ((c.tc : Thread Cert.Reference29Ideal.nD Cert.Reference29Ideal.τ).loc Cert.Reference29Ideal.main_arg7) = m ((c.tc : Thread Cert.Reference29Ideal.nD Cert.Reference29Ideal.τ).loc Cert.Reference29Ideal.main_arg7)
      ∧ r.2.mem ((c.tc : Thread Cert.Reference29Ideal.nD Cert.Reference29Ideal.τ).loc Cert.Reference29Ideal.main_arg8) = m ((c.tc : Thread Cert.Reference29Ideal.nD Cert.Reference29Ideal.τ).loc Cert.Reference29Ideal.main_arg8)
      ∧ r.2.mem ((c.tc : Thread Cert.Reference29Ideal.nD Cert.Reference29Ideal.τ).loc Cert.Reference29Ideal.main_arg9) = m ((c.tc : Thread Cert.Reference29Ideal.nD Cert.Reference29Ideal.τ).loc Cert.Reference29Ideal.main_arg9)
      ∧ r.2.mem ((c.tc : Thread Cert.Reference29Ideal.nD Cert.Reference29Ideal.τ).loc Cert.Reference29Ideal.main_arg10) = m ((c.tc : Thread Cert.Reference29Ideal.nD Cert.Reference29Ideal.τ).loc Cert.Reference29Ideal.main_arg10)
      ∧ r.2.mem ((c.tc : Thread Cert.Reference29Ideal.nD Cert.Reference29Ideal.τ).loc Cert.Reference29Ideal.main_arg11) = m ((c.tc : Thread Cert.Reference29Ideal.nD Cert.Reference29Ideal.τ).loc Cert.Reference29Ideal.main_arg11)
      ∧ r.2.mem ((c.tc : Thread Cert.Reference29Ideal.nD Cert.Reference29Ideal.τ).loc Cert.Reference29Ideal.main_arg12) = m ((c.tc : Thread Cert.Reference29Ideal.nD Cert.Reference29Ideal.τ).loc Cert.Reference29Ideal.main_arg12)
      ∧ r.2.mem ((c.tc : Thread Cert.Reference29Ideal.nD Cert.Reference29Ideal.τ).loc Cert.Reference29Ideal.main_arg13) = m ((c.tc : Thread Cert.Reference29Ideal.nD Cert.Reference29Ideal.τ).loc Cert.Reference29Ideal.main_arg13)
      ∧ r.2.mem ((c.tc : Thread Cert.Reference29Ideal.nD Cert.Reference29Ideal.τ).loc Cert.Reference29Ideal.main_arg14) = m ((c.tc : Thread Cert.Reference29Ideal.nD Cert.Reference29Ideal.τ).loc Cert.Reference29Ideal.main_arg14)
      ∧ r.2.mem ((c.tc : Thread Cert.Reference29Ideal.nD Cert.Reference29Ideal.τ).loc Cert.Reference29Ideal.main_arg15) = m ((c.tc : Thread Cert.Reference29Ideal.nD Cert.Reference29Ideal.τ).loc Cert.Reference29Ideal.main_arg15)
      ∧ r.2.mem ((c.tc : Thread Cert.Reference29Ideal.nD Cert.Reference29Ideal.τ).loc Cert.Reference29Ideal.main_arg16) = m ((c.tc : Thread Cert.Reference29Ideal.nD Cert.Reference29Ideal.τ).loc Cert.Reference29Ideal.main_arg16)
      ∧ r.2.mem ((c.tc : Thread Cert.Reference29Ideal.nD Cert.Reference29Ideal.τ).loc Cert.Reference29Ideal.main_arg17) = m ((c.tc : Thread Cert.Reference29Ideal.nD Cert.Reference29Ideal.τ).loc Cert.Reference29Ideal.main_arg17)
      ∧ r.2.mem ((c.tc : Thread Cert.Reference29Ideal.nD Cert.Reference29Ideal.τ).loc Cert.Reference29Ideal.main_arg18) = m ((c.tc : Thread Cert.Reference29Ideal.nD Cert.Reference29Ideal.τ).loc Cert.Reference29Ideal.main_arg18)
      ∧ r.2.mem ((c.tc : Thread Cert.Reference29Ideal.nD Cert.Reference29Ideal.τ).loc Cert.Reference29Ideal.main_arg19) = m ((c.tc : Thread Cert.Reference29Ideal.nD Cert.Reference29Ideal.τ).loc Cert.Reference29Ideal.main_arg19)
      ∧ r.2.mem ((c.tc : Thread Cert.Reference29Ideal.nD Cert.Reference29Ideal.τ).loc Cert.Reference29Ideal.main_arg20) = m ((c.tc : Thread Cert.Reference29Ideal.nD Cert.Reference29Ideal.τ).loc Cert.Reference29Ideal.main_arg20)
      ∧ r.2.mem ((c.tc : Thread Cert.Reference29Ideal.nD Cert.Reference29Ideal.τ).loc Cert.Reference29Ideal.main_arg21) = m ((c.tc : Thread Cert.Reference29Ideal.nD Cert.Reference29Ideal.τ).loc Cert.Reference29Ideal.main_arg21)
      ∧ r.2.mem ((c.tc : Thread Cert.Reference29Ideal.nD Cert.Reference29Ideal.τ).loc Cert.Reference29Ideal.main_arg22) = m ((c.tc : Thread Cert.Reference29Ideal.nD Cert.Reference29Ideal.τ).loc Cert.Reference29Ideal.main_arg22)
      ∧ r.2.mem ((c.tc : Thread Cert.Reference29Ideal.nD Cert.Reference29Ideal.τ).loc Cert.Reference29Ideal.main_arg23) = m ((c.tc : Thread Cert.Reference29Ideal.nD Cert.Reference29Ideal.τ).loc Cert.Reference29Ideal.main_arg23)
      ∧ r.2.mem ((c.tc : Thread Cert.Reference29Ideal.nD Cert.Reference29Ideal.τ).loc Cert.Reference29Ideal.main_arg24) = m ((c.tc : Thread Cert.Reference29Ideal.nD Cert.Reference29Ideal.τ).loc Cert.Reference29Ideal.main_arg24)
      ∧ r.2.mem ((c.tc : Thread Cert.Reference29Ideal.nD Cert.Reference29Ideal.τ).loc Cert.Reference29Ideal.main_arg25) = m ((c.tc : Thread Cert.Reference29Ideal.nD Cert.Reference29Ideal.τ).loc Cert.Reference29Ideal.main_arg25)
      ∧ r.2.mem ((c.tc : Thread Cert.Reference29Ideal.nD Cert.Reference29Ideal.τ).loc Cert.Reference29Ideal.main_arg26) = m ((c.tc : Thread Cert.Reference29Ideal.nD Cert.Reference29Ideal.τ).loc Cert.Reference29Ideal.main_arg26)
      ∧ r.2.mem ((c.tc : Thread Cert.Reference29Ideal.nD Cert.Reference29Ideal.τ).loc Cert.Reference29Ideal.main_arg27) = m ((c.tc : Thread Cert.Reference29Ideal.nD Cert.Reference29Ideal.τ).loc Cert.Reference29Ideal.main_arg27)
      ∧ r.2.mem ((c.tc : Thread Cert.Reference29Ideal.nD Cert.Reference29Ideal.τ).loc Cert.Reference29Ideal.main_arg28) = m ((c.tc : Thread Cert.Reference29Ideal.nD Cert.Reference29Ideal.τ).loc Cert.Reference29Ideal.main_arg28)
      ∧ r.2.mem ((c.tc : Thread Cert.Reference29Ideal.nD Cert.Reference29Ideal.τ).loc Cert.Reference29Ideal.main_arg29) = m ((c.tc : Thread Cert.Reference29Ideal.nD Cert.Reference29Ideal.τ).loc Cert.Reference29Ideal.main_arg29)
      ∧ r.2.mem ((c.tc : Thread Cert.Reference29Ideal.nD Cert.Reference29Ideal.τ).loc Cert.Reference29Ideal.main_arg30) = m ((c.tc : Thread Cert.Reference29Ideal.nD Cert.Reference29Ideal.τ).loc Cert.Reference29Ideal.main_arg30)
      ∧ r.2.mem ((c.tc : Thread Cert.Reference29Ideal.nD Cert.Reference29Ideal.τ).loc Cert.Reference29Ideal.main_arg31) = m ((c.tc : Thread Cert.Reference29Ideal.nD Cert.Reference29Ideal.τ).loc Cert.Reference29Ideal.main_arg31)
      ∧ r.2.mem ((c.tc : Thread Cert.Reference29Ideal.nD Cert.Reference29Ideal.τ).loc Cert.Reference29Ideal.main_arg32) = m ((c.tc : Thread Cert.Reference29Ideal.nD Cert.Reference29Ideal.τ).loc Cert.Reference29Ideal.main_arg32)
      ∧ r.2.mem ((c.tc : Thread Cert.Reference29Ideal.nD Cert.Reference29Ideal.τ).loc Cert.Reference29Ideal.main_arg33) = m ((c.tc : Thread Cert.Reference29Ideal.nD Cert.Reference29Ideal.τ).loc Cert.Reference29Ideal.main_arg33)
      ∧ r.2.mem ((c.tc : Thread Cert.Reference29Ideal.nD Cert.Reference29Ideal.τ).loc Cert.Reference29Ideal.main_arg34) = m ((c.tc : Thread Cert.Reference29Ideal.nD Cert.Reference29Ideal.τ).loc Cert.Reference29Ideal.main_arg34)
      ∧ r.2.mem ((c.tc : Thread Cert.Reference29Ideal.nD Cert.Reference29Ideal.τ).loc Cert.Reference29Ideal.main_arg35) = m ((c.tc : Thread Cert.Reference29Ideal.nD Cert.Reference29Ideal.τ).loc Cert.Reference29Ideal.main_arg35)
      ∧ r.2.mem ((c.tc : Thread Cert.Reference29Ideal.nD Cert.Reference29Ideal.τ).loc Cert.Reference29Ideal.main_arg36) = m ((c.tc : Thread Cert.Reference29Ideal.nD Cert.Reference29Ideal.τ).loc Cert.Reference29Ideal.main_arg36)
      ∧ r.2.mem ((c.tc : Thread Cert.Reference29Ideal.nD Cert.Reference29Ideal.τ).loc Cert.Reference29Ideal.main_arg37) = m ((c.tc : Thread Cert.Reference29Ideal.nD Cert.Reference29Ideal.τ).loc Cert.Reference29Ideal.main_arg37)
      ∧ r.2.mem ((c.tc : Thread Cert.Reference29Ideal.nD Cert.Reference29Ideal.τ).loc Cert.Reference29Ideal.main_arg38) = m ((c.tc : Thread Cert.Reference29Ideal.nD Cert.Reference29Ideal.τ).loc Cert.Reference29Ideal.main_arg38)
      ∧ r.2.mem ((c.tc : Thread Cert.Reference29Ideal.nD Cert.Reference29Ideal.τ).loc Cert.Reference29Ideal.main_arg39) = m ((c.tc : Thread Cert.Reference29Ideal.nD Cert.Reference29Ideal.τ).loc Cert.Reference29Ideal.main_arg39)
      ∧ r.2.mem ((c.tc : Thread Cert.Reference29Ideal.nD Cert.Reference29Ideal.τ).loc Cert.Reference29Ideal.main_arg40) = m ((c.tc : Thread Cert.Reference29Ideal.nD Cert.Reference29Ideal.τ).loc Cert.Reference29Ideal.main_arg40)
      ∧ r.2.mem ((c.tc : Thread Cert.Reference29Ideal.nD Cert.Reference29Ideal.τ).loc Cert.Reference29Ideal.main_arg41) = m ((c.tc : Thread Cert.Reference29Ideal.nD Cert.Reference29Ideal.τ).loc Cert.Reference29Ideal.main_arg41)
      ∧ r.2.mem ((c.tc : Thread Cert.Reference29Ideal.nD Cert.Reference29Ideal.τ).loc Cert.Reference29Ideal.main_arg42) = m ((c.tc : Thread Cert.Reference29Ideal.nD Cert.Reference29Ideal.τ).loc Cert.Reference29Ideal.main_arg42)
      ∧ r.2.mem ((c.tc : Thread Cert.Reference29Ideal.nD Cert.Reference29Ideal.τ).loc Cert.Reference29Ideal.main_arg43) = m ((c.tc : Thread Cert.Reference29Ideal.nD Cert.Reference29Ideal.τ).loc Cert.Reference29Ideal.main_arg43)
      ∧ r.2.mem ((c.tc : Thread Cert.Reference29Ideal.nD Cert.Reference29Ideal.τ).loc Cert.Reference29Ideal.main_arg44) = m ((c.tc : Thread Cert.Reference29Ideal.nD Cert.Reference29Ideal.τ).loc Cert.Reference29Ideal.main_arg44)
      ∧ r.2.mem ((c.tc : Thread Cert.Reference29Ideal.nD Cert.Reference29Ideal.τ).loc Cert.Reference29Ideal.main_arg45) = m ((c.tc : Thread Cert.Reference29Ideal.nD Cert.Reference29Ideal.τ).loc Cert.Reference29Ideal.main_arg45)
      ∧ r.2.mem ((c.tc : Thread Cert.Reference29Ideal.nD Cert.Reference29Ideal.τ).loc Cert.Reference29Ideal.main_arg46) = m ((c.tc : Thread Cert.Reference29Ideal.nD Cert.Reference29Ideal.τ).loc Cert.Reference29Ideal.main_arg46)
      ∧ r.2.mem ((c.tc : Thread Cert.Reference29Ideal.nD Cert.Reference29Ideal.τ).loc Cert.Reference29Ideal.main_arg47) = m ((c.tc : Thread Cert.Reference29Ideal.nD Cert.Reference29Ideal.τ).loc Cert.Reference29Ideal.main_arg47))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v6_0)) (v1 : (c : Dev Cert.Kernel11Ideal.nD) → Buf (Elt Ideal) ((c.tc : Thread Cert.Kernel11Ideal.nD Cert.Kernel11Ideal.τ).loc Cert.Kernel11Ideal.main_v6_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6_0) = v0 c
          ∧ r.2.mem ((c.tc : Thread Cert.Kernel11Ideal.nD Cert.Kernel11Ideal.τ).loc Cert.Kernel11Ideal.main_v6_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v5) = v2 c
          ∧ r.2.mem ((c.tc : Thread Cert.Reference17Ideal.nD Cert.Reference17Ideal.τ).loc Cert.Reference17Ideal.main_v11) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v12) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v12) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v34) = v0 c
          ∧ r.2.mem ((c.tc : Thread Cert.Reference23Ideal.nD Cert.Reference23Ideal.τ).loc Cert.Reference23Ideal.main_v17) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v34) = v0 c
          ∧ r.2.mem ((c.tc : Thread Cert.Reference24Ideal.nD Cert.Reference24Ideal.τ).loc Cert.Reference24Ideal.main_v69) = v1 c
          ∧ r.2.mem ((c.tc : Thread Cert.Reference24Ideal.nD Cert.Reference24Ideal.τ).loc Cert.Reference24Ideal.main_v52) = v2 c
          ∧ r.2.mem ((c.tc : Thread Cert.Reference24Ideal.nD Cert.Reference24Ideal.τ).loc Cert.Reference24Ideal.main_v17) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v3) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v40) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v3_0)) (v1 : (c : Dev Cert.Kernel26Ideal.nD) → Buf (Elt Ideal) ((c.tc : Thread Cert.Kernel26Ideal.nD Cert.Kernel26Ideal.τ).loc Cert.Kernel26Ideal.main_v3_1)) (v2 : (c : Dev Cert.Kernel26Ideal.nD) → Buf (Elt Ideal) ((c.tc : Thread Cert.Kernel26Ideal.nD Cert.Kernel26Ideal.τ).loc Cert.Kernel26Ideal.main_v3_2)) (v3 : (c : Dev Cert.Kernel26Ideal.nD) → Buf (Elt Ideal) ((c.tc : Thread Cert.Kernel26Ideal.nD Cert.Kernel26Ideal.τ).loc Cert.Kernel26Ideal.main_v3_3)) (v4 : (c : Dev Cert.Kernel26Ideal.nD) → Buf (Elt Ideal) ((c.tc : Thread Cert.Kernel26Ideal.nD Cert.Kernel26Ideal.τ).loc Cert.Kernel26Ideal.main_v3_4)) (v5 : (c : Dev Cert.Kernel26Ideal.nD) → Buf (Elt Ideal) ((c.tc : Thread Cert.Kernel26Ideal.nD Cert.Kernel26Ideal.τ).loc Cert.Kernel26Ideal.main_v3_5)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v3_0) = v0 c
          ∧ r.2.mem ((c.tc : Thread Cert.Kernel26Ideal.nD Cert.Kernel26Ideal.τ).loc Cert.Kernel26Ideal.main_v3_1) = v1 c
          ∧ r.2.mem ((c.tc : Thread Cert.Kernel26Ideal.nD Cert.Kernel26Ideal.τ).loc Cert.Kernel26Ideal.main_v3_2) = v2 c
          ∧ r.2.mem ((c.tc : Thread Cert.Kernel26Ideal.nD Cert.Kernel26Ideal.τ).loc Cert.Kernel26Ideal.main_v3_3) = v3 c
          ∧ r.2.mem ((c.tc : Thread Cert.Kernel26Ideal.nD Cert.Kernel26Ideal.τ).loc Cert.Kernel26Ideal.main_v3_4) = v4 c
          ∧ r.2.mem ((c.tc : Thread Cert.Kernel26Ideal.nD Cert.Kernel26Ideal.τ).loc Cert.Kernel26Ideal.main_v3_5) = v5 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v111) = v0 c
          ∧ r.2.mem ((c.tc : Thread Cert.Reference26Ideal.nD Cert.Reference26Ideal.τ).loc Cert.Reference26Ideal.main_v90) = v1 c
          ∧ r.2.mem ((c.tc : Thread Cert.Reference26Ideal.nD Cert.Reference26Ideal.τ).loc Cert.Reference26Ideal.main_v70) = v2 c
          ∧ r.2.mem ((c.tc : Thread Cert.Reference26Ideal.nD Cert.Reference26Ideal.τ).loc Cert.Reference26Ideal.main_v114) = v3 c
          ∧ r.2.mem ((c.tc : Thread Cert.Reference26Ideal.nD Cert.Reference26Ideal.τ).loc Cert.Reference26Ideal.main_v115) = v4 c
          ∧ r.2.mem ((c.tc : Thread Cert.Reference26Ideal.nD Cert.Reference26Ideal.τ).loc Cert.Reference26Ideal.main_v116) = v5 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v35) = v0 c
          ∧ r.2.mem ((c.tc : Thread Cert.Reference27Ideal.nD Cert.Reference27Ideal.τ).loc Cert.Reference27Ideal.main_v17) = v1 c
          ∧ r.2.mem ((c.tc : Thread Cert.Reference27Ideal.nD Cert.Reference27Ideal.τ).loc Cert.Reference27Ideal.main_v36) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v1_0)) (v1 : (c : Dev Cert.Kernel28Ideal.nD) → Buf (Elt Ideal) ((c.tc : Thread Cert.Kernel28Ideal.nD Cert.Kernel28Ideal.τ).loc Cert.Kernel28Ideal.main_v1_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1_0) = v0 c
          ∧ r.2.mem ((c.tc : Thread Cert.Kernel28Ideal.nD Cert.Kernel28Ideal.τ).loc Cert.Kernel28Ideal.main_v1_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v32) = v0 c
          ∧ r.2.mem ((c.tc : Thread Cert.Reference28Ideal.nD Cert.Reference28Ideal.τ).loc Cert.Reference28Ideal.main_v33) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
      ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)
      ∧ m' ((c.tc : Thread Cert.Reference29Ideal.nD Cert.Reference29Ideal.τ).loc Cert.Reference29Ideal.main_arg7) = m ((c.tc : Thread Cert.Kernel29Ideal.nD Cert.Kernel29Ideal.τ).loc Cert.Kernel29Ideal.main_arg7)
      ∧ m' ((c.tc : Thread Cert.Reference29Ideal.nD Cert.Reference29Ideal.τ).loc Cert.Reference29Ideal.main_arg8) = m ((c.tc : Thread Cert.Kernel29Ideal.nD Cert.Kernel29Ideal.τ).loc Cert.Kernel29Ideal.main_arg8)
      ∧ m' ((c.tc : Thread Cert.Reference29Ideal.nD Cert.Reference29Ideal.τ).loc Cert.Reference29Ideal.main_arg9) = m ((c.tc : Thread Cert.Kernel29Ideal.nD Cert.Kernel29Ideal.τ).loc Cert.Kernel29Ideal.main_arg9)
      ∧ m' ((c.tc : Thread Cert.Reference29Ideal.nD Cert.Reference29Ideal.τ).loc Cert.Reference29Ideal.main_arg10) = m ((c.tc : Thread Cert.Kernel29Ideal.nD Cert.Kernel29Ideal.τ).loc Cert.Kernel29Ideal.main_arg10)
      ∧ m' ((c.tc : Thread Cert.Reference29Ideal.nD Cert.Reference29Ideal.τ).loc Cert.Reference29Ideal.main_arg11) = m ((c.tc : Thread Cert.Kernel29Ideal.nD Cert.Kernel29Ideal.τ).loc Cert.Kernel29Ideal.main_arg11)
      ∧ m' ((c.tc : Thread Cert.Reference29Ideal.nD Cert.Reference29Ideal.τ).loc Cert.Reference29Ideal.main_arg12) = m ((c.tc : Thread Cert.Kernel29Ideal.nD Cert.Kernel29Ideal.τ).loc Cert.Kernel29Ideal.main_arg12)
      ∧ m' ((c.tc : Thread Cert.Reference29Ideal.nD Cert.Reference29Ideal.τ).loc Cert.Reference29Ideal.main_arg13) = m ((c.tc : Thread Cert.Kernel29Ideal.nD Cert.Kernel29Ideal.τ).loc Cert.Kernel29Ideal.main_arg13)
      ∧ m' ((c.tc : Thread Cert.Reference29Ideal.nD Cert.Reference29Ideal.τ).loc Cert.Reference29Ideal.main_arg14) = m ((c.tc : Thread Cert.Kernel29Ideal.nD Cert.Kernel29Ideal.τ).loc Cert.Kernel29Ideal.main_arg14)
      ∧ m' ((c.tc : Thread Cert.Reference29Ideal.nD Cert.Reference29Ideal.τ).loc Cert.Reference29Ideal.main_arg15) = m ((c.tc : Thread Cert.Kernel29Ideal.nD Cert.Kernel29Ideal.τ).loc Cert.Kernel29Ideal.main_arg15)
      ∧ m' ((c.tc : Thread Cert.Reference29Ideal.nD Cert.Reference29Ideal.τ).loc Cert.Reference29Ideal.main_arg16) = m ((c.tc : Thread Cert.Kernel29Ideal.nD Cert.Kernel29Ideal.τ).loc Cert.Kernel29Ideal.main_arg16)
      ∧ m' ((c.tc : Thread Cert.Reference29Ideal.nD Cert.Reference29Ideal.τ).loc Cert.Reference29Ideal.main_arg17) = m ((c.tc : Thread Cert.Kernel29Ideal.nD Cert.Kernel29Ideal.τ).loc Cert.Kernel29Ideal.main_arg17)
      ∧ m' ((c.tc : Thread Cert.Reference29Ideal.nD Cert.Reference29Ideal.τ).loc Cert.Reference29Ideal.main_arg18) = m ((c.tc : Thread Cert.Kernel29Ideal.nD Cert.Kernel29Ideal.τ).loc Cert.Kernel29Ideal.main_arg18)
      ∧ m' ((c.tc : Thread Cert.Reference29Ideal.nD Cert.Reference29Ideal.τ).loc Cert.Reference29Ideal.main_arg19) = m ((c.tc : Thread Cert.Kernel29Ideal.nD Cert.Kernel29Ideal.τ).loc Cert.Kernel29Ideal.main_arg19)
      ∧ m' ((c.tc : Thread Cert.Reference29Ideal.nD Cert.Reference29Ideal.τ).loc Cert.Reference29Ideal.main_arg20) = m ((c.tc : Thread Cert.Kernel29Ideal.nD Cert.Kernel29Ideal.τ).loc Cert.Kernel29Ideal.main_arg20)
      ∧ m' ((c.tc : Thread Cert.Reference29Ideal.nD Cert.Reference29Ideal.τ).loc Cert.Reference29Ideal.main_arg21) = m ((c.tc : Thread Cert.Kernel29Ideal.nD Cert.Kernel29Ideal.τ).loc Cert.Kernel29Ideal.main_arg21)
      ∧ m' ((c.tc : Thread Cert.Reference29Ideal.nD Cert.Reference29Ideal.τ).loc Cert.Reference29Ideal.main_arg22) = m ((c.tc : Thread Cert.Kernel29Ideal.nD Cert.Kernel29Ideal.τ).loc Cert.Kernel29Ideal.main_arg22)
      ∧ m' ((c.tc : Thread Cert.Reference29Ideal.nD Cert.Reference29Ideal.τ).loc Cert.Reference29Ideal.main_arg23) = m ((c.tc : Thread Cert.Kernel29Ideal.nD Cert.Kernel29Ideal.τ).loc Cert.Kernel29Ideal.main_arg23)
      ∧ m' ((c.tc : Thread Cert.Reference29Ideal.nD Cert.Reference29Ideal.τ).loc Cert.Reference29Ideal.main_arg24) = m ((c.tc : Thread Cert.Kernel29Ideal.nD Cert.Kernel29Ideal.τ).loc Cert.Kernel29Ideal.main_arg24)
      ∧ m' ((c.tc : Thread Cert.Reference29Ideal.nD Cert.Reference29Ideal.τ).loc Cert.Reference29Ideal.main_arg25) = m ((c.tc : Thread Cert.Kernel29Ideal.nD Cert.Kernel29Ideal.τ).loc Cert.Kernel29Ideal.main_arg25)
      ∧ m' ((c.tc : Thread Cert.Reference29Ideal.nD Cert.Reference29Ideal.τ).loc Cert.Reference29Ideal.main_arg26) = m ((c.tc : Thread Cert.Kernel29Ideal.nD Cert.Kernel29Ideal.τ).loc Cert.Kernel29Ideal.main_arg26)
      ∧ m' ((c.tc : Thread Cert.Reference29Ideal.nD Cert.Reference29Ideal.τ).loc Cert.Reference29Ideal.main_arg27) = m ((c.tc : Thread Cert.Kernel29Ideal.nD Cert.Kernel29Ideal.τ).loc Cert.Kernel29Ideal.main_arg27)
      ∧ m' ((c.tc : Thread Cert.Reference29Ideal.nD Cert.Reference29Ideal.τ).loc Cert.Reference29Ideal.main_arg28) = m ((c.tc : Thread Cert.Kernel29Ideal.nD Cert.Kernel29Ideal.τ).loc Cert.Kernel29Ideal.main_arg28)
      ∧ m' ((c.tc : Thread Cert.Reference29Ideal.nD Cert.Reference29Ideal.τ).loc Cert.Reference29Ideal.main_arg29) = m ((c.tc : Thread Cert.Kernel29Ideal.nD Cert.Kernel29Ideal.τ).loc Cert.Kernel29Ideal.main_arg29)
      ∧ m' ((c.tc : Thread Cert.Reference29Ideal.nD Cert.Reference29Ideal.τ).loc Cert.Reference29Ideal.main_arg30) = m ((c.tc : Thread Cert.Kernel29Ideal.nD Cert.Kernel29Ideal.τ).loc Cert.Kernel29Ideal.main_arg30)
      ∧ m' ((c.tc : Thread Cert.Reference29Ideal.nD Cert.Reference29Ideal.τ).loc Cert.Reference29Ideal.main_arg31) = m ((c.tc : Thread Cert.Kernel29Ideal.nD Cert.Kernel29Ideal.τ).loc Cert.Kernel29Ideal.main_arg31)
      ∧ m' ((c.tc : Thread Cert.Reference29Ideal.nD Cert.Reference29Ideal.τ).loc Cert.Reference29Ideal.main_arg32) = m ((c.tc : Thread Cert.Kernel29Ideal.nD Cert.Kernel29Ideal.τ).loc Cert.Kernel29Ideal.main_arg32)
      ∧ m' ((c.tc : Thread Cert.Reference29Ideal.nD Cert.Reference29Ideal.τ).loc Cert.Reference29Ideal.main_arg33) = m ((c.tc : Thread Cert.Kernel29Ideal.nD Cert.Kernel29Ideal.τ).loc Cert.Kernel29Ideal.main_arg33)
      ∧ m' ((c.tc : Thread Cert.Reference29Ideal.nD Cert.Reference29Ideal.τ).loc Cert.Reference29Ideal.main_arg34) = m ((c.tc : Thread Cert.Kernel29Ideal.nD Cert.Kernel29Ideal.τ).loc Cert.Kernel29Ideal.main_arg34)
      ∧ m' ((c.tc : Thread Cert.Reference29Ideal.nD Cert.Reference29Ideal.τ).loc Cert.Reference29Ideal.main_arg35) = m ((c.tc : Thread Cert.Kernel29Ideal.nD Cert.Kernel29Ideal.τ).loc Cert.Kernel29Ideal.main_arg35)
      ∧ m' ((c.tc : Thread Cert.Reference29Ideal.nD Cert.Reference29Ideal.τ).loc Cert.Reference29Ideal.main_arg36) = m ((c.tc : Thread Cert.Kernel29Ideal.nD Cert.Kernel29Ideal.τ).loc Cert.Kernel29Ideal.main_arg36)
      ∧ m' ((c.tc : Thread Cert.Reference29Ideal.nD Cert.Reference29Ideal.τ).loc Cert.Reference29Ideal.main_arg37) = m ((c.tc : Thread Cert.Kernel29Ideal.nD Cert.Kernel29Ideal.τ).loc Cert.Kernel29Ideal.main_arg37)
      ∧ m' ((c.tc : Thread Cert.Reference29Ideal.nD Cert.Reference29Ideal.τ).loc Cert.Reference29Ideal.main_arg38) = m ((c.tc : Thread Cert.Kernel29Ideal.nD Cert.Kernel29Ideal.τ).loc Cert.Kernel29Ideal.main_arg38)
      ∧ m' ((c.tc : Thread Cert.Reference29Ideal.nD Cert.Reference29Ideal.τ).loc Cert.Reference29Ideal.main_arg39) = m ((c.tc : Thread Cert.Kernel29Ideal.nD Cert.Kernel29Ideal.τ).loc Cert.Kernel29Ideal.main_arg39)
      ∧ m' ((c.tc : Thread Cert.Reference29Ideal.nD Cert.Reference29Ideal.τ).loc Cert.Reference29Ideal.main_arg40) = m ((c.tc : Thread Cert.Kernel29Ideal.nD Cert.Kernel29Ideal.τ).loc Cert.Kernel29Ideal.main_arg40)
      ∧ m' ((c.tc : Thread Cert.Reference29Ideal.nD Cert.Reference29Ideal.τ).loc Cert.Reference29Ideal.main_arg41) = m ((c.tc : Thread Cert.Kernel29Ideal.nD Cert.Kernel29Ideal.τ).loc Cert.Kernel29Ideal.main_arg41)
      ∧ m' ((c.tc : Thread Cert.Reference29Ideal.nD Cert.Reference29Ideal.τ).loc Cert.Reference29Ideal.main_arg42) = m ((c.tc : Thread Cert.Kernel29Ideal.nD Cert.Kernel29Ideal.τ).loc Cert.Kernel29Ideal.main_arg42)
      ∧ m' ((c.tc : Thread Cert.Reference29Ideal.nD Cert.Reference29Ideal.τ).loc Cert.Reference29Ideal.main_arg43) = m ((c.tc : Thread Cert.Kernel29Ideal.nD Cert.Kernel29Ideal.τ).loc Cert.Kernel29Ideal.main_arg43)
      ∧ m' ((c.tc : Thread Cert.Reference29Ideal.nD Cert.Reference29Ideal.τ).loc Cert.Reference29Ideal.main_arg44) = m ((c.tc : Thread Cert.Kernel29Ideal.nD Cert.Kernel29Ideal.τ).loc Cert.Kernel29Ideal.main_arg44)
      ∧ m' ((c.tc : Thread Cert.Reference29Ideal.nD Cert.Reference29Ideal.τ).loc Cert.Reference29Ideal.main_arg45) = m ((c.tc : Thread Cert.Kernel29Ideal.nD Cert.Kernel29Ideal.τ).loc Cert.Kernel29Ideal.main_arg45)
      ∧ m' ((c.tc : Thread Cert.Reference29Ideal.nD Cert.Reference29Ideal.τ).loc Cert.Reference29Ideal.main_arg46) = m ((c.tc : Thread Cert.Kernel29Ideal.nD Cert.Kernel29Ideal.τ).loc Cert.Kernel29Ideal.main_arg46)
      ∧ m' ((c.tc : Thread Cert.Reference29Ideal.nD Cert.Reference29Ideal.τ).loc Cert.Reference29Ideal.main_arg47) = m ((c.tc : Thread Cert.Kernel29Ideal.nD Cert.Kernel29Ideal.τ).loc Cert.Kernel29Ideal.main_arg47)) →
    ∃ (v0 : (c : Dev Cert.Kernel29Ideal.nD) → Buf (Elt Ideal) ((c.tc : Thread Cert.Kernel29Ideal.nD Cert.Kernel29Ideal.τ).loc Cert.Kernel29Ideal.main_v60_0)) (v1 : (c : Dev Cert.Kernel29Ideal.nD) → Buf (Elt Ideal) ((c.tc : Thread Cert.Kernel29Ideal.nD Cert.Kernel29Ideal.τ).loc Cert.Kernel29Ideal.main_v60_1)) (v2 : (c : Dev Cert.Kernel29Ideal.nD) → Buf (Elt Ideal) ((c.tc : Thread Cert.Kernel29Ideal.nD Cert.Kernel29Ideal.τ).loc Cert.Kernel29Ideal.main_v60_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v60_0) = v0 c
          ∧ r.2.mem ((c.tc : Thread Cert.Kernel29Ideal.nD Cert.Kernel29Ideal.τ).loc Cert.Kernel29Ideal.main_v60_1) = v1 c
          ∧ r.2.mem ((c.tc : Thread Cert.Kernel29Ideal.nD Cert.Kernel29Ideal.τ).loc Cert.Kernel29Ideal.main_v60_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
          ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
          ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
          ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8)
          ∧ r.2.mem ((c.tc : Thread Cert.Kernel29Ideal.nD Cert.Kernel29Ideal.τ).loc Cert.Kernel29Ideal.main_arg9) = m ((c.tc : Thread Cert.Kernel29Ideal.nD Cert.Kernel29Ideal.τ).loc Cert.Kernel29Ideal.main_arg9)
          ∧ r.2.mem ((c.tc : Thread Cert.Kernel29Ideal.nD Cert.Kernel29Ideal.τ).loc Cert.Kernel29Ideal.main_arg10) = m ((c.tc : Thread Cert.Kernel29Ideal.nD Cert.Kernel29Ideal.τ).loc Cert.Kernel29Ideal.main_arg10)
          ∧ r.2.mem ((c.tc : Thread Cert.Kernel29Ideal.nD Cert.Kernel29Ideal.τ).loc Cert.Kernel29Ideal.main_arg11) = m ((c.tc : Thread Cert.Kernel29Ideal.nD Cert.Kernel29Ideal.τ).loc Cert.Kernel29Ideal.main_arg11)
          ∧ r.2.mem ((c.tc : Thread Cert.Kernel29Ideal.nD Cert.Kernel29Ideal.τ).loc Cert.Kernel29Ideal.main_arg12) = m ((c.tc : Thread Cert.Kernel29Ideal.nD Cert.Kernel29Ideal.τ).loc Cert.Kernel29Ideal.main_arg12)
          ∧ r.2.mem ((c.tc : Thread Cert.Kernel29Ideal.nD Cert.Kernel29Ideal.τ).loc Cert.Kernel29Ideal.main_arg13) = m ((c.tc : Thread Cert.Kernel29Ideal.nD Cert.Kernel29Ideal.τ).loc Cert.Kernel29Ideal.main_arg13)
          ∧ r.2.mem ((c.tc : Thread Cert.Kernel29Ideal.nD Cert.Kernel29Ideal.τ).loc Cert.Kernel29Ideal.main_arg14) = m ((c.tc : Thread Cert.Kernel29Ideal.nD Cert.Kernel29Ideal.τ).loc Cert.Kernel29Ideal.main_arg14)
          ∧ r.2.mem ((c.tc : Thread Cert.Kernel29Ideal.nD Cert.Kernel29Ideal.τ).loc Cert.Kernel29Ideal.main_arg15) = m ((c.tc : Thread Cert.Kernel29Ideal.nD Cert.Kernel29Ideal.τ).loc Cert.Kernel29Ideal.main_arg15)
          ∧ r.2.mem ((c.tc : Thread Cert.Kernel29Ideal.nD Cert.Kernel29Ideal.τ).loc Cert.Kernel29Ideal.main_arg16) = m ((c.tc : Thread Cert.Kernel29Ideal.nD Cert.Kernel29Ideal.τ).loc Cert.Kernel29Ideal.main_arg16)
          ∧ r.2.mem ((c.tc : Thread Cert.Kernel29Ideal.nD Cert.Kernel29Ideal.τ).loc Cert.Kernel29Ideal.main_arg17) = m ((c.tc : Thread Cert.Kernel29Ideal.nD Cert.Kernel29Ideal.τ).loc Cert.Kernel29Ideal.main_arg17)
          ∧ r.2.mem ((c.tc : Thread Cert.Kernel29Ideal.nD Cert.Kernel29Ideal.τ).loc Cert.Kernel29Ideal.main_arg18) = m ((c.tc : Thread Cert.Kernel29Ideal.nD Cert.Kernel29Ideal.τ).loc Cert.Kernel29Ideal.main_arg18)
          ∧ r.2.mem ((c.tc : Thread Cert.Kernel29Ideal.nD Cert.Kernel29Ideal.τ).loc Cert.Kernel29Ideal.main_arg19) = m ((c.tc : Thread Cert.Kernel29Ideal.nD Cert.Kernel29Ideal.τ).loc Cert.Kernel29Ideal.main_arg19)
          ∧ r.2.mem ((c.tc : Thread Cert.Kernel29Ideal.nD Cert.Kernel29Ideal.τ).loc Cert.Kernel29Ideal.main_arg20) = m ((c.tc : Thread Cert.Kernel29Ideal.nD Cert.Kernel29Ideal.τ).loc Cert.Kernel29Ideal.main_arg20)
          ∧ r.2.mem ((c.tc : Thread Cert.Kernel29Ideal.nD Cert.Kernel29Ideal.τ).loc Cert.Kernel29Ideal.main_arg21) = m ((c.tc : Thread Cert.Kernel29Ideal.nD Cert.Kernel29Ideal.τ).loc Cert.Kernel29Ideal.main_arg21)
          ∧ r.2.mem ((c.tc : Thread Cert.Kernel29Ideal.nD Cert.Kernel29Ideal.τ).loc Cert.Kernel29Ideal.main_arg22) = m ((c.tc : Thread Cert.Kernel29Ideal.nD Cert.Kernel29Ideal.τ).loc Cert.Kernel29Ideal.main_arg22)
          ∧ r.2.mem ((c.tc : Thread Cert.Kernel29Ideal.nD Cert.Kernel29Ideal.τ).loc Cert.Kernel29Ideal.main_arg23) = m ((c.tc : Thread Cert.Kernel29Ideal.nD Cert.Kernel29Ideal.τ).loc Cert.Kernel29Ideal.main_arg23)
          ∧ r.2.mem ((c.tc : Thread Cert.Kernel29Ideal.nD Cert.Kernel29Ideal.τ).loc Cert.Kernel29Ideal.main_arg24) = m ((c.tc : Thread Cert.Kernel29Ideal.nD Cert.Kernel29Ideal.τ).loc Cert.Kernel29Ideal.main_arg24)
          ∧ r.2.mem ((c.tc : Thread Cert.Kernel29Ideal.nD Cert.Kernel29Ideal.τ).loc Cert.Kernel29Ideal.main_arg25) = m ((c.tc : Thread Cert.Kernel29Ideal.nD Cert.Kernel29Ideal.τ).loc Cert.Kernel29Ideal.main_arg25)
          ∧ r.2.mem ((c.tc : Thread Cert.Kernel29Ideal.nD Cert.Kernel29Ideal.τ).loc Cert.Kernel29Ideal.main_arg26) = m ((c.tc : Thread Cert.Kernel29Ideal.nD Cert.Kernel29Ideal.τ).loc Cert.Kernel29Ideal.main_arg26)
          ∧ r.2.mem ((c.tc : Thread Cert.Kernel29Ideal.nD Cert.Kernel29Ideal.τ).loc Cert.Kernel29Ideal.main_arg27) = m ((c.tc : Thread Cert.Kernel29Ideal.nD Cert.Kernel29Ideal.τ).loc Cert.Kernel29Ideal.main_arg27)
          ∧ r.2.mem ((c.tc : Thread Cert.Kernel29Ideal.nD Cert.Kernel29Ideal.τ).loc Cert.Kernel29Ideal.main_arg28) = m ((c.tc : Thread Cert.Kernel29Ideal.nD Cert.Kernel29Ideal.τ).loc Cert.Kernel29Ideal.main_arg28)
          ∧ r.2.mem ((c.tc : Thread Cert.Kernel29Ideal.nD Cert.Kernel29Ideal.τ).loc Cert.Kernel29Ideal.main_arg29) = m ((c.tc : Thread Cert.Kernel29Ideal.nD Cert.Kernel29Ideal.τ).loc Cert.Kernel29Ideal.main_arg29)
          ∧ r.2.mem ((c.tc : Thread Cert.Kernel29Ideal.nD Cert.Kernel29Ideal.τ).loc Cert.Kernel29Ideal.main_arg30) = m ((c.tc : Thread Cert.Kernel29Ideal.nD Cert.Kernel29Ideal.τ).loc Cert.Kernel29Ideal.main_arg30)
          ∧ r.2.mem ((c.tc : Thread Cert.Kernel29Ideal.nD Cert.Kernel29Ideal.τ).loc Cert.Kernel29Ideal.main_arg31) = m ((c.tc : Thread Cert.Kernel29Ideal.nD Cert.Kernel29Ideal.τ).loc Cert.Kernel29Ideal.main_arg31)
          ∧ r.2.mem ((c.tc : Thread Cert.Kernel29Ideal.nD Cert.Kernel29Ideal.τ).loc Cert.Kernel29Ideal.main_arg32) = m ((c.tc : Thread Cert.Kernel29Ideal.nD Cert.Kernel29Ideal.τ).loc Cert.Kernel29Ideal.main_arg32)
          ∧ r.2.mem ((c.tc : Thread Cert.Kernel29Ideal.nD Cert.Kernel29Ideal.τ).loc Cert.Kernel29Ideal.main_arg33) = m ((c.tc : Thread Cert.Kernel29Ideal.nD Cert.Kernel29Ideal.τ).loc Cert.Kernel29Ideal.main_arg33)
          ∧ r.2.mem ((c.tc : Thread Cert.Kernel29Ideal.nD Cert.Kernel29Ideal.τ).loc Cert.Kernel29Ideal.main_arg34) = m ((c.tc : Thread Cert.Kernel29Ideal.nD Cert.Kernel29Ideal.τ).loc Cert.Kernel29Ideal.main_arg34)
          ∧ r.2.mem ((c.tc : Thread Cert.Kernel29Ideal.nD Cert.Kernel29Ideal.τ).loc Cert.Kernel29Ideal.main_arg35) = m ((c.tc : Thread Cert.Kernel29Ideal.nD Cert.Kernel29Ideal.τ).loc Cert.Kernel29Ideal.main_arg35)
          ∧ r.2.mem ((c.tc : Thread Cert.Kernel29Ideal.nD Cert.Kernel29Ideal.τ).loc Cert.Kernel29Ideal.main_arg36) = m ((c.tc : Thread Cert.Kernel29Ideal.nD Cert.Kernel29Ideal.τ).loc Cert.Kernel29Ideal.main_arg36)
          ∧ r.2.mem ((c.tc : Thread Cert.Kernel29Ideal.nD Cert.Kernel29Ideal.τ).loc Cert.Kernel29Ideal.main_arg37) = m ((c.tc : Thread Cert.Kernel29Ideal.nD Cert.Kernel29Ideal.τ).loc Cert.Kernel29Ideal.main_arg37)
          ∧ r.2.mem ((c.tc : Thread Cert.Kernel29Ideal.nD Cert.Kernel29Ideal.τ).loc Cert.Kernel29Ideal.main_arg38) = m ((c.tc : Thread Cert.Kernel29Ideal.nD Cert.Kernel29Ideal.τ).loc Cert.Kernel29Ideal.main_arg38)
          ∧ r.2.mem ((c.tc : Thread Cert.Kernel29Ideal.nD Cert.Kernel29Ideal.τ).loc Cert.Kernel29Ideal.main_arg39) = m ((c.tc : Thread Cert.Kernel29Ideal.nD Cert.Kernel29Ideal.τ).loc Cert.Kernel29Ideal.main_arg39)
          ∧ r.2.mem ((c.tc : Thread Cert.Kernel29Ideal.nD Cert.Kernel29Ideal.τ).loc Cert.Kernel29Ideal.main_arg40) = m ((c.tc : Thread Cert.Kernel29Ideal.nD Cert.Kernel29Ideal.τ).loc Cert.Kernel29Ideal.main_arg40)
          ∧ r.2.mem ((c.tc : Thread Cert.Kernel29Ideal.nD Cert.Kernel29Ideal.τ).loc Cert.Kernel29Ideal.main_arg41) = m ((c.tc : Thread Cert.Kernel29Ideal.nD Cert.Kernel29Ideal.τ).loc Cert.Kernel29Ideal.main_arg41)
          ∧ r.2.mem ((c.tc : Thread Cert.Kernel29Ideal.nD Cert.Kernel29Ideal.τ).loc Cert.Kernel29Ideal.main_arg42) = m ((c.tc : Thread Cert.Kernel29Ideal.nD Cert.Kernel29Ideal.τ).loc Cert.Kernel29Ideal.main_arg42)
          ∧ r.2.mem ((c.tc : Thread Cert.Kernel29Ideal.nD Cert.Kernel29Ideal.τ).loc Cert.Kernel29Ideal.main_arg43) = m ((c.tc : Thread Cert.Kernel29Ideal.nD Cert.Kernel29Ideal.τ).loc Cert.Kernel29Ideal.main_arg43)
          ∧ r.2.mem ((c.tc : Thread Cert.Kernel29Ideal.nD Cert.Kernel29Ideal.τ).loc Cert.Kernel29Ideal.main_arg44) = m ((c.tc : Thread Cert.Kernel29Ideal.nD Cert.Kernel29Ideal.τ).loc Cert.Kernel29Ideal.main_arg44)
          ∧ r.2.mem ((c.tc : Thread Cert.Kernel29Ideal.nD Cert.Kernel29Ideal.τ).loc Cert.Kernel29Ideal.main_arg45) = m ((c.tc : Thread Cert.Kernel29Ideal.nD Cert.Kernel29Ideal.τ).loc Cert.Kernel29Ideal.main_arg45)
          ∧ r.2.mem ((c.tc : Thread Cert.Kernel29Ideal.nD Cert.Kernel29Ideal.τ).loc Cert.Kernel29Ideal.main_arg46) = m ((c.tc : Thread Cert.Kernel29Ideal.nD Cert.Kernel29Ideal.τ).loc Cert.Kernel29Ideal.main_arg46)
          ∧ r.2.mem ((c.tc : Thread Cert.Kernel29Ideal.nD Cert.Kernel29Ideal.τ).loc Cert.Kernel29Ideal.main_arg47) = m ((c.tc : Thread Cert.Kernel29Ideal.nD Cert.Kernel29Ideal.τ).loc Cert.Kernel29Ideal.main_arg47))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v302) = v0 c
          ∧ r.2.mem ((c.tc : Thread Cert.Reference29Ideal.nD Cert.Reference29Ideal.τ).loc Cert.Reference29Ideal.main_v317) = v1 c
          ∧ r.2.mem ((c.tc : Thread Cert.Reference29Ideal.nD Cert.Reference29Ideal.τ).loc Cert.Reference29Ideal.main_v332) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5)
          ∧ r.2.mem ((c.tc : Thread Cert.Reference29Ideal.nD Cert.Reference29Ideal.τ).loc Cert.Reference29Ideal.main_arg6) = m' ((c.tc : Thread Cert.Reference29Ideal.nD Cert.Reference29Ideal.τ).loc Cert.Reference29Ideal.main_arg6)
          ∧ r.2.mem ((c.tc : Thread Cert.Reference29Ideal.nD Cert.Reference29Ideal.τ).loc Cert.Reference29Ideal.main_arg7) = m' ((c.tc : Thread Cert.Reference29Ideal.nD Cert.Reference29Ideal.τ).loc Cert.Reference29Ideal.main_arg7)
          ∧ r.2.mem ((c.tc : Thread Cert.Reference29Ideal.nD Cert.Reference29Ideal.τ).loc Cert.Reference29Ideal.main_arg8) = m' ((c.tc : Thread Cert.Reference29Ideal.nD Cert.Reference29Ideal.τ).loc Cert.Reference29Ideal.main_arg8)
          ∧ r.2.mem ((c.tc : Thread Cert.Reference29Ideal.nD Cert.Reference29Ideal.τ).loc Cert.Reference29Ideal.main_arg9) = m' ((c.tc : Thread Cert.Reference29Ideal.nD Cert.Reference29Ideal.τ).loc Cert.Reference29Ideal.main_arg9)
          ∧ r.2.mem ((c.tc : Thread Cert.Reference29Ideal.nD Cert.Reference29Ideal.τ).loc Cert.Reference29Ideal.main_arg10) = m' ((c.tc : Thread Cert.Reference29Ideal.nD Cert.Reference29Ideal.τ).loc Cert.Reference29Ideal.main_arg10)
          ∧ r.2.mem ((c.tc : Thread Cert.Reference29Ideal.nD Cert.Reference29Ideal.τ).loc Cert.Reference29Ideal.main_arg11) = m' ((c.tc : Thread Cert.Reference29Ideal.nD Cert.Reference29Ideal.τ).loc Cert.Reference29Ideal.main_arg11)
          ∧ r.2.mem ((c.tc : Thread Cert.Reference29Ideal.nD Cert.Reference29Ideal.τ).loc Cert.Reference29Ideal.main_arg12) = m' ((c.tc : Thread Cert.Reference29Ideal.nD Cert.Reference29Ideal.τ).loc Cert.Reference29Ideal.main_arg12)
          ∧ r.2.mem ((c.tc : Thread Cert.Reference29Ideal.nD Cert.Reference29Ideal.τ).loc Cert.Reference29Ideal.main_arg13) = m' ((c.tc : Thread Cert.Reference29Ideal.nD Cert.Reference29Ideal.τ).loc Cert.Reference29Ideal.main_arg13)
          ∧ r.2.mem ((c.tc : Thread Cert.Reference29Ideal.nD Cert.Reference29Ideal.τ).loc Cert.Reference29Ideal.main_arg14) = m' ((c.tc : Thread Cert.Reference29Ideal.nD Cert.Reference29Ideal.τ).loc Cert.Reference29Ideal.main_arg14)
          ∧ r.2.mem ((c.tc : Thread Cert.Reference29Ideal.nD Cert.Reference29Ideal.τ).loc Cert.Reference29Ideal.main_arg15) = m' ((c.tc : Thread Cert.Reference29Ideal.nD Cert.Reference29Ideal.τ).loc Cert.Reference29Ideal.main_arg15)
          ∧ r.2.mem ((c.tc : Thread Cert.Reference29Ideal.nD Cert.Reference29Ideal.τ).loc Cert.Reference29Ideal.main_arg16) = m' ((c.tc : Thread Cert.Reference29Ideal.nD Cert.Reference29Ideal.τ).loc Cert.Reference29Ideal.main_arg16)
          ∧ r.2.mem ((c.tc : Thread Cert.Reference29Ideal.nD Cert.Reference29Ideal.τ).loc Cert.Reference29Ideal.main_arg17) = m' ((c.tc : Thread Cert.Reference29Ideal.nD Cert.Reference29Ideal.τ).loc Cert.Reference29Ideal.main_arg17)
          ∧ r.2.mem ((c.tc : Thread Cert.Reference29Ideal.nD Cert.Reference29Ideal.τ).loc Cert.Reference29Ideal.main_arg18) = m' ((c.tc : Thread Cert.Reference29Ideal.nD Cert.Reference29Ideal.τ).loc Cert.Reference29Ideal.main_arg18)
          ∧ r.2.mem ((c.tc : Thread Cert.Reference29Ideal.nD Cert.Reference29Ideal.τ).loc Cert.Reference29Ideal.main_arg19) = m' ((c.tc : Thread Cert.Reference29Ideal.nD Cert.Reference29Ideal.τ).loc Cert.Reference29Ideal.main_arg19)
          ∧ r.2.mem ((c.tc : Thread Cert.Reference29Ideal.nD Cert.Reference29Ideal.τ).loc Cert.Reference29Ideal.main_arg20) = m' ((c.tc : Thread Cert.Reference29Ideal.nD Cert.Reference29Ideal.τ).loc Cert.Reference29Ideal.main_arg20)
          ∧ r.2.mem ((c.tc : Thread Cert.Reference29Ideal.nD Cert.Reference29Ideal.τ).loc Cert.Reference29Ideal.main_arg21) = m' ((c.tc : Thread Cert.Reference29Ideal.nD Cert.Reference29Ideal.τ).loc Cert.Reference29Ideal.main_arg21)
          ∧ r.2.mem ((c.tc : Thread Cert.Reference29Ideal.nD Cert.Reference29Ideal.τ).loc Cert.Reference29Ideal.main_arg22) = m' ((c.tc : Thread Cert.Reference29Ideal.nD Cert.Reference29Ideal.τ).loc Cert.Reference29Ideal.main_arg22)
          ∧ r.2.mem ((c.tc : Thread Cert.Reference29Ideal.nD Cert.Reference29Ideal.τ).loc Cert.Reference29Ideal.main_arg23) = m' ((c.tc : Thread Cert.Reference29Ideal.nD Cert.Reference29Ideal.τ).loc Cert.Reference29Ideal.main_arg23)
          ∧ r.2.mem ((c.tc : Thread Cert.Reference29Ideal.nD Cert.Reference29Ideal.τ).loc Cert.Reference29Ideal.main_arg24) = m' ((c.tc : Thread Cert.Reference29Ideal.nD Cert.Reference29Ideal.τ).loc Cert.Reference29Ideal.main_arg24)
          ∧ r.2.mem ((c.tc : Thread Cert.Reference29Ideal.nD Cert.Reference29Ideal.τ).loc Cert.Reference29Ideal.main_arg25) = m' ((c.tc : Thread Cert.Reference29Ideal.nD Cert.Reference29Ideal.τ).loc Cert.Reference29Ideal.main_arg25)
          ∧ r.2.mem ((c.tc : Thread Cert.Reference29Ideal.nD Cert.Reference29Ideal.τ).loc Cert.Reference29Ideal.main_arg26) = m' ((c.tc : Thread Cert.Reference29Ideal.nD Cert.Reference29Ideal.τ).loc Cert.Reference29Ideal.main_arg26)
          ∧ r.2.mem ((c.tc : Thread Cert.Reference29Ideal.nD Cert.Reference29Ideal.τ).loc Cert.Reference29Ideal.main_arg27) = m' ((c.tc : Thread Cert.Reference29Ideal.nD Cert.Reference29Ideal.τ).loc Cert.Reference29Ideal.main_arg27)
          ∧ r.2.mem ((c.tc : Thread Cert.Reference29Ideal.nD Cert.Reference29Ideal.τ).loc Cert.Reference29Ideal.main_arg28) = m' ((c.tc : Thread Cert.Reference29Ideal.nD Cert.Reference29Ideal.τ).loc Cert.Reference29Ideal.main_arg28)
          ∧ r.2.mem ((c.tc : Thread Cert.Reference29Ideal.nD Cert.Reference29Ideal.τ).loc Cert.Reference29Ideal.main_arg29) = m' ((c.tc : Thread Cert.Reference29Ideal.nD Cert.Reference29Ideal.τ).loc Cert.Reference29Ideal.main_arg29)
          ∧ r.2.mem ((c.tc : Thread Cert.Reference29Ideal.nD Cert.Reference29Ideal.τ).loc Cert.Reference29Ideal.main_arg30) = m' ((c.tc : Thread Cert.Reference29Ideal.nD Cert.Reference29Ideal.τ).loc Cert.Reference29Ideal.main_arg30)
          ∧ r.2.mem ((c.tc : Thread Cert.Reference29Ideal.nD Cert.Reference29Ideal.τ).loc Cert.Reference29Ideal.main_arg31) = m' ((c.tc : Thread Cert.Reference29Ideal.nD Cert.Reference29Ideal.τ).loc Cert.Reference29Ideal.main_arg31)
          ∧ r.2.mem ((c.tc : Thread Cert.Reference29Ideal.nD Cert.Reference29Ideal.τ).loc Cert.Reference29Ideal.main_arg32) = m' ((c.tc : Thread Cert.Reference29Ideal.nD Cert.Reference29Ideal.τ).loc Cert.Reference29Ideal.main_arg32)
          ∧ r.2.mem ((c.tc : Thread Cert.Reference29Ideal.nD Cert.Reference29Ideal.τ).loc Cert.Reference29Ideal.main_arg33) = m' ((c.tc : Thread Cert.Reference29Ideal.nD Cert.Reference29Ideal.τ).loc Cert.Reference29Ideal.main_arg33)
          ∧ r.2.mem ((c.tc : Thread Cert.Reference29Ideal.nD Cert.Reference29Ideal.τ).loc Cert.Reference29Ideal.main_arg34) = m' ((c.tc : Thread Cert.Reference29Ideal.nD Cert.Reference29Ideal.τ).loc Cert.Reference29Ideal.main_arg34)
          ∧ r.2.mem ((c.tc : Thread Cert.Reference29Ideal.nD Cert.Reference29Ideal.τ).loc Cert.Reference29Ideal.main_arg35) = m' ((c.tc : Thread Cert.Reference29Ideal.nD Cert.Reference29Ideal.τ).loc Cert.Reference29Ideal.main_arg35)
          ∧ r.2.mem ((c.tc : Thread Cert.Reference29Ideal.nD Cert.Reference29Ideal.τ).loc Cert.Reference29Ideal.main_arg36) = m' ((c.tc : Thread Cert.Reference29Ideal.nD Cert.Reference29Ideal.τ).loc Cert.Reference29Ideal.main_arg36)
          ∧ r.2.mem ((c.tc : Thread Cert.Reference29Ideal.nD Cert.Reference29Ideal.τ).loc Cert.Reference29Ideal.main_arg37) = m' ((c.tc : Thread Cert.Reference29Ideal.nD Cert.Reference29Ideal.τ).loc Cert.Reference29Ideal.main_arg37)
          ∧ r.2.mem ((c.tc : Thread Cert.Reference29Ideal.nD Cert.Reference29Ideal.τ).loc Cert.Reference29Ideal.main_arg38) = m' ((c.tc : Thread Cert.Reference29Ideal.nD Cert.Reference29Ideal.τ).loc Cert.Reference29Ideal.main_arg38)
          ∧ r.2.mem ((c.tc : Thread Cert.Reference29Ideal.nD Cert.Reference29Ideal.τ).loc Cert.Reference29Ideal.main_arg39) = m' ((c.tc : Thread Cert.Reference29Ideal.nD Cert.Reference29Ideal.τ).loc Cert.Reference29Ideal.main_arg39)
          ∧ r.2.mem ((c.tc : Thread Cert.Reference29Ideal.nD Cert.Reference29Ideal.τ).loc Cert.Reference29Ideal.main_arg40) = m' ((c.tc : Thread Cert.Reference29Ideal.nD Cert.Reference29Ideal.τ).loc Cert.Reference29Ideal.main_arg40)
          ∧ r.2.mem ((c.tc : Thread Cert.Reference29Ideal.nD Cert.Reference29Ideal.τ).loc Cert.Reference29Ideal.main_arg41) = m' ((c.tc : Thread Cert.Reference29Ideal.nD Cert.Reference29Ideal.τ).loc Cert.Reference29Ideal.main_arg41)
          ∧ r.2.mem ((c.tc : Thread Cert.Reference29Ideal.nD Cert.Reference29Ideal.τ).loc Cert.Reference29Ideal.main_arg42) = m' ((c.tc : Thread Cert.Reference29Ideal.nD Cert.Reference29Ideal.τ).loc Cert.Reference29Ideal.main_arg42)
          ∧ r.2.mem ((c.tc : Thread Cert.Reference29Ideal.nD Cert.Reference29Ideal.τ).loc Cert.Reference29Ideal.main_arg43) = m' ((c.tc : Thread Cert.Reference29Ideal.nD Cert.Reference29Ideal.τ).loc Cert.Reference29Ideal.main_arg43)
          ∧ r.2.mem ((c.tc : Thread Cert.Reference29Ideal.nD Cert.Reference29Ideal.τ).loc Cert.Reference29Ideal.main_arg44) = m' ((c.tc : Thread Cert.Reference29Ideal.nD Cert.Reference29Ideal.τ).loc Cert.Reference29Ideal.main_arg44)
          ∧ r.2.mem ((c.tc : Thread Cert.Reference29Ideal.nD Cert.Reference29Ideal.τ).loc Cert.Reference29Ideal.main_arg45) = m' ((c.tc : Thread Cert.Reference29Ideal.nD Cert.Reference29Ideal.τ).loc Cert.Reference29Ideal.main_arg45)
          ∧ r.2.mem ((c.tc : Thread Cert.Reference29Ideal.nD Cert.Reference29Ideal.τ).loc Cert.Reference29Ideal.main_arg46) = m' ((c.tc : Thread Cert.Reference29Ideal.nD Cert.Reference29Ideal.τ).loc Cert.Reference29Ideal.main_arg46)
          ∧ r.2.mem ((c.tc : Thread Cert.Reference29Ideal.nD Cert.Reference29Ideal.τ).loc Cert.Reference29Ideal.main_arg47) = m' ((c.tc : Thread Cert.Reference29Ideal.nD Cert.Reference29Ideal.τ).loc Cert.Reference29Ideal.main_arg47))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v0) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v6) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v6) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v6) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v6) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v6) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v175) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v384) = v0 c
          ∧ r.2.mem ((c.tc : Thread Cert.Reference14Ideal.nD Cert.Reference14Ideal.τ).loc Cert.Reference14Ideal.main_v385) = v1 c
          ∧ r.2.mem ((c.tc : Thread Cert.Reference14Ideal.nD Cert.Reference14Ideal.τ).loc Cert.Reference14Ideal.main_v365) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel15 : Cert.Kernel15.Facts) (hKernel15Ideal : Cert.Kernel15Ideal.Facts) (hReference15Ideal : Cert.Reference15Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel15_Kernel15Ideal
    ∧ algebraic_Kernel15Ideal_Reference15Ideal (hKernel15Ideal := hKernel15Ideal) (hReference15Ideal := hReference15Ideal)
    ∧ preserves_Kernel14_Kernel14Ideal
    ∧ algebraic_Kernel14Ideal_Reference14Ideal (hKernel14Ideal := hKernel14Ideal) (hReference14Ideal := hReference14Ideal)
-- ==== Pre_finite.lean ====
abbrev S4224x2048 : Shape := ⟨2, ![4224, 2048]⟩
abbrev S2048x5632 : Shape := ⟨2, ![2048, 5632]⟩
abbrev S5632x2048 : Shape := ⟨2, ![5632, 2048]⟩
abbrev S_ : Shape := ⟨0, ![]⟩

class Facts : Prop where
  bcast_S_S4224x2048 : S_.BroadcastsInDim S4224x2048 (![] : Fin 0 → Fin S4224x2048.rank)
  bcast_S_S2048x5632 : S_.BroadcastsInDim S2048x5632 (![] : Fin 0 → Fin S2048x5632.rank)
  bcast_S_S5632x2048 : S_.BroadcastsInDim S5632x2048 (![] : Fin 0 → Fin S5632x2048.rank)

variable [Facts]

def fn {F : FTy → Type} [FloatOps F] (main_arg0 : FVec F S4224x2048 .f32) (main_arg1 : FVec F S2048x5632 .f32) (main_arg2 : FVec F S2048x5632 .f32) (main_arg3 : FVec F S5632x2048 .f32) (main_arg4 : FVec F S4224x2048 .f32) : IVec S4224x2048 1 × IVec S2048x5632 1 × IVec S2048x5632 1 × IVec S5632x2048 1 × IVec S4224x2048 1 :=
  let main_v0 : FVec F S4224x2048 .f32 := Host.absf main_arg0
  let main_cst : FVec F S_ .f32 := constant S_ .f32 0x7F800000#32
  let main_v1 : FVec F S4224x2048 .f32 := broadcastInDim S4224x2048 ![] bcast_S_S4224x2048 main_cst
  let main_v2 : IVec S4224x2048 1 := cmpf .olt main_v0 main_v1
  let main_v3 : FVec F S2048x5632 .f32 := Host.absf main_arg1
  let main_cst_0 : FVec F S_ .f32 := constant S_ .f32 0x7F800000#32
  let main_v4 : FVec F S2048x5632 .f32 := broadcastInDim S2048x5632 ![] bcast_S_S2048x5632 main_cst_0
  let main_v5 : IVec S2048x5632 1 := cmpf .olt main_v3 main_v4
  let main_v6 : FVec F S2048x5632 .f32 := Host.absf main_arg2
  let main_cst_1 : FVec F S_ .f32 := constant S_ .f32 0x7F800000#32
  let main_v7 : FVec F S2048x5632 .f32 := broadcastInDim S2048x5632 ![] bcast_S_S2048x5632 main_cst_1
  let main_v8 : IVec S2048x5632 1 := cmpf .olt main_v6 main_v7
  let main_v9 : FVec F S5632x2048 .f32 := Host.absf main_arg3
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_v12 : FVec F S4224x2048 .f32 := Host.absf main_arg4
  let main_cst_3 : FVec F S_ .f32 := constant S_ .f32 0x7F800000#32
  let main_v13 : FVec F S4224x2048 .f32 := broadcastInDim S4224x2048 ![] bcast_S_S4224x2048 main_cst_3
  let main_v14 : IVec S4224x2048 1 := cmpf .olt main_v12 main_v13
  (main_v2, main_v5, main_v8, main_v11, main_v14)
-- ==== Kernel.lean ====
abbrev S4224x2048 : Shape := ⟨2, ![4224, 2048]⟩
abbrev S2048x5632 : Shape := ⟨2, ![2048, 5632]⟩
abbrev S5632x2048 : Shape := ⟨2, ![5632, 2048]⟩
abbrev S4224x5632 : Shape := ⟨2, ![4224, 5632]⟩
abbrev S4x1x1408x2048 : Shape := ⟨4, ![4, 1, 1408, 2048]⟩
abbrev S704x2048 : Shape := ⟨2, ![704, 2048]⟩
abbrev S1x1x1408x2048 : Shape := ⟨4, ![1, 1, 1408, 2048]⟩
abbrev S704x1408 : Shape := ⟨2, ![704, 1408]⟩
abbrev S1408x2048 : Shape := ⟨2, ![1408, 2048]⟩

abbrev nBuf : Space → Nat
  | .hbm => 12
  | .vmem => 12
  | .smem => 0
  | _ => 0

abbrev bufTy : (tb : Table) → Fin (tcTables nBuf tb) → BufTy
  | .hbm, ⟨0, _⟩ => ⟨S4224x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4224x2048, .f32⟩
  | .hbm, ⟨5, _⟩ => ⟨S4224x5632, .f32⟩
  | .hbm, ⟨6, _⟩ => ⟨S4224x5632, .f32⟩
  | .hbm, ⟨7, _⟩ => ⟨S4224x2048, .bf16⟩
  | .hbm, ⟨8, _⟩ => ⟨S4x1x1408x2048, .f32⟩
  | .hbm, ⟨9, _⟩ => ⟨S4x1x1408x2048, .bf16⟩
  | .hbm, ⟨10, _⟩ => ⟨S4224x5632, .bf16⟩
  | .hbm, ⟨11, _⟩ => ⟨S4224x5632, .bf16⟩
  | .local _ .vmem, ⟨0, _⟩ => ⟨S704x2048, .bf16⟩
  | .local _ .vmem, ⟨1, _⟩ => ⟨S704x2048, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S704x1408, .f32⟩
  | .local _ .vmem, ⟨5, _⟩ => ⟨S704x1408, .f32⟩
  | .local _ .vmem, ⟨6, _⟩ => ⟨S704x1408, .f32⟩
  | .local _ .vmem, ⟨7, _⟩ => ⟨S704x1408, .f32⟩
  | .local _ .vmem, ⟨8, _⟩ => ⟨S704x1408, .bf16⟩
  | .local _ .vmem, ⟨9, _⟩ => ⟨S704x1408, .bf16⟩
  | .local _ .vmem, ⟨10, _⟩ => ⟨S704x1408, .bf16⟩
  | .local _ .vmem, ⟨11, _⟩ => ⟨S704x1408, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S704x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S704x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S704x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S704x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4224x2048 : Shape := ⟨2, ![4224, 2048]⟩
abbrev S2048x5632 : Shape := ⟨2, ![2048, 5632]⟩
abbrev S5632x2048 : Shape := ⟨2, ![5632, 2048]⟩
abbrev S4224x5632 : Shape := ⟨2, ![4224, 5632]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S4224x2048, .f32⟩
  | .hbm, ⟨5, _⟩ => ⟨S4224x5632, .f32⟩
  | .hbm, ⟨6, _⟩ => ⟨S4224x5632, .f32⟩
  | .hbm, ⟨7, _⟩ => ⟨S4224x5632, .f32⟩
  | .hbm, ⟨8, _⟩ => ⟨S4224x5632, .f32⟩
  | .hbm, ⟨9, _⟩ => ⟨S_, .f32⟩
  | .hbm, ⟨10, _⟩ => ⟨S4224x5632, .f32⟩
  | .hbm, ⟨11, _⟩ => ⟨S4224x5632, .f32⟩
  | .hbm, ⟨12, _⟩ => ⟨S_, .f32⟩
  | .hbm, ⟨13, _⟩ => ⟨S4224x5632, .f32⟩
  | .hbm, ⟨14, _⟩ => ⟨S4224x5632, .f32⟩
  | .hbm, ⟨15, _⟩ => ⟨S_, .f32⟩
  | .hbm, ⟨16, _⟩ => ⟨S4224x5632, .f32⟩
  | .hbm, ⟨17, _⟩ => ⟨S4224x5632, .f32⟩
  | .hbm, ⟨18, _⟩ => ⟨S4224x5632, .f32⟩
  | .hbm, ⟨19, _⟩ => ⟨S4224x5632, .f32⟩
  | .hbm, ⟨20, _⟩ => ⟨S4224x5632, .f32⟩
  | .hbm, ⟨21, _⟩ => ⟨S4224x2048, .f32⟩
  | .hbm, ⟨22, _⟩ => ⟨S4224x5632, .f32⟩
  | .hbm, ⟨23, _⟩ => ⟨S4224x5632, .f32⟩
  | .hbm, ⟨24, _⟩ => ⟨S4224x5632, .f32⟩
  | .hbm, ⟨25, _⟩ => ⟨S4224x5632, .f32⟩
  | .hbm, ⟨26, _⟩ => ⟨S4224x5632, .f32⟩
  | .hbm, ⟨27, _⟩ => ⟨S4224x5632, .f32⟩
  | .hbm, ⟨28, _⟩ => ⟨S4224x5632, .f32⟩
  | .hbm, ⟨29, _⟩ => ⟨S4224x5632, .bf16⟩
  | .hbm, ⟨30, _⟩ => ⟨S4224x5632, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Kernel2.lean ====
abbrev S4224x5632 : Shape := ⟨2, ![4224, 5632]⟩
abbrev S4224x2048 : Shape := ⟨2, ![4224, 2048]⟩
abbrev S4x1408x2048 : Shape := ⟨3, ![4, 1408, 2048]⟩
abbrev S1408x1408 : Shape := ⟨2, ![1408, 1408]⟩
abbrev S1408x1024 : Shape := ⟨2, ![1408, 1024]⟩
abbrev S1x1408x1024 : Shape := ⟨3, ![1, 1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4224x5632, .f32⟩
  | .hbm, ⟨1, _⟩ => ⟨S4224x2048, .f32⟩
  | .hbm, ⟨2, _⟩ => ⟨S4224x5632, .bf16⟩
  | .hbm, ⟨3, _⟩ => ⟨S4224x2048, .bf16⟩
  | .hbm, ⟨4, _⟩ => ⟨S4x1408x2048, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4224x5632 : Shape := ⟨2, ![4224, 5632]⟩
abbrev S4224x2048 : Shape := ⟨2, ![4224, 2048]⟩
abbrev S_ : Shape := ⟨0, ![]⟩
abbrev S5632x2048 : Shape := ⟨2, ![5632, 2048]⟩
abbrev S2048x5632 : Shape := ⟨2, ![2048, 5632]⟩
abbrev S4x1408x2048 : Shape := ⟨3, ![4, 1408, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4224x5632, .f32⟩
  | .hbm, ⟨1, _⟩ => ⟨S4224x2048, .f32⟩
  | .hbm, ⟨2, _⟩ => ⟨S_, .f32⟩
  | .hbm, ⟨3, _⟩ => ⟨S5632x2048, .f32⟩
  | .hbm, ⟨4, _⟩ => ⟨S4224x2048, .f32⟩
  | .hbm, ⟨5, _⟩ => ⟨S2048x5632, .f32⟩
  | .hbm, ⟨6, _⟩ => ⟨S5632x2048, .f32⟩
  | .hbm, ⟨7, _⟩ => ⟨S4x1408x2048, .f32⟩
  | .hbm, ⟨8, _⟩ => ⟨S4x1408x2048, .bf16⟩
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4224x2048 : Shape := ⟨2, ![4224, 2048]⟩
abbrev S4224x5632 : Shape := ⟨2, ![4224, 5632]⟩
abbrev S4x2048x1408 : Shape := ⟨3, ![4, 2048, 1408]⟩
abbrev S1408x1024 : Shape := ⟨2, ![1408, 1024]⟩
abbrev S1408x1408 : Shape := ⟨2, ![1408, 1408]⟩
abbrev S1x1024x1408 : Shape := ⟨3, ![1, 1024, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S4224x5632, .f32⟩
  | .hbm, ⟨2, _⟩ => ⟨S4224x2048, .bf16⟩
  | .hbm, ⟨3, _⟩ => ⟨S4224x5632, .bf16⟩
  | .hbm, ⟨4, _⟩ => ⟨S4x2048x1408, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4224x2048 : Shape := ⟨2, ![4224, 2048]⟩
abbrev S4224x5632 : Shape := ⟨2, ![4224, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x5632, .f32⟩
  | .hbm, ⟨2, _⟩ => ⟨S_, .f32⟩
  | .hbm, ⟨3, _⟩ => ⟨S2048x5632, .f32⟩
  | .hbm, ⟨4, _⟩ => ⟨S4224x5632, .f32⟩
  | .hbm, ⟨5, _⟩ => ⟨S5632x2048, .f32⟩
  | .hbm, ⟨6, _⟩ => ⟨S2048x5632, .f32⟩
  | .hbm, ⟨7, _⟩ => ⟨S2048x4x1408, .f32⟩
  | .hbm, ⟨8, _⟩ => ⟨S4x2048x1408, .f32⟩
  | .hbm, ⟨9, _⟩ => ⟨S4x2048x1408, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4224x5632 : Shape := ⟨2, ![4224, 5632]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S4x1x2048x1408 : Shape := ⟨4, ![4, 1, 2048, 1408]⟩
abbrev S4224x2048 : Shape := ⟨2, ![4224, 2048]⟩
abbrev S704x1408 : Shape := ⟨2, ![704, 1408]⟩
abbrev S1x1x2048x1408 : Shape := ⟨4, ![1, 1, 2048, 1408]⟩
abbrev S704x2048 : Shape := ⟨2, ![704, 2048]⟩
abbrev S2048x1408 : Shape := ⟨2, ![2048, 1408]⟩

abbrev nBuf : Space → Nat
  | .hbm => 15
  | .vmem => 10
  | .smem => 0
  | _ => 0

abbrev bufTy : (tb : Table) → Fin (tcTables nBuf tb) → BufTy
  | .hbm, ⟨0, _⟩ => ⟨S4224x5632, .f32⟩
  | .hbm, ⟨1, _⟩ => ⟨S2048x5632, .f32⟩
  | .hbm, ⟨2, _⟩ => ⟨S4224x5632, .f32⟩
  | .hbm, ⟨3, _⟩ => ⟨S2048x5632, .f32⟩
  | .hbm, ⟨4, _⟩ => ⟨S4224x5632, .bf16⟩
  | .hbm, ⟨5, _⟩ => ⟨S2048x4x1408, .f32⟩
  | .hbm, ⟨6, _⟩ => ⟨S4x2048x1408, .f32⟩
  | .hbm, ⟨7, _⟩ => ⟨S4x1x2048x1408, .f32⟩
  | .hbm, ⟨8, _⟩ => ⟨S4x1x2048x1408, .bf16⟩
  | .hbm, ⟨9, _⟩ => ⟨S4224x5632, .bf16⟩
  | .hbm, ⟨10, _⟩ => ⟨S2048x4x1408, .f32⟩
  | .hbm, ⟨11, _⟩ => ⟨S4x2048x1408, .f32⟩
  | .hbm, ⟨12, _⟩ => ⟨S4x1x2048x1408, .f32⟩
  | .hbm, ⟨13, _⟩ => ⟨S4x1x2048x1408, .bf16⟩
  | .hbm, ⟨14, _⟩ => ⟨S4224x2048, .f32⟩
  | .local _ .vmem, ⟨0, _⟩ => ⟨S704x1408, .bf16⟩
  | .local _ .vmem, ⟨1, _⟩ => ⟨S704x1408, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S704x1408, .bf16⟩
  | .local _ .vmem, ⟨5, _⟩ => ⟨S704x1408, .bf16⟩
  | .local _ .vmem, ⟨6, _⟩ => ⟨S1x1x2048x1408, .bf16⟩
  | .local _ .vmem, ⟨7, _⟩ => ⟨S1x1x2048x1408, .bf16⟩
  | .local _ .vmem, ⟨8, _⟩ => ⟨S704x2048, .f32⟩
  | .local _ .vmem, ⟨9, _⟩ => ⟨S704x2048, .f32⟩
  | _, _ => ⟨S4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c4_i32 : BitVec 32 := 4#32
  let v4 : BitVec 1 := Scalar.cmpi .slt arg1 c4_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c4_i32_3 : BitVec 32 := 4#32
  let v8 : BitVec 1 := Scalar.cmpi .sge arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S704x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S704x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S704x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S4224x5632 : Shape := ⟨2, ![4224, 5632]⟩
abbrev S2048x5632 : Shape := ⟨2, ![2048, 5632]⟩
abbrev S_ : Shape := ⟨0, ![]⟩
abbrev S4224x2048 : Shape := ⟨2, ![4224, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4224x5632, .f32⟩
  | .hbm, ⟨1, _⟩ => ⟨S2048x5632, .f32⟩
  | .hbm, ⟨2, _⟩ => ⟨S4224x5632, .f32⟩
  | .hbm, ⟨3, _⟩ => ⟨S2048x5632, .f32⟩
  | .hbm, ⟨4, _⟩ => ⟨S_, .f32⟩
  | .hbm, ⟨5, _⟩ => ⟨S4224x2048, .f32⟩
  | .hbm, ⟨6, _⟩ => ⟨S4224x5632, .f32⟩
  | .hbm, ⟨7, _⟩ => ⟨S4224x5632, .f32⟩
  | .hbm, ⟨8, _⟩ => ⟨S4224x2048, .f32⟩
  | .hbm, ⟨9, _⟩ => ⟨S4224x2048, .f32⟩
  | .hbm, ⟨10, _⟩ => ⟨S4224x2048, .f32⟩
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel5.lean ====
abbrev S4224x2048 : Shape := ⟨2, ![4224, 2048]⟩
abbrev S2048x2048 : Shape := ⟨2, ![2048, 2048]⟩
abbrev S4x1x512x2048 : Shape := ⟨4, ![4, 1, 512, 2048]⟩
abbrev S1408x2048 : Shape := ⟨2, ![1408, 2048]⟩
abbrev S1x1x512x2048 : Shape := ⟨4, ![1, 1, 512, 2048]⟩
abbrev S1408x512 : Shape := ⟨2, ![1408, 512]⟩
abbrev S512x2048 : Shape := ⟨2, ![512, 2048]⟩

abbrev nBuf : Space → Nat
  | .hbm => 6
  | .vmem => 6
  | .smem => 0
  | _ => 0

abbrev bufTy : (tb : Table) → Fin (tcTables nBuf tb) → BufTy
  | .hbm, ⟨0, _⟩ => ⟨S4224x2048, .f32⟩
  | .hbm, ⟨1, _⟩ => ⟨S2048x2048, .f32⟩
  | .hbm, ⟨2, _⟩ => ⟨S4224x2048, .bf16⟩
  | .hbm, ⟨3, _⟩ => ⟨S4x1x512x2048, .f32⟩
  | .hbm, ⟨4, _⟩ => ⟨S4x1x512x2048, .bf16⟩
  | .hbm, ⟨5, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1408x512, .f32⟩
  | .local _ .vmem, ⟨5, _⟩ => ⟨S1408x512, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4224x2048 : Shape := ⟨2, ![4224, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x2048, .f32⟩
  | .hbm, ⟨2, _⟩ => ⟨S_, .f32⟩
  | .hbm, ⟨3, _⟩ => ⟨S4224x2048, .f32⟩
  | .hbm, ⟨4, _⟩ => ⟨S4224x2048, .f32⟩
  | .hbm, ⟨5, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S4224x2048 : Shape := ⟨2, ![4224, 2048]⟩
abbrev S4x512x2048 : Shape := ⟨3, ![4, 512, 2048]⟩
abbrev S1408x512 : Shape := ⟨2, ![1408, 512]⟩
abbrev S1408x1024 : Shape := ⟨2, ![1408, 1024]⟩
abbrev S1x512x1024 : Shape := ⟨3, ![1, 512, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .bf16⟩
  | .hbm, ⟨3, _⟩ => ⟨S4224x2048, .bf16⟩
  | .hbm, ⟨4, _⟩ => ⟨S4x512x2048, .bf16⟩
  | .local _ .vmem, ⟨0, _⟩ => ⟨S1408x512, .bf16⟩
  | .local _ .vmem, ⟨1, _⟩ => ⟨S1408x512, .bf16⟩
  | .local _ .vmem, ⟨2, _⟩ => ⟨S1408x1024, .bf16⟩
  | .local _ .vmem, ⟨3, _⟩ => ⟨S1408x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4224x2048 : Shape := ⟨2, ![4224, 2048]⟩
abbrev S_ : Shape := ⟨0, ![]⟩
abbrev S2048x2048 : Shape := ⟨2, ![2048, 2048]⟩
abbrev S4x512x2048 : Shape := ⟨3, ![4, 512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S_, .f32⟩
  | .hbm, ⟨3, _⟩ => ⟨S2048x2048, .f32⟩
  | .hbm, ⟨4, _⟩ => ⟨S4224x2048, .f32⟩
  | .hbm, ⟨5, _⟩ => ⟨S2048x2048, .f32⟩
  | .hbm, ⟨6, _⟩ => ⟨S2048x2048, .f32⟩
  | .hbm, ⟨7, _⟩ => ⟨S4x512x2048, .f32⟩
  | .hbm, ⟨8, _⟩ => ⟨S4x512x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4224x4608 : Shape := ⟨2, ![4224, 4608]⟩
abbrev S2048x4608 : Shape := ⟨2, ![2048, 4608]⟩
abbrev S2048x4x1152 : Shape := ⟨3, ![2048, 4, 1152]⟩
abbrev S4x2048x1152 : Shape := ⟨3, ![4, 2048, 1152]⟩
abbrev S4x1x2048x1152 : Shape := ⟨4, ![4, 1, 2048, 1152]⟩
abbrev S4224x2048 : Shape := ⟨2, ![4224, 2048]⟩
abbrev S1408x1152 : Shape := ⟨2, ![1408, 1152]⟩
abbrev S1x1x2048x1152 : Shape := ⟨4, ![1, 1, 2048, 1152]⟩
abbrev S1408x2048 : Shape := ⟨2, ![1408, 2048]⟩
abbrev S2048x1152 : Shape := ⟨2, ![2048, 1152]⟩

abbrev nBuf : Space → Nat
  | .hbm => 8
  | .vmem => 6
  | .smem => 0
  | _ => 0

abbrev bufTy : (tb : Table) → Fin (tcTables nBuf tb) → BufTy
  | .hbm, ⟨0, _⟩ => ⟨S4224x4608, .f32⟩
  | .hbm, ⟨1, _⟩ => ⟨S2048x4608, .f32⟩
  | .hbm, ⟨2, _⟩ => ⟨S4224x4608, .bf16⟩
  | .hbm, ⟨3, _⟩ => ⟨S2048x4x1152, .f32⟩
  | .hbm, ⟨4, _⟩ => ⟨S4x2048x1152, .f32⟩
  | .hbm, ⟨5, _⟩ => ⟨S4x1x2048x1152, .f32⟩
  | .hbm, ⟨6, _⟩ => ⟨S4x1x2048x1152, .bf16⟩
  | .hbm, ⟨7, _⟩ => ⟨S4224x2048, .f32⟩
  | .local _ .vmem, ⟨0, _⟩ => ⟨S1408x1152, .bf16⟩
  | .local _ .vmem, ⟨1, _⟩ => ⟨S1408x1152, .bf16⟩
  | .local _ .vmem, ⟨2, _⟩ => ⟨S1x1x2048x1152, .bf16⟩
  | .local _ .vmem, ⟨3, _⟩ => ⟨S1x1x2048x1152, .bf16⟩
  | .local _ .vmem, ⟨4, _⟩ => ⟨S1408x2048, .f32⟩
  | .local _ .vmem, ⟨5, _⟩ => ⟨S1408x2048, .f32⟩
  | _, _ => ⟨S4224x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32_6 : BitVec 32 := 0#32
  let v8 : BitVec 1 := Scalar.cmpi .ne arg1 c0_i32_6
  let v9 : BitVec 32 := Scalar.extui v8
  let c0_i32_7 : BitVec 32 := 0#32
  let v10 : BitVec 1 := Scalar.cmpi .ne v9 c0_i32_7
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1408x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S4224x4608 : Shape := ⟨2, ![4224, 4608]⟩
abbrev S2048x4608 : Shape := ⟨2, ![2048, 4608]⟩
abbrev S_ : Shape := ⟨0, ![]⟩
abbrev S4224x2048 : Shape := ⟨2, ![4224, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4224x4608, .f32⟩
  | .hbm, ⟨1, _⟩ => ⟨S2048x4608, .f32⟩
  | .hbm, ⟨2, _⟩ => ⟨S_, .f32⟩
  | .hbm, ⟨3, _⟩ => ⟨S4224x2048, .f32⟩
  | .hbm, ⟨4, _⟩ => ⟨S4224x4608, .f32⟩
  | .hbm, ⟨5, _⟩ => ⟨S4224x2048, .f32⟩
  | _, _ => ⟨S4224x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S4224x2048 : Shape := ⟨2, ![4224, 2048]⟩
abbrev S4224x4608 : Shape := ⟨2, ![4224, 4608]⟩
abbrev S4x2048x1152 : Shape := ⟨3, ![4, 2048, 1152]⟩
abbrev S1408x1024 : Shape := ⟨2, ![1408, 1024]⟩
abbrev S1408x1152 : Shape := ⟨2, ![1408, 1152]⟩
abbrev S1x1024x1152 : Shape := ⟨3, ![1, 1024, 1152]⟩
abbrev S1024x1152 : Shape := ⟨2, ![1024, 1152]⟩

abbrev nBuf : Space → Nat
  | .hbm => 5
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S4224x4608, .f32⟩
  | .hbm, ⟨2, _⟩ => ⟨S4224x2048, .bf16⟩
  | .hbm, ⟨3, _⟩ => ⟨S4224x4608, .bf16⟩
  | .hbm, ⟨4, _⟩ => ⟨S4x2048x1152, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1152, .bf16⟩
  | .local _ .vmem, ⟨3, _⟩ => ⟨S1408x1152, .bf16⟩
  | .local _ .vmem, ⟨4, _⟩ => ⟨S1x1024x1152, .bf16⟩
  | .local _ .vmem, ⟨5, _⟩ => ⟨S1x1024x1152, .bf16⟩
  | .local _ .vmem, ⟨6, _⟩ => ⟨S1024x1152, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4224x2048 : Shape := ⟨2, ![4224, 2048]⟩
abbrev S4224x4608 : Shape := ⟨2, ![4224, 4608]⟩
abbrev S_ : Shape := ⟨0, ![]⟩
abbrev S2048x4608 : Shape := ⟨2, ![2048, 4608]⟩
abbrev S4608x2048 : Shape := ⟨2, ![4608, 2048]⟩
abbrev S2048x4x1152 : Shape := ⟨3, ![2048, 4, 1152]⟩
abbrev S4x2048x1152 : Shape := ⟨3, ![4, 2048, 1152]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x4608, .f32⟩
  | .hbm, ⟨2, _⟩ => ⟨S_, .f32⟩
  | .hbm, ⟨3, _⟩ => ⟨S2048x4608, .f32⟩
  | .hbm, ⟨4, _⟩ => ⟨S4224x4608, .f32⟩
  | .hbm, ⟨5, _⟩ => ⟨S4608x2048, .f32⟩
  | .hbm, ⟨6, _⟩ => ⟨S2048x4608, .f32⟩
  | .hbm, ⟨7, _⟩ => ⟨S2048x4x1152, .f32⟩
  | .hbm, ⟨8, _⟩ => ⟨S4x2048x1152, .f32⟩
  | .hbm, ⟨9, _⟩ => ⟨S4x2048x1152, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4224x2048 : Shape := ⟨2, ![4224, 2048]⟩
abbrev S2048x4608 : Shape := ⟨2, ![2048, 4608]⟩
abbrev S2048x4x1152 : Shape := ⟨3, ![2048, 4, 1152]⟩
abbrev S4x2048x1152 : Shape := ⟨3, ![4, 2048, 1152]⟩
abbrev S4x1x2048x1152 : Shape := ⟨4, ![4, 1, 2048, 1152]⟩
abbrev S4224x4608 : Shape := ⟨2, ![4224, 4608]⟩
abbrev S1408x2048 : Shape := ⟨2, ![1408, 2048]⟩
abbrev S1x1x2048x1152 : Shape := ⟨4, ![1, 1, 2048, 1152]⟩
abbrev S1408x1152 : Shape := ⟨2, ![1408, 1152]⟩
abbrev S2048x1152 : Shape := ⟨2, ![2048, 1152]⟩

abbrev nBuf : Space → Nat
  | .hbm => 8
  | .vmem => 6
  | .smem => 0
  | _ => 0

abbrev bufTy : (tb : Table) → Fin (tcTables nBuf tb) → BufTy
  | .hbm, ⟨0, _⟩ => ⟨S4224x2048, .f32⟩
  | .hbm, ⟨1, _⟩ => ⟨S2048x4608, .f32⟩
  | .hbm, ⟨2, _⟩ => ⟨S4224x2048, .bf16⟩
  | .hbm, ⟨3, _⟩ => ⟨S2048x4x1152, .f32⟩
  | .hbm, ⟨4, _⟩ => ⟨S4x2048x1152, .f32⟩
  | .hbm, ⟨5, _⟩ => ⟨S4x1x2048x1152, .f32⟩
  | .hbm, ⟨6, _⟩ => ⟨S4x1x2048x1152, .bf16⟩
  | .hbm, ⟨7, _⟩ => ⟨S4224x4608, .f32⟩
  | .local _ .vmem, ⟨0, _⟩ => ⟨S1408x2048, .bf16⟩
  | .local _ .vmem, ⟨1, _⟩ => ⟨S1408x2048, .bf16⟩
  | .local _ .vmem, ⟨2, _⟩ => ⟨S1x1x2048x1152, .bf16⟩
  | .local _ .vmem, ⟨3, _⟩ => ⟨S1x1x2048x1152, .bf16⟩
  | .local _ .vmem, ⟨4, _⟩ => ⟨S1408x1152, .f32⟩
  | .local _ .vmem, ⟨5, _⟩ => ⟨S1408x1152, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4224x2048 : Shape := ⟨2, ![4224, 2048]⟩
abbrev S2048x4608 : Shape := ⟨2, ![2048, 4608]⟩
abbrev S4224x4608 : Shape := ⟨2, ![4224, 4608]⟩

abbrev nBuf : Space → Nat
  | .hbm => 3
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x4608, .f32⟩
  | .hbm, ⟨2, _⟩ => ⟨S4224x4608, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S4224x2048 : Shape := ⟨2, ![4224, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S4x1x2048x1408 : Shape := ⟨4, ![4, 1, 2048, 1408]⟩
abbrev S4224x5632 : Shape := ⟨2, ![4224, 5632]⟩
abbrev S1408x2048 : Shape := ⟨2, ![1408, 2048]⟩
abbrev S1x1x2048x1408 : Shape := ⟨4, ![1, 1, 2048, 1408]⟩
abbrev S1408x1408 : Shape := ⟨2, ![1408, 1408]⟩
abbrev S2048x1408 : Shape := ⟨2, ![2048, 1408]⟩

abbrev nBuf : Space → Nat
  | .hbm => 8
  | .vmem => 6
  | .smem => 0
  | _ => 0

abbrev bufTy : (tb : Table) → Fin (tcTables nBuf tb) → BufTy
  | .hbm, ⟨0, _⟩ => ⟨S4224x2048, .f32⟩
  | .hbm, ⟨1, _⟩ => ⟨S2048x5632, .f32⟩
  | .hbm, ⟨2, _⟩ => ⟨S4224x2048, .bf16⟩
  | .hbm, ⟨3, _⟩ => ⟨S2048x4x1408, .f32⟩
  | .hbm, ⟨4, _⟩ => ⟨S4x2048x1408, .f32⟩
  | .hbm, ⟨5, _⟩ => ⟨S4x1x2048x1408, .f32⟩
  | .hbm, ⟨6, _⟩ => ⟨S4x1x2048x1408, .bf16⟩
  | .hbm, ⟨7, _⟩ => ⟨S4224x5632, .f32⟩
  | .local _ .vmem, ⟨0, _⟩ => ⟨S1408x2048, .bf16⟩
  | .local _ .vmem, ⟨1, _⟩ => ⟨S1408x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1408x1408, .f32⟩
  | .local _ .vmem, ⟨5, _⟩ => ⟨S1408x1408, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4224x2048 : Shape := ⟨2, ![4224, 2048]⟩
abbrev S2048x5632 : Shape := ⟨2, ![2048, 5632]⟩
abbrev S4224x5632 : Shape := ⟨2, ![4224, 5632]⟩

abbrev nBuf : Space → Nat
  | .hbm => 3
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x5632, .f32⟩
  | .hbm, ⟨2, _⟩ => ⟨S4224x5632, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S4224x2048 : Shape := ⟨2, ![4224, 2048]⟩
abbrev S2048x5632 : Shape := ⟨2, ![2048, 5632]⟩
abbrev S4224x5632 : Shape := ⟨2, ![4224, 5632]⟩
abbrev S2048x4x1408 : Shape := ⟨3, ![2048, 4, 1408]⟩
abbrev S4x2048x1408 : Shape := ⟨3, ![4, 2048, 1408]⟩
abbrev S4x1x2048x1408 : Shape := ⟨4, ![4, 1, 2048, 1408]⟩
abbrev S704x2048 : Shape := ⟨2, ![704, 2048]⟩
abbrev S1x1x2048x1408 : Shape := ⟨4, ![1, 1, 2048, 1408]⟩
abbrev S704x1408 : Shape := ⟨2, ![704, 1408]⟩
abbrev S2048x1408 : Shape := ⟨2, ![2048, 1408]⟩

abbrev nBuf : Space → Nat
  | .hbm => 11
  | .vmem => 10
  | .smem => 0
  | _ => 0

abbrev bufTy : (tb : Table) → Fin (tcTables nBuf tb) → BufTy
  | .hbm, ⟨0, _⟩ => ⟨S4224x2048, .f32⟩
  | .hbm, ⟨1, _⟩ => ⟨S2048x5632, .f32⟩
  | .hbm, ⟨2, _⟩ => ⟨S2048x5632, .f32⟩
  | .hbm, ⟨3, _⟩ => ⟨S4224x5632, .f32⟩
  | .hbm, ⟨4, _⟩ => ⟨S4224x2048, .bf16⟩
  | .hbm, ⟨5, _⟩ => ⟨S2048x4x1408, .f32⟩
  | .hbm, ⟨6, _⟩ => ⟨S4x2048x1408, .f32⟩
  | .hbm, ⟨7, _⟩ => ⟨S4x1x2048x1408, .f32⟩
  | .hbm, ⟨8, _⟩ => ⟨S4x1x2048x1408, .bf16⟩
  | .hbm, ⟨9, _⟩ => ⟨S4224x5632, .f32⟩
  | .hbm, ⟨10, _⟩ => ⟨S4224x5632, .bf16⟩
  | .local _ .vmem, ⟨0, _⟩ => ⟨S704x2048, .bf16⟩
  | .local _ .vmem, ⟨1, _⟩ => ⟨S704x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S704x1408, .f32⟩
  | .local _ .vmem, ⟨5, _⟩ => ⟨S704x1408, .f32⟩
  | .local _ .vmem, ⟨6, _⟩ => ⟨S704x1408, .f32⟩
  | .local _ .vmem, ⟨7, _⟩ => ⟨S704x1408, .f32⟩
  | .local _ .vmem, ⟨8, _⟩ => ⟨S704x1408, .bf16⟩
  | .local _ .vmem, ⟨9, _⟩ => ⟨S704x1408, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S704x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S704x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S704x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S4224x2048 : Shape := ⟨2, ![4224, 2048]⟩
abbrev S2048x5632 : Shape := ⟨2, ![2048, 5632]⟩
abbrev S4224x5632 : Shape := ⟨2, ![4224, 5632]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x5632, .f32⟩
  | .hbm, ⟨2, _⟩ => ⟨S2048x5632, .f32⟩
  | .hbm, ⟨3, _⟩ => ⟨S4224x5632, .f32⟩
  | .hbm, ⟨4, _⟩ => ⟨S4224x5632, .f32⟩
  | .hbm, ⟨5, _⟩ => ⟨S4224x5632, .f32⟩
  | .hbm, ⟨6, _⟩ => ⟨S4224x5632, .f32⟩
  | .hbm, ⟨7, _⟩ => ⟨S_, .f32⟩
  | .hbm, ⟨8, _⟩ => ⟨S4224x5632, .f32⟩
  | .hbm, ⟨9, _⟩ => ⟨S4224x5632, .f32⟩
  | .hbm, ⟨10, _⟩ => ⟨S_, .f32⟩
  | .hbm, ⟨11, _⟩ => ⟨S4224x5632, .f32⟩
  | .hbm, ⟨12, _⟩ => ⟨S4224x5632, .f32⟩
  | .hbm, ⟨13, _⟩ => ⟨S4224x5632, .f32⟩
  | .hbm, ⟨14, _⟩ => ⟨S4224x5632, .f32⟩
  | .hbm, ⟨15, _⟩ => ⟨S4224x5632, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel12.lean ====
abbrev S4224x5632 : Shape := ⟨2, ![4224, 5632]⟩
abbrev S5632x2048 : Shape := ⟨2, ![5632, 2048]⟩
abbrev S4x1x1408x2048 : Shape := ⟨4, ![4, 1, 1408, 2048]⟩
abbrev S4224x2048 : Shape := ⟨2, ![4224, 2048]⟩
abbrev S1408x1408 : Shape := ⟨2, ![1408, 1408]⟩
abbrev S1x1x1408x2048 : Shape := ⟨4, ![1, 1, 1408, 2048]⟩
abbrev S1408x2048 : Shape := ⟨2, ![1408, 2048]⟩

abbrev nBuf : Space → Nat
  | .hbm => 6
  | .vmem => 6
  | .smem => 0
  | _ => 0

abbrev bufTy : (tb : Table) → Fin (tcTables nBuf tb) → BufTy
  | .hbm, ⟨0, _⟩ => ⟨S4224x5632, .f32⟩
  | .hbm, ⟨1, _⟩ => ⟨S5632x2048, .f32⟩
  | .hbm, ⟨2, _⟩ => ⟨S4224x5632, .bf16⟩
  | .hbm, ⟨3, _⟩ => ⟨S4x1x1408x2048, .f32⟩
  | .hbm, ⟨4, _⟩ => ⟨S4x1x1408x2048, .bf16⟩
  | .hbm, ⟨5, _⟩ => ⟨S4224x2048, .f32⟩
  | .local _ .vmem, ⟨0, _⟩ => ⟨S1408x1408, .bf16⟩
  | .local _ .vmem, ⟨1, _⟩ => ⟨S1408x1408, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S1408x2048, .f32⟩
  | .local _ .vmem, ⟨5, _⟩ => ⟨S1408x2048, .f32⟩
  | _, _ => ⟨S4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32_6 : BitVec 32 := 0#32
  let v8 : BitVec 1 := Scalar.cmpi .ne arg1 c0_i32_6
  let v9 : BitVec 32 := Scalar.extui v8
  let c0_i32_7 : BitVec 32 := 0#32
  let v10 : BitVec 1 := Scalar.cmpi .ne v9 c0_i32_7
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference12Ideal.lean ====
abbrev S4224x5632 : Shape := ⟨2, ![4224, 5632]⟩
abbrev S5632x2048 : Shape := ⟨2, ![5632, 2048]⟩
abbrev S4224x2048 : Shape := ⟨2, ![4224, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4224x5632, .f32⟩
  | .hbm, ⟨1, _⟩ => ⟨S5632x2048, .f32⟩
  | .hbm, ⟨2, _⟩ => ⟨S4224x2048, .f32⟩
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S4224x2048 : Shape := ⟨2, ![4224, 2048]⟩
abbrev S2048x2048 : Shape := ⟨2, ![2048, 2048]⟩
abbrev S4x1x512x2048 : Shape := ⟨4, ![4, 1, 512, 2048]⟩
abbrev S1408x512 : Shape := ⟨2, ![1408, 512]⟩
abbrev S1x1x512x2048 : Shape := ⟨4, ![1, 1, 512, 2048]⟩
abbrev S1408x2048 : Shape := ⟨2, ![1408, 2048]⟩
abbrev S512x2048 : Shape := ⟨2, ![512, 2048]⟩

abbrev nBuf : Space → Nat
  | .hbm => 6
  | .vmem => 6
  | .smem => 0
  | _ => 0

abbrev bufTy : (tb : Table) → Fin (tcTables nBuf tb) → BufTy
  | .hbm, ⟨0, _⟩ => ⟨S4224x2048, .f32⟩
  | .hbm, ⟨1, _⟩ => ⟨S2048x2048, .f32⟩
  | .hbm, ⟨2, _⟩ => ⟨S4224x2048, .bf16⟩
  | .hbm, ⟨3, _⟩ => ⟨S4x1x512x2048, .f32⟩
  | .hbm, ⟨4, _⟩ => ⟨S4x1x512x2048, .bf16⟩
  | .hbm, ⟨5, _⟩ => ⟨S4224x2048, .f32⟩
  | .local _ .vmem, ⟨0, _⟩ => ⟨S1408x512, .bf16⟩
  | .local _ .vmem, ⟨1, _⟩ => ⟨S1408x512, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1408x2048, .f32⟩
  | .local _ .vmem, ⟨5, _⟩ => ⟨S1408x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32_6 : BitVec 32 := 0#32
  let v8 : BitVec 1 := Scalar.cmpi .ne arg1 c0_i32_6
  let v9 : BitVec 32 := Scalar.extui v8
  let c0_i32_7 : BitVec 32 := 0#32
  let v10 : BitVec 1 := Scalar.cmpi .ne v9 c0_i32_7
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference13Ideal.lean ====
abbrev S4224x2048 : Shape := ⟨2, ![4224, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x2048, .f32⟩
  | .hbm, ⟨2, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S2x2048x1152 : Shape := ⟨3, ![2, 2048, 1152]⟩
abbrev S1x128x1152 : Shape := ⟨3, ![1, 128, 1152]⟩
abbrev S128x1152 : Shape := ⟨2, ![128, 1152]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x1152, .f32⟩
  | .hbm, ⟨1, _⟩ => ⟨S2x2048x1152, .f32⟩
  | .hbm, ⟨2, _⟩ => ⟨S2x2048x1152, .f32⟩
  | .hbm, ⟨3, _⟩ => ⟨S2x2048x1152, .f32⟩
  | .hbm, ⟨4, _⟩ => ⟨S2x2048x1152, .f32⟩
  | .hbm, ⟨5, _⟩ => ⟨S2x2048x1152, .f32⟩
  | .hbm, ⟨6, _⟩ => ⟨S2x2048x1152, .f32⟩
  | .hbm, ⟨7, _⟩ => ⟨S2x2048x1152, .f32⟩
  | .hbm, ⟨8, _⟩ => ⟨S2x2048x1152, .f32⟩
  | .local _ .vmem, ⟨0, _⟩ => ⟨S1x128x1152, .f32⟩
  | .local _ .vmem, ⟨1, _⟩ => ⟨S1x128x1152, .f32⟩
  | .local _ .vmem, ⟨2, _⟩ => ⟨S1x128x1152, .f32⟩
  | .local _ .vmem, ⟨3, _⟩ => ⟨S1x128x1152, .f32⟩
  | .local _ .vmem, ⟨4, _⟩ => ⟨S1x128x1152, .f32⟩
  | .local _ .vmem, ⟨5, _⟩ => ⟨S1x128x1152, .f32⟩
  | .local _ .vmem, ⟨6, _⟩ => ⟨S1x128x1152, .f32⟩
  | .local _ .vmem, ⟨7, _⟩ => ⟨S1x128x1152, .f32⟩
  | .local _ .vmem, ⟨8, _⟩ => ⟨S1x128x1152, .f32⟩
  | .local _ .vmem, ⟨9, _⟩ => ⟨S1x128x1152, .f32⟩
  | .local _ .vmem, ⟨10, _⟩ => ⟨S1x128x1152, .f32⟩
  | .local _ .vmem, ⟨11, _⟩ => ⟨S1x128x1152, .f32⟩
  | .local _ .vmem, ⟨12, _⟩ => ⟨S1x128x1152, .f32⟩
  | .local _ .vmem, ⟨13, _⟩ => ⟨S1x128x1152, .f32⟩
  | .local _ .vmem, ⟨14, _⟩ => ⟨S1x128x1152, .f32⟩
  | .local _ .vmem, ⟨15, _⟩ => ⟨S1x128x1152, .f32⟩
  | .local _ .vmem, ⟨16, _⟩ => ⟨S1x128x1152, .f32⟩
  | .local _ .vmem, ⟨17, _⟩ => ⟨S1x128x1152, .f32⟩
  | _, _ => ⟨S2x2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference16Ideal.lean ====
abbrev S2x2048x1152 : Shape := ⟨3, ![2, 2048, 1152]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x1152, .f32⟩
  | .hbm, ⟨1, _⟩ => ⟨S2x2048x1152, .f32⟩
  | .hbm, ⟨2, _⟩ => ⟨S2x2048x1152, .f32⟩
  | .hbm, ⟨3, _⟩ => ⟨S2x2048x1152, .f32⟩
  | .hbm, ⟨4, _⟩ => ⟨S2x2048x1152, .f32⟩
  | .hbm, ⟨5, _⟩ => ⟨S2x2048x1152, .f32⟩
  | .hbm, ⟨6, _⟩ => ⟨S_, .f32⟩
  | .hbm, ⟨7, _⟩ => ⟨S2x2048x1152, .f32⟩
  | .hbm, ⟨8, _⟩ => ⟨S2x2048x1152, .f32⟩
  | .hbm, ⟨9, _⟩ => ⟨S_, .f32⟩
  | .hbm, ⟨10, _⟩ => ⟨S2x2048x1152, .f32⟩
  | .hbm, ⟨11, _⟩ => ⟨S2x2048x1152, .f32⟩
  | .hbm, ⟨12, _⟩ => ⟨S2x2048x1152, .f32⟩
  | .hbm, ⟨13, _⟩ => ⟨S_, .f32⟩
  | .hbm, ⟨14, _⟩ => ⟨S2x2048x1152, .f32⟩
  | .hbm, ⟨15, _⟩ => ⟨S2x2048x1152, .f32⟩
  | .hbm, ⟨16, _⟩ => ⟨S2x2048x1152, .f32⟩
  | .hbm, ⟨17, _⟩ => ⟨S_, .f32⟩
  | .hbm, ⟨18, _⟩ => ⟨S2x2048x1152, .f32⟩
  | .hbm, ⟨19, _⟩ => ⟨S2x2048x1152, .f32⟩
  | .hbm, ⟨20, _⟩ => ⟨S2x2048x1152, .f32⟩
  | .hbm, ⟨21, _⟩ => ⟨S_, .f32⟩
  | .hbm, ⟨22, _⟩ => ⟨S2x2048x1152, .f32⟩
  | .hbm, ⟨23, _⟩ => ⟨S2x2048x1152, .f32⟩
  | .hbm, ⟨24, _⟩ => ⟨S_, .f32⟩
  | .hbm, ⟨25, _⟩ => ⟨S2x2048x1152, .f32⟩
  | .hbm, ⟨26, _⟩ => ⟨S2x2048x1152, .f32⟩
  | .hbm, ⟨27, _⟩ => ⟨S2x2048x1152, .f32⟩
  | .hbm, ⟨28, _⟩ => ⟨S_, .f32⟩
  | .hbm, ⟨29, _⟩ => ⟨S2x2048x1152, .f32⟩
  | .hbm, ⟨30, _⟩ => ⟨S2x2048x1152, .f32⟩
  | .hbm, ⟨31, _⟩ => ⟨S2x2048x1152, .f32⟩
  | .hbm, ⟨32, _⟩ => ⟨S_, .f32⟩
  | .hbm, ⟨33, _⟩ => ⟨S2x2048x1152, .f32⟩
  | .hbm, ⟨34, _⟩ => ⟨S2x2048x1152, .f32⟩
  | .hbm, ⟨35, _⟩ => ⟨S2x2048x1152, .f32⟩
  | .hbm, ⟨36, _⟩ => ⟨S_, .f32⟩
  | .hbm, ⟨37, _⟩ => ⟨S2x2048x1152, .f32⟩
  | .hbm, ⟨38, _⟩ => ⟨S2x2048x1152, .f32⟩
  | _, _ => ⟨S2x2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel17.lean ====
abbrev S2x512x2048 : Shape := ⟨3, ![2, 512, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S2x512x2048 : Shape := ⟨3, ![2, 512, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S_, .f32⟩
  | .hbm, ⟨7, _⟩ => ⟨S2x512x2048, .f32⟩
  | .hbm, ⟨8, _⟩ => ⟨S2x512x2048, .f32⟩
  | .hbm, ⟨9, _⟩ => ⟨S_, .f32⟩
  | .hbm, ⟨10, _⟩ => ⟨S2x512x2048, .f32⟩
  | .hbm, ⟨11, _⟩ => ⟨S2x512x2048, .f32⟩
  | .hbm, ⟨12, _⟩ => ⟨S2x512x2048, .f32⟩
  | .hbm, ⟨13, _⟩ => ⟨S_, .f32⟩
  | .hbm, ⟨14, _⟩ => ⟨S2x512x2048, .f32⟩
  | .hbm, ⟨15, _⟩ => ⟨S2x512x2048, .f32⟩
  | .hbm, ⟨16, _⟩ => ⟨S2x512x2048, .f32⟩
  | .hbm, ⟨17, _⟩ => ⟨S_, .f32⟩
  | .hbm, ⟨18, _⟩ => ⟨S2x512x2048, .f32⟩
  | .hbm, ⟨19, _⟩ => ⟨S2x512x2048, .f32⟩
  | .hbm, ⟨20, _⟩ => ⟨S2x512x2048, .f32⟩
  | .hbm, ⟨21, _⟩ => ⟨S_, .f32⟩
  | .hbm, ⟨22, _⟩ => ⟨S2x512x2048, .f32⟩
  | .hbm, ⟨23, _⟩ => ⟨S2x512x2048, .f32⟩
  | .hbm, ⟨24, _⟩ => ⟨S_, .f32⟩
  | .hbm, ⟨25, _⟩ => ⟨S2x512x2048, .f32⟩
  | .hbm, ⟨26, _⟩ => ⟨S2x512x2048, .f32⟩
  | .hbm, ⟨27, _⟩ => ⟨S2x512x2048, .f32⟩
  | .hbm, ⟨28, _⟩ => ⟨S_, .f32⟩
  | .hbm, ⟨29, _⟩ => ⟨S2x512x2048, .f32⟩
  | .hbm, ⟨30, _⟩ => ⟨S2x512x2048, .f32⟩
  | .hbm, ⟨31, _⟩ => ⟨S2x512x2048, .f32⟩
  | .hbm, ⟨32, _⟩ => ⟨S_, .f32⟩
  | .hbm, ⟨33, _⟩ => ⟨S2x512x2048, .f32⟩
  | .hbm, ⟨34, _⟩ => ⟨S2x512x2048, .f32⟩
  | .hbm, ⟨35, _⟩ => ⟨S2x512x2048, .f32⟩
  | .hbm, ⟨36, _⟩ => ⟨S_, .f32⟩
  | .hbm, ⟨37, _⟩ => ⟨S2x512x2048, .f32⟩
  | .hbm, ⟨38, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel18.lean ====
abbrev S2x2048x1408 : Shape := ⟨3, ![2, 2048, 1408]⟩
abbrev S1x128x1408 : Shape := ⟨3, ![1, 128, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | _, _ => ⟨S2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference18Ideal.lean ====
abbrev S2x2048x1408 : Shape := ⟨3, ![2, 2048, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S_, .f32⟩
  | .hbm, ⟨7, _⟩ => ⟨S2x2048x1408, .f32⟩
  | .hbm, ⟨8, _⟩ => ⟨S2x2048x1408, .f32⟩
  | .hbm, ⟨9, _⟩ => ⟨S_, .f32⟩
  | .hbm, ⟨10, _⟩ => ⟨S2x2048x1408, .f32⟩
  | .hbm, ⟨11, _⟩ => ⟨S2x2048x1408, .f32⟩
  | .hbm, ⟨12, _⟩ => ⟨S2x2048x1408, .f32⟩
  | .hbm, ⟨13, _⟩ => ⟨S_, .f32⟩
  | .hbm, ⟨14, _⟩ => ⟨S2x2048x1408, .f32⟩
  | .hbm, ⟨15, _⟩ => ⟨S2x2048x1408, .f32⟩
  | .hbm, ⟨16, _⟩ => ⟨S2x2048x1408, .f32⟩
  | .hbm, ⟨17, _⟩ => ⟨S_, .f32⟩
  | .hbm, ⟨18, _⟩ => ⟨S2x2048x1408, .f32⟩
  | .hbm, ⟨19, _⟩ => ⟨S2x2048x1408, .f32⟩
  | .hbm, ⟨20, _⟩ => ⟨S2x2048x1408, .f32⟩
  | .hbm, ⟨21, _⟩ => ⟨S_, .f32⟩
  | .hbm, ⟨22, _⟩ => ⟨S2x2048x1408, .f32⟩
  | .hbm, ⟨23, _⟩ => ⟨S2x2048x1408, .f32⟩
  | .hbm, ⟨24, _⟩ => ⟨S_, .f32⟩
  | .hbm, ⟨25, _⟩ => ⟨S2x2048x1408, .f32⟩
  | .hbm, ⟨26, _⟩ => ⟨S2x2048x1408, .f32⟩
  | .hbm, ⟨27, _⟩ => ⟨S2x2048x1408, .f32⟩
  | .hbm, ⟨28, _⟩ => ⟨S_, .f32⟩
  | .hbm, ⟨29, _⟩ => ⟨S2x2048x1408, .f32⟩
  | .hbm, ⟨30, _⟩ => ⟨S2x2048x1408, .f32⟩
  | .hbm, ⟨31, _⟩ => ⟨S2x2048x1408, .f32⟩
  | .hbm, ⟨32, _⟩ => ⟨S_, .f32⟩
  | .hbm, ⟨33, _⟩ => ⟨S2x2048x1408, .f32⟩
  | .hbm, ⟨34, _⟩ => ⟨S2x2048x1408, .f32⟩
  | .hbm, ⟨35, _⟩ => ⟨S2x2048x1408, .f32⟩
  | .hbm, ⟨36, _⟩ => ⟨S_, .f32⟩
  | .hbm, ⟨37, _⟩ => ⟨S2x2048x1408, .f32⟩
  | .hbm, ⟨38, _⟩ => ⟨S2x2048x1408, .f32⟩
  | _, _ => ⟨S2x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S2x1408x2048 : Shape := ⟨3, ![2, 1408, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S2x1408x2048 : Shape := ⟨3, ![2, 1408, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S_, .f32⟩
  | .hbm, ⟨7, _⟩ => ⟨S2x1408x2048, .f32⟩
  | .hbm, ⟨8, _⟩ => ⟨S2x1408x2048, .f32⟩
  | .hbm, ⟨9, _⟩ => ⟨S_, .f32⟩
  | .hbm, ⟨10, _⟩ => ⟨S2x1408x2048, .f32⟩
  | .hbm, ⟨11, _⟩ => ⟨S2x1408x2048, .f32⟩
  | .hbm, ⟨12, _⟩ => ⟨S2x1408x2048, .f32⟩
  | .hbm, ⟨13, _⟩ => ⟨S_, .f32⟩
  | .hbm, ⟨14, _⟩ => ⟨S2x1408x2048, .f32⟩
  | .hbm, ⟨15, _⟩ => ⟨S2x1408x2048, .f32⟩
  | .hbm, ⟨16, _⟩ => ⟨S2x1408x2048, .f32⟩
  | .hbm, ⟨17, _⟩ => ⟨S_, .f32⟩
  | .hbm, ⟨18, _⟩ => ⟨S2x1408x2048, .f32⟩
  | .hbm, ⟨19, _⟩ => ⟨S2x1408x2048, .f32⟩
  | .hbm, ⟨20, _⟩ => ⟨S2x1408x2048, .f32⟩
  | .hbm, ⟨21, _⟩ => ⟨S_, .f32⟩
  | .hbm, ⟨22, _⟩ => ⟨S2x1408x2048, .f32⟩
  | .hbm, ⟨23, _⟩ => ⟨S2x1408x2048, .f32⟩
  | .hbm, ⟨24, _⟩ => ⟨S_, .f32⟩
  | .hbm, ⟨25, _⟩ => ⟨S2x1408x2048, .f32⟩
  | .hbm, ⟨26, _⟩ => ⟨S2x1408x2048, .f32⟩
  | .hbm, ⟨27, _⟩ => ⟨S2x1408x2048, .f32⟩
  | .hbm, ⟨28, _⟩ => ⟨S_, .f32⟩
  | .hbm, ⟨29, _⟩ => ⟨S2x1408x2048, .f32⟩
  | .hbm, ⟨30, _⟩ => ⟨S2x1408x2048, .f32⟩
  | .hbm, ⟨31, _⟩ => ⟨S2x1408x2048, .f32⟩
  | .hbm, ⟨32, _⟩ => ⟨S_, .f32⟩
  | .hbm, ⟨33, _⟩ => ⟨S2x1408x2048, .f32⟩
  | .hbm, ⟨34, _⟩ => ⟨S2x1408x2048, .f32⟩
  | .hbm, ⟨35, _⟩ => ⟨S2x1408x2048, .f32⟩
  | .hbm, ⟨36, _⟩ => ⟨S_, .f32⟩
  | .hbm, ⟨37, _⟩ => ⟨S2x1408x2048, .f32⟩
  | .hbm, ⟨38, _⟩ => ⟨S2x1408x2048, .f32⟩
  | _, _ => ⟨S2x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel20.lean ====
abbrev S2x128x512 : Shape := ⟨3, ![2, 128, 512]⟩
abbrev S1x128x512 : Shape := ⟨3, ![1, 128, 512]⟩
abbrev S128x512 : Shape := ⟨2, ![128, 512]⟩

abbrev nBuf : Space → Nat
  | .hbm => 9
  | .vmem => 18
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S2x128x512, .f32⟩
  | .hbm, ⟨5, _⟩ => ⟨S2x128x512, .f32⟩
  | .hbm, ⟨6, _⟩ => ⟨S2x128x512, .f32⟩
  | .hbm, ⟨7, _⟩ => ⟨S2x128x512, .f32⟩
  | .hbm, ⟨8, _⟩ => ⟨S2x128x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference20Ideal.lean ====
abbrev S2x128x512 : Shape := ⟨3, ![2, 128, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S2x128x512, .f32⟩
  | .hbm, ⟨5, _⟩ => ⟨S2x128x512, .f32⟩
  | .hbm, ⟨6, _⟩ => ⟨S_, .f32⟩
  | .hbm, ⟨7, _⟩ => ⟨S2x128x512, .f32⟩
  | .hbm, ⟨8, _⟩ => ⟨S2x128x512, .f32⟩
  | .hbm, ⟨9, _⟩ => ⟨S_, .f32⟩
  | .hbm, ⟨10, _⟩ => ⟨S2x128x512, .f32⟩
  | .hbm, ⟨11, _⟩ => ⟨S2x128x512, .f32⟩
  | .hbm, ⟨12, _⟩ => ⟨S2x128x512, .f32⟩
  | .hbm, ⟨13, _⟩ => ⟨S_, .f32⟩
  | .hbm, ⟨14, _⟩ => ⟨S2x128x512, .f32⟩
  | .hbm, ⟨15, _⟩ => ⟨S2x128x512, .f32⟩
  | .hbm, ⟨16, _⟩ => ⟨S2x128x512, .f32⟩
  | .hbm, ⟨17, _⟩ => ⟨S_, .f32⟩
  | .hbm, ⟨18, _⟩ => ⟨S2x128x512, .f32⟩
  | .hbm, ⟨19, _⟩ => ⟨S2x128x512, .f32⟩
  | .hbm, ⟨20, _⟩ => ⟨S2x128x512, .f32⟩
  | .hbm, ⟨21, _⟩ => ⟨S_, .f32⟩
  | .hbm, ⟨22, _⟩ => ⟨S2x128x512, .f32⟩
  | .hbm, ⟨23, _⟩ => ⟨S2x128x512, .f32⟩
  | .hbm, ⟨24, _⟩ => ⟨S_, .f32⟩
  | .hbm, ⟨25, _⟩ => ⟨S2x128x512, .f32⟩
  | .hbm, ⟨26, _⟩ => ⟨S2x128x512, .f32⟩
  | .hbm, ⟨27, _⟩ => ⟨S2x128x512, .f32⟩
  | .hbm, ⟨28, _⟩ => ⟨S_, .f32⟩
  | .hbm, ⟨29, _⟩ => ⟨S2x128x512, .f32⟩
  | .hbm, ⟨30, _⟩ => ⟨S2x128x512, .f32⟩
  | .hbm, ⟨31, _⟩ => ⟨S2x128x512, .f32⟩
  | .hbm, ⟨32, _⟩ => ⟨S_, .f32⟩
  | .hbm, ⟨33, _⟩ => ⟨S2x128x512, .f32⟩
  | .hbm, ⟨34, _⟩ => ⟨S2x128x512, .f32⟩
  | .hbm, ⟨35, _⟩ => ⟨S2x128x512, .f32⟩
  | .hbm, ⟨36, _⟩ => ⟨S_, .f32⟩
  | .hbm, ⟨37, _⟩ => ⟨S2x128x512, .f32⟩
  | .hbm, ⟨38, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S4224x2048 : Shape := ⟨2, ![4224, 2048]⟩
abbrev S1x2048 : Shape := ⟨2, ![1, 2048]⟩
abbrev S384x2048 : Shape := ⟨2, ![384, 2048]⟩
abbrev S384 : Shape := ⟨1, ![384]⟩
abbrev S384x1 : Shape := ⟨2, ![384, 1]⟩

abbrev nBuf : Space → Nat
  | .hbm => 3
  | .vmem => 5
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .bf16⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S384x2048, .bf16⟩
  | .local _ .vmem, ⟨4, _⟩ => ⟨S384x2048, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩

abbrev nBuf : Space → Nat
  | .hbm => 18
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1, .f32⟩
  | .hbm, ⟨13, _⟩ => ⟨S4224x2048, .f32⟩
  | .hbm, ⟨14, _⟩ => ⟨S4224x2048, .f32⟩
  | .hbm, ⟨15, _⟩ => ⟨S4224x2048, .f32⟩
  | .hbm, ⟨16, _⟩ => ⟨S4224x2048, .f32⟩
  | .hbm, ⟨17, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel22.lean ====
abbrev S4224x2048 : Shape := ⟨2, ![4224, 2048]⟩
abbrev S1x2048 : Shape := ⟨2, ![1, 2048]⟩
abbrev S384x2048 : Shape := ⟨2, ![384, 2048]⟩
abbrev S384 : Shape := ⟨1, ![384]⟩
abbrev S384x1 : Shape := ⟨2, ![384, 1]⟩

abbrev nBuf : Space → Nat
  | .hbm => 6
  | .vmem => 10
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S1x2048, .f32⟩
  | .hbm, ⟨3, _⟩ => ⟨S1x2048, .f32⟩
  | .hbm, ⟨4, _⟩ => ⟨S4224x2048, .f32⟩
  | .hbm, ⟨5, _⟩ => ⟨S4224x2048, .bf16⟩
  | .local _ .vmem, ⟨0, _⟩ => ⟨S384x2048, .f32⟩
  | .local _ .vmem, ⟨1, _⟩ => ⟨S384x2048, .f32⟩
  | .local _ .vmem, ⟨2, _⟩ => ⟨S384x2048, .f32⟩
  | .local _ .vmem, ⟨3, _⟩ => ⟨S384x2048, .f32⟩
  | .local _ .vmem, ⟨4, _⟩ => ⟨S1x2048, .f32⟩
  | .local _ .vmem, ⟨5, _⟩ => ⟨S1x2048, .f32⟩
  | .local _ .vmem, ⟨6, _⟩ => ⟨S384x2048, .f32⟩
  | .local _ .vmem, ⟨7, _⟩ => ⟨S384x2048, .f32⟩
  | .local _ .vmem, ⟨8, _⟩ => ⟨S384x2048, .bf16⟩
  | .local _ .vmem, ⟨9, _⟩ => ⟨S384x2048, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference22Ideal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩

abbrev nBuf : Space → Nat
  | .hbm => 36
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S1x2048, .f32⟩
  | .hbm, ⟨3, _⟩ => ⟨S1x2048, .f32⟩
  | .hbm, ⟨4, _⟩ => ⟨S4224x2048, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x2048, .f32⟩
  | .hbm, ⟨16, _⟩ => ⟨S4224x2048, .f32⟩
  | .hbm, ⟨17, _⟩ => ⟨S4224x2048, .f32⟩
  | .hbm, ⟨18, _⟩ => ⟨S4224x2048, .f32⟩
  | .hbm, ⟨19, _⟩ => ⟨S4224x2048, .f32⟩
  | .hbm, ⟨20, _⟩ => ⟨S4224x2048, .f32⟩
  | .hbm, ⟨21, _⟩ => ⟨S_, .f32⟩
  | .hbm, ⟨22, _⟩ => ⟨S4224, .f32⟩
  | .hbm, ⟨23, _⟩ => ⟨S4224x1, .f32⟩
  | .hbm, ⟨24, _⟩ => ⟨S_, .f32⟩
  | .hbm, ⟨25, _⟩ => ⟨S4224x1, .f32⟩
  | .hbm, ⟨26, _⟩ => ⟨S4224x1, .f32⟩
  | .hbm, ⟨27, _⟩ => ⟨S_, .f32⟩
  | .hbm, ⟨28, _⟩ => ⟨S4224x1, .f32⟩
  | .hbm, ⟨29, _⟩ => ⟨S4224x1, .f32⟩
  | .hbm, ⟨30, _⟩ => ⟨S4224x1, .f32⟩
  | .hbm, ⟨31, _⟩ => ⟨S4224x2048, .f32⟩
  | .hbm, ⟨32, _⟩ => ⟨S4224x2048, .f32⟩
  | .hbm, ⟨33, _⟩ => ⟨S4224x2048, .f32⟩
  | .hbm, ⟨34, _⟩ => ⟨S4224x2048, .f32⟩
  | .hbm, ⟨35, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel23.lean ====
abbrev S4224x2048 : Shape := ⟨2, ![4224, 2048]⟩
abbrev S1x2048 : Shape := ⟨2, ![1, 2048]⟩
abbrev S384x2048 : Shape := ⟨2, ![384, 2048]⟩
abbrev S384 : Shape := ⟨1, ![384]⟩
abbrev S384x1 : Shape := ⟨2, ![384, 1]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S1x2048, .f32⟩
  | .hbm, ⟨3, _⟩ => ⟨S4224x2048, .bf16⟩
  | .hbm, ⟨4, _⟩ => ⟨S1x2048, .f32⟩
  | .local _ .vmem, ⟨0, _⟩ => ⟨S384x2048, .f32⟩
  | .local _ .vmem, ⟨1, _⟩ => ⟨S384x2048, .f32⟩
  | .local _ .vmem, ⟨2, _⟩ => ⟨S384x2048, .f32⟩
  | .local _ .vmem, ⟨3, _⟩ => ⟨S384x2048, .f32⟩
  | .local _ .vmem, ⟨4, _⟩ => ⟨S1x2048, .f32⟩
  | .local _ .vmem, ⟨5, _⟩ => ⟨S384x2048, .bf16⟩
  | .local _ .vmem, ⟨6, _⟩ => ⟨S384x2048, .bf16⟩
  | .local _ .vmem, ⟨7, _⟩ => ⟨S1x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference23Ideal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩
abbrev S2048 : Shape := ⟨1, ![2048]⟩

abbrev nBuf : Space → Nat
  | .hbm => 46
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S1x2048, .f32⟩
  | .hbm, ⟨3, _⟩ => ⟨S4224x2048, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S4224x2048, .f32⟩
  | .hbm, ⟨19, _⟩ => ⟨S4224x2048, .f32⟩
  | .hbm, ⟨20, _⟩ => ⟨S4224x2048, .f32⟩
  | .hbm, ⟨21, _⟩ => ⟨S4224x2048, .f32⟩
  | .hbm, ⟨22, _⟩ => ⟨S4224x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S4224x2048, .f32⟩
  | .hbm, ⟨27, _⟩ => ⟨S4224x2048, .f32⟩
  | .hbm, ⟨28, _⟩ => ⟨S4224x2048, .f32⟩
  | .hbm, ⟨29, _⟩ => ⟨S_, .f32⟩
  | .hbm, ⟨30, _⟩ => ⟨S4224, .f32⟩
  | .hbm, ⟨31, _⟩ => ⟨S4224x1, .f32⟩
  | .hbm, ⟨32, _⟩ => ⟨S4224x2048, .f32⟩
  | .hbm, ⟨33, _⟩ => ⟨S4224x2048, .f32⟩
  | .hbm, ⟨34, _⟩ => ⟨S4224x1, .f32⟩
  | .hbm, ⟨35, _⟩ => ⟨S_, .f32⟩
  | .hbm, ⟨36, _⟩ => ⟨S4224x1, .f32⟩
  | .hbm, ⟨37, _⟩ => ⟨S4224x1, .f32⟩
  | .hbm, ⟨38, _⟩ => ⟨S_, .f32⟩
  | .hbm, ⟨39, _⟩ => ⟨S4224, .f32⟩
  | .hbm, ⟨40, _⟩ => ⟨S4224x2048, .f32⟩
  | .hbm, ⟨41, _⟩ => ⟨S4224x2048, .f32⟩
  | .hbm, ⟨42, _⟩ => ⟨S4224x2048, .f32⟩
  | .hbm, ⟨43, _⟩ => ⟨S4224x2048, .f32⟩
  | .hbm, ⟨44, _⟩ => ⟨S4224x2048, .f32⟩
  | .hbm, ⟨45, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel24.lean ====
abbrev S4224x2048 : Shape := ⟨2, ![4224, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .f32⟩
  | .hbm, ⟨3, _⟩ => ⟨S4224x2048, .f32⟩
  | .hbm, ⟨4, _⟩ => ⟨S1x2048, .f32⟩
  | .hbm, ⟨5, _⟩ => ⟨S1x2048, .f32⟩
  | .hbm, ⟨6, _⟩ => ⟨S4224x2048, .f32⟩
  | .hbm, ⟨7, _⟩ => ⟨S4224x2048, .bf16⟩
  | .hbm, ⟨8, _⟩ => ⟨S1x2048, .f32⟩
  | .hbm, ⟨9, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | .local _ .vmem, ⟨9, _⟩ => ⟨S1x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .bf16⟩
  | .local _ .vmem, ⟨13, _⟩ => ⟨S128x2048, .bf16⟩
  | .local _ .vmem, ⟨14, _⟩ => ⟨S1x2048, .f32⟩
  | .local _ .vmem, ⟨15, _⟩ => ⟨S1x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference24Ideal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩
abbrev S2048 : Shape := ⟨1, ![2048]⟩

abbrev nBuf : Space → Nat
  | .hbm => 92
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .f32⟩
  | .hbm, ⟨3, _⟩ => ⟨S4224x2048, .f32⟩
  | .hbm, ⟨4, _⟩ => ⟨S1x2048, .f32⟩
  | .hbm, ⟨5, _⟩ => ⟨S1x2048, .f32⟩
  | .hbm, ⟨6, _⟩ => ⟨S4224x2048, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1, .f32⟩
  | .hbm, ⟨18, _⟩ => ⟨S_, .f32⟩
  | .hbm, ⟨19, _⟩ => ⟨S4224x1, .f32⟩
  | .hbm, ⟨20, _⟩ => ⟨S4224x1, .f32⟩
  | .hbm, ⟨21, _⟩ => ⟨S4224x2048, .f32⟩
  | .hbm, ⟨22, _⟩ => ⟨S4224x2048, .f32⟩
  | .hbm, ⟨23, _⟩ => ⟨S4224x2048, .f32⟩
  | .hbm, ⟨24, _⟩ => ⟨S4224x2048, .f32⟩
  | .hbm, ⟨25, _⟩ => ⟨S4224x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4224x2048, .f32⟩
  | .hbm, ⟨30, _⟩ => ⟨S4224x2048, .f32⟩
  | .hbm, ⟨31, _⟩ => ⟨S4224x2048, .f32⟩
  | .hbm, ⟨32, _⟩ => ⟨S_, .f32⟩
  | .hbm, ⟨33, _⟩ => ⟨S4224, .f32⟩
  | .hbm, ⟨34, _⟩ => ⟨S4224x1, .f32⟩
  | .hbm, ⟨35, _⟩ => ⟨S4224x2048, .f32⟩
  | .hbm, ⟨36, _⟩ => ⟨S4224x2048, .f32⟩
  | .hbm, ⟨37, _⟩ => ⟨S4224x1, .f32⟩
  | .hbm, ⟨38, _⟩ => ⟨S_, .f32⟩
  | .hbm, ⟨39, _⟩ => ⟨S4224x1, .f32⟩
  | .hbm, ⟨40, _⟩ => ⟨S4224x1, .f32⟩
  | .hbm, ⟨41, _⟩ => ⟨S_, .f32⟩
  | .hbm, ⟨42, _⟩ => ⟨S4224, .f32⟩
  | .hbm, ⟨43, _⟩ => ⟨S4224x2048, .f32⟩
  | .hbm, ⟨44, _⟩ => ⟨S4224x2048, .f32⟩
  | .hbm, ⟨45, _⟩ => ⟨S4224x2048, .f32⟩
  | .hbm, ⟨46, _⟩ => ⟨S4224x2048, .f32⟩
  | .hbm, ⟨47, _⟩ => ⟨S4224x2048, .f32⟩
  | .hbm, ⟨48, _⟩ => ⟨S4224x2048, .f32⟩
  | .hbm, ⟨49, _⟩ => ⟨S4224x2048, .f32⟩
  | .hbm, ⟨50, _⟩ => ⟨S_, .f32⟩
  | .hbm, ⟨51, _⟩ => ⟨S4224, .f32⟩
  | .hbm, ⟨52, _⟩ => ⟨S4224x1, .f32⟩
  | .hbm, ⟨53, _⟩ => ⟨S_, .f32⟩
  | .hbm, ⟨54, _⟩ => ⟨S4224x1, .f32⟩
  | .hbm, ⟨55, _⟩ => ⟨S4224x1, .f32⟩
  | .hbm, ⟨56, _⟩ => ⟨S_, .f32⟩
  | .hbm, ⟨57, _⟩ => ⟨S4224x1, .f32⟩
  | .hbm, ⟨58, _⟩ => ⟨S4224x1, .f32⟩
  | .hbm, ⟨59, _⟩ => ⟨S4224x1, .f32⟩
  | .hbm, ⟨60, _⟩ => ⟨S4224x1, .f32⟩
  | .hbm, ⟨61, _⟩ => ⟨S_, .f32⟩
  | .hbm, ⟨62, _⟩ => ⟨S4224x1, .f32⟩
  | .hbm, ⟨63, _⟩ => ⟨S4224x1, .f32⟩
  | .hbm, ⟨64, _⟩ => ⟨S4224x2048, .f32⟩
  | .hbm, ⟨65, _⟩ => ⟨S4224x2048, .f32⟩
  | .hbm, ⟨66, _⟩ => ⟨S4224x2048, .f32⟩
  | .hbm, ⟨67, _⟩ => ⟨S4224x2048, .f32⟩
  | .hbm, ⟨68, _⟩ => ⟨S4224x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S4224x2048, .f32⟩
  | .hbm, ⟨73, _⟩ => ⟨S4224x2048, .f32⟩
  | .hbm, ⟨74, _⟩ => ⟨S4224x2048, .f32⟩
  | .hbm, ⟨75, _⟩ => ⟨S_, .f32⟩
  | .hbm, ⟨76, _⟩ => ⟨S4224, .f32⟩
  | .hbm, ⟨77, _⟩ => ⟨S4224x1, .f32⟩
  | .hbm, ⟨78, _⟩ => ⟨S4224x2048, .f32⟩
  | .hbm, ⟨79, _⟩ => ⟨S4224x2048, .f32⟩
  | .hbm, ⟨80, _⟩ => ⟨S4224x1, .f32⟩
  | .hbm, ⟨81, _⟩ => ⟨S_, .f32⟩
  | .hbm, ⟨82, _⟩ => ⟨S4224x1, .f32⟩
  | .hbm, ⟨83, _⟩ => ⟨S4224x1, .f32⟩
  | .hbm, ⟨84, _⟩ => ⟨S_, .f32⟩
  | .hbm, ⟨85, _⟩ => ⟨S4224, .f32⟩
  | .hbm, ⟨86, _⟩ => ⟨S4224x2048, .f32⟩
  | .hbm, ⟨87, _⟩ => ⟨S4224x2048, .f32⟩
  | .hbm, ⟨88, _⟩ => ⟨S4224x2048, .f32⟩
  | .hbm, ⟨89, _⟩ => ⟨S4224x2048, .f32⟩
  | .hbm, ⟨90, _⟩ => ⟨S4224x2048, .f32⟩
  | .hbm, ⟨91, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== Kernel25.lean ====
abbrev S4224x1024 : Shape := ⟨2, ![4224, 1024]⟩
abbrev S4224x512 : Shape := ⟨2, ![4224, 512]⟩
abbrev S1x2048 : Shape := ⟨2, ![1, 2048]⟩
abbrev S1x1024 : Shape := ⟨2, ![1, 1024]⟩
abbrev S1x512 : Shape := ⟨2, ![1, 512]⟩
abbrev S4224x2048 : Shape := ⟨2, ![4224, 2048]⟩
abbrev S384x1024 : Shape := ⟨2, ![384, 1024]⟩
abbrev S384x512 : Shape := ⟨2, ![384, 512]⟩
abbrev S384x2048 : Shape := ⟨2, ![384, 2048]⟩
abbrev S384 : Shape := ⟨1, ![384]⟩
abbrev S384x1 : Shape := ⟨2, ![384, 1]⟩

abbrev nBuf : Space → Nat
  | .hbm => 8
  | .vmem => 11
  | .smem => 0
  | _ => 0

abbrev bufTy : (tb : Table) → Fin (tcTables nBuf tb) → BufTy
  | .hbm, ⟨0, _⟩ => ⟨S4224x1024, .f32⟩
  | .hbm, ⟨1, _⟩ => ⟨S4224x512, .f32⟩
  | .hbm, ⟨2, _⟩ => ⟨S4224x512, .f32⟩
  | .hbm, ⟨3, _⟩ => ⟨S1x2048, .f32⟩
  | .hbm, ⟨4, _⟩ => ⟨S1x1024, .f32⟩
  | .hbm, ⟨5, _⟩ => ⟨S1x512, .f32⟩
  | .hbm, ⟨6, _⟩ => ⟨S1x512, .f32⟩
  | .hbm, ⟨7, _⟩ => ⟨S4224x2048, .bf16⟩
  | .local _ .vmem, ⟨0, _⟩ => ⟨S384x1024, .f32⟩
  | .local _ .vmem, ⟨1, _⟩ => ⟨S384x1024, .f32⟩
  | .local _ .vmem, ⟨2, _⟩ => ⟨S384x512, .f32⟩
  | .local _ .vmem, ⟨3, _⟩ => ⟨S384x512, .f32⟩
  | .local _ .vmem, ⟨4, _⟩ => ⟨S384x512, .f32⟩
  | .local _ .vmem, ⟨5, _⟩ => ⟨S384x512, .f32⟩
  | .local _ .vmem, ⟨6, _⟩ => ⟨S1x1024, .f32⟩
  | .local _ .vmem, ⟨7, _⟩ => ⟨S1x512, .f32⟩
  | .local _ .vmem, ⟨8, _⟩ => ⟨S1x512, .f32⟩
  | .local _ .vmem, ⟨9, _⟩ => ⟨S384x2048, .bf16⟩
  | .local _ .vmem, ⟨10, _⟩ => ⟨S384x2048, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S4224x1024 : Shape := ⟨2, ![4224, 1024]⟩
abbrev S4224x512 : Shape := ⟨2, ![4224, 512]⟩
abbrev S1x2048 : Shape := ⟨2, ![1, 2048]⟩
abbrev S1x1024 : Shape := ⟨2, ![1, 1024]⟩
abbrev S_ : Shape := ⟨0, ![]⟩
abbrev S4224 : Shape := ⟨1, ![4224]⟩
abbrev S4224x1 : Shape := ⟨2, ![4224, 1]⟩
abbrev S1x512 : Shape := ⟨2, ![1, 512]⟩
abbrev S4224x2048 : Shape := ⟨2, ![4224, 2048]⟩

abbrev nBuf : Space → Nat
  | .hbm => 54
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x512, .f32⟩
  | .hbm, ⟨2, _⟩ => ⟨S4224x512, .f32⟩
  | .hbm, ⟨3, _⟩ => ⟨S1x2048, .f32⟩
  | .hbm, ⟨4, _⟩ => ⟨S1x1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1024, .f32⟩
  | .hbm, ⟨17, _⟩ => ⟨S4224x1024, .f32⟩
  | .hbm, ⟨18, _⟩ => ⟨S4224x1024, .f32⟩
  | .hbm, ⟨19, _⟩ => ⟨S4224x1024, .f32⟩
  | .hbm, ⟨20, _⟩ => ⟨S1x512, .f32⟩
  | .hbm, ⟨21, _⟩ => ⟨S4224x512, .f32⟩
  | .hbm, ⟨22, _⟩ => ⟨S_, .f32⟩
  | .hbm, ⟨23, _⟩ => ⟨S4224, .f32⟩
  | .hbm, ⟨24, _⟩ => ⟨S4224x1, .f32⟩
  | .hbm, ⟨25, _⟩ => ⟨S_, .f32⟩
  | .hbm, ⟨26, _⟩ => ⟨S4224x1, .f32⟩
  | .hbm, ⟨27, _⟩ => ⟨S4224x1, .f32⟩
  | .hbm, ⟨28, _⟩ => ⟨S_, .f32⟩
  | .hbm, ⟨29, _⟩ => ⟨S4224x1, .f32⟩
  | .hbm, ⟨30, _⟩ => ⟨S4224x1, .f32⟩
  | .hbm, ⟨31, _⟩ => ⟨S4224x1, .f32⟩
  | .hbm, ⟨32, _⟩ => ⟨S4224x512, .f32⟩
  | .hbm, ⟨33, _⟩ => ⟨S4224x512, .f32⟩
  | .hbm, ⟨34, _⟩ => ⟨S4224x512, .f32⟩
  | .hbm, ⟨35, _⟩ => ⟨S4224x512, .f32⟩
  | .hbm, ⟨36, _⟩ => ⟨S1x512, .f32⟩
  | .hbm, ⟨37, _⟩ => ⟨S4224x512, .f32⟩
  | .hbm, ⟨38, _⟩ => ⟨S_, .f32⟩
  | .hbm, ⟨39, _⟩ => ⟨S4224, .f32⟩
  | .hbm, ⟨40, _⟩ => ⟨S4224x1, .f32⟩
  | .hbm, ⟨41, _⟩ => ⟨S_, .f32⟩
  | .hbm, ⟨42, _⟩ => ⟨S4224x1, .f32⟩
  | .hbm, ⟨43, _⟩ => ⟨S4224x1, .f32⟩
  | .hbm, ⟨44, _⟩ => ⟨S_, .f32⟩
  | .hbm, ⟨45, _⟩ => ⟨S4224x1, .f32⟩
  | .hbm, ⟨46, _⟩ => ⟨S4224x1, .f32⟩
  | .hbm, ⟨47, _⟩ => ⟨S4224x1, .f32⟩
  | .hbm, ⟨48, _⟩ => ⟨S4224x512, .f32⟩
  | .hbm, ⟨49, _⟩ => ⟨S4224x512, .f32⟩
  | .hbm, ⟨50, _⟩ => ⟨S4224x512, .f32⟩
  | .hbm, ⟨51, _⟩ => ⟨S4224x512, .f32⟩
  | .hbm, ⟨52, _⟩ => ⟨S4224x2048, .f32⟩
  | .hbm, ⟨53, _⟩ => ⟨S4224x2048, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel26.lean ====
abbrev S4224x1024 : Shape := ⟨2, ![4224, 1024]⟩
abbrev S4224x512 : Shape := ⟨2, ![4224, 512]⟩
abbrev S4224x2048 : Shape := ⟨2, ![4224, 2048]⟩
abbrev S1x2048 : Shape := ⟨2, ![1, 2048]⟩
abbrev S1x1024 : Shape := ⟨2, ![1, 1024]⟩
abbrev S1x512 : Shape := ⟨2, ![1, 512]⟩
abbrev S384x1024 : Shape := ⟨2, ![384, 1024]⟩
abbrev S384x512 : Shape := ⟨2, ![384, 512]⟩
abbrev S384x2048 : Shape := ⟨2, ![384, 2048]⟩
abbrev S384 : Shape := ⟨1, ![384]⟩
abbrev S384x1 : Shape := ⟨2, ![384, 1]⟩
abbrev S512 : Shape := ⟨1, ![512]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S4224x1024, .f32⟩
  | .hbm, ⟨1, _⟩ => ⟨S4224x512, .f32⟩
  | .hbm, ⟨2, _⟩ => ⟨S4224x512, .f32⟩
  | .hbm, ⟨3, _⟩ => ⟨S4224x2048, .f32⟩
  | .hbm, ⟨4, _⟩ => ⟨S1x2048, .f32⟩
  | .hbm, ⟨5, _⟩ => ⟨S1x1024, .f32⟩
  | .hbm, ⟨6, _⟩ => ⟨S1x512, .f32⟩
  | .hbm, ⟨7, _⟩ => ⟨S1x512, .f32⟩
  | .hbm, ⟨8, _⟩ => ⟨S4224x1024, .f32⟩
  | .hbm, ⟨9, _⟩ => ⟨S4224x512, .f32⟩
  | .hbm, ⟨10, _⟩ => ⟨S4224x512, .f32⟩
  | .hbm, ⟨11, _⟩ => ⟨S1x1024, .f32⟩
  | .hbm, ⟨12, _⟩ => ⟨S1x512, .f32⟩
  | .hbm, ⟨13, _⟩ => ⟨S1x512, .f32⟩
  | .local _ .vmem, ⟨0, _⟩ => ⟨S384x1024, .f32⟩
  | .local _ .vmem, ⟨1, _⟩ => ⟨S384x1024, .f32⟩
  | .local _ .vmem, ⟨2, _⟩ => ⟨S384x512, .f32⟩
  | .local _ .vmem, ⟨3, _⟩ => ⟨S384x512, .f32⟩
  | .local _ .vmem, ⟨4, _⟩ => ⟨S384x512, .f32⟩
  | .local _ .vmem, ⟨5, _⟩ => ⟨S384x512, .f32⟩
  | .local _ .vmem, ⟨6, _⟩ => ⟨S384x2048, .f32⟩
  | .local _ .vmem, ⟨7, _⟩ => ⟨S384x2048, .f32⟩
  | .local _ .vmem, ⟨8, _⟩ => ⟨S1x1024, .f32⟩
  | .local _ .vmem, ⟨9, _⟩ => ⟨S1x512, .f32⟩
  | .local _ .vmem, ⟨10, _⟩ => ⟨S1x512, .f32⟩
  | .local _ .vmem, ⟨11, _⟩ => ⟨S384x1024, .f32⟩
  | .local _ .vmem, ⟨12, _⟩ => ⟨S384x1024, .f32⟩
  | .local _ .vmem, ⟨13, _⟩ => ⟨S384x512, .f32⟩
  | .local _ .vmem, ⟨14, _⟩ => ⟨S384x512, .f32⟩
  | .local _ .vmem, ⟨15, _⟩ => ⟨S384x512, .f32⟩
  | .local _ .vmem, ⟨16, _⟩ => ⟨S384x512, .f32⟩
  | .local _ .vmem, ⟨17, _⟩ => ⟨S1x1024, .f32⟩
  | .local _ .vmem, ⟨18, _⟩ => ⟨S1x512, .f32⟩
  | .local _ .vmem, ⟨19, _⟩ => ⟨S1x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference26Ideal.lean ====
abbrev S4224x1024 : Shape := ⟨2, ![4224, 1024]⟩
abbrev S4224x512 : Shape := ⟨2, ![4224, 512]⟩
abbrev S4224x2048 : Shape := ⟨2, ![4224, 2048]⟩
abbrev S1x2048 : Shape := ⟨2, ![1, 2048]⟩
abbrev S1x1024 : Shape := ⟨2, ![1, 1024]⟩
abbrev S_ : Shape := ⟨0, ![]⟩
abbrev S4224 : Shape := ⟨1, ![4224]⟩
abbrev S4224x1 : Shape := ⟨2, ![4224, 1]⟩
abbrev S1x512 : Shape := ⟨2, ![1, 512]⟩
abbrev S512 : Shape := ⟨1, ![512]⟩
abbrev S1024 : Shape := ⟨1, ![1024]⟩

abbrev nBuf : Space → Nat
  | .hbm => 149
  | .vmem => 0
  | .smem => 0
  | _ => 0

abbrev hbmTy0_0 (i : Nat) : BufTy := match i % 128 with
  | 0 => ⟨S4224x1024, .f32⟩
  | 1 => ⟨S4224x512, .f32⟩
  | 2 => ⟨S4224x512, .f32⟩
  | 3 => ⟨S4224x2048, .f32⟩
  | 4 => ⟨S1x2048, .f32⟩
  | 5 => ⟨S1x1024, .f32⟩
  | 6 => ⟨S4224x1024, .f32⟩
  | 7 => ⟨S_, .f32⟩
  | 8 => ⟨S4224, .f32⟩
  | 9 => ⟨S4224x1, .f32⟩
  | 10 => ⟨S_, .f32⟩
  | 11 => ⟨S4224x1, .f32⟩
  | 12 => ⟨S4224x1, .f32⟩
  | 13 => ⟨S_, .f32⟩
  | 14 => ⟨S4224x1, .f32⟩
  | 15 => ⟨S4224x1, .f32⟩
  | 16 => ⟨S4224x1, .f32⟩
  | 17 => ⟨S4224x1, .f32⟩
  | 18 => ⟨S_, .f32⟩
  | 19 => ⟨S4224x1, .f32⟩
  | 20 => ⟨S4224x1, .f32⟩
  | 21 => ⟨S4224x1024, .f32⟩
  | 22 => ⟨S4224x1024, .f32⟩
  | 23 => ⟨S4224x1024, .f32⟩
  | 24 => ⟨S4224x1024, .f32⟩
  | 25 => ⟨S1x512, .f32⟩
  | 26 => ⟨S4224x512, .f32⟩
  | 27 => ⟨S_, .f32⟩
  | 28 => ⟨S4224, .f32⟩
  | 29 => ⟨S4224x1, .f32⟩
  | 30 => ⟨S_, .f32⟩
  | 31 => ⟨S4224x1, .f32⟩
  | 32 => ⟨S4224x1, .f32⟩
  | 33 => ⟨S_, .f32⟩
  | 34 => ⟨S4224x1, .f32⟩
  | 35 => ⟨S4224x1, .f32⟩
  | 36 => ⟨S4224x1, .f32⟩
  | 37 => ⟨S4224x1, .f32⟩
  | 38 => ⟨S_, .f32⟩
  | 39 => ⟨S4224x1, .f32⟩
  | 40 => ⟨S4224x1, .f32⟩
  | 41 => ⟨S4224x512, .f32⟩
  | 42 => ⟨S4224x512, .f32⟩
  | 43 => ⟨S4224x512, .f32⟩
  | 44 => ⟨S4224x512, .f32⟩
  | 45 => ⟨S1x512, .f32⟩
  | 46 => ⟨S4224x512, .f32⟩
  | 47 => ⟨S_, .f32⟩
  | 48 => ⟨S4224, .f32⟩
  | 49 => ⟨S4224x1, .f32⟩
  | 50 => ⟨S_, .f32⟩
  | 51 => ⟨S4224x1, .f32⟩
  | 52 => ⟨S4224x1, .f32⟩
  | 53 => ⟨S_, .f32⟩
  | 54 => ⟨S4224x1, .f32⟩
  | 55 => ⟨S4224x1, .f32⟩
  | 56 => ⟨S4224x1, .f32⟩
  | 57 => ⟨S4224x1, .f32⟩
  | 58 => ⟨S_, .f32⟩
  | 59 => ⟨S4224x1, .f32⟩
  | 60 => ⟨S4224x1, .f32⟩
  | 61 => ⟨S4224x512, .f32⟩
  | 62 => ⟨S4224x512, .f32⟩
  | 63 => ⟨S4224x512, .f32⟩
  | 64 => ⟨S4224x512, .f32⟩
  | 65 => ⟨S4224x2048, .f32⟩
  | 66 => ⟨S4224x1024, .f32⟩
  | 67 => ⟨S4224x512, .f32⟩
  | 68 => ⟨S4224x512, .f32⟩
  | 69 => ⟨S4224x512, .f32⟩
  | 70 => ⟨S_, .f32⟩
  | 71 => ⟨S512, .f32⟩
  | 72 => ⟨S1x512, .f32⟩
  | 73 => ⟨S4224x512, .f32⟩
  | 74 => ⟨S4224x512, .f32⟩
  | 75 => ⟨S4224x512, .f32⟩
  | 76 => ⟨S_, .f32⟩
  | 77 => ⟨S4224, .f32⟩
  | 78 => ⟨S4224x1, .f32⟩
  | 79 => ⟨S4224x512, .f32⟩
  | 80 => ⟨S4224x512, .f32⟩
  | 81 => ⟨S4224x1, .f32⟩
  | 82 => ⟨S_, .f32⟩
  | 83 => ⟨S4224x1, .f32⟩
  | 84 => ⟨S4224x1, .f32⟩
  | 85 => ⟨S_, .f32⟩
  | 86 => ⟨S4224, .f32⟩
  | 87 => ⟨S4224x512, .f32⟩
  | 88 => ⟨S4224x512, .f32⟩
  | 89 => ⟨S4224x512, .f32⟩
  | 90 => ⟨S4224x512, .f32⟩
  | 91 => ⟨S4224x512, .f32⟩
  | 92 => ⟨S_, .f32⟩
  | 93 => ⟨S1x2048, .f32⟩
  | 94 => ⟨S4224x512, .f32⟩
  | 95 => ⟨S_, .f32⟩
  | 96 => ⟨S512, .f32⟩
  | 97 => ⟨S1x512, .f32⟩
  | 98 => ⟨S4224x512, .f32⟩
  | 99 => ⟨S4224x512, .f32⟩
  | 100 => ⟨S4224x512, .f32⟩
  | 101 => ⟨S_, .f32⟩
  | 102 => ⟨S4224, .f32⟩
  | 103 => ⟨S4224x1, .f32⟩
  | 104 => ⟨S4224x512, .f32⟩
  | 105 => ⟨S4224x512, .f32⟩
  | 106 => ⟨S4224x1, .f32⟩
  | 107 => ⟨S_, .f32⟩
  | 108 => ⟨S4224x1, .f32⟩
  | 109 => ⟨S4224x1, .f32⟩
  | 110 => ⟨S_, .f32⟩
  | 111 => ⟨S4224, .f32⟩
  | 112 => ⟨S4224x512, .f32⟩
  | 113 => ⟨S4224x512, .f32⟩
  | 114 => ⟨S4224x512, .f32⟩
  | 115 => ⟨S4224x512, .f32⟩
  | 116 => ⟨S4224x512, .f32⟩
  | 117 => ⟨S_, .f32⟩
  | 118 => ⟨S1x2048, .f32⟩
  | 119 => ⟨S1x2048, .f32⟩
  | 120 => ⟨S4224x1024, .f32⟩
  | 121 => ⟨S_, .f32⟩
  | 122 => ⟨S1024, .f32⟩
  | 123 => ⟨S1x1024, .f32⟩
  | 124 => ⟨S4224x1024, .f32⟩
  | 125 => ⟨S4224x1024, .f32⟩
  | 126 => ⟨S4224x1024, .f32⟩
  | 127 => ⟨S_, .f32⟩
  | _ => ⟨S4224x1024, .f32⟩

abbrev hbmTy0_1 (i : Nat) : BufTy := match i % 128 with
  | 0 => ⟨S4224, .f32⟩
  | 1 => ⟨S4224x1, .f32⟩
  | 2 => ⟨S4224x1024, .f32⟩
  | 3 => ⟨S4224x1024, .f32⟩
  | 4 => ⟨S4224x1, .f32⟩
  | 5 => ⟨S_, .f32⟩
  | 6 => ⟨S4224x1, .f32⟩
  | 7 => ⟨S4224x1, .f32⟩
  | 8 => ⟨S_, .f32⟩
  | 9 => ⟨S4224, .f32⟩
  | 10 => ⟨S4224x1024, .f32⟩
  | 11 => ⟨S4224x1024, .f32⟩
  | 12 => ⟨S4224x1024, .f32⟩
  | 13 => ⟨S4224x1024, .f32⟩
  | 14 => ⟨S4224x1024, .f32⟩
  | 15 => ⟨S_, .f32⟩
  | 16 => ⟨S1x2048, .f32⟩
  | 17 => ⟨S1x2048, .f32⟩
  | 18 => ⟨S1x1024, .f32⟩
  | 19 => ⟨S1x512, .f32⟩
  | 20 => ⟨S1x512, .f32⟩
  | _ => ⟨S4224x1024, .f32⟩

abbrev hbmTy (i : Nat) : BufTy := match i / 128 with
  | 0 => hbmTy0_0 i
  | 1 => hbmTy0_1 i
  | _ => ⟨S4224x1024, .f32⟩

abbrev bufTy : (tb : Table) → Fin (tcTables nBuf tb) → BufTy
  | .hbm, ⟨i, _⟩ => hbmTy i
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_13 : Ref sig .tc := ⟨.hbm, 82, rfl⟩
abbrev main_v63 : Ref sig .tc := ⟨.hbm, 83, rfl⟩
abbrev main_v64 : Ref sig .tc := ⟨.hbm, 84, rfl⟩
abbrev main_cst_14 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_15 : Ref sig .tc := ⟨.hbm, 92, rfl⟩
abbrev main_v71 : Ref sig .tc := ⟨.hbm, 93, rfl⟩
abbrev main_v72 : Ref sig .tc := ⟨.hbm, 94, rfl⟩
abbrev main_cst_16 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_17 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_18 : Ref sig .tc := ⟨.hbm, 107, rfl⟩
abbrev main_v83 : Ref sig .tc := ⟨.hbm, 108, rfl⟩
abbrev main_v84 : Ref sig .tc := ⟨.hbm, 109, rfl⟩
abbrev main_cst_19 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_20 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_21 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_22 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_23 : Ref sig .tc := ⟨.hbm, 133, rfl⟩
abbrev main_v104 : Ref sig .tc := ⟨.hbm, 134, rfl⟩
abbrev main_v105 : Ref sig .tc := ⟨.hbm, 135, rfl⟩
abbrev main_cst_24 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_25 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩

abbrev nD : Nat := 1
abbrev τ : Topo := Topo.v7x

variable {F : FTy → Type} [FloatOps F]
-- ==== Kernel27.lean ====
abbrev S4224x2048 : Shape := ⟨2, ![4224, 2048]⟩
abbrev S1x2048 : Shape := ⟨2, ![1, 2048]⟩
abbrev S4096x2048 : Shape := ⟨2, ![4096, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .f32⟩
  | .hbm, ⟨3, _⟩ => ⟨S1x2048, .f32⟩
  | .hbm, ⟨4, _⟩ => ⟨S4096x2048, .f32⟩
  | .hbm, ⟨5, _⟩ => ⟨S1x2048, .f32⟩
  | .hbm, ⟨6, _⟩ => ⟨S128x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x2048, .f32⟩
  | .local _ .vmem, ⟨7, _⟩ => ⟨S128x2048, .f32⟩
  | .local _ .vmem, ⟨8, _⟩ => ⟨S128x2048, .f32⟩
  | .local _ .vmem, ⟨9, _⟩ => ⟨S1x2048, .f32⟩
  | .local _ .vmem, ⟨10, _⟩ => ⟨S128x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference27Ideal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩
abbrev S2048 : Shape := ⟨1, ![2048]⟩
abbrev S4096x2048 : Shape := ⟨2, ![4096, 2048]⟩
abbrev S128x2048 : Shape := ⟨2, ![128, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .f32⟩
  | .hbm, ⟨3, _⟩ => ⟨S1x2048, .f32⟩
  | .hbm, ⟨4, _⟩ => ⟨S4224x2048, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x2048, .f32⟩
  | .hbm, ⟨20, _⟩ => ⟨S4224x2048, .f32⟩
  | .hbm, ⟨21, _⟩ => ⟨S4224x2048, .f32⟩
  | .hbm, ⟨22, _⟩ => ⟨S4224x2048, .f32⟩
  | .hbm, ⟨23, _⟩ => ⟨S4224x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4224x2048, .f32⟩
  | .hbm, ⟨28, _⟩ => ⟨S4224x2048, .f32⟩
  | .hbm, ⟨29, _⟩ => ⟨S4224x2048, .f32⟩
  | .hbm, ⟨30, _⟩ => ⟨S_, .f32⟩
  | .hbm, ⟨31, _⟩ => ⟨S4224, .f32⟩
  | .hbm, ⟨32, _⟩ => ⟨S4224x1, .f32⟩
  | .hbm, ⟨33, _⟩ => ⟨S4224x2048, .f32⟩
  | .hbm, ⟨34, _⟩ => ⟨S4224x2048, .f32⟩
  | .hbm, ⟨35, _⟩ => ⟨S4224x1, .f32⟩
  | .hbm, ⟨36, _⟩ => ⟨S_, .f32⟩
  | .hbm, ⟨37, _⟩ => ⟨S4224x1, .f32⟩
  | .hbm, ⟨38, _⟩ => ⟨S4224x1, .f32⟩
  | .hbm, ⟨39, _⟩ => ⟨S_, .f32⟩
  | .hbm, ⟨40, _⟩ => ⟨S4224, .f32⟩
  | .hbm, ⟨41, _⟩ => ⟨S4224x2048, .f32⟩
  | .hbm, ⟨42, _⟩ => ⟨S4224x2048, .f32⟩
  | .hbm, ⟨43, _⟩ => ⟨S4224x2048, .f32⟩
  | .hbm, ⟨44, _⟩ => ⟨S4224x2048, .f32⟩
  | .hbm, ⟨45, _⟩ => ⟨S4224x2048, .f32⟩
  | .hbm, ⟨46, _⟩ => ⟨S4224x2048, .f32⟩
  | .hbm, ⟨47, _⟩ => ⟨S4096x2048, .f32⟩
  | .hbm, ⟨48, _⟩ => ⟨S128x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel28.lean ====
abbrev S4224x2048 : Shape := ⟨2, ![4224, 2048]⟩
abbrev S1x4096x2048 : Shape := ⟨3, ![1, 4096, 2048]⟩
abbrev S1x2048 : Shape := ⟨2, ![1, 2048]⟩
abbrev S4096x2048 : Shape := ⟨2, ![4096, 2048]⟩
abbrev S8x128 : Shape := ⟨2, ![8, 128]⟩
abbrev S128x2048 : Shape := ⟨2, ![128, 2048]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 7
  | .vmem => 10
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S1x4096x2048, .f32⟩
  | .hbm, ⟨3, _⟩ => ⟨S1x2048, .f32⟩
  | .hbm, ⟨4, _⟩ => ⟨S4096x2048, .f32⟩
  | .hbm, ⟨5, _⟩ => ⟨S4224x2048, .f32⟩
  | .hbm, ⟨6, _⟩ => ⟨S8x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x2048, .f32⟩
  | .local _ .vmem, ⟨7, _⟩ => ⟨S128x2048, .f32⟩
  | .local _ .vmem, ⟨8, _⟩ => ⟨S128x2048, .f32⟩
  | .local _ .vmem, ⟨9, _⟩ => ⟨S8x128, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference28Ideal.lean ====
abbrev S4224x2048 : Shape := ⟨2, ![4224, 2048]⟩
abbrev S1x4096x2048 : Shape := ⟨3, ![1, 4096, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩
abbrev S4096x2048 : Shape := ⟨2, ![4096, 2048]⟩
abbrev S1x4096 : Shape := ⟨2, ![1, 4096]⟩
abbrev S128x2048 : Shape := ⟨2, ![128, 2048]⟩
abbrev S8x128 : Shape := ⟨2, ![8, 128]⟩

abbrev nBuf : Space → Nat
  | .hbm => 50
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S1x4096x2048, .f32⟩
  | .hbm, ⟨3, _⟩ => ⟨S1x2048, .f32⟩
  | .hbm, ⟨4, _⟩ => ⟨S4224x2048, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x2048, .f32⟩
  | .hbm, ⟨16, _⟩ => ⟨S4224x2048, .f32⟩
  | .hbm, ⟨17, _⟩ => ⟨S4224x2048, .f32⟩
  | .hbm, ⟨18, _⟩ => ⟨S4224x2048, .f32⟩
  | .hbm, ⟨19, _⟩ => ⟨S4224x2048, .f32⟩
  | .hbm, ⟨20, _⟩ => ⟨S4096x2048, .f32⟩
  | .hbm, ⟨21, _⟩ => ⟨S1x4096x2048, .f32⟩
  | .hbm, ⟨22, _⟩ => ⟨S1x4096x2048, .f32⟩
  | .hbm, ⟨23, _⟩ => ⟨S1x4096x2048, .f32⟩
  | .hbm, ⟨24, _⟩ => ⟨S_, .f32⟩
  | .hbm, ⟨25, _⟩ => ⟨S1x4096x2048, .f32⟩
  | .hbm, ⟨26, _⟩ => ⟨S1x4096x2048, .f32⟩
  | .hbm, ⟨27, _⟩ => ⟨S_, .f32⟩
  | .hbm, ⟨28, _⟩ => ⟨S1x4096, .f32⟩
  | .hbm, ⟨29, _⟩ => ⟨S_, .f32⟩
  | .hbm, ⟨30, _⟩ => ⟨S1x4096, .f32⟩
  | .hbm, ⟨31, _⟩ => ⟨S1x4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S128x2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x4096, .f32⟩
  | .hbm, ⟨42, _⟩ => ⟨S_, .f32⟩
  | .hbm, ⟨43, _⟩ => ⟨S1x4096, .f32⟩
  | .hbm, ⟨44, _⟩ => ⟨S1x4096, .f32⟩
  | .hbm, ⟨45, _⟩ => ⟨S1x4096x2048, .f32⟩
  | .hbm, ⟨46, _⟩ => ⟨S1x4096x2048, .f32⟩
  | .hbm, ⟨47, _⟩ => ⟨S4096x2048, .f32⟩
  | .hbm, ⟨48, _⟩ => ⟨S4224x2048, .f32⟩
  | .hbm, ⟨49, _⟩ => ⟨S8x128, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Kernel29.lean ====
abbrev S2x2048 : Shape := ⟨2, ![2, 2048]⟩
abbrev S2x512 : Shape := ⟨2, ![2, 512]⟩
abbrev S2x4x128x128 : Shape := ⟨4, ![2, 4, 128, 128]⟩
abbrev S16x512 : Shape := ⟨2, ![16, 512]⟩
abbrev S2x31x128 : Shape := ⟨3, ![2, 31, 128]⟩
abbrev S4096 : Shape := ⟨1, ![4096]⟩
abbrev S1024 : Shape := ⟨1, ![1024]⟩
abbrev S131072 : Shape := ⟨1, ![131072]⟩
abbrev S8192 : Shape := ⟨1, ![8192]⟩
abbrev S7936 : Shape := ⟨1, ![7936]⟩
abbrev S171776 : Shape := ⟨1, ![171776]⟩
abbrev S_ : Shape := ⟨0, ![]⟩
abbrev S196608 : Shape := ⟨1, ![196608]⟩
abbrev S1536x128 : Shape := ⟨2, ![1536, 128]⟩
abbrev S256x128 : Shape := ⟨2, ![256, 128]⟩

abbrev nBuf : Space → Nat
  | .hbm => 119
  | .vmem => 14
  | .smem => 0
  | _ => 0

abbrev bufTy : (tb : Table) → Fin (tcTables nBuf tb) → BufTy
  | .hbm, ⟨0, _⟩ => ⟨S2x2048, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x2048, .f32⟩
  | .hbm, ⟨6, _⟩ => ⟨S2x2048, .f32⟩
  | .hbm, ⟨7, _⟩ => ⟨S2x2048, .f32⟩
  | .hbm, ⟨8, _⟩ => ⟨S2x2048, .f32⟩
  | .hbm, ⟨9, _⟩ => ⟨S2x4x128x128, .f32⟩
  | .hbm, ⟨10, _⟩ => ⟨S16x512, .f32⟩
  | .hbm, ⟨11, _⟩ => ⟨S2x31x128, .f32⟩
  | .hbm, ⟨12, _⟩ => ⟨S2x2048, .f32⟩
  | .hbm, ⟨13, _⟩ => ⟨S2x512, .f32⟩
  | .hbm, ⟨14, _⟩ => ⟨S2x512, .f32⟩
  | .hbm, ⟨15, _⟩ => ⟨S2x512, .f32⟩
  | .hbm, ⟨16, _⟩ => ⟨S2x512, .f32⟩
  | .hbm, ⟨17, _⟩ => ⟨S2x2048, .f32⟩
  | .hbm, ⟨18, _⟩ => ⟨S2x2048, .f32⟩
  | .hbm, ⟨19, _⟩ => ⟨S2x2048, .f32⟩
  | .hbm, ⟨20, _⟩ => ⟨S2x2048, .f32⟩
  | .hbm, ⟨21, _⟩ => ⟨S2x4x128x128, .f32⟩
  | .hbm, ⟨22, _⟩ => ⟨S16x512, .f32⟩
  | .hbm, ⟨23, _⟩ => ⟨S2x31x128, .f32⟩
  | .hbm, ⟨24, _⟩ => ⟨S2x2048, .f32⟩
  | .hbm, ⟨25, _⟩ => ⟨S2x512, .f32⟩
  | .hbm, ⟨26, _⟩ => ⟨S2x512, .f32⟩
  | .hbm, ⟨27, _⟩ => ⟨S2x512, .f32⟩
  | .hbm, ⟨28, _⟩ => ⟨S2x512, .f32⟩
  | .hbm, ⟨29, _⟩ => ⟨S2x2048, .f32⟩
  | .hbm, ⟨30, _⟩ => ⟨S2x2048, .f32⟩
  | .hbm, ⟨31, _⟩ => ⟨S2x2048, .f32⟩
  | .hbm, ⟨32, _⟩ => ⟨S2x2048, .f32⟩
  | .hbm, ⟨33, _⟩ => ⟨S2x4x128x128, .f32⟩
  | .hbm, ⟨34, _⟩ => ⟨S16x512, .f32⟩
  | .hbm, ⟨35, _⟩ => ⟨S2x31x128, .f32⟩
  | .hbm, ⟨36, _⟩ => ⟨S2x2048, .f32⟩
  | .hbm, ⟨37, _⟩ => ⟨S2x512, .f32⟩
  | .hbm, ⟨38, _⟩ => ⟨S2x512, .f32⟩
  | .hbm, ⟨39, _⟩ => ⟨S2x512, .f32⟩
  | .hbm, ⟨40, _⟩ => ⟨S2x512, .f32⟩
  | .hbm, ⟨41, _⟩ => ⟨S2x2048, .f32⟩
  | .hbm, ⟨42, _⟩ => ⟨S2x2048, .f32⟩
  | .hbm, ⟨43, _⟩ => ⟨S2x2048, .f32⟩
  | .hbm, ⟨44, _⟩ => ⟨S2x2048, .f32⟩
  | .hbm, ⟨45, _⟩ => ⟨S2x4x128x128, .f32⟩
  | .hbm, ⟨46, _⟩ => ⟨S16x512, .f32⟩
  | .hbm, ⟨47, _⟩ => ⟨S2x31x128, .f32⟩
  | .hbm, ⟨48, _⟩ => ⟨S4096, .f32⟩
  | .hbm, ⟨49, _⟩ => ⟨S1024, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S4096, .f32⟩
  | .hbm, ⟨57, _⟩ => ⟨S131072, .f32⟩
  | .hbm, ⟨58, _⟩ => ⟨S8192, .f32⟩
  | .hbm, ⟨59, _⟩ => ⟨S7936, .f32⟩
  | .hbm, ⟨60, _⟩ => ⟨S171776, .f32⟩
  | .hbm, ⟨61, _⟩ => ⟨S_, .i32⟩
  | .hbm, ⟨62, _⟩ => ⟨S_, .f32⟩
  | .hbm, ⟨63, _⟩ => ⟨S196608, .f32⟩
  | .hbm, ⟨64, _⟩ => ⟨S1536x128, .f32⟩
  | .hbm, ⟨65, _⟩ => ⟨S4096, .f32⟩
  | .hbm, ⟨66, _⟩ => ⟨S1024, .f32⟩
  | .hbm, ⟨67, _⟩ => ⟨S1024, .f32⟩
  | .hbm, ⟨68, _⟩ => ⟨S1024, .f32⟩
  | .hbm, ⟨69, _⟩ => ⟨S1024, .f32⟩
  | .hbm, ⟨70, _⟩ => ⟨S4096, .f32⟩
  | .hbm, ⟨71, _⟩ => ⟨S4096, .f32⟩
  | .hbm, ⟨72, _⟩ => ⟨S4096, .f32⟩
  | .hbm, ⟨73, _⟩ => ⟨S4096, .f32⟩
  | .hbm, ⟨74, _⟩ => ⟨S131072, .f32⟩
  | .hbm, ⟨75, _⟩ => ⟨S8192, .f32⟩
  | .hbm, ⟨76, _⟩ => ⟨S7936, .f32⟩
  | .hbm, ⟨77, _⟩ => ⟨S171776, .f32⟩
  | .hbm, ⟨78, _⟩ => ⟨S_, .i32⟩
  | .hbm, ⟨79, _⟩ => ⟨S_, .f32⟩
  | .hbm, ⟨80, _⟩ => ⟨S196608, .f32⟩
  | .hbm, ⟨81, _⟩ => ⟨S1536x128, .f32⟩
  | .hbm, ⟨82, _⟩ => ⟨S4096, .f32⟩
  | .hbm, ⟨83, _⟩ => ⟨S1024, .f32⟩
  | .hbm, ⟨84, _⟩ => ⟨S1024, .f32⟩
  | .hbm, ⟨85, _⟩ => ⟨S1024, .f32⟩
  | .hbm, ⟨86, _⟩ => ⟨S1024, .f32⟩
  | .hbm, ⟨87, _⟩ => ⟨S4096, .f32⟩
  | .hbm, ⟨88, _⟩ => ⟨S4096, .f32⟩
  | .hbm, ⟨89, _⟩ => ⟨S4096, .f32⟩
  | .hbm, ⟨90, _⟩ => ⟨S4096, .f32⟩
  | .hbm, ⟨91, _⟩ => ⟨S131072, .f32⟩
  | .hbm, ⟨92, _⟩ => ⟨S8192, .f32⟩
  | .hbm, ⟨93, _⟩ => ⟨S7936, .f32⟩
  | .hbm, ⟨94, _⟩ => ⟨S171776, .f32⟩
  | .hbm, ⟨95, _⟩ => ⟨S_, .i32⟩
  | .hbm, ⟨96, _⟩ => ⟨S_, .f32⟩
  | .hbm, ⟨97, _⟩ => ⟨S196608, .f32⟩
  | .hbm, ⟨98, _⟩ => ⟨S1536x128, .f32⟩
  | .hbm, ⟨99, _⟩ => ⟨S4096, .f32⟩
  | .hbm, ⟨100, _⟩ => ⟨S1024, .f32⟩
  | .hbm, ⟨101, _⟩ => ⟨S1024, .f32⟩
  | .hbm, ⟨102, _⟩ => ⟨S1024, .f32⟩
  | .hbm, ⟨103, _⟩ => ⟨S1024, .f32⟩
  | .hbm, ⟨104, _⟩ => ⟨S4096, .f32⟩
  | .hbm, ⟨105, _⟩ => ⟨S4096, .f32⟩
  | .hbm, ⟨106, _⟩ => ⟨S4096, .f32⟩
  | .hbm, ⟨107, _⟩ => ⟨S4096, .f32⟩
  | .hbm, ⟨108, _⟩ => ⟨S131072, .f32⟩
  | .hbm, ⟨109, _⟩ => ⟨S8192, .f32⟩
  | .hbm, ⟨110, _⟩ => ⟨S7936, .f32⟩
  | .hbm, ⟨111, _⟩ => ⟨S171776, .f32⟩
  | .hbm, ⟨112, _⟩ => ⟨S_, .i32⟩
  | .hbm, ⟨113, _⟩ => ⟨S_, .f32⟩
  | .hbm, ⟨114, _⟩ => ⟨S196608, .f32⟩
  | .hbm, ⟨115, _⟩ => ⟨S1536x128, .f32⟩
  | .hbm, ⟨116, _⟩ => ⟨S1536x128, .f32⟩
  | .hbm, ⟨117, _⟩ => ⟨S1536x128, .f32⟩
  | .hbm, ⟨118, _⟩ => ⟨S1536x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_c : Ref sig .tc := ⟨.hbm, 61, rfl⟩
abbrev main_call0_v0 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_c_0 : Ref sig .tc := ⟨.hbm, 78, rfl⟩
abbrev main_call1_v0 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_c_1 : Ref sig .tc := ⟨.hbm, 95, rfl⟩
abbrev main_call2_v0 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_c_2 : Ref sig .tc := ⟨.hbm, 112, rfl⟩
abbrev main_call3_v0 : Ref sig .tc := ⟨.hbm, 113, rfl⟩
abbrev main_v58 : Ref sig .tc := ⟨.hbm, 114, rfl⟩
abbrev main_v59 : Ref sig .tc := ⟨.hbm, 115, rfl⟩
abbrev main_v60_0 : Ref sig .tc := ⟨.hbm, 116, rfl⟩
abbrev main_v60_1 : Ref sig .tc := ⟨.hbm, 117, rfl⟩
abbrev main_v60_2 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference29Ideal.lean ====
abbrev S2x2048 : Shape := ⟨2, ![2, 2048]⟩
abbrev S2x512 : Shape := ⟨2, ![2, 512]⟩
abbrev S2x4x128x128 : Shape := ⟨4, ![2, 4, 128, 128]⟩
abbrev S16x512 : Shape := ⟨2, ![16, 512]⟩
abbrev S2x31x128 : Shape := ⟨3, ![2, 31, 128]⟩
abbrev S_ : Shape := ⟨0, ![]⟩
abbrev S4096 : Shape := ⟨1, ![4096]⟩
abbrev S1024 : Shape := ⟨1, ![1024]⟩
abbrev S131072 : Shape := ⟨1, ![131072]⟩
abbrev S8192 : Shape := ⟨1, ![8192]⟩
abbrev S7936 : Shape := ⟨1, ![7936]⟩
abbrev S171776 : Shape := ⟨1, ![171776]⟩
abbrev S196608 : Shape := ⟨1, ![196608]⟩
abbrev S1536x128 : Shape := ⟨2, ![1536, 128]⟩

abbrev nBuf : Space → Nat
  | .hbm => 495
  | .vmem => 0
  | .smem => 0
  | _ => 0

abbrev hbmTy0_0 (i : Nat) : BufTy := match i % 128 with
  | 0 => ⟨S2x2048, .f32⟩
  | 1 => ⟨S2x512, .f32⟩
  | 2 => ⟨S2x512, .f32⟩
  | 3 => ⟨S2x512, .f32⟩
  | 4 => ⟨S2x512, .f32⟩
  | 5 => ⟨S2x2048, .f32⟩
  | 6 => ⟨S2x2048, .f32⟩
  | 7 => ⟨S2x2048, .f32⟩
  | 8 => ⟨S2x2048, .f32⟩
  | 9 => ⟨S2x4x128x128, .f32⟩
  | 10 => ⟨S16x512, .f32⟩
  | 11 => ⟨S2x31x128, .f32⟩
  | 12 => ⟨S2x2048, .f32⟩
  | 13 => ⟨S2x512, .f32⟩
  | 14 => ⟨S2x512, .f32⟩
  | 15 => ⟨S2x512, .f32⟩
  | 16 => ⟨S2x512, .f32⟩
  | 17 => ⟨S2x2048, .f32⟩
  | 18 => ⟨S2x2048, .f32⟩
  | 19 => ⟨S2x2048, .f32⟩
  | 20 => ⟨S2x2048, .f32⟩
  | 21 => ⟨S2x4x128x128, .f32⟩
  | 22 => ⟨S16x512, .f32⟩
  | 23 => ⟨S2x31x128, .f32⟩
  | 24 => ⟨S2x2048, .f32⟩
  | 25 => ⟨S2x512, .f32⟩
  | 26 => ⟨S2x512, .f32⟩
  | 27 => ⟨S2x512, .f32⟩
  | 28 => ⟨S2x512, .f32⟩
  | 29 => ⟨S2x2048, .f32⟩
  | 30 => ⟨S2x2048, .f32⟩
  | 31 => ⟨S2x2048, .f32⟩
  | 32 => ⟨S2x2048, .f32⟩
  | 33 => ⟨S2x4x128x128, .f32⟩
  | 34 => ⟨S16x512, .f32⟩
  | 35 => ⟨S2x31x128, .f32⟩
  | 36 => ⟨S2x2048, .f32⟩
  | 37 => ⟨S2x512, .f32⟩
  | 38 => ⟨S2x512, .f32⟩
  | 39 => ⟨S2x512, .f32⟩
  | 40 => ⟨S2x512, .f32⟩
  | 41 => ⟨S2x2048, .f32⟩
  | 42 => ⟨S2x2048, .f32⟩
  | 43 => ⟨S2x2048, .f32⟩
  | 44 => ⟨S2x2048, .f32⟩
  | 45 => ⟨S2x4x128x128, .f32⟩
  | 46 => ⟨S16x512, .f32⟩
  | 47 => ⟨S2x31x128, .f32⟩
  | 48 => ⟨S_, .f32⟩
  | 49 => ⟨S2x2048, .f32⟩
  | 50 => ⟨S2x2048, .f32⟩
  | 51 => ⟨S_, .f32⟩
  | 52 => ⟨S2x2048, .f32⟩
  | 53 => ⟨S2x2048, .f32⟩
  | 54 => ⟨S2x2048, .f32⟩
  | 55 => ⟨S_, .f32⟩
  | 56 => ⟨S2x2048, .f32⟩
  | 57 => ⟨S2x2048, .f32⟩
  | 58 => ⟨S2x2048, .f32⟩
  | 59 => ⟨S_, .f32⟩
  | 60 => ⟨S2x2048, .f32⟩
  | 61 => ⟨S2x2048, .f32⟩
  | 62 => ⟨S2x2048, .f32⟩
  | 63 => ⟨S_, .f32⟩
  | 64 => ⟨S2x2048, .f32⟩
  | 65 => ⟨S2x2048, .f32⟩
  | 66 => ⟨S_, .f32⟩
  | 67 => ⟨S2x2048, .f32⟩
  | 68 => ⟨S2x2048, .f32⟩
  | 69 => ⟨S2x2048, .f32⟩
  | 70 => ⟨S_, .f32⟩
  | 71 => ⟨S2x2048, .f32⟩
  | 72 => ⟨S2x2048, .f32⟩
  | 73 => ⟨S2x2048, .f32⟩
  | 74 => ⟨S_, .f32⟩
  | 75 => ⟨S2x2048, .f32⟩
  | 76 => ⟨S2x2048, .f32⟩
  | 77 => ⟨S2x2048, .f32⟩
  | 78 => ⟨S_, .f32⟩
  | 79 => ⟨S2x2048, .f32⟩
  | 80 => ⟨S2x2048, .f32⟩
  | 81 => ⟨S_, .f32⟩
  | 82 => ⟨S2x512, .f32⟩
  | 83 => ⟨S2x512, .f32⟩
  | 84 => ⟨S_, .f32⟩
  | 85 => ⟨S2x512, .f32⟩
  | 86 => ⟨S2x512, .f32⟩
  | 87 => ⟨S2x512, .f32⟩
  | 88 => ⟨S_, .f32⟩
  | 89 => ⟨S2x512, .f32⟩
  | 90 => ⟨S2x512, .f32⟩
  | 91 => ⟨S2x512, .f32⟩
  | 92 => ⟨S_, .f32⟩
  | 93 => ⟨S2x512, .f32⟩
  | 94 => ⟨S2x512, .f32⟩
  | 95 => ⟨S2x512, .f32⟩
  | 96 => ⟨S_, .f32⟩
  | 97 => ⟨S2x512, .f32⟩
  | 98 => ⟨S2x512, .f32⟩
  | 99 => ⟨S_, .f32⟩
  | 100 => ⟨S2x512, .f32⟩
  | 101 => ⟨S2x512, .f32⟩
  | 102 => ⟨S2x512, .f32⟩
  | 103 => ⟨S_, .f32⟩
  | 104 => ⟨S2x512, .f32⟩
  | 105 => ⟨S2x512, .f32⟩
  | 106 => ⟨S2x512, .f32⟩
  | 107 => ⟨S_, .f32⟩
  | 108 => ⟨S2x512, .f32⟩
  | 109 => ⟨S2x512, .f32⟩
  | 110 => ⟨S2x512, .f32⟩
  | 111 => ⟨S_, .f32⟩
  | 112 => ⟨S2x512, .f32⟩
  | 113 => ⟨S2x512, .f32⟩
  | 114 => ⟨S_, .f32⟩
  | 115 => ⟨S2x512, .f32⟩
  | 116 => ⟨S2x512, .f32⟩
  | 117 => ⟨S_, .f32⟩
  | 118 => ⟨S2x512, .f32⟩
  | 119 => ⟨S2x512, .f32⟩
  | 120 => ⟨S2x512, .f32⟩
  | 121 => ⟨S_, .f32⟩
  | 122 => ⟨S2x512, .f32⟩
  | 123 => ⟨S2x512, .f32⟩
  | 124 => ⟨S2x512, .f32⟩
  | 125 => ⟨S_, .f32⟩
  | 126 => ⟨S2x512, .f32⟩
  | 127 => ⟨S2x512, .f32⟩
  | _ => ⟨S2x2048, .f32⟩

abbrev hbmTy0_1 (i : Nat) : BufTy := match i % 128 with
  | 0 => ⟨S2x512, .f32⟩
  | 1 => ⟨S_, .f32⟩
  | 2 => ⟨S2x512, .f32⟩
  | 3 => ⟨S2x512, .f32⟩
  | 4 => ⟨S_, .f32⟩
  | 5 => ⟨S2x512, .f32⟩
  | 6 => ⟨S2x512, .f32⟩
  | 7 => ⟨S2x512, .f32⟩
  | 8 => ⟨S_, .f32⟩
  | 9 => ⟨S2x512, .f32⟩
  | 10 => ⟨S2x512, .f32⟩
  | 11 => ⟨S2x512, .f32⟩
  | 12 => ⟨S_, .f32⟩
  | 13 => ⟨S2x512, .f32⟩
  | 14 => ⟨S2x512, .f32⟩
  | 15 => ⟨S2x512, .f32⟩
  | 16 => ⟨S_, .f32⟩
  | 17 => ⟨S2x512, .f32⟩
  | 18 => ⟨S2x512, .f32⟩
  | 19 => ⟨S_, .f32⟩
  | 20 => ⟨S2x512, .f32⟩
  | 21 => ⟨S2x512, .f32⟩
  | 22 => ⟨S_, .f32⟩
  | 23 => ⟨S2x512, .f32⟩
  | 24 => ⟨S2x512, .f32⟩
  | 25 => ⟨S2x512, .f32⟩
  | 26 => ⟨S_, .f32⟩
  | 27 => ⟨S2x512, .f32⟩
  | 28 => ⟨S2x512, .f32⟩
  | 29 => ⟨S2x512, .f32⟩
  | 30 => ⟨S_, .f32⟩
  | 31 => ⟨S2x512, .f32⟩
  | 32 => ⟨S2x512, .f32⟩
  | 33 => ⟨S2x512, .f32⟩
  | 34 => ⟨S_, .f32⟩
  | 35 => ⟨S2x512, .f32⟩
  | 36 => ⟨S2x512, .f32⟩
  | 37 => ⟨S_, .f32⟩
  | 38 => ⟨S2x512, .f32⟩
  | 39 => ⟨S2x512, .f32⟩
  | 40 => ⟨S2x512, .f32⟩
  | 41 => ⟨S_, .f32⟩
  | 42 => ⟨S2x512, .f32⟩
  | 43 => ⟨S2x512, .f32⟩
  | 44 => ⟨S2x512, .f32⟩
  | 45 => ⟨S_, .f32⟩
  | 46 => ⟨S2x512, .f32⟩
  | 47 => ⟨S2x512, .f32⟩
  | 48 => ⟨S2x512, .f32⟩
  | 49 => ⟨S_, .f32⟩
  | 50 => ⟨S2x512, .f32⟩
  | 51 => ⟨S2x512, .f32⟩
  | 52 => ⟨S_, .f32⟩
  | 53 => ⟨S2x512, .f32⟩
  | 54 => ⟨S2x512, .f32⟩
  | 55 => ⟨S_, .f32⟩
  | 56 => ⟨S2x512, .f32⟩
  | 57 => ⟨S2x512, .f32⟩
  | 58 => ⟨S2x512, .f32⟩
  | 59 => ⟨S_, .f32⟩
  | 60 => ⟨S2x512, .f32⟩
  | 61 => ⟨S2x512, .f32⟩
  | 62 => ⟨S2x512, .f32⟩
  | 63 => ⟨S_, .f32⟩
  | 64 => ⟨S2x512, .f32⟩
  | 65 => ⟨S2x512, .f32⟩
  | 66 => ⟨S2x512, .f32⟩
  | 67 => ⟨S_, .f32⟩
  | 68 => ⟨S2x512, .f32⟩
  | 69 => ⟨S2x512, .f32⟩
  | 70 => ⟨S_, .f32⟩
  | 71 => ⟨S2x512, .f32⟩
  | 72 => ⟨S2x512, .f32⟩
  | 73 => ⟨S2x512, .f32⟩
  | 74 => ⟨S_, .f32⟩
  | 75 => ⟨S2x512, .f32⟩
  | 76 => ⟨S2x512, .f32⟩
  | 77 => ⟨S2x512, .f32⟩
  | 78 => ⟨S_, .f32⟩
  | 79 => ⟨S2x512, .f32⟩
  | 80 => ⟨S2x512, .f32⟩
  | 81 => ⟨S2x512, .f32⟩
  | 82 => ⟨S_, .f32⟩
  | 83 => ⟨S2x512, .f32⟩
  | 84 => ⟨S2x512, .f32⟩
  | 85 => ⟨S_, .f32⟩
  | 86 => ⟨S2x2048, .f32⟩
  | 87 => ⟨S2x2048, .f32⟩
  | 88 => ⟨S_, .f32⟩
  | 89 => ⟨S2x2048, .f32⟩
  | 90 => ⟨S2x2048, .f32⟩
  | 91 => ⟨S2x2048, .f32⟩
  | 92 => ⟨S_, .f32⟩
  | 93 => ⟨S2x2048, .f32⟩
  | 94 => ⟨S2x2048, .f32⟩
  | 95 => ⟨S2x2048, .f32⟩
  | 96 => ⟨S_, .f32⟩
  | 97 => ⟨S2x2048, .f32⟩
  | 98 => ⟨S2x2048, .f32⟩
  | 99 => ⟨S2x2048, .f32⟩
  | 100 => ⟨S_, .f32⟩
  | 101 => ⟨S2x2048, .f32⟩
  | 102 => ⟨S2x2048, .f32⟩
  | 103 => ⟨S_, .f32⟩
  | 104 => ⟨S2x2048, .f32⟩
  | 105 => ⟨S2x2048, .f32⟩
  | 106 => ⟨S2x2048, .f32⟩
  | 107 => ⟨S_, .f32⟩
  | 108 => ⟨S2x2048, .f32⟩
  | 109 => ⟨S2x2048, .f32⟩
  | 110 => ⟨S2x2048, .f32⟩
  | 111 => ⟨S_, .f32⟩
  | 112 => ⟨S2x2048, .f32⟩
  | 113 => ⟨S2x2048, .f32⟩
  | 114 => ⟨S2x2048, .f32⟩
  | 115 => ⟨S_, .f32⟩
  | 116 => ⟨S2x2048, .f32⟩
  | 117 => ⟨S2x2048, .f32⟩
  | 118 => ⟨S_, .f32⟩
  | 119 => ⟨S2x2048, .f32⟩
  | 120 => ⟨S2x2048, .f32⟩
  | 121 => ⟨S_, .f32⟩
  | 122 => ⟨S2x2048, .f32⟩
  | 123 => ⟨S2x2048, .f32⟩
  | 124 => ⟨S2x2048, .f32⟩
  | 125 => ⟨S_, .f32⟩
  | 126 => ⟨S2x2048, .f32⟩
  | 127 => ⟨S2x2048, .f32⟩
  | _ => ⟨S2x2048, .f32⟩

abbrev hbmTy0_2 (i : Nat) : BufTy := match i % 128 with
  | 0 => ⟨S2x2048, .f32⟩
  | 1 => ⟨S_, .f32⟩
  | 2 => ⟨S2x2048, .f32⟩
  | 3 => ⟨S2x2048, .f32⟩
  | 4 => ⟨S2x2048, .f32⟩
  | 5 => ⟨S_, .f32⟩
  | 6 => ⟨S2x2048, .f32⟩
  | 7 => ⟨S2x2048, .f32⟩
  | 8 => ⟨S_, .f32⟩
  | 9 => ⟨S2x2048, .f32⟩
  | 10 => ⟨S2x2048, .f32⟩
  | 11 => ⟨S2x2048, .f32⟩
  | 12 => ⟨S_, .f32⟩
  | 13 => ⟨S2x2048, .f32⟩
  | 14 => ⟨S2x2048, .f32⟩
  | 15 => ⟨S2x2048, .f32⟩
  | 16 => ⟨S_, .f32⟩
  | 17 => ⟨S2x2048, .f32⟩
  | 18 => ⟨S2x2048, .f32⟩
  | 19 => ⟨S2x2048, .f32⟩
  | 20 => ⟨S_, .f32⟩
  | 21 => ⟨S2x2048, .f32⟩
  | 22 => ⟨S2x2048, .f32⟩
  | 23 => ⟨S_, .f32⟩
  | 24 => ⟨S2x2048, .f32⟩
  | 25 => ⟨S2x2048, .f32⟩
  | 26 => ⟨S_, .f32⟩
  | 27 => ⟨S2x2048, .f32⟩
  | 28 => ⟨S2x2048, .f32⟩
  | 29 => ⟨S2x2048, .f32⟩
  | 30 => ⟨S_, .f32⟩
  | 31 => ⟨S2x2048, .f32⟩
  | 32 => ⟨S2x2048, .f32⟩
  | 33 => ⟨S2x2048, .f32⟩
  | 34 => ⟨S_, .f32⟩
  | 35 => ⟨S2x2048, .f32⟩
  | 36 => ⟨S2x2048, .f32⟩
  | 37 => ⟨S2x2048, .f32⟩
  | 38 => ⟨S_, .f32⟩
  | 39 => ⟨S2x2048, .f32⟩
  | 40 => ⟨S2x2048, .f32⟩
  | 41 => ⟨S_, .f32⟩
  | 42 => ⟨S2x2048, .f32⟩
  | 43 => ⟨S2x2048, .f32⟩
  | 44 => ⟨S2x2048, .f32⟩
  | 45 => ⟨S_, .f32⟩
  | 46 => ⟨S2x2048, .f32⟩
  | 47 => ⟨S2x2048, .f32⟩
  | 48 => ⟨S2x2048, .f32⟩
  | 49 => ⟨S_, .f32⟩
  | 50 => ⟨S2x2048, .f32⟩
  | 51 => ⟨S2x2048, .f32⟩
  | 52 => ⟨S2x2048, .f32⟩
  | 53 => ⟨S_, .f32⟩
  | 54 => ⟨S2x2048, .f32⟩
  | 55 => ⟨S2x2048, .f32⟩
  | 56 => ⟨S_, .f32⟩
  | 57 => ⟨S2x2048, .f32⟩
  | 58 => ⟨S2x2048, .f32⟩
  | 59 => ⟨S_, .f32⟩
  | 60 => ⟨S2x2048, .f32⟩
  | 61 => ⟨S2x2048, .f32⟩
  | 62 => ⟨S2x2048, .f32⟩
  | 63 => ⟨S_, .f32⟩
  | 64 => ⟨S2x2048, .f32⟩
  | 65 => ⟨S2x2048, .f32⟩
  | 66 => ⟨S2x2048, .f32⟩
  | 67 => ⟨S_, .f32⟩
  | 68 => ⟨S2x2048, .f32⟩
  | 69 => ⟨S2x2048, .f32⟩
  | 70 => ⟨S2x2048, .f32⟩
  | 71 => ⟨S_, .f32⟩
  | 72 => ⟨S2x2048, .f32⟩
  | 73 => ⟨S2x2048, .f32⟩
  | 74 => ⟨S_, .f32⟩
  | 75 => ⟨S2x2048, .f32⟩
  | 76 => ⟨S2x2048, .f32⟩
  | 77 => ⟨S2x2048, .f32⟩
  | 78 => ⟨S_, .f32⟩
  | 79 => ⟨S2x2048, .f32⟩
  | 80 => ⟨S2x2048, .f32⟩
  | 81 => ⟨S2x2048, .f32⟩
  | 82 => ⟨S_, .f32⟩
  | 83 => ⟨S2x2048, .f32⟩
  | 84 => ⟨S2x2048, .f32⟩
  | 85 => ⟨S2x2048, .f32⟩
  | 86 => ⟨S_, .f32⟩
  | 87 => ⟨S2x2048, .f32⟩
  | 88 => ⟨S2x2048, .f32⟩
  | 89 => ⟨S_, .f32⟩
  | 90 => ⟨S2x4x128x128, .f32⟩
  | 91 => ⟨S2x4x128x128, .f32⟩
  | 92 => ⟨S_, .f32⟩
  | 93 => ⟨S2x4x128x128, .f32⟩
  | 94 => ⟨S2x4x128x128, .f32⟩
  | 95 => ⟨S2x4x128x128, .f32⟩
  | 96 => ⟨S_, .f32⟩
  | 97 => ⟨S2x4x128x128, .f32⟩
  | 98 => ⟨S2x4x128x128, .f32⟩
  | 99 => ⟨S2x4x128x128, .f32⟩
  | 100 => ⟨S_, .f32⟩
  | 101 => ⟨S2x4x128x128, .f32⟩
  | 102 => ⟨S2x4x128x128, .f32⟩
  | 103 => ⟨S2x4x128x128, .f32⟩
  | 104 => ⟨S_, .f32⟩
  | 105 => ⟨S2x4x128x128, .f32⟩
  | 106 => ⟨S2x4x128x128, .f32⟩
  | 107 => ⟨S_, .f32⟩
  | 108 => ⟨S2x4x128x128, .f32⟩
  | 109 => ⟨S2x4x128x128, .f32⟩
  | 110 => ⟨S2x4x128x128, .f32⟩
  | 111 => ⟨S_, .f32⟩
  | 112 => ⟨S2x4x128x128, .f32⟩
  | 113 => ⟨S2x4x128x128, .f32⟩
  | 114 => ⟨S2x4x128x128, .f32⟩
  | 115 => ⟨S_, .f32⟩
  | 116 => ⟨S2x4x128x128, .f32⟩
  | 117 => ⟨S2x4x128x128, .f32⟩
  | 118 => ⟨S2x4x128x128, .f32⟩
  | 119 => ⟨S_, .f32⟩
  | 120 => ⟨S2x4x128x128, .f32⟩
  | 121 => ⟨S2x4x128x128, .f32⟩
  | 122 => ⟨S_, .f32⟩
  | 123 => ⟨S16x512, .f32⟩
  | 124 => ⟨S16x512, .f32⟩
  | 125 => ⟨S_, .f32⟩
  | 126 => ⟨S16x512, .f32⟩
  | 127 => ⟨S16x512, .f32⟩
  | _ => ⟨S2x2048, .f32⟩

abbrev hbmTy0_3 (i : Nat) : BufTy := match i % 128 with
  | 0 => ⟨S16x512, .f32⟩
  | 1 => ⟨S_, .f32⟩
  | 2 => ⟨S16x512, .f32⟩
  | 3 => ⟨S16x512, .f32⟩
  | 4 => ⟨S16x512, .f32⟩
  | 5 => ⟨S_, .f32⟩
  | 6 => ⟨S16x512, .f32⟩
  | 7 => ⟨S16x512, .f32⟩
  | 8 => ⟨S16x512, .f32⟩
  | 9 => ⟨S_, .f32⟩
  | 10 => ⟨S16x512, .f32⟩
  | 11 => ⟨S16x512, .f32⟩
  | 12 => ⟨S_, .f32⟩
  | 13 => ⟨S16x512, .f32⟩
  | 14 => ⟨S16x512, .f32⟩
  | 15 => ⟨S16x512, .f32⟩
  | 16 => ⟨S_, .f32⟩
  | 17 => ⟨S16x512, .f32⟩
  | 18 => ⟨S16x512, .f32⟩
  | 19 => ⟨S16x512, .f32⟩
  | 20 => ⟨S_, .f32⟩
  | 21 => ⟨S16x512, .f32⟩
  | 22 => ⟨S16x512, .f32⟩
  | 23 => ⟨S16x512, .f32⟩
  | 24 => ⟨S_, .f32⟩
  | 25 => ⟨S16x512, .f32⟩
  | 26 => ⟨S16x512, .f32⟩
  | 27 => ⟨S_, .f32⟩
  | 28 => ⟨S2x31x128, .f32⟩
  | 29 => ⟨S2x31x128, .f32⟩
  | 30 => ⟨S_, .f32⟩
  | 31 => ⟨S2x31x128, .f32⟩
  | 32 => ⟨S2x31x128, .f32⟩
  | 33 => ⟨S2x31x128, .f32⟩
  | 34 => ⟨S_, .f32⟩
  | 35 => ⟨S2x31x128, .f32⟩
  | 36 => ⟨S2x31x128, .f32⟩
  | 37 => ⟨S2x31x128, .f32⟩
  | 38 => ⟨S_, .f32⟩
  | 39 => ⟨S2x31x128, .f32⟩
  | 40 => ⟨S2x31x128, .f32⟩
  | 41 => ⟨S2x31x128, .f32⟩
  | 42 => ⟨S_, .f32⟩
  | 43 => ⟨S2x31x128, .f32⟩
  | 44 => ⟨S2x31x128, .f32⟩
  | 45 => ⟨S_, .f32⟩
  | 46 => ⟨S2x31x128, .f32⟩
  | 47 => ⟨S2x31x128, .f32⟩
  | 48 => ⟨S2x31x128, .f32⟩
  | 49 => ⟨S_, .f32⟩
  | 50 => ⟨S2x31x128, .f32⟩
  | 51 => ⟨S2x31x128, .f32⟩
  | 52 => ⟨S2x31x128, .f32⟩
  | 53 => ⟨S_, .f32⟩
  | 54 => ⟨S2x31x128, .f32⟩
  | 55 => ⟨S2x31x128, .f32⟩
  | 56 => ⟨S2x31x128, .f32⟩
  | 57 => ⟨S_, .f32⟩
  | 58 => ⟨S2x31x128, .f32⟩
  | 59 => ⟨S2x31x128, .f32⟩
  | 60 => ⟨S4096, .f32⟩
  | 61 => ⟨S1024, .f32⟩
  | 62 => ⟨S1024, .f32⟩
  | 63 => ⟨S1024, .f32⟩
  | 64 => ⟨S1024, .f32⟩
  | 65 => ⟨S4096, .f32⟩
  | 66 => ⟨S4096, .f32⟩
  | 67 => ⟨S4096, .f32⟩
  | 68 => ⟨S4096, .f32⟩
  | 69 => ⟨S131072, .f32⟩
  | 70 => ⟨S8192, .f32⟩
  | 71 => ⟨S7936, .f32⟩
  | 72 => ⟨S171776, .f32⟩
  | 73 => ⟨S_, .i32⟩
  | 74 => ⟨S_, .f32⟩
  | 75 => ⟨S196608, .f32⟩
  | 76 => ⟨S1536x128, .f32⟩
  | 77 => ⟨S4096, .f32⟩
  | 78 => ⟨S1024, .f32⟩
  | 79 => ⟨S1024, .f32⟩
  | 80 => ⟨S1024, .f32⟩
  | 81 => ⟨S1024, .f32⟩
  | 82 => ⟨S4096, .f32⟩
  | 83 => ⟨S4096, .f32⟩
  | 84 => ⟨S4096, .f32⟩
  | 85 => ⟨S4096, .f32⟩
  | 86 => ⟨S131072, .f32⟩
  | 87 => ⟨S8192, .f32⟩
  | 88 => ⟨S7936, .f32⟩
  | 89 => ⟨S171776, .f32⟩
  | 90 => ⟨S_, .i32⟩
  | 91 => ⟨S_, .f32⟩
  | 92 => ⟨S196608, .f32⟩
  | 93 => ⟨S1536x128, .f32⟩
  | 94 => ⟨S4096, .f32⟩
  | 95 => ⟨S1024, .f32⟩
  | 96 => ⟨S1024, .f32⟩
  | 97 => ⟨S1024, .f32⟩
  | 98 => ⟨S1024, .f32⟩
  | 99 => ⟨S4096, .f32⟩
  | 100 => ⟨S4096, .f32⟩
  | 101 => ⟨S4096, .f32⟩
  | 102 => ⟨S4096, .f32⟩
  | 103 => ⟨S131072, .f32⟩
  | 104 => ⟨S8192, .f32⟩
  | 105 => ⟨S7936, .f32⟩
  | 106 => ⟨S171776, .f32⟩
  | 107 => ⟨S_, .i32⟩
  | 108 => ⟨S_, .f32⟩
  | 109 => ⟨S196608, .f32⟩
  | 110 => ⟨S1536x128, .f32⟩
  | _ => ⟨S2x2048, .f32⟩

abbrev hbmTy (i : Nat) : BufTy := match i / 128 with
  | 0 => hbmTy0_0 i
  | 1 => hbmTy0_1 i
  | 2 => hbmTy0_2 i
  | 3 => hbmTy0_3 i
  | _ => ⟨S2x2048, .f32⟩

abbrev bufTy : (tb : Table) → Fin (tcTables nBuf tb) → BufTy
  | .hbm, ⟨i, _⟩ => hbmTy i
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_cst : Ref sig .tc := ⟨.hbm, 48, rfl⟩
abbrev main_v0 : Ref sig .tc := ⟨.hbm, 49, rfl⟩
abbrev main_v1 : Ref sig .tc := ⟨.hbm, 50, rfl⟩
abbrev main_cst_0 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_cst_1 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst_2 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_cst_3 : Ref sig .tc := ⟨.hbm, 63, rfl⟩
abbrev main_v11 : Ref sig .tc := ⟨.hbm, 64, rfl⟩
abbrev main_v12 : Ref sig .tc := ⟨.hbm, 65, rfl⟩
abbrev main_cst_4 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_cst_5 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_cst_6 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_7 : Ref sig .tc := ⟨.hbm, 78, rfl⟩
abbrev main_v22 : Ref sig .tc := ⟨.hbm, 79, rfl⟩
abbrev main_v23 : Ref sig .tc := ⟨.hbm, 80, rfl⟩
abbrev main_cst_8 : Ref sig .tc := ⟨.hbm, 81, rfl⟩
abbrev main_v24 : Ref sig .tc := ⟨.hbm, 82, rfl⟩
abbrev main_v25 : Ref sig .tc := ⟨.hbm, 83, rfl⟩
abbrev main_cst_9 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst_10 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_cst_11 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_12 : Ref sig .tc := ⟨.hbm, 96, rfl⟩
abbrev main_v35 : Ref sig .tc := ⟨.hbm, 97, rfl⟩
abbrev main_v36 : Ref sig .tc := ⟨.hbm, 98, rfl⟩
abbrev main_cst_13 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_cst_14 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_cst_15 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_cst_16 : Ref sig .tc := ⟨.hbm, 111, rfl⟩
abbrev main_v46 : Ref sig .tc := ⟨.hbm, 112, rfl⟩
abbrev main_v47 : Ref sig .tc := ⟨.hbm, 113, rfl⟩
abbrev main_cst_17 : Ref sig .tc := ⟨.hbm, 114, rfl⟩
abbrev main_v48 : Ref sig .tc := ⟨.hbm, 115, rfl⟩
abbrev main_v49 : Ref sig .tc := ⟨.hbm, 116, rfl⟩
abbrev main_cst_18 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_cst_19 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_20 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_21 : Ref sig .tc := ⟨.hbm, 129, rfl⟩
abbrev main_v59 : Ref sig .tc := ⟨.hbm, 130, rfl⟩
abbrev main_v60 : Ref sig .tc := ⟨.hbm, 131, rfl⟩
abbrev main_cst_22 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_cst_23 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_24 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_cst_25 : Ref sig .tc := ⟨.hbm, 144, rfl⟩
abbrev main_v70 : Ref sig .tc := ⟨.hbm, 145, rfl⟩
abbrev main_v71 : Ref sig .tc := ⟨.hbm, 146, rfl⟩
abbrev main_cst_26 : Ref sig .tc := ⟨.hbm, 147, rfl⟩
abbrev main_v72 : Ref sig .tc := ⟨.hbm, 148, rfl⟩
abbrev main_v73 : Ref sig .tc := ⟨.hbm, 149, rfl⟩
abbrev main_cst_27 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_28 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_cst_29 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_cst_30 : Ref sig .tc := ⟨.hbm, 162, rfl⟩
abbrev main_v83 : Ref sig .tc := ⟨.hbm, 163, rfl⟩
abbrev main_v84 : Ref sig .tc := ⟨.hbm, 164, rfl⟩
abbrev main_cst_31 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_cst_32 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_cst_33 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_cst_34 : Ref sig .tc := ⟨.hbm, 177, rfl⟩
abbrev main_v94 : Ref sig .tc := ⟨.hbm, 178, rfl⟩
abbrev main_v95 : Ref sig .tc := ⟨.hbm, 179, rfl⟩
abbrev main_cst_35 : Ref sig .tc := ⟨.hbm, 180, rfl⟩
abbrev main_v96 : Ref sig .tc := ⟨.hbm, 181, rfl⟩
abbrev main_v97 : Ref sig .tc := ⟨.hbm, 182, rfl⟩
abbrev main_cst_36 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_cst_37 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_cst_38 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_cst_39 : Ref sig .tc := ⟨.hbm, 195, rfl⟩
abbrev main_v107 : Ref sig .tc := ⟨.hbm, 196, rfl⟩
abbrev main_v108 : Ref sig .tc := ⟨.hbm, 197, rfl⟩
abbrev main_cst_40 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_cst_41 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_cst_42 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_cst_43 : Ref sig .tc := ⟨.hbm, 210, rfl⟩
abbrev main_v118 : Ref sig .tc := ⟨.hbm, 211, rfl⟩
abbrev main_v119 : Ref sig .tc := ⟨.hbm, 212, rfl⟩
abbrev main_cst_44 : Ref sig .tc := ⟨.hbm, 213, rfl⟩
abbrev main_v120 : Ref sig .tc := ⟨.hbm, 214, rfl⟩
abbrev main_v121 : Ref sig .tc := ⟨.hbm, 215, rfl⟩
abbrev main_cst_45 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_cst_46 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_cst_47 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_cst_48 : Ref sig .tc := ⟨.hbm, 228, rfl⟩
abbrev main_v131 : Ref sig .tc := ⟨.hbm, 229, rfl⟩
abbrev main_v132 : Ref sig .tc := ⟨.hbm, 230, rfl⟩
abbrev main_cst_49 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_cst_50 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_cst_51 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_cst_52 : Ref sig .tc := ⟨.hbm, 243, rfl⟩
abbrev main_v142 : Ref sig .tc := ⟨.hbm, 244, rfl⟩
abbrev main_v143 : Ref sig .tc := ⟨.hbm, 245, rfl⟩
abbrev main_cst_53 : Ref sig .tc := ⟨.hbm, 246, rfl⟩
abbrev main_v144 : Ref sig .tc := ⟨.hbm, 247, rfl⟩
abbrev main_v145 : Ref sig .tc := ⟨.hbm, 248, rfl⟩
abbrev main_cst_54 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_cst_55 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_cst_56 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_cst_57 : Ref sig .tc := ⟨.hbm, 261, rfl⟩
abbrev main_v155 : Ref sig .tc := ⟨.hbm, 262, rfl⟩
abbrev main_v156 : Ref sig .tc := ⟨.hbm, 263, rfl⟩
abbrev main_cst_58 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_cst_59 : Ref sig .tc := ⟨.hbm, 268, rfl⟩
abbrev main_v160 : Ref sig .tc := ⟨.hbm, 269, rfl⟩
abbrev main_v161 : Ref sig .tc := ⟨.hbm, 270, rfl⟩
abbrev main_v162 : Ref sig .tc := ⟨.hbm, 271, rfl⟩
abbrev main_cst_60 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_cst_61 : Ref sig .tc := ⟨.hbm, 276, rfl⟩
abbrev main_v166 : Ref sig .tc := ⟨.hbm, 277, rfl⟩
abbrev main_v167 : Ref sig .tc := ⟨.hbm, 278, rfl⟩
abbrev main_cst_62 : Ref sig .tc := ⟨.hbm, 279, rfl⟩
abbrev main_v168 : Ref sig .tc := ⟨.hbm, 280, rfl⟩
abbrev main_v169 : Ref sig .tc := ⟨.hbm, 281, rfl⟩
abbrev main_cst_63 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_cst_64 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_cst_65 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_cst_66 : Ref sig .tc := ⟨.hbm, 294, rfl⟩
abbrev main_v179 : Ref sig .tc := ⟨.hbm, 295, rfl⟩
abbrev main_v180 : Ref sig .tc := ⟨.hbm, 296, rfl⟩
abbrev main_cst_67 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_cst_68 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_cst_69 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_cst_70 : Ref sig .tc := ⟨.hbm, 309, rfl⟩
abbrev main_v190 : Ref sig .tc := ⟨.hbm, 310, rfl⟩
abbrev main_v191 : Ref sig .tc := ⟨.hbm, 311, rfl⟩
abbrev main_cst_71 : Ref sig .tc := ⟨.hbm, 312, rfl⟩
abbrev main_v192 : Ref sig .tc := ⟨.hbm, 313, rfl⟩
abbrev main_v193 : Ref sig .tc := ⟨.hbm, 314, rfl⟩
abbrev main_cst_72 : Ref sig .tc := ⟨.hbm, 315, rfl⟩
abbrev main_v194 : Ref sig .tc := ⟨.hbm, 316, rfl⟩
abbrev main_v195 : Ref sig .tc := ⟨.hbm, 317, rfl⟩
abbrev main_v196 : Ref sig .tc := ⟨.hbm, 318, rfl⟩
abbrev main_cst_73 : Ref sig .tc := ⟨.hbm, 319, rfl⟩
abbrev main_v197 : Ref sig .tc := ⟨.hbm, 320, rfl⟩
abbrev main_v198 : Ref sig .tc := ⟨.hbm, 321, rfl⟩
abbrev main_v199 : Ref sig .tc := ⟨.hbm, 322, rfl⟩
abbrev main_cst_74 : Ref sig .tc := ⟨.hbm, 323, rfl⟩
abbrev main_v200 : Ref sig .tc := ⟨.hbm, 324, rfl⟩
abbrev main_v201 : Ref sig .tc := ⟨.hbm, 325, rfl⟩
abbrev main_v202 : Ref sig .tc := ⟨.hbm, 326, rfl⟩
abbrev main_cst_75 : Ref sig .tc := ⟨.hbm, 327, rfl⟩
abbrev main_v203 : Ref sig .tc := ⟨.hbm, 328, rfl⟩
abbrev main_v204 : Ref sig .tc := ⟨.hbm, 329, rfl⟩
abbrev main_cst_76 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_cst_77 : Ref sig .tc := ⟨.hbm, 334, rfl⟩
abbrev main_v208 : Ref sig .tc := ⟨.hbm, 335, rfl⟩
abbrev main_v209 : Ref sig .tc := ⟨.hbm, 336, rfl⟩
abbrev main_v210 : Ref sig .tc := ⟨.hbm, 337, rfl⟩
abbrev main_cst_78 : Ref sig .tc := ⟨.hbm, 338, rfl⟩
abbrev main_v211 : Ref sig .tc := ⟨.hbm, 339, rfl⟩
abbrev main_v212 : Ref sig .tc := ⟨.hbm, 340, rfl⟩
abbrev main_v213 : Ref sig .tc := ⟨.hbm, 341, rfl⟩
abbrev main_cst_79 : Ref sig .tc := ⟨.hbm, 342, rfl⟩
abbrev main_v214 : Ref sig .tc := ⟨.hbm, 343, rfl⟩
abbrev main_v215 : Ref sig .tc := ⟨.hbm, 344, rfl⟩
abbrev main_cst_80 : Ref sig .tc := ⟨.hbm, 345, rfl⟩
abbrev main_v216 : Ref sig .tc := ⟨.hbm, 346, rfl⟩
abbrev main_v217 : Ref sig .tc := ⟨.hbm, 347, rfl⟩
abbrev main_cst_81 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_cst_82 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_cst_83 : Ref sig .tc := ⟨.hbm, 356, rfl⟩
abbrev main_v224 : Ref sig .tc := ⟨.hbm, 357, rfl⟩
abbrev main_v225 : Ref sig .tc := ⟨.hbm, 358, rfl⟩
abbrev main_v226 : Ref sig .tc := ⟨.hbm, 359, rfl⟩
abbrev main_cst_84 : Ref sig .tc := ⟨.hbm, 360, rfl⟩
abbrev main_v227 : Ref sig .tc := ⟨.hbm, 361, rfl⟩
abbrev main_v228 : Ref sig .tc := ⟨.hbm, 362, rfl⟩
abbrev main_cst_85 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_cst_86 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_cst_87 : Ref sig .tc := ⟨.hbm, 371, rfl⟩
abbrev main_v235 : Ref sig .tc := ⟨.hbm, 372, rfl⟩
abbrev main_v236 : Ref sig .tc := ⟨.hbm, 373, rfl⟩
abbrev main_v237 : Ref sig .tc := ⟨.hbm, 374, rfl⟩
abbrev main_cst_88 : Ref sig .tc := ⟨.hbm, 375, rfl⟩
abbrev main_v238 : Ref sig .tc := ⟨.hbm, 376, rfl⟩
abbrev main_v239 : Ref sig .tc := ⟨.hbm, 377, rfl⟩
abbrev main_cst_89 : Ref sig .tc := ⟨.hbm, 378, rfl⟩
abbrev main_v240 : Ref sig .tc := ⟨.hbm, 379, rfl⟩
abbrev main_v241 : Ref sig .tc := ⟨.hbm, 380, rfl⟩
abbrev main_cst_90 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_cst_91 : Ref sig .tc := ⟨.hbm, 385, rfl⟩
abbrev main_v245 : Ref sig .tc := ⟨.hbm, 386, rfl⟩
abbrev main_v246 : Ref sig .tc := ⟨.hbm, 387, rfl⟩
abbrev main_v247 : Ref sig .tc := ⟨.hbm, 388, rfl⟩
abbrev main_cst_92 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_cst_93 : Ref sig .tc := ⟨.hbm, 393, rfl⟩
abbrev main_v251 : Ref sig .tc := ⟨.hbm, 394, rfl⟩
abbrev main_v252 : Ref sig .tc := ⟨.hbm, 395, rfl⟩
abbrev main_cst_94 : Ref sig .tc := ⟨.hbm, 396, rfl⟩
abbrev main_v253 : Ref sig .tc := ⟨.hbm, 397, rfl⟩
abbrev main_v254 : Ref sig .tc := ⟨.hbm, 398, rfl⟩
abbrev main_v255 : Ref sig .tc := ⟨.hbm, 399, rfl⟩
abbrev main_cst_95 : Ref sig .tc := ⟨.hbm, 400, rfl⟩
abbrev main_v256 : Ref sig .tc := ⟨.hbm, 401, rfl⟩
abbrev main_v257 : Ref sig .tc := ⟨.hbm, 402, rfl⟩
abbrev main_v258 : Ref sig .tc := ⟨.hbm, 403, rfl⟩
abbrev main_cst_96 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_cst_97 : Ref sig .tc := ⟨.hbm, 408, rfl⟩
abbrev main_v262 : Ref sig .tc := ⟨.hbm, 409, rfl⟩
abbrev main_v263 : Ref sig .tc := ⟨.hbm, 410, rfl⟩
abbrev main_cst_98 : Ref sig .tc := ⟨.hbm, 411, rfl⟩
abbrev main_v264 : Ref sig .tc := ⟨.hbm, 412, rfl⟩
abbrev main_v265 : Ref sig .tc := ⟨.hbm, 413, rfl⟩
abbrev main_cst_99 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_cst_100 : Ref sig .tc := ⟨.hbm, 418, rfl⟩
abbrev main_v269 : Ref sig .tc := ⟨.hbm, 419, rfl⟩
abbrev main_v270 : Ref sig .tc := ⟨.hbm, 420, rfl⟩
abbrev main_v271 : Ref sig .tc := ⟨.hbm, 421, rfl⟩
abbrev main_cst_101 : Ref sig .tc := ⟨.hbm, 422, rfl⟩
abbrev main_v272 : Ref sig .tc := ⟨.hbm, 423, rfl⟩
abbrev main_v273 : Ref sig .tc := ⟨.hbm, 424, rfl⟩
abbrev main_v274 : Ref sig .tc := ⟨.hbm, 425, rfl⟩
abbrev main_cst_102 : Ref sig .tc := ⟨.hbm, 426, rfl⟩
abbrev main_v275 : Ref sig .tc := ⟨.hbm, 427, rfl⟩
abbrev main_v276 : Ref sig .tc := ⟨.hbm, 428, rfl⟩
abbrev main_cst_103 : Ref sig .tc := ⟨.hbm, 429, rfl⟩
abbrev main_v277 : Ref sig .tc := ⟨.hbm, 430, rfl⟩
abbrev main_v278 : Ref sig .tc := ⟨.hbm, 431, rfl⟩
abbrev main_v279 : Ref sig .tc := ⟨.hbm, 432, rfl⟩
abbrev main_cst_104 : Ref sig .tc := ⟨.hbm, 433, rfl⟩
abbrev main_v280 : Ref sig .tc := ⟨.hbm, 434, rfl⟩
abbrev main_v281 : Ref sig .tc := ⟨.hbm, 435, rfl⟩
abbrev main_v282 : Ref sig .tc := ⟨.hbm, 436, rfl⟩
abbrev main_cst_105 : Ref sig .tc := ⟨.hbm, 437, rfl⟩
abbrev main_v283 : Ref sig .tc := ⟨.hbm, 438, rfl⟩
abbrev main_v284 : Ref sig .tc := ⟨.hbm, 439, rfl⟩
abbrev main_v285 : Ref sig .tc := ⟨.hbm, 440, rfl⟩
abbrev main_cst_106 : Ref sig .tc := ⟨.hbm, 441, rfl⟩
abbrev main_v286 : Ref sig .tc := ⟨.hbm, 442, rfl⟩
abbrev main_v287 : Ref sig .tc := ⟨.hbm, 443, rfl⟩
abbrev main_v288 : Ref sig .tc := ⟨.hbm, 444, rfl⟩
abbrev main_v289 : Ref sig .tc := ⟨.hbm, 445, rfl⟩
abbrev main_v290 : Ref sig .tc := ⟨.hbm, 446, rfl⟩
abbrev main_v291 : Ref sig .tc := ⟨.hbm, 447, rfl⟩
abbrev main_v292 : Ref sig .tc := ⟨.hbm, 448, rfl⟩
abbrev main_v293 : Ref sig .tc := ⟨.hbm, 449, rfl⟩
abbrev main_v294 : Ref sig .tc := ⟨.hbm, 450, rfl⟩
abbrev main_v295 : Ref sig .tc := ⟨.hbm, 451, rfl⟩
abbrev main_v296 : Ref sig .tc := ⟨.hbm, 452, rfl⟩
abbrev main_v297 : Ref sig .tc := ⟨.hbm, 453, rfl⟩
abbrev main_v298 : Ref sig .tc := ⟨.hbm, 454, rfl⟩
abbrev main_v299 : Ref sig .tc := ⟨.hbm, 455, rfl⟩
abbrev main_v300 : Ref sig .tc := ⟨.hbm, 456, rfl⟩
abbrev main_c : Ref sig .tc := ⟨.hbm, 457, rfl⟩
abbrev main_call0_v0 : Ref sig .tc := ⟨.hbm, 458, rfl⟩
abbrev main_v301 : Ref sig .tc := ⟨.hbm, 459, rfl⟩
abbrev main_v302 : Ref sig .tc := ⟨.hbm, 460, rfl⟩
abbrev main_v303 : Ref sig .tc := ⟨.hbm, 461, rfl⟩
abbrev main_v304 : Ref sig .tc := ⟨.hbm, 462, rfl⟩
abbrev main_v305 : Ref sig .tc := ⟨.hbm, 463, rfl⟩
abbrev main_v306 : Ref sig .tc := ⟨.hbm, 464, rfl⟩
abbrev main_v307 : Ref sig .tc := ⟨.hbm, 465, rfl⟩
abbrev main_v308 : Ref sig .tc := ⟨.hbm, 466, rfl⟩
abbrev main_v309 : Ref sig .tc := ⟨.hbm, 467, rfl⟩
abbrev main_v310 : Ref sig .tc := ⟨.hbm, 468, rfl⟩
abbrev main_v311 : Ref sig .tc := ⟨.hbm, 469, rfl⟩
abbrev main_v312 : Ref sig .tc := ⟨.hbm, 470, rfl⟩
abbrev main_v313 : Ref sig .tc := ⟨.hbm, 471, rfl⟩
abbrev main_v314 : Ref sig .tc := ⟨.hbm, 472, rfl⟩
abbrev main_v315 : Ref sig .tc := ⟨.hbm, 473, rfl⟩
abbrev main_c_107 : Ref sig .tc := ⟨.hbm, 474, rfl⟩
abbrev main_call1_v0 : Ref sig .tc := ⟨.hbm, 475, rfl⟩
abbrev main_v316 : Ref sig .tc := ⟨.hbm, 476, rfl⟩
abbrev main_v317 : Ref sig .tc := ⟨.hbm, 477, rfl⟩
abbrev main_v318 : Ref sig .tc := ⟨.hbm, 478, rfl⟩
abbrev main_v319 : Ref sig .tc := ⟨.hbm, 479, rfl⟩
abbrev main_v320 : Ref sig .tc := ⟨.hbm, 480, rfl⟩
abbrev main_v321 : Ref sig .tc := ⟨.hbm, 481, rfl⟩
abbrev main_v322 : Ref sig .tc := ⟨.hbm, 482, rfl⟩
abbrev main_v323 : Ref sig .tc := ⟨.hbm, 483, rfl⟩
abbrev main_v324 : Ref sig .tc := ⟨.hbm, 484, rfl⟩
abbrev main_v325 : Ref sig .tc := ⟨.hbm, 485, rfl⟩
abbrev main_v326 : Ref sig .tc := ⟨.hbm, 486, rfl⟩
abbrev main_v327 : Ref sig .tc := ⟨.hbm, 487, rfl⟩
abbrev main_v328 : Ref sig .tc := ⟨.hbm, 488, rfl⟩
abbrev main_v329 : Ref sig .tc := ⟨.hbm, 489, rfl⟩
abbrev main_v330 : Ref sig .tc := ⟨.hbm, 490, rfl⟩
abbrev main_c_108 : Ref sig .tc := ⟨.hbm, 491, rfl⟩
abbrev main_call2_v0 : Ref sig .tc := ⟨.hbm, 492, rfl⟩
abbrev main_v331 : Ref sig .tc := ⟨.hbm, 493, rfl⟩
abbrev main_v332 : Ref sig .tc := ⟨.hbm, 494, rfl⟩

abbrev nD : Nat := 1
abbrev τ : Topo := Topo.v7x

variable {F : FTy → Type} [FloatOps F]
-- ==== Kernel30.lean ====
abbrev S8x1792x128 : Shape := ⟨3, ![8, 1792, 128]⟩
abbrev S1792x128 : Shape := ⟨2, ![1792, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x1792x128, .f32⟩
  | .hbm, ⟨1, _⟩ => ⟨S1792x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x1792x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![7], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference30Ideal.lean ====
abbrev S8x1792x128 : Shape := ⟨3, ![8, 1792, 128]⟩
abbrev S_ : Shape := ⟨0, ![]⟩
abbrev S1792x128 : Shape := ⟨2, ![1792, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1792x128, .f32⟩
  | .hbm, ⟨1, _⟩ => ⟨S_, .f32⟩
  | .hbm, ⟨2, _⟩ => ⟨S1792x128, .f32⟩
  | _, _ => ⟨S8x1792x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel31.lean ====
abbrev S4x2048x1152 : Shape := ⟨3, ![4, 2048, 1152]⟩
abbrev S2x2048x1152 : Shape := ⟨3, ![2, 2048, 1152]⟩
abbrev S4x256x1152 : Shape := ⟨3, ![4, 256, 1152]⟩
abbrev S1x256x1152 : Shape := ⟨3, ![1, 256, 1152]⟩
abbrev S256x1152 : Shape := ⟨2, ![256, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x1152, .bf16⟩
  | .hbm, ⟨1, _⟩ => ⟨S4x2048x1152, .bf16⟩
  | .hbm, ⟨2, _⟩ => ⟨S2x2048x1152, .f32⟩
  | .local _ .vmem, ⟨0, _⟩ => ⟨S4x256x1152, .bf16⟩
  | .local _ .vmem, ⟨1, _⟩ => ⟨S4x256x1152, .bf16⟩
  | .local _ .vmem, ⟨2, _⟩ => ⟨S4x256x1152, .bf16⟩
  | .local _ .vmem, ⟨3, _⟩ => ⟨S4x256x1152, .bf16⟩
  | .local _ .vmem, ⟨4, _⟩ => ⟨S1x256x1152, .f32⟩
  | .local _ .vmem, ⟨5, _⟩ => ⟨S1x256x1152, .f32⟩
  | _, _ => ⟨S4x2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference31Ideal.lean ====
abbrev S4x2048x1152 : Shape := ⟨3, ![4, 2048, 1152]⟩
abbrev S_ : Shape := ⟨0, ![]⟩
abbrev S2048x1152 : Shape := ⟨2, ![2048, 1152]⟩
abbrev S1x2048x1152 : Shape := ⟨3, ![1, 2048, 1152]⟩
abbrev S2x2048x1152 : Shape := ⟨3, ![2, 2048, 1152]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x1152, .bf16⟩
  | .hbm, ⟨1, _⟩ => ⟨S4x2048x1152, .bf16⟩
  | .hbm, ⟨2, _⟩ => ⟨S4x2048x1152, .f32⟩
  | .hbm, ⟨3, _⟩ => ⟨S_, .f32⟩
  | .hbm, ⟨4, _⟩ => ⟨S2048x1152, .f32⟩
  | .hbm, ⟨5, _⟩ => ⟨S4x2048x1152, .f32⟩
  | .hbm, ⟨6, _⟩ => ⟨S_, .f32⟩
  | .hbm, ⟨7, _⟩ => ⟨S2048x1152, .f32⟩
  | .hbm, ⟨8, _⟩ => ⟨S1x2048x1152, .f32⟩
  | .hbm, ⟨9, _⟩ => ⟨S1x2048x1152, .f32⟩
  | .hbm, ⟨10, _⟩ => ⟨S2x2048x1152, .f32⟩
  | _, _ => ⟨S4x2048x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel32.lean ====
abbrev S4x512x2048 : Shape := ⟨3, ![4, 512, 2048]⟩
abbrev S2x512x2048 : Shape := ⟨3, ![2, 512, 2048]⟩
abbrev S4x256x2048 : Shape := ⟨3, ![4, 256, 2048]⟩
abbrev S1x256x2048 : Shape := ⟨3, ![1, 256, 2048]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4x512x2048, .bf16⟩
  | .hbm, ⟨1, _⟩ => ⟨S4x512x2048, .bf16⟩
  | .hbm, ⟨2, _⟩ => ⟨S2x512x2048, .f32⟩
  | .local _ .vmem, ⟨0, _⟩ => ⟨S4x256x2048, .bf16⟩
  | .local _ .vmem, ⟨1, _⟩ => ⟨S4x256x2048, .bf16⟩
  | .local _ .vmem, ⟨2, _⟩ => ⟨S4x256x2048, .bf16⟩
  | .local _ .vmem, ⟨3, _⟩ => ⟨S4x256x2048, .bf16⟩
  | .local _ .vmem, ⟨4, _⟩ => ⟨S1x256x2048, .f32⟩
  | .local _ .vmem, ⟨5, _⟩ => ⟨S1x256x2048, .f32⟩
  | _, _ => ⟨S4x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference32Ideal.lean ====
abbrev S4x512x2048 : Shape := ⟨3, ![4, 512, 2048]⟩
abbrev S_ : Shape := ⟨0, ![]⟩
abbrev S512x2048 : Shape := ⟨2, ![512, 2048]⟩
abbrev S1x512x2048 : Shape := ⟨3, ![1, 512, 2048]⟩
abbrev S2x512x2048 : Shape := ⟨3, ![2, 512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x512x2048, .bf16⟩
  | .hbm, ⟨1, _⟩ => ⟨S4x512x2048, .bf16⟩
  | .hbm, ⟨2, _⟩ => ⟨S4x512x2048, .f32⟩
  | .hbm, ⟨3, _⟩ => ⟨S_, .f32⟩
  | .hbm, ⟨4, _⟩ => ⟨S512x2048, .f32⟩
  | .hbm, ⟨5, _⟩ => ⟨S4x512x2048, .f32⟩
  | .hbm, ⟨6, _⟩ => ⟨S_, .f32⟩
  | .hbm, ⟨7, _⟩ => ⟨S512x2048, .f32⟩
  | .hbm, ⟨8, _⟩ => ⟨S1x512x2048, .f32⟩
  | .hbm, ⟨9, _⟩ => ⟨S1x512x2048, .f32⟩
  | .hbm, ⟨10, _⟩ => ⟨S2x512x2048, .f32⟩
  | _, _ => ⟨S4x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel33.lean ====
abbrev S4x2048x1408 : Shape := ⟨3, ![4, 2048, 1408]⟩
abbrev S2x2048x1408 : Shape := ⟨3, ![2, 2048, 1408]⟩
abbrev S4x256x1408 : Shape := ⟨3, ![4, 256, 1408]⟩
abbrev S1x256x1408 : Shape := ⟨3, ![1, 256, 1408]⟩
abbrev S256x1408 : Shape := ⟨2, ![256, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x1408, .bf16⟩
  | .hbm, ⟨1, _⟩ => ⟨S4x2048x1408, .bf16⟩
  | .hbm, ⟨2, _⟩ => ⟨S2x2048x1408, .f32⟩
  | .local _ .vmem, ⟨0, _⟩ => ⟨S4x256x1408, .bf16⟩
  | .local _ .vmem, ⟨1, _⟩ => ⟨S4x256x1408, .bf16⟩
  | .local _ .vmem, ⟨2, _⟩ => ⟨S4x256x1408, .bf16⟩
  | .local _ .vmem, ⟨3, _⟩ => ⟨S4x256x1408, .bf16⟩
  | .local _ .vmem, ⟨4, _⟩ => ⟨S1x256x1408, .f32⟩
  | .local _ .vmem, ⟨5, _⟩ => ⟨S1x256x1408, .f32⟩
  | _, _ => ⟨S4x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference33Ideal.lean ====
abbrev S4x2048x1408 : Shape := ⟨3, ![4, 2048, 1408]⟩
abbrev S_ : Shape := ⟨0, ![]⟩
abbrev S2048x1408 : Shape := ⟨2, ![2048, 1408]⟩
abbrev S1x2048x1408 : Shape := ⟨3, ![1, 2048, 1408]⟩
abbrev S2x2048x1408 : Shape := ⟨3, ![2, 2048, 1408]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x1408, .bf16⟩
  | .hbm, ⟨1, _⟩ => ⟨S4x2048x1408, .bf16⟩
  | .hbm, ⟨2, _⟩ => ⟨S4x2048x1408, .f32⟩
  | .hbm, ⟨3, _⟩ => ⟨S_, .f32⟩
  | .hbm, ⟨4, _⟩ => ⟨S2048x1408, .f32⟩
  | .hbm, ⟨5, _⟩ => ⟨S4x2048x1408, .f32⟩
  | .hbm, ⟨6, _⟩ => ⟨S_, .f32⟩
  | .hbm, ⟨7, _⟩ => ⟨S2048x1408, .f32⟩
  | .hbm, ⟨8, _⟩ => ⟨S1x2048x1408, .f32⟩
  | .hbm, ⟨9, _⟩ => ⟨S1x2048x1408, .f32⟩
  | .hbm, ⟨10, _⟩ => ⟨S2x2048x1408, .f32⟩
  | _, _ => ⟨S4x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel34.lean ====
abbrev S4x1408x2048 : Shape := ⟨3, ![4, 1408, 2048]⟩
abbrev S2x1408x2048 : Shape := ⟨3, ![2, 1408, 2048]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4x1408x2048, .bf16⟩
  | .hbm, ⟨1, _⟩ => ⟨S4x1408x2048, .bf16⟩
  | .hbm, ⟨2, _⟩ => ⟨S2x1408x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S4x128x2048, .bf16⟩
  | .local _ .vmem, ⟨3, _⟩ => ⟨S4x128x2048, .bf16⟩
  | .local _ .vmem, ⟨4, _⟩ => ⟨S1x128x2048, .f32⟩
  | .local _ .vmem, ⟨5, _⟩ => ⟨S1x128x2048, .f32⟩
  | _, _ => ⟨S4x1408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference34Ideal.lean ====
abbrev S4x1408x2048 : Shape := ⟨3, ![4, 1408, 2048]⟩
abbrev S_ : Shape := ⟨0, ![]⟩
abbrev S1408x2048 : Shape := ⟨2, ![1408, 2048]⟩
abbrev S1x1408x2048 : Shape := ⟨3, ![1, 1408, 2048]⟩
abbrev S2x1408x2048 : Shape := ⟨3, ![2, 1408, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x1408x2048, .bf16⟩
  | .hbm, ⟨1, _⟩ => ⟨S4x1408x2048, .bf16⟩
  | .hbm, ⟨2, _⟩ => ⟨S4x1408x2048, .f32⟩
  | .hbm, ⟨3, _⟩ => ⟨S_, .f32⟩
  | .hbm, ⟨4, _⟩ => ⟨S1408x2048, .f32⟩
  | .hbm, ⟨5, _⟩ => ⟨S4x1408x2048, .f32⟩
  | .hbm, ⟨6, _⟩ => ⟨S_, .f32⟩
  | .hbm, ⟨7, _⟩ => ⟨S1408x2048, .f32⟩
  | .hbm, ⟨8, _⟩ => ⟨S1x1408x2048, .f32⟩
  | .hbm, ⟨9, _⟩ => ⟨S1x1408x2048, .f32⟩
  | .hbm, ⟨10, _⟩ => ⟨S2x1408x2048, .f32⟩
  | _, _ => ⟨S4x1408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel35.lean ====
abbrev S4x128x512 : Shape := ⟨3, ![4, 128, 512]⟩
abbrev S2x128x512 : Shape := ⟨3, ![2, 128, 512]⟩
abbrev S1x128x512 : Shape := ⟨3, ![1, 128, 512]⟩
abbrev S128x512 : Shape := ⟨2, ![128, 512]⟩

abbrev nBuf : Space → Nat
  | .hbm => 3
  | .vmem => 6
  | .smem => 0
  | _ => 0

abbrev bufTy : (tb : Table) → Fin (tcTables nBuf tb) → BufTy
  | .hbm, ⟨0, _⟩ => ⟨S4x128x512, .bf16⟩
  | .hbm, ⟨1, _⟩ => ⟨S4x128x512, .bf16⟩
  | .hbm, ⟨2, _⟩ => ⟨S2x128x512, .f32⟩
  | .local _ .vmem, ⟨0, _⟩ => ⟨S4x128x512, .bf16⟩
  | .local _ .vmem, ⟨1, _⟩ => ⟨S4x128x512, .bf16⟩
  | .local _ .vmem, ⟨2, _⟩ => ⟨S4x128x512, .bf16⟩
  | .local _ .vmem, ⟨3, _⟩ => ⟨S4x128x512, .bf16⟩
  | .local _ .vmem, ⟨4, _⟩ => ⟨S1x128x512, .f32⟩
  | .local _ .vmem, ⟨5, _⟩ => ⟨S1x128x512, .f32⟩
  | _, _ => ⟨S4x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference35Ideal.lean ====
abbrev S4x128x512 : Shape := ⟨3, ![4, 128, 512]⟩
abbrev S_ : Shape := ⟨0, ![]⟩
abbrev S128x512 : Shape := ⟨2, ![128, 512]⟩
abbrev S1x128x512 : Shape := ⟨3, ![1, 128, 512]⟩
abbrev S2x128x512 : Shape := ⟨3, ![2, 128, 512]⟩

abbrev nBuf : Space → Nat
  | .hbm => 11
  | .vmem => 0
  | .smem => 0
  | _ => 0

abbrev bufTy : (tb : Table) → Fin (tcTables nBuf tb) → BufTy
  | .hbm, ⟨0, _⟩ => ⟨S4x128x512, .bf16⟩
  | .hbm, ⟨1, _⟩ => ⟨S4x128x512, .bf16⟩
  | .hbm, ⟨2, _⟩ => ⟨S4x128x512, .f32⟩
  | .hbm, ⟨3, _⟩ => ⟨S_, .f32⟩
  | .hbm, ⟨4, _⟩ => ⟨S128x512, .f32⟩
  | .hbm, ⟨5, _⟩ => ⟨S4x128x512, .f32⟩
  | .hbm, ⟨6, _⟩ => ⟨S_, .f32⟩
  | .hbm, ⟨7, _⟩ => ⟨S128x512, .f32⟩
  | .hbm, ⟨8, _⟩ => ⟨S1x128x512, .f32⟩
  | .hbm, ⟨9, _⟩ => ⟨S1x128x512, .f32⟩
  | .hbm, ⟨10, _⟩ => ⟨S2x128x512, .f32⟩
  | _, _ => ⟨S4x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel15.lean ====
abbrev S4112x4608 : Shape := ⟨2, ![4112, 4608]⟩
abbrev S4x128x128 : Shape := ⟨3, ![4, 128, 128]⟩
abbrev S1x512 : Shape := ⟨2, ![1, 512]⟩
abbrev S_ : Shape := ⟨0, ![]⟩
abbrev S112x4608 : Shape := ⟨2, ![112, 4608]⟩
abbrev S4224x4608 : Shape := ⟨2, ![4224, 4608]⟩
abbrev S512x128 : Shape := ⟨2, ![512, 128]⟩
abbrev S4224x512 : Shape := ⟨2, ![4224, 512]⟩
abbrev S128x512 : Shape := ⟨2, ![128, 512]⟩
abbrev S32x512 : Shape := ⟨2, ![32, 512]⟩
abbrev S160x512 : Shape := ⟨2, ![160, 512]⟩
abbrev S128x1 : Shape := ⟨2, ![128, 1]⟩
abbrev S160x128 : Shape := ⟨2, ![160, 128]⟩
abbrev S128x128 : Shape := ⟨2, ![128, 128]⟩

abbrev nBuf : Space → Nat
  | .hbm => 9
  | .vmem => 8
  | .smem => 0
  | _ => 0

abbrev bufTy : (tb : Table) → Fin (tcTables nBuf tb) → BufTy
  | .hbm, ⟨0, _⟩ => ⟨S4112x4608, .f32⟩
  | .hbm, ⟨1, _⟩ => ⟨S4x128x128, .f32⟩
  | .hbm, ⟨2, _⟩ => ⟨S1x512, .f32⟩
  | .hbm, ⟨3, _⟩ => ⟨S_, .f32⟩
  | .hbm, ⟨4, _⟩ => ⟨S112x4608, .f32⟩
  | .hbm, ⟨5, _⟩ => ⟨S4224x4608, .f32⟩
  | .hbm, ⟨6, _⟩ => ⟨S512x128, .f32⟩
  | .hbm, ⟨7, _⟩ => ⟨S512x128, .bf16⟩
  | .hbm, ⟨8, _⟩ => ⟨S4224x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S512x128, .bf16⟩
  | .local _ .vmem, ⟨5, _⟩ => ⟨S1x512, .f32⟩
  | .local _ .vmem, ⟨6, _⟩ => ⟨S128x512, .f32⟩
  | .local _ .vmem, ⟨7, _⟩ => ⟨S128x512, .f32⟩
  | _, _ => ⟨S4112x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c6_i32 : BitVec 32 := 6#32
  let c0_i32_0 : BitVec 32 := 0#32
  ![v1.toNat, c6_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference15Ideal.lean ====
abbrev S4112x4608 : Shape := ⟨2, ![4112, 4608]⟩
abbrev S4x128x128 : Shape := ⟨3, ![4, 128, 128]⟩
abbrev S1x512 : Shape := ⟨2, ![1, 512]⟩
abbrev S4112x512 : Shape := ⟨2, ![4112, 512]⟩
abbrev S4112x128 : Shape := ⟨2, ![4112, 128]⟩
abbrev S_ : Shape := ⟨0, ![]⟩
abbrev S1x128 : Shape := ⟨2, ![1, 128]⟩
abbrev S4111x128 : Shape := ⟨2, ![4111, 128]⟩
abbrev S4112 : Shape := ⟨1, ![4112]⟩
abbrev S4112x1 : Shape := ⟨2, ![4112, 1]⟩
abbrev S1x128x128 : Shape := ⟨3, ![1, 128, 128]⟩
abbrev S128x128 : Shape := ⟨2, ![128, 128]⟩
abbrev S2x128 : Shape := ⟨2, ![2, 128]⟩
abbrev S4110x128 : Shape := ⟨2, ![4110, 128]⟩
abbrev S3x128 : Shape := ⟨2, ![3, 128]⟩
abbrev S4109x128 : Shape := ⟨2, ![4109, 128]⟩
abbrev S4x128 : Shape := ⟨2, ![4, 128]⟩
abbrev S4108x128 : Shape := ⟨2, ![4108, 128]⟩
abbrev S5x128 : Shape := ⟨2, ![5, 128]⟩
abbrev S4107x128 : Shape := ⟨2, ![4107, 128]⟩
abbrev S6x128 : Shape := ⟨2, ![6, 128]⟩
abbrev S4106x128 : Shape := ⟨2, ![4106, 128]⟩
abbrev S7x128 : Shape := ⟨2, ![7, 128]⟩
abbrev S4105x128 : Shape := ⟨2, ![4105, 128]⟩
abbrev S8x128 : Shape := ⟨2, ![8, 128]⟩
abbrev S4104x128 : Shape := ⟨2, ![4104, 128]⟩
abbrev S9x128 : Shape := ⟨2, ![9, 128]⟩
abbrev S4103x128 : Shape := ⟨2, ![4103, 128]⟩
abbrev S10x128 : Shape := ⟨2, ![10, 128]⟩
abbrev S4102x128 : Shape := ⟨2, ![4102, 128]⟩
abbrev S11x128 : Shape := ⟨2, ![11, 128]⟩
abbrev S4101x128 : Shape := ⟨2, ![4101, 128]⟩
abbrev S12x128 : Shape := ⟨2, ![12, 128]⟩
abbrev S4100x128 : Shape := ⟨2, ![4100, 128]⟩
abbrev S13x128 : Shape := ⟨2, ![13, 128]⟩
abbrev S4099x128 : Shape := ⟨2, ![4099, 128]⟩
abbrev S14x128 : Shape := ⟨2, ![14, 128]⟩
abbrev S4098x128 : Shape := ⟨2, ![4098, 128]⟩
abbrev S15x128 : Shape := ⟨2, ![15, 128]⟩
abbrev S4097x128 : Shape := ⟨2, ![4097, 128]⟩
abbrev S112x512 : Shape := ⟨2, ![112, 512]⟩
abbrev S4224x512 : Shape := ⟨2, ![4224, 512]⟩

abbrev nBuf : Space → Nat
  | .hbm => 214
  | .vmem => 0
  | .smem => 0
  | _ => 0

abbrev hbmTy0_0 (i : Nat) : BufTy := match i % 128 with
  | 0 => ⟨S4112x4608, .f32⟩
  | 1 => ⟨S4x128x128, .f32⟩
  | 2 => ⟨S1x512, .f32⟩
  | 3 => ⟨S4112x512, .f32⟩
  | 4 => ⟨S4112x128, .f32⟩
  | 5 => ⟨S_, .f32⟩
  | 6 => ⟨S1x128, .f32⟩
  | 7 => ⟨S4111x128, .f32⟩
  | 8 => ⟨S4112x128, .f32⟩
  | 9 => ⟨S4112x128, .f32⟩
  | 10 => ⟨S4112, .i32⟩
  | 11 => ⟨S_, .i32⟩
  | 12 => ⟨S4112, .i32⟩
  | 13 => ⟨S4112, .i32⟩
  | 14 => ⟨S_, .i32⟩
  | 15 => ⟨S4112, .i32⟩
  | 16 => ⟨S4112, .i32⟩
  | 17 => ⟨S4112, .f32⟩
  | 18 => ⟨S4112x1, .f32⟩
  | 19 => ⟨S4112x128, .f32⟩
  | 20 => ⟨S4112x128, .f32⟩
  | 21 => ⟨S4112x128, .f32⟩
  | 22 => ⟨S1x128x128, .f32⟩
  | 23 => ⟨S128x128, .f32⟩
  | 24 => ⟨S4112x128, .f32⟩
  | 25 => ⟨S1x128, .f32⟩
  | 26 => ⟨S4112x128, .f32⟩
  | 27 => ⟨S4112x128, .f32⟩
  | 28 => ⟨S4112x128, .f32⟩
  | 29 => ⟨S_, .f32⟩
  | 30 => ⟨S1x128, .f32⟩
  | 31 => ⟨S4111x128, .f32⟩
  | 32 => ⟨S4112x128, .f32⟩
  | 33 => ⟨S4112x128, .f32⟩
  | 34 => ⟨S_, .f32⟩
  | 35 => ⟨S2x128, .f32⟩
  | 36 => ⟨S4110x128, .f32⟩
  | 37 => ⟨S4112x128, .f32⟩
  | 38 => ⟨S4112x128, .f32⟩
  | 39 => ⟨S_, .f32⟩
  | 40 => ⟨S3x128, .f32⟩
  | 41 => ⟨S4109x128, .f32⟩
  | 42 => ⟨S4112x128, .f32⟩
  | 43 => ⟨S4112x128, .f32⟩
  | 44 => ⟨S4112, .i32⟩
  | 45 => ⟨S_, .i32⟩
  | 46 => ⟨S4112, .i32⟩
  | 47 => ⟨S4112, .i32⟩
  | 48 => ⟨S_, .i32⟩
  | 49 => ⟨S4112, .i32⟩
  | 50 => ⟨S4112, .i32⟩
  | 51 => ⟨S4112, .f32⟩
  | 52 => ⟨S4112x1, .f32⟩
  | 53 => ⟨S4112x128, .f32⟩
  | 54 => ⟨S4112x128, .f32⟩
  | 55 => ⟨S4112x128, .f32⟩
  | 56 => ⟨S1x128x128, .f32⟩
  | 57 => ⟨S128x128, .f32⟩
  | 58 => ⟨S4112x128, .f32⟩
  | 59 => ⟨S1x128, .f32⟩
  | 60 => ⟨S4112x128, .f32⟩
  | 61 => ⟨S4112x128, .f32⟩
  | 62 => ⟨S4112x128, .f32⟩
  | 63 => ⟨S_, .f32⟩
  | 64 => ⟨S1x128, .f32⟩
  | 65 => ⟨S4111x128, .f32⟩
  | 66 => ⟨S4112x128, .f32⟩
  | 67 => ⟨S4112x128, .f32⟩
  | 68 => ⟨S_, .f32⟩
  | 69 => ⟨S2x128, .f32⟩
  | 70 => ⟨S4110x128, .f32⟩
  | 71 => ⟨S4112x128, .f32⟩
  | 72 => ⟨S4112x128, .f32⟩
  | 73 => ⟨S_, .f32⟩
  | 74 => ⟨S3x128, .f32⟩
  | 75 => ⟨S4109x128, .f32⟩
  | 76 => ⟨S4112x128, .f32⟩
  | 77 => ⟨S4112x128, .f32⟩
  | 78 => ⟨S_, .f32⟩
  | 79 => ⟨S4x128, .f32⟩
  | 80 => ⟨S4108x128, .f32⟩
  | 81 => ⟨S4112x128, .f32⟩
  | 82 => ⟨S4112x128, .f32⟩
  | 83 => ⟨S_, .f32⟩
  | 84 => ⟨S5x128, .f32⟩
  | 85 => ⟨S4107x128, .f32⟩
  | 86 => ⟨S4112x128, .f32⟩
  | 87 => ⟨S4112x128, .f32⟩
  | 88 => ⟨S_, .f32⟩
  | 89 => ⟨S6x128, .f32⟩
  | 90 => ⟨S4106x128, .f32⟩
  | 91 => ⟨S4112x128, .f32⟩
  | 92 => ⟨S4112x128, .f32⟩
  | 93 => ⟨S_, .f32⟩
  | 94 => ⟨S7x128, .f32⟩
  | 95 => ⟨S4105x128, .f32⟩
  | 96 => ⟨S4112x128, .f32⟩
  | 97 => ⟨S4112x128, .f32⟩
  | 98 => ⟨S4112, .i32⟩
  | 99 => ⟨S_, .i32⟩
  | 100 => ⟨S4112, .i32⟩
  | 101 => ⟨S4112, .i32⟩
  | 102 => ⟨S_, .i32⟩
  | 103 => ⟨S4112, .i32⟩
  | 104 => ⟨S4112, .i32⟩
  | 105 => ⟨S4112, .f32⟩
  | 106 => ⟨S4112x1, .f32⟩
  | 107 => ⟨S4112x128, .f32⟩
  | 108 => ⟨S4112x128, .f32⟩
  | 109 => ⟨S4112x128, .f32⟩
  | 110 => ⟨S1x128x128, .f32⟩
  | 111 => ⟨S128x128, .f32⟩
  | 112 => ⟨S4112x128, .f32⟩
  | 113 => ⟨S1x128, .f32⟩
  | 114 => ⟨S4112x128, .f32⟩
  | 115 => ⟨S4112x128, .f32⟩
  | 116 => ⟨S4112x128, .f32⟩
  | 117 => ⟨S_, .f32⟩
  | 118 => ⟨S1x128, .f32⟩
  | 119 => ⟨S4111x128, .f32⟩
  | 120 => ⟨S4112x128, .f32⟩
  | 121 => ⟨S4112x128, .f32⟩
  | 122 => ⟨S_, .f32⟩
  | 123 => ⟨S2x128, .f32⟩
  | 124 => ⟨S4110x128, .f32⟩
  | 125 => ⟨S4112x128, .f32⟩
  | 126 => ⟨S4112x128, .f32⟩
  | 127 => ⟨S_, .f32⟩
  | _ => ⟨S4112x4608, .f32⟩

abbrev hbmTy0_1 (i : Nat) : BufTy := match i % 128 with
  | 0 => ⟨S3x128, .f32⟩
  | 1 => ⟨S4109x128, .f32⟩
  | 2 => ⟨S4112x128, .f32⟩
  | 3 => ⟨S4112x128, .f32⟩
  | 4 => ⟨S_, .f32⟩
  | 5 => ⟨S4x128, .f32⟩
  | 6 => ⟨S4108x128, .f32⟩
  | 7 => ⟨S4112x128, .f32⟩
  | 8 => ⟨S4112x128, .f32⟩
  | 9 => ⟨S_, .f32⟩
  | 10 => ⟨S5x128, .f32⟩
  | 11 => ⟨S4107x128, .f32⟩
  | 12 => ⟨S4112x128, .f32⟩
  | 13 => ⟨S4112x128, .f32⟩
  | 14 => ⟨S_, .f32⟩
  | 15 => ⟨S6x128, .f32⟩
  | 16 => ⟨S4106x128, .f32⟩
  | 17 => ⟨S4112x128, .f32⟩
  | 18 => ⟨S4112x128, .f32⟩
  | 19 => ⟨S_, .f32⟩
  | 20 => ⟨S7x128, .f32⟩
  | 21 => ⟨S4105x128, .f32⟩
  | 22 => ⟨S4112x128, .f32⟩
  | 23 => ⟨S4112x128, .f32⟩
  | 24 => ⟨S_, .f32⟩
  | 25 => ⟨S8x128, .f32⟩
  | 26 => ⟨S4104x128, .f32⟩
  | 27 => ⟨S4112x128, .f32⟩
  | 28 => ⟨S4112x128, .f32⟩
  | 29 => ⟨S_, .f32⟩
  | 30 => ⟨S9x128, .f32⟩
  | 31 => ⟨S4103x128, .f32⟩
  | 32 => ⟨S4112x128, .f32⟩
  | 33 => ⟨S4112x128, .f32⟩
  | 34 => ⟨S_, .f32⟩
  | 35 => ⟨S10x128, .f32⟩
  | 36 => ⟨S4102x128, .f32⟩
  | 37 => ⟨S4112x128, .f32⟩
  | 38 => ⟨S4112x128, .f32⟩
  | 39 => ⟨S_, .f32⟩
  | 40 => ⟨S11x128, .f32⟩
  | 41 => ⟨S4101x128, .f32⟩
  | 42 => ⟨S4112x128, .f32⟩
  | 43 => ⟨S4112x128, .f32⟩
  | 44 => ⟨S_, .f32⟩
  | 45 => ⟨S12x128, .f32⟩
  | 46 => ⟨S4100x128, .f32⟩
  | 47 => ⟨S4112x128, .f32⟩
  | 48 => ⟨S4112x128, .f32⟩
  | 49 => ⟨S_, .f32⟩
  | 50 => ⟨S13x128, .f32⟩
  | 51 => ⟨S4099x128, .f32⟩
  | 52 => ⟨S4112x128, .f32⟩
  | 53 => ⟨S4112x128, .f32⟩
  | 54 => ⟨S_, .f32⟩
  | 55 => ⟨S14x128, .f32⟩
  | 56 => ⟨S4098x128, .f32⟩
  | 57 => ⟨S4112x128, .f32⟩
  | 58 => ⟨S4112x128, .f32⟩
  | 59 => ⟨S_, .f32⟩
  | 60 => ⟨S15x128, .f32⟩
  | 61 => ⟨S4097x128, .f32⟩
  | 62 => ⟨S4112x128, .f32⟩
  | 63 => ⟨S4112x128, .f32⟩
  | 64 => ⟨S4112, .i32⟩
  | 65 => ⟨S_, .i32⟩
  | 66 => ⟨S4112, .i32⟩
  | 67 => ⟨S4112, .i32⟩
  | 68 => ⟨S_, .i32⟩
  | 69 => ⟨S4112, .i32⟩
  | 70 => ⟨S4112, .i32⟩
  | 71 => ⟨S4112, .f32⟩
  | 72 => ⟨S4112x1, .f32⟩
  | 73 => ⟨S4112x128, .f32⟩
  | 74 => ⟨S4112x128, .f32⟩
  | 75 => ⟨S4112x128, .f32⟩
  | 76 => ⟨S1x128x128, .f32⟩
  | 77 => ⟨S128x128, .f32⟩
  | 78 => ⟨S4112x128, .f32⟩
  | 79 => ⟨S1x128, .f32⟩
  | 80 => ⟨S4112x128, .f32⟩
  | 81 => ⟨S4112x128, .f32⟩
  | 82 => ⟨S4112x512, .f32⟩
  | 83 => ⟨S_, .f32⟩
  | 84 => ⟨S112x512, .f32⟩
  | 85 => ⟨S4224x512, .f32⟩
  | _ => ⟨S4112x4608, .f32⟩

abbrev hbmTy (i : Nat) : BufTy := match i / 128 with
  | 0 => hbmTy0_0 i
  | 1 => hbmTy0_1 i
  | _ => ⟨S4112x4608, .f32⟩

abbrev bufTy : (tb : Table) → Fin (tcTables nBuf tb) → BufTy
  | .hbm, ⟨i, _⟩ => hbmTy i
  | _, _ => ⟨S4112x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_4 : Ref sig .tc := ⟨.hbm, 45, rfl⟩
abbrev main_v36 : Ref sig .tc := ⟨.hbm, 46, rfl⟩
abbrev main_v37 : Ref sig .tc := ⟨.hbm, 47, rfl⟩
abbrev main_c_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_8 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_9 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_10 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_11 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_12 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_c_13 : Ref sig .tc := ⟨.hbm, 99, rfl⟩
abbrev main_v81 : Ref sig .tc := ⟨.hbm, 100, rfl⟩
abbrev main_v82 : Ref sig .tc := ⟨.hbm, 101, rfl⟩
abbrev main_c_14 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_cst_15 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_16 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_cst_17 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_cst_18 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_19 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_20 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_21 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_cst_22 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_cst_23 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_cst_24 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_cst_25 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_cst_26 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_cst_27 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_cst_28 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_29 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_c_30 : Ref sig .tc := ⟨.hbm, 193, rfl⟩
abbrev main_v158 : Ref sig .tc := ⟨.hbm, 194, rfl⟩
abbrev main_v159 : Ref sig .tc := ⟨.hbm, 195, rfl⟩
abbrev main_c_31 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_cst_32 : Ref sig .tc := ⟨.hbm, 211, rfl⟩
abbrev main_v174 : Ref sig .tc := ⟨.hbm, 212, rfl⟩
abbrev main_v175 : Ref sig .tc := ⟨.hbm, 213, rfl⟩

abbrev nD : Nat := 1
abbrev τ : Topo := Topo.v7x

variable {F : FTy → Type} [FloatOps F]
-- ==== Kernel14.lean ====
abbrev S4112x4608 : Shape := ⟨2, ![4112, 4608]⟩
abbrev S4224x512 : Shape := ⟨2, ![4224, 512]⟩
abbrev S4x128x128 : Shape := ⟨3, ![4, 128, 128]⟩
abbrev S1x512 : Shape := ⟨2, ![1, 512]⟩
abbrev S_ : Shape := ⟨0, ![]⟩
abbrev S112x4608 : Shape := ⟨2, ![112, 4608]⟩
abbrev S4224x4608 : Shape := ⟨2, ![4224, 4608]⟩
abbrev S512x128 : Shape := ⟨2, ![512, 128]⟩
abbrev S128x512 : Shape := ⟨2, ![128, 512]⟩
abbrev S32x512 : Shape := ⟨2, ![32, 512]⟩
abbrev S160x512 : Shape := ⟨2, ![160, 512]⟩
abbrev S128x1 : Shape := ⟨2, ![128, 1]⟩
abbrev S160x128 : Shape := ⟨2, ![160, 128]⟩
abbrev S128x128 : Shape := ⟨2, ![128, 128]⟩
abbrev S160x1 : Shape := ⟨2, ![160, 1]⟩
abbrev S512 : Shape := ⟨1, ![512]⟩

abbrev nBuf : Space → Nat
  | .hbm => 12
  | .vmem => 14
  | .smem => 0
  | _ => 0

abbrev bufTy : (tb : Table) → Fin (tcTables nBuf tb) → BufTy
  | .hbm, ⟨0, _⟩ => ⟨S4112x4608, .f32⟩
  | .hbm, ⟨1, _⟩ => ⟨S4224x512, .f32⟩
  | .hbm, ⟨2, _⟩ => ⟨S4x128x128, .f32⟩
  | .hbm, ⟨3, _⟩ => ⟨S1x512, .f32⟩
  | .hbm, ⟨4, _⟩ => ⟨S_, .f32⟩
  | .hbm, ⟨5, _⟩ => ⟨S112x4608, .f32⟩
  | .hbm, ⟨6, _⟩ => ⟨S4224x4608, .f32⟩
  | .hbm, ⟨7, _⟩ => ⟨S512x128, .f32⟩
  | .hbm, ⟨8, _⟩ => ⟨S512x128, .bf16⟩
  | .hbm, ⟨9, _⟩ => ⟨S4224x512, .bf16⟩
  | .hbm, ⟨10, _⟩ => ⟨S512x128, .f32⟩
  | .hbm, ⟨11, _⟩ => ⟨S1x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S512x128, .bf16⟩
  | .local _ .vmem, ⟨9, _⟩ => ⟨S1x512, .f32⟩
  | .local _ .vmem, ⟨10, _⟩ => ⟨S128x512, .bf16⟩
  | .local _ .vmem, ⟨11, _⟩ => ⟨S128x512, .bf16⟩
  | .local _ .vmem, ⟨12, _⟩ => ⟨S512x128, .f32⟩
  | .local _ .vmem, ⟨13, _⟩ => ⟨S1x512, .f32⟩
  | _, _ => ⟨S4112x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c6_i32 : BitVec 32 := 6#32
  let c0_i32_0 : BitVec 32 := 0#32
  ![v1.toNat, c6_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.minsi v0 c32_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference14Ideal.lean ====
abbrev S4112x4608 : Shape := ⟨2, ![4112, 4608]⟩
abbrev S4224x512 : Shape := ⟨2, ![4224, 512]⟩
abbrev S4x128x128 : Shape := ⟨3, ![4, 128, 128]⟩
abbrev S1x512 : Shape := ⟨2, ![1, 512]⟩
abbrev S4112x512 : Shape := ⟨2, ![4112, 512]⟩
abbrev S4112x128 : Shape := ⟨2, ![4112, 128]⟩
abbrev S_ : Shape := ⟨0, ![]⟩
abbrev S1x128 : Shape := ⟨2, ![1, 128]⟩
abbrev S4111x128 : Shape := ⟨2, ![4111, 128]⟩
abbrev S4112 : Shape := ⟨1, ![4112]⟩
abbrev S4112x1 : Shape := ⟨2, ![4112, 1]⟩
abbrev S1x128x128 : Shape := ⟨3, ![1, 128, 128]⟩
abbrev S128x128 : Shape := ⟨2, ![128, 128]⟩
abbrev S2x128 : Shape := ⟨2, ![2, 128]⟩
abbrev S4110x128 : Shape := ⟨2, ![4110, 128]⟩
abbrev S3x128 : Shape := ⟨2, ![3, 128]⟩
abbrev S4109x128 : Shape := ⟨2, ![4109, 128]⟩
abbrev S4x128 : Shape := ⟨2, ![4, 128]⟩
abbrev S4108x128 : Shape := ⟨2, ![4108, 128]⟩
abbrev S5x128 : Shape := ⟨2, ![5, 128]⟩
abbrev S4107x128 : Shape := ⟨2, ![4107, 128]⟩
abbrev S6x128 : Shape := ⟨2, ![6, 128]⟩
abbrev S4106x128 : Shape := ⟨2, ![4106, 128]⟩
abbrev S7x128 : Shape := ⟨2, ![7, 128]⟩
abbrev S4105x128 : Shape := ⟨2, ![4105, 128]⟩
abbrev S8x128 : Shape := ⟨2, ![8, 128]⟩
abbrev S4104x128 : Shape := ⟨2, ![4104, 128]⟩
abbrev S9x128 : Shape := ⟨2, ![9, 128]⟩
abbrev S4103x128 : Shape := ⟨2, ![4103, 128]⟩
abbrev S10x128 : Shape := ⟨2, ![10, 128]⟩
abbrev S4102x128 : Shape := ⟨2, ![4102, 128]⟩
abbrev S11x128 : Shape := ⟨2, ![11, 128]⟩
abbrev S4101x128 : Shape := ⟨2, ![4101, 128]⟩
abbrev S12x128 : Shape := ⟨2, ![12, 128]⟩
abbrev S4100x128 : Shape := ⟨2, ![4100, 128]⟩
abbrev S13x128 : Shape := ⟨2, ![13, 128]⟩
abbrev S4099x128 : Shape := ⟨2, ![4099, 128]⟩
abbrev S14x128 : Shape := ⟨2, ![14, 128]⟩
abbrev S4098x128 : Shape := ⟨2, ![4098, 128]⟩
abbrev S15x128 : Shape := ⟨2, ![15, 128]⟩
abbrev S4097x128 : Shape := ⟨2, ![4097, 128]⟩
abbrev S128 : Shape := ⟨1, ![128]⟩
abbrev S112x512 : Shape := ⟨2, ![112, 512]⟩
abbrev S512x128 : Shape := ⟨2, ![512, 128]⟩

abbrev nBuf : Space → Nat
  | .hbm => 493
  | .vmem => 0
  | .smem => 0
  | _ => 0

abbrev hbmTy0_0 (i : Nat) : BufTy := match i % 128 with
  | 0 => ⟨S4112x4608, .f32⟩
  | 1 => ⟨S4224x512, .f32⟩
  | 2 => ⟨S4x128x128, .f32⟩
  | 3 => ⟨S1x512, .f32⟩
  | 4 => ⟨S4112x512, .f32⟩
  | 5 => ⟨S4112x128, .f32⟩
  | 6 => ⟨S_, .f32⟩
  | 7 => ⟨S1x128, .f32⟩
  | 8 => ⟨S4111x128, .f32⟩
  | 9 => ⟨S4112x128, .f32⟩
  | 10 => ⟨S_, .f32⟩
  | 11 => ⟨S1x128, .f32⟩
  | 12 => ⟨S4112x128, .f32⟩
  | 13 => ⟨S4112, .i32⟩
  | 14 => ⟨S_, .i32⟩
  | 15 => ⟨S4112, .i32⟩
  | 16 => ⟨S4112, .i32⟩
  | 17 => ⟨S_, .i32⟩
  | 18 => ⟨S4112, .i32⟩
  | 19 => ⟨S4112, .i32⟩
  | 20 => ⟨S4112, .f32⟩
  | 21 => ⟨S4112x1, .f32⟩
  | 22 => ⟨S4112x128, .f32⟩
  | 23 => ⟨S4112x128, .f32⟩
  | 24 => ⟨S4112x128, .f32⟩
  | 25 => ⟨S1x128x128, .f32⟩
  | 26 => ⟨S128x128, .f32⟩
  | 27 => ⟨S4112x128, .f32⟩
  | 28 => ⟨S1x128, .f32⟩
  | 29 => ⟨S4112x128, .f32⟩
  | 30 => ⟨S4112x128, .f32⟩
  | 31 => ⟨S4112x128, .f32⟩
  | 32 => ⟨S_, .f32⟩
  | 33 => ⟨S1x128, .f32⟩
  | 34 => ⟨S4111x128, .f32⟩
  | 35 => ⟨S4112x128, .f32⟩
  | 36 => ⟨S_, .f32⟩
  | 37 => ⟨S1x128, .f32⟩
  | 38 => ⟨S4112x128, .f32⟩
  | 39 => ⟨S_, .f32⟩
  | 40 => ⟨S2x128, .f32⟩
  | 41 => ⟨S4110x128, .f32⟩
  | 42 => ⟨S4112x128, .f32⟩
  | 43 => ⟨S_, .f32⟩
  | 44 => ⟨S2x128, .f32⟩
  | 45 => ⟨S4112x128, .f32⟩
  | 46 => ⟨S_, .f32⟩
  | 47 => ⟨S3x128, .f32⟩
  | 48 => ⟨S4109x128, .f32⟩
  | 49 => ⟨S4112x128, .f32⟩
  | 50 => ⟨S_, .f32⟩
  | 51 => ⟨S3x128, .f32⟩
  | 52 => ⟨S4112x128, .f32⟩
  | 53 => ⟨S4112, .i32⟩
  | 54 => ⟨S_, .i32⟩
  | 55 => ⟨S4112, .i32⟩
  | 56 => ⟨S4112, .i32⟩
  | 57 => ⟨S_, .i32⟩
  | 58 => ⟨S4112, .i32⟩
  | 59 => ⟨S4112, .i32⟩
  | 60 => ⟨S4112, .f32⟩
  | 61 => ⟨S4112x1, .f32⟩
  | 62 => ⟨S4112x128, .f32⟩
  | 63 => ⟨S4112x128, .f32⟩
  | 64 => ⟨S4112x128, .f32⟩
  | 65 => ⟨S1x128x128, .f32⟩
  | 66 => ⟨S128x128, .f32⟩
  | 67 => ⟨S4112x128, .f32⟩
  | 68 => ⟨S1x128, .f32⟩
  | 69 => ⟨S4112x128, .f32⟩
  | 70 => ⟨S4112x128, .f32⟩
  | 71 => ⟨S4112x128, .f32⟩
  | 72 => ⟨S_, .f32⟩
  | 73 => ⟨S1x128, .f32⟩
  | 74 => ⟨S4111x128, .f32⟩
  | 75 => ⟨S4112x128, .f32⟩
  | 76 => ⟨S_, .f32⟩
  | 77 => ⟨S1x128, .f32⟩
  | 78 => ⟨S4112x128, .f32⟩
  | 79 => ⟨S_, .f32⟩
  | 80 => ⟨S2x128, .f32⟩
  | 81 => ⟨S4110x128, .f32⟩
  | 82 => ⟨S4112x128, .f32⟩
  | 83 => ⟨S_, .f32⟩
  | 84 => ⟨S2x128, .f32⟩
  | 85 => ⟨S4112x128, .f32⟩
  | 86 => ⟨S_, .f32⟩
  | 87 => ⟨S3x128, .f32⟩
  | 88 => ⟨S4109x128, .f32⟩
  | 89 => ⟨S4112x128, .f32⟩
  | 90 => ⟨S_, .f32⟩
  | 91 => ⟨S3x128, .f32⟩
  | 92 => ⟨S4112x128, .f32⟩
  | 93 => ⟨S_, .f32⟩
  | 94 => ⟨S4x128, .f32⟩
  | 95 => ⟨S4108x128, .f32⟩
  | 96 => ⟨S4112x128, .f32⟩
  | 97 => ⟨S_, .f32⟩
  | 98 => ⟨S4x128, .f32⟩
  | 99 => ⟨S4112x128, .f32⟩
  | 100 => ⟨S_, .f32⟩
  | 101 => ⟨S5x128, .f32⟩
  | 102 => ⟨S4107x128, .f32⟩
  | 103 => ⟨S4112x128, .f32⟩
  | 104 => ⟨S_, .f32⟩
  | 105 => ⟨S5x128, .f32⟩
  | 106 => ⟨S4112x128, .f32⟩
  | 107 => ⟨S_, .f32⟩
  | 108 => ⟨S6x128, .f32⟩
  | 109 => ⟨S4106x128, .f32⟩
  | 110 => ⟨S4112x128, .f32⟩
  | 111 => ⟨S_, .f32⟩
  | 112 => ⟨S6x128, .f32⟩
  | 113 => ⟨S4112x128, .f32⟩
  | 114 => ⟨S_, .f32⟩
  | 115 => ⟨S7x128, .f32⟩
  | 116 => ⟨S4105x128, .f32⟩
  | 117 => ⟨S4112x128, .f32⟩
  | 118 => ⟨S_, .f32⟩
  | 119 => ⟨S7x128, .f32⟩
  | 120 => ⟨S4112x128, .f32⟩
  | 121 => ⟨S4112, .i32⟩
  | 122 => ⟨S_, .i32⟩
  | 123 => ⟨S4112, .i32⟩
  | 124 => ⟨S4112, .i32⟩
  | 125 => ⟨S_, .i32⟩
  | 126 => ⟨S4112, .i32⟩
  | 127 => ⟨S4112, .i32⟩
  | _ => ⟨S4112x4608, .f32⟩

abbrev hbmTy0_1 (i : Nat) : BufTy := match i % 128 with
  | 0 => ⟨S4112, .f32⟩
  | 1 => ⟨S4112x1, .f32⟩
  | 2 => ⟨S4112x128, .f32⟩
  | 3 => ⟨S4112x128, .f32⟩
  | 4 => ⟨S4112x128, .f32⟩
  | 5 => ⟨S1x128x128, .f32⟩
  | 6 => ⟨S128x128, .f32⟩
  | 7 => ⟨S4112x128, .f32⟩
  | 8 => ⟨S1x128, .f32⟩
  | 9 => ⟨S4112x128, .f32⟩
  | 10 => ⟨S4112x128, .f32⟩
  | 11 => ⟨S4112x128, .f32⟩
  | 12 => ⟨S_, .f32⟩
  | 13 => ⟨S1x128, .f32⟩
  | 14 => ⟨S4111x128, .f32⟩
  | 15 => ⟨S4112x128, .f32⟩
  | 16 => ⟨S_, .f32⟩
  | 17 => ⟨S1x128, .f32⟩
  | 18 => ⟨S4112x128, .f32⟩
  | 19 => ⟨S_, .f32⟩
  | 20 => ⟨S2x128, .f32⟩
  | 21 => ⟨S4110x128, .f32⟩
  | 22 => ⟨S4112x128, .f32⟩
  | 23 => ⟨S_, .f32⟩
  | 24 => ⟨S2x128, .f32⟩
  | 25 => ⟨S4112x128, .f32⟩
  | 26 => ⟨S_, .f32⟩
  | 27 => ⟨S3x128, .f32⟩
  | 28 => ⟨S4109x128, .f32⟩
  | 29 => ⟨S4112x128, .f32⟩
  | 30 => ⟨S_, .f32⟩
  | 31 => ⟨S3x128, .f32⟩
  | 32 => ⟨S4112x128, .f32⟩
  | 33 => ⟨S_, .f32⟩
  | 34 => ⟨S4x128, .f32⟩
  | 35 => ⟨S4108x128, .f32⟩
  | 36 => ⟨S4112x128, .f32⟩
  | 37 => ⟨S_, .f32⟩
  | 38 => ⟨S4x128, .f32⟩
  | 39 => ⟨S4112x128, .f32⟩
  | 40 => ⟨S_, .f32⟩
  | 41 => ⟨S5x128, .f32⟩
  | 42 => ⟨S4107x128, .f32⟩
  | 43 => ⟨S4112x128, .f32⟩
  | 44 => ⟨S_, .f32⟩
  | 45 => ⟨S5x128, .f32⟩
  | 46 => ⟨S4112x128, .f32⟩
  | 47 => ⟨S_, .f32⟩
  | 48 => ⟨S6x128, .f32⟩
  | 49 => ⟨S4106x128, .f32⟩
  | 50 => ⟨S4112x128, .f32⟩
  | 51 => ⟨S_, .f32⟩
  | 52 => ⟨S6x128, .f32⟩
  | 53 => ⟨S4112x128, .f32⟩
  | 54 => ⟨S_, .f32⟩
  | 55 => ⟨S7x128, .f32⟩
  | 56 => ⟨S4105x128, .f32⟩
  | 57 => ⟨S4112x128, .f32⟩
  | 58 => ⟨S_, .f32⟩
  | 59 => ⟨S7x128, .f32⟩
  | 60 => ⟨S4112x128, .f32⟩
  | 61 => ⟨S_, .f32⟩
  | 62 => ⟨S8x128, .f32⟩
  | 63 => ⟨S4104x128, .f32⟩
  | 64 => ⟨S4112x128, .f32⟩
  | 65 => ⟨S_, .f32⟩
  | 66 => ⟨S8x128, .f32⟩
  | 67 => ⟨S4112x128, .f32⟩
  | 68 => ⟨S_, .f32⟩
  | 69 => ⟨S9x128, .f32⟩
  | 70 => ⟨S4103x128, .f32⟩
  | 71 => ⟨S4112x128, .f32⟩
  | 72 => ⟨S_, .f32⟩
  | 73 => ⟨S9x128, .f32⟩
  | 74 => ⟨S4112x128, .f32⟩
  | 75 => ⟨S_, .f32⟩
  | 76 => ⟨S10x128, .f32⟩
  | 77 => ⟨S4102x128, .f32⟩
  | 78 => ⟨S4112x128, .f32⟩
  | 79 => ⟨S_, .f32⟩
  | 80 => ⟨S10x128, .f32⟩
  | 81 => ⟨S4112x128, .f32⟩
  | 82 => ⟨S_, .f32⟩
  | 83 => ⟨S11x128, .f32⟩
  | 84 => ⟨S4101x128, .f32⟩
  | 85 => ⟨S4112x128, .f32⟩
  | 86 => ⟨S_, .f32⟩
  | 87 => ⟨S11x128, .f32⟩
  | 88 => ⟨S4112x128, .f32⟩
  | 89 => ⟨S_, .f32⟩
  | 90 => ⟨S12x128, .f32⟩
  | 91 => ⟨S4100x128, .f32⟩
  | 92 => ⟨S4112x128, .f32⟩
  | 93 => ⟨S_, .f32⟩
  | 94 => ⟨S12x128, .f32⟩
  | 95 => ⟨S4112x128, .f32⟩
  | 96 => ⟨S_, .f32⟩
  | 97 => ⟨S13x128, .f32⟩
  | 98 => ⟨S4099x128, .f32⟩
  | 99 => ⟨S4112x128, .f32⟩
  | 100 => ⟨S_, .f32⟩
  | 101 => ⟨S13x128, .f32⟩
  | 102 => ⟨S4112x128, .f32⟩
  | 103 => ⟨S_, .f32⟩
  | 104 => ⟨S14x128, .f32⟩
  | 105 => ⟨S4098x128, .f32⟩
  | 106 => ⟨S4112x128, .f32⟩
  | 107 => ⟨S_, .f32⟩
  | 108 => ⟨S14x128, .f32⟩
  | 109 => ⟨S4112x128, .f32⟩
  | 110 => ⟨S_, .f32⟩
  | 111 => ⟨S15x128, .f32⟩
  | 112 => ⟨S4097x128, .f32⟩
  | 113 => ⟨S4112x128, .f32⟩
  | 114 => ⟨S_, .f32⟩
  | 115 => ⟨S15x128, .f32⟩
  | 116 => ⟨S4112x128, .f32⟩
  | 117 => ⟨S4112, .i32⟩
  | 118 => ⟨S_, .i32⟩
  | 119 => ⟨S4112, .i32⟩
  | 120 => ⟨S4112, .i32⟩
  | 121 => ⟨S_, .i32⟩
  | 122 => ⟨S4112, .i32⟩
  | 123 => ⟨S4112, .i32⟩
  | 124 => ⟨S4112, .f32⟩
  | 125 => ⟨S4112x1, .f32⟩
  | 126 => ⟨S4112x128, .f32⟩
  | 127 => ⟨S4112x128, .f32⟩
  | _ => ⟨S4112x4608, .f32⟩

abbrev hbmTy0_2 (i : Nat) : BufTy := match i % 128 with
  | 0 => ⟨S4112x128, .f32⟩
  | 1 => ⟨S1x128x128, .f32⟩
  | 2 => ⟨S128x128, .f32⟩
  | 3 => ⟨S4112x128, .f32⟩
  | 4 => ⟨S1x128, .f32⟩
  | 5 => ⟨S4112x128, .f32⟩
  | 6 => ⟨S4112x128, .f32⟩
  | 7 => ⟨S4112x512, .f32⟩
  | 8 => ⟨S4112x512, .f32⟩
  | 9 => ⟨S4112x128, .f32⟩
  | 10 => ⟨S4112x128, .f32⟩
  | 11 => ⟨S4112x128, .f32⟩
  | 12 => ⟨S4112x128, .f32⟩
  | 13 => ⟨S4112x128, .f32⟩
  | 14 => ⟨S_, .f32⟩
  | 15 => ⟨S128, .f32⟩
  | 16 => ⟨S1x128, .f32⟩
  | 17 => ⟨S4112x128, .f32⟩
  | 18 => ⟨S4112x128, .f32⟩
  | 19 => ⟨S_, .f32⟩
  | 20 => ⟨S1x512, .f32⟩
  | 21 => ⟨S128x128, .f32⟩
  | 22 => ⟨S128x128, .f32⟩
  | 23 => ⟨S4112x128, .f32⟩
  | 24 => ⟨S1x128x128, .f32⟩
  | 25 => ⟨S_, .f32⟩
  | 26 => ⟨S4x128x128, .f32⟩
  | 27 => ⟨S4112x128, .f32⟩
  | 28 => ⟨S4112x128, .f32⟩
  | 29 => ⟨S4112x128, .f32⟩
  | 30 => ⟨S15x128, .f32⟩
  | 31 => ⟨S4097x128, .f32⟩
  | 32 => ⟨S_, .f32⟩
  | 33 => ⟨S4112x128, .f32⟩
  | 34 => ⟨S4112x128, .f32⟩
  | 35 => ⟨S14x128, .f32⟩
  | 36 => ⟨S4098x128, .f32⟩
  | 37 => ⟨S_, .f32⟩
  | 38 => ⟨S4112x128, .f32⟩
  | 39 => ⟨S4112x128, .f32⟩
  | 40 => ⟨S13x128, .f32⟩
  | 41 => ⟨S4099x128, .f32⟩
  | 42 => ⟨S_, .f32⟩
  | 43 => ⟨S4112x128, .f32⟩
  | 44 => ⟨S4112x128, .f32⟩
  | 45 => ⟨S12x128, .f32⟩
  | 46 => ⟨S4100x128, .f32⟩
  | 47 => ⟨S_, .f32⟩
  | 48 => ⟨S4112x128, .f32⟩
  | 49 => ⟨S4112x128, .f32⟩
  | 50 => ⟨S11x128, .f32⟩
  | 51 => ⟨S4101x128, .f32⟩
  | 52 => ⟨S_, .f32⟩
  | 53 => ⟨S4112x128, .f32⟩
  | 54 => ⟨S4112x128, .f32⟩
  | 55 => ⟨S10x128, .f32⟩
  | 56 => ⟨S4102x128, .f32⟩
  | 57 => ⟨S_, .f32⟩
  | 58 => ⟨S4112x128, .f32⟩
  | 59 => ⟨S4112x128, .f32⟩
  | 60 => ⟨S9x128, .f32⟩
  | 61 => ⟨S4103x128, .f32⟩
  | 62 => ⟨S_, .f32⟩
  | 63 => ⟨S4112x128, .f32⟩
  | 64 => ⟨S4112x128, .f32⟩
  | 65 => ⟨S8x128, .f32⟩
  | 66 => ⟨S4104x128, .f32⟩
  | 67 => ⟨S_, .f32⟩
  | 68 => ⟨S4112x128, .f32⟩
  | 69 => ⟨S4112x128, .f32⟩
  | 70 => ⟨S7x128, .f32⟩
  | 71 => ⟨S4105x128, .f32⟩
  | 72 => ⟨S_, .f32⟩
  | 73 => ⟨S4112x128, .f32⟩
  | 74 => ⟨S4112x128, .f32⟩
  | 75 => ⟨S6x128, .f32⟩
  | 76 => ⟨S4106x128, .f32⟩
  | 77 => ⟨S_, .f32⟩
  | 78 => ⟨S4112x128, .f32⟩
  | 79 => ⟨S4112x128, .f32⟩
  | 80 => ⟨S5x128, .f32⟩
  | 81 => ⟨S4107x128, .f32⟩
  | 82 => ⟨S_, .f32⟩
  | 83 => ⟨S4112x128, .f32⟩
  | 84 => ⟨S4112x128, .f32⟩
  | 85 => ⟨S4x128, .f32⟩
  | 86 => ⟨S4108x128, .f32⟩
  | 87 => ⟨S_, .f32⟩
  | 88 => ⟨S4112x128, .f32⟩
  | 89 => ⟨S4112x128, .f32⟩
  | 90 => ⟨S3x128, .f32⟩
  | 91 => ⟨S4109x128, .f32⟩
  | 92 => ⟨S_, .f32⟩
  | 93 => ⟨S4112x128, .f32⟩
  | 94 => ⟨S4112x128, .f32⟩
  | 95 => ⟨S2x128, .f32⟩
  | 96 => ⟨S4110x128, .f32⟩
  | 97 => ⟨S_, .f32⟩
  | 98 => ⟨S4112x128, .f32⟩
  | 99 => ⟨S4112x128, .f32⟩
  | 100 => ⟨S4112x128, .f32⟩
  | 101 => ⟨S1x128, .f32⟩
  | 102 => ⟨S4111x128, .f32⟩
  | 103 => ⟨S_, .f32⟩
  | 104 => ⟨S4112x128, .f32⟩
  | 105 => ⟨S4112x128, .f32⟩
  | 106 => ⟨S_, .f32⟩
  | 107 => ⟨S4112x512, .f32⟩
  | 108 => ⟨S4112x128, .f32⟩
  | 109 => ⟨S_, .f32⟩
  | 110 => ⟨S128, .f32⟩
  | 111 => ⟨S1x128, .f32⟩
  | 112 => ⟨S4112x128, .f32⟩
  | 113 => ⟨S4112x128, .f32⟩
  | 114 => ⟨S_, .f32⟩
  | 115 => ⟨S1x512, .f32⟩
  | 116 => ⟨S1x512, .f32⟩
  | 117 => ⟨S128x128, .f32⟩
  | 118 => ⟨S128x128, .f32⟩
  | 119 => ⟨S4112x128, .f32⟩
  | 120 => ⟨S1x128x128, .f32⟩
  | 121 => ⟨S_, .f32⟩
  | 122 => ⟨S4x128x128, .f32⟩
  | 123 => ⟨S4x128x128, .f32⟩
  | 124 => ⟨S4112x128, .f32⟩
  | 125 => ⟨S4112x128, .f32⟩
  | 126 => ⟨S4112x128, .f32⟩
  | 127 => ⟨S7x128, .f32⟩
  | _ => ⟨S4112x4608, .f32⟩

abbrev hbmTy0_3 (i : Nat) : BufTy := match i % 128 with
  | 0 => ⟨S4105x128, .f32⟩
  | 1 => ⟨S_, .f32⟩
  | 2 => ⟨S4112x128, .f32⟩
  | 3 => ⟨S4112x128, .f32⟩
  | 4 => ⟨S6x128, .f32⟩
  | 5 => ⟨S4106x128, .f32⟩
  | 6 => ⟨S_, .f32⟩
  | 7 => ⟨S4112x128, .f32⟩
  | 8 => ⟨S4112x128, .f32⟩
  | 9 => ⟨S5x128, .f32⟩
  | 10 => ⟨S4107x128, .f32⟩
  | 11 => ⟨S_, .f32⟩
  | 12 => ⟨S4112x128, .f32⟩
  | 13 => ⟨S4112x128, .f32⟩
  | 14 => ⟨S4x128, .f32⟩
  | 15 => ⟨S4108x128, .f32⟩
  | 16 => ⟨S_, .f32⟩
  | 17 => ⟨S4112x128, .f32⟩
  | 18 => ⟨S4112x128, .f32⟩
  | 19 => ⟨S3x128, .f32⟩
  | 20 => ⟨S4109x128, .f32⟩
  | 21 => ⟨S_, .f32⟩
  | 22 => ⟨S4112x128, .f32⟩
  | 23 => ⟨S4112x128, .f32⟩
  | 24 => ⟨S2x128, .f32⟩
  | 25 => ⟨S4110x128, .f32⟩
  | 26 => ⟨S_, .f32⟩
  | 27 => ⟨S4112x128, .f32⟩
  | 28 => ⟨S4112x128, .f32⟩
  | 29 => ⟨S4112x128, .f32⟩
  | 30 => ⟨S1x128, .f32⟩
  | 31 => ⟨S4111x128, .f32⟩
  | 32 => ⟨S_, .f32⟩
  | 33 => ⟨S4112x128, .f32⟩
  | 34 => ⟨S4112x128, .f32⟩
  | 35 => ⟨S_, .f32⟩
  | 36 => ⟨S4112x512, .f32⟩
  | 37 => ⟨S4112x512, .f32⟩
  | 38 => ⟨S4112x128, .f32⟩
  | 39 => ⟨S_, .f32⟩
  | 40 => ⟨S128, .f32⟩
  | 41 => ⟨S1x128, .f32⟩
  | 42 => ⟨S4112x128, .f32⟩
  | 43 => ⟨S4112x128, .f32⟩
  | 44 => ⟨S_, .f32⟩
  | 45 => ⟨S1x512, .f32⟩
  | 46 => ⟨S1x512, .f32⟩
  | 47 => ⟨S128x128, .f32⟩
  | 48 => ⟨S128x128, .f32⟩
  | 49 => ⟨S4112x128, .f32⟩
  | 50 => ⟨S1x128x128, .f32⟩
  | 51 => ⟨S_, .f32⟩
  | 52 => ⟨S4x128x128, .f32⟩
  | 53 => ⟨S4x128x128, .f32⟩
  | 54 => ⟨S4112x128, .f32⟩
  | 55 => ⟨S4112x128, .f32⟩
  | 56 => ⟨S4112x128, .f32⟩
  | 57 => ⟨S3x128, .f32⟩
  | 58 => ⟨S4109x128, .f32⟩
  | 59 => ⟨S_, .f32⟩
  | 60 => ⟨S4112x128, .f32⟩
  | 61 => ⟨S4112x128, .f32⟩
  | 62 => ⟨S2x128, .f32⟩
  | 63 => ⟨S4110x128, .f32⟩
  | 64 => ⟨S_, .f32⟩
  | 65 => ⟨S4112x128, .f32⟩
  | 66 => ⟨S4112x128, .f32⟩
  | 67 => ⟨S4112x128, .f32⟩
  | 68 => ⟨S1x128, .f32⟩
  | 69 => ⟨S4111x128, .f32⟩
  | 70 => ⟨S_, .f32⟩
  | 71 => ⟨S4112x128, .f32⟩
  | 72 => ⟨S4112x128, .f32⟩
  | 73 => ⟨S_, .f32⟩
  | 74 => ⟨S4112x512, .f32⟩
  | 75 => ⟨S4112x512, .f32⟩
  | 76 => ⟨S4112x128, .f32⟩
  | 77 => ⟨S_, .f32⟩
  | 78 => ⟨S128, .f32⟩
  | 79 => ⟨S1x128, .f32⟩
  | 80 => ⟨S4112x128, .f32⟩
  | 81 => ⟨S4112x128, .f32⟩
  | 82 => ⟨S_, .f32⟩
  | 83 => ⟨S1x512, .f32⟩
  | 84 => ⟨S1x512, .f32⟩
  | 85 => ⟨S128x128, .f32⟩
  | 86 => ⟨S128x128, .f32⟩
  | 87 => ⟨S4112x128, .f32⟩
  | 88 => ⟨S1x128x128, .f32⟩
  | 89 => ⟨S_, .f32⟩
  | 90 => ⟨S4x128x128, .f32⟩
  | 91 => ⟨S4x128x128, .f32⟩
  | 92 => ⟨S4112x128, .f32⟩
  | 93 => ⟨S4112x128, .f32⟩
  | 94 => ⟨S4112x128, .f32⟩
  | 95 => ⟨S4112x128, .f32⟩
  | 96 => ⟨S1x128, .f32⟩
  | 97 => ⟨S4111x128, .f32⟩
  | 98 => ⟨S_, .f32⟩
  | 99 => ⟨S4112x128, .f32⟩
  | 100 => ⟨S4112x128, .f32⟩
  | 101 => ⟨S_, .f32⟩
  | 102 => ⟨S4112x512, .f32⟩
  | 103 => ⟨S4112x512, .f32⟩
  | 104 => ⟨S_, .f32⟩
  | 105 => ⟨S112x512, .f32⟩
  | 106 => ⟨S4224x512, .f32⟩
  | 107 => ⟨S4224x512, .bf16⟩
  | 108 => ⟨S512x128, .f32⟩
  | _ => ⟨S4112x4608, .f32⟩

abbrev hbmTy (i : Nat) : BufTy := match i / 128 with
  | 0 => hbmTy0_0 i
  | 1 => hbmTy0_1 i
  | 2 => hbmTy0_2 i
  | 3 => hbmTy0_3 i
  | _ => ⟨S4112x4608, .f32⟩

abbrev bufTy : (tb : Table) → Fin (tcTables nBuf tb) → BufTy
  | .hbm, ⟨i, _⟩ => hbmTy i
  | _, _ => ⟨S4112x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_8 : Ref sig .tc := ⟨.hbm, 54, rfl⟩
abbrev main_v40 : Ref sig .tc := ⟨.hbm, 55, rfl⟩
abbrev main_v41 : Ref sig .tc := ⟨.hbm, 56, rfl⟩
abbrev main_c_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_cst_12 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩
abbrev main_cst_14 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_15 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_17 : Ref sig .tc := ⟨.hbm, 97, rfl⟩
abbrev main_v74 : Ref sig .tc := ⟨.hbm, 98, rfl⟩
abbrev main_v75 : Ref sig .tc := ⟨.hbm, 99, rfl⟩
abbrev main_cst_18 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_19 : Ref sig .tc := ⟨.hbm, 104, rfl⟩
abbrev main_v79 : Ref sig .tc := ⟨.hbm, 105, rfl⟩
abbrev main_v80 : Ref sig .tc := ⟨.hbm, 106, rfl⟩
abbrev main_cst_20 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_21 : Ref sig .tc := ⟨.hbm, 111, rfl⟩
abbrev main_v84 : Ref sig .tc := ⟨.hbm, 112, rfl⟩
abbrev main_v85 : Ref sig .tc := ⟨.hbm, 113, rfl⟩
abbrev main_cst_22 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_23 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_24 : Ref sig .tc := ⟨.hbm, 122, rfl⟩
abbrev main_v92 : Ref sig .tc := ⟨.hbm, 123, rfl⟩
abbrev main_v93 : Ref sig .tc := ⟨.hbm, 124, rfl⟩
abbrev main_c_25 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_26 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_27 : Ref sig .tc := ⟨.hbm, 144, rfl⟩
abbrev main_v111 : Ref sig .tc := ⟨.hbm, 145, rfl⟩
abbrev main_v112 : Ref sig .tc := ⟨.hbm, 146, rfl⟩
abbrev main_cst_28 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_29 : Ref sig .tc := ⟨.hbm, 151, rfl⟩
abbrev main_v116 : Ref sig .tc := ⟨.hbm, 152, rfl⟩
abbrev main_v117 : Ref sig .tc := ⟨.hbm, 153, rfl⟩
abbrev main_cst_30 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_31 : Ref sig .tc := ⟨.hbm, 158, rfl⟩
abbrev main_v121 : Ref sig .tc := ⟨.hbm, 159, rfl⟩
abbrev main_v122 : Ref sig .tc := ⟨.hbm, 160, rfl⟩
abbrev main_cst_32 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_33 : Ref sig .tc := ⟨.hbm, 165, rfl⟩
abbrev main_v126 : Ref sig .tc := ⟨.hbm, 166, rfl⟩
abbrev main_v127 : Ref sig .tc := ⟨.hbm, 167, rfl⟩
abbrev main_cst_34 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_cst_35 : Ref sig .tc := ⟨.hbm, 172, rfl⟩
abbrev main_v131 : Ref sig .tc := ⟨.hbm, 173, rfl⟩
abbrev main_v132 : Ref sig .tc := ⟨.hbm, 174, rfl⟩
abbrev main_cst_36 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_37 : Ref sig .tc := ⟨.hbm, 179, rfl⟩
abbrev main_v136 : Ref sig .tc := ⟨.hbm, 180, rfl⟩
abbrev main_v137 : Ref sig .tc := ⟨.hbm, 181, rfl⟩
abbrev main_cst_38 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_cst_39 : Ref sig .tc := ⟨.hbm, 186, rfl⟩
abbrev main_v141 : Ref sig .tc := ⟨.hbm, 187, rfl⟩
abbrev main_v142 : Ref sig .tc := ⟨.hbm, 188, rfl⟩
abbrev main_cst_40 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_cst_41 : Ref sig .tc := ⟨.hbm, 193, rfl⟩
abbrev main_v146 : Ref sig .tc := ⟨.hbm, 194, rfl⟩
abbrev main_v147 : Ref sig .tc := ⟨.hbm, 195, rfl⟩
abbrev main_cst_42 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_cst_43 : Ref sig .tc := ⟨.hbm, 200, rfl⟩
abbrev main_v151 : Ref sig .tc := ⟨.hbm, 201, rfl⟩
abbrev main_v152 : Ref sig .tc := ⟨.hbm, 202, rfl⟩
abbrev main_cst_44 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_45 : Ref sig .tc := ⟨.hbm, 207, rfl⟩
abbrev main_v156 : Ref sig .tc := ⟨.hbm, 208, rfl⟩
abbrev main_v157 : Ref sig .tc := ⟨.hbm, 209, rfl⟩
abbrev main_cst_46 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_47 : Ref sig .tc := ⟨.hbm, 214, rfl⟩
abbrev main_v161 : Ref sig .tc := ⟨.hbm, 215, rfl⟩
abbrev main_v162 : Ref sig .tc := ⟨.hbm, 216, rfl⟩
abbrev main_cst_48 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_cst_49 : Ref sig .tc := ⟨.hbm, 221, rfl⟩
abbrev main_v166 : Ref sig .tc := ⟨.hbm, 222, rfl⟩
abbrev main_v167 : Ref sig .tc := ⟨.hbm, 223, rfl⟩
abbrev main_cst_50 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_cst_51 : Ref sig .tc := ⟨.hbm, 228, rfl⟩
abbrev main_v171 : Ref sig .tc := ⟨.hbm, 229, rfl⟩
abbrev main_v172 : Ref sig .tc := ⟨.hbm, 230, rfl⟩
abbrev main_cst_52 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_cst_53 : Ref sig .tc := ⟨.hbm, 235, rfl⟩
abbrev main_v176 : Ref sig .tc := ⟨.hbm, 236, rfl⟩
abbrev main_v177 : Ref sig .tc := ⟨.hbm, 237, rfl⟩
abbrev main_cst_54 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_cst_55 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_c_56 : Ref sig .tc := ⟨.hbm, 246, rfl⟩
abbrev main_v184 : Ref sig .tc := ⟨.hbm, 247, rfl⟩
abbrev main_v185 : Ref sig .tc := ⟨.hbm, 248, rfl⟩
abbrev main_c_57 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_cst_58 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_cst_59 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_cst_60 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_cst_61 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_cst_62 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_cst_63 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_cst_64 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_cst_65 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_cst_66 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_cst_67 : Ref sig .tc := ⟨.hbm, 318, rfl⟩
abbrev main_v245 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩
abbrev main_cst_68 : Ref sig .tc := ⟨.hbm, 323, rfl⟩
abbrev main_v249 : Ref sig .tc := ⟨.hbm, 324, rfl⟩
abbrev main_v250 : Ref sig .tc := ⟨.hbm, 325, rfl⟩
abbrev main_v251 : Ref sig .tc := ⟨.hbm, 326, rfl⟩
abbrev main_v252 : Ref sig .tc := ⟨.hbm, 327, rfl⟩
abbrev main_cst_69 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_cst_70 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_cst_71 : Ref sig .tc := ⟨.hbm, 338, rfl⟩
abbrev main_v261 : Ref sig .tc := ⟨.hbm, 339, rfl⟩
abbrev main_v262 : Ref sig .tc := ⟨.hbm, 340, rfl⟩
abbrev main_v263 : Ref sig .tc := ⟨.hbm, 341, rfl⟩
abbrev main_v264 : Ref sig .tc := ⟨.hbm, 342, rfl⟩
abbrev main_cst_72 : Ref sig .tc := ⟨.hbm, 343, rfl⟩
abbrev main_v265 : Ref sig .tc := ⟨.hbm, 344, rfl⟩
abbrev main_v266 : Ref sig .tc := ⟨.hbm, 345, rfl⟩
abbrev main_v267 : Ref sig .tc := ⟨.hbm, 346, rfl⟩
abbrev main_v268 : Ref sig .tc := ⟨.hbm, 347, rfl⟩
abbrev main_cst_73 : Ref sig .tc := ⟨.hbm, 348, rfl⟩
abbrev main_v269 : Ref sig .tc := ⟨.hbm, 349, rfl⟩
abbrev main_v270 : Ref sig .tc := ⟨.hbm, 350, rfl⟩
abbrev main_v271 : Ref sig .tc := ⟨.hbm, 351, rfl⟩
abbrev main_v272 : Ref sig .tc := ⟨.hbm, 352, rfl⟩
abbrev main_cst_74 : Ref sig .tc := ⟨.hbm, 353, rfl⟩
abbrev main_v273 : Ref sig .tc := ⟨.hbm, 354, rfl⟩
abbrev main_v274 : Ref sig .tc := ⟨.hbm, 355, rfl⟩
abbrev main_v275 : Ref sig .tc := ⟨.hbm, 356, rfl⟩
abbrev main_v276 : Ref sig .tc := ⟨.hbm, 357, rfl⟩
abbrev main_v277 : Ref sig .tc := ⟨.hbm, 358, rfl⟩
abbrev main_cst_75 : Ref sig .tc := ⟨.hbm, 359, rfl⟩
abbrev main_v278 : Ref sig .tc := ⟨.hbm, 360, rfl⟩
abbrev main_v279 : Ref sig .tc := ⟨.hbm, 361, rfl⟩
abbrev main_cst_76 : Ref sig .tc := ⟨.hbm, 362, rfl⟩
abbrev main_v280 : Ref sig .tc := ⟨.hbm, 363, rfl⟩
abbrev main_v281 : Ref sig .tc := ⟨.hbm, 364, rfl⟩
abbrev main_cst_77 : Ref sig .tc := ⟨.hbm, 365, rfl⟩
abbrev main_v282 : Ref sig .tc := ⟨.hbm, 366, rfl⟩
abbrev main_v283 : Ref sig .tc := ⟨.hbm, 367, rfl⟩
abbrev main_v284 : Ref sig .tc := ⟨.hbm, 368, rfl⟩
abbrev main_v285 : Ref sig .tc := ⟨.hbm, 369, rfl⟩
abbrev main_cst_78 : Ref sig .tc := ⟨.hbm, 370, rfl⟩
abbrev main_v286 : Ref sig .tc := ⟨.hbm, 371, rfl⟩
abbrev main_v287 : Ref sig .tc := ⟨.hbm, 372, rfl⟩
abbrev main_v288 : Ref sig .tc := ⟨.hbm, 373, rfl⟩
abbrev main_v289 : Ref sig .tc := ⟨.hbm, 374, rfl⟩
abbrev main_v290 : Ref sig .tc := ⟨.hbm, 375, rfl⟩
abbrev main_v291 : Ref sig .tc := ⟨.hbm, 376, rfl⟩
abbrev main_cst_79 : Ref sig .tc := ⟨.hbm, 377, rfl⟩
abbrev main_v292 : Ref sig .tc := ⟨.hbm, 378, rfl⟩
abbrev main_v293 : Ref sig .tc := ⟨.hbm, 379, rfl⟩
abbrev main_v294 : Ref sig .tc := ⟨.hbm, 380, rfl⟩
abbrev main_v295 : Ref sig .tc := ⟨.hbm, 381, rfl⟩
abbrev main_v296 : Ref sig .tc := ⟨.hbm, 382, rfl⟩
abbrev main_v297 : Ref sig .tc := ⟨.hbm, 383, rfl⟩
abbrev main_v298 : Ref sig .tc := ⟨.hbm, 384, rfl⟩
abbrev main_cst_80 : Ref sig .tc := ⟨.hbm, 385, rfl⟩
abbrev main_v299 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev main_cst_81 : Ref sig .tc := ⟨.hbm, 390, rfl⟩
abbrev main_v303 : Ref sig .tc := ⟨.hbm, 391, rfl⟩
abbrev main_v304 : Ref sig .tc := ⟨.hbm, 392, rfl⟩
abbrev main_v305 : Ref sig .tc := ⟨.hbm, 393, rfl⟩
abbrev main_v306 : Ref sig .tc := ⟨.hbm, 394, rfl⟩
abbrev main_cst_82 : Ref sig .tc := ⟨.hbm, 395, rfl⟩
abbrev main_v307 : Ref sig .tc := ⟨.hbm, 396, rfl⟩
abbrev main_v308 : Ref sig .tc := ⟨.hbm, 397, rfl⟩
abbrev main_v309 : Ref sig .tc := ⟨.hbm, 398, rfl⟩
abbrev main_v310 : Ref sig .tc := ⟨.hbm, 399, rfl⟩
abbrev main_cst_83 : Ref sig .tc := ⟨.hbm, 400, rfl⟩
abbrev main_v311 : Ref sig .tc := ⟨.hbm, 401, rfl⟩
abbrev main_v312 : Ref sig .tc := ⟨.hbm, 402, rfl⟩
abbrev main_v313 : Ref sig .tc := ⟨.hbm, 403, rfl⟩
abbrev main_v314 : Ref sig .tc := ⟨.hbm, 404, rfl⟩
abbrev main_cst_84 : Ref sig .tc := ⟨.hbm, 405, rfl⟩
abbrev main_v315 : Ref sig .tc := ⟨.hbm, 406, rfl⟩
abbrev main_v316 : Ref sig .tc := ⟨.hbm, 407, rfl⟩
abbrev main_v317 : Ref sig .tc := ⟨.hbm, 408, rfl⟩
abbrev main_v318 : Ref sig .tc := ⟨.hbm, 409, rfl⟩
abbrev main_cst_85 : Ref sig .tc := ⟨.hbm, 410, rfl⟩
abbrev main_v319 : Ref sig .tc := ⟨.hbm, 411, rfl⟩
abbrev main_v320 : Ref sig .tc := ⟨.hbm, 412, rfl⟩
abbrev main_v321 : Ref sig .tc := ⟨.hbm, 413, rfl⟩
abbrev main_v322 : Ref sig .tc := ⟨.hbm, 414, rfl⟩
abbrev main_v323 : Ref sig .tc := ⟨.hbm, 415, rfl⟩
abbrev main_cst_86 : Ref sig .tc := ⟨.hbm, 416, rfl⟩
abbrev main_v324 : Ref sig .tc := ⟨.hbm, 417, rfl⟩
abbrev main_v325 : Ref sig .tc := ⟨.hbm, 418, rfl⟩
abbrev main_cst_87 : Ref sig .tc := ⟨.hbm, 419, rfl⟩
abbrev main_v326 : Ref sig .tc := ⟨.hbm, 420, rfl⟩
abbrev main_v327 : Ref sig .tc := ⟨.hbm, 421, rfl⟩
abbrev main_v328 : Ref sig .tc := ⟨.hbm, 422, rfl⟩
abbrev main_cst_88 : Ref sig .tc := ⟨.hbm, 423, rfl⟩
abbrev main_v329 : Ref sig .tc := ⟨.hbm, 424, rfl⟩
abbrev main_v330 : Ref sig .tc := ⟨.hbm, 425, rfl⟩
abbrev main_v331 : Ref sig .tc := ⟨.hbm, 426, rfl⟩
abbrev main_v332 : Ref sig .tc := ⟨.hbm, 427, rfl⟩
abbrev main_cst_89 : Ref sig .tc := ⟨.hbm, 428, rfl⟩
abbrev main_v333 : Ref sig .tc := ⟨.hbm, 429, rfl⟩
abbrev main_v334 : Ref sig .tc := ⟨.hbm, 430, rfl⟩
abbrev main_v335 : Ref sig .tc := ⟨.hbm, 431, rfl⟩
abbrev main_v336 : Ref sig .tc := ⟨.hbm, 432, rfl⟩
abbrev main_v337 : Ref sig .tc := ⟨.hbm, 433, rfl⟩
abbrev main_v338 : Ref sig .tc := ⟨.hbm, 434, rfl⟩
abbrev main_cst_90 : Ref sig .tc := ⟨.hbm, 435, rfl⟩
abbrev main_v339 : Ref sig .tc := ⟨.hbm, 436, rfl⟩
abbrev main_v340 : Ref sig .tc := ⟨.hbm, 437, rfl⟩
abbrev main_v341 : Ref sig .tc := ⟨.hbm, 438, rfl⟩
abbrev main_v342 : Ref sig .tc := ⟨.hbm, 439, rfl⟩
abbrev main_v343 : Ref sig .tc := ⟨.hbm, 440, rfl⟩
abbrev main_v344 : Ref sig .tc := ⟨.hbm, 441, rfl⟩
abbrev main_v345 : Ref sig .tc := ⟨.hbm, 442, rfl⟩
abbrev main_cst_91 : Ref sig .tc := ⟨.hbm, 443, rfl⟩
abbrev main_v346 : Ref sig .tc := ⟨.hbm, 444, rfl⟩
abbrev main_v347 : Ref sig .tc := ⟨.hbm, 445, rfl⟩
abbrev main_v348 : Ref sig .tc := ⟨.hbm, 446, rfl⟩
abbrev main_v349 : Ref sig .tc := ⟨.hbm, 447, rfl⟩
abbrev main_cst_92 : Ref sig .tc := ⟨.hbm, 448, rfl⟩
abbrev main_v350 : Ref sig .tc := ⟨.hbm, 449, rfl⟩
abbrev main_v351 : Ref sig .tc := ⟨.hbm, 450, rfl⟩
abbrev main_v352 : Ref sig .tc := ⟨.hbm, 451, rfl⟩
abbrev main_v353 : Ref sig .tc := ⟨.hbm, 452, rfl⟩
abbrev main_v354 : Ref sig .tc := ⟨.hbm, 453, rfl⟩
abbrev main_cst_93 : Ref sig .tc := ⟨.hbm, 454, rfl⟩
abbrev main_v355 : Ref sig .tc := ⟨.hbm, 455, rfl⟩
abbrev main_v356 : Ref sig .tc := ⟨.hbm, 456, rfl⟩
abbrev main_cst_94 : Ref sig .tc := ⟨.hbm, 457, rfl⟩
abbrev main_v357 : Ref sig .tc := ⟨.hbm, 458, rfl⟩
abbrev main_v358 : Ref sig .tc := ⟨.hbm, 459, rfl⟩
abbrev main_v359 : Ref sig .tc := ⟨.hbm, 460, rfl⟩
abbrev main_cst_95 : Ref sig .tc := ⟨.hbm, 461, rfl⟩
abbrev main_v360 : Ref sig .tc := ⟨.hbm, 462, rfl⟩
abbrev main_v361 : Ref sig .tc := ⟨.hbm, 463, rfl⟩
abbrev main_v362 : Ref sig .tc := ⟨.hbm, 464, rfl⟩
abbrev main_v363 : Ref sig .tc := ⟨.hbm, 465, rfl⟩
abbrev main_cst_96 : Ref sig .tc := ⟨.hbm, 466, rfl⟩
abbrev main_v364 : Ref sig .tc := ⟨.hbm, 467, rfl⟩
abbrev main_v365 : Ref sig .tc := ⟨.hbm, 468, rfl⟩
abbrev main_v366 : Ref sig .tc := ⟨.hbm, 469, rfl⟩
abbrev main_v367 : Ref sig .tc := ⟨.hbm, 470, rfl⟩
abbrev main_v368 : Ref sig .tc := ⟨.hbm, 471, rfl⟩
abbrev main_v369 : Ref sig .tc := ⟨.hbm, 472, rfl⟩
abbrev main_cst_97 : Ref sig .tc := ⟨.hbm, 473, rfl⟩
abbrev main_v370 : Ref sig .tc := ⟨.hbm, 474, rfl⟩
abbrev main_v371 : Ref sig .tc := ⟨.hbm, 475, rfl⟩
abbrev main_v372 : Ref sig .tc := ⟨.hbm, 476, rfl⟩
abbrev main_v373 : Ref sig .tc := ⟨.hbm, 477, rfl⟩
abbrev main_v374 : Ref sig .tc := ⟨.hbm, 478, rfl⟩
abbrev main_v375 : Ref sig .tc := ⟨.hbm, 479, rfl⟩
abbrev main_v376 : Ref sig .tc := ⟨.hbm, 480, rfl⟩
abbrev main_v377 : Ref sig .tc := ⟨.hbm, 481, rfl⟩
abbrev main_cst_98 : Ref sig .tc := ⟨.hbm, 482, rfl⟩
abbrev main_v378 : Ref sig .tc := ⟨.hbm, 483, rfl⟩
abbrev main_v379 : Ref sig .tc := ⟨.hbm, 484, rfl⟩
abbrev main_cst_99 : Ref sig .tc := ⟨.hbm, 485, rfl⟩
abbrev main_v380 : Ref sig .tc := ⟨.hbm, 486, rfl⟩
abbrev main_v381 : Ref sig .tc := ⟨.hbm, 487, rfl⟩
abbrev main_cst_100 : Ref sig .tc := ⟨.hbm, 488, rfl⟩
abbrev main_v382 : Ref sig .tc := ⟨.hbm, 489, rfl⟩
abbrev main_v383 : Ref sig .tc := ⟨.hbm, 490, rfl⟩
abbrev main_v384 : Ref sig .tc := ⟨.hbm, 491, rfl⟩
abbrev main_v385 : Ref sig .tc := ⟨.hbm, 492, rfl⟩

abbrev nD : Nat := 1
abbrev τ : Topo := Topo.v7x

variable {F : FTy → Type} [FloatOps F]
-- ==== Proof.Finite.lean ====
/- Finite extended reals: an array all of whose entries lie strictly between the infinities is an array of reals, a sum
   of products of such entries is a real, and the two spellings of the gated activation's derivative agree on reals. -/
module

public import Idealize.ShloMosaic.Lib.Pointwise
public import Idealize.ShloMosaic.Lib.KernelVsHost

@[expose] public section

noncomputable section

open Idealize.ShloMosaic
open scoped BigOperators

namespace Cert.Finite

/-- The comparison `|x| < ∞` that holds makes `x` a real. -/
theorem real_of_olt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  rw [← Ideal.xori_weird_eq_hostAbsf_olt_inf] at h
  have h' : IntOp.xori (BitVec.ofBool (decide (x = ⊤ ∨ x = ⊥))) 1#1 = 1#1 := h
  by_cases hx : x = ⊤ ∨ x = ⊥
  · rw [decide_eq_true hx] at h'
    exact absurd h' (by decide)
  · push Not at hx
    exact ⟨x.toReal, (EReal.coe_toReal hx.1 hx.2).symm⟩

/-- A finite sum of reals is a real. -/
theorem real_sum {ι : Type*} (s : Finset ι) (f : ι → EReal) (h : ∀ i, ∃ r : ℝ, f i = (r : EReal)) :
    ∃ r : ℝ, ∑ i ∈ s, f i = (r : EReal) := by
  classical
  induction s using Finset.induction_on with
  | empty => exact ⟨0, by simp⟩
  | insert i s hi ih =>
    obtain ⟨a, ha⟩ := ih
    obtain ⟨b, hb⟩ := h i
    exact ⟨b + a, by rw [Finset.sum_insert hi, ha, hb, EReal.coe_add]⟩

/-- A product of reals is a real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The logistic function of a real is a real. -/
theorem real_sigmoid {x : EReal} (hx : ∃ r : ℝ, x = (r : EReal)) :
    ∃ r : ℝ, Ideal.div 1 (1 + Ideal.exp (-x)) = (r : EReal) := by
  obtain ⟨a, rfl⟩ := hx
  have hpos : (1 + Real.exp (-a)) ≠ 0 := by positivity
  refine ⟨1 / (1 + Real.exp (-a)), ?_⟩
  rw [← EReal.coe_neg, Ideal.exp_coe, ← EReal.coe_one, ← EReal.coe_add, Ideal.div_coe hpos, ← EReal.coe_mul, one_mul]

/-- The two spellings of the derivative of `silu`, times the cotangent. -/
theorem gate_grad {d u g s : EReal} (hd : ∃ r : ℝ, d = (r : EReal)) (hu : ∃ r : ℝ, u = (r : EReal))
    (hg : ∃ r : ℝ, g = (r : EReal)) (hs : ∃ r : ℝ, s = (r : EReal)) :
    d * u * (s * (1 + g * (1 - s))) = d * u * s + g * (d * u) * (s * (1 - s)) := by
  obtain ⟨d, rfl⟩ := hd
  obtain ⟨u, rfl⟩ := hu
  obtain ⟨g, rfl⟩ := hg
  obtain ⟨s, rfl⟩ := hs
  rw [← EReal.coe_one]
  simp only [← EReal.coe_mul, ← EReal.coe_sub, ← EReal.coe_add]
  congr 1
  ring

/-- The same beside the entries the two sides read: the cotangent of `gate`, with `0 - g` for `-g` on the left. -/
theorem gate_point {d d' u u' g g' : EReal} (hd : d = d') (hu : u = u') (hg : g = g')
    (rd : ∃ r : ℝ, d' = (r : EReal)) (ru : ∃ r : ℝ, u' = (r : EReal)) (rg : ∃ r : ℝ, g' = (r : EReal)) :
    d * u * (Ideal.div 1 (1 + Ideal.exp (0 - g)) * (1 + g * (1 - Ideal.div 1 (1 + Ideal.exp (0 - g)))))
      = d' * u' * Ideal.div 1 (1 + Ideal.exp (-g')) + g' * (d' * u') * (Ideal.div 1 (1 + Ideal.exp (-g')) * (1 - Ideal.div 1 (1 + Ideal.exp (-g')))) := by
  subst hd hu hg
  rw [zero_sub]
  exact gate_grad rd ru rg (real_sigmoid rg)

/-- The cotangent of `up`. -/
theorem up_point {d d' g g' : EReal} (hd : d = d') (hg : g = g') :
    d * (g * Ideal.div 1 (1 + Ideal.exp (0 - g))) = g' * Ideal.div 1 (1 + Ideal.exp (-g')) * d' := by
  subst hd hg
  rw [zero_sub, mul_comm]

/-- A sum of products of reals is a real. -/
theorem real_sum_mul {n : ℕ} {f g : Fin n → EReal} (hf : ∀ k, ∃ r : ℝ, f k = (r : EReal)) (hg : ∀ k, ∃ r : ℝ, g k = (r : EReal)) :
    ∃ r : ℝ, ∑ k, f k * g k = (r : EReal) :=
  real_sum _ _ fun k => real_mul (hf k) (hg k)

/-- Entry `(i, j)` of a product of an array of `a` columns with one of `a` rows. -/
abbrev dotNN {a p q : ℕ} (x : (⟨2, ![p, a]⟩ : Shape).Idx → EReal) (w : (⟨2, ![a, q]⟩ : Shape).Idx → EReal) (i : Fin p) (j : Fin q) : EReal :=
  ∑ k : Fin a, x (ix2 i k) * w (ix2 k j)

/-- Entry `(i, j)` of a product with the transpose of an array of `a` columns. -/
abbrev dotNT {a p q : ℕ} (x : (⟨2, ![p, a]⟩ : Shape).Idx → EReal) (w : (⟨2, ![q, a]⟩ : Shape).Idx → EReal) (i : Fin p) (j : Fin q) : EReal :=
  ∑ k : Fin a, x (ix2 i k) * w (ix2 j k)

/-- Entry `(i, j)` of a product of the transpose of an array of `a` rows with another of `a` rows. -/
abbrev dotTN {a p q : ℕ} (x : (⟨2, ![a, p]⟩ : Shape).Idx → EReal) (w : (⟨2, ![a, q]⟩ : Shape).Idx → EReal) (i : Fin p) (j : Fin q) : EReal :=
  ∑ k : Fin a, x (ix2 k i) * w (ix2 k j)

end Cert.Finite
-- ==== Proof.ValueGate.lean ====
/- The values of the gradient of the gated activation (the kernel `d_gate_up`): its two results are the two cotangents
   of `(gate, up) ↦ (silu gate * up) @ w_down`. -/
module

public import Idealize.ShloMosaic.Lib.Claim
public import Idealize.ShloMosaic.Lib.Pipeline.ValueKit
public import Idealize.ShloMosaic.Lib.Pointwise
public import proofs.«01_k».proof.Proof.Gen.KernelIdeal.Value
public import proofs.«01_k».proof.Proof.Gen.ReferenceIdeal.Run
public import proofs.«01_k».proof.Proof.Finite

@[expose] public section

set_option maxRecDepth 16384

noncomputable section

open Idealize.ShloMosaic Idealize.ShloMosaic.TcCoe Idealize.SL.Sem
open Idealize.ShloMosaic.Pipeline (Dat)
open scoped BigOperators

namespace Cert.ReferenceIdeal.Value
open Cert.ReferenceIdeal Cert.ReferenceIdeal.Gen

/-- The cotangent of `gate`, as the reference computes it. -/
def refGate (a0 : FVec Ideal S4224x2048 .f32) (a1 a2 : FVec Ideal S2048x5632 .f32) (a3 : FVec Ideal S5632x2048 .f32) (a4 : FVec Ideal S4224x2048 .f32) : FVec Ideal S4224x5632 .bf16 :=
  truncf .bf16 (addf (mulf (mulf (Host.dotGeneral dot_S4224x2048_S5632x2048_S4224x5632_1_1_0_0_n_n none a4 a3) (Host.dotGeneral dot_S4224x2048_S2048x5632_S4224x5632_1_0_0_1_n_n none a0 a2)) (Host.divf (broadcastInDim S4224x5632 ![] bcast_S_S4224x5632 (constant S_ .f32 0x3F800000#32)) (addf (broadcastInDim S4224x5632 ![] bcast_S_S4224x5632 (constant S_ .f32 0x3F800000#32)) (Host.exp (Host.negf (Host.dotGeneral dot_S4224x2048_S2048x5632_S4224x5632_1_0_0_1_n_n none a0 a1)))))) (mulf (mulf (Host.dotGeneral dot_S4224x2048_S2048x5632_S4224x5632_1_0_0_1_n_n none a0 a1) (mulf (Host.dotGeneral dot_S4224x2048_S5632x2048_S4224x5632_1_1_0_0_n_n none a4 a3) (Host.dotGeneral dot_S4224x2048_S2048x5632_S4224x5632_1_0_0_1_n_n none a0 a2))) (mulf (Host.divf (broadcastInDim S4224x5632 ![] bcast_S_S4224x5632 (constant S_ .f32 0x3F800000#32)) (addf (broadcastInDim S4224x5632 ![] bcast_S_S4224x5632 (constant S_ .f32 0x3F800000#32)) (Host.exp (Host.negf (Host.dotGeneral dot_S4224x2048_S2048x5632_S4224x5632_1_0_0_1_n_n none a0 a1))))) (subf (broadcastInDim S4224x5632 ![] bcast_S_S4224x5632 (constant S_ .f32 0x3F800000#32)) (Host.divf (broadcastInDim S4224x5632 ![] bcast_S_S4224x5632 (constant S_ .f32 0x3F800000#32)) (addf (broadcastInDim S4224x5632 ![] bcast_S_S4224x5632 (constant S_ .f32 0x3F800000#32)) (Host.exp (Host.negf (Host.dotGeneral dot_S4224x2048_S2048x5632_S4224x5632_1_0_0_1_n_n none a0 a1))))))))) bitsLt_bf16_f32

/-- The cotangent of `up`, as the reference computes it. -/
def refUp (a0 : FVec Ideal S4224x2048 .f32) (a1 a2 : FVec Ideal S2048x5632 .f32) (a3 : FVec Ideal S5632x2048 .f32) (a4 : FVec Ideal S4224x2048 .f32) : FVec Ideal S4224x5632 .bf16 :=
  truncf .bf16 (mulf (mulf (Host.dotGeneral dot_S4224x2048_S2048x5632_S4224x5632_1_0_0_1_n_n none a0 a1) (Host.divf (broadcastInDim S4224x5632 ![] bcast_S_S4224x5632 (constant S_ .f32 0x3F800000#32)) (addf (broadcastInDim S4224x5632 ![] bcast_S_S4224x5632 (constant S_ .f32 0x3F800000#32)) (Host.exp (Host.negf (Host.dotGeneral dot_S4224x2048_S2048x5632_S4224x5632_1_0_0_1_n_n none a0 a1)))))) (Host.dotGeneral dot_S4224x2048_S5632x2048_S4224x5632_1_1_0_0_n_n none a4 a3)) bitsLt_bf16_f32

end Cert.ReferenceIdeal.Value

namespace Cert.KernelIdeal.Value

open Cert.KernelIdeal Cert.KernelIdeal.Gen Cert.ReferenceIdeal.Value Cert.Finite

variable (m : (ℓ : Loc nD τ sig) → Buf (Elt Ideal) ℓ)

/-- Every window's block index at every grid point. -/
theorem idx_val : ∀ t : Fin cfg0.N, win0_0.index t = ![t.val % 6, 0]
    ∧ win0_1.index t = ![t.val / 6, 0, 0, 0]
    ∧ win0_2.index t = ![t.val % 6, t.val / 6]
    ∧ win0_3.index t = ![t.val % 6, t.val / 6]
    ∧ win0_4.index t = ![t.val % 6, t.val / 6]
    ∧ win0_5.index t = ![t.val % 6, t.val / 6] :=
  (by decide +kernel : ∀ t : Fin grid0.N, _)

/-- The block of the gate projection that point `t` reads, at the index result window 4 writes. -/
theorem gate_4 (c : Dev nD) (t : Fin cfg0.N) (y : S704x1408.Idx) :
    iblk m c 2 t y = dotNN (m (c.tc.loc main_arg0)) (m (c.tc.loc main_arg1)) ((((cfg0.win 4).blk t).view.emb y) 0) ((((cfg0.win 4).blk t).view.emb y) 1) := by
  blk_simp [iblk, idx_val t]
  entry_read
  pointwise
  refine Fin.sum_fin_congr fun k => congrArg₂ (fun a b : EReal => a * b) ?_ ?_ <;> blk_ext [idx_val t]

/-- The block of the up projection that point `t` reads, at the index result window 4 writes. -/
theorem up_4 (c : Dev nD) (t : Fin cfg0.N) (y : S704x1408.Idx) :
    iblk m c 3 t y = dotNN (m (c.tc.loc main_arg0)) (m (c.tc.loc main_arg2)) ((((cfg0.win 4).blk t).view.emb y) 0) ((((cfg0.win 4).blk t).view.emb y) 1) := by
  blk_simp [iblk, idx_val t]
  entry_read
  pointwise
  refine Fin.sum_fin_congr fun k => congrArg₂ (fun a b : EReal => a * b) ?_ ?_ <;> blk_ext [idx_val t]

/-- The row by row product of the incoming cotangent and `w_down` at that index. -/
theorem dact_4 (c : Dev nD) (t : Fin cfg0.N) (y : S704x1408.Idx) :
    (∑ k : Fin 2048, (show EReal from iblk m c 0 t (ix2 (y 0) k)) * (show EReal from iblk m c 1 t (ix4 0 0 (y 1) k)))
      = dotNT (m (c.tc.loc main_arg4)) (m (c.tc.loc main_arg3)) ((((cfg0.win 4).blk t).view.emb y) 0) ((((cfg0.win 4).blk t).view.emb y) 1) := by
  refine Fin.sum_fin_congr fun k => ?_
  refine congrArg₂ (fun a b : EReal => a * b) ?_ ?_
  · show iblk m c 0 t _ = _
    blk_simp [iblk, idx_val t]; entry_read; pointwise; blk_ext [idx_val t]
  · show iblk m c 1 t _ = _
    blk_simp [iblk, idx_val t]; entry_read; pointwise; blk_ext [idx_val t]

/-- The block of the gate projection that point `t` reads, at the index result window 5 writes. -/
theorem gate_5 (c : Dev nD) (t : Fin cfg0.N) (y : S704x1408.Idx) :
    iblk m c 2 t y = dotNN (m (c.tc.loc main_arg0)) (m (c.tc.loc main_arg1)) ((((cfg0.win 5).blk t).view.emb y) 0) ((((cfg0.win 5).blk t).view.emb y) 1) := by
  blk_simp [iblk, idx_val t]
  entry_read
  pointwise
  refine Fin.sum_fin_congr fun k => congrArg₂ (fun a b : EReal => a * b) ?_ ?_ <;> blk_ext [idx_val t]

/-- The row by row product of the incoming cotangent and `w_down` at that index. -/
theorem dact_5 (c : Dev nD) (t : Fin cfg0.N) (y : S704x1408.Idx) :
    (∑ k : Fin 2048, (show EReal from iblk m c 0 t (ix2 (y 0) k)) * (show EReal from iblk m c 1 t (ix4 0 0 (y 1) k)))
      = dotNT (m (c.tc.loc main_arg4)) (m (c.tc.loc main_arg3)) ((((cfg0.win 5).blk t).view.emb y) 0) ((((cfg0.win 5).blk t).view.emb y) 1) := by
  refine Fin.sum_fin_congr fun k => ?_
  refine congrArg₂ (fun a b : EReal => a * b) ?_ ?_
  · show iblk m c 0 t _ = _
    blk_simp [iblk, idx_val t]; entry_read; pointwise; blk_ext [idx_val t]
  · show iblk m c 1 t _ = _
    blk_simp [iblk, idx_val t]; entry_read; pointwise; blk_ext [idx_val t]

/-- What point `t` stores of the cotangent of `up`. -/
theorem point_5 (c : Dev nD) (t : Fin cfg0.N) (y) :
    k0_pay5 (iblk m c 0 t) (iblk m c 1 t) (iblk m c 2 t) y
      = refUp (m (c.tc.loc main_arg0)) (m (c.tc.loc main_arg1)) (m ((c : Thread nD τ).loc
        main_arg2)) (m (c.tc.loc main_arg3)) (m (c.tc.loc main_arg4)) (((cfg0.win 5).blk t).view.emb y) := by
  pointwise [k0_pay5, k0_pay1, k0_pay2, k0_pay3, refUp]
  exact Cert.Finite.up_point (dact_5 m c t y) (gate_5 m c t y)

/-- What point `t` stores of the cotangent of `gate`, of finite arguments. -/
theorem point_4 (c : Dev nD) (h : ∀ i, ∃ r : ℝ, m (c.tc.loc main_arg0) i = (r : EReal))
    (h1 : ∀ i, ∃ r : ℝ, m (c.tc.loc main_arg1) i = (r : EReal))
    (h2 : ∀ i, ∃ r : ℝ, m (c.tc.loc main_arg2) i = (r : EReal))
    (h3 : ∀ i, ∃ r : ℝ, m (c.tc.loc main_arg3) i = (r : EReal))
    (h4 : ∀ i, ∃ r : ℝ, m (c.tc.loc main_arg4) i = (r : EReal)) (t : Fin cfg0.N) (y) :
    k0_pay4 (iblk m c 0 t) (iblk m c 1 t) (iblk m c 2 t) (iblk m c 3 t) y
      = refGate (m (c.tc.loc main_arg0)) (m (c.tc.loc main_arg1)) (m ((c : Thread nD τ).loc
        main_arg2)) (m (c.tc.loc main_arg3)) (m (c.tc.loc main_arg4)) (((cfg0.win 4).blk t).view.emb y) := by
  pointwise [k0_pay4, k0_pay1, k0_pay2, k0_pay3, refGate]
  exact Cert.Finite.gate_point (dact_4 m c t y) (up_4 m c t y) (gate_4 m c t y)
    (Cert.Finite.real_sum_mul (fun k => h4 _) fun k => h3 _) (Cert.Finite.real_sum_mul (fun k => h _) fun k => h2 _)
    (Cert.Finite.real_sum_mul (fun k => h _) fun k => h1 _)

/-- The kernel's second result is the cotangent of `up`. -/
theorem final_5 (c : Dev nD) : (dats m 0 c).arrAt 5 (cfgs 0).N
    = refUp (m (c.tc.loc main_arg0)) (m (c.tc.loc main_arg1)) (m ((c : Thread nD τ).loc
        main_arg2)) (m (c.tc.loc main_arg3)) (m (c.tc.loc main_arg4)) := by
  refine (dats m 0 c).arrAt_eq_of_covers 5 _ (by decide +kernel) fun t hf y => ?_
  blk_simp; rw [after0_5]; frame_out
  exact point_5 m c t y

/-- The kernel's first result is the cotangent of `gate`. -/
theorem final_4 (c : Dev nD) (h : ∀ i, ∃ r : ℝ, m (c.tc.loc main_arg0) i = (r : EReal))
    (h1 : ∀ i, ∃ r : ℝ, m (c.tc.loc main_arg1) i = (r : EReal))
    (h2 : ∀ i, ∃ r : ℝ, m (c.tc.loc main_arg2) i = (r : EReal))
    (h3 : ∀ i, ∃ r : ℝ, m (c.tc.loc main_arg3) i = (r : EReal))
    (h4 : ∀ i, ∃ r : ℝ, m (c.tc.loc main_arg4) i = (r : EReal)) :
    (dats m 0 c).arrAt 4 (cfgs 0).N = refGate (m (c.tc.loc main_arg0)) (m (c.tc.loc main_arg1)) (m ((c : Thread nD τ).loc
        main_arg2)) (m (c.tc.loc main_arg3)) (m (c.tc.loc main_arg4)) := by
  refine (dats m 0 c).arrAt_eq_of_covers 4 _ (by decide +kernel) fun t hf y => ?_
  blk_simp; rw [after0_4]; frame_out
  exact point_4 m c h h1 h2 h3 h4 t y

end Cert.KernelIdeal.Value
-- ==== Proof.ValueDown.lean ====
/- The values of the gradient of `w_down` (the kernel `dw_down`): a product of a transposed activation with the incoming
   cotangent, accumulated over three blocks of rows. -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel2Ideal.Value
public import proofs.«01_k».proof.Proof.Gen.Reference2Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference2Ideal.Value
open Cert.Reference2Ideal Cert.Reference2Ideal.Gen

/-- The gradient of `w_down`, as the reference computes it. -/
def refDown (a0 : FVec Ideal S4224x5632 .f32) (a1 : FVec Ideal S4224x2048 .f32) : FVec Ideal S4x1408x2048 .bf16 :=
  truncf .bf16 (shapeCast _ (transpose S5632x2048 [1, 0] (Host.dotGeneral dot_S4224x2048_S4224x5632_S2048x5632_0_0_1_1_n_n none a1 a0) transposes_S2048x5632_S5632x2048_1_0) shapeCasts_S5632x2048_S4x1408x2048) bitsLt_bf16_f32

end Cert.Reference2Ideal.Value

namespace Cert.Kernel2Ideal.Value

open Cert.Kernel2Ideal Cert.Kernel2Ideal.Gen Cert.Reference2Ideal.Value Cert.Finite

variable (m : (ℓ : Loc nD τ sig) → Buf (Elt Ideal) ℓ)

/-- Every window's block index at every grid point. -/
theorem idx_val : ∀ t : Fin cfg0.N, win0_0.index t = ![t.val % 3, t.val / 6]
    ∧ win0_1.index t = ![t.val % 3, t.val / 3 % 2]
    ∧ win0_2.index t = ![t.val / 6, 0, t.val / 3 % 2] :=
  (by decide +kernel : ∀ t : Fin grid0.N, _)

/-- What point `t` adds to entry `(p, q)` of the accumulator: the products over its block of rows. -/
def part (c : Dev nD) (t : Fin cfg0.N) (j : S1408x1024.Idx) : EReal :=
  dotTN (iblk m c 0 t) (iblk m c 1 t) (j 0 : Fin 1408) (j 1 : Fin 1024)

/-- The first point of a run leaves its own part in the accumulator. -/
theorem acc_first (c : Dev nD) (t : Fin cfg0.N) (h0 : t.val % 3 = 0) (j : S1408x1024.Idx) :
    (outsAt0 m c t.val t.isLt).2 j = (0 : EReal) + part m c t j := by
  rw [outsAt0_A m c t h0 (by omega)]
  frame_out
  pointwise [k0_pay2, k0_pay1]
  rfl

/-- Every other point adds its part to what the point before left. -/
theorem acc_next (c : Dev nD) (t : Fin cfg0.N) (h0 : ¬ t.val % 3 = 0) (j : S1408x1024.Idx) :
    (outsAt0 m c t.val t.isLt).2 j
      = (outsAt0 m c (t.val - 1) (Nat.lt_of_le_of_lt (Nat.sub_le _ _) t.isLt)).2 j + part m c t j := by
  by_cases h1 : t.val % 3 = 2
  · rw [outsAt0_C m c t h0 h1]
    frame_out
    rw [read_unread_whole]
    pointwise [k0_pay2]
    rfl
  · rw [outsAt0_B m c t h0 h1]
    frame_out
    rw [read_unread_whole]
    pointwise [k0_pay2]
    rfl

/-- The last point of a run stores the accumulator, its sum over the run's points. -/
theorem out_last (c : Dev nD) (t : Fin cfg0.N) (h1 : t.val % 3 = 2) (y : S1x1408x1024.Idx) :
    (outsAt0 m c t.val t.isLt).1 y
      = ∑ s : Fin 3, part m c ⟨3 * (t.val / 3) + s.val, Pipeline.run_point_lt_of_flush t h1 s⟩ (ix2 (y 1) (y 2)) := by
  have hsum := Pipeline.eq_sum_fin_of_reset_step_apply_of_flush (fun n h => (outsAt0 m c n h).2) 3 (fun _ => (0 : EReal)) _
    (fun t h j => acc_first m c t h j) (fun t h j => acc_next m c t h j) t h1 (ix2 (y 1) (y 2))
  refine Eq.trans ?_ (hsum.trans (zero_add (_ : EReal)))
  have h0 : ¬ t.val % 3 = 0 := by omega
  rw [outsAt0_C m c t h0 h1]
  frame_out
  pointwise [k0_pay3]

/-- The kernel's result is the reference's. -/
theorem final (c : Dev nD) : (dats m 0 c).arrAt 2 (cfgs 0).N = refDown (m (c.tc.loc main_arg0)) (m (c.tc.loc main_arg1)) := by
  refine (dats m 0 c).arrAt_eq_of_covers 2 _ (by decide +kernel) fun t hf y => ?_
  blk_simp; rw [after0_2, out_last m c t ((flush0_2 t).mp hf)]
  pointwise [refDown]
  refine Fin.sum_mul_add_congr fun s k hl => ?_
  have e := idx_val ⟨_, Pipeline.run_point_lt_of_flush t ((flush0_2 t).mp hf) s⟩
  rw [mul_comm]
  refine congrArg₂ (fun a b : EReal => a * b) ?_ ?_
  · show iblk m c 1 _ _ = _
    blk_simp [iblk, idx_val t, e]; entry_read; pointwise; blk_ext [idx_val t, e]
  · show iblk m c 0 _ _ = _
    blk_simp [iblk, idx_val t, e]; entry_read; pointwise; blk_ext [idx_val t, e]

end Cert.Kernel2Ideal.Value
-- ==== Proof.ValueUp.lean ====
/- The values of the gradient of `w_gate` and of `w_up` (the kernel `dw_gate`): a product of the transposed input with the
   incoming cotangent, accumulated over three blocks of rows. -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel3Ideal.Value
public import proofs.«01_k».proof.Proof.Gen.Reference3Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference3Ideal.Value
open Cert.Reference3Ideal Cert.Reference3Ideal.Gen

/-- The gradient of `w_gate` or `w_up`, as the reference computes it. -/
def refWeight (a0 : FVec Ideal S4224x2048 .f32) (a1 : FVec Ideal S4224x5632 .f32) : FVec Ideal S4x2048x1408 .bf16 :=
  truncf .bf16 (transpose S4x2048x1408 [1, 0, 2] (shapeCast _ (transpose S2048x5632 [1, 0] (Host.dotGeneral dot_S4224x5632_S4224x2048_S5632x2048_0_0_1_1_n_n none a1 a0) transposes_S5632x2048_S2048x5632_1_0) shapeCasts_S2048x5632_S2048x4x1408) transposes_S2048x4x1408_S4x2048x1408_1_0_2) bitsLt_bf16_f32

end Cert.Reference3Ideal.Value

namespace Cert.Kernel3Ideal.Value

open Cert.Kernel3Ideal Cert.Kernel3Ideal.Gen Cert.Reference3Ideal.Value Cert.Finite

variable (m : (ℓ : Loc nD τ sig) → Buf (Elt Ideal) ℓ)

/-- Every window's block index at every grid point. -/
theorem idx_val : ∀ t : Fin cfg0.N, win0_0.index t = ![t.val % 3, t.val / 3 % 2]
    ∧ win0_1.index t = ![t.val % 3, t.val / 6]
    ∧ win0_2.index t = ![t.val / 6, t.val / 3 % 2, 0] :=
  (by decide +kernel : ∀ t : Fin grid0.N, _)

/-- What point `t` adds to entry `(p, q)` of the accumulator: the products over its block of rows. -/
def part (c : Dev nD) (t : Fin cfg0.N) (j : S1024x1408.Idx) : EReal :=
  dotTN (iblk m c 0 t) (iblk m c 1 t) (j 0 : Fin 1024) (j 1 : Fin 1408)

/-- The first point of a run leaves its own part in the accumulator. -/
theorem acc_first (c : Dev nD) (t : Fin cfg0.N) (h0 : t.val % 3 = 0) (j : S1024x1408.Idx) :
    (outsAt0 m c t.val t.isLt).2 j = (0 : EReal) + part m c t j := by
  rw [outsAt0_A m c t h0 (by omega)]
  frame_out
  pointwise [k0_pay2, k0_pay1]
  rfl

/-- Every other point adds its part to what the point before left. -/
theorem acc_next (c : Dev nD) (t : Fin cfg0.N) (h0 : ¬ t.val % 3 = 0) (j : S1024x1408.Idx) :
    (outsAt0 m c t.val t.isLt).2 j
      = (outsAt0 m c (t.val - 1) (Nat.lt_of_le_of_lt (Nat.sub_le _ _) t.isLt)).2 j + part m c t j := by
  by_cases h1 : t.val % 3 = 2
  · rw [outsAt0_C m c t h0 h1]
    frame_out
    rw [read_unread_whole]
    pointwise [k0_pay2]
    rfl
  · rw [outsAt0_B m c t h0 h1]
    frame_out
    rw [read_unread_whole]
    pointwise [k0_pay2]
    rfl

/-- The last point of a run stores the accumulator, its sum over the run's points. -/
theorem out_last (c : Dev nD) (t : Fin cfg0.N) (h1 : t.val % 3 = 2) (y : S1x1024x1408.Idx) :
    (outsAt0 m c t.val t.isLt).1 y
      = ∑ s : Fin 3, part m c ⟨3 * (t.val / 3) + s.val, Pipeline.run_point_lt_of_flush t h1 s⟩ (ix2 (y 1) (y 2)) := by
  have hsum := Pipeline.eq_sum_fin_of_reset_step_apply_of_flush (fun n h => (outsAt0 m c n h).2) 3 (fun _ => (0 : EReal)) _
    (fun t h j => acc_first m c t h j) (fun t h j => acc_next m c t h j) t h1 (ix2 (y 1) (y 2))
  refine Eq.trans ?_ (hsum.trans (zero_add (_ : EReal)))
  have h0 : ¬ t.val % 3 = 0 := by omega
  rw [outsAt0_C m c t h0 h1]
  frame_out
  pointwise [k0_pay3]

/-- The kernel's result is the reference's. -/
theorem final (c : Dev nD) : (dats m 0 c).arrAt 2 (cfgs 0).N = refWeight (m (c.tc.loc main_arg0)) (m (c.tc.loc main_arg1)) := by
  refine (dats m 0 c).arrAt_eq_of_covers 2 _ (by decide +kernel) fun t hf y => ?_
  blk_simp; rw [after0_2, out_last m c t ((flush0_2 t).mp hf)]
  pointwise [refWeight]
  refine Fin.sum_mul_add_congr fun s k hl => ?_
  have e := idx_val ⟨_, Pipeline.run_point_lt_of_flush t ((flush0_2 t).mp hf) s⟩
  rw [mul_comm]
  refine congrArg₂ (fun a b : EReal => a * b) ?_ ?_
  · show iblk m c 1 _ _ = _
    blk_simp [iblk, idx_val t, e]; entry_read; pointwise; blk_ext [idx_val t, e]
  · show iblk m c 0 _ _ = _
    blk_simp [iblk, idx_val t, e]; entry_read; pointwise; blk_ext [idx_val t, e]

end Cert.Kernel3Ideal.Value
-- ==== Proof.ValueDu.lean ====
/- The values of the gradient of the gated layer's input (the kernel `d_u2`): the sum of two products with transposed
   weights, each accumulated over four blocks of columns in one and the same result block. -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel4Ideal.Value
public import proofs.«01_k».proof.Proof.Gen.Reference4Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference4Ideal.Value
open Cert.Reference4Ideal Cert.Reference4Ideal.Gen

/-- The gradient of the gated layer's input, as the reference computes it. -/
def refInput (a0 : FVec Ideal S4224x5632 .f32) (a1 : FVec Ideal S2048x5632 .f32) (a2 : FVec Ideal S4224x5632 .f32) (a3 : FVec Ideal S2048x5632 .f32) : FVec Ideal S4224x2048 .f32 :=
  addf (Host.dotGeneral dot_S4224x5632_S2048x5632_S4224x2048_1_1_0_0_n_n none a2 a3) (Host.dotGeneral dot_S4224x5632_S2048x5632_S4224x2048_1_1_0_0_n_n none a0 a1)

end Cert.Reference4Ideal.Value

namespace Cert.Kernel4Ideal.Value

open Cert.Kernel4Ideal Cert.Kernel4Ideal.Gen Cert.Reference4Ideal.Value Cert.Finite

variable (m : (ℓ : Loc nD τ sig) → Buf (Elt Ideal) ℓ)

/-- The result window's block index at every grid point. -/
theorem idx_out : ∀ t : Fin cfg0.N, win0_4.index t = ![t.val / 8, 0] :=
  (by decide +kernel : ∀ t : Fin grid0.N, _)

/-- The first pair's block indices at the first four points of a run. -/
theorem idx_low : ∀ t : Fin cfg0.N, t.val % 8 < 4 → win0_0.index t = ![t.val / 8, t.val % 8]
    ∧ win0_1.index t = ![t.val % 8, 0, 0, 0] :=
  (by decide +kernel : ∀ t : Fin grid0.N, _)

/-- The second pair's block indices at the last four points of a run. -/
theorem idx_high : ∀ t : Fin cfg0.N, 4 ≤ t.val % 8 → win0_2.index t = ![t.val / 8, t.val % 8 - 4]
    ∧ win0_3.index t = ![t.val % 8 - 4, 0, 0, 0] :=
  (by decide +kernel : ∀ t : Fin grid0.N, _)

/-- The points of a run are points of the grid. -/
theorem run_lt (t : Fin cfg0.N) (n : ℕ) (hn : n < 8) : 8 * (t.val / 8) + n < cfg0.N := by
  have h := lt_of_lt_of_eq t.isLt (show cfg0.N = 48 from N_0)
  exact lt_of_lt_of_eq (b := 48) (by omega) N_0.symm

/-- What point `t` adds from the first pair. -/
def partA (c : Dev nD) (t : Fin cfg0.N) (j : S704x2048.Idx) : EReal :=
  dotNT (a := 1408) (p := 704) (q := 2048) (iblk m c 0 t) (fun i => iblk m c 1 t (ix4 0 0 (i 0 : Fin 2048) (i 1 : Fin 1408))) (j 0 : Fin 704) (j 1 : Fin 2048)

/-- What point `t` adds from the second pair. -/
def partB (c : Dev nD) (t : Fin cfg0.N) (j : S704x2048.Idx) : EReal :=
  dotNT (a := 1408) (p := 704) (q := 2048) (iblk m c 2 t) (fun i => iblk m c 3 t (ix4 0 0 (i 0 : Fin 2048) (i 1 : Fin 1408))) (j 0 : Fin 704) (j 1 : Fin 2048)

/-- What point `t` adds: the first pair's part at the first four points of a run, the second pair's at the others. -/
def part (c : Dev nD) (t : Fin cfg0.N) (j : S704x2048.Idx) : EReal :=
  if t.val % 8 < 4 then partA m c t j else partB m c t j

/-- The first point of a run stores its own part. -/
theorem acc_first (c : Dev nD) (t : Fin cfg0.N) (h0 : t.val % 8 = 0) (j : S704x2048.Idx) :
    outsAt0 m c t.val t.isLt j = (0 : EReal) + part m c t j := by
  rw [outsAt0_A m c t h0 (by omega) (by omega)]
  frame_out
  unfold part
  rw [if_pos (by omega)]
  pointwise [k0_pay1]
  rfl

/-- Every other point adds its part to what the point before left. -/
theorem acc_next (c : Dev nD) (t : Fin cfg0.N) (h0 : ¬ t.val % 8 = 0) (j : S704x2048.Idx) :
    outsAt0 m c t.val t.isLt j
      = outsAt0 m c (t.val - 1) (Nat.lt_of_le_of_lt (Nat.sub_le _ _) t.isLt) j + part m c t j := by
  unfold part
  by_cases h1 : 4 ≤ t.val % 8
  · rw [outsAt0_C m c t h0 (by omega) h1, if_neg (by omega)]
    frame_out
    pointwise [k0_pay3]
    rfl
  · rw [outsAt0_B m c t h0 (by omega) h1, if_pos (by omega)]
    frame_out
    pointwise [k0_pay2]
    rfl

/-- The last point of a run leaves the two sums over the run's points. -/
theorem out_last (c : Dev nD) (t : Fin cfg0.N) (h1 : t.val % 8 = 7) (j : S704x2048.Idx) :
    outsAt0 m c t.val t.isLt j
      = (∑ s : Fin 4, partB m c ⟨8 * (t.val / 8) + (4 + s.val), run_lt t _ (by have := s.isLt; omega)⟩ j)
        + ∑ s : Fin 4, partA m c ⟨8 * (t.val / 8) + s.val, run_lt t _ (by have := s.isLt; omega)⟩ j := by
  have hsum := Pipeline.eq_sum_fin_of_reset_step_apply_of_flush (fun n h => outsAt0 m c n h) 8 (fun _ => (0 : EReal)) _
    (fun t h j => acc_first m c t h j) (fun t h j => acc_next m c t h j) t h1 j
  refine hsum.trans ((zero_add (_ : EReal)).trans ?_)
  rw [add_comm]
  refine (Fin.sum_univ_add (a := 4) (b := 4) (M := EReal) _).trans ?_
  refine congrArg₂ (fun a b : EReal => a + b) (Finset.sum_congr rfl fun s _ => ?_) (Finset.sum_congr rfl fun s _ => ?_)
  · exact if_pos (by have := s.isLt; simp only [Fin.val_castAdd]; omega)
  · exact if_neg (by have := s.isLt; simp only [Fin.val_natAdd]; omega)

set_option maxHeartbeats 1000000 in
/-- The kernel's result is the reference's. -/
theorem final (c : Dev nD) : (dats m 0 c).arrAt 4 (cfgs 0).N = refInput (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp; rw [after0_4, out_last m c t ((flush0_4 t).mp hf)]
  pointwise [refInput]
  refine congrArg₂ (fun a b : EReal => a + b) ?_ ?_
  · refine Fin.sum_mul_add_congr fun s k hl => ?_
    have hs := s.isLt
    have e := idx_high ⟨8 * (t.val / 8) + (4 + s.val), run_lt t _ (by omega)⟩ (by dsimp only; omega)
    refine congrArg₂ (fun a b : EReal => a * b) ?_ ?_
    · show iblk m c 2 _ _ = _
      blk_simp [iblk, idx_out t, e]; entry_read; pointwise; blk_ext [idx_out t, e]
    · show iblk m c 3 _ _ = _
      blk_simp [iblk, idx_out t, e]; entry_read; pointwise; blk_ext [idx_out t, e]
  · refine Fin.sum_mul_add_congr fun s k hl => ?_
    have hs := s.isLt
    have e := idx_low ⟨8 * (t.val / 8) + s.val, run_lt t _ (by omega)⟩ (by dsimp only; omega)
    refine congrArg₂ (fun a b : EReal => a * b) ?_ ?_
    · show iblk m c 0 _ _ = _
      blk_simp [iblk, idx_out t, e]; entry_read; pointwise; blk_ext [idx_out t, e]
    · show iblk m c 1 _ _ = _
      blk_simp [iblk, idx_out t, e]; entry_read; pointwise; blk_ext [idx_out t, e]

end Cert.Kernel4Ideal.Value
-- ==== Proof.ValueMerged.lean ====
/- The values of the gradient of the merged heads (the kernel `d_merged`). -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel5Ideal.Value
public import proofs.«01_k».proof.Proof.Gen.Reference5Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference5Ideal.Value
open Cert.Reference5Ideal Cert.Reference5Ideal.Gen

/-- The gradient of the merged heads, as the reference computes it. -/
def refMerged (a0 : FVec Ideal S4224x2048 .f32) (a1 : FVec Ideal S2048x2048 .f32) : FVec Ideal S4224x2048 .f32 :=
  Host.dotGeneral dot_S4224x2048_S2048x2048_S4224x2048_1_1_0_0_n_n none a0 a1

end Cert.Reference5Ideal.Value

namespace Cert.Kernel5Ideal.Value

open Cert.Kernel5Ideal Cert.Kernel5Ideal.Gen Cert.Reference5Ideal.Value Cert.Finite

variable (m : (ℓ : Loc nD τ sig) → Buf (Elt Ideal) ℓ)

/-- Every window's block index at every grid point. -/
theorem idx_val : ∀ t : Fin cfg0.N, win0_0.index t = ![t.val % 3, 0]
    ∧ win0_1.index t = ![t.val / 3, 0, 0, 0]
    ∧ win0_2.index t = ![t.val % 3, t.val / 3] :=
  (by decide +kernel : ∀ t : Fin grid0.N, _)

/-- The kernel's result is the reference's. -/
theorem final (c : Dev nD) : (dats m 0 c).arrAt 2 (cfgs 0).N = refMerged (m (c.tc.loc main_arg0)) (m (c.tc.loc main_arg1)) := by
  refine (dats m 0 c).arrAt_eq_of_covers 2 _ (by decide +kernel) fun t hf y => ?_
  blk_simp; rw [after0_2]; frame_out
  pointwise [k0_pay1, refMerged]
  refine Fin.sum_fin_congr fun k => congrArg₂ (fun a b : EReal => a * b) ?_ ?_
  · show iblk m c 0 _ _ = _
    blk_simp [iblk, idx_val t]; entry_read; pointwise; blk_ext [idx_val t]
  · show iblk m c 1 _ _ = _
    blk_simp [iblk, idx_val t]; entry_read; pointwise; blk_ext [idx_val t]

end Cert.Kernel5Ideal.Value
-- ==== Proof.ValueDwOut.lean ====
/- The values of the gradient of `w_out` (the kernel `dw_out`), accumulated over three blocks of rows. -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel6Ideal.Value
public import proofs.«01_k».proof.Proof.Gen.Reference6Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference6Ideal.Value
open Cert.Reference6Ideal Cert.Reference6Ideal.Gen

/-- The gradient of `w_out`, as the reference computes it. -/
def refDwOut (a0 a1 : FVec Ideal S4224x2048 .f32) : FVec Ideal S4x512x2048 .bf16 :=
  truncf .bf16 (shapeCast _ (transpose S2048x2048 [1, 0] (Host.dotGeneral dot_S4224x2048_S4224x2048_S2048x2048_0_0_1_1_n_n none a1 a0) transposes_S2048x2048_S2048x2048_1_0) shapeCasts_S2048x2048_S4x512x2048) bitsLt_bf16_f32

end Cert.Reference6Ideal.Value

namespace Cert.Kernel6Ideal.Value

open Cert.Kernel6Ideal Cert.Kernel6Ideal.Gen Cert.Reference6Ideal.Value Cert.Finite

variable (m : (ℓ : Loc nD τ sig) → Buf (Elt Ideal) ℓ)

/-- Every window's block index at every grid point. -/
theorem idx_val : ∀ t : Fin cfg0.N, win0_0.index t = ![t.val % 3, t.val / 6]
    ∧ win0_1.index t = ![t.val % 3, t.val / 3 % 2]
    ∧ win0_2.index t = ![t.val / 6, 0, t.val / 3 % 2] :=
  (by decide +kernel : ∀ t : Fin grid0.N, _)

/-- What point `t` adds to entry `(p, q)` of the accumulator: the products over its block of rows. -/
def part (c : Dev nD) (t : Fin cfg0.N) (j : S512x1024.Idx) : EReal :=
  dotTN (iblk m c 0 t) (iblk m c 1 t) (j 0 : Fin 512) (j 1 : Fin 1024)

/-- The first point of a run leaves its own part in the accumulator. -/
theorem acc_first (c : Dev nD) (t : Fin cfg0.N) (h0 : t.val % 3 = 0) (j : S512x1024.Idx) :
    (outsAt0 m c t.val t.isLt).2 j = (0 : EReal) + part m c t j := by
  rw [outsAt0_A m c t h0 (by omega)]
  frame_out
  pointwise [k0_pay2, k0_pay1]
  rfl

/-- Every other point adds its part to what the point before left. -/
theorem acc_next (c : Dev nD) (t : Fin cfg0.N) (h0 : ¬ t.val % 3 = 0) (j : S512x1024.Idx) :
    (outsAt0 m c t.val t.isLt).2 j
      = (outsAt0 m c (t.val - 1) (Nat.lt_of_le_of_lt (Nat.sub_le _ _) t.isLt)).2 j + part m c t j := by
  by_cases h1 : t.val % 3 = 2
  · rw [outsAt0_C m c t h0 h1]
    frame_out
    rw [read_unread_whole]
    pointwise [k0_pay2]
    rfl
  · rw [outsAt0_B m c t h0 h1]
    frame_out
    rw [read_unread_whole]
    pointwise [k0_pay2]
    rfl

/-- The last point of a run stores the accumulator, its sum over the run's points. -/
theorem out_last (c : Dev nD) (t : Fin cfg0.N) (h1 : t.val % 3 = 2) (y : S1x512x1024.Idx) :
    (outsAt0 m c t.val t.isLt).1 y
      = ∑ s : Fin 3, part m c ⟨3 * (t.val / 3) + s.val, Pipeline.run_point_lt_of_flush t h1 s⟩ (ix2 (y 1) (y 2)) := by
  have hsum := Pipeline.eq_sum_fin_of_reset_step_apply_of_flush (fun n h => (outsAt0 m c n h).2) 3 (fun _ => (0 : EReal)) _
    (fun t h j => acc_first m c t h j) (fun t h j => acc_next m c t h j) t h1 (ix2 (y 1) (y 2))
  refine Eq.trans ?_ (hsum.trans (zero_add (_ : EReal)))
  have h0 : ¬ t.val % 3 = 0 := by omega
  rw [outsAt0_C m c t h0 h1]
  frame_out
  pointwise [k0_pay3]

/-- The kernel's result is the reference's. -/
theorem final (c : Dev nD) : (dats m 0 c).arrAt 2 (cfgs 0).N = refDwOut (m (c.tc.loc main_arg0)) (m (c.tc.loc main_arg1)) := by
  refine (dats m 0 c).arrAt_eq_of_covers 2 _ (by decide +kernel) fun t hf y => ?_
  blk_simp; rw [after0_2, out_last m c t ((flush0_2 t).mp hf)]
  pointwise [refDwOut]
  refine Fin.sum_mul_add_congr fun s k hl => ?_
  have e := idx_val ⟨_, Pipeline.run_point_lt_of_flush t ((flush0_2 t).mp hf) s⟩
  rw [mul_comm]
  refine congrArg₂ (fun a b : EReal => a * b) ?_ ?_
  · show iblk m c 1 _ _ = _
    blk_simp [iblk, idx_val t, e]; entry_read; pointwise; blk_ext [idx_val t, e]
  · show iblk m c 0 _ _ = _
    blk_simp [iblk, idx_val t, e]; entry_read; pointwise; blk_ext [idx_val t, e]

end Cert.Kernel6Ideal.Value
-- ==== Proof.ValueDinput.lean ====
/- The values of the gradient of the layer's normed input (the kernel `d_u`), accumulated over four blocks of columns. -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel7Ideal.Value
public import proofs.«01_k».proof.Proof.Gen.Reference7Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference7Ideal.Value
open Cert.Reference7Ideal Cert.Reference7Ideal.Gen

/-- The gradient of the layer's normed input, as the reference computes it. -/
def refDinput (a0 : FVec Ideal S4224x4608 .f32) (a1 : FVec Ideal S2048x4608 .f32) : FVec Ideal S4224x2048 .f32 :=
  Host.dotGeneral dot_S4224x4608_S2048x4608_S4224x2048_1_1_0_0_n_n none a0 a1

end Cert.Reference7Ideal.Value

namespace Cert.Kernel7Ideal.Value

open Cert.Kernel7Ideal Cert.Kernel7Ideal.Gen Cert.Reference7Ideal.Value Cert.Finite

variable (m : (ℓ : Loc nD τ sig) → Buf (Elt Ideal) ℓ)

/-- Every window's block index at every grid point. -/
theorem idx_val : ∀ t : Fin cfg0.N, win0_0.index t = ![t.val / 4, t.val % 4]
    ∧ win0_1.index t = ![t.val % 4, 0, 0, 0]
    ∧ win0_2.index t = ![t.val / 4, 0] :=
  (by decide +kernel : ∀ t : Fin grid0.N, _)

/-- What point `t` adds: the products over its block of the contracted axis. -/
def part (c : Dev nD) (t : Fin cfg0.N) (j : S1408x2048.Idx) : EReal :=
  dotNT (a := 1152) (p := 1408) (q := 2048) (iblk m c 0 t) (fun i => iblk m c 1 t (ix4 0 0 (i 0 : Fin 2048) (i 1 : Fin 1152))) (j 0 : Fin 1408) (j 1 : Fin 2048)

/-- The first point of a run stores its own part. -/
theorem acc_first (c : Dev nD) (t : Fin cfg0.N) (h0 : t.val % 4 = 0) (j : S1408x2048.Idx) :
    outsAt0 m c t.val t.isLt j = (0 : EReal) + part m c t j := by
  rw [outsAt0_A m c t h0 (by omega)]
  frame_out
  pointwise [k0_pay1]
  rfl

/-- Every other point adds its part to what the point before left. -/
theorem acc_next (c : Dev nD) (t : Fin cfg0.N) (h0 : ¬ t.val % 4 = 0) (j : S1408x2048.Idx) :
    outsAt0 m c t.val t.isLt j
      = outsAt0 m c (t.val - 1) (Nat.lt_of_le_of_lt (Nat.sub_le _ _) t.isLt) j + part m c t j := by
  rw [outsAt0_B m c t h0 (by omega)]
  frame_out
  pointwise [k0_pay2, k0_pay1]
  rfl

/-- The last point of a run leaves the sum over the run's points. -/
theorem out_last (c : Dev nD) (t : Fin cfg0.N) (h1 : t.val % 4 = 3) (j : S1408x2048.Idx) :
    outsAt0 m c t.val t.isLt j
      = ∑ s : Fin 4, part m c ⟨4 * (t.val / 4) + s.val, Pipeline.run_point_lt_of_flush t h1 s⟩ j :=
  (Pipeline.eq_sum_fin_of_reset_step_apply_of_flush (fun n h => outsAt0 m c n h) 4 (fun _ => (0 : EReal)) _
    (fun t h j => acc_first m c t h j) (fun t h j => acc_next m c t h j) t h1 j).trans (zero_add (_ : EReal))

set_option maxHeartbeats 1000000 in
/-- The kernel's result is the reference's. -/
theorem final (c : Dev nD) : (dats m 0 c).arrAt 2 (cfgs 0).N = refDinput (m (c.tc.loc main_arg0)) (m (c.tc.loc main_arg1)) := by
  refine (dats m 0 c).arrAt_eq_of_covers 2 _ (by decide +kernel) fun t hf y => ?_
  blk_simp; rw [after0_2, out_last m c t ((flush0_2 t).mp hf)]
  pointwise [refDinput]
  refine Fin.sum_mul_add_congr fun s k hl => ?_
  have e := idx_val ⟨_, Pipeline.run_point_lt_of_flush t ((flush0_2 t).mp hf) s⟩
  refine congrArg₂ (fun a b : EReal => a * b) ?_ ?_
  · show iblk m c 0 _ _ = _
    blk_simp [iblk, idx_val t, e]; entry_read; pointwise; blk_ext [idx_val t, e]
  · show iblk m c 1 _ _ = _
    blk_simp [iblk, idx_val t, e]; entry_read; pointwise; blk_ext [idx_val t, e]

end Cert.Kernel7Ideal.Value
-- ==== Proof.ValueDwIn.lean ====
/- The values of the gradient of `w_in` (the kernel `dw_in`), accumulated over three blocks of rows. -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel8Ideal.Value
public import proofs.«01_k».proof.Proof.Gen.Reference8Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference8Ideal.Value
open Cert.Reference8Ideal Cert.Reference8Ideal.Gen

/-- The gradient of `w_in`, as the reference computes it. -/
def refDwIn (a0 : FVec Ideal S4224x2048 .f32) (a1 : FVec Ideal S4224x4608 .f32) : FVec Ideal S4x2048x1152 .bf16 :=
  truncf .bf16 (transpose S4x2048x1152 [1, 0, 2] (shapeCast _ (transpose S2048x4608 [1, 0] (Host.dotGeneral dot_S4224x4608_S4224x2048_S4608x2048_0_0_1_1_n_n none a1 a0) transposes_S4608x2048_S2048x4608_1_0) shapeCasts_S2048x4608_S2048x4x1152) transposes_S2048x4x1152_S4x2048x1152_1_0_2) bitsLt_bf16_f32

end Cert.Reference8Ideal.Value

namespace Cert.Kernel8Ideal.Value

open Cert.Kernel8Ideal Cert.Kernel8Ideal.Gen Cert.Reference8Ideal.Value Cert.Finite

variable (m : (ℓ : Loc nD τ sig) → Buf (Elt Ideal) ℓ)

/-- Every window's block index at every grid point. -/
theorem idx_val : ∀ t : Fin cfg0.N, win0_0.index t = ![t.val % 3, t.val / 3 % 2]
    ∧ win0_1.index t = ![t.val % 3, t.val / 6]
    ∧ win0_2.index t = ![t.val / 6, t.val / 3 % 2, 0] :=
  (by decide +kernel : ∀ t : Fin grid0.N, _)

/-- What point `t` adds to entry `(p, q)` of the accumulator: the products over its block of rows. -/
def part (c : Dev nD) (t : Fin cfg0.N) (j : S1024x1152.Idx) : EReal :=
  dotTN (iblk m c 0 t) (iblk m c 1 t) (j 0 : Fin 1024) (j 1 : Fin 1152)

/-- The first point of a run leaves its own part in the accumulator. -/
theorem acc_first (c : Dev nD) (t : Fin cfg0.N) (h0 : t.val % 3 = 0) (j : S1024x1152.Idx) :
    (outsAt0 m c t.val t.isLt).2 j = (0 : EReal) + part m c t j := by
  rw [outsAt0_A m c t h0 (by omega)]
  frame_out
  pointwise [k0_pay2, k0_pay1]
  rfl

/-- Every other point adds its part to what the point before left. -/
theorem acc_next (c : Dev nD) (t : Fin cfg0.N) (h0 : ¬ t.val % 3 = 0) (j : S1024x1152.Idx) :
    (outsAt0 m c t.val t.isLt).2 j
      = (outsAt0 m c (t.val - 1) (Nat.lt_of_le_of_lt (Nat.sub_le _ _) t.isLt)).2 j + part m c t j := by
  by_cases h1 : t.val % 3 = 2
  · rw [outsAt0_C m c t h0 h1]
    frame_out
    rw [read_unread_whole]
    pointwise [k0_pay2]
    rfl
  · rw [outsAt0_B m c t h0 h1]
    frame_out
    rw [read_unread_whole]
    pointwise [k0_pay2]
    rfl

/-- The last point of a run stores the accumulator, its sum over the run's points. -/
theorem out_last (c : Dev nD) (t : Fin cfg0.N) (h1 : t.val % 3 = 2) (y : S1x1024x1152.Idx) :
    (outsAt0 m c t.val t.isLt).1 y
      = ∑ s : Fin 3, part m c ⟨3 * (t.val / 3) + s.val, Pipeline.run_point_lt_of_flush t h1 s⟩ (ix2 (y 1) (y 2)) := by
  have hsum := Pipeline.eq_sum_fin_of_reset_step_apply_of_flush (fun n h => (outsAt0 m c n h).2) 3 (fun _ => (0 : EReal)) _
    (fun t h j => acc_first m c t h j) (fun t h j => acc_next m c t h j) t h1 (ix2 (y 1) (y 2))
  refine Eq.trans ?_ (hsum.trans (zero_add (_ : EReal)))
  have h0 : ¬ t.val % 3 = 0 := by omega
  rw [outsAt0_C m c t h0 h1]
  frame_out
  pointwise [k0_pay3]

/-- The kernel's result is the reference's. -/
theorem final (c : Dev nD) : (dats m 0 c).arrAt 2 (cfgs 0).N = refDwIn (m (c.tc.loc main_arg0)) (m (c.tc.loc main_arg1)) := by
  refine (dats m 0 c).arrAt_eq_of_covers 2 _ (by decide +kernel) fun t hf y => ?_
  blk_simp; rw [after0_2, out_last m c t ((flush0_2 t).mp hf)]
  pointwise [refDwIn]
  refine Fin.sum_mul_add_congr fun s k hl => ?_
  have e := idx_val ⟨_, Pipeline.run_point_lt_of_flush t ((flush0_2 t).mp hf) s⟩
  rw [mul_comm]
  refine congrArg₂ (fun a b : EReal => a * b) ?_ ?_
  · show iblk m c 1 _ _ = _
    blk_simp [iblk, idx_val t, e]; entry_read; pointwise; blk_ext [idx_val t, e]
  · show iblk m c 0 _ _ = _
    blk_simp [iblk, idx_val t, e]; entry_read; pointwise; blk_ext [idx_val t, e]

end Cert.Kernel8Ideal.Value
-- ==== Proof.ValueProj.lean ====
/- The values of the projection in (the kernel `in_proj`). -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel9Ideal.Value
public import proofs.«01_k».proof.Proof.Gen.Reference9Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference9Ideal.Value
open Cert.Reference9Ideal Cert.Reference9Ideal.Gen

/-- The projection in, as the reference computes it. -/
def refProj (a0 : FVec Ideal S4224x2048 .f32) (a1 : FVec Ideal S2048x4608 .f32) : FVec Ideal S4224x4608 .f32 :=
  Host.dotGeneral dot_S4224x2048_S2048x4608_S4224x4608_1_0_0_1_n_n none a0 a1

end Cert.Reference9Ideal.Value

namespace Cert.Kernel9Ideal.Value

open Cert.Kernel9Ideal Cert.Kernel9Ideal.Gen Cert.Reference9Ideal.Value Cert.Finite

variable (m : (ℓ : Loc nD τ sig) → Buf (Elt Ideal) ℓ)

/-- Every window's block index at every grid point. -/
theorem idx_val : ∀ t : Fin cfg0.N, win0_0.index t = ![t.val % 3, 0]
    ∧ win0_1.index t = ![t.val / 3, 0, 0, 0]
    ∧ win0_2.index t = ![t.val % 3, t.val / 3] :=
  (by decide +kernel : ∀ t : Fin grid0.N, _)

/-- The kernel's result is the reference's. -/
theorem final (c : Dev nD) : (dats m 0 c).arrAt 2 (cfgs 0).N = refProj (m (c.tc.loc main_arg0)) (m (c.tc.loc main_arg1)) := by
  refine (dats m 0 c).arrAt_eq_of_covers 2 _ (by decide +kernel) fun t hf y => ?_
  blk_simp; rw [after0_2]; frame_out
  pointwise [k0_pay1, refProj]
  refine Fin.sum_fin_congr fun k => congrArg₂ (fun a b : EReal => a * b) ?_ ?_
  · show iblk m c 0 _ _ = _
    blk_simp [iblk, idx_val t]; entry_read; pointwise; blk_ext [idx_val t]
  · show iblk m c 1 _ _ = _
    blk_simp [iblk, idx_val t]; entry_read; pointwise; blk_ext [idx_val t]

end Cert.Kernel9Ideal.Value
-- ==== Proof.ValueGateProd.lean ====
/- The values of the gate product (the kernel `ffn_gate`). -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel10Ideal.Value
public import proofs.«01_k».proof.Proof.Gen.Reference10Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference10Ideal.Value
open Cert.Reference10Ideal Cert.Reference10Ideal.Gen

/-- The gate product, as the reference computes it. -/
def refGateProd (a0 : FVec Ideal S4224x2048 .f32) (a1 : FVec Ideal S2048x5632 .f32) : FVec Ideal S4224x5632 .f32 :=
  Host.dotGeneral dot_S4224x2048_S2048x5632_S4224x5632_1_0_0_1_n_n none a0 a1

end Cert.Reference10Ideal.Value

namespace Cert.Kernel10Ideal.Value

open Cert.Kernel10Ideal Cert.Kernel10Ideal.Gen Cert.Reference10Ideal.Value Cert.Finite

variable (m : (ℓ : Loc nD τ sig) → Buf (Elt Ideal) ℓ)

/-- Every window's block index at every grid point. -/
theorem idx_val : ∀ t : Fin cfg0.N, win0_0.index t = ![t.val % 3, 0]
    ∧ win0_1.index t = ![t.val / 3, 0, 0, 0]
    ∧ win0_2.index t = ![t.val % 3, t.val / 3] :=
  (by decide +kernel : ∀ t : Fin grid0.N, _)

/-- The kernel's result is the reference's. -/
theorem final (c : Dev nD) : (dats m 0 c).arrAt 2 (cfgs 0).N = refGateProd (m (c.tc.loc main_arg0)) (m (c.tc.loc main_arg1)) := by
  refine (dats m 0 c).arrAt_eq_of_covers 2 _ (by decide +kernel) fun t hf y => ?_
  blk_simp; rw [after0_2]; frame_out
  pointwise [k0_pay1, refGateProd]
  refine Fin.sum_fin_congr fun k => congrArg₂ (fun a b : EReal => a * b) ?_ ?_
  · show iblk m c 0 _ _ = _
    blk_simp [iblk, idx_val t]; entry_read; pointwise; blk_ext [idx_val t]
  · show iblk m c 1 _ _ = _
    blk_simp [iblk, idx_val t]; entry_read; pointwise; blk_ext [idx_val t]

end Cert.Kernel10Ideal.Value
-- ==== Proof.ValueAct.lean ====
/- The values of the up product and of the gated activation (the kernel `ffn_up`). -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel11Ideal.Value
public import proofs.«01_k».proof.Proof.Gen.Reference11Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference11Ideal.Value
open Cert.Reference11Ideal Cert.Reference11Ideal.Gen

/-- The up product, as the reference computes it. -/
def refUpProd (a0 : FVec Ideal S4224x2048 .f32) (a1 a2 : FVec Ideal S2048x5632 .f32) : FVec Ideal S4224x5632 .f32 :=
  Host.dotGeneral dot_S4224x2048_S2048x5632_S4224x5632_1_0_0_1_n_n none a0 a2

end Cert.Reference11Ideal.Value

namespace Cert.Reference11Ideal.Value
open Cert.Reference11Ideal Cert.Reference11Ideal.Gen

/-- The gated activation, as the reference computes it. -/
def refAct (a0 : FVec Ideal S4224x2048 .f32) (a1 a2 : FVec Ideal S2048x5632 .f32) : FVec Ideal S4224x5632 .bf16 :=
  truncf .bf16 (mulf (mulf (Host.dotGeneral dot_S4224x2048_S2048x5632_S4224x5632_1_0_0_1_n_n none a0 a1) (Host.divf (broadcastInDim S4224x5632 ![] bcast_S_S4224x5632 (constant S_ .f32 0x3F800000#32)) (addf (broadcastInDim S4224x5632 ![] bcast_S_S4224x5632 (constant S_ .f32 0x3F800000#32)) (Host.exp (Host.negf (Host.dotGeneral dot_S4224x2048_S2048x5632_S4224x5632_1_0_0_1_n_n none a0 a1)))))) (Host.dotGeneral dot_S4224x2048_S2048x5632_S4224x5632_1_0_0_1_n_n none a0 a2)) bitsLt_bf16_f32

end Cert.Reference11Ideal.Value

namespace Cert.Kernel11Ideal.Value

open Cert.Kernel11Ideal Cert.Kernel11Ideal.Gen Cert.Reference11Ideal.Value Cert.Finite

variable (m : (ℓ : Loc nD τ sig) → Buf (Elt Ideal) ℓ)

/-- Every window's block index at every grid point. -/
theorem idx_val : ∀ t : Fin cfg0.N, win0_0.index t = ![t.val % 6, 0]
    ∧ win0_1.index t = ![t.val / 6, 0, 0, 0]
    ∧ win0_2.index t = ![t.val % 6, t.val / 6]
    ∧ win0_3.index t = ![t.val % 6, t.val / 6]
    ∧ win0_4.index t = ![t.val % 6, t.val / 6] :=
  (by decide +kernel : ∀ t : Fin grid0.N, _)

/-- The up product's block at point `t`, at the index result window 3 writes. -/
theorem up_3 (c : Dev nD) (t : Fin cfg0.N) (y : S704x1408.Idx) :
    (∑ k : Fin 2048, (show EReal from iblk m c 0 t (ix2 (y 0) k)) * (show EReal from iblk m c 1 t (ix4 0 0 k (y 1))))
      = dotNN (a := 2048) (p := 4224) (q := 5632) (m (c.tc.loc main_arg0)) (m (c.tc.loc main_arg2)) ((((cfg0.win 3).blk t).view.emb y) 0) ((((cfg0.win 3).blk t).view.emb y) 1) := by
  refine Fin.sum_fin_congr fun k => ?_
  refine congrArg₂ (fun a b : EReal => a * b) ?_ ?_
  · show iblk m c 0 t _ = _
    blk_simp [iblk, idx_val t]; entry_read; pointwise; blk_ext [idx_val t]
  · show iblk m c 1 t _ = _
    blk_simp [iblk, idx_val t]; entry_read; pointwise; blk_ext [idx_val t]

/-- The up product's block at point `t`, at the index result window 4 writes. -/
theorem up_4 (c : Dev nD) (t : Fin cfg0.N) (y : S704x1408.Idx) :
    (∑ k : Fin 2048, (show EReal from iblk m c 0 t (ix2 (y 0) k)) * (show EReal from iblk m c 1 t (ix4 0 0 k (y 1))))
      = dotNN (a := 2048) (p := 4224) (q := 5632) (m (c.tc.loc main_arg0)) (m (c.tc.loc main_arg2)) ((((cfg0.win 4).blk t).view.emb y) 0) ((((cfg0.win 4).blk t).view.emb y) 1) := by
  refine Fin.sum_fin_congr fun k => ?_
  refine congrArg₂ (fun a b : EReal => a * b) ?_ ?_
  · show iblk m c 0 t _ = _
    blk_simp [iblk, idx_val t]; entry_read; pointwise; blk_ext [idx_val t]
  · show iblk m c 1 t _ = _
    blk_simp [iblk, idx_val t]; entry_read; pointwise; blk_ext [idx_val t]

/-- The block of the gate product that point `t` reads, at the index result window 4 writes. -/
theorem gate_4 (c : Dev nD) (t : Fin cfg0.N) (y : S704x1408.Idx) :
    iblk m c 2 t y = dotNN (a := 2048) (p := 4224) (q := 5632) (m (c.tc.loc main_arg0)) (m (c.tc.loc main_arg1)) ((((cfg0.win 4).blk t).view.emb y) 0) ((((cfg0.win 4).blk t).view.emb y) 1) := by
  blk_simp [iblk, idx_val t]
  entry_read
  pointwise
  refine Fin.sum_fin_congr fun k => congrArg₂ (fun a b : EReal => a * b) ?_ ?_ <;> blk_ext [idx_val t]

/-- The gated activation at one entry. -/
theorem act_point {d d' g g' : EReal} (hd : d = d') (hg : g = g') :
    g * Ideal.div 1 (1 + Ideal.exp (0 - g)) * d = g' * Ideal.div 1 (1 + Ideal.exp (-g')) * d' := by
  subst hd hg
  rw [zero_sub]

/-- The kernel's first result is the up product. -/
theorem final_3 (c : Dev nD) : (dats m 0 c).arrAt 3 (cfgs 0).N = refUpProd (m (c.tc.loc main_arg0)) (m (c.tc.loc main_arg1)) (m (c.tc.loc main_arg2)) := by
  refine (dats m 0 c).arrAt_eq_of_covers 3 _ (by decide +kernel) fun t hf y => ?_
  blk_simp; rw [after0_3]; frame_out
  pointwise [k0_pay1, refUpProd]
  exact up_3 m c t y

/-- The kernel's second result is the gated activation. -/
theorem final_4 (c : Dev nD) : (dats m 0 c).arrAt 4 (cfgs 0).N = refAct (m (c.tc.loc main_arg0)) (m (c.tc.loc main_arg1)) (m (c.tc.loc main_arg2)) := by
  refine (dats m 0 c).arrAt_eq_of_covers 4 _ (by decide +kernel) fun t hf y => ?_
  blk_simp; rw [after0_4]; frame_out
  pointwise [k0_pay2, k0_pay1, refAct]
  exact act_point (up_4 m c t y) (gate_4 m c t y)

end Cert.Kernel11Ideal.Value
-- ==== Proof.ValueFfDown.lean ====
/- The values of the feed-forward's product down (the kernel `ffn_down`), accumulated over four blocks of columns. -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel12Ideal.Value
public import proofs.«01_k».proof.Proof.Gen.Reference12Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference12Ideal.Value
open Cert.Reference12Ideal Cert.Reference12Ideal.Gen

/-- The product with `w_down`, as the reference computes it. -/
def refFfDown (a0 : FVec Ideal S4224x5632 .f32) (a1 : FVec Ideal S5632x2048 .f32) : FVec Ideal S4224x2048 .f32 :=
  Host.dotGeneral dot_S4224x5632_S5632x2048_S4224x2048_1_0_0_1_n_n none a0 a1

end Cert.Reference12Ideal.Value

namespace Cert.Kernel12Ideal.Value

open Cert.Kernel12Ideal Cert.Kernel12Ideal.Gen Cert.Reference12Ideal.Value Cert.Finite

variable (m : (ℓ : Loc nD τ sig) → Buf (Elt Ideal) ℓ)

/-- Every window's block index at every grid point. -/
theorem idx_val : ∀ t : Fin cfg0.N, win0_0.index t = ![t.val / 4, t.val % 4]
    ∧ win0_1.index t = ![t.val % 4, 0, 0, 0]
    ∧ win0_2.index t = ![t.val / 4, 0] :=
  (by decide +kernel : ∀ t : Fin grid0.N, _)

/-- What point `t` adds: the products over its block of the contracted axis. -/
def part (c : Dev nD) (t : Fin cfg0.N) (j : S1408x2048.Idx) : EReal :=
  dotNN (a := 1408) (p := 1408) (q := 2048) (iblk m c 0 t) (fun i => iblk m c 1 t (ix4 0 0 (i 0 : Fin 1408) (i 1 : Fin 2048))) (j 0 : Fin 1408) (j 1 : Fin 2048)

/-- The first point of a run stores its own part. -/
theorem acc_first (c : Dev nD) (t : Fin cfg0.N) (h0 : t.val % 4 = 0) (j : S1408x2048.Idx) :
    outsAt0 m c t.val t.isLt j = (0 : EReal) + part m c t j := by
  rw [outsAt0_A m c t h0 (by omega)]
  frame_out
  pointwise [k0_pay1]
  rfl

/-- Every other point adds its part to what the point before left. -/
theorem acc_next (c : Dev nD) (t : Fin cfg0.N) (h0 : ¬ t.val % 4 = 0) (j : S1408x2048.Idx) :
    outsAt0 m c t.val t.isLt j
      = outsAt0 m c (t.val - 1) (Nat.lt_of_le_of_lt (Nat.sub_le _ _) t.isLt) j + part m c t j := by
  rw [outsAt0_B m c t h0 (by omega)]
  frame_out
  pointwise [k0_pay2, k0_pay1]
  rfl

/-- The last point of a run leaves the sum over the run's points. -/
theorem out_last (c : Dev nD) (t : Fin cfg0.N) (h1 : t.val % 4 = 3) (j : S1408x2048.Idx) :
    outsAt0 m c t.val t.isLt j
      = ∑ s : Fin 4, part m c ⟨4 * (t.val / 4) + s.val, Pipeline.run_point_lt_of_flush t h1 s⟩ j :=
  (Pipeline.eq_sum_fin_of_reset_step_apply_of_flush (fun n h => outsAt0 m c n h) 4 (fun _ => (0 : EReal)) _
    (fun t h j => acc_first m c t h j) (fun t h j => acc_next m c t h j) t h1 j).trans (zero_add (_ : EReal))

set_option maxHeartbeats 1000000 in
/-- The kernel's result is the reference's. -/
theorem final (c : Dev nD) : (dats m 0 c).arrAt 2 (cfgs 0).N = refFfDown (m (c.tc.loc main_arg0)) (m (c.tc.loc main_arg1)) := by
  refine (dats m 0 c).arrAt_eq_of_covers 2 _ (by decide +kernel) fun t hf y => ?_
  blk_simp; rw [after0_2, out_last m c t ((flush0_2 t).mp hf)]
  pointwise [refFfDown]
  refine Fin.sum_mul_add_congr fun s k hl => ?_
  have e := idx_val ⟨_, Pipeline.run_point_lt_of_flush t ((flush0_2 t).mp hf) s⟩
  refine congrArg₂ (fun a b : EReal => a * b) ?_ ?_
  · show iblk m c 0 _ _ = _
    blk_simp [iblk, idx_val t, e]; entry_read; pointwise; blk_ext [idx_val t, e]
  · show iblk m c 1 _ _ = _
    blk_simp [iblk, idx_val t, e]; entry_read; pointwise; blk_ext [idx_val t, e]

end Cert.Kernel12Ideal.Value
-- ==== Proof.ValueOutProj.lean ====
/- The values of the projection out (the kernel `out_proj`), accumulated over four blocks of columns. -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel13Ideal.Value
public import proofs.«01_k».proof.Proof.Gen.Reference13Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference13Ideal.Value
open Cert.Reference13Ideal Cert.Reference13Ideal.Gen

/-- The projection out, as the reference computes it. -/
def refOutProj (a0 : FVec Ideal S4224x2048 .f32) (a1 : FVec Ideal S2048x2048 .f32) : FVec Ideal S4224x2048 .f32 :=
  Host.dotGeneral dot_S4224x2048_S2048x2048_S4224x2048_1_0_0_1_n_n none a0 a1

end Cert.Reference13Ideal.Value

namespace Cert.Kernel13Ideal.Value

open Cert.Kernel13Ideal Cert.Kernel13Ideal.Gen Cert.Reference13Ideal.Value Cert.Finite

variable (m : (ℓ : Loc nD τ sig) → Buf (Elt Ideal) ℓ)

/-- Every window's block index at every grid point. -/
theorem idx_val : ∀ t : Fin cfg0.N, win0_0.index t = ![t.val / 4, t.val % 4]
    ∧ win0_1.index t = ![t.val % 4, 0, 0, 0]
    ∧ win0_2.index t = ![t.val / 4, 0] :=
  (by decide +kernel : ∀ t : Fin grid0.N, _)

/-- What point `t` adds: the products over its block of the contracted axis. -/
def part (c : Dev nD) (t : Fin cfg0.N) (j : S1408x2048.Idx) : EReal :=
  dotNN (a := 512) (p := 1408) (q := 2048) (iblk m c 0 t) (fun i => iblk m c 1 t (ix4 0 0 (i 0 : Fin 512) (i 1 : Fin 2048))) (j 0 : Fin 1408) (j 1 : Fin 2048)

/-- The first point of a run stores its own part. -/
theorem acc_first (c : Dev nD) (t : Fin cfg0.N) (h0 : t.val % 4 = 0) (j : S1408x2048.Idx) :
    outsAt0 m c t.val t.isLt j = (0 : EReal) + part m c t j := by
  rw [outsAt0_A m c t h0 (by omega)]
  frame_out
  pointwise [k0_pay1]
  rfl

/-- Every other point adds its part to what the point before left. -/
theorem acc_next (c : Dev nD) (t : Fin cfg0.N) (h0 : ¬ t.val % 4 = 0) (j : S1408x2048.Idx) :
    outsAt0 m c t.val t.isLt j
      = outsAt0 m c (t.val - 1) (Nat.lt_of_le_of_lt (Nat.sub_le _ _) t.isLt) j + part m c t j := by
  rw [outsAt0_B m c t h0 (by omega)]
  frame_out
  pointwise [k0_pay2, k0_pay1]
  rfl

/-- The last point of a run leaves the sum over the run's points. -/
theorem out_last (c : Dev nD) (t : Fin cfg0.N) (h1 : t.val % 4 = 3) (j : S1408x2048.Idx) :
    outsAt0 m c t.val t.isLt j
      = ∑ s : Fin 4, part m c ⟨4 * (t.val / 4) + s.val, Pipeline.run_point_lt_of_flush t h1 s⟩ j :=
  (Pipeline.eq_sum_fin_of_reset_step_apply_of_flush (fun n h => outsAt0 m c n h) 4 (fun _ => (0 : EReal)) _
    (fun t h j => acc_first m c t h j) (fun t h j => acc_next m c t h j) t h1 j).trans (zero_add (_ : EReal))

set_option maxHeartbeats 1000000 in
/-- The kernel's result is the reference's. -/
theorem final (c : Dev nD) : (dats m 0 c).arrAt 2 (cfgs 0).N = refOutProj (m (c.tc.loc main_arg0)) (m (c.tc.loc main_arg1)) := by
  refine (dats m 0 c).arrAt_eq_of_covers 2 _ (by decide +kernel) fun t hf y => ?_
  blk_simp; rw [after0_2, out_last m c t ((flush0_2 t).mp hf)]
  pointwise [refOutProj]
  refine Fin.sum_mul_add_congr fun s k hl => ?_
  have e := idx_val ⟨_, Pipeline.run_point_lt_of_flush t ((flush0_2 t).mp hf) s⟩
  refine congrArg₂ (fun a b : EReal => a * b) ?_ ?_
  · show iblk m c 0 _ _ = _
    blk_simp [iblk, idx_val t, e]; entry_read; pointwise; blk_ext [idx_val t, e]
  · show iblk m c 1 _ _ = _
    blk_simp [iblk, idx_val t, e]; entry_read; pointwise; blk_ext [idx_val t, e]

end Cert.Kernel13Ideal.Value
-- ==== Proof.ValueAdam16.lean ====
/- The values of the optimiser step of `w_in` (the kernel `adamw_w_in`): the summed gradient, the update and the two
   new moments. -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel16Ideal.Value
public import proofs.«01_k».proof.Proof.Gen.Reference16Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference16Ideal.Value
open Cert.Reference16Ideal Cert.Reference16Ideal.Gen

/-- The summed gradient, as the reference computes it. -/
def refG (a0 a1 a2 a3 a4 : FVec Ideal S2x2048x1152 .f32) : FVec Ideal S2x2048x1152 .f32 :=
  addf a3 a4

end Cert.Reference16Ideal.Value

namespace Cert.Reference16Ideal.Value
open Cert.Reference16Ideal Cert.Reference16Ideal.Gen

/-- The update, as the reference computes it. -/
def refDelta (a0 a1 a2 a3 a4 : FVec Ideal S2x2048x1152 .f32) : FVec Ideal S2x2048x1152 .f32 :=
  mulf (broadcastInDim S2x2048x1152 ![] bcast_S_S2x2048x1152 (constant S_ .f32 0xBA83126F#32)) (addf (Host.divf (Host.divf (addf (mulf (broadcastInDim S2x2048x1152 ![] bcast_S_S2x2048x1152 (constant S_ .f32 0x3F666666#32)) a1) (mulf (broadcastInDim S2x2048x1152 ![] bcast_S_S2x2048x1152 (constant S_ .f32 0x3DCCCCCD#32)) (addf a3 a4))) (broadcastInDim S2x2048x1152 ![] bcast_S_S2x2048x1152 (constant S_ .f32 0x3F26BD02#32))) (addf (Host.sqrt (Host.divf (addf (mulf (broadcastInDim S2x2048x1152 ![] bcast_S_S2x2048x1152 (constant S_ .f32 0x3F7FBE77#32)) a2) (mulf (broadcastInDim S2x2048x1152 ![] bcast_S_S2x2048x1152 (constant S_ .f32 0x3A83126F#32)) (mulf (addf a3 a4) (addf a3 a4)))) (broadcastInDim S2x2048x1152 ![] bcast_S_S2x2048x1152 (constant S_ .f32 0x3C231ACC#32)))) (broadcastInDim S2x2048x1152 ![] bcast_S_S2x2048x1152 (constant S_ .f32 0x322BCC77#32)))) (mulf (broadcastInDim S2x2048x1152 ![] bcast_S_S2x2048x1152 (constant S_ .f32 0x3C23D70A#32)) a0))

end Cert.Reference16Ideal.Value

namespace Cert.Reference16Ideal.Value
open Cert.Reference16Ideal Cert.Reference16Ideal.Gen

/-- The new first moment, as the reference computes it. -/
def refM (a0 a1 a2 a3 a4 : FVec Ideal S2x2048x1152 .f32) : FVec Ideal S2x2048x1152 .f32 :=
  addf (mulf (broadcastInDim S2x2048x1152 ![] bcast_S_S2x2048x1152 (constant S_ .f32 0x3F666666#32)) a1) (mulf (broadcastInDim S2x2048x1152 ![] bcast_S_S2x2048x1152 (constant S_ .f32 0x3DCCCCCD#32)) (addf a3 a4))

end Cert.Reference16Ideal.Value

namespace Cert.Reference16Ideal.Value
open Cert.Reference16Ideal Cert.Reference16Ideal.Gen

/-- The new second moment, as the reference computes it. -/
def refV (a0 a1 a2 a3 a4 : FVec Ideal S2x2048x1152 .f32) : FVec Ideal S2x2048x1152 .f32 :=
  addf (mulf (broadcastInDim S2x2048x1152 ![] bcast_S_S2x2048x1152 (constant S_ .f32 0x3F7FBE77#32)) a2) (mulf (broadcastInDim S2x2048x1152 ![] bcast_S_S2x2048x1152 (constant S_ .f32 0x3A83126F#32)) (mulf (addf a3 a4) (addf a3 a4)))

end Cert.Reference16Ideal.Value

namespace Cert.Kernel16Ideal.Value

open Cert.Kernel16Ideal Cert.Kernel16Ideal.Gen Cert.Reference16Ideal.Value

variable (m : (ℓ : Loc nD τ sig) → Buf (Elt Ideal) ℓ)

/-- Every window's block index at every grid point. -/
theorem idx_val : ∀ t : Fin cfg0.N, win0_0.index t = ![t.val / 16, t.val % 16, 0]
    ∧ win0_1.index t = ![t.val / 16, t.val % 16, 0]
    ∧ win0_2.index t = ![t.val / 16, t.val % 16, 0]
    ∧ win0_3.index t = ![t.val / 16, t.val % 16, 0]
    ∧ win0_4.index t = ![t.val / 16, t.val % 16, 0]
    ∧ win0_5.index t = ![t.val / 16, t.val % 16, 0]
    ∧ win0_6.index t = ![t.val / 16, t.val % 16, 0]
    ∧ win0_7.index t = ![t.val / 16, t.val % 16, 0]
    ∧ win0_8.index t = ![t.val / 16, t.val % 16, 0] :=
  (by decide +kernel : ∀ t : Fin grid0.N, _)

/-- The block of argument 3 that point `t` reads, at the index result window 5 writes. -/
theorem rd_5_3 (c : Dev nD) (t : Fin cfg0.N) (y : S1x128x1152.Idx) :
    iblk m c 3 t y = (m (c.tc.loc main_arg3)) (((cfg0.win 5).blk t).view.emb y) := by
  blk_simp [iblk, idx_val t]; entry_read; pointwise; blk_ext [idx_val t]

/-- The block of argument 4 that point `t` reads, at the index result window 5 writes. -/
theorem rd_5_4 (c : Dev nD) (t : Fin cfg0.N) (y : S1x128x1152.Idx) :
    iblk m c 4 t y = (m (c.tc.loc main_arg4)) (((cfg0.win 5).blk t).view.emb y) := by
  blk_simp [iblk, idx_val t]; entry_read; pointwise; blk_ext [idx_val t]

/-- The block of argument 0 that point `t` reads, at the index result window 6 writes. -/
theorem rd_6_0 (c : Dev nD) (t : Fin cfg0.N) (y : S1x128x1152.Idx) :
    iblk m c 0 t y = (m (c.tc.loc main_arg0)) (((cfg0.win 6).blk t).view.emb y) := by
  blk_simp [iblk, idx_val t]; entry_read; pointwise; blk_ext [idx_val t]

/-- The block of argument 1 that point `t` reads, at the index result window 6 writes. -/
theorem rd_6_1 (c : Dev nD) (t : Fin cfg0.N) (y : S1x128x1152.Idx) :
    iblk m c 1 t y = (m (c.tc.loc main_arg1)) (((cfg0.win 6).blk t).view.emb y) := by
  blk_simp [iblk, idx_val t]; entry_read; pointwise; blk_ext [idx_val t]

/-- The block of argument 2 that point `t` reads, at the index result window 6 writes. -/
theorem rd_6_2 (c : Dev nD) (t : Fin cfg0.N) (y : S1x128x1152.Idx) :
    iblk m c 2 t y = (m (c.tc.loc main_arg2)) (((cfg0.win 6).blk t).view.emb y) := by
  blk_simp [iblk, idx_val t]; entry_read; pointwise; blk_ext [idx_val t]

/-- The block of argument 3 that point `t` reads, at the index result window 6 writes. -/
theorem rd_6_3 (c : Dev nD) (t : Fin cfg0.N) (y : S1x128x1152.Idx) :
    iblk m c 3 t y = (m (c.tc.loc main_arg3)) (((cfg0.win 6).blk t).view.emb y) := by
  blk_simp [iblk, idx_val t]; entry_read; pointwise; blk_ext [idx_val t]

/-- The block of argument 4 that point `t` reads, at the index result window 6 writes. -/
theorem rd_6_4 (c : Dev nD) (t : Fin cfg0.N) (y : S1x128x1152.Idx) :
    iblk m c 4 t y = (m (c.tc.loc main_arg4)) (((cfg0.win 6).blk t).view.emb y) := by
  blk_simp [iblk, idx_val t]; entry_read; pointwise; blk_ext [idx_val t]

/-- The block of argument 1 that point `t` reads, at the index result window 7 writes. -/
theorem rd_7_1 (c : Dev nD) (t : Fin cfg0.N) (y : S1x128x1152.Idx) :
    iblk m c 1 t y = (m (c.tc.loc main_arg1)) (((cfg0.win 7).blk t).view.emb y) := by
  blk_simp [iblk, idx_val t]; entry_read; pointwise; blk_ext [idx_val t]

/-- The block of argument 3 that point `t` reads, at the index result window 7 writes. -/
theorem rd_7_3 (c : Dev nD) (t : Fin cfg0.N) (y : S1x128x1152.Idx) :
    iblk m c 3 t y = (m (c.tc.loc main_arg3)) (((cfg0.win 7).blk t).view.emb y) := by
  blk_simp [iblk, idx_val t]; entry_read; pointwise; blk_ext [idx_val t]

/-- The block of argument 4 that point `t` reads, at the index result window 7 writes. -/
theorem rd_7_4 (c : Dev nD) (t : Fin cfg0.N) (y : S1x128x1152.Idx) :
    iblk m c 4 t y = (m (c.tc.loc main_arg4)) (((cfg0.win 7).blk t).view.emb y) := by
  blk_simp [iblk, idx_val t]; entry_read; pointwise; blk_ext [idx_val t]

/-- The block of argument 2 that point `t` reads, at the index result window 8 writes. -/
theorem rd_8_2 (c : Dev nD) (t : Fin cfg0.N) (y : S1x128x1152.Idx) :
    iblk m c 2 t y = (m (c.tc.loc main_arg2)) (((cfg0.win 8).blk t).view.emb y) := by
  blk_simp [iblk, idx_val t]; entry_read; pointwise; blk_ext [idx_val t]

/-- The block of argument 3 that point `t` reads, at the index result window 8 writes. -/
theorem rd_8_3 (c : Dev nD) (t : Fin cfg0.N) (y : S1x128x1152.Idx) :
    iblk m c 3 t y = (m (c.tc.loc main_arg3)) (((cfg0.win 8).blk t).view.emb y) := by
  blk_simp [iblk, idx_val t]; entry_read; pointwise; blk_ext [idx_val t]

/-- The block of argument 4 that point `t` reads, at the index result window 8 writes. -/
theorem rd_8_4 (c : Dev nD) (t : Fin cfg0.N) (y : S1x128x1152.Idx) :
    iblk m c 4 t y = (m (c.tc.loc main_arg4)) (((cfg0.win 8).blk t).view.emb y) := by
  blk_simp [iblk, idx_val t]; entry_read; pointwise; blk_ext [idx_val t]

/-- The kernel's summed gradient is the reference's. -/
theorem final_5 (c : Dev nD) : (dats m 0 c).arrAt 5 (cfgs 0).N = refG (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  blk_simp; rw [after0_5]; frame_out
  pointwise [k0_pay1, k0_pay5, refG]
  rw [show iblk m c 3 t y = _ from rd_5_3 m c t y, show iblk m c 4 t y = _ from rd_5_4 m c t y]

/-- The kernel's update is the reference's. -/
theorem final_6 (c : Dev nD) : (dats m 0 c).arrAt 6 (cfgs 0).N = refDelta (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  blk_simp; rw [after0_6]; frame_out
  pointwise [k0_pay2, k0_pay5, k0_pay6, k0_pay7, k0_pay8, k0_pay9, refDelta]
  rw [show iblk m c 0 t y = _ from rd_6_0 m c t y, show iblk m c 1 t y = _ from rd_6_1 m c t y, show iblk m c 2 t y = _ from rd_6_2 m c t y, show iblk m c 3 t y = _ from rd_6_3 m c t y, show iblk m c 4 t y = _ from rd_6_4 m c t y]

/-- The kernel's new first moment is the reference's. -/
theorem final_7 (c : Dev nD) : (dats m 0 c).arrAt 7 (cfgs 0).N = refM (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t hf y => ?_
  blk_simp; rw [after0_7]; frame_out
  pointwise [k0_pay3, k0_pay5, k0_pay6, refM]
  rw [show iblk m c 1 t y = _ from rd_7_1 m c t y, show iblk m c 3 t y = _ from rd_7_3 m c t y, show iblk m c 4 t y = _ from rd_7_4 m c t y]

/-- The kernel's new second moment is the reference's. -/
theorem final_8 (c : Dev nD) : (dats m 0 c).arrAt 8 (cfgs 0).N = refV (m (c.tc.loc main_arg0)) (m (c.tc.loc main_arg1)) (m (c.tc.loc main_arg2)) (m (c.tc.loc main_arg3)) (m (c.tc.loc main_arg4)) := by
  refine (dats m 0 c).arrAt_eq_of_covers 8 _ (by decide +kernel) fun t hf y => ?_
  blk_simp; rw [after0_8]; frame_out
  pointwise [k0_pay4, k0_pay5, k0_pay7, refV]
  rw [show iblk m c 2 t y = _ from rd_8_2 m c t y, show iblk m c 3 t y = _ from rd_8_3 m c t y, show iblk m c 4 t y = _ from rd_8_4 m c t y]

end Cert.Kernel16Ideal.Value
-- ==== Proof.ValueAdam17.lean ====
/- The values of the optimiser step of `w_out` (the kernel `adamw_w_out`): the summed gradient, the update and the two
   new moments. -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel17Ideal.Value
public import proofs.«01_k».proof.Proof.Gen.Reference17Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference17Ideal.Value
open Cert.Reference17Ideal Cert.Reference17Ideal.Gen

/-- The summed gradient, as the reference computes it. -/
def refG (a0 a1 a2 a3 a4 : FVec Ideal S2x512x2048 .f32) : FVec Ideal S2x512x2048 .f32 :=
  addf a3 a4

end Cert.Reference17Ideal.Value

namespace Cert.Reference17Ideal.Value
open Cert.Reference17Ideal Cert.Reference17Ideal.Gen

/-- The update, as the reference computes it. -/
def refDelta (a0 a1 a2 a3 a4 : FVec Ideal S2x512x2048 .f32) : FVec Ideal S2x512x2048 .f32 :=
  mulf (broadcastInDim S2x512x2048 ![] bcast_S_S2x512x2048 (constant S_ .f32 0xBA83126F#32)) (addf (Host.divf (Host.divf (addf (mulf (broadcastInDim S2x512x2048 ![] bcast_S_S2x512x2048 (constant S_ .f32 0x3F666666#32)) a1) (mulf (broadcastInDim S2x512x2048 ![] bcast_S_S2x512x2048 (constant S_ .f32 0x3DCCCCCD#32)) (addf a3 a4))) (broadcastInDim S2x512x2048 ![] bcast_S_S2x512x2048 (constant S_ .f32 0x3F26BD02#32))) (addf (Host.sqrt (Host.divf (addf (mulf (broadcastInDim S2x512x2048 ![] bcast_S_S2x512x2048 (constant S_ .f32 0x3F7FBE77#32)) a2) (mulf (broadcastInDim S2x512x2048 ![] bcast_S_S2x512x2048 (constant S_ .f32 0x3A83126F#32)) (mulf (addf a3 a4) (addf a3 a4)))) (broadcastInDim S2x512x2048 ![] bcast_S_S2x512x2048 (constant S_ .f32 0x3C231ACC#32)))) (broadcastInDim S2x512x2048 ![] bcast_S_S2x512x2048 (constant S_ .f32 0x322BCC77#32)))) (mulf (broadcastInDim S2x512x2048 ![] bcast_S_S2x512x2048 (constant S_ .f32 0x3C23D70A#32)) a0))

end Cert.Reference17Ideal.Value

namespace Cert.Reference17Ideal.Value
open Cert.Reference17Ideal Cert.Reference17Ideal.Gen

/-- The new first moment, as the reference computes it. -/
def refM (a0 a1 a2 a3 a4 : FVec Ideal S2x512x2048 .f32) : FVec Ideal S2x512x2048 .f32 :=
  addf (mulf (broadcastInDim S2x512x2048 ![] bcast_S_S2x512x2048 (constant S_ .f32 0x3F666666#32)) a1) (mulf (broadcastInDim S2x512x2048 ![] bcast_S_S2x512x2048 (constant S_ .f32 0x3DCCCCCD#32)) (addf a3 a4))

end Cert.Reference17Ideal.Value

namespace Cert.Reference17Ideal.Value
open Cert.Reference17Ideal Cert.Reference17Ideal.Gen

/-- The new second moment, as the reference computes it. -/
def refV (a0 a1 a2 a3 a4 : FVec Ideal S2x512x2048 .f32) : FVec Ideal S2x512x2048 .f32 :=
  addf (mulf (broadcastInDim S2x512x2048 ![] bcast_S_S2x512x2048 (constant S_ .f32 0x3F7FBE77#32)) a2) (mulf (broadcastInDim S2x512x2048 ![] bcast_S_S2x512x2048 (constant S_ .f32 0x3A83126F#32)) (mulf (addf a3 a4) (addf a3 a4)))

end Cert.Reference17Ideal.Value

namespace Cert.Kernel17Ideal.Value

open Cert.Kernel17Ideal Cert.Kernel17Ideal.Gen Cert.Reference17Ideal.Value

variable (m : (ℓ : Loc nD τ sig) → Buf (Elt Ideal) ℓ)

/-- Every window's block index at every grid point. -/
theorem idx_val : ∀ t : Fin cfg0.N, win0_0.index t = ![t.val / 4, t.val % 4, 0]
    ∧ win0_1.index t = ![t.val / 4, t.val % 4, 0]
    ∧ win0_2.index t = ![t.val / 4, t.val % 4, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0] :=
  (by decide +kernel : ∀ t : Fin grid0.N, _)

/-- The block of argument 3 that point `t` reads, at the index result window 5 writes. -/
theorem rd_5_3 (c : Dev nD) (t : Fin cfg0.N) (y : S1x128x2048.Idx) :
    iblk m c 3 t y = (m (c.tc.loc main_arg3)) (((cfg0.win 5).blk t).view.emb y) := by
  blk_simp [iblk, idx_val t]; entry_read; pointwise; blk_ext [idx_val t]

/-- The block of argument 4 that point `t` reads, at the index result window 5 writes. -/
theorem rd_5_4 (c : Dev nD) (t : Fin cfg0.N) (y : S1x128x2048.Idx) :
    iblk m c 4 t y = (m (c.tc.loc main_arg4)) (((cfg0.win 5).blk t).view.emb y) := by
  blk_simp [iblk, idx_val t]; entry_read; pointwise; blk_ext [idx_val t]

/-- The block of argument 0 that point `t` reads, at the index result window 6 writes. -/
theorem rd_6_0 (c : Dev nD) (t : Fin cfg0.N) (y : S1x128x2048.Idx) :
    iblk m c 0 t y = (m (c.tc.loc main_arg0)) (((cfg0.win 6).blk t).view.emb y) := by
  blk_simp [iblk, idx_val t]; entry_read; pointwise; blk_ext [idx_val t]

/-- The block of argument 1 that point `t` reads, at the index result window 6 writes. -/
theorem rd_6_1 (c : Dev nD) (t : Fin cfg0.N) (y : S1x128x2048.Idx) :
    iblk m c 1 t y = (m (c.tc.loc main_arg1)) (((cfg0.win 6).blk t).view.emb y) := by
  blk_simp [iblk, idx_val t]; entry_read; pointwise; blk_ext [idx_val t]

/-- The block of argument 2 that point `t` reads, at the index result window 6 writes. -/
theorem rd_6_2 (c : Dev nD) (t : Fin cfg0.N) (y : S1x128x2048.Idx) :
    iblk m c 2 t y = (m (c.tc.loc main_arg2)) (((cfg0.win 6).blk t).view.emb y) := by
  blk_simp [iblk, idx_val t]; entry_read; pointwise; blk_ext [idx_val t]

/-- The block of argument 3 that point `t` reads, at the index result window 6 writes. -/
theorem rd_6_3 (c : Dev nD) (t : Fin cfg0.N) (y : S1x128x2048.Idx) :
    iblk m c 3 t y = (m (c.tc.loc main_arg3)) (((cfg0.win 6).blk t).view.emb y) := by
  blk_simp [iblk, idx_val t]; entry_read; pointwise; blk_ext [idx_val t]

/-- The block of argument 4 that point `t` reads, at the index result window 6 writes. -/
theorem rd_6_4 (c : Dev nD) (t : Fin cfg0.N) (y : S1x128x2048.Idx) :
    iblk m c 4 t y = (m (c.tc.loc main_arg4)) (((cfg0.win 6).blk t).view.emb y) := by
  blk_simp [iblk, idx_val t]; entry_read; pointwise; blk_ext [idx_val t]

/-- The block of argument 1 that point `t` reads, at the index result window 7 writes. -/
theorem rd_7_1 (c : Dev nD) (t : Fin cfg0.N) (y : S1x128x2048.Idx) :
    iblk m c 1 t y = (m (c.tc.loc main_arg1)) (((cfg0.win 7).blk t).view.emb y) := by
  blk_simp [iblk, idx_val t]; entry_read; pointwise; blk_ext [idx_val t]

/-- The block of argument 3 that point `t` reads, at the index result window 7 writes. -/
theorem rd_7_3 (c : Dev nD) (t : Fin cfg0.N) (y : S1x128x2048.Idx) :
    iblk m c 3 t y = (m (c.tc.loc main_arg3)) (((cfg0.win 7).blk t).view.emb y) := by
  blk_simp [iblk, idx_val t]; entry_read; pointwise; blk_ext [idx_val t]

/-- The block of argument 4 that point `t` reads, at the index result window 7 writes. -/
theorem rd_7_4 (c : Dev nD) (t : Fin cfg0.N) (y : S1x128x2048.Idx) :
    iblk m c 4 t y = (m (c.tc.loc main_arg4)) (((cfg0.win 7).blk t).view.emb y) := by
  blk_simp [iblk, idx_val t]; entry_read; pointwise; blk_ext [idx_val t]

/-- The block of argument 2 that point `t` reads, at the index result window 8 writes. -/
theorem rd_8_2 (c : Dev nD) (t : Fin cfg0.N) (y : S1x128x2048.Idx) :
    iblk m c 2 t y = (m (c.tc.loc main_arg2)) (((cfg0.win 8).blk t).view.emb y) := by
  blk_simp [iblk, idx_val t]; entry_read; pointwise; blk_ext [idx_val t]

/-- The block of argument 3 that point `t` reads, at the index result window 8 writes. -/
theorem rd_8_3 (c : Dev nD) (t : Fin cfg0.N) (y : S1x128x2048.Idx) :
    iblk m c 3 t y = (m (c.tc.loc main_arg3)) (((cfg0.win 8).blk t).view.emb y) := by
  blk_simp [iblk, idx_val t]; entry_read; pointwise; blk_ext [idx_val t]

/-- The block of argument 4 that point `t` reads, at the index result window 8 writes. -/
theorem rd_8_4 (c : Dev nD) (t : Fin cfg0.N) (y : S1x128x2048.Idx) :
    iblk m c 4 t y = (m (c.tc.loc main_arg4)) (((cfg0.win 8).blk t).view.emb y) := by
  blk_simp [iblk, idx_val t]; entry_read; pointwise; blk_ext [idx_val t]

/-- The kernel's summed gradient is the reference's. -/
theorem final_5 (c : Dev nD) : (dats m 0 c).arrAt 5 (cfgs 0).N = refG (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  blk_simp; rw [after0_5]; frame_out
  pointwise [k0_pay1, k0_pay5, refG]
  rw [show iblk m c 3 t y = _ from rd_5_3 m c t y, show iblk m c 4 t y = _ from rd_5_4 m c t y]

/-- The kernel's update is the reference's. -/
theorem final_6 (c : Dev nD) : (dats m 0 c).arrAt 6 (cfgs 0).N = refDelta (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  blk_simp; rw [after0_6]; frame_out
  pointwise [k0_pay2, k0_pay5, k0_pay6, k0_pay7, k0_pay8, k0_pay9, refDelta]
  rw [show iblk m c 0 t y = _ from rd_6_0 m c t y, show iblk m c 1 t y = _ from rd_6_1 m c t y, show iblk m c 2 t y = _ from rd_6_2 m c t y, show iblk m c 3 t y = _ from rd_6_3 m c t y, show iblk m c 4 t y = _ from rd_6_4 m c t y]

/-- The kernel's new first moment is the reference's. -/
theorem final_7 (c : Dev nD) : (dats m 0 c).arrAt 7 (cfgs 0).N = refM (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t hf y => ?_
  blk_simp; rw [after0_7]; frame_out
  pointwise [k0_pay3, k0_pay5, k0_pay6, refM]
  rw [show iblk m c 1 t y = _ from rd_7_1 m c t y, show iblk m c 3 t y = _ from rd_7_3 m c t y, show iblk m c 4 t y = _ from rd_7_4 m c t y]

/-- The kernel's new second moment is the reference's. -/
theorem final_8 (c : Dev nD) : (dats m 0 c).arrAt 8 (cfgs 0).N = refV (m (c.tc.loc main_arg0)) (m (c.tc.loc main_arg1)) (m (c.tc.loc main_arg2)) (m (c.tc.loc main_arg3)) (m (c.tc.loc main_arg4)) := by
  refine (dats m 0 c).arrAt_eq_of_covers 8 _ (by decide +kernel) fun t hf y => ?_
  blk_simp; rw [after0_8]; frame_out
  pointwise [k0_pay4, k0_pay5, k0_pay7, refV]
  rw [show iblk m c 2 t y = _ from rd_8_2 m c t y, show iblk m c 3 t y = _ from rd_8_3 m c t y, show iblk m c 4 t y = _ from rd_8_4 m c t y]

end Cert.Kernel17Ideal.Value
-- ==== Proof.ValueAdam18.lean ====
/- The values of the optimiser step of `w_gate` (the kernel `adamw_w_gate`): the summed gradient, the update and the two
   new moments. -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel18Ideal.Value
public import proofs.«01_k».proof.Proof.Gen.Reference18Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference18Ideal.Value
open Cert.Reference18Ideal Cert.Reference18Ideal.Gen

/-- The summed gradient, as the reference computes it. -/
def refG (a0 a1 a2 a3 a4 : FVec Ideal S2x2048x1408 .f32) : FVec Ideal S2x2048x1408 .f32 :=
  addf a3 a4

end Cert.Reference18Ideal.Value

namespace Cert.Reference18Ideal.Value
open Cert.Reference18Ideal Cert.Reference18Ideal.Gen

/-- The update, as the reference computes it. -/
def refDelta (a0 a1 a2 a3 a4 : FVec Ideal S2x2048x1408 .f32) : FVec Ideal S2x2048x1408 .f32 :=
  mulf (broadcastInDim S2x2048x1408 ![] bcast_S_S2x2048x1408 (constant S_ .f32 0xBA83126F#32)) (addf (Host.divf (Host.divf (addf (mulf (broadcastInDim S2x2048x1408 ![] bcast_S_S2x2048x1408 (constant S_ .f32 0x3F666666#32)) a1) (mulf (broadcastInDim S2x2048x1408 ![] bcast_S_S2x2048x1408 (constant S_ .f32 0x3DCCCCCD#32)) (addf a3 a4))) (broadcastInDim S2x2048x1408 ![] bcast_S_S2x2048x1408 (constant S_ .f32 0x3F26BD02#32))) (addf (Host.sqrt (Host.divf (addf (mulf (broadcastInDim S2x2048x1408 ![] bcast_S_S2x2048x1408 (constant S_ .f32 0x3F7FBE77#32)) a2) (mulf (broadcastInDim S2x2048x1408 ![] bcast_S_S2x2048x1408 (constant S_ .f32 0x3A83126F#32)) (mulf (addf a3 a4) (addf a3 a4)))) (broadcastInDim S2x2048x1408 ![] bcast_S_S2x2048x1408 (constant S_ .f32 0x3C231ACC#32)))) (broadcastInDim S2x2048x1408 ![] bcast_S_S2x2048x1408 (constant S_ .f32 0x322BCC77#32)))) (mulf (broadcastInDim S2x2048x1408 ![] bcast_S_S2x2048x1408 (constant S_ .f32 0x3C23D70A#32)) a0))

end Cert.Reference18Ideal.Value

namespace Cert.Reference18Ideal.Value
open Cert.Reference18Ideal Cert.Reference18Ideal.Gen

/-- The new first moment, as the reference computes it. -/
def refM (a0 a1 a2 a3 a4 : FVec Ideal S2x2048x1408 .f32) : FVec Ideal S2x2048x1408 .f32 :=
  addf (mulf (broadcastInDim S2x2048x1408 ![] bcast_S_S2x2048x1408 (constant S_ .f32 0x3F666666#32)) a1) (mulf (broadcastInDim S2x2048x1408 ![] bcast_S_S2x2048x1408 (constant S_ .f32 0x3DCCCCCD#32)) (addf a3 a4))

end Cert.Reference18Ideal.Value

namespace Cert.Reference18Ideal.Value
open Cert.Reference18Ideal Cert.Reference18Ideal.Gen

/-- The new second moment, as the reference computes it. -/
def refV (a0 a1 a2 a3 a4 : FVec Ideal S2x2048x1408 .f32) : FVec Ideal S2x2048x1408 .f32 :=
  addf (mulf (broadcastInDim S2x2048x1408 ![] bcast_S_S2x2048x1408 (constant S_ .f32 0x3F7FBE77#32)) a2) (mulf (broadcastInDim S2x2048x1408 ![] bcast_S_S2x2048x1408 (constant S_ .f32 0x3A83126F#32)) (mulf (addf a3 a4) (addf a3 a4)))

end Cert.Reference18Ideal.Value

namespace Cert.Kernel18Ideal.Value

open Cert.Kernel18Ideal Cert.Kernel18Ideal.Gen Cert.Reference18Ideal.Value

variable (m : (ℓ : Loc nD τ sig) → Buf (Elt Ideal) ℓ)

/-- Every window's block index at every grid point. -/
theorem idx_val : ∀ t : Fin cfg0.N, win0_0.index t = ![t.val / 16, t.val % 16, 0]
    ∧ win0_1.index t = ![t.val / 16, t.val % 16, 0]
    ∧ win0_2.index t = ![t.val / 16, t.val % 16, 0]
    ∧ win0_3.index t = ![t.val / 16, t.val % 16, 0]
    ∧ win0_4.index t = ![t.val / 16, t.val % 16, 0]
    ∧ win0_5.index t = ![t.val / 16, t.val % 16, 0]
    ∧ win0_6.index t = ![t.val / 16, t.val % 16, 0]
    ∧ win0_7.index t = ![t.val / 16, t.val % 16, 0]
    ∧ win0_8.index t = ![t.val / 16, t.val % 16, 0] :=
  (by decide +kernel : ∀ t : Fin grid0.N, _)

/-- The block of argument 3 that point `t` reads, at the index result window 5 writes. -/
theorem rd_5_3 (c : Dev nD) (t : Fin cfg0.N) (y : S1x128x1408.Idx) :
    iblk m c 3 t y = (m (c.tc.loc main_arg3)) (((cfg0.win 5).blk t).view.emb y) := by
  blk_simp [iblk, idx_val t]; entry_read; pointwise; blk_ext [idx_val t]

/-- The block of argument 4 that point `t` reads, at the index result window 5 writes. -/
theorem rd_5_4 (c : Dev nD) (t : Fin cfg0.N) (y : S1x128x1408.Idx) :
    iblk m c 4 t y = (m (c.tc.loc main_arg4)) (((cfg0.win 5).blk t).view.emb y) := by
  blk_simp [iblk, idx_val t]; entry_read; pointwise; blk_ext [idx_val t]

/-- The block of argument 0 that point `t` reads, at the index result window 6 writes. -/
theorem rd_6_0 (c : Dev nD) (t : Fin cfg0.N) (y : S1x128x1408.Idx) :
    iblk m c 0 t y = (m (c.tc.loc main_arg0)) (((cfg0.win 6).blk t).view.emb y) := by
  blk_simp [iblk, idx_val t]; entry_read; pointwise; blk_ext [idx_val t]

/-- The block of argument 1 that point `t` reads, at the index result window 6 writes. -/
theorem rd_6_1 (c : Dev nD) (t : Fin cfg0.N) (y : S1x128x1408.Idx) :
    iblk m c 1 t y = (m (c.tc.loc main_arg1)) (((cfg0.win 6).blk t).view.emb y) := by
  blk_simp [iblk, idx_val t]; entry_read; pointwise; blk_ext [idx_val t]

/-- The block of argument 2 that point `t` reads, at the index result window 6 writes. -/
theorem rd_6_2 (c : Dev nD) (t : Fin cfg0.N) (y : S1x128x1408.Idx) :
    iblk m c 2 t y = (m (c.tc.loc main_arg2)) (((cfg0.win 6).blk t).view.emb y) := by
  blk_simp [iblk, idx_val t]; entry_read; pointwise; blk_ext [idx_val t]

/-- The block of argument 3 that point `t` reads, at the index result window 6 writes. -/
theorem rd_6_3 (c : Dev nD) (t : Fin cfg0.N) (y : S1x128x1408.Idx) :
    iblk m c 3 t y = (m (c.tc.loc main_arg3)) (((cfg0.win 6).blk t).view.emb y) := by
  blk_simp [iblk, idx_val t]; entry_read; pointwise; blk_ext [idx_val t]

/-- The block of argument 4 that point `t` reads, at the index result window 6 writes. -/
theorem rd_6_4 (c : Dev nD) (t : Fin cfg0.N) (y : S1x128x1408.Idx) :
    iblk m c 4 t y = (m (c.tc.loc main_arg4)) (((cfg0.win 6).blk t).view.emb y) := by
  blk_simp [iblk, idx_val t]; entry_read; pointwise; blk_ext [idx_val t]

/-- The block of argument 1 that point `t` reads, at the index result window 7 writes. -/
theorem rd_7_1 (c : Dev nD) (t : Fin cfg0.N) (y : S1x128x1408.Idx) :
    iblk m c 1 t y = (m (c.tc.loc main_arg1)) (((cfg0.win 7).blk t).view.emb y) := by
  blk_simp [iblk, idx_val t]; entry_read; pointwise; blk_ext [idx_val t]

/-- The block of argument 3 that point `t` reads, at the index result window 7 writes. -/
theorem rd_7_3 (c : Dev nD) (t : Fin cfg0.N) (y : S1x128x1408.Idx) :
    iblk m c 3 t y = (m (c.tc.loc main_arg3)) (((cfg0.win 7).blk t).view.emb y) := by
  blk_simp [iblk, idx_val t]; entry_read; pointwise; blk_ext [idx_val t]

/-- The block of argument 4 that point `t` reads, at the index result window 7 writes. -/
theorem rd_7_4 (c : Dev nD) (t : Fin cfg0.N) (y : S1x128x1408.Idx) :
    iblk m c 4 t y = (m (c.tc.loc main_arg4)) (((cfg0.win 7).blk t).view.emb y) := by
  blk_simp [iblk, idx_val t]; entry_read; pointwise; blk_ext [idx_val t]

/-- The block of argument 2 that point `t` reads, at the index result window 8 writes. -/
theorem rd_8_2 (c : Dev nD) (t : Fin cfg0.N) (y : S1x128x1408.Idx) :
    iblk m c 2 t y = (m (c.tc.loc main_arg2)) (((cfg0.win 8).blk t).view.emb y) := by
  blk_simp [iblk, idx_val t]; entry_read; pointwise; blk_ext [idx_val t]

/-- The block of argument 3 that point `t` reads, at the index result window 8 writes. -/
theorem rd_8_3 (c : Dev nD) (t : Fin cfg0.N) (y : S1x128x1408.Idx) :
    iblk m c 3 t y = (m (c.tc.loc main_arg3)) (((cfg0.win 8).blk t).view.emb y) := by
  blk_simp [iblk, idx_val t]; entry_read; pointwise; blk_ext [idx_val t]

/-- The block of argument 4 that point `t` reads, at the index result window 8 writes. -/
theorem rd_8_4 (c : Dev nD) (t : Fin cfg0.N) (y : S1x128x1408.Idx) :
    iblk m c 4 t y = (m (c.tc.loc main_arg4)) (((cfg0.win 8).blk t).view.emb y) := by
  blk_simp [iblk, idx_val t]; entry_read; pointwise; blk_ext [idx_val t]

/-- The kernel's summed gradient is the reference's. -/
theorem final_5 (c : Dev nD) : (dats m 0 c).arrAt 5 (cfgs 0).N = refG (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  blk_simp; rw [after0_5]; frame_out
  pointwise [k0_pay1, k0_pay5, refG]
  rw [show iblk m c 3 t y = _ from rd_5_3 m c t y, show iblk m c 4 t y = _ from rd_5_4 m c t y]

/-- The kernel's update is the reference's. -/
theorem final_6 (c : Dev nD) : (dats m 0 c).arrAt 6 (cfgs 0).N = refDelta (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  blk_simp; rw [after0_6]; frame_out
  pointwise [k0_pay2, k0_pay5, k0_pay6, k0_pay7, k0_pay8, k0_pay9, refDelta]
  rw [show iblk m c 0 t y = _ from rd_6_0 m c t y, show iblk m c 1 t y = _ from rd_6_1 m c t y, show iblk m c 2 t y = _ from rd_6_2 m c t y, show iblk m c 3 t y = _ from rd_6_3 m c t y, show iblk m c 4 t y = _ from rd_6_4 m c t y]

/-- The kernel's new first moment is the reference's. -/
theorem final_7 (c : Dev nD) : (dats m 0 c).arrAt 7 (cfgs 0).N = refM (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t hf y => ?_
  blk_simp; rw [after0_7]; frame_out
  pointwise [k0_pay3, k0_pay5, k0_pay6, refM]
  rw [show iblk m c 1 t y = _ from rd_7_1 m c t y, show iblk m c 3 t y = _ from rd_7_3 m c t y, show iblk m c 4 t y = _ from rd_7_4 m c t y]

/-- The kernel's new second moment is the reference's. -/
theorem final_8 (c : Dev nD) : (dats m 0 c).arrAt 8 (cfgs 0).N = refV (m (c.tc.loc main_arg0)) (m (c.tc.loc main_arg1)) (m (c.tc.loc main_arg2)) (m (c.tc.loc main_arg3)) (m (c.tc.loc main_arg4)) := by
  refine (dats m 0 c).arrAt_eq_of_covers 8 _ (by decide +kernel) fun t hf y => ?_
  blk_simp; rw [after0_8]; frame_out
  pointwise [k0_pay4, k0_pay5, k0_pay7, refV]
  rw [show iblk m c 2 t y = _ from rd_8_2 m c t y, show iblk m c 3 t y = _ from rd_8_3 m c t y, show iblk m c 4 t y = _ from rd_8_4 m c t y]

end Cert.Kernel18Ideal.Value
-- ==== Proof.ValueAdam19.lean ====
/- The values of the optimiser step of `w_down` (the kernel `adamw_w_down`): the summed gradient, the update and the two
   new moments. -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel19Ideal.Value
public import proofs.«01_k».proof.Proof.Gen.Reference19Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference19Ideal.Value
open Cert.Reference19Ideal Cert.Reference19Ideal.Gen

/-- The summed gradient, as the reference computes it. -/
def refG (a0 a1 a2 a3 a4 : FVec Ideal S2x1408x2048 .f32) : FVec Ideal S2x1408x2048 .f32 :=
  addf a3 a4

end Cert.Reference19Ideal.Value

namespace Cert.Reference19Ideal.Value
open Cert.Reference19Ideal Cert.Reference19Ideal.Gen

/-- The update, as the reference computes it. -/
def refDelta (a0 a1 a2 a3 a4 : FVec Ideal S2x1408x2048 .f32) : FVec Ideal S2x1408x2048 .f32 :=
  mulf (broadcastInDim S2x1408x2048 ![] bcast_S_S2x1408x2048 (constant S_ .f32 0xBA83126F#32)) (addf (Host.divf (Host.divf (addf (mulf (broadcastInDim S2x1408x2048 ![] bcast_S_S2x1408x2048 (constant S_ .f32 0x3F666666#32)) a1) (mulf (broadcastInDim S2x1408x2048 ![] bcast_S_S2x1408x2048 (constant S_ .f32 0x3DCCCCCD#32)) (addf a3 a4))) (broadcastInDim S2x1408x2048 ![] bcast_S_S2x1408x2048 (constant S_ .f32 0x3F26BD02#32))) (addf (Host.sqrt (Host.divf (addf (mulf (broadcastInDim S2x1408x2048 ![] bcast_S_S2x1408x2048 (constant S_ .f32 0x3F7FBE77#32)) a2) (mulf (broadcastInDim S2x1408x2048 ![] bcast_S_S2x1408x2048 (constant S_ .f32 0x3A83126F#32)) (mulf (addf a3 a4) (addf a3 a4)))) (broadcastInDim S2x1408x2048 ![] bcast_S_S2x1408x2048 (constant S_ .f32 0x3C231ACC#32)))) (broadcastInDim S2x1408x2048 ![] bcast_S_S2x1408x2048 (constant S_ .f32 0x322BCC77#32)))) (mulf (broadcastInDim S2x1408x2048 ![] bcast_S_S2x1408x2048 (constant S_ .f32 0x3C23D70A#32)) a0))

end Cert.Reference19Ideal.Value

namespace Cert.Reference19Ideal.Value
open Cert.Reference19Ideal Cert.Reference19Ideal.Gen

/-- The new first moment, as the reference computes it. -/
def refM (a0 a1 a2 a3 a4 : FVec Ideal S2x1408x2048 .f32) : FVec Ideal S2x1408x2048 .f32 :=
  addf (mulf (broadcastInDim S2x1408x2048 ![] bcast_S_S2x1408x2048 (constant S_ .f32 0x3F666666#32)) a1) (mulf (broadcastInDim S2x1408x2048 ![] bcast_S_S2x1408x2048 (constant S_ .f32 0x3DCCCCCD#32)) (addf a3 a4))

end Cert.Reference19Ideal.Value

namespace Cert.Reference19Ideal.Value
open Cert.Reference19Ideal Cert.Reference19Ideal.Gen

/-- The new second moment, as the reference computes it. -/
def refV (a0 a1 a2 a3 a4 : FVec Ideal S2x1408x2048 .f32) : FVec Ideal S2x1408x2048 .f32 :=
  addf (mulf (broadcastInDim S2x1408x2048 ![] bcast_S_S2x1408x2048 (constant S_ .f32 0x3F7FBE77#32)) a2) (mulf (broadcastInDim S2x1408x2048 ![] bcast_S_S2x1408x2048 (constant S_ .f32 0x3A83126F#32)) (mulf (addf a3 a4) (addf a3 a4)))

end Cert.Reference19Ideal.Value

namespace Cert.Kernel19Ideal.Value

open Cert.Kernel19Ideal Cert.Kernel19Ideal.Gen Cert.Reference19Ideal.Value

variable (m : (ℓ : Loc nD τ sig) → Buf (Elt Ideal) ℓ)

/-- Every window's block index at every grid point. -/
theorem idx_val : ∀ t : Fin cfg0.N, win0_0.index t = ![t.val / 11, t.val % 11, 0]
    ∧ win0_1.index t = ![t.val / 11, t.val % 11, 0]
    ∧ win0_2.index t = ![t.val / 11, t.val % 11, 0]
    ∧ win0_3.index t = ![t.val / 11, t.val % 11, 0]
    ∧ win0_4.index t = ![t.val / 11, t.val % 11, 0]
    ∧ win0_5.index t = ![t.val / 11, t.val % 11, 0]
    ∧ win0_6.index t = ![t.val / 11, t.val % 11, 0]
    ∧ win0_7.index t = ![t.val / 11, t.val % 11, 0]
    ∧ win0_8.index t = ![t.val / 11, t.val % 11, 0] :=
  (by decide +kernel : ∀ t : Fin grid0.N, _)

/-- The block of argument 3 that point `t` reads, at the index result window 5 writes. -/
theorem rd_5_3 (c : Dev nD) (t : Fin cfg0.N) (y : S1x128x2048.Idx) :
    iblk m c 3 t y = (m (c.tc.loc main_arg3)) (((cfg0.win 5).blk t).view.emb y) := by
  blk_simp [iblk, idx_val t]; entry_read; pointwise; blk_ext [idx_val t]

/-- The block of argument 4 that point `t` reads, at the index result window 5 writes. -/
theorem rd_5_4 (c : Dev nD) (t : Fin cfg0.N) (y : S1x128x2048.Idx) :
    iblk m c 4 t y = (m (c.tc.loc main_arg4)) (((cfg0.win 5).blk t).view.emb y) := by
  blk_simp [iblk, idx_val t]; entry_read; pointwise; blk_ext [idx_val t]

/-- The block of argument 0 that point `t` reads, at the index result window 6 writes. -/
theorem rd_6_0 (c : Dev nD) (t : Fin cfg0.N) (y : S1x128x2048.Idx) :
    iblk m c 0 t y = (m (c.tc.loc main_arg0)) (((cfg0.win 6).blk t).view.emb y) := by
  blk_simp [iblk, idx_val t]; entry_read; pointwise; blk_ext [idx_val t]

/-- The block of argument 1 that point `t` reads, at the index result window 6 writes. -/
theorem rd_6_1 (c : Dev nD) (t : Fin cfg0.N) (y : S1x128x2048.Idx) :
    iblk m c 1 t y = (m (c.tc.loc main_arg1)) (((cfg0.win 6).blk t).view.emb y) := by
  blk_simp [iblk, idx_val t]; entry_read; pointwise; blk_ext [idx_val t]

/-- The block of argument 2 that point `t` reads, at the index result window 6 writes. -/
theorem rd_6_2 (c : Dev nD) (t : Fin cfg0.N) (y : S1x128x2048.Idx) :
    iblk m c 2 t y = (m (c.tc.loc main_arg2)) (((cfg0.win 6).blk t).view.emb y) := by
  blk_simp [iblk, idx_val t]; entry_read; pointwise; blk_ext [idx_val t]

/-- The block of argument 3 that point `t` reads, at the index result window 6 writes. -/
theorem rd_6_3 (c : Dev nD) (t : Fin cfg0.N) (y : S1x128x2048.Idx) :
    iblk m c 3 t y = (m (c.tc.loc main_arg3)) (((cfg0.win 6).blk t).view.emb y) := by
  blk_simp [iblk, idx_val t]; entry_read; pointwise; blk_ext [idx_val t]

/-- The block of argument 4 that point `t` reads, at the index result window 6 writes. -/
theorem rd_6_4 (c : Dev nD) (t : Fin cfg0.N) (y : S1x128x2048.Idx) :
    iblk m c 4 t y = (m (c.tc.loc main_arg4)) (((cfg0.win 6).blk t).view.emb y) := by
  blk_simp [iblk, idx_val t]; entry_read; pointwise; blk_ext [idx_val t]

/-- The block of argument 1 that point `t` reads, at the index result window 7 writes. -/
theorem rd_7_1 (c : Dev nD) (t : Fin cfg0.N) (y : S1x128x2048.Idx) :
    iblk m c 1 t y = (m (c.tc.loc main_arg1)) (((cfg0.win 7).blk t).view.emb y) := by
  blk_simp [iblk, idx_val t]; entry_read; pointwise; blk_ext [idx_val t]

/-- The block of argument 3 that point `t` reads, at the index result window 7 writes. -/
theorem rd_7_3 (c : Dev nD) (t : Fin cfg0.N) (y : S1x128x2048.Idx) :
    iblk m c 3 t y = (m (c.tc.loc main_arg3)) (((cfg0.win 7).blk t).view.emb y) := by
  blk_simp [iblk, idx_val t]; entry_read; pointwise; blk_ext [idx_val t]

/-- The block of argument 4 that point `t` reads, at the index result window 7 writes. -/
theorem rd_7_4 (c : Dev nD) (t : Fin cfg0.N) (y : S1x128x2048.Idx) :
    iblk m c 4 t y = (m (c.tc.loc main_arg4)) (((cfg0.win 7).blk t).view.emb y) := by
  blk_simp [iblk, idx_val t]; entry_read; pointwise; blk_ext [idx_val t]

/-- The block of argument 2 that point `t` reads, at the index result window 8 writes. -/
theorem rd_8_2 (c : Dev nD) (t : Fin cfg0.N) (y : S1x128x2048.Idx) :
    iblk m c 2 t y = (m (c.tc.loc main_arg2)) (((cfg0.win 8).blk t).view.emb y) := by
  blk_simp [iblk, idx_val t]; entry_read; pointwise; blk_ext [idx_val t]

/-- The block of argument 3 that point `t` reads, at the index result window 8 writes. -/
theorem rd_8_3 (c : Dev nD) (t : Fin cfg0.N) (y : S1x128x2048.Idx) :
    iblk m c 3 t y = (m (c.tc.loc main_arg3)) (((cfg0.win 8).blk t).view.emb y) := by
  blk_simp [iblk, idx_val t]; entry_read; pointwise; blk_ext [idx_val t]

/-- The block of argument 4 that point `t` reads, at the index result window 8 writes. -/
theorem rd_8_4 (c : Dev nD) (t : Fin cfg0.N) (y : S1x128x2048.Idx) :
    iblk m c 4 t y = (m (c.tc.loc main_arg4)) (((cfg0.win 8).blk t).view.emb y) := by
  blk_simp [iblk, idx_val t]; entry_read; pointwise; blk_ext [idx_val t]

/-- The kernel's summed gradient is the reference's. -/
theorem final_5 (c : Dev nD) : (dats m 0 c).arrAt 5 (cfgs 0).N = refG (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  blk_simp; rw [after0_5]; frame_out
  pointwise [k0_pay1, k0_pay5, refG]
  rw [show iblk m c 3 t y = _ from rd_5_3 m c t y, show iblk m c 4 t y = _ from rd_5_4 m c t y]

/-- The kernel's update is the reference's. -/
theorem final_6 (c : Dev nD) : (dats m 0 c).arrAt 6 (cfgs 0).N = refDelta (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  blk_simp; rw [after0_6]; frame_out
  pointwise [k0_pay2, k0_pay5, k0_pay6, k0_pay7, k0_pay8, k0_pay9, refDelta]
  rw [show iblk m c 0 t y = _ from rd_6_0 m c t y, show iblk m c 1 t y = _ from rd_6_1 m c t y, show iblk m c 2 t y = _ from rd_6_2 m c t y, show iblk m c 3 t y = _ from rd_6_3 m c t y, show iblk m c 4 t y = _ from rd_6_4 m c t y]

/-- The kernel's new first moment is the reference's. -/
theorem final_7 (c : Dev nD) : (dats m 0 c).arrAt 7 (cfgs 0).N = refM (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t hf y => ?_
  blk_simp; rw [after0_7]; frame_out
  pointwise [k0_pay3, k0_pay5, k0_pay6, refM]
  rw [show iblk m c 1 t y = _ from rd_7_1 m c t y, show iblk m c 3 t y = _ from rd_7_3 m c t y, show iblk m c 4 t y = _ from rd_7_4 m c t y]

/-- The kernel's new second moment is the reference's. -/
theorem final_8 (c : Dev nD) : (dats m 0 c).arrAt 8 (cfgs 0).N = refV (m (c.tc.loc main_arg0)) (m (c.tc.loc main_arg1)) (m (c.tc.loc main_arg2)) (m (c.tc.loc main_arg3)) (m (c.tc.loc main_arg4)) := by
  refine (dats m 0 c).arrAt_eq_of_covers 8 _ (by decide +kernel) fun t hf y => ?_
  blk_simp; rw [after0_8]; frame_out
  pointwise [k0_pay4, k0_pay5, k0_pay7, refV]
  rw [show iblk m c 2 t y = _ from rd_8_2 m c t y, show iblk m c 3 t y = _ from rd_8_3 m c t y, show iblk m c 4 t y = _ from rd_8_4 m c t y]

end Cert.Kernel19Ideal.Value
-- ==== Proof.ValueAdam20.lean ====
/- The values of the optimiser step of `w_pw` (the kernel `adamw_w_pw`): the summed gradient, the update and the two
   new moments. -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel20Ideal.Value
public import proofs.«01_k».proof.Proof.Gen.Reference20Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference20Ideal.Value
open Cert.Reference20Ideal Cert.Reference20Ideal.Gen

/-- The summed gradient, as the reference computes it. -/
def refG (a0 a1 a2 a3 a4 : FVec Ideal S2x128x512 .f32) : FVec Ideal S2x128x512 .f32 :=
  addf a3 a4

end Cert.Reference20Ideal.Value

namespace Cert.Reference20Ideal.Value
open Cert.Reference20Ideal Cert.Reference20Ideal.Gen

/-- The update, as the reference computes it. -/
def refDelta (a0 a1 a2 a3 a4 : FVec Ideal S2x128x512 .f32) : FVec Ideal S2x128x512 .f32 :=
  mulf (broadcastInDim S2x128x512 ![] bcast_S_S2x128x512 (constant S_ .f32 0xBA83126F#32)) (addf (Host.divf (Host.divf (addf (mulf (broadcastInDim S2x128x512 ![] bcast_S_S2x128x512 (constant S_ .f32 0x3F666666#32)) a1) (mulf (broadcastInDim S2x128x512 ![] bcast_S_S2x128x512 (constant S_ .f32 0x3DCCCCCD#32)) (addf a3 a4))) (broadcastInDim S2x128x512 ![] bcast_S_S2x128x512 (constant S_ .f32 0x3F26BD02#32))) (addf (Host.sqrt (Host.divf (addf (mulf (broadcastInDim S2x128x512 ![] bcast_S_S2x128x512 (constant S_ .f32 0x3F7FBE77#32)) a2) (mulf (broadcastInDim S2x128x512 ![] bcast_S_S2x128x512 (constant S_ .f32 0x3A83126F#32)) (mulf (addf a3 a4) (addf a3 a4)))) (broadcastInDim S2x128x512 ![] bcast_S_S2x128x512 (constant S_ .f32 0x3C231ACC#32)))) (broadcastInDim S2x128x512 ![] bcast_S_S2x128x512 (constant S_ .f32 0x322BCC77#32)))) (mulf (broadcastInDim S2x128x512 ![] bcast_S_S2x128x512 (constant S_ .f32 0x3C23D70A#32)) a0))

end Cert.Reference20Ideal.Value

namespace Cert.Reference20Ideal.Value
open Cert.Reference20Ideal Cert.Reference20Ideal.Gen

/-- The new first moment, as the reference computes it. -/
def refM (a0 a1 a2 a3 a4 : FVec Ideal S2x128x512 .f32) : FVec Ideal S2x128x512 .f32 :=
  addf (mulf (broadcastInDim S2x128x512 ![] bcast_S_S2x128x512 (constant S_ .f32 0x3F666666#32)) a1) (mulf (broadcastInDim S2x128x512 ![] bcast_S_S2x128x512 (constant S_ .f32 0x3DCCCCCD#32)) (addf a3 a4))

end Cert.Reference20Ideal.Value

namespace Cert.Reference20Ideal.Value
open Cert.Reference20Ideal Cert.Reference20Ideal.Gen

/-- The new second moment, as the reference computes it. -/
def refV (a0 a1 a2 a3 a4 : FVec Ideal S2x128x512 .f32) : FVec Ideal S2x128x512 .f32 :=
  addf (mulf (broadcastInDim S2x128x512 ![] bcast_S_S2x128x512 (constant S_ .f32 0x3F7FBE77#32)) a2) (mulf (broadcastInDim S2x128x512 ![] bcast_S_S2x128x512 (constant S_ .f32 0x3A83126F#32)) (mulf (addf a3 a4) (addf a3 a4)))

end Cert.Reference20Ideal.Value

namespace Cert.Kernel20Ideal.Value

open Cert.Kernel20Ideal Cert.Kernel20Ideal.Gen Cert.Reference20Ideal.Value

variable (m : (ℓ : Loc nD τ sig) → Buf (Elt Ideal) ℓ)

/-- Every window's block index at every grid point. -/
theorem idx_val : ∀ t : Fin cfg0.N, win0_0.index t = ![t.val, 0, 0]
    ∧ win0_1.index t = ![t.val, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0] :=
  (by decide +kernel : ∀ t : Fin grid0.N, _)

/-- The block of argument 3 that point `t` reads, at the index result window 5 writes. -/
theorem rd_5_3 (c : Dev nD) (t : Fin cfg0.N) (y : S1x128x512.Idx) :
    iblk m c 3 t y = (m (c.tc.loc main_arg3)) (((cfg0.win 5).blk t).view.emb y) := by
  blk_simp [iblk, idx_val t]; entry_read; pointwise; blk_ext [idx_val t]

/-- The block of argument 4 that point `t` reads, at the index result window 5 writes. -/
theorem rd_5_4 (c : Dev nD) (t : Fin cfg0.N) (y : S1x128x512.Idx) :
    iblk m c 4 t y = (m (c.tc.loc main_arg4)) (((cfg0.win 5).blk t).view.emb y) := by
  blk_simp [iblk, idx_val t]; entry_read; pointwise; blk_ext [idx_val t]

/-- The block of argument 0 that point `t` reads, at the index result window 6 writes. -/
theorem rd_6_0 (c : Dev nD) (t : Fin cfg0.N) (y : S1x128x512.Idx) :
    iblk m c 0 t y = (m (c.tc.loc main_arg0)) (((cfg0.win 6).blk t).view.emb y) := by
  blk_simp [iblk, idx_val t]; entry_read; pointwise; blk_ext [idx_val t]

/-- The block of argument 1 that point `t` reads, at the index result window 6 writes. -/
theorem rd_6_1 (c : Dev nD) (t : Fin cfg0.N) (y : S1x128x512.Idx) :
    iblk m c 1 t y = (m (c.tc.loc main_arg1)) (((cfg0.win 6).blk t).view.emb y) := by
  blk_simp [iblk, idx_val t]; entry_read; pointwise; blk_ext [idx_val t]

/-- The block of argument 2 that point `t` reads, at the index result window 6 writes. -/
theorem rd_6_2 (c : Dev nD) (t : Fin cfg0.N) (y : S1x128x512.Idx) :
    iblk m c 2 t y = (m (c.tc.loc main_arg2)) (((cfg0.win 6).blk t).view.emb y) := by
  blk_simp [iblk, idx_val t]; entry_read; pointwise; blk_ext [idx_val t]

/-- The block of argument 3 that point `t` reads, at the index result window 6 writes. -/
theorem rd_6_3 (c : Dev nD) (t : Fin cfg0.N) (y : S1x128x512.Idx) :
    iblk m c 3 t y = (m (c.tc.loc main_arg3)) (((cfg0.win 6).blk t).view.emb y) := by
  blk_simp [iblk, idx_val t]; entry_read; pointwise; blk_ext [idx_val t]

/-- The block of argument 4 that point `t` reads, at the index result window 6 writes. -/
theorem rd_6_4 (c : Dev nD) (t : Fin cfg0.N) (y : S1x128x512.Idx) :
    iblk m c 4 t y = (m (c.tc.loc main_arg4)) (((cfg0.win 6).blk t).view.emb y) := by
  blk_simp [iblk, idx_val t]; entry_read; pointwise; blk_ext [idx_val t]

/-- The block of argument 1 that point `t` reads, at the index result window 7 writes. -/
theorem rd_7_1 (c : Dev nD) (t : Fin cfg0.N) (y : S1x128x512.Idx) :
    iblk m c 1 t y = (m (c.tc.loc main_arg1)) (((cfg0.win 7).blk t).view.emb y) := by
  blk_simp [iblk, idx_val t]; entry_read; pointwise; blk_ext [idx_val t]

/-- The block of argument 3 that point `t` reads, at the index result window 7 writes. -/
theorem rd_7_3 (c : Dev nD) (t : Fin cfg0.N) (y : S1x128x512.Idx) :
    iblk m c 3 t y = (m (c.tc.loc main_arg3)) (((cfg0.win 7).blk t).view.emb y) := by
  blk_simp [iblk, idx_val t]; entry_read; pointwise; blk_ext [idx_val t]

/-- The block of argument 4 that point `t` reads, at the index result window 7 writes. -/
theorem rd_7_4 (c : Dev nD) (t : Fin cfg0.N) (y : S1x128x512.Idx) :
    iblk m c 4 t y = (m (c.tc.loc main_arg4)) (((cfg0.win 7).blk t).view.emb y) := by
  blk_simp [iblk, idx_val t]; entry_read; pointwise; blk_ext [idx_val t]

/-- The block of argument 2 that point `t` reads, at the index result window 8 writes. -/
theorem rd_8_2 (c : Dev nD) (t : Fin cfg0.N) (y : S1x128x512.Idx) :
    iblk m c 2 t y = (m (c.tc.loc main_arg2)) (((cfg0.win 8).blk t).view.emb y) := by
  blk_simp [iblk, idx_val t]; entry_read; pointwise; blk_ext [idx_val t]

/-- The block of argument 3 that point `t` reads, at the index result window 8 writes. -/
theorem rd_8_3 (c : Dev nD) (t : Fin cfg0.N) (y : S1x128x512.Idx) :
    iblk m c 3 t y = (m (c.tc.loc main_arg3)) (((cfg0.win 8).blk t).view.emb y) := by
  blk_simp [iblk, idx_val t]; entry_read; pointwise; blk_ext [idx_val t]

/-- The block of argument 4 that point `t` reads, at the index result window 8 writes. -/
theorem rd_8_4 (c : Dev nD) (t : Fin cfg0.N) (y : S1x128x512.Idx) :
    iblk m c 4 t y = (m (c.tc.loc main_arg4)) (((cfg0.win 8).blk t).view.emb y) := by
  blk_simp [iblk, idx_val t]; entry_read; pointwise; blk_ext [idx_val t]

/-- The kernel's summed gradient is the reference's. -/
theorem final_5 (c : Dev nD) : (dats m 0 c).arrAt 5 (cfgs 0).N = refG (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  blk_simp; rw [after0_5]; frame_out
  pointwise [k0_pay1, k0_pay5, refG]
  rw [show iblk m c 3 t y = _ from rd_5_3 m c t y, show iblk m c 4 t y = _ from rd_5_4 m c t y]

/-- The kernel's update is the reference's. -/
theorem final_6 (c : Dev nD) : (dats m 0 c).arrAt 6 (cfgs 0).N = refDelta (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  blk_simp; rw [after0_6]; frame_out
  pointwise [k0_pay2, k0_pay5, k0_pay6, k0_pay7, k0_pay8, k0_pay9, refDelta]
  rw [show iblk m c 0 t y = _ from rd_6_0 m c t y, show iblk m c 1 t y = _ from rd_6_1 m c t y, show iblk m c 2 t y = _ from rd_6_2 m c t y, show iblk m c 3 t y = _ from rd_6_3 m c t y, show iblk m c 4 t y = _ from rd_6_4 m c t y]

/-- The kernel's new first moment is the reference's. -/
theorem final_7 (c : Dev nD) : (dats m 0 c).arrAt 7 (cfgs 0).N = refM (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t hf y => ?_
  blk_simp; rw [after0_7]; frame_out
  pointwise [k0_pay3, k0_pay5, k0_pay6, refM]
  rw [show iblk m c 1 t y = _ from rd_7_1 m c t y, show iblk m c 3 t y = _ from rd_7_3 m c t y, show iblk m c 4 t y = _ from rd_7_4 m c t y]

/-- The kernel's new second moment is the reference's. -/
theorem final_8 (c : Dev nD) : (dats m 0 c).arrAt 8 (cfgs 0).N = refV (m (c.tc.loc main_arg0)) (m (c.tc.loc main_arg1)) (m (c.tc.loc main_arg2)) (m (c.tc.loc main_arg3)) (m (c.tc.loc main_arg4)) := by
  refine (dats m 0 c).arrAt_eq_of_covers 8 _ (by decide +kernel) fun t hf y => ?_
  blk_simp; rw [after0_8]; frame_out
  pointwise [k0_pay4, k0_pay5, k0_pay7, refV]
  rw [show iblk m c 2 t y = _ from rd_8_2 m c t y, show iblk m c 3 t y = _ from rd_8_3 m c t y, show iblk m c 4 t y = _ from rd_8_4 m c t y]

end Cert.Kernel20Ideal.Value
-- ==== Proof.ValueNorm.lean ====
/- The values of the first norm (the kernel `pre_mix_norm`). -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel21Ideal.Value
public import proofs.«01_k».proof.Proof.Gen.Reference21Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference21Ideal.Value
open Cert.Reference21Ideal Cert.Reference21Ideal.Gen

/-- The normed rows, as the reference computes them. -/
def refNorm (a0 : FVec Ideal S4224x2048 .f32) (a1 : FVec Ideal S1x2048 .f32) : FVec Ideal S4224x2048 .bf16 :=
  truncf .bf16 (mulf (mulf a0 (broadcastInDim S4224x2048 ![0, 1] bcast_S4224x1_S4224x2048_0_1 (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x2048 ![0, 1] bcast_S1x2048_S4224x2048_0_1 a1)) bitsLt_bf16_f32

end Cert.Reference21Ideal.Value

namespace Cert.Kernel21Ideal.Value

open Cert.Kernel21Ideal Cert.Kernel21Ideal.Gen Cert.Reference21Ideal.Value

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![t.val, 0] :=
  (by decide +kernel : ∀ t : Fin grid0.N, _)

/-- A row of the block point `t` reads. -/
theorem row (c : Dev nD) (t : Fin cfg0.N) (y : S384x2048.Idx) (k : Fin 2048) :
    iblk m c 0 t (ix2 (y 0) k) = (m (c.tc.loc main_arg0)) (ix2 ((((cfg0.win 2).blk t).view.emb y) 0) k) := by
  blk_simp [iblk, idx_val t]; entry_read; pointwise; blk_ext [idx_val t]

/-- The entry of the block point `t` reads. -/
theorem entry (c : Dev nD) (t : Fin cfg0.N) (y : S384x2048.Idx) :
    iblk m c 0 t y = (m (c.tc.loc main_arg0)) (((cfg0.win 2).blk t).view.emb y) := by
  blk_simp [iblk, idx_val t]; entry_read; pointwise; blk_ext [idx_val t]

/-- The gain at the entry's column. -/
theorem gain (c : Dev nD) (t : Fin cfg0.N) (y : S384x2048.Idx) :
    iblk m c 1 t (ix2 0 (y 1)) = (m (c.tc.loc main_arg1)) (ix2 0 ((((cfg0.win 2).blk t).view.emb y) 1)) := by
  blk_simp [iblk, idx_val t]; entry_read; pointwise; blk_ext [idx_val t]

/-- The kernel's result is the reference's. -/
theorem final (c : Dev nD) : (dats m 0 c).arrAt 2 (cfgs 0).N = refNorm (m (c.tc.loc main_arg0)) (m (c.tc.loc main_arg1)) := by
  refine (dats m 0 c).arrAt_eq_of_covers 2 _ (by decide +kernel) fun t hf y => ?_
  blk_simp; rw [after0_2]; frame_out
  pointwise [k0_pay1, refNorm]
  have e := row m c t y
  have e0 := entry m c t y
  have e1 := gain m c t y
  simp only [e, e0, e1]

end Cert.Kernel21Ideal.Value
-- ==== Proof.ValuePostMix.lean ====
/- The values of the residual and the next norm (the kernels `post_mix`, `post_ffn`). -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel22Ideal.Value
public import proofs.«01_k».proof.Proof.Gen.Reference22Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference22Ideal.Value
open Cert.Reference22Ideal Cert.Reference22Ideal.Gen

/-- The residual stream, as the reference computes it. -/
def refRes (a0 a1 : FVec Ideal S4224x2048 .f32) (a2 a3 : FVec Ideal S1x2048 .f32) : FVec Ideal S4224x2048 .f32 :=
  addf a0 (mulf (mulf a1 (broadcastInDim S4224x2048 ![0, 1] bcast_S4224x1_S4224x2048_0_1 (Host.rsqrt (addf (Host.divf (broadcastInDim S4224x1 ![0] bcast_S4224_S4224x1_0 (Host.reduceAdd (mulf a1 a1) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x2048 ![0, 1] bcast_S1x2048_S4224x2048_0_1 a2))

end Cert.Reference22Ideal.Value

namespace Cert.Reference22Ideal.Value
open Cert.Reference22Ideal Cert.Reference22Ideal.Gen

/-- The normed residual stream, as the reference computes it. -/
def refNext (a0 a1 : FVec Ideal S4224x2048 .f32) (a2 a3 : FVec Ideal S1x2048 .f32) : FVec Ideal S4224x2048 .bf16 :=
  truncf .bf16 (mulf (mulf (addf a0 (mulf (mulf a1 (broadcastInDim S4224x2048 ![0, 1] bcast_S4224x1_S4224x2048_0_1 (Host.rsqrt (addf (Host.divf (broadcastInDim S4224x1 ![0] bcast_S4224_S4224x1_0 (Host.reduceAdd (mulf a1 a1) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x2048 ![0, 1] bcast_S1x2048_S4224x2048_0_1 a2))) (broadcastInDim S4224x2048 ![0, 1] bcast_S4224x1_S4224x2048_0_1 (Host.rsqrt (addf (Host.divf (broadcastInDim S4224x1 ![0] bcast_S4224_S4224x1_0 (Host.reduceAdd (mulf (addf a0 (mulf (mulf a1 (broadcastInDim S4224x2048 ![0, 1] bcast_S4224x1_S4224x2048_0_1 (Host.rsqrt (addf (Host.divf (broadcastInDim S4224x1 ![0] bcast_S4224_S4224x1_0 (Host.reduceAdd (mulf a1 a1) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x2048 ![0, 1] bcast_S1x2048_S4224x2048_0_1 a2))) (addf a0 (mulf (mulf a1 (broadcastInDim S4224x2048 ![0, 1] bcast_S4224x1_S4224x2048_0_1 (Host.rsqrt (addf (Host.divf (broadcastInDim S4224x1 ![0] bcast_S4224_S4224x1_0 (Host.reduceAdd (mulf a1 a1) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x2048 ![0, 1] bcast_S1x2048_S4224x2048_0_1 a2)))) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x2048 ![0, 1] bcast_S1x2048_S4224x2048_0_1 a3)) bitsLt_bf16_f32

end Cert.Reference22Ideal.Value

namespace Cert.Kernel22Ideal.Value

open Cert.Kernel22Ideal Cert.Kernel22Ideal.Gen Cert.Reference22Ideal.Value

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0] :=
  (by decide +kernel : ∀ t : Fin grid0.N, _)

/-- Row `k` of the block of argument 0 that point `t` reads is the argument's row `r`. -/
theorem row_0 (c : Dev nD) (t : Fin cfg0.N) (k : Fin 384) (r : Fin 4224) (h : r.val = 384 * t.val + k.val) (x : Fin 2048) :
    iblk m c 0 t (ix2 k x) = (m (c.tc.loc main_arg0)) (ix2 r x) := by
  blk_simp [iblk, idx_val t]; entry_read; pointwise; blk_ext [idx_val t]

/-- Row `k` of the block of argument 1 that point `t` reads is the argument's row `r`. -/
theorem row_1 (c : Dev nD) (t : Fin cfg0.N) (k : Fin 384) (r : Fin 4224) (h : r.val = 384 * t.val + k.val) (x : Fin 2048) :
    iblk m c 1 t (ix2 k x) = (m (c.tc.loc main_arg1)) (ix2 r x) := by
  blk_simp [iblk, idx_val t]; entry_read; pointwise; blk_ext [idx_val t]

/-- Every point reads the whole of argument 2. -/
theorem gain_2 (c : Dev nD) (t : Fin cfg0.N) (x : Fin 2048) :
    iblk m c 2 t (ix2 0 x) = (m (c.tc.loc main_arg2)) (ix2 0 x) := by
  blk_simp [iblk, idx_val t]; entry_read; pointwise; blk_ext [idx_val t]

/-- Every point reads the whole of argument 3. -/
theorem gain_3 (c : Dev nD) (t : Fin cfg0.N) (x : Fin 2048) :
    iblk m c 3 t (ix2 0 x) = (m (c.tc.loc main_arg3)) (ix2 0 x) := by
  blk_simp [iblk, idx_val t]; entry_read; pointwise; blk_ext [idx_val t]

/-- The row of the array that entry `y` of result window 4's block at point `t` is. -/
theorem emb_4 (t : Fin cfg0.N) (y : S384x2048.Idx) :
    ((((cfg0.win 4).blk t).view.emb y) 0).val = 384 * t.val + (y 0).val := by
  blk_simp [idx_val t]; omega

/-- The entry of argument 0's block at an index of result window 4. -/
theorem entry_4_0 (c : Dev nD) (t : Fin cfg0.N) (y : S384x2048.Idx) :
    iblk m c 0 t y = (m (c.tc.loc main_arg0)) (((cfg0.win 4).blk t).view.emb y) := by
  blk_simp [iblk, idx_val t]; entry_read; pointwise; blk_ext [idx_val t]

/-- The entry of argument 1's block at an index of result window 4. -/
theorem entry_4_1 (c : Dev nD) (t : Fin cfg0.N) (y : S384x2048.Idx) :
    iblk m c 1 t y = (m (c.tc.loc main_arg1)) (((cfg0.win 4).blk t).view.emb y) := by
  blk_simp [iblk, idx_val t]; entry_read; pointwise; blk_ext [idx_val t]

/-- Argument 2 at an index of result window 4. -/
theorem col_4_2 (c : Dev nD) (t : Fin cfg0.N) (y : S384x2048.Idx) :
    iblk m c 2 t (ix2 0 (y 1)) = (m (c.tc.loc main_arg2)) (ix2 0 ((((cfg0.win 4).blk t).view.emb y) 1)) := by
  blk_simp [iblk, idx_val t]; entry_read; pointwise; blk_ext [idx_val t]

/-- Argument 3 at an index of result window 4. -/
theorem col_4_3 (c : Dev nD) (t : Fin cfg0.N) (y : S384x2048.Idx) :
    iblk m c 3 t (ix2 0 (y 1)) = (m (c.tc.loc main_arg3)) (ix2 0 ((((cfg0.win 4).blk t).view.emb y) 1)) := by
  blk_simp [iblk, idx_val t]; entry_read; pointwise; blk_ext [idx_val t]

/-- The kernel's result 0 is the reference's. -/
theorem final_4 (c : Dev nD) : (dats m 0 c).arrAt 4 (cfgs 0).N = refRes (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp; rw [after0_4]; frame_out
  pointwise [k0_pay1, refRes]
  have e0 := entry_4_0 m c t y
  have e1 := entry_4_1 m c t y
  have e2 := col_4_2 m c t y
  have e3 := col_4_3 m c t y
  have r0 := row_0 m c t (y 0) ((((cfg0.win 4).blk t).view.emb y) 0) (emb_4 t y)
  have r1 := row_1 m c t (y 0) ((((cfg0.win 4).blk t).view.emb y) 0) (emb_4 t y)
  have g0 := gain_2 m c t
  have g1 := gain_3 m c t
  simp only [e0, e1, e2, e3]
  try simp only [r0, r1, g0, g1]
  try rfl

/-- The row of the array that entry `y` of result window 5's block at point `t` is. -/
theorem emb_5 (t : Fin cfg0.N) (y : S384x2048.Idx) :
    ((((cfg0.win 5).blk t).view.emb y) 0).val = 384 * t.val + (y 0).val := by
  blk_simp [idx_val t]; omega

/-- The entry of argument 0's block at an index of result window 5. -/
theorem entry_5_0 (c : Dev nD) (t : Fin cfg0.N) (y : S384x2048.Idx) :
    iblk m c 0 t y = (m (c.tc.loc main_arg0)) (((cfg0.win 5).blk t).view.emb y) := by
  blk_simp [iblk, idx_val t]; entry_read; pointwise; blk_ext [idx_val t]

/-- The entry of argument 1's block at an index of result window 5. -/
theorem entry_5_1 (c : Dev nD) (t : Fin cfg0.N) (y : S384x2048.Idx) :
    iblk m c 1 t y = (m (c.tc.loc main_arg1)) (((cfg0.win 5).blk t).view.emb y) := by
  blk_simp [iblk, idx_val t]; entry_read; pointwise; blk_ext [idx_val t]

/-- Argument 2 at an index of result window 5. -/
theorem col_5_2 (c : Dev nD) (t : Fin cfg0.N) (y : S384x2048.Idx) :
    iblk m c 2 t (ix2 0 (y 1)) = (m (c.tc.loc main_arg2)) (ix2 0 ((((cfg0.win 5).blk t).view.emb y) 1)) := by
  blk_simp [iblk, idx_val t]; entry_read; pointwise; blk_ext [idx_val t]

/-- Argument 3 at an index of result window 5. -/
theorem col_5_3 (c : Dev nD) (t : Fin cfg0.N) (y : S384x2048.Idx) :
    iblk m c 3 t (ix2 0 (y 1)) = (m (c.tc.loc main_arg3)) (ix2 0 ((((cfg0.win 5).blk t).view.emb y) 1)) := by
  blk_simp [iblk, idx_val t]; entry_read; pointwise; blk_ext [idx_val t]

/-- The kernel's result 1 is the reference's. -/
theorem final_5 (c : Dev nD) : (dats m 0 c).arrAt 5 (cfgs 0).N = refNext (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp; rw [after0_5]; frame_out
  pointwise [k0_pay2, k0_pay1, refNext]
  have e0 := entry_5_0 m c t y
  have e1 := entry_5_1 m c t y
  have e2 := col_5_2 m c t y
  have e3 := col_5_3 m c t y
  have r0 := row_0 m c t (y 0) ((((cfg0.win 5).blk t).view.emb y) 0) (emb_5 t y)
  have r1 := row_1 m c t (y 0) ((((cfg0.win 5).blk t).view.emb y) 0) (emb_5 t y)
  have g0 := gain_2 m c t
  have g1 := gain_3 m c t
  simp only [e0, e1, e2, e3]
  try simp only [r0, r1, g0, g1]
  try rfl

end Cert.Kernel22Ideal.Value
-- ==== Proof.RunPostMix.lean ====
/- The run of the reference `reference22`, its results under the names that the values use. -/
module

public import proofs.«01_k».proof.Proof.ValuePostMix
public import Idealize.ShloMosaic.Lib.Pipeline.ReadBack
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference22Ideal.Value
open Cert.Reference22Ideal Cert.Reference22Ideal.Gen

/-- Every run of the reference ends with the named results, its arguments unchanged. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v12) = refRes (m (c.tc.loc main_arg0)) (m (c.tc.loc main_arg1)) (m (c.tc.loc main_arg2)) (m (c.tc.loc main_arg3))
      ∧ r.2.mem (c.tc.loc main_v25) = refNext (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨(h c).1, (h c).2.1, (h c).2.2.1, (h c).2.2.2.1, (h c).2.2.2.2.1, (h c).2.2.2.2.2⟩) (run m ρ)

end Cert.Reference22Ideal.Value

end
-- ==== Proof.ValuePostFfnB.lean ====
/- The values of the gradient of the norm after the feed-forward (the kernel `post_ffn_b`). -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel23Ideal.Value
public import proofs.«01_k».proof.Proof.Gen.Reference23Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference23Ideal.Value
open Cert.Reference23Ideal Cert.Reference23Ideal.Gen

/-- The gradient of the normed rows, as the reference computes it. -/
def refDff (a0 a1 : FVec Ideal S4224x2048 .f32) (a2 : FVec Ideal S1x2048 .f32) : FVec Ideal S4224x2048 .bf16 :=
  truncf .bf16 (addf (addf (mulf (mulf a1 (broadcastInDim S4224x2048 ![0, 1] bcast_S1x2048_S4224x2048_0_1 a2)) (broadcastInDim S4224x2048 ![0, 1] bcast_S4224x1_S4224x2048_0_1 (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (mulf a0 (broadcastInDim S4224x2048 ![0] bcast_S4224_S4224x2048_0 (Host.reduceAdd (Host.divf (mulf (shapeCast _ (Host.reduceAdd (mulf a0 (mulf a1 (broadcastInDim S4224x2048 ![0, 1] bcast_S1x2048_S4224x2048_0_1 a2))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)))) (mulf (broadcastInDim S4224x2048 ![0] bcast_S4224_S4224x2048_0 (Host.reduceAdd (Host.divf (mulf (shapeCast _ (Host.reduceAdd (mulf a0 (mulf a1 (broadcastInDim S4224x2048 ![0, 1] bcast_S1x2048_S4224x2048_0_1 a2))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)) a0)) bitsLt_bf16_f32

end Cert.Reference23Ideal.Value

namespace Cert.Reference23Ideal.Value
open Cert.Reference23Ideal Cert.Reference23Ideal.Gen

/-- The gradient of the gain, as the reference computes it. -/
def refDgain (a0 a1 : FVec Ideal S4224x2048 .f32) (a2 : FVec Ideal S1x2048 .f32) : FVec Ideal S1x2048 .f32 :=
  shapeCast _ (Host.reduceAdd (mulf (mulf a0 (broadcastInDim S4224x2048 ![0, 1] bcast_S4224x1_S4224x2048_0_1 (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) a1) (constant S_ .f32 0x00000000#32) reducesTo_S4224x2048_S2048_d0 h_S_) shapeCasts_S2048_S1x2048

end Cert.Reference23Ideal.Value

namespace Cert.Kernel23Ideal.Value

open Cert.Kernel23Ideal Cert.Kernel23Ideal.Gen Cert.Reference23Ideal.Value

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![0, 0]
    ∧ win0_3.index t = ![t.val, 0]
    ∧ win0_4.index t = ![0, 0] :=
  (by decide +kernel : ∀ t : Fin grid0.N, _)

/-- Row `k` of the block of argument 0 that point `t` reads is the argument's row `r`. -/
theorem row_0 (c : Dev nD) (t : Fin cfg0.N) (k : Fin 384) (r : Fin 4224) (h : r.val = 384 * t.val + k.val) (x : Fin 2048) :
    iblk m c 0 t (ix2 k x) = (m (c.tc.loc main_arg0)) (ix2 r x) := by
  blk_simp [iblk, idx_val t]; entry_read; pointwise; blk_ext [idx_val t]

/-- Row `k` of the block of argument 1 that point `t` reads is the argument's row `r`. -/
theorem row_1 (c : Dev nD) (t : Fin cfg0.N) (k : Fin 384) (r : Fin 4224) (h : r.val = 384 * t.val + k.val) (x : Fin 2048) :
    iblk m c 1 t (ix2 k x) = (m (c.tc.loc main_arg1)) (ix2 r x) := by
  blk_simp [iblk, idx_val t]; entry_read; pointwise; blk_ext [idx_val t]

/-- Every point reads the whole of argument 2. -/
theorem gain_2 (c : Dev nD) (t : Fin cfg0.N) (x : Fin 2048) :
    iblk m c 2 t (ix2 0 x) = (m (c.tc.loc main_arg2)) (ix2 0 x) := by
  blk_simp [iblk, idx_val t]; entry_read; pointwise; blk_ext [idx_val t]

/-- The row of the array that entry `y` of result window 3's block at point `t` is. -/
theorem emb_3 (t : Fin cfg0.N) (y : S384x2048.Idx) :
    ((((cfg0.win 3).blk t).view.emb y) 0).val = 384 * t.val + (y 0).val := by
  blk_simp [idx_val t]; omega

/-- The entry of argument 0's block at an index of result window 3. -/
theorem entry_3_0 (c : Dev nD) (t : Fin cfg0.N) (y : S384x2048.Idx) :
    iblk m c 0 t y = (m (c.tc.loc main_arg0)) (((cfg0.win 3).blk t).view.emb y) := by
  blk_simp [iblk, idx_val t]; entry_read; pointwise; blk_ext [idx_val t]

/-- The entry of argument 1's block at an index of result window 3. -/
theorem entry_3_1 (c : Dev nD) (t : Fin cfg0.N) (y : S384x2048.Idx) :
    iblk m c 1 t y = (m (c.tc.loc main_arg1)) (((cfg0.win 3).blk t).view.emb y) := by
  blk_simp [iblk, idx_val t]; entry_read; pointwise; blk_ext [idx_val t]

/-- Argument 2 at an index of result window 3. -/
theorem col_3_2 (c : Dev nD) (t : Fin cfg0.N) (y : S384x2048.Idx) :
    iblk m c 2 t (ix2 0 (y 1)) = (m (c.tc.loc main_arg2)) (ix2 0 ((((cfg0.win 3).blk t).view.emb y) 1)) := by
  blk_simp [iblk, idx_val t]; entry_read; pointwise; blk_ext [idx_val t]

/-- What a point leaves in result window 3. -/
theorem point_3 (c : Dev nD) (t : Fin cfg0.N) (y : S384x2048.Idx) :
    (outsAt0 m c t.val t.isLt).1 y = k0_pay6 (iblk m c 0 t) (iblk m c 1 t) (iblk m c 2 t) y := by
  by_cases h0 : t.val % 11 = 0
  · rw [outsAt0_A m c t h0]; frame_out
  · rw [outsAt0_B m c t h0]; frame_out

/-- The kernel's result 0 is the reference's. -/
theorem final_3 (c : Dev nD) : (dats m 0 c).arrAt 3 (cfgs 0).N = refDff (m (c.tc.loc main_arg0)) (m (c.tc.loc main_arg1)) (m (c.tc.loc main_arg2)) := by
  refine (dats m 0 c).arrAt_eq_of_covers 3 _ (by decide +kernel) fun t hf y => ?_
  blk_simp; rw [after0_3]
  refine (point_3 m c t y).trans ?_
  pointwise [k0_pay6, k0_pay4, k0_pay3, refDff]
  have e0 := entry_3_0 m c t y
  have e1 := entry_3_1 m c t y
  have e2 := col_3_2 m c t y
  have r0 := row_0 m c t (y 0) ((((cfg0.win 3).blk t).view.emb y) 0) (emb_3 t y)
  have r1 := row_1 m c t (y 0) ((((cfg0.win 3).blk t).view.emb y) 0) (emb_3 t y)
  have g0 := gain_2 m c t
  simp only [e0, e1, e2]
  try simp only [r0, r1, g0]
  try rfl

/-- What point `t` adds to an entry of result window 4: the sum over its rows. -/
def part_4 (c : Dev nD) (t : Fin cfg0.N) (j : S1x2048.Idx) : EReal :=
  k0_pay5 (iblk m c 0 t) (iblk m c 1 t) j

theorem first_4 (c : Dev nD) (t : Fin cfg0.N) (h0 : t.val % 11 = 0) (j : S1x2048.Idx) :
    (outsAt0 m c t.val t.isLt).2 j = (0 : EReal) + part_4 m c t j := by
  rw [outsAt0_A m c t h0]
  frame_out
  pointwise [k0_pay2, k0_pay1]
  rfl

theorem next_4 (c : Dev nD) (t : Fin cfg0.N) (h0 : ¬ t.val % 11 = 0) (j : S1x2048.Idx) :
    (outsAt0 m c t.val t.isLt).2 j
      = (outsAt0 m c (t.val - 1) (Nat.lt_of_le_of_lt (Nat.sub_le _ _) t.isLt)).2 j + part_4 m c t j := by
  rw [outsAt0_B m c t h0]
  frame_out
  try rw [read_unread_whole]
  pointwise [k0_pay2]
  rfl

/-- The last point leaves the sum over all points. -/
theorem total_4 (c : Dev nD) (t : Fin cfg0.N) (h1 : t.val % 11 = 10) (j : S1x2048.Idx) :
    (outsAt0 m c t.val t.isLt).2 j
      = ∑ s : Fin 11, part_4 m c ⟨11 * (t.val / 11) + s.val, Pipeline.run_point_lt_of_flush t h1 s⟩ j :=
  (Pipeline.eq_sum_fin_of_reset_step_apply_of_flush (fun n h => (outsAt0 m c n h).2) 11 (fun _ => (0 : EReal)) _
    (fun t h j => first_4 m c t h j) (fun t h j => next_4 m c t h j) t h1 j).trans (zero_add (_ : EReal))

/-- The sum over all points is the reference's entry. -/
theorem sum_4 (c : Dev nD) (t : Fin cfg0.N) (h1 : t.val % 11 = 10) (j : S1x2048.Idx) :
    (outsAt0 m c t.val t.isLt).2 j = refDgain (m (c.tc.loc main_arg0)) (m (c.tc.loc main_arg1)) (m (c.tc.loc main_arg2)) j := by
  rw [total_4 m c t h1]
  have ht : t.val / 11 = 0 := Nat.div_eq_of_lt (lt_of_lt_of_eq t.isLt N_0)
  pointwise [part_4, k0_pay5, k0_pay4, k0_pay3, refDgain]
  refine Fin.sum_mul_add_congr fun s k hl => ?_
  have hr : s.val * 384 + k.val = 384 * (11 * (t.val / 11) + s.val) + k.val := by omega
  have r0 := row_0 m c ⟨11 * (t.val / 11) + s.val, Pipeline.run_point_lt_of_flush t h1 s⟩ k ⟨s.val * 384 + k.val, hl⟩ hr
  have r1 := row_1 m c ⟨11 * (t.val / 11) + s.val, Pipeline.run_point_lt_of_flush t h1 s⟩ k ⟨s.val * 384 + k.val, hl⟩ hr
  have g0 := gain_2 m c ⟨11 * (t.val / 11) + s.val, Pipeline.run_point_lt_of_flush t h1 s⟩
  simp only [r0, r1, g0]
  have q0 : iblk m c 0 ⟨11 * (t.val / 11) + s.val, Pipeline.run_point_lt_of_flush t h1 s⟩ (ix2 k (j 1)) = (m (c.tc.loc main_arg0)) (ix2 ⟨s.val * 384 + k.val, hl⟩ (j 1)) := r0 (j 1)
  have q1 : iblk m c 1 ⟨11 * (t.val / 11) + s.val, Pipeline.run_point_lt_of_flush t h1 s⟩ (ix2 k (j 1)) = (m (c.tc.loc main_arg1)) (ix2 ⟨s.val * 384 + k.val, hl⟩ (j 1)) := r1 (j 1)
  have p0 : iblk m c 2 ⟨11 * (t.val / 11) + s.val, Pipeline.run_point_lt_of_flush t h1 s⟩ (ix2 0 (j 1)) = (m (c.tc.loc main_arg2)) (ix2 0 (j 1)) := g0 (j 1)
  simp only [q0, q1, p0]

/-- The kernel's accumulated result 0 is the reference's. -/
theorem final_4 (c : Dev nD) : (dats m 0 c).arrAt 4 (cfgs 0).N = refDgain (m (c.tc.loc main_arg0)) (m (c.tc.loc main_arg1)) (m (c.tc.loc main_arg2)) := by
  refine (dats m 0 c).arrAt_eq_of_covers 4 _ (by decide +kernel) fun t hf y => ?_
  have hy : (y : S1x2048.Idx) = ((cfg0.win 4).blk t).view.emb y := by blk_ext [idx_val t]
  blk_simp; rw [after0_4]
  exact (sum_4 m c t ((flush0_4 t).mp hf) y).trans (congrArg _ hy)

end Cert.Kernel23Ideal.Value
-- ==== Proof.RunPostFfnB.lean ====
/- The run of the reference `reference23`, its results under the names that the values use. -/
module

public import proofs.«01_k».proof.Proof.ValuePostFfnB
public import Idealize.ShloMosaic.Lib.Pipeline.ReadBack
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference23Ideal.Value
open Cert.Reference23Ideal Cert.Reference23Ideal.Gen

/-- Every run of the reference ends with the named results, its arguments unchanged. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v34) = refDff (m (c.tc.loc main_arg0)) (m (c.tc.loc main_arg1)) (m (c.tc.loc main_arg2))
      ∧ r.2.mem (c.tc.loc main_v17) = refDgain (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun _ h c => ⟨(h c).1, (h c).2.1, (h c).2.2.1, (h c).2.2.2.1, (h c).2.2.2.2⟩) (run m ρ)

end Cert.Reference23Ideal.Value

end
-- ==== Proof.ValuePostMixB.lean ====
/- The values of the gradient of the residual and of the two norms round it (the kernel `post_mix_b`). -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel24Ideal.Value
public import proofs.«01_k».proof.Proof.Gen.Reference24Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference24Ideal.Value
open Cert.Reference24Ideal Cert.Reference24Ideal.Gen

/-- The gradient of the residual stream, as the reference computes it. -/
def refDmid (a0 a1 a2 a3 : FVec Ideal S4224x2048 .f32) (a4 a5 : FVec Ideal S1x2048 .f32) : FVec Ideal S4224x2048 .f32 :=
  addf a2 (addf (addf (mulf (mulf a3 (broadcastInDim S4224x2048 ![0, 1] bcast_S1x2048_S4224x2048_0_1 a5)) (broadcastInDim S4224x2048 ![0, 1] bcast_S4224x1_S4224x2048_0_1 (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (mulf a0 (broadcastInDim S4224x2048 ![0] bcast_S4224_S4224x2048_0 (Host.reduceAdd (Host.divf (mulf (shapeCast _ (Host.reduceAdd (mulf a0 (mulf a3 (broadcastInDim S4224x2048 ![0, 1] bcast_S1x2048_S4224x2048_0_1 a5))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)))) (mulf (broadcastInDim S4224x2048 ![0] bcast_S4224_S4224x2048_0 (Host.reduceAdd (Host.divf (mulf (shapeCast _ (Host.reduceAdd (mulf a0 (mulf a3 (broadcastInDim S4224x2048 ![0, 1] bcast_S1x2048_S4224x2048_0_1 a5))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)) a0))

end Cert.Reference24Ideal.Value

namespace Cert.Reference24Ideal.Value
open Cert.Reference24Ideal Cert.Reference24Ideal.Gen

/-- The gradient of the mixed heads, as the reference computes it. -/
def refDmix (a0 a1 a2 a3 : FVec Ideal S4224x2048 .f32) (a4 a5 : FVec Ideal S1x2048 .f32) : FVec Ideal S4224x2048 .bf16 :=
  truncf .bf16 (addf (addf (mulf (mulf (addf a2 (addf (addf (mulf (mulf a3 (broadcastInDim S4224x2048 ![0, 1] bcast_S1x2048_S4224x2048_0_1 a5)) (broadcastInDim S4224x2048 ![0, 1] bcast_S4224x1_S4224x2048_0_1 (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (mulf a0 (broadcastInDim S4224x2048 ![0] bcast_S4224_S4224x2048_0 (Host.reduceAdd (Host.divf (mulf (shapeCast _ (Host.reduceAdd (mulf a0 (mulf a3 (broadcastInDim S4224x2048 ![0, 1] bcast_S1x2048_S4224x2048_0_1 a5))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)))) (mulf (broadcastInDim S4224x2048 ![0] bcast_S4224_S4224x2048_0 (Host.reduceAdd (Host.divf (mulf (shapeCast _ (Host.reduceAdd (mulf a0 (mulf a3 (broadcastInDim S4224x2048 ![0, 1] bcast_S1x2048_S4224x2048_0_1 a5))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)) a0))) (broadcastInDim S4224x2048 ![0, 1] bcast_S1x2048_S4224x2048_0_1 a4)) (broadcastInDim S4224x2048 ![0, 1] bcast_S4224x1_S4224x2048_0_1 (Host.rsqrt (addf (Host.divf (broadcastInDim S4224x1 ![0] bcast_S4224_S4224x1_0 (Host.reduceAdd (mulf a1 a1) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (mulf a1 (broadcastInDim S4224x2048 ![0] bcast_S4224_S4224x2048_0 (Host.reduceAdd (Host.divf (mulf (shapeCast _ (Host.reduceAdd (mulf a1 (mulf (addf a2 (addf (addf (mulf (mulf a3 (broadcastInDim S4224x2048 ![0, 1] bcast_S1x2048_S4224x2048_0_1 a5)) (broadcastInDim S4224x2048 ![0, 1] bcast_S4224x1_S4224x2048_0_1 (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (mulf a0 (broadcastInDim S4224x2048 ![0] bcast_S4224_S4224x2048_0 (Host.reduceAdd (Host.divf (mulf (shapeCast _ (Host.reduceAdd (mulf a0 (mulf a3 (broadcastInDim S4224x2048 ![0, 1] bcast_S1x2048_S4224x2048_0_1 a5))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)))) (mulf (broadcastInDim S4224x2048 ![0] bcast_S4224_S4224x2048_0 (Host.reduceAdd (Host.divf (mulf (shapeCast _ (Host.reduceAdd (mulf a0 (mulf a3 (broadcastInDim S4224x2048 ![0, 1] bcast_S1x2048_S4224x2048_0_1 a5))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)) a0))) (broadcastInDim S4224x2048 ![0, 1] bcast_S1x2048_S4224x2048_0_1 a4))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a1 a1) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf a1 a1) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)))) (mulf (broadcastInDim S4224x2048 ![0] bcast_S4224_S4224x2048_0 (Host.reduceAdd (Host.divf (mulf (shapeCast _ (Host.reduceAdd (mulf a1 (mulf (addf a2 (addf (addf (mulf (mulf a3 (broadcastInDim S4224x2048 ![0, 1] bcast_S1x2048_S4224x2048_0_1 a5)) (broadcastInDim S4224x2048 ![0, 1] bcast_S4224x1_S4224x2048_0_1 (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (mulf a0 (broadcastInDim S4224x2048 ![0] bcast_S4224_S4224x2048_0 (Host.reduceAdd (Host.divf (mulf (shapeCast _ (Host.reduceAdd (mulf a0 (mulf a3 (broadcastInDim S4224x2048 ![0, 1] bcast_S1x2048_S4224x2048_0_1 a5))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)))) (mulf (broadcastInDim S4224x2048 ![0] bcast_S4224_S4224x2048_0 (Host.reduceAdd (Host.divf (mulf (shapeCast _ (Host.reduceAdd (mulf a0 (mulf a3 (broadcastInDim S4224x2048 ![0, 1] bcast_S1x2048_S4224x2048_0_1 a5))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)) a0))) (broadcastInDim S4224x2048 ![0, 1] bcast_S1x2048_S4224x2048_0_1 a4))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a1 a1) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf a1 a1) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)) a1)) bitsLt_bf16_f32

end Cert.Reference24Ideal.Value

namespace Cert.Reference24Ideal.Value
open Cert.Reference24Ideal Cert.Reference24Ideal.Gen

/-- The gradient of the gain after the mixing, as the reference computes it. -/
def refDg1 (a0 a1 a2 a3 : FVec Ideal S4224x2048 .f32) (a4 a5 : FVec Ideal S1x2048 .f32) : FVec Ideal S1x2048 .f32 :=
  shapeCast _ (Host.reduceAdd (mulf (mulf a1 (broadcastInDim S4224x2048 ![0, 1] bcast_S4224x1_S4224x2048_0_1 (Host.rsqrt (addf (Host.divf (broadcastInDim S4224x1 ![0] bcast_S4224_S4224x1_0 (Host.reduceAdd (mulf a1 a1) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (addf a2 (addf (addf (mulf (mulf a3 (broadcastInDim S4224x2048 ![0, 1] bcast_S1x2048_S4224x2048_0_1 a5)) (broadcastInDim S4224x2048 ![0, 1] bcast_S4224x1_S4224x2048_0_1 (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (mulf a0 (broadcastInDim S4224x2048 ![0] bcast_S4224_S4224x2048_0 (Host.reduceAdd (Host.divf (mulf (shapeCast _ (Host.reduceAdd (mulf a0 (mulf a3 (broadcastInDim S4224x2048 ![0, 1] bcast_S1x2048_S4224x2048_0_1 a5))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)))) (mulf (broadcastInDim S4224x2048 ![0] bcast_S4224_S4224x2048_0 (Host.reduceAdd (Host.divf (mulf (shapeCast _ (Host.reduceAdd (mulf a0 (mulf a3 (broadcastInDim S4224x2048 ![0, 1] bcast_S1x2048_S4224x2048_0_1 a5))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)) a0)))) (constant S_ .f32 0x00000000#32) reducesTo_S4224x2048_S2048_d0 h_S_) shapeCasts_S2048_S1x2048

end Cert.Reference24Ideal.Value

namespace Cert.Reference24Ideal.Value
open Cert.Reference24Ideal Cert.Reference24Ideal.Gen

/-- The gradient of the gain before the feed-forward, as the reference computes it. -/
def refDg2 (a0 a1 a2 a3 : FVec Ideal S4224x2048 .f32) (a4 a5 : FVec Ideal S1x2048 .f32) : FVec Ideal S1x2048 .f32 :=
  shapeCast _ (Host.reduceAdd (mulf (mulf a0 (broadcastInDim S4224x2048 ![0, 1] bcast_S4224x1_S4224x2048_0_1 (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) a3) (constant S_ .f32 0x00000000#32) reducesTo_S4224x2048_S2048_d0 h_S_) shapeCasts_S2048_S1x2048

end Cert.Reference24Ideal.Value

namespace Cert.Kernel24Ideal.Value

open Cert.Kernel24Ideal Cert.Kernel24Ideal.Gen Cert.Reference24Ideal.Value

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![t.val, 0]
    ∧ win0_7.index t = ![t.val, 0]
    ∧ win0_8.index t = ![0, 0]
    ∧ win0_9.index t = ![0, 0] :=
  (by decide +kernel : ∀ t : Fin grid0.N, _)

/-- Row `k` of the block of argument 0 that point `t` reads is the argument's row `r`. -/
theorem row_0 (c : Dev nD) (t : Fin cfg0.N) (k : Fin 128) (r : Fin 4224) (h : r.val = 128 * t.val + k.val) (x : Fin 2048) :
    iblk m c 0 t (ix2 k x) = (m (c.tc.loc main_arg0)) (ix2 r x) := by
  blk_simp [iblk, idx_val t]; entry_read; pointwise; blk_ext [idx_val t]

/-- Row `k` of the block of argument 1 that point `t` reads is the argument's row `r`. -/
theorem row_1 (c : Dev nD) (t : Fin cfg0.N) (k : Fin 128) (r : Fin 4224) (h : r.val = 128 * t.val + k.val) (x : Fin 2048) :
    iblk m c 1 t (ix2 k x) = (m (c.tc.loc main_arg1)) (ix2 r x) := by
  blk_simp [iblk, idx_val t]; entry_read; pointwise; blk_ext [idx_val t]

/-- Row `k` of the block of argument 2 that point `t` reads is the argument's row `r`. -/
theorem row_2 (c : Dev nD) (t : Fin cfg0.N) (k : Fin 128) (r : Fin 4224) (h : r.val = 128 * t.val + k.val) (x : Fin 2048) :
    iblk m c 2 t (ix2 k x) = (m (c.tc.loc main_arg2)) (ix2 r x) := by
  blk_simp [iblk, idx_val t]; entry_read; pointwise; blk_ext [idx_val t]

/-- Row `k` of the block of argument 3 that point `t` reads is the argument's row `r`. -/
theorem row_3 (c : Dev nD) (t : Fin cfg0.N) (k : Fin 128) (r : Fin 4224) (h : r.val = 128 * t.val + k.val) (x : Fin 2048) :
    iblk m c 3 t (ix2 k x) = (m (c.tc.loc main_arg3)) (ix2 r x) := by
  blk_simp [iblk, idx_val t]; entry_read; pointwise; blk_ext [idx_val t]

/-- Every point reads the whole of argument 4. -/
theorem gain_4 (c : Dev nD) (t : Fin cfg0.N) (x : Fin 2048) :
    iblk m c 4 t (ix2 0 x) = (m (c.tc.loc main_arg4)) (ix2 0 x) := by
  blk_simp [iblk, idx_val t]; entry_read; pointwise; blk_ext [idx_val t]

/-- Every point reads the whole of argument 5. -/
theorem gain_5 (c : Dev nD) (t : Fin cfg0.N) (x : Fin 2048) :
    iblk m c 5 t (ix2 0 x) = (m (c.tc.loc main_arg5)) (ix2 0 x) := by
  blk_simp [iblk, idx_val t]; entry_read; pointwise; blk_ext [idx_val t]

/-- The row of the array that entry `y` of result window 6's block at point `t` is. -/
theorem emb_6 (t : Fin cfg0.N) (y : S128x2048.Idx) :
    ((((cfg0.win 6).blk t).view.emb y) 0).val = 128 * t.val + (y 0).val := by
  blk_simp [idx_val t]; omega

/-- The entry of argument 0's block at an index of result window 6. -/
theorem entry_6_0 (c : Dev nD) (t : Fin cfg0.N) (y : S128x2048.Idx) :
    iblk m c 0 t y = (m (c.tc.loc main_arg0)) (((cfg0.win 6).blk t).view.emb y) := by
  blk_simp [iblk, idx_val t]; entry_read; pointwise; blk_ext [idx_val t]

/-- The entry of argument 1's block at an index of result window 6. -/
theorem entry_6_1 (c : Dev nD) (t : Fin cfg0.N) (y : S128x2048.Idx) :
    iblk m c 1 t y = (m (c.tc.loc main_arg1)) (((cfg0.win 6).blk t).view.emb y) := by
  blk_simp [iblk, idx_val t]; entry_read; pointwise; blk_ext [idx_val t]

/-- The entry of argument 2's block at an index of result window 6. -/
theorem entry_6_2 (c : Dev nD) (t : Fin cfg0.N) (y : S128x2048.Idx) :
    iblk m c 2 t y = (m (c.tc.loc main_arg2)) (((cfg0.win 6).blk t).view.emb y) := by
  blk_simp [iblk, idx_val t]; entry_read; pointwise; blk_ext [idx_val t]

/-- The entry of argument 3's block at an index of result window 6. -/
theorem entry_6_3 (c : Dev nD) (t : Fin cfg0.N) (y : S128x2048.Idx) :
    iblk m c 3 t y = (m (c.tc.loc main_arg3)) (((cfg0.win 6).blk t).view.emb y) := by
  blk_simp [iblk, idx_val t]; entry_read; pointwise; blk_ext [idx_val t]

/-- Argument 4 at an index of result window 6. -/
theorem col_6_4 (c : Dev nD) (t : Fin cfg0.N) (y : S128x2048.Idx) :
    iblk m c 4 t (ix2 0 (y 1)) = (m (c.tc.loc main_arg4)) (ix2 0 ((((cfg0.win 6).blk t).view.emb y) 1)) := by
  blk_simp [iblk, idx_val t]; entry_read; pointwise; blk_ext [idx_val t]

/-- Argument 5 at an index of result window 6. -/
theorem col_6_5 (c : Dev nD) (t : Fin cfg0.N) (y : S128x2048.Idx) :
    iblk m c 5 t (ix2 0 (y 1)) = (m (c.tc.loc main_arg5)) (ix2 0 ((((cfg0.win 6).blk t).view.emb y) 1)) := by
  blk_simp [iblk, idx_val t]; entry_read; pointwise; blk_ext [idx_val t]

/-- What a point leaves in result window 6. -/
theorem point_6 (c : Dev nD) (t : Fin cfg0.N) (y : S128x2048.Idx) :
    (outsAt0 m c t.val t.isLt).1 y = k0_pay7 (iblk m c 2 t) (k0_pay6 (iblk m c 0 t) (iblk m c 3 t) (iblk m c 5 t)) y := by
  by_cases h0 : t.val % 33 = 0
  · rw [outsAt0_A m c t h0]; frame_out
  · rw [outsAt0_B m c t h0]; frame_out

/-- The kernel's result 0 is the reference's. -/
theorem final_6 (c : Dev nD) : (dats m 0 c).arrAt 6 (cfgs 0).N = refDmid (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 6 _ (by decide +kernel) fun t hf y => ?_
  blk_simp; rw [after0_6]
  refine (point_6 m c t y).trans ?_
  pointwise [k0_pay3, k0_pay4, k0_pay5, k0_pay6, k0_pay7, k0_pay8, k0_pay9, k0_pay10, k0_pay11, refDmid]
  have e0 := entry_6_0 m c t y
  have e1 := entry_6_1 m c t y
  have e2 := entry_6_2 m c t y
  have e3 := entry_6_3 m c t y
  have e4 := col_6_4 m c t y
  have e5 := col_6_5 m c t y
  have r0 := row_0 m c t (y 0) ((((cfg0.win 6).blk t).view.emb y) 0) (emb_6 t y)
  have r1 := row_1 m c t (y 0) ((((cfg0.win 6).blk t).view.emb y) 0) (emb_6 t y)
  have r2 := row_2 m c t (y 0) ((((cfg0.win 6).blk t).view.emb y) 0) (emb_6 t y)
  have r3 := row_3 m c t (y 0) ((((cfg0.win 6).blk t).view.emb y) 0) (emb_6 t y)
  have g0 := gain_4 m c t
  have g1 := gain_5 m c t
  simp only [e0, e1, e2, e3, e4, e5]
  try simp only [r0, r1, r2, r3, g0, g1]
  try rfl

/-- The row of the array that entry `y` of result window 7's block at point `t` is. -/
theorem emb_7 (t : Fin cfg0.N) (y : S128x2048.Idx) :
    ((((cfg0.win 7).blk t).view.emb y) 0).val = 128 * t.val + (y 0).val := by
  blk_simp [idx_val t]; omega

/-- The entry of argument 0's block at an index of result window 7. -/
theorem entry_7_0 (c : Dev nD) (t : Fin cfg0.N) (y : S128x2048.Idx) :
    iblk m c 0 t y = (m (c.tc.loc main_arg0)) (((cfg0.win 7).blk t).view.emb y) := by
  blk_simp [iblk, idx_val t]; entry_read; pointwise; blk_ext [idx_val t]

/-- The entry of argument 1's block at an index of result window 7. -/
theorem entry_7_1 (c : Dev nD) (t : Fin cfg0.N) (y : S128x2048.Idx) :
    iblk m c 1 t y = (m (c.tc.loc main_arg1)) (((cfg0.win 7).blk t).view.emb y) := by
  blk_simp [iblk, idx_val t]; entry_read; pointwise; blk_ext [idx_val t]

/-- The entry of argument 2's block at an index of result window 7. -/
theorem entry_7_2 (c : Dev nD) (t : Fin cfg0.N) (y : S128x2048.Idx) :
    iblk m c 2 t y = (m (c.tc.loc main_arg2)) (((cfg0.win 7).blk t).view.emb y) := by
  blk_simp [iblk, idx_val t]; entry_read; pointwise; blk_ext [idx_val t]

/-- The entry of argument 3's block at an index of result window 7. -/
theorem entry_7_3 (c : Dev nD) (t : Fin cfg0.N) (y : S128x2048.Idx) :
    iblk m c 3 t y = (m (c.tc.loc main_arg3)) (((cfg0.win 7).blk t).view.emb y) := by
  blk_simp [iblk, idx_val t]; entry_read; pointwise; blk_ext [idx_val t]

/-- Argument 4 at an index of result window 7. -/
theorem col_7_4 (c : Dev nD) (t : Fin cfg0.N) (y : S128x2048.Idx) :
    iblk m c 4 t (ix2 0 (y 1)) = (m (c.tc.loc main_arg4)) (ix2 0 ((((cfg0.win 7).blk t).view.emb y) 1)) := by
  blk_simp [iblk, idx_val t]; entry_read; pointwise; blk_ext [idx_val t]

/-- Argument 5 at an index of result window 7. -/
theorem col_7_5 (c : Dev nD) (t : Fin cfg0.N) (y : S128x2048.Idx) :
    iblk m c 5 t (ix2 0 (y 1)) = (m (c.tc.loc main_arg5)) (ix2 0 ((((cfg0.win 7).blk t).view.emb y) 1)) := by
  blk_simp [iblk, idx_val t]; entry_read; pointwise; blk_ext [idx_val t]

/-- What a point leaves in result window 7. -/
theorem point_7 (c : Dev nD) (t : Fin cfg0.N) (y : S128x2048.Idx) :
    (outsAt0 m c t.val t.isLt).2.1 y = k0_pay11 (iblk m c 1 t) (iblk m c 2 t) (iblk m c 4 t) (k0_pay6 (iblk m c 0 t) (iblk m c 3 t) (iblk m c 5 t)) y := by
  by_cases h0 : t.val % 33 = 0
  · rw [outsAt0_A m c t h0]; frame_out
  · rw [outsAt0_B m c t h0]; frame_out

/-- The kernel's result 1 is the reference's. -/
theorem final_7 (c : Dev nD) : (dats m 0 c).arrAt 7 (cfgs 0).N = refDmix (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 7 _ (by decide +kernel) fun t hf y => ?_
  blk_simp; rw [after0_7]
  refine (point_7 m c t y).trans ?_
  pointwise [k0_pay3, k0_pay4, k0_pay5, k0_pay6, k0_pay7, k0_pay8, k0_pay9, k0_pay10, k0_pay11, refDmix]
  have e0 := entry_7_0 m c t y
  have e1 := entry_7_1 m c t y
  have e2 := entry_7_2 m c t y
  have e3 := entry_7_3 m c t y
  have e4 := col_7_4 m c t y
  have e5 := col_7_5 m c t y
  have r0 := row_0 m c t (y 0) ((((cfg0.win 7).blk t).view.emb y) 0) (emb_7 t y)
  have r1 := row_1 m c t (y 0) ((((cfg0.win 7).blk t).view.emb y) 0) (emb_7 t y)
  have r2 := row_2 m c t (y 0) ((((cfg0.win 7).blk t).view.emb y) 0) (emb_7 t y)
  have r3 := row_3 m c t (y 0) ((((cfg0.win 7).blk t).view.emb y) 0) (emb_7 t y)
  have g0 := gain_4 m c t
  have g1 := gain_5 m c t
  simp only [e0, e1, e2, e3, e4, e5]
  try simp only [r0, r1, r2, r3, g0, g1]
  try rfl

/-- What point `t` adds to an entry of result window 8: the sum over its rows. -/
def part_8 (c : Dev nD) (t : Fin cfg0.N) (j : S1x2048.Idx) : EReal :=
  k0_pay10 (iblk m c 1 t) (iblk m c 2 t) (k0_pay6 (iblk m c 0 t) (iblk m c 3 t) (iblk m c 5 t)) j

theorem first_8 (c : Dev nD) (t : Fin cfg0.N) (h0 : t.val % 33 = 0) (j : S1x2048.Idx) :
    (outsAt0 m c t.val t.isLt).2.2.1 j = (0 : EReal) + part_8 m c t j := by
  rw [outsAt0_A m c t h0]
  frame_out
  pointwise [k0_pay1, k0_pay12, k0_pay13]
  rfl

theorem next_8 (c : Dev nD) (t : Fin cfg0.N) (h0 : ¬ t.val % 33 = 0) (j : S1x2048.Idx) :
    (outsAt0 m c t.val t.isLt).2.2.1 j
      = (outsAt0 m c (t.val - 1) (Nat.lt_of_le_of_lt (Nat.sub_le _ _) t.isLt)).2.2.1 j + part_8 m c t j := by
  rw [outsAt0_B m c t h0]
  frame_out
  try rw [read_unread_whole]
  pointwise [k0_pay1]
  rfl

/-- The last point leaves the sum over all points. -/
theorem total_8 (c : Dev nD) (t : Fin cfg0.N) (h1 : t.val % 33 = 32) (j : S1x2048.Idx) :
    (outsAt0 m c t.val t.isLt).2.2.1 j
      = ∑ s : Fin 33, part_8 m c ⟨33 * (t.val / 33) + s.val, Pipeline.run_point_lt_of_flush t h1 s⟩ j :=
  (Pipeline.eq_sum_fin_of_reset_step_apply_of_flush (fun n h => (outsAt0 m c n h).2.2.1) 33 (fun _ => (0 : EReal)) _
    (fun t h j => first_8 m c t h j) (fun t h j => next_8 m c t h j) t h1 j).trans (zero_add (_ : EReal))

/-- The sum over all points is the reference's entry. -/
theorem sum_8 (c : Dev nD) (t : Fin cfg0.N) (h1 : t.val % 33 = 32) (j : S1x2048.Idx) :
    (outsAt0 m c t.val t.isLt).2.2.1 j = refDg1 (m (c.tc.loc main_arg0)) (m (c.tc.loc main_arg1)) (m (c.tc.loc main_arg2)) (m (c.tc.loc main_arg3)) (m (c.tc.loc main_arg4)) (m (c.tc.loc main_arg5)) j := by
  rw [total_8 m c t h1]
  have ht : t.val / 33 = 0 := Nat.div_eq_of_lt (lt_of_lt_of_eq t.isLt N_0)
  pointwise [part_8, k0_pay3, k0_pay4, k0_pay5, k0_pay6, k0_pay7, k0_pay8, k0_pay9, k0_pay10, k0_pay11, refDg1]
  refine Fin.sum_mul_add_congr fun s k hl => ?_
  have hr : s.val * 128 + k.val = 128 * (33 * (t.val / 33) + s.val) + k.val := by omega
  have r0 := row_0 m c ⟨33 * (t.val / 33) + s.val, Pipeline.run_point_lt_of_flush t h1 s⟩ k ⟨s.val * 128 + k.val, hl⟩ hr
  have r1 := row_1 m c ⟨33 * (t.val / 33) + s.val, Pipeline.run_point_lt_of_flush t h1 s⟩ k ⟨s.val * 128 + k.val, hl⟩ hr
  have r2 := row_2 m c ⟨33 * (t.val / 33) + s.val, Pipeline.run_point_lt_of_flush t h1 s⟩ k ⟨s.val * 128 + k.val, hl⟩ hr
  have r3 := row_3 m c ⟨33 * (t.val / 33) + s.val, Pipeline.run_point_lt_of_flush t h1 s⟩ k ⟨s.val * 128 + k.val, hl⟩ hr
  have g0 := gain_4 m c ⟨33 * (t.val / 33) + s.val, Pipeline.run_point_lt_of_flush t h1 s⟩
  have g1 := gain_5 m c ⟨33 * (t.val / 33) + s.val, Pipeline.run_point_lt_of_flush t h1 s⟩
  simp only [r0, r1, r2, r3, g0, g1]
  have q0 : iblk m c 0 ⟨33 * (t.val / 33) + s.val, Pipeline.run_point_lt_of_flush t h1 s⟩ (ix2 k (j 1)) = (m (c.tc.loc main_arg0)) (ix2 ⟨s.val * 128 + k.val, hl⟩ (j 1)) := r0 (j 1)
  have q1 : iblk m c 1 ⟨33 * (t.val / 33) + s.val, Pipeline.run_point_lt_of_flush t h1 s⟩ (ix2 k (j 1)) = (m (c.tc.loc main_arg1)) (ix2 ⟨s.val * 128 + k.val, hl⟩ (j 1)) := r1 (j 1)
  have q2 : iblk m c 2 ⟨33 * (t.val / 33) + s.val, Pipeline.run_point_lt_of_flush t h1 s⟩ (ix2 k (j 1)) = (m (c.tc.loc main_arg2)) (ix2 ⟨s.val * 128 + k.val, hl⟩ (j 1)) := r2 (j 1)
  have q3 : iblk m c 3 ⟨33 * (t.val / 33) + s.val, Pipeline.run_point_lt_of_flush t h1 s⟩ (ix2 k (j 1)) = (m (c.tc.loc main_arg3)) (ix2 ⟨s.val * 128 + k.val, hl⟩ (j 1)) := r3 (j 1)
  have p0 : iblk m c 4 ⟨33 * (t.val / 33) + s.val, Pipeline.run_point_lt_of_flush t h1 s⟩ (ix2 0 (j 1)) = (m (c.tc.loc main_arg4)) (ix2 0 (j 1)) := g0 (j 1)
  have p1 : iblk m c 5 ⟨33 * (t.val / 33) + s.val, Pipeline.run_point_lt_of_flush t h1 s⟩ (ix2 0 (j 1)) = (m (c.tc.loc main_arg5)) (ix2 0 (j 1)) := g1 (j 1)
  simp only [q0, q1, q2, q3, p0, p1]

/-- The kernel's accumulated result 0 is the reference's. -/
theorem final_8 (c : Dev nD) : (dats m 0 c).arrAt 8 (cfgs 0).N = refDg1 (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 8 _ (by decide +kernel) fun t hf y => ?_
  have hy : (y : S1x2048.Idx) = ((cfg0.win 8).blk t).view.emb y := by blk_ext [idx_val t]
  blk_simp; rw [after0_8]
  exact (sum_8 m c t ((flush0_8 t).mp hf) y).trans (congrArg _ hy)

/-- What point `t` adds to an entry of result window 9: the sum over its rows. -/
def part_9 (c : Dev nD) (t : Fin cfg0.N) (j : S1x2048.Idx) : EReal :=
  k0_pay5 (iblk m c 0 t) (iblk m c 3 t) j

theorem first_9 (c : Dev nD) (t : Fin cfg0.N) (h0 : t.val % 33 = 0) (j : S1x2048.Idx) :
    (outsAt0 m c t.val t.isLt).2.2.2 j = (0 : EReal) + part_9 m c t j := by
  rw [outsAt0_A m c t h0]
  frame_out
  pointwise [k0_pay2, k0_pay12, k0_pay13]
  rfl

theorem next_9 (c : Dev nD) (t : Fin cfg0.N) (h0 : ¬ t.val % 33 = 0) (j : S1x2048.Idx) :
    (outsAt0 m c t.val t.isLt).2.2.2 j
      = (outsAt0 m c (t.val - 1) (Nat.lt_of_le_of_lt (Nat.sub_le _ _) t.isLt)).2.2.2 j + part_9 m c t j := by
  rw [outsAt0_B m c t h0]
  frame_out
  try rw [read_unread_whole]
  pointwise [k0_pay2]
  rfl

/-- The last point leaves the sum over all points. -/
theorem total_9 (c : Dev nD) (t : Fin cfg0.N) (h1 : t.val % 33 = 32) (j : S1x2048.Idx) :
    (outsAt0 m c t.val t.isLt).2.2.2 j
      = ∑ s : Fin 33, part_9 m c ⟨33 * (t.val / 33) + s.val, Pipeline.run_point_lt_of_flush t h1 s⟩ j :=
  (Pipeline.eq_sum_fin_of_reset_step_apply_of_flush (fun n h => (outsAt0 m c n h).2.2.2) 33 (fun _ => (0 : EReal)) _
    (fun t h j => first_9 m c t h j) (fun t h j => next_9 m c t h j) t h1 j).trans (zero_add (_ : EReal))

/-- The sum over all points is the reference's entry. -/
theorem sum_9 (c : Dev nD) (t : Fin cfg0.N) (h1 : t.val % 33 = 32) (j : S1x2048.Idx) :
    (outsAt0 m c t.val t.isLt).2.2.2 j = refDg2 (m (c.tc.loc main_arg0)) (m (c.tc.loc main_arg1)) (m (c.tc.loc main_arg2)) (m (c.tc.loc main_arg3)) (m (c.tc.loc main_arg4)) (m (c.tc.loc main_arg5)) j := by
  rw [total_9 m c t h1]
  have ht : t.val / 33 = 0 := Nat.div_eq_of_lt (lt_of_lt_of_eq t.isLt N_0)
  pointwise [part_9, k0_pay3, k0_pay4, k0_pay5, k0_pay6, k0_pay7, k0_pay8, k0_pay9, k0_pay10, k0_pay11, refDg2]
  refine Fin.sum_mul_add_congr fun s k hl => ?_
  have hr : s.val * 128 + k.val = 128 * (33 * (t.val / 33) + s.val) + k.val := by omega
  have r0 := row_0 m c ⟨33 * (t.val / 33) + s.val, Pipeline.run_point_lt_of_flush t h1 s⟩ k ⟨s.val * 128 + k.val, hl⟩ hr
  have r1 := row_1 m c ⟨33 * (t.val / 33) + s.val, Pipeline.run_point_lt_of_flush t h1 s⟩ k ⟨s.val * 128 + k.val, hl⟩ hr
  have r2 := row_2 m c ⟨33 * (t.val / 33) + s.val, Pipeline.run_point_lt_of_flush t h1 s⟩ k ⟨s.val * 128 + k.val, hl⟩ hr
  have r3 := row_3 m c ⟨33 * (t.val / 33) + s.val, Pipeline.run_point_lt_of_flush t h1 s⟩ k ⟨s.val * 128 + k.val, hl⟩ hr
  have g0 := gain_4 m c ⟨33 * (t.val / 33) + s.val, Pipeline.run_point_lt_of_flush t h1 s⟩
  have g1 := gain_5 m c ⟨33 * (t.val / 33) + s.val, Pipeline.run_point_lt_of_flush t h1 s⟩
  simp only [r0, r1, r2, r3, g0, g1]
  have q0 : iblk m c 0 ⟨33 * (t.val / 33) + s.val, Pipeline.run_point_lt_of_flush t h1 s⟩ (ix2 k (j 1)) = (m (c.tc.loc main_arg0)) (ix2 ⟨s.val * 128 + k.val, hl⟩ (j 1)) := r0 (j 1)
  have q1 : iblk m c 1 ⟨33 * (t.val / 33) + s.val, Pipeline.run_point_lt_of_flush t h1 s⟩ (ix2 k (j 1)) = (m (c.tc.loc main_arg1)) (ix2 ⟨s.val * 128 + k.val, hl⟩ (j 1)) := r1 (j 1)
  have q2 : iblk m c 2 ⟨33 * (t.val / 33) + s.val, Pipeline.run_point_lt_of_flush t h1 s⟩ (ix2 k (j 1)) = (m (c.tc.loc main_arg2)) (ix2 ⟨s.val * 128 + k.val, hl⟩ (j 1)) := r2 (j 1)
  have q3 : iblk m c 3 ⟨33 * (t.val / 33) + s.val, Pipeline.run_point_lt_of_flush t h1 s⟩ (ix2 k (j 1)) = (m (c.tc.loc main_arg3)) (ix2 ⟨s.val * 128 + k.val, hl⟩ (j 1)) := r3 (j 1)
  have p0 : iblk m c 4 ⟨33 * (t.val / 33) + s.val, Pipeline.run_point_lt_of_flush t h1 s⟩ (ix2 0 (j 1)) = (m (c.tc.loc main_arg4)) (ix2 0 (j 1)) := g0 (j 1)
  have p1 : iblk m c 5 ⟨33 * (t.val / 33) + s.val, Pipeline.run_point_lt_of_flush t h1 s⟩ (ix2 0 (j 1)) = (m (c.tc.loc main_arg5)) (ix2 0 (j 1)) := g1 (j 1)
  simp only [q0, q1, q2, q3, p0, p1]

/-- The kernel's accumulated result 1 is the reference's. -/
theorem final_9 (c : Dev nD) : (dats m 0 c).arrAt 9 (cfgs 0).N = refDg2 (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 9 _ (by decide +kernel) fun t hf y => ?_
  have hy : (y : S1x2048.Idx) = ((cfg0.win 9).blk t).view.emb y := by blk_ext [idx_val t]
  blk_simp; rw [after0_9]
  exact (sum_9 m c t ((flush0_9 t).mp hf) y).trans (congrArg _ hy)

end Cert.Kernel24Ideal.Value
-- ==== Proof.RunPostMixB.lean ====
/- The run of the reference `reference24`, its results under the names that the values use. -/
module

public import proofs.«01_k».proof.Proof.ValuePostMixB
public import Idealize.ShloMosaic.Lib.Pipeline.ReadBack
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference24Ideal.Value
open Cert.Reference24Ideal Cert.Reference24Ideal.Gen

/-- Every run of the reference ends with the named results, its arguments unchanged. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v34) = refDmid (m (c.tc.loc main_arg0)) (m (c.tc.loc main_arg1)) (m (c.tc.loc main_arg2)) (m (c.tc.loc main_arg3)) (m (c.tc.loc main_arg4)) (m (c.tc.loc main_arg5))
      ∧ r.2.mem (c.tc.loc main_v69) = refDmix (m (c.tc.loc main_arg0)) (m (c.tc.loc main_arg1)) (m (c.tc.loc main_arg2)) (m (c.tc.loc main_arg3)) (m (c.tc.loc main_arg4)) (m (c.tc.loc main_arg5))
      ∧ r.2.mem (c.tc.loc main_v52) = refDg1 (m (c.tc.loc main_arg0)) (m (c.tc.loc main_arg1)) (m (c.tc.loc main_arg2)) (m (c.tc.loc main_arg3)) (m (c.tc.loc main_arg4)) (m (c.tc.loc main_arg5))
      ∧ r.2.mem (c.tc.loc main_v17) = refDg2 (m (c.tc.loc main_arg0)) (m (c.tc.loc main_arg1)) (m (c.tc.loc main_arg2)) (m (c.tc.loc main_arg3)) (m (c.tc.loc main_arg4)) (m (c.tc.loc main_arg5))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) :=
  (θ_run defs _ _).mono (fun _ h c => ⟨(h c).1, (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩) (run m ρ)

end Cert.Reference24Ideal.Value

end
-- ==== Proof.ValueMerge.lean ====
/- The values of the three heads, each normed, side by side (the kernel `merge`). -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel25Ideal.Value
public import proofs.«01_k».proof.Proof.Gen.Reference25Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference25Ideal.Value
open Cert.Reference25Ideal Cert.Reference25Ideal.Gen

/-- The three normed heads side by side, as the reference computes them. -/
def refMerged (a0 : FVec Ideal S4224x1024 .f32) (a1 a2 : FVec Ideal S4224x512 .f32) (a3 : FVec Ideal S1x2048 .f32) : FVec Ideal S4224x2048 .bf16 :=
  truncf .bf16 ((concatenate S4224x2048 1 [⟨S4224x1024, ((mulf (mulf a0 (broadcastInDim S4224x1024 ![0, 1] bcast_S4224x1_S4224x1024_0_1 (Host.rsqrt (addf (Host.divf (broadcastInDim S4224x1 ![0] bcast_S4224_S4224x1_0 (Host.reduceAdd (mulf a0 a0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 (extractStridedSlice S1x1024 ![0, 0] a3 slices_S1x2048_S1x1024_0_0))) : (⟨S4224x1024, .f32⟩ : BufTy).Contents (Elt Ideal))⟩, ⟨S4224x512, ((mulf (mulf a1 (broadcastInDim S4224x512 ![0, 1] bcast_S4224x1_S4224x512_0_1 (Host.rsqrt (addf (Host.divf (broadcastInDim S4224x1 ![0] bcast_S4224_S4224x1_0 (Host.reduceAdd (mulf a1 a1) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32)))))) (broadcastInDim S4224x512 ![0, 1] bcast_S1x512_S4224x512_0_1 (extractStridedSlice S1x512 ![0, 1024] a3 slices_S1x2048_S1x512_0_1024))) : (⟨S4224x512, .f32⟩ : BufTy).Contents (Elt Ideal))⟩, ⟨S4224x512, ((mulf (mulf a2 (broadcastInDim S4224x512 ![0, 1] bcast_S4224x1_S4224x512_0_1 (Host.rsqrt (addf (Host.divf (broadcastInDim S4224x1 ![0] bcast_S4224_S4224x1_0 (Host.reduceAdd (mulf a2 a2) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32)))))) (broadcastInDim S4224x512 ![0, 1] bcast_S1x512_S4224x512_0_1 (extractStridedSlice S1x512 ![0, 1536] a3 slices_S1x2048_S1x512_0_1536))) : (⟨S4224x512, .f32⟩ : BufTy).Contents (Elt Ideal))⟩] concatenates_S4224x1024_S4224x512_S4224x512_S4224x2048_d1 : (⟨S4224x2048, .f32⟩ : BufTy).Contents (Elt Ideal))) bitsLt_bf16_f32

end Cert.Reference25Ideal.Value

namespace Cert.Kernel25Ideal.Value

open Cert.Kernel25Ideal Cert.Kernel25Ideal.Gen Cert.Reference25Ideal.Value

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![t.val, 0] :=
  (by decide +kernel : ∀ t : Fin grid0.N, _)

/-- Row `k` of the block of argument 0 that point `t` reads is the argument's row `r`. -/
theorem row_0 (c : Dev nD) (t : Fin cfg0.N) (k : Fin 384) (r : Fin 4224) (h : r.val = 384 * t.val + k.val) (x : Fin 1024) :
    iblk m c 0 t (ix2 k x) = (m (c.tc.loc main_arg0)) (ix2 r x) := by
  blk_simp [iblk, idx_val t]; entry_read; pointwise; blk_ext [idx_val t]

/-- Row `k` of the block of argument 1 that point `t` reads is the argument's row `r`. -/
theorem row_1 (c : Dev nD) (t : Fin cfg0.N) (k : Fin 384) (r : Fin 4224) (h : r.val = 384 * t.val + k.val) (x : Fin 512) :
    iblk m c 1 t (ix2 k x) = (m (c.tc.loc main_arg1)) (ix2 r x) := by
  blk_simp [iblk, idx_val t]; entry_read; pointwise; blk_ext [idx_val t]

/-- Row `k` of the block of argument 2 that point `t` reads is the argument's row `r`. -/
theorem row_2 (c : Dev nD) (t : Fin cfg0.N) (k : Fin 384) (r : Fin 4224) (h : r.val = 384 * t.val + k.val) (x : Fin 512) :
    iblk m c 2 t (ix2 k x) = (m (c.tc.loc main_arg2)) (ix2 r x) := by
  blk_simp [iblk, idx_val t]; entry_read; pointwise; blk_ext [idx_val t]

/-- Every point reads this part of the gain whole. -/
theorem gain_3 (c : Dev nD) (t : Fin cfg0.N) (x : Fin 1024) :
    iblk m c 3 t (ix2 0 x) = (m (c.tc.loc main_arg3)) (ix2 0 ⟨x.val, by omega⟩) := by
  blk_simp [iblk, idx_val t]; entry_read; pointwise; blk_ext [idx_val t]

/-- Every point reads this part of the gain whole. -/
theorem gain_4 (c : Dev nD) (t : Fin cfg0.N) (x : Fin 512) :
    iblk m c 4 t (ix2 0 x) = (m (c.tc.loc main_arg3)) (ix2 0 ⟨1024 + x.val, by omega⟩) := by
  blk_simp [iblk, idx_val t]; entry_read; pointwise; blk_ext [idx_val t]

/-- Every point reads this part of the gain whole. -/
theorem gain_5 (c : Dev nD) (t : Fin cfg0.N) (x : Fin 512) :
    iblk m c 5 t (ix2 0 x) = (m (c.tc.loc main_arg3)) (ix2 0 ⟨1536 + x.val, by omega⟩) := by
  blk_simp [iblk, idx_val t]; entry_read; pointwise; blk_ext [idx_val t]

/-- The column of an entry of the result window's block. -/
theorem col_6 (t : Fin cfg0.N) (y : S384x2048.Idx) : (((cfg0.win 6).blk t).view.emb y) 1 = y 1 := by
  refine Fin.ext ?_
  blk_simp [idx_val t]

/-- The row of an entry of the result window's block. -/
theorem emb_6 (t : Fin cfg0.N) (y : S384x2048.Idx) : ((((cfg0.win 6).blk t).view.emb y) 0).val = 384 * t.val + (y 0).val := by
  blk_simp [idx_val t]; omega

/-- The kernel's result is the reference's. -/
theorem final (c : Dev nD) : (dats m 0 c).arrAt 6 (cfgs 0).N = refMerged (m (c.tc.loc main_arg0)) (m (c.tc.loc main_arg1)) (m (c.tc.loc main_arg2)) (m (c.tc.loc main_arg3)) := by
  refine (dats m 0 c).arrAt_eq_of_covers 6 _ (by decide +kernel) fun t hf y => ?_
  blk_simp; rw [after0_6]; frame_out
  have hc := col_6 t y
  have hr := emb_6 t y
  revert hc hr
  generalize ((cfg0.win 6).blk t).view.emb y = z
  intro hc hr
  have r0 := row_0 m c t (y 0) (z 0) hr
  have r1 := row_1 m c t (y 0) (z 0) hr
  have r2 := row_2 m c t (y 0) (z 0) hr
  have g3 := gain_3 m c t
  have g4 := gain_4 m c t
  have g5 := gain_5 m c t
  pointwise [k0_pay1, k0_pay2, k0_pay3, k0_pay4, k0_pay5, refMerged]
  simp only [hc, r0, r1, r2, g3, g4, g5]
  rfl

end Cert.Kernel25Ideal.Value
-- ==== Proof.RunMerge.lean ====
/- The run of the reference `reference25`, its results under the names that the values use. -/
module

public import proofs.«01_k».proof.Proof.ValueMerge
public import Idealize.ShloMosaic.Lib.Pipeline.ReadBack
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference25Ideal.Value
open Cert.Reference25Ideal Cert.Reference25Ideal.Gen

/-- Every run of the reference ends with the named results, its arguments unchanged. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v40) = refMerged (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨(h c).1, (h c).2.1, (h c).2.2.1, (h c).2.2.2.1, (h c).2.2.2.2⟩) (run m ρ)

end Cert.Reference25Ideal.Value

end
-- ==== Proof.ValueMergeB.lean ====
/- The values of the gradients of the three heads and of their gains (the kernel `merge_b`). -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel26Ideal.Value
public import proofs.«01_k».proof.Proof.Gen.Reference26Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference26Ideal.Value
open Cert.Reference26Ideal Cert.Reference26Ideal.Gen

/-- The gradient of the attention head, as the reference computes it. -/
def refDattn (a0 : FVec Ideal S4224x1024 .f32) (a1 a2 : FVec Ideal S4224x512 .f32) (a3 : FVec Ideal S4224x2048 .f32) (a4 : FVec Ideal S1x2048 .f32) : FVec Ideal S4224x1024 .f32 :=
  addf (addf (mulf (mulf (extractStridedSlice S4224x1024 ![0, 0] a3 slices_S4224x2048_S4224x1024_0_0) (broadcastInDim S4224x1024 ![0, 1] bcast_S1x1024_S4224x1024_0_1 (extractStridedSlice S1x1024 ![0, 0] a4 slices_S1x2048_S1x1024_0_0))) (broadcastInDim S4224x1024 ![0, 1] bcast_S4224x1_S4224x1024_0_1 (Host.rsqrt (addf (Host.divf (broadcastInDim S4224x1 ![0] bcast_S4224_S4224x1_0 (Host.reduceAdd (mulf a0 a0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (mulf a0 (broadcastInDim S4224x1024 ![0] bcast_S4224_S4224x1024_0 (Host.reduceAdd (Host.divf (mulf (shapeCast _ (Host.reduceAdd (mulf a0 (mulf (extractStridedSlice S4224x1024 ![0, 0] a3 slices_S4224x2048_S4224x1024_0_0) (broadcastInDim S4224x1024 ![0, 1] bcast_S1x1024_S4224x1024_0_1 (extractStridedSlice S1x1024 ![0, 0] a4 slices_S1x2048_S1x1024_0_0)))) (constant S_ .f32 0x00000000#32) reducesTo_S4224x1024_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a0 a0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))) (addf (Host.divf (broadcastInDim S4224x1 ![0] bcast_S4224_S4224x1_0 (Host.reduceAdd (mulf a0 a0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1 ![] bcast_S_S4224x1 (constant S_ .f32 0x44800000#32))) (constant S_ .f32 0x00000000#32) reducesTo_S4224x1_S4224_d1 h_S_)))) (mulf (broadcastInDim S4224x1024 ![0] bcast_S4224_S4224x1024_0 (Host.reduceAdd (Host.divf (mulf (shapeCast _ (Host.reduceAdd (mulf a0 (mulf (extractStridedSlice S4224x1024 ![0, 0] a3 slices_S4224x2048_S4224x1024_0_0) (broadcastInDim S4224x1024 ![0, 1] bcast_S1x1024_S4224x1024_0_1 (extractStridedSlice S1x1024 ![0, 0] a4 slices_S1x2048_S1x1024_0_0)))) (constant S_ .f32 0x00000000#32) reducesTo_S4224x1024_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a0 a0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))) (addf (Host.divf (broadcastInDim S4224x1 ![0] bcast_S4224_S4224x1_0 (Host.reduceAdd (mulf a0 a0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1 ![] bcast_S_S4224x1 (constant S_ .f32 0x44800000#32))) (constant S_ .f32 0x00000000#32) reducesTo_S4224x1_S4224_d1 h_S_)) a0)

end Cert.Reference26Ideal.Value

namespace Cert.Reference26Ideal.Value
open Cert.Reference26Ideal Cert.Reference26Ideal.Gen

/-- The gradient of the pooled head, as the reference computes it. -/
def refDpool (a0 : FVec Ideal S4224x1024 .f32) (a1 a2 : FVec Ideal S4224x512 .f32) (a3 : FVec Ideal S4224x2048 .f32) (a4 : FVec Ideal S1x2048 .f32) : FVec Ideal S4224x512 .f32 :=
  addf (addf (mulf (mulf (extractStridedSlice S4224x512 ![0, 1024] a3 slices_S4224x2048_S4224x512_0_1024) (broadcastInDim S4224x512 ![0, 1] bcast_S1x512_S4224x512_0_1 (extractStridedSlice S1x512 ![0, 1024] a4 slices_S1x2048_S1x512_0_1024))) (broadcastInDim S4224x512 ![0, 1] bcast_S4224x1_S4224x512_0_1 (Host.rsqrt (addf (Host.divf (broadcastInDim S4224x1 ![0] bcast_S4224_S4224x1_0 (Host.reduceAdd (mulf a1 a1) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32)))))) (mulf a1 (broadcastInDim S4224x512 ![0] bcast_S4224_S4224x512_0 (Host.reduceAdd (Host.divf (mulf (shapeCast _ (Host.reduceAdd (mulf a1 (mulf (extractStridedSlice S4224x512 ![0, 1024] a3 slices_S4224x2048_S4224x512_0_1024) (broadcastInDim S4224x512 ![0, 1] bcast_S1x512_S4224x512_0_1 (extractStridedSlice S1x512 ![0, 1024] a4 slices_S1x2048_S1x512_0_1024)))) (constant S_ .f32 0x00000000#32) reducesTo_S4224x512_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a1 a1) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32)))) (addf (Host.divf (broadcastInDim S4224x1 ![0] bcast_S4224_S4224x1_0 (Host.reduceAdd (mulf a1 a1) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32)))))) (broadcastInDim S4224x1 ![] bcast_S_S4224x1 (constant S_ .f32 0x44000000#32))) (constant S_ .f32 0x00000000#32) reducesTo_S4224x1_S4224_d1 h_S_)))) (mulf (broadcastInDim S4224x512 ![0] bcast_S4224_S4224x512_0 (Host.reduceAdd (Host.divf (mulf (shapeCast _ (Host.reduceAdd (mulf a1 (mulf (extractStridedSlice S4224x512 ![0, 1024] a3 slices_S4224x2048_S4224x512_0_1024) (broadcastInDim S4224x512 ![0, 1] bcast_S1x512_S4224x512_0_1 (extractStridedSlice S1x512 ![0, 1024] a4 slices_S1x2048_S1x512_0_1024)))) (constant S_ .f32 0x00000000#32) reducesTo_S4224x512_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a1 a1) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32)))) (addf (Host.divf (broadcastInDim S4224x1 ![0] bcast_S4224_S4224x1_0 (Host.reduceAdd (mulf a1 a1) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32)))))) (broadcastInDim S4224x1 ![] bcast_S_S4224x1 (constant S_ .f32 0x44000000#32))) (constant S_ .f32 0x00000000#32) reducesTo_S4224x1_S4224_d1 h_S_)) a1)

end Cert.Reference26Ideal.Value

namespace Cert.Reference26Ideal.Value
open Cert.Reference26Ideal Cert.Reference26Ideal.Gen

/-- The gradient of the convolved head, as the reference computes it. -/
def refDconv (a0 : FVec Ideal S4224x1024 .f32) (a1 a2 : FVec Ideal S4224x512 .f32) (a3 : FVec Ideal S4224x2048 .f32) (a4 : FVec Ideal S1x2048 .f32) : FVec Ideal S4224x512 .f32 :=
  addf (addf (mulf (mulf (extractStridedSlice S4224x512 ![0, 1536] a3 slices_S4224x2048_S4224x512_0_1536) (broadcastInDim S4224x512 ![0, 1] bcast_S1x512_S4224x512_0_1 (extractStridedSlice S1x512 ![0, 1536] a4 slices_S1x2048_S1x512_0_1536))) (broadcastInDim S4224x512 ![0, 1] bcast_S4224x1_S4224x512_0_1 (Host.rsqrt (addf (Host.divf (broadcastInDim S4224x1 ![0] bcast_S4224_S4224x1_0 (Host.reduceAdd (mulf a2 a2) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32)))))) (mulf a2 (broadcastInDim S4224x512 ![0] bcast_S4224_S4224x512_0 (Host.reduceAdd (Host.divf (mulf (shapeCast _ (Host.reduceAdd (mulf a2 (mulf (extractStridedSlice S4224x512 ![0, 1536] a3 slices_S4224x2048_S4224x512_0_1536) (broadcastInDim S4224x512 ![0, 1] bcast_S1x512_S4224x512_0_1 (extractStridedSlice S1x512 ![0, 1536] a4 slices_S1x2048_S1x512_0_1536)))) (constant S_ .f32 0x00000000#32) reducesTo_S4224x512_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a2 a2) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32)))) (addf (Host.divf (broadcastInDim S4224x1 ![0] bcast_S4224_S4224x1_0 (Host.reduceAdd (mulf a2 a2) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32)))))) (broadcastInDim S4224x1 ![] bcast_S_S4224x1 (constant S_ .f32 0x44000000#32))) (constant S_ .f32 0x00000000#32) reducesTo_S4224x1_S4224_d1 h_S_)))) (mulf (broadcastInDim S4224x512 ![0] bcast_S4224_S4224x512_0 (Host.reduceAdd (Host.divf (mulf (shapeCast _ (Host.reduceAdd (mulf a2 (mulf (extractStridedSlice S4224x512 ![0, 1536] a3 slices_S4224x2048_S4224x512_0_1536) (broadcastInDim S4224x512 ![0, 1] bcast_S1x512_S4224x512_0_1 (extractStridedSlice S1x512 ![0, 1536] a4 slices_S1x2048_S1x512_0_1536)))) (constant S_ .f32 0x00000000#32) reducesTo_S4224x512_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a2 a2) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32)))) (addf (Host.divf (broadcastInDim S4224x1 ![0] bcast_S4224_S4224x1_0 (Host.reduceAdd (mulf a2 a2) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32)))))) (broadcastInDim S4224x1 ![] bcast_S_S4224x1 (constant S_ .f32 0x44000000#32))) (constant S_ .f32 0x00000000#32) reducesTo_S4224x1_S4224_d1 h_S_)) a2)

end Cert.Reference26Ideal.Value

namespace Cert.Reference26Ideal.Value
open Cert.Reference26Ideal Cert.Reference26Ideal.Gen

/-- The gradient of the first part of the gain, as the reference computes it. -/
def refGattn (a0 : FVec Ideal S4224x1024 .f32) (a1 a2 : FVec Ideal S4224x512 .f32) (a3 : FVec Ideal S4224x2048 .f32) (a4 : FVec Ideal S1x2048 .f32) : FVec Ideal S1x1024 .f32 :=
  extractStridedSlice S1x1024 ![0, 0] (addf (addf (pad S1x2048 ![0, 1536] ![0, 0] ![0, 0] (shapeCast _ (Host.reduceAdd (mulf (mulf a2 (broadcastInDim S4224x512 ![0, 1] bcast_S4224x1_S4224x512_0_1 (Host.rsqrt (addf (Host.divf (broadcastInDim S4224x1 ![0] bcast_S4224_S4224x1_0 (Host.reduceAdd (mulf a2 a2) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32)))))) (extractStridedSlice S4224x512 ![0, 1536] a3 slices_S4224x2048_S4224x512_0_1536)) (constant S_ .f32 0x00000000#32) reducesTo_S4224x512_S512_d0 h_S_) shapeCasts_S512_S1x512) (constant S_ .f32 0x00000000#32) pads_S1x512_S1x2048_000_153600 h_S_) (pad S1x2048 ![0, 1024] ![0, 512] ![0, 0] (shapeCast _ (Host.reduceAdd (mulf (mulf a1 (broadcastInDim S4224x512 ![0, 1] bcast_S4224x1_S4224x512_0_1 (Host.rsqrt (addf (Host.divf (broadcastInDim S4224x1 ![0] bcast_S4224_S4224x1_0 (Host.reduceAdd (mulf a1 a1) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32)))))) (extractStridedSlice S4224x512 ![0, 1024] a3 slices_S4224x2048_S4224x512_0_1024)) (constant S_ .f32 0x00000000#32) reducesTo_S4224x512_S512_d0 h_S_) shapeCasts_S512_S1x512) (constant S_ .f32 0x00000000#32) pads_S1x512_S1x2048_000_10245120 h_S_)) (pad S1x2048 ![0, 0] ![0, 1024] ![0, 0] (shapeCast _ (Host.reduceAdd (mulf (mulf a0 (broadcastInDim S4224x1024 ![0, 1] bcast_S4224x1_S4224x1024_0_1 (Host.rsqrt (addf (Host.divf (broadcastInDim S4224x1 ![0] bcast_S4224_S4224x1_0 (Host.reduceAdd (mulf a0 a0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (extractStridedSlice S4224x1024 ![0, 0] a3 slices_S4224x2048_S4224x1024_0_0)) (constant S_ .f32 0x00000000#32) reducesTo_S4224x1024_S1024_d0 h_S_) shapeCasts_S1024_S1x1024) (constant S_ .f32 0x00000000#32) pads_S1x1024_S1x2048_000_010240 h_S_)) slices_S1x2048_S1x1024_0_0

end Cert.Reference26Ideal.Value

namespace Cert.Reference26Ideal.Value
open Cert.Reference26Ideal Cert.Reference26Ideal.Gen

/-- The gradient of the second part of the gain, as the reference computes it. -/
def refGpool (a0 : FVec Ideal S4224x1024 .f32) (a1 a2 : FVec Ideal S4224x512 .f32) (a3 : FVec Ideal S4224x2048 .f32) (a4 : FVec Ideal S1x2048 .f32) : FVec Ideal S1x512 .f32 :=
  extractStridedSlice S1x512 ![0, 1024] (addf (addf (pad S1x2048 ![0, 1536] ![0, 0] ![0, 0] (shapeCast _ (Host.reduceAdd (mulf (mulf a2 (broadcastInDim S4224x512 ![0, 1] bcast_S4224x1_S4224x512_0_1 (Host.rsqrt (addf (Host.divf (broadcastInDim S4224x1 ![0] bcast_S4224_S4224x1_0 (Host.reduceAdd (mulf a2 a2) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32)))))) (extractStridedSlice S4224x512 ![0, 1536] a3 slices_S4224x2048_S4224x512_0_1536)) (constant S_ .f32 0x00000000#32) reducesTo_S4224x512_S512_d0 h_S_) shapeCasts_S512_S1x512) (constant S_ .f32 0x00000000#32) pads_S1x512_S1x2048_000_153600 h_S_) (pad S1x2048 ![0, 1024] ![0, 512] ![0, 0] (shapeCast _ (Host.reduceAdd (mulf (mulf a1 (broadcastInDim S4224x512 ![0, 1] bcast_S4224x1_S4224x512_0_1 (Host.rsqrt (addf (Host.divf (broadcastInDim S4224x1 ![0] bcast_S4224_S4224x1_0 (Host.reduceAdd (mulf a1 a1) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32)))))) (extractStridedSlice S4224x512 ![0, 1024] a3 slices_S4224x2048_S4224x512_0_1024)) (constant S_ .f32 0x00000000#32) reducesTo_S4224x512_S512_d0 h_S_) shapeCasts_S512_S1x512) (constant S_ .f32 0x00000000#32) pads_S1x512_S1x2048_000_10245120 h_S_)) (pad S1x2048 ![0, 0] ![0, 1024] ![0, 0] (shapeCast _ (Host.reduceAdd (mulf (mulf a0 (broadcastInDim S4224x1024 ![0, 1] bcast_S4224x1_S4224x1024_0_1 (Host.rsqrt (addf (Host.divf (broadcastInDim S4224x1 ![0] bcast_S4224_S4224x1_0 (Host.reduceAdd (mulf a0 a0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (extractStridedSlice S4224x1024 ![0, 0] a3 slices_S4224x2048_S4224x1024_0_0)) (constant S_ .f32 0x00000000#32) reducesTo_S4224x1024_S1024_d0 h_S_) shapeCasts_S1024_S1x1024) (constant S_ .f32 0x00000000#32) pads_S1x1024_S1x2048_000_010240 h_S_)) slices_S1x2048_S1x512_0_1024

end Cert.Reference26Ideal.Value

namespace Cert.Reference26Ideal.Value
open Cert.Reference26Ideal Cert.Reference26Ideal.Gen

/-- The gradient of the third part of the gain, as the reference computes it. -/
def refGconv (a0 : FVec Ideal S4224x1024 .f32) (a1 a2 : FVec Ideal S4224x512 .f32) (a3 : FVec Ideal S4224x2048 .f32) (a4 : FVec Ideal S1x2048 .f32) : FVec Ideal S1x512 .f32 :=
  extractStridedSlice S1x512 ![0, 1536] (addf (addf (pad S1x2048 ![0, 1536] ![0, 0] ![0, 0] (shapeCast _ (Host.reduceAdd (mulf (mulf a2 (broadcastInDim S4224x512 ![0, 1] bcast_S4224x1_S4224x512_0_1 (Host.rsqrt (addf (Host.divf (broadcastInDim S4224x1 ![0] bcast_S4224_S4224x1_0 (Host.reduceAdd (mulf a2 a2) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32)))))) (extractStridedSlice S4224x512 ![0, 1536] a3 slices_S4224x2048_S4224x512_0_1536)) (constant S_ .f32 0x00000000#32) reducesTo_S4224x512_S512_d0 h_S_) shapeCasts_S512_S1x512) (constant S_ .f32 0x00000000#32) pads_S1x512_S1x2048_000_153600 h_S_) (pad S1x2048 ![0, 1024] ![0, 512] ![0, 0] (shapeCast _ (Host.reduceAdd (mulf (mulf a1 (broadcastInDim S4224x512 ![0, 1] bcast_S4224x1_S4224x512_0_1 (Host.rsqrt (addf (Host.divf (broadcastInDim S4224x1 ![0] bcast_S4224_S4224x1_0 (Host.reduceAdd (mulf a1 a1) (constant S_ .f32 0x00000000#32) reducesTo_S4224x512_S4224_d1 h_S_)) (broadcastInDim S4224x1 ![] bcast_S_S4224x1 (constant S_ .f32 0x44000000#32))) (broadcastInDim S4224x1 ![] bcast_S_S4224x1 (constant S_ .f32 0x358637BD#32)))))) (extractStridedSlice S4224x512 ![0, 1024] a3 slices_S4224x2048_S4224x512_0_1024)) (constant S_ .f32 0x00000000#32) reducesTo_S4224x512_S512_d0 h_S_) shapeCasts_S512_S1x512) (constant S_ .f32 0x00000000#32) pads_S1x512_S1x2048_000_10245120 h_S_)) (pad S1x2048 ![0, 0] ![0, 1024] ![0, 0] (shapeCast _ (Host.reduceAdd (mulf (mulf a0 (broadcastInDim S4224x1024 ![0, 1] bcast_S4224x1_S4224x1024_0_1 (Host.rsqrt (addf (Host.divf (broadcastInDim S4224x1 ![0] bcast_S4224_S4224x1_0 (Host.reduceAdd (mulf a0 a0) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (extractStridedSlice S4224x1024 ![0, 0] a3 slices_S4224x2048_S4224x1024_0_0)) (constant S_ .f32 0x00000000#32) reducesTo_S4224x1024_S1024_d0 h_S_) shapeCasts_S1024_S1x1024) (constant S_ .f32 0x00000000#32) pads_S1x1024_S1x2048_000_010240 h_S_)) slices_S1x2048_S1x512_0_1536

end Cert.Reference26Ideal.Value

namespace Cert.Kernel26Ideal.Value

open Cert.Kernel26Ideal Cert.Kernel26Ideal.Gen Cert.Reference26Ideal.Value

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![t.val, 0]
    ∧ win0_10.index t = ![0, 0]
    ∧ win0_11.index t = ![0, 0]
    ∧ win0_12.index t = ![0, 0] :=
  (by decide +kernel : ∀ t : Fin grid0.N, _)

/-- Row `k` of the block of argument 0 that point `t` reads is the argument's row `r`. -/
theorem row_0 (c : Dev nD) (t : Fin cfg0.N) (k : Fin 384) (r : Fin 4224) (h : r.val = 384 * t.val + k.val) (x : Fin 1024) :
    iblk m c 0 t (ix2 k x) = (m (c.tc.loc main_arg0)) (ix2 r x) := by
  blk_simp [iblk, idx_val t]; entry_read; pointwise; blk_ext [idx_val t]

/-- Row `k` of the block of argument 1 that point `t` reads is the argument's row `r`. -/
theorem row_1 (c : Dev nD) (t : Fin cfg0.N) (k : Fin 384) (r : Fin 4224) (h : r.val = 384 * t.val + k.val) (x : Fin 512) :
    iblk m c 1 t (ix2 k x) = (m (c.tc.loc main_arg1)) (ix2 r x) := by
  blk_simp [iblk, idx_val t]; entry_read; pointwise; blk_ext [idx_val t]

/-- Row `k` of the block of argument 2 that point `t` reads is the argument's row `r`. -/
theorem row_2 (c : Dev nD) (t : Fin cfg0.N) (k : Fin 384) (r : Fin 4224) (h : r.val = 384 * t.val + k.val) (x : Fin 512) :
    iblk m c 2 t (ix2 k x) = (m (c.tc.loc main_arg2)) (ix2 r x) := by
  blk_simp [iblk, idx_val t]; entry_read; pointwise; blk_ext [idx_val t]

/-- Row `k` of the block of argument 3 that point `t` reads is the argument's row `r`. -/
theorem row_3 (c : Dev nD) (t : Fin cfg0.N) (k : Fin 384) (r : Fin 4224) (h : r.val = 384 * t.val + k.val) (x : Fin 2048) :
    iblk m c 3 t (ix2 k x) = (m (c.tc.loc main_arg3)) (ix2 r x) := by
  blk_simp [iblk, idx_val t]; entry_read; pointwise; blk_ext [idx_val t]

/-- Every point reads this part of the gain whole. -/
theorem gain_4 (c : Dev nD) (t : Fin cfg0.N) (x : Fin 1024) :
    iblk m c 4 t (ix2 0 x) = (m (c.tc.loc main_arg4)) (ix2 0 ⟨x.val, by omega⟩) := by
  blk_simp [iblk, idx_val t]; entry_read; pointwise; blk_ext [idx_val t]

/-- Every point reads this part of the gain whole. -/
theorem gain_5 (c : Dev nD) (t : Fin cfg0.N) (x : Fin 512) :
    iblk m c 5 t (ix2 0 x) = (m (c.tc.loc main_arg4)) (ix2 0 ⟨1024 + x.val, by omega⟩) := by
  blk_simp [iblk, idx_val t]; entry_read; pointwise; blk_ext [idx_val t]

/-- Every point reads this part of the gain whole. -/
theorem gain_6 (c : Dev nD) (t : Fin cfg0.N) (x : Fin 512) :
    iblk m c 6 t (ix2 0 x) = (m (c.tc.loc main_arg4)) (ix2 0 ⟨1536 + x.val, by omega⟩) := by
  blk_simp [iblk, idx_val t]; entry_read; pointwise; blk_ext [idx_val t]

/-- The column of an entry of result window 7's block. -/
theorem col_7 (t : Fin cfg0.N) (y : S384x1024.Idx) : (((cfg0.win 7).blk t).view.emb y) 1 = y 1 := by
  refine Fin.ext ?_
  blk_simp [idx_val t]

/-- The row of an entry of result window 7's block. -/
theorem emb_7 (t : Fin cfg0.N) (y : S384x1024.Idx) : ((((cfg0.win 7).blk t).view.emb y) 0).val = 384 * t.val + (y 0).val := by
  blk_simp [idx_val t]; omega

/-- What a point leaves in result window 7. -/
theorem point_7 (c : Dev nD) (t : Fin cfg0.N) (y : S384x1024.Idx) :
    (outsAt0 m c t.val t.isLt).1 y = k0_pay27 (iblk m c 0 t) (k0_pay3 (iblk m c 4 t)) (k0_pay7 (iblk m c 0 t)) (k0_pay8 (iblk m c 0 t)) (k0_pay17 (iblk m c 3 t)) y := by
  by_cases h0 : t.val % 11 = 0
  · rw [outsAt0_A m c t h0]; frame_out
  · rw [outsAt0_B m c t h0]; frame_out

/-- An entry of that block is the reference's. -/
theorem val_7 (c : Dev nD) (t : Fin cfg0.N) (k : Fin 384) (r : Fin 4224) (h : r.val = 384 * t.val + k.val) (q : Fin 1024) :
    k0_pay27 (iblk m c 0 t) (k0_pay3 (iblk m c 4 t)) (k0_pay7 (iblk m c 0 t)) (k0_pay8 (iblk m c 0 t)) (k0_pay17 (iblk m c 3 t)) (ix2 k q) = refDattn (m (c.tc.loc main_arg0)) (m (c.tc.loc main_arg1)) (m (c.tc.loc main_arg2)) (m (c.tc.loc main_arg3)) (m (c.tc.loc main_arg4)) (ix2 r q) := by
  have r0 := row_0 m c t k r h
  have r3 := row_3 m c t k r h
  have g0 := gain_4 m c t
  pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, refDattn]
  simp only [r0, r3, g0]
  try rfl

/-- The kernel's result 0 is the reference's. -/
theorem final_7 (c : Dev nD) : (dats m 0 c).arrAt 7 (cfgs 0).N = refDattn (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t hf y => ?_
  blk_simp; rw [after0_7]
  refine (point_7 m c t y).trans ?_
  have hc := col_7 t y
  have hr := emb_7 t y
  revert hc hr
  generalize ((cfg0.win 7).blk t).view.emb y = z
  intro hc hr
  have e1 : (y : S384x1024.Idx) = ix2 (y 0) (y 1) := by blk_ext
  have e2 : (ix2 (z 0) (y 1) : S4224x1024.Idx) = z := by rw [← hc]; blk_ext
  exact (congrArg _ e1).trans ((val_7 m c t (y 0) (z 0) hr (y 1)).trans (congrArg _ e2))

/-- The column of an entry of result window 8's block. -/
theorem col_8 (t : Fin cfg0.N) (y : S384x512.Idx) : (((cfg0.win 8).blk t).view.emb y) 1 = y 1 := by
  refine Fin.ext ?_
  blk_simp [idx_val t]

/-- The row of an entry of result window 8's block. -/
theorem emb_8 (t : Fin cfg0.N) (y : S384x512.Idx) : ((((cfg0.win 8).blk t).view.emb y) 0).val = 384 * t.val + (y 0).val := by
  blk_simp [idx_val t]; omega

/-- What a point leaves in result window 8. -/
theorem point_8 (c : Dev nD) (t : Fin cfg0.N) (y : S384x512.Idx) :
    (outsAt0 m c t.val t.isLt).2.1 y = k0_pay26 (iblk m c 1 t) (k0_pay24 (iblk m c 3 t) (k0_pay4 (iblk m c 5 t)) (k0_pay11 (iblk m c 1 t))) (k0_pay25 (iblk m c 1 t) (iblk m c 3 t) (k0_pay4 (iblk m c 5 t)) (k0_pay12 (iblk m c 1 t))) y := by
  by_cases h0 : t.val % 11 = 0
  · rw [outsAt0_A m c t h0]; frame_out
  · rw [outsAt0_B m c t h0]; frame_out

/-- An entry of that block is the reference's. -/
theorem val_8 (c : Dev nD) (t : Fin cfg0.N) (k : Fin 384) (r : Fin 4224) (h : r.val = 384 * t.val + k.val) (q : Fin 512) :
    k0_pay26 (iblk m c 1 t) (k0_pay24 (iblk m c 3 t) (k0_pay4 (iblk m c 5 t)) (k0_pay11 (iblk m c 1 t))) (k0_pay25 (iblk m c 1 t) (iblk m c 3 t) (k0_pay4 (iblk m c 5 t)) (k0_pay12 (iblk m c 1 t))) (ix2 k q) = refDpool (m (c.tc.loc main_arg0)) (m (c.tc.loc main_arg1)) (m (c.tc.loc main_arg2)) (m (c.tc.loc main_arg3)) (m (c.tc.loc main_arg4)) (ix2 r q) := by
  have r0 := row_1 m c t k r h
  have r3 := row_3 m c t k r h
  have g0 := gain_5 m c t
  pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, refDpool]
  simp only [r0, r3, g0]
  try rfl

/-- The kernel's result 1 is the reference's. -/
theorem final_8 (c : Dev nD) : (dats m 0 c).arrAt 8 (cfgs 0).N = refDpool (m (c.tc.loc main_arg0)) (m (c.tc.loc main_arg1)) (m (c.tc.loc main_arg2)) (m (c.tc.loc main_arg3)) (m (c.tc.loc main_arg4)) := by
  refine (dats m 0 c).arrAt_eq_of_covers 8 _ (by decide +kernel) fun t hf y => ?_
  blk_simp; rw [after0_8]
  refine (point_8 m c t y).trans ?_
  have hc := col_8 t y
  have hr := emb_8 t y
  revert hc hr
  generalize ((cfg0.win 8).blk t).view.emb y = z
  intro hc hr
  have e1 : (y : S384x512.Idx) = ix2 (y 0) (y 1) := by blk_ext
  have e2 : (ix2 (z 0) (y 1) : S4224x512.Idx) = z := by rw [← hc]; blk_ext
  exact (congrArg _ e1).trans ((val_8 m c t (y 0) (z 0) hr (y 1)).trans (congrArg _ e2))

/-- The column of an entry of result window 9's block. -/
theorem col_9 (t : Fin cfg0.N) (y : S384x512.Idx) : (((cfg0.win 9).blk t).view.emb y) 1 = y 1 := by
  refine Fin.ext ?_
  blk_simp [idx_val t]

/-- The row of an entry of result window 9's block. -/
theorem emb_9 (t : Fin cfg0.N) (y : S384x512.Idx) : ((((cfg0.win 9).blk t).view.emb y) 0).val = 384 * t.val + (y 0).val := by
  blk_simp [idx_val t]; omega

/-- What a point leaves in result window 9. -/
theorem point_9 (c : Dev nD) (t : Fin cfg0.N) (y : S384x512.Idx) :
    (outsAt0 m c t.val t.isLt).2.2.1 y = k0_pay21 (iblk m c 2 t) (iblk m c 3 t) (k0_pay5 (iblk m c 6 t)) (k0_pay14 (iblk m c 2 t)) y := by
  by_cases h0 : t.val % 11 = 0
  · rw [outsAt0_A m c t h0]; frame_out
  · rw [outsAt0_B m c t h0]; frame_out

/-- An entry of that block is the reference's. -/
theorem val_9 (c : Dev nD) (t : Fin cfg0.N) (k : Fin 384) (r : Fin 4224) (h : r.val = 384 * t.val + k.val) (q : Fin 512) :
    k0_pay21 (iblk m c 2 t) (iblk m c 3 t) (k0_pay5 (iblk m c 6 t)) (k0_pay14 (iblk m c 2 t)) (ix2 k q) = refDconv (m (c.tc.loc main_arg0)) (m (c.tc.loc main_arg1)) (m (c.tc.loc main_arg2)) (m (c.tc.loc main_arg3)) (m (c.tc.loc main_arg4)) (ix2 r q) := by
  have r0 := row_2 m c t k r h
  have r3 := row_3 m c t k r h
  have g0 := gain_6 m c t
  pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, refDconv]
  simp only [r0, r3, g0]
  try rfl

/-- The kernel's result 2 is the reference's. -/
theorem final_9 (c : Dev nD) : (dats m 0 c).arrAt 9 (cfgs 0).N = refDconv (m (c.tc.loc main_arg0)) (m (c.tc.loc main_arg1)) (m (c.tc.loc main_arg2)) (m (c.tc.loc main_arg3)) (m (c.tc.loc main_arg4)) := by
  refine (dats m 0 c).arrAt_eq_of_covers 9 _ (by decide +kernel) fun t hf y => ?_
  blk_simp; rw [after0_9]
  refine (point_9 m c t y).trans ?_
  have hc := col_9 t y
  have hr := emb_9 t y
  revert hc hr
  generalize ((cfg0.win 9).blk t).view.emb y = z
  intro hc hr
  have e1 : (y : S384x512.Idx) = ix2 (y 0) (y 1) := by blk_ext
  have e2 : (ix2 (z 0) (y 1) : S4224x512.Idx) = z := by rw [← hc]; blk_ext
  exact (congrArg _ e1).trans ((val_9 m c t (y 0) (z 0) hr (y 1)).trans (congrArg _ e2))

/-- What point `t` adds to an entry of result window 10. -/
def part_10 (c : Dev nD) (t : Fin cfg0.N) (j : S1x1024.Idx) : EReal :=
  k0_pay31 (k0_pay9 (iblk m c 0 t)) (k0_pay17 (iblk m c 3 t)) (k0_pay28 (F := Ideal)) j

theorem first_10 (c : Dev nD) (t : Fin cfg0.N) (h0 : t.val % 11 = 0) (j : S1x1024.Idx) :
    (outsAt0 m c t.val t.isLt).2.2.2.1 j = (0 : EReal) + part_10 m c t j := by
  rw [outsAt0_A m c t h0]
  frame_out
  pointwise [k0_pay31, k0_pay28, part_10]
  try rfl

theorem next_10 (c : Dev nD) (t : Fin cfg0.N) (h0 : ¬ t.val % 11 = 0) (j : S1x1024.Idx) :
    (outsAt0 m c t.val t.isLt).2.2.2.1 j
      = (outsAt0 m c (t.val - 1) (Nat.lt_of_le_of_lt (Nat.sub_le _ _) t.isLt)).2.2.2.1 j + part_10 m c t j := by
  rw [outsAt0_B m c t h0]
  frame_out
  try rw [read_unread_whole]
  pointwise [k0_pay31, k0_pay28, part_10]
  try rfl

/-- The last point leaves the sum over all points. -/
theorem total_10 (c : Dev nD) (t : Fin cfg0.N) (h1 : t.val % 11 = 10) (j : S1x1024.Idx) :
    (outsAt0 m c t.val t.isLt).2.2.2.1 j
      = ∑ s : Fin 11, part_10 m c ⟨11 * (t.val / 11) + s.val, Pipeline.run_point_lt_of_flush t h1 s⟩ j :=
  (Pipeline.eq_sum_fin_of_reset_step_apply_of_flush (fun n h => (outsAt0 m c n h).2.2.2.1) 11 (fun _ => (0 : EReal)) _
    (fun t h j => first_10 m c t h j) (fun t h j => next_10 m c t h j) t h1 j).trans (zero_add (_ : EReal))

/-- The sum over all points is the reference's entry. -/
theorem sum_10 (c : Dev nD) (t : Fin cfg0.N) (h1 : t.val % 11 = 10) (q : Fin 1024) :
    (outsAt0 m c t.val t.isLt).2.2.2.1 (ix2 0 q) = refGattn (m (c.tc.loc main_arg0)) (m (c.tc.loc main_arg1)) (m (c.tc.loc main_arg2)) (m (c.tc.loc main_arg3)) (m (c.tc.loc main_arg4)) (ix2 0 q) := by
  rw [total_10 m c t h1]
  have ht : t.val / 11 = 0 := Nat.div_eq_of_lt (lt_of_lt_of_eq t.isLt N_0)
  pointwise [part_10, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay31, k0_pay28, refGattn]
  have hq : q.val < 1024 := q.isLt
  rw [dif_neg (by omega), dif_neg (by simp), zero_add (0 : EReal)]
  refine Eq.trans ?_ (zero_add (_ : EReal)).symm
  refine Fin.sum_mul_add_congr fun s k hl => ?_
  have hr : s.val * 384 + k.val = 384 * (11 * (t.val / 11) + s.val) + k.val := by omega
  have r0 := row_0 m c ⟨11 * (t.val / 11) + s.val, Pipeline.run_point_lt_of_flush t h1 s⟩ k ⟨s.val * 384 + k.val, hl⟩ hr
  have r3 := row_3 m c ⟨11 * (t.val / 11) + s.val, Pipeline.run_point_lt_of_flush t h1 s⟩ k ⟨s.val * 384 + k.val, hl⟩ hr
  simp only [r0, r3]
  try rfl

/-- The kernel's accumulated result 3 is the reference's. -/
theorem final_10 (c : Dev nD) : (dats m 0 c).arrAt 10 (cfgs 0).N = refGattn (m (c.tc.loc main_arg0)) (m (c.tc.loc main_arg1)) (m (c.tc.loc main_arg2)) (m (c.tc.loc main_arg3)) (m (c.tc.loc main_arg4)) := by
  refine (dats m 0 c).arrAt_eq_of_covers 10 _ (by decide +kernel) fun t hf y => ?_
  have hy : (y : S1x1024.Idx) = ((cfg0.win 10).blk t).view.emb y := by blk_ext [idx_val t]
  have e1 : (y : S1x1024.Idx) = ix2 0 (y 1) := by blk_ext
  blk_simp; rw [after0_10]
  exact (congrArg _ e1).trans ((sum_10 m c t ((flush0_10 t).mp hf) (y 1)).trans (congrArg _ (e1.symm.trans hy)))

/-- What point `t` adds to an entry of result window 11. -/
def part_11 (c : Dev nD) (t : Fin cfg0.N) (j : S1x512.Idx) : EReal :=
  k0_pay22 (iblk m c 3 t) (k0_pay13 (iblk m c 1 t)) j

theorem first_11 (c : Dev nD) (t : Fin cfg0.N) (h0 : t.val % 11 = 0) (j : S1x512.Idx) :
    (outsAt0 m c t.val t.isLt).2.2.2.2.1 j = (0 : EReal) + part_11 m c t j := by
  rw [outsAt0_A m c t h0]
  frame_out
  pointwise [k0_pay1, k0_pay29, part_11]
  try rfl

theorem next_11 (c : Dev nD) (t : Fin cfg0.N) (h0 : ¬ t.val % 11 = 0) (j : S1x512.Idx) :
    (outsAt0 m c t.val t.isLt).2.2.2.2.1 j
      = (outsAt0 m c (t.val - 1) (Nat.lt_of_le_of_lt (Nat.sub_le _ _) t.isLt)).2.2.2.2.1 j + part_11 m c t j := by
  rw [outsAt0_B m c t h0]
  frame_out
  try rw [read_unread_whole]
  pointwise [k0_pay1, k0_pay29, part_11]
  try rfl

/-- The last point leaves the sum over all points. -/
theorem total_11 (c : Dev nD) (t : Fin cfg0.N) (h1 : t.val % 11 = 10) (j : S1x512.Idx) :
    (outsAt0 m c t.val t.isLt).2.2.2.2.1 j
      = ∑ s : Fin 11, part_11 m c ⟨11 * (t.val / 11) + s.val, Pipeline.run_point_lt_of_flush t h1 s⟩ j :=
  (Pipeline.eq_sum_fin_of_reset_step_apply_of_flush (fun n h => (outsAt0 m c n h).2.2.2.2.1) 11 (fun _ => (0 : EReal)) _
    (fun t h j => first_11 m c t h j) (fun t h j => next_11 m c t h j) t h1 j).trans (zero_add (_ : EReal))

/-- The sum over all points is the reference's entry. -/
theorem sum_11 (c : Dev nD) (t : Fin cfg0.N) (h1 : t.val % 11 = 10) (q : Fin 512) :
    (outsAt0 m c t.val t.isLt).2.2.2.2.1 (ix2 0 q) = refGpool (m (c.tc.loc main_arg0)) (m (c.tc.loc main_arg1)) (m (c.tc.loc main_arg2)) (m (c.tc.loc main_arg3)) (m (c.tc.loc main_arg4)) (ix2 0 q) := by
  rw [total_11 m c t h1]
  have ht : t.val / 11 = 0 := Nat.div_eq_of_lt (lt_of_lt_of_eq t.isLt N_0)
  pointwise [part_11, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, refGpool]
  have hq : q.val < 512 := q.isLt
  rw [dif_neg (by omega), zero_add]
  refine Fin.sum_mul_add_congr fun s k hl => ?_
  have hr : s.val * 384 + k.val = 384 * (11 * (t.val / 11) + s.val) + k.val := by omega
  have r0 := row_1 m c ⟨11 * (t.val / 11) + s.val, Pipeline.run_point_lt_of_flush t h1 s⟩ k ⟨s.val * 384 + k.val, hl⟩ hr
  have r3 := row_3 m c ⟨11 * (t.val / 11) + s.val, Pipeline.run_point_lt_of_flush t h1 s⟩ k ⟨s.val * 384 + k.val, hl⟩ hr
  simp only [r0, r3]
  try rfl

/-- The kernel's accumulated result 4 is the reference's. -/
theorem final_11 (c : Dev nD) : (dats m 0 c).arrAt 11 (cfgs 0).N = refGpool (m (c.tc.loc main_arg0)) (m (c.tc.loc main_arg1)) (m (c.tc.loc main_arg2)) (m (c.tc.loc main_arg3)) (m (c.tc.loc main_arg4)) := by
  refine (dats m 0 c).arrAt_eq_of_covers 11 _ (by decide +kernel) fun t hf y => ?_
  have hy : (y : S1x512.Idx) = ((cfg0.win 11).blk t).view.emb y := by blk_ext [idx_val t]
  have e1 : (y : S1x512.Idx) = ix2 0 (y 1) := by blk_ext
  blk_simp; rw [after0_11]
  exact (congrArg _ e1).trans ((sum_11 m c t ((flush0_11 t).mp hf) (y 1)).trans (congrArg _ (e1.symm.trans hy)))

/-- What point `t` adds to an entry of result window 12. -/
def part_12 (c : Dev nD) (t : Fin cfg0.N) (j : S1x512.Idx) : EReal :=
  k0_pay20 (iblk m c 2 t) (iblk m c 3 t) (k0_pay14 (iblk m c 2 t)) j

theorem first_12 (c : Dev nD) (t : Fin cfg0.N) (h0 : t.val % 11 = 0) (j : S1x512.Idx) :
    (outsAt0 m c t.val t.isLt).2.2.2.2.2 j = (0 : EReal) + part_12 m c t j := by
  rw [outsAt0_A m c t h0]
  frame_out
  pointwise [k0_pay2, k0_pay30, part_12]
  try rfl

theorem next_12 (c : Dev nD) (t : Fin cfg0.N) (h0 : ¬ t.val % 11 = 0) (j : S1x512.Idx) :
    (outsAt0 m c t.val t.isLt).2.2.2.2.2 j
      = (outsAt0 m c (t.val - 1) (Nat.lt_of_le_of_lt (Nat.sub_le _ _) t.isLt)).2.2.2.2.2 j + part_12 m c t j := by
  rw [outsAt0_B m c t h0]
  frame_out
  try rw [read_unread_whole]
  pointwise [k0_pay2, k0_pay30, part_12]
  try rfl

/-- The last point leaves the sum over all points. -/
theorem total_12 (c : Dev nD) (t : Fin cfg0.N) (h1 : t.val % 11 = 10) (j : S1x512.Idx) :
    (outsAt0 m c t.val t.isLt).2.2.2.2.2 j
      = ∑ s : Fin 11, part_12 m c ⟨11 * (t.val / 11) + s.val, Pipeline.run_point_lt_of_flush t h1 s⟩ j :=
  (Pipeline.eq_sum_fin_of_reset_step_apply_of_flush (fun n h => (outsAt0 m c n h).2.2.2.2.2) 11 (fun _ => (0 : EReal)) _
    (fun t h j => first_12 m c t h j) (fun t h j => next_12 m c t h j) t h1 j).trans (zero_add (_ : EReal))

/-- The sum over all points is the reference's entry. -/
theorem sum_12 (c : Dev nD) (t : Fin cfg0.N) (h1 : t.val % 11 = 10) (q : Fin 512) :
    (outsAt0 m c t.val t.isLt).2.2.2.2.2 (ix2 0 q) = refGconv (m (c.tc.loc main_arg0)) (m (c.tc.loc main_arg1)) (m (c.tc.loc main_arg2)) (m (c.tc.loc main_arg3)) (m (c.tc.loc main_arg4)) (ix2 0 q) := by
  rw [total_12 m c t h1]
  have ht : t.val / 11 = 0 := Nat.div_eq_of_lt (lt_of_lt_of_eq t.isLt N_0)
  pointwise [part_12, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, refGconv]
  have hq : q.val < 512 := q.isLt
  rw [dif_neg (by omega), dif_neg (by omega), add_zero, add_zero]
  refine Fin.sum_mul_add_congr fun s k hl => ?_
  have hr : s.val * 384 + k.val = 384 * (11 * (t.val / 11) + s.val) + k.val := by omega
  have r0 := row_2 m c ⟨11 * (t.val / 11) + s.val, Pipeline.run_point_lt_of_flush t h1 s⟩ k ⟨s.val * 384 + k.val, hl⟩ hr
  have r3 := row_3 m c ⟨11 * (t.val / 11) + s.val, Pipeline.run_point_lt_of_flush t h1 s⟩ k ⟨s.val * 384 + k.val, hl⟩ hr
  simp only [r0, r3]
  try rfl

/-- The kernel's accumulated result 5 is the reference's. -/
theorem final_12 (c : Dev nD) : (dats m 0 c).arrAt 12 (cfgs 0).N = refGconv (m (c.tc.loc main_arg0)) (m (c.tc.loc main_arg1)) (m (c.tc.loc main_arg2)) (m (c.tc.loc main_arg3)) (m (c.tc.loc main_arg4)) := by
  refine (dats m 0 c).arrAt_eq_of_covers 12 _ (by decide +kernel) fun t hf y => ?_
  have hy : (y : S1x512.Idx) = ((cfg0.win 12).blk t).view.emb y := by blk_ext [idx_val t]
  have e1 : (y : S1x512.Idx) = ix2 0 (y 1) := by blk_ext
  blk_simp; rw [after0_12]
  exact (congrArg _ e1).trans ((sum_12 m c t ((flush0_12 t).mp hf) (y 1)).trans (congrArg _ (e1.symm.trans hy)))

end Cert.Kernel26Ideal.Value
-- ==== Proof.RunMergeB.lean ====
/- The run of the reference `reference26`, its results under the names that the values use. -/
module

public import proofs.«01_k».proof.Proof.ValueMergeB
public import Idealize.ShloMosaic.Lib.Pipeline.ReadBack
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference26Ideal.Value
open Cert.Reference26Ideal Cert.Reference26Ideal.Gen

/-- Every run of the reference ends with the named results, its arguments unchanged. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v111) = refDattn (m (c.tc.loc main_arg0)) (m (c.tc.loc main_arg1)) (m (c.tc.loc main_arg2)) (m (c.tc.loc main_arg3)) (m (c.tc.loc main_arg4))
      ∧ r.2.mem (c.tc.loc main_v90) = refDpool (m (c.tc.loc main_arg0)) (m (c.tc.loc main_arg1)) (m (c.tc.loc main_arg2)) (m (c.tc.loc main_arg3)) (m (c.tc.loc main_arg4))
      ∧ r.2.mem (c.tc.loc main_v70) = refDconv (m (c.tc.loc main_arg0)) (m (c.tc.loc main_arg1)) (m (c.tc.loc main_arg2)) (m (c.tc.loc main_arg3)) (m (c.tc.loc main_arg4))
      ∧ r.2.mem (c.tc.loc main_v114) = refGattn (m (c.tc.loc main_arg0)) (m (c.tc.loc main_arg1)) (m (c.tc.loc main_arg2)) (m (c.tc.loc main_arg3)) (m (c.tc.loc main_arg4))
      ∧ r.2.mem (c.tc.loc main_v115) = refGpool (m (c.tc.loc main_arg0)) (m (c.tc.loc main_arg1)) (m (c.tc.loc main_arg2)) (m (c.tc.loc main_arg3)) (m (c.tc.loc main_arg4))
      ∧ r.2.mem (c.tc.loc main_v116) = refGconv (m (c.tc.loc main_arg0)) (m (c.tc.loc main_arg1)) (m (c.tc.loc main_arg2)) (m (c.tc.loc main_arg3)) (m (c.tc.loc main_arg4))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨(h c).1, (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩) (run m ρ)

end Cert.Reference26Ideal.Value

end
-- ==== Proof.ValuePreMixB.lean ====
/- The values of the gradient of the first norm and of the residual round it (the kernel `pre_mix_b`). -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel27Ideal.Value
public import proofs.«01_k».proof.Proof.Gen.Reference27Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference27Ideal.Value
open Cert.Reference27Ideal Cert.Reference27Ideal.Gen

/-- The gradient of the tokens, as the reference computes it. -/
def refDh (a0 a1 a2 : FVec Ideal S4224x2048 .f32) (a3 : FVec Ideal S1x2048 .f32) : FVec Ideal S4096x2048 .f32 :=
  extractStridedSlice S4096x2048 ![128, 0] (addf a1 (addf (addf (mulf (mulf a2 (broadcastInDim S4224x2048 ![0, 1] bcast_S1x2048_S4224x2048_0_1 a3)) (broadcastInDim S4224x2048 ![0, 1] bcast_S4224x1_S4224x2048_0_1 (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (mulf a0 (broadcastInDim S4224x2048 ![0] bcast_S4224_S4224x2048_0 (Host.reduceAdd (Host.divf (mulf (shapeCast _ (Host.reduceAdd (mulf a0 (mulf a2 (broadcastInDim S4224x2048 ![0, 1] bcast_S1x2048_S4224x2048_0_1 a3))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)))) (mulf (broadcastInDim S4224x2048 ![0] bcast_S4224_S4224x2048_0 (Host.reduceAdd (Host.divf (mulf (shapeCast _ (Host.reduceAdd (mulf a0 (mulf a2 (broadcastInDim S4224x2048 ![0, 1] bcast_S1x2048_S4224x2048_0_1 a3))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)) a0))) slices_S4224x2048_S4096x2048_128_0

end Cert.Reference27Ideal.Value

namespace Cert.Reference27Ideal.Value
open Cert.Reference27Ideal Cert.Reference27Ideal.Gen

/-- The gradient of the gain, as the reference computes it. -/
def refDg (a0 a1 a2 : FVec Ideal S4224x2048 .f32) (a3 : FVec Ideal S1x2048 .f32) : FVec Ideal S1x2048 .f32 :=
  shapeCast _ (Host.reduceAdd (mulf (mulf a0 (broadcastInDim S4224x2048 ![0, 1] bcast_S4224x1_S4224x2048_0_1 (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) a2) (constant S_ .f32 0x00000000#32) reducesTo_S4224x2048_S2048_d0 h_S_) shapeCasts_S2048_S1x2048

end Cert.Reference27Ideal.Value

namespace Cert.Reference27Ideal.Value
open Cert.Reference27Ideal Cert.Reference27Ideal.Gen

/-- The gradient of the rows before the tokens, as the reference computes it. -/
def refHead (a0 a1 a2 : FVec Ideal S4224x2048 .f32) (a3 : FVec Ideal S1x2048 .f32) : FVec Ideal S128x2048 .f32 :=
  extractStridedSlice S128x2048 ![0, 0] (addf a1 (addf (addf (mulf (mulf a2 (broadcastInDim S4224x2048 ![0, 1] bcast_S1x2048_S4224x2048_0_1 a3)) (broadcastInDim S4224x2048 ![0, 1] bcast_S4224x1_S4224x2048_0_1 (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (mulf a0 (broadcastInDim S4224x2048 ![0] bcast_S4224_S4224x2048_0 (Host.reduceAdd (Host.divf (mulf (shapeCast _ (Host.reduceAdd (mulf a0 (mulf a2 (broadcastInDim S4224x2048 ![0, 1] bcast_S1x2048_S4224x2048_0_1 a3))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)))) (mulf (broadcastInDim S4224x2048 ![0] bcast_S4224_S4224x2048_0 (Host.reduceAdd (Host.divf (mulf (shapeCast _ (Host.reduceAdd (mulf a0 (mulf a2 (broadcastInDim S4224x2048 ![0, 1] bcast_S1x2048_S4224x2048_0_1 a3))) (constant S_ .f32 0x00000000#32) reducesTo_S4224x2048_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))) (addf (Host.divf (broadcastInDim S4224x1 ![0] bcast_S4224_S4224x1_0 (Host.reduceAdd (mulf a0 a0) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x1 ![] bcast_S_S4224x1 (constant S_ .f32 0x45000000#32))) (constant S_ .f32 0x00000000#32) reducesTo_S4224x1_S4224_d1 h_S_)) a0))) slices_S4224x2048_S128x2048_0_0

end Cert.Reference27Ideal.Value

namespace Cert.Kernel27Ideal.Value

open Cert.Kernel27Ideal Cert.Kernel27Ideal.Gen Cert.Reference27Ideal.Value

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![t.val, 0]
    ∧ win0_3.index t = ![0, 0]
    ∧ win0_4.index t = ![t.val - 1, 0]
    ∧ win0_5.index t = ![0, 0]
    ∧ win0_6.index t = ![0, 0] :=
  (by decide +kernel : ∀ t : Fin grid0.N, _)

/-- Row `k` of the block of argument 0 that point `t` reads is the argument's row `r`. -/
theorem row_0 (c : Dev nD) (t : Fin cfg0.N) (k : Fin 128) (r : Fin 4224) (h : r.val = 128 * t.val + k.val) (x : Fin 2048) :
    iblk m c 0 t (ix2 k x) = (m (c.tc.loc main_arg0)) (ix2 r x) := by
  blk_simp [iblk, idx_val t]; entry_read; pointwise; blk_ext [idx_val t]

/-- Row `k` of the block of argument 1 that point `t` reads is the argument's row `r`. -/
theorem row_1 (c : Dev nD) (t : Fin cfg0.N) (k : Fin 128) (r : Fin 4224) (h : r.val = 128 * t.val + k.val) (x : Fin 2048) :
    iblk m c 1 t (ix2 k x) = (m (c.tc.loc main_arg1)) (ix2 r x) := by
  blk_simp [iblk, idx_val t]; entry_read; pointwise; blk_ext [idx_val t]

/-- Row `k` of the block of argument 2 that point `t` reads is the argument's row `r`. -/
theorem row_2 (c : Dev nD) (t : Fin cfg0.N) (k : Fin 128) (r : Fin 4224) (h : r.val = 128 * t.val + k.val) (x : Fin 2048) :
    iblk m c 2 t (ix2 k x) = (m (c.tc.loc main_arg2)) (ix2 r x) := by
  blk_simp [iblk, idx_val t]; entry_read; pointwise; blk_ext [idx_val t]

/-- Every point reads the whole of argument 3. -/
theorem gain_3 (c : Dev nD) (t : Fin cfg0.N) (x : Fin 2048) :
    iblk m c 3 t (ix2 0 x) = (m (c.tc.loc main_arg3)) (ix2 0 x) := by
  blk_simp [iblk, idx_val t]; entry_read; pointwise; blk_ext [idx_val t]

/-- What point `t` adds to an entry of result window 5: the sum over its rows. -/
def part_5 (c : Dev nD) (t : Fin cfg0.N) (j : S1x2048.Idx) : EReal :=
  k0_pay7 (iblk m c 0 t) (iblk m c 2 t) j

theorem first_5 (c : Dev nD) (t : Fin cfg0.N) (h0 : t.val % 33 = 0) (j : S1x2048.Idx) :
    (outsAt0 m c t.val t.isLt).2.1 j = (0 : EReal) + part_5 m c t j := by
  rw [outsAt0_A m c t h0]
  frame_out
  pointwise [k0_pay3, k0_pay1]
  rfl

theorem next_5 (c : Dev nD) (t : Fin cfg0.N) (h0 : ¬ t.val % 33 = 0) (j : S1x2048.Idx) :
    (outsAt0 m c t.val t.isLt).2.1 j
      = (outsAt0 m c (t.val - 1) (Nat.lt_of_le_of_lt (Nat.sub_le _ _) t.isLt)).2.1 j + part_5 m c t j := by
  rw [outsAt0_B m c t h0]
  frame_out
  try rw [read_unread_whole]
  pointwise [k0_pay3]
  rfl

/-- The last point leaves the sum over all points. -/
theorem total_5 (c : Dev nD) (t : Fin cfg0.N) (h1 : t.val % 33 = 32) (j : S1x2048.Idx) :
    (outsAt0 m c t.val t.isLt).2.1 j
      = ∑ s : Fin 33, part_5 m c ⟨33 * (t.val / 33) + s.val, Pipeline.run_point_lt_of_flush t h1 s⟩ j :=
  (Pipeline.eq_sum_fin_of_reset_step_apply_of_flush (fun n h => (outsAt0 m c n h).2.1) 33 (fun _ => (0 : EReal)) _
    (fun t h j => first_5 m c t h j) (fun t h j => next_5 m c t h j) t h1 j).trans (zero_add (_ : EReal))

/-- The sum over all points is the reference's entry. -/
theorem sum_5 (c : Dev nD) (t : Fin cfg0.N) (h1 : t.val % 33 = 32) (j : S1x2048.Idx) :
    (outsAt0 m c t.val t.isLt).2.1 j = refDg (m (c.tc.loc main_arg0)) (m (c.tc.loc main_arg1)) (m (c.tc.loc main_arg2)) (m (c.tc.loc main_arg3)) j := by
  rw [total_5 m c t h1]
  have ht : t.val / 33 = 0 := Nat.div_eq_of_lt (lt_of_lt_of_eq t.isLt N_0)
  pointwise [part_5, k0_pay5, k0_pay6, k0_pay7, k0_pay8, refDg]
  refine Fin.sum_mul_add_congr fun s k hl => ?_
  have hr : s.val * 128 + k.val = 128 * (33 * (t.val / 33) + s.val) + k.val := by omega
  have r0 := row_0 m c ⟨33 * (t.val / 33) + s.val, Pipeline.run_point_lt_of_flush t h1 s⟩ k ⟨s.val * 128 + k.val, hl⟩ hr
  have r1 := row_1 m c ⟨33 * (t.val / 33) + s.val, Pipeline.run_point_lt_of_flush t h1 s⟩ k ⟨s.val * 128 + k.val, hl⟩ hr
  have r2 := row_2 m c ⟨33 * (t.val / 33) + s.val, Pipeline.run_point_lt_of_flush t h1 s⟩ k ⟨s.val * 128 + k.val, hl⟩ hr
  have g0 := gain_3 m c ⟨33 * (t.val / 33) + s.val, Pipeline.run_point_lt_of_flush t h1 s⟩
  simp only [r0, r1, r2, g0]
  have q0 : iblk m c 0 ⟨33 * (t.val / 33) + s.val, Pipeline.run_point_lt_of_flush t h1 s⟩ (ix2 k (j 1)) = (m (c.tc.loc main_arg0)) (ix2 ⟨s.val * 128 + k.val, hl⟩ (j 1)) := r0 (j 1)
  have q1 : iblk m c 1 ⟨33 * (t.val / 33) + s.val, Pipeline.run_point_lt_of_flush t h1 s⟩ (ix2 k (j 1)) = (m (c.tc.loc main_arg1)) (ix2 ⟨s.val * 128 + k.val, hl⟩ (j 1)) := r1 (j 1)
  have q2 : iblk m c 2 ⟨33 * (t.val / 33) + s.val, Pipeline.run_point_lt_of_flush t h1 s⟩ (ix2 k (j 1)) = (m (c.tc.loc main_arg2)) (ix2 ⟨s.val * 128 + k.val, hl⟩ (j 1)) := r2 (j 1)
  have p0 : iblk m c 3 ⟨33 * (t.val / 33) + s.val, Pipeline.run_point_lt_of_flush t h1 s⟩ (ix2 0 (j 1)) = (m (c.tc.loc main_arg3)) (ix2 0 (j 1)) := g0 (j 1)
  simp only [q0, q1, q2, p0]

/-- The kernel's accumulated result 0 is the reference's. -/
theorem final_5 (c : Dev nD) : (dats m 0 c).arrAt 5 (cfgs 0).N = refDg (m (c.tc.loc main_arg0)) (m (c.tc.loc main_arg1)) (m (c.tc.loc main_arg2)) (m (c.tc.loc main_arg3)) := by
  refine (dats m 0 c).arrAt_eq_of_covers 5 _ (by decide +kernel) fun t hf y => ?_
  have hy : (y : S1x2048.Idx) = ((cfg0.win 5).blk t).view.emb y := by blk_ext [idx_val t]
  blk_simp; rw [after0_5]
  exact (sum_5 m c t ((flush0_5 t).mp hf) y).trans (congrArg _ hy)

/-- The entry of argument 0's block that point `t` reads. -/
theorem entry_0 (c : Dev nD) (t : Fin cfg0.N) (y : S128x2048.Idx) (r : Fin 4224) (h : r.val = 128 * t.val + (y 0).val) :
    iblk m c 0 t y = (m (c.tc.loc main_arg0)) (ix2 r (y 1)) := by
  have e := row_0 m c t (y 0) r h (y 1)
  exact (congrArg (iblk m c 0 t) (by blk_ext)).trans e

/-- The entry of argument 1's block that point `t` reads. -/
theorem entry_1 (c : Dev nD) (t : Fin cfg0.N) (y : S128x2048.Idx) (r : Fin 4224) (h : r.val = 128 * t.val + (y 0).val) :
    iblk m c 1 t y = (m (c.tc.loc main_arg1)) (ix2 r (y 1)) := by
  have e := row_1 m c t (y 0) r h (y 1)
  exact (congrArg (iblk m c 1 t) (by blk_ext)).trans e

/-- The entry of argument 2's block that point `t` reads. -/
theorem entry_2 (c : Dev nD) (t : Fin cfg0.N) (y : S128x2048.Idx) (r : Fin 4224) (h : r.val = 128 * t.val + (y 0).val) :
    iblk m c 2 t y = (m (c.tc.loc main_arg2)) (ix2 r (y 1)) := by
  have e := row_2 m c t (y 0) r h (y 1)
  exact (congrArg (iblk m c 2 t) (by blk_ext)).trans e

/-- Point 0's block of result window 4 is rewritten by point 1 before it is copied out. -/
theorem flush_4 : ∀ t : Fin cfg0.N, (cfg0.win 4).flush t = true → t.val ≠ 0 :=
  (by decide +kernel : ∀ t : Fin grid0.N, _)

/-- The row of the arguments that entry `y` of result window 4's block at point `t` comes from. -/
theorem emb_4 (t : Fin cfg0.N) (h : t.val ≠ 0) (y : S128x2048.Idx) :
    ((((cfg0.win 4).blk t).view.emb y) 0).val + 128 = 128 * t.val + (y 0).val := by
  blk_simp [idx_val t]; omega

/-- The column of that entry. -/
theorem col_4 (t : Fin cfg0.N) (y : S128x2048.Idx) :
    (((cfg0.win 4).blk t).view.emb y) 1 = y 1 := by
  refine Fin.ext ?_
  blk_simp [idx_val t]

/-- What a point leaves in result window 4. -/
theorem point_4 (c : Dev nD) (t : Fin cfg0.N) (y : S128x2048.Idx) :
    (outsAt0 m c t.val t.isLt).1 y = k0_pay8 (iblk m c 0 t) (iblk m c 1 t) (iblk m c 2 t) (iblk m c 3 t) y := by
  by_cases h0 : t.val % 33 = 0
  · rw [outsAt0_A m c t h0]; frame_out
  · rw [outsAt0_B m c t h0]; frame_out

/-- The kernel's result 0 is the reference's. -/
theorem final_4 (c : Dev nD) : (dats m 0 c).arrAt 4 (cfgs 0).N = refDh (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp; rw [after0_4]
  refine (point_4 m c t y).trans ?_
  have hc := col_4 t y
  have hr := emb_4 t (flush_4 t hf) y
  revert hc hr
  generalize ((cfg0.win 4).blk t).view.emb y = z
  intro hc hr
  pointwise [k0_pay5, k0_pay6, k0_pay7, k0_pay8, refDh]
  have hz : (z 0).val < 4096 := (z 0).isLt
  have hr : 128 + (z 0).val = 128 * t.val + (y 0).val := by omega
  simp only [hc]
  have e0 := entry_0 m c t y ⟨128 + (z 0).val, by omega⟩ hr
  have r0 := row_0 m c t (y 0) ⟨128 + (z 0).val, by omega⟩ hr
  have e1 := entry_1 m c t y ⟨128 + (z 0).val, by omega⟩ hr
  have r1 := row_1 m c t (y 0) ⟨128 + (z 0).val, by omega⟩ hr
  have e2 := entry_2 m c t y ⟨128 + (z 0).val, by omega⟩ hr
  have r2 := row_2 m c t (y 0) ⟨128 + (z 0).val, by omega⟩ hr
  have g3 := gain_3 m c t
  have q3 : iblk m c 3 t (ix2 0 (y 1)) = (m (c.tc.loc main_arg3)) (ix2 0 (y 1)) := g3 (y 1)
  simp only [e0, e1, e2, q3]
  try simp only [r0, r1, r2, g3]
  try rfl

/-- The block of point 0, as the reference computes it. -/
theorem head_0 (c : Dev nD) (t : Fin cfg0.N) (h0 : t.val = 0) (y : S128x2048.Idx) :
    k0_pay8 (iblk m c 0 t) (iblk m c 1 t) (iblk m c 2 t) (iblk m c 3 t) y = refHead (m (c.tc.loc main_arg0)) (m (c.tc.loc main_arg1)) (m (c.tc.loc main_arg2)) (m (c.tc.loc main_arg3)) y := by
  pointwise [k0_pay5, k0_pay6, k0_pay7, k0_pay8, refHead]
  have hr : (y 0).val = 128 * t.val + (y 0).val := by omega
  have hy : (y 0).val < 128 := (y 0).isLt
  have e0 := entry_0 m c t y ⟨(y 0).val, by omega⟩ hr
  have r0 := row_0 m c t (y 0) ⟨(y 0).val, by omega⟩ hr
  have e1 := entry_1 m c t y ⟨(y 0).val, by omega⟩ hr
  have r1 := row_1 m c t (y 0) ⟨(y 0).val, by omega⟩ hr
  have e2 := entry_2 m c t y ⟨(y 0).val, by omega⟩ hr
  have r2 := row_2 m c t (y 0) ⟨(y 0).val, by omega⟩ hr
  have g3 := gain_3 m c t
  have q3 : iblk m c 3 t (ix2 0 (y 1)) = (m (c.tc.loc main_arg3)) (ix2 0 (y 1)) := g3 (y 1)
  simp only [e0, e1, e2, q3]
  try simp only [r0, r1, r2, g3]
  try rfl

/-- Only the first point adds its rows. -/
theorem is_first : ∀ t : Fin cfg0.N, Scalar.cmpi CmpIPredicate.eq (Scalar.muli (BitVec.ofNat 32 (grid0.coords t 0).val) 128#32) 0#32
    = if t.val % 33 = 0 then 1#1 else 0#1 :=
  (by decide +kernel : ∀ t : Fin grid0.N, _)

theorem first_6 (c : Dev nD) (t : Fin cfg0.N) (h0 : t.val % 33 = 0) (y : S128x2048.Idx) :
    (outsAt0 m c t.val t.isLt).2.2 y = refHead (m (c.tc.loc main_arg0)) (m (c.tc.loc main_arg1)) (m (c.tc.loc main_arg2)) (m (c.tc.loc main_arg3)) y := by
  have ht : t.val = 0 := by have := lt_of_lt_of_eq t.isLt N_0; omega
  rw [← head_0 m c t ht, outsAt0_A m c t h0]
  frame_out
  pointwise [k0_pay4, k0_pay2]
  rw [is_first t, if_pos h0]
  rfl

theorem next_6 (c : Dev nD) (t : Fin cfg0.N) (h0 : ¬ t.val % 33 = 0) (y : S128x2048.Idx) :
    (outsAt0 m c t.val t.isLt).2.2 y = (outsAt0 m c (t.val - 1) (Nat.lt_of_le_of_lt (Nat.sub_le _ _) t.isLt)).2.2 y := by
  rw [outsAt0_B m c t h0]
  frame_out
  try rw [read_unread_whole]
  pointwise [k0_pay4]
  rw [is_first t, if_neg h0]
  exact add_zero (_ : EReal)

/-- Every point leaves the rows of the first block. -/
theorem every_6 (c : Dev nD) (y : S128x2048.Idx) (n : ℕ) (h : n < cfg0.N) :
    (outsAt0 m c n h).2.2 y = refHead (m (c.tc.loc main_arg0)) (m (c.tc.loc main_arg1)) (m (c.tc.loc main_arg2)) (m (c.tc.loc main_arg3)) y := by
  induction n with
  | zero => exact first_6 m c ⟨0, h⟩ rfl y
  | succ n ih =>
    have h33 : n + 1 < 33 := lt_of_lt_of_eq h N_0
    exact (next_6 m c ⟨n + 1, h⟩ (by simp only []; omega) y).trans (ih _)

/-- The kernel's accumulated result 2 is the reference's. -/
theorem final_6 (c : Dev nD) : (dats m 0 c).arrAt 6 (cfgs 0).N = refHead (m (c.tc.loc main_arg0)) (m (c.tc.loc main_arg1)) (m (c.tc.loc main_arg2)) (m (c.tc.loc main_arg3)) := by
  refine (dats m 0 c).arrAt_eq_of_covers 6 _ (by decide +kernel) fun t hf y => ?_
  have hy : (y : S128x2048.Idx) = ((cfg0.win 6).blk t).view.emb y := by blk_ext [idx_val t]
  blk_simp; rw [after0_6]
  exact (every_6 m c y t.val t.isLt).trans (congrArg _ hy)

end Cert.Kernel27Ideal.Value
-- ==== Proof.RunPreMixB.lean ====
/- The run of the reference `reference27`, its results under the names that the values use. -/
module

public import proofs.«01_k».proof.Proof.ValuePreMixB
public import Idealize.ShloMosaic.Lib.Pipeline.ReadBack
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference27Ideal.Value
open Cert.Reference27Ideal Cert.Reference27Ideal.Gen

/-- Every run of the reference ends with the named results, its arguments unchanged. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v35) = refDh (m (c.tc.loc main_arg0)) (m (c.tc.loc main_arg1)) (m (c.tc.loc main_arg2)) (m (c.tc.loc main_arg3))
      ∧ r.2.mem (c.tc.loc main_v17) = refDg (m (c.tc.loc main_arg0)) (m (c.tc.loc main_arg1)) (m (c.tc.loc main_arg2)) (m (c.tc.loc main_arg3))
      ∧ r.2.mem (c.tc.loc main_v36) = refHead (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨(h c).1, (h c).2.1, (h c).2.2.1, (h c).2.2.2.1, (h c).2.2.2.2.1, (h c).2.2.2.2.2.1, (h c).2.2.2.2.2.2⟩) (run m ρ)

end Cert.Reference27Ideal.Value

end
-- ==== Proof.ValueLossHead.lean ====
/- The values of the loss and of its gradient (the kernel `loss_head`). -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel28Ideal.Value
public import proofs.«01_k».proof.Proof.Gen.Reference28Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference28Ideal.Value
open Cert.Reference28Ideal Cert.Reference28Ideal.Gen

/-- The gradient of the last residual stream, as the reference computes it. -/
def refDh (a0 a1 : FVec Ideal S4224x2048 .f32) (a2 : FVec Ideal S1x4096x2048 .f32) (a3 : FVec Ideal S1x2048 .f32) : FVec Ideal S4224x2048 .f32 :=
  concatenate S4224x2048 0 [⟨S128x2048, (broadcastInDim S128x2048 ![] bcast_S_S128x2048 (constant S_ .f32 0x00000000#32))⟩, ⟨S4096x2048, (shapeCast _ (mulf (broadcastInDim S1x4096x2048 ![0, 1] bcast_S1x4096_S1x4096x2048_0_1 (Host.divf (broadcastInDim S1x4096 ![] bcast_S_S1x4096 (mulf (constant S_ .f32 0x3F000000#32) (constant S_ .f32 0x3F800000#32))) (broadcastInDim S1x4096 ![] bcast_S_S1x4096 (constant S_ .f32 0x45000000#32)))) (mulf (broadcastInDim S1x4096x2048 ![] bcast_S_S1x4096x2048 (constant S_ .f32 0x40000000#32)) (subf (broadcastInDim S1x4096x2048 ![1, 2] bcast_S4096x2048_S1x4096x2048_1_2 (extractStridedSlice S4096x2048 ![128, 0] (addf a0 (mulf (mulf a1 (broadcastInDim S4224x2048 ![0, 1] bcast_S4224x1_S4224x2048_0_1 (Host.rsqrt (addf (Host.divf (broadcastInDim S4224x1 ![0] bcast_S4224_S4224x1_0 (Host.reduceAdd (mulf a1 a1) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x2048 ![0, 1] bcast_S1x2048_S4224x2048_0_1 a3))) slices_S4224x2048_S4096x2048_128_0)) a2))) shapeCasts_S1x4096x2048_S4096x2048)⟩] concatenates_S128x2048_S4096x2048_S4224x2048_d0

end Cert.Reference28Ideal.Value

namespace Cert.Reference28Ideal.Value
open Cert.Reference28Ideal Cert.Reference28Ideal.Gen

/-- The loss, as the reference computes it. -/
def refLoss (a0 a1 : FVec Ideal S4224x2048 .f32) (a2 : FVec Ideal S1x4096x2048 .f32) (a3 : FVec Ideal S1x2048 .f32) : FVec Ideal S8x128 .f32 :=
  broadcastInDim S8x128 ![] bcast_S_S8x128 (mulf (constant S_ .f32 0x3F000000#32) (Host.reduceAdd (Host.divf (Host.reduceAdd (mulf (subf (broadcastInDim S1x4096x2048 ![1, 2] bcast_S4096x2048_S1x4096x2048_1_2 (extractStridedSlice S4096x2048 ![128, 0] (addf a0 (mulf (mulf a1 (broadcastInDim S4224x2048 ![0, 1] bcast_S4224x1_S4224x2048_0_1 (Host.rsqrt (addf (Host.divf (broadcastInDim S4224x1 ![0] bcast_S4224_S4224x1_0 (Host.reduceAdd (mulf a1 a1) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x2048 ![0, 1] bcast_S1x2048_S4224x2048_0_1 a3))) slices_S4224x2048_S4096x2048_128_0)) a2) (subf (broadcastInDim S1x4096x2048 ![1, 2] bcast_S4096x2048_S1x4096x2048_1_2 (extractStridedSlice S4096x2048 ![128, 0] (addf a0 (mulf (mulf a1 (broadcastInDim S4224x2048 ![0, 1] bcast_S4224x1_S4224x2048_0_1 (Host.rsqrt (addf (Host.divf (broadcastInDim S4224x1 ![0] bcast_S4224_S4224x1_0 (Host.reduceAdd (mulf a1 a1) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))))) (broadcastInDim S4224x2048 ![0, 1] bcast_S1x2048_S4224x2048_0_1 a3))) slices_S4224x2048_S4096x2048_128_0)) a2)) (constant S_ .f32 0x00000000#32) reducesTo_S1x4096x2048_S1x4096_d2 h_S_) (broadcastInDim S1x4096 ![] bcast_S_S1x4096 (constant S_ .f32 0x45000000#32))) (constant S_ .f32 0x00000000#32) reducesTo_S1x4096_S_d0_1 h_S_))

end Cert.Reference28Ideal.Value

namespace Cert.Kernel28Ideal.Value

open Cert.Kernel28Ideal Cert.Kernel28Ideal.Gen Cert.Reference28Ideal.Value

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![t.val - 1, 0]
    ∧ win0_3.index t = ![0, 0]
    ∧ win0_4.index t = ![t.val, 0]
    ∧ win0_5.index t = ![0, 0] :=
  (by decide +kernel : ∀ t : Fin grid0.N, _)

/-- Row `k` of the block of argument 0 that point `t` reads is the argument's row `r`. -/
theorem row_0 (c : Dev nD) (t : Fin cfg0.N) (k : Fin 128) (r : Fin 4224) (h : r.val = 128 * t.val + k.val) (x : Fin 2048) :
    iblk m c 0 t (ix2 k x) = (m (c.tc.loc main_arg0)) (ix2 r x) := by
  blk_simp [iblk, idx_val t]; entry_read; pointwise; blk_ext [idx_val t]

/-- Row `k` of the block of argument 1 that point `t` reads is the argument's row `r`. -/
theorem row_1 (c : Dev nD) (t : Fin cfg0.N) (k : Fin 128) (r : Fin 4224) (h : r.val = 128 * t.val + k.val) (x : Fin 2048) :
    iblk m c 1 t (ix2 k x) = (m (c.tc.loc main_arg1)) (ix2 r x) := by
  blk_simp [iblk, idx_val t]; entry_read; pointwise; blk_ext [idx_val t]

/-- Row `k` of the block of the targets that point `t` reads, after the first point. -/
theorem row_2 (c : Dev nD) (t : Fin cfg0.N) (h0 : t.val ≠ 0) (k : Fin 128) (r : Fin 4096) (h : 128 + r.val = 128 * t.val + k.val) (x : Fin 2048) :
    iblk m c 2 t (ix2 k x) = (m (c.tc.loc main_arg2)) (ix3 0 r x) := by
  blk_simp [iblk, idx_val t]; entry_read; pointwise; blk_ext [idx_val t]

/-- Every point reads the whole gain. -/
theorem gain (c : Dev nD) (t : Fin cfg0.N) (x : Fin 2048) :
    iblk m c 3 t (ix2 0 x) = (m (c.tc.loc main_arg3)) (ix2 0 x) := by
  blk_simp [iblk, idx_val t]; entry_read; pointwise; blk_ext [idx_val t]

/-- The reference's difference between the normed residual and the target, at a token's row. -/
def err (a0 a1 : FVec Ideal S4224x2048 .f32) (a2 : FVec Ideal S1x4096x2048 .f32) (a3 : FVec Ideal S1x2048 .f32) (r : Fin 4096) (x : Fin 2048) : EReal :=
  a0 (ix2 ⟨128 + r.val, by omega⟩ x) + a1 (ix2 ⟨128 + r.val, by omega⟩ x)
    * Ideal.rsqrt (Ideal.div (∑ k : Fin 2048, a1 (ix2 ⟨128 + r.val, by omega⟩ k) * a1 (ix2 ⟨128 + r.val, by omega⟩ k)) (Ideal.ofBits FTy.f32 1157627904#32) + Ideal.ofBits FTy.f32 897988541#32)
    * a3 (ix2 0 x) - a2 (ix3 0 r x)

/-- The kernel's mask keeps the blocks after the first. -/
theorem mask : ∀ (t : Fin cfg0.N) (k : Fin 128),
    IntOp.cmpi CmpIPredicate.sge (IntOp.addi (Scalar.muli (BitVec.ofNat 32 (grid0.coords t 0).val) 128#32) (BitVec.ofNat 32 k.val)) 128#32
      = if t.val = 0 then 0#1 else 1#1 :=
  (by decide +kernel : ∀ (t : Fin grid0.N) (k : Fin 128), _)

/-- The first point's differences are all zero. -/
theorem pay_first (c : Dev nD) (t : Fin cfg0.N) (h0 : t.val = 0) (y : S128x2048.Idx) : k0_pay3 (grid0.coords t) (iblk m c 0 t) (iblk m c 1 t) (iblk m c 2 t) (iblk m c 3 t) y = (0 : EReal) := by
  pointwise [k0_pay3]
  rw [mask t (y 0), if_pos h0]
  rfl

/-- A later point's differences are the reference's. -/
theorem pay_next (c : Dev nD) (t : Fin cfg0.N) (h0 : t.val ≠ 0) (k : Fin 128) (x : Fin 2048) (r : Fin 4096) (h : 128 + r.val = 128 * t.val + k.val) :
    k0_pay3 (grid0.coords t) (iblk m c 0 t) (iblk m c 1 t) (iblk m c 2 t) (iblk m c 3 t) (ix2 k x) = err (m (c.tc.loc main_arg0)) (m (c.tc.loc main_arg1)) (m (c.tc.loc main_arg2)) (m (c.tc.loc main_arg3)) r x := by
  pointwise [k0_pay3]
  rw [mask t k, if_neg h0]
  have r0 := row_0 m c t k ⟨128 + r.val, by omega⟩ h
  have r1 := row_1 m c t k ⟨128 + r.val, by omega⟩ h
  have r2 := row_2 m c t h0 k r h
  have r3 := gain m c t
  simp only [r0, r1, r2, r3]
  rfl

theorem half_val : Ideal.ofBits .f32 1056964608#32 = (((1 : ℝ) / 2 : ℝ) : EReal) := by
  simp [Ideal.ofBits, Ideal.ieee, -EReal.coe_mul]; norm_num

theorem two_val : Ideal.ofBits .f32 1073741824#32 = ((2 : ℝ) : EReal) := by
  simp [Ideal.ofBits, Ideal.ieee, -EReal.coe_mul]; norm_num

theorem width_val : Ideal.ofBits .f32 1157627904#32 = ((2048 : ℝ) : EReal) := by
  simp [Ideal.ofBits, Ideal.ieee, -EReal.coe_mul]; norm_num

theorem inv_val : Ideal.ofBits .f32 973078528#32 = (((1 : ℝ) / 2048 : ℝ) : EReal) := by
  simp [Ideal.ofBits, Ideal.ieee, -EReal.coe_mul]; norm_num

/-- Half the mean's derivative times the square's is one over the width. -/
theorem scale_eq (x : EReal) : x * Ideal.ofBits .f32 973078528#32
    = Ideal.div (Ideal.ofBits .f32 1056964608#32) (Ideal.ofBits .f32 1157627904#32) * (Ideal.ofBits .f32 1073741824#32 * x) := by
  rw [half_val, two_val, width_val, inv_val, ← mul_assoc, mul_comm x]
  congr 1
  rw [Ideal.div_coe (by norm_num), ← EReal.coe_mul, ← EReal.coe_mul]
  norm_num

/-- A half of a sum is the sum of the halves. -/
theorem half_sum (n : ℕ) (f : Fin n → EReal) :
    ∑ i, Ideal.ofBits .f32 1056964608#32 * f i = Ideal.ofBits .f32 1056964608#32 * ∑ i, f i := by
  let φ : EReal →+ EReal :=
    ⟨⟨fun x => Ideal.ofBits .f32 1056964608#32 * x, mul_zero _⟩, fun x y => by
      rw [half_val]
      exact EReal.left_distrib_of_nonneg_of_ne_top (EReal.coe_nonneg.mpr (by norm_num)) (EReal.coe_ne_top _) x y⟩
  exact (map_sum φ f Finset.univ).symm

/-- The column of an entry of result window 4's block. -/
theorem col_4 (t : Fin cfg0.N) (y : S128x2048.Idx) : (((cfg0.win 4).blk t).view.emb y) 1 = y 1 := by
  refine Fin.ext ?_
  blk_simp [idx_val t]

/-- The row of an entry of result window 4's block. -/
theorem emb_4 (t : Fin cfg0.N) (y : S128x2048.Idx) : ((((cfg0.win 4).blk t).view.emb y) 0).val = 128 * t.val + (y 0).val := by
  blk_simp [idx_val t]; omega

/-- What a point leaves in result window 4. -/
theorem point_4 (c : Dev nD) (t : Fin cfg0.N) (y : S128x2048.Idx) :
    (outsAt0 m c t.val t.isLt).1 y = k0_pay3 (grid0.coords t) (iblk m c 0 t) (iblk m c 1 t) (iblk m c 2 t) (iblk m c 3 t) y * Ideal.ofBits .f32 973078528#32 := by
  by_cases h0 : t.val % 33 = 0
  · rw [outsAt0_A m c t h0]; frame_out; pointwise [k0_pay5]
  · rw [outsAt0_B m c t h0]; frame_out; pointwise [k0_pay5]

/-- The kernel's gradient is the reference's. -/
theorem final_4 (c : Dev nD) : (dats m 0 c).arrAt 4 (cfgs 0).N = refDh (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp; rw [after0_4]
  refine (point_4 m c t y).trans ?_
  have hc := col_4 t y
  have hr := emb_4 t y
  revert hc hr
  generalize ((cfg0.win 4).blk t).view.emb y = z
  intro hc hr
  have hz : (z 0).val < 4224 := (z 0).isLt
  have hy : (y 0).val < 128 := (y 0).isLt
  by_cases h0 : t.val = 0
  · rw [pay_first m c t h0]
    pointwise [refDh]
    rw [dif_pos (by omega)]
    exact zero_mul _
  · have e := pay_next m c t h0 (y 0) (y 1) ⟨(z 0).val - 128, by omega⟩ (by simp only []; omega)
    have e2 : k0_pay3 (grid0.coords t) (iblk m c 0 t) (iblk m c 1 t) (iblk m c 2 t) (iblk m c 3 t) y = _ := (congrArg (k0_pay3 (grid0.coords t) (iblk m c 0 t) (iblk m c 1 t) (iblk m c 2 t) (iblk m c 3 t)) (by blk_ext)).trans e
    rw [e2, scale_eq]
    pointwise [refDh]
    rw [dif_neg (by omega)]
    simp only [hc]
    rfl

/-- What point `t` adds to the loss. -/
def part (c : Dev nD) (t : Fin cfg0.N) : EReal :=
  k0_pay4 (grid0.coords t) (iblk m c 0 t) (iblk m c 1 t) (iblk m c 2 t) (iblk m c 3 t) (ix2 0 0)

theorem first_5 (c : Dev nD) (t : Fin cfg0.N) (h0 : t.val % 33 = 0) (j : S8x128.Idx) :
    (outsAt0 m c t.val t.isLt).2 j = (0 : EReal) + part m c t := by
  rw [outsAt0_A m c t h0]
  frame_out
  pointwise [k0_pay1, k0_pay2]
  rfl

theorem next_5 (c : Dev nD) (t : Fin cfg0.N) (h0 : ¬ t.val % 33 = 0) (j : S8x128.Idx) :
    (outsAt0 m c t.val t.isLt).2 j = (outsAt0 m c (t.val - 1) (Nat.lt_of_le_of_lt (Nat.sub_le _ _) t.isLt)).2 j + part m c t := by
  rw [outsAt0_B m c t h0]
  frame_out
  try rw [read_unread_whole]
  pointwise [k0_pay2]
  rfl

/-- The last point leaves the sum over all points. -/
theorem total_5 (c : Dev nD) (t : Fin cfg0.N) (h1 : t.val % 33 = 32) (j : S8x128.Idx) :
    (outsAt0 m c t.val t.isLt).2 j
      = ∑ s : Fin 33, part m c ⟨33 * (t.val / 33) + s.val, Pipeline.run_point_lt_of_flush t h1 s⟩ :=
  (Pipeline.eq_sum_fin_of_reset_step_apply_of_flush (fun n h => (outsAt0 m c n h).2) 33 (fun _ => (0 : EReal)) (fun t _ => part m c t)
    (fun t h j => first_5 m c t h j) (fun t h j => next_5 m c t h j) t h1 j).trans (zero_add (_ : EReal))

/-- The sum over all points is the reference's loss. -/
theorem sum_5 (c : Dev nD) (t : Fin cfg0.N) (h1 : t.val % 33 = 32) (j : S8x128.Idx) :
    (outsAt0 m c t.val t.isLt).2 j = refLoss (m (c.tc.loc main_arg0)) (m (c.tc.loc main_arg1)) (m (c.tc.loc main_arg2)) (m (c.tc.loc main_arg3)) j := by
  rw [total_5 m c t h1]
  have ht : t.val / 33 = 0 := Nat.div_eq_of_lt (lt_of_lt_of_eq t.isLt N_0)
  pointwise [part, k0_pay4, refLoss]
  rw [half_sum, Fin.sum_univ_succ]
  congr 1
  rw [Fin.sum_univ_one]
  have z0 := pay_first m c ⟨33 * (t.val / 33) + (0 : Fin 33).val, Pipeline.run_point_lt_of_flush t h1 0⟩ (by simp [ht])
  simp only [z0, mul_zero, Finset.sum_const_zero]
  have zd : Ideal.div 0 (Ideal.ofBits .f32 1157627904#32) = 0 := by
    rw [width_val, Ideal.div_coe (by norm_num), zero_mul]
  simp only [zd, Finset.sum_const_zero, zero_add]
  refine Fin.sum_mul_add_congr fun s k hl => ?_
  have q : ∀ x, _ := fun x => pay_next m c ⟨33 * (t.val / 33) + s.succ.val, Pipeline.run_point_lt_of_flush t h1 s.succ⟩ (by simp) k x ⟨s.val * 128 + k.val, hl⟩ (by simp only [Fin.val_succ, ht]; omega)
  simp only [q]
  rfl

/-- The kernel's loss is the reference's. -/
theorem final_5 (c : Dev nD) : (dats m 0 c).arrAt 5 (cfgs 0).N = refLoss (m (c.tc.loc main_arg0)) (m (c.tc.loc main_arg1)) (m (c.tc.loc main_arg2)) (m (c.tc.loc main_arg3)) := by
  refine (dats m 0 c).arrAt_eq_of_covers 5 _ (by decide +kernel) fun t hf y => ?_
  have hy : (y : S8x128.Idx) = ((cfg0.win 5).blk t).view.emb y := by blk_ext [idx_val t]
  blk_simp; rw [after0_5]
  exact (sum_5 m c t ((flush0_5 t).mp hf) y).trans (congrArg _ hy)

end Cert.Kernel28Ideal.Value
-- ==== Proof.RunLossHead.lean ====
/- The run of the reference `reference28`, its results under the names that the values use. -/
module

public import proofs.«01_k».proof.Proof.ValueLossHead
public import Idealize.ShloMosaic.Lib.Pipeline.ReadBack
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference28Ideal.Value
open Cert.Reference28Ideal Cert.Reference28Ideal.Gen

/-- Every run of the reference ends with the named results, its arguments unchanged. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v32) = refDh (m (c.tc.loc main_arg0)) (m (c.tc.loc main_arg1)) (m (c.tc.loc main_arg2)) (m (c.tc.loc main_arg3))
      ∧ r.2.mem (c.tc.loc main_v33) = refLoss (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨(h c).1, (h c).2.1, (h c).2.2.1, (h c).2.2.2.1, (h c).2.2.2.2.1, (h c).2.2.2.2.2⟩) (run m ρ)

end Cert.Reference28Ideal.Value

end
-- ==== Proof.ValueAdamSmall.lean ====
/- The values of the optimiser step of the small weights, packed into rows (the kernel `adamw_small`). -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel29Ideal.Value
public import proofs.«01_k».proof.Proof.Gen.Reference29Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference29Ideal.Value
open Cert.Reference29Ideal Cert.Reference29Ideal.Gen

/-- The twelve weights one behind the other. -/
def flat (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32) : FVec Ideal S171776 .f32 :=
  concatenate S171776 0 [⟨S4096, shapeCast S4096 x0 shapeCasts_S2x2048_S4096⟩, ⟨S1024, shapeCast S1024 x1 shapeCasts_S2x512_S1024⟩, ⟨S1024, shapeCast S1024 x2 shapeCasts_S2x512_S1024⟩, ⟨S1024, shapeCast S1024 x3 shapeCasts_S2x512_S1024⟩, ⟨S1024, shapeCast S1024 x4 shapeCasts_S2x512_S1024⟩, ⟨S4096, shapeCast S4096 x5 shapeCasts_S2x2048_S4096⟩, ⟨S4096, shapeCast S4096 x6 shapeCasts_S2x2048_S4096⟩, ⟨S4096, shapeCast S4096 x7 shapeCasts_S2x2048_S4096⟩, ⟨S4096, shapeCast S4096 x8 shapeCasts_S2x2048_S4096⟩, ⟨S131072, shapeCast S131072 x9 shapeCasts_S2x4x128x128_S131072⟩, ⟨S8192, shapeCast S8192 x10 shapeCasts_S16x512_S8192⟩, ⟨S7936, shapeCast S7936 x11 shapeCasts_S2x31x128_S7936⟩] concatenates_S4096_S1024_S1024_S1024_S1024_S4096_S4096_S4096_S4096_S131072_S8192_S7936_S171776_d0

/-- The twelve weights one behind the other, with zeros behind them, in rows of 128. -/
def packed (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32) : FVec Ideal S1536x128 .f32 :=
  shapeCast S1536x128 (pad S196608 ![0] ![24832] ![0] (flat x0 x1 x2 x3 x4 x5 x6 x7 x8 x9 x10 x11) (sitofp (F := Ideal) .f32 (constantI S_ 32 0#32)) pads_S171776_S196608_0248320 h_S_) shapeCasts_S196608_S1536x128

section
variable {s : Shape} (h : S_.BroadcastsInDim s ![])

/-- The new first moment of one weight. -/
def mom (g m : FVec Ideal s .f32) : FVec Ideal s .f32 :=
  addf (mulf (broadcastInDim s ![] h (constant S_ .f32 0x3F666666#32)) m) (mulf (broadcastInDim s ![] h (constant S_ .f32 0x3DCCCCCD#32)) g)

/-- The new second moment of one weight. -/
def sec (g v : FVec Ideal s .f32) : FVec Ideal s .f32 :=
  addf (mulf (broadcastInDim s ![] h (constant S_ .f32 0x3F7FBE77#32)) v) (mulf (broadcastInDim s ![] h (constant S_ .f32 0x3A83126F#32)) (mulf g g))

/-- The update of one weight. -/
def upd (w m v g : FVec Ideal s .f32) : FVec Ideal s .f32 :=
  mulf (broadcastInDim s ![] h (constant S_ .f32 0xBA83126F#32)) (addf (Host.divf (Host.divf (mom h g m) (broadcastInDim s ![] h (constant S_ .f32 0x3F26BD02#32))) (addf (Host.sqrt (Host.divf (sec h g v) (broadcastInDim s ![] h (constant S_ .f32 0x3C231ACC#32)))) (broadcastInDim s ![] h (constant S_ .f32 0x322BCC77#32)))) (mulf (broadcastInDim s ![] h (constant S_ .f32 0x3C23D70A#32)) w))

end

/-- The updates of the twelve weights, packed, as the reference computes them. -/
def refDelta (a0 : FVec Ideal S2x2048 .f32) (a1 a2 a3 a4 : FVec Ideal S2x512 .f32) (a5 a6 a7 a8 : FVec Ideal S2x2048 .f32) (a9 : FVec Ideal S2x4x128x128 .f32) (a10 : FVec Ideal S16x512 .f32) (a11 : FVec Ideal S2x31x128 .f32) (a12 : FVec Ideal S2x2048 .f32) (a13 a14 a15 a16 : FVec Ideal S2x512 .f32) (a17 a18 a19 a20 : FVec Ideal S2x2048 .f32) (a21 : FVec Ideal S2x4x128x128 .f32) (a22 : FVec Ideal S16x512 .f32) (a23 : FVec Ideal S2x31x128 .f32) (a24 : FVec Ideal S2x2048 .f32) (a25 a26 a27 a28 : FVec Ideal S2x512 .f32) (a29 a30 a31 a32 : FVec Ideal S2x2048 .f32) (a33 : FVec Ideal S2x4x128x128 .f32) (a34 : FVec Ideal S16x512 .f32) (a35 : FVec Ideal S2x31x128 .f32) (a36 : FVec Ideal S2x2048 .f32) (a37 a38 a39 a40 : FVec Ideal S2x512 .f32) (a41 a42 a43 a44 : FVec Ideal S2x2048 .f32) (a45 : FVec Ideal S2x4x128x128 .f32) (a46 : FVec Ideal S16x512 .f32) (a47 : FVec Ideal S2x31x128 .f32) : FVec Ideal S1536x128 .f32 :=
  packed (upd bcast_S_S2x2048 a0 a12 a24 a36) (upd bcast_S_S2x512 a1 a13 a25 a37) (upd bcast_S_S2x512 a2 a14 a26 a38) (upd bcast_S_S2x512 a3 a15 a27 a39) (upd bcast_S_S2x512 a4 a16 a28 a40) (upd bcast_S_S2x2048 a5 a17 a29 a41) (upd bcast_S_S2x2048 a6 a18 a30 a42) (upd bcast_S_S2x2048 a7 a19 a31 a43) (upd bcast_S_S2x2048 a8 a20 a32 a44) (upd bcast_S_S2x4x128x128 a9 a21 a33 a45) (upd bcast_S_S16x512 a10 a22 a34 a46) (upd bcast_S_S2x31x128 a11 a23 a35 a47)

/-- The new first moments of the twelve weights, packed, as the reference computes them. -/
def refM (a0 : FVec Ideal S2x2048 .f32) (a1 a2 a3 a4 : FVec Ideal S2x512 .f32) (a5 a6 a7 a8 : FVec Ideal S2x2048 .f32) (a9 : FVec Ideal S2x4x128x128 .f32) (a10 : FVec Ideal S16x512 .f32) (a11 : FVec Ideal S2x31x128 .f32) (a12 : FVec Ideal S2x2048 .f32) (a13 a14 a15 a16 : FVec Ideal S2x512 .f32) (a17 a18 a19 a20 : FVec Ideal S2x2048 .f32) (a21 : FVec Ideal S2x4x128x128 .f32) (a22 : FVec Ideal S16x512 .f32) (a23 : FVec Ideal S2x31x128 .f32) (a24 : FVec Ideal S2x2048 .f32) (a25 a26 a27 a28 : FVec Ideal S2x512 .f32) (a29 a30 a31 a32 : FVec Ideal S2x2048 .f32) (a33 : FVec Ideal S2x4x128x128 .f32) (a34 : FVec Ideal S16x512 .f32) (a35 : FVec Ideal S2x31x128 .f32) (a36 : FVec Ideal S2x2048 .f32) (a37 a38 a39 a40 : FVec Ideal S2x512 .f32) (a41 a42 a43 a44 : FVec Ideal S2x2048 .f32) (a45 : FVec Ideal S2x4x128x128 .f32) (a46 : FVec Ideal S16x512 .f32) (a47 : FVec Ideal S2x31x128 .f32) : FVec Ideal S1536x128 .f32 :=
  packed (mom bcast_S_S2x2048 a36 a12) (mom bcast_S_S2x512 a37 a13) (mom bcast_S_S2x512 a38 a14) (mom bcast_S_S2x512 a39 a15) (mom bcast_S_S2x512 a40 a16) (mom bcast_S_S2x2048 a41 a17) (mom bcast_S_S2x2048 a42 a18) (mom bcast_S_S2x2048 a43 a19) (mom bcast_S_S2x2048 a44 a20) (mom bcast_S_S2x4x128x128 a45 a21) (mom bcast_S_S16x512 a46 a22) (mom bcast_S_S2x31x128 a47 a23)

/-- The new second moments of the twelve weights, packed, as the reference computes them. -/
def refV (a0 : FVec Ideal S2x2048 .f32) (a1 a2 a3 a4 : FVec Ideal S2x512 .f32) (a5 a6 a7 a8 : FVec Ideal S2x2048 .f32) (a9 : FVec Ideal S2x4x128x128 .f32) (a10 : FVec Ideal S16x512 .f32) (a11 : FVec Ideal S2x31x128 .f32) (a12 : FVec Ideal S2x2048 .f32) (a13 a14 a15 a16 : FVec Ideal S2x512 .f32) (a17 a18 a19 a20 : FVec Ideal S2x2048 .f32) (a21 : FVec Ideal S2x4x128x128 .f32) (a22 : FVec Ideal S16x512 .f32) (a23 : FVec Ideal S2x31x128 .f32) (a24 : FVec Ideal S2x2048 .f32) (a25 a26 a27 a28 : FVec Ideal S2x512 .f32) (a29 a30 a31 a32 : FVec Ideal S2x2048 .f32) (a33 : FVec Ideal S2x4x128x128 .f32) (a34 : FVec Ideal S16x512 .f32) (a35 : FVec Ideal S2x31x128 .f32) (a36 : FVec Ideal S2x2048 .f32) (a37 a38 a39 a40 : FVec Ideal S2x512 .f32) (a41 a42 a43 a44 : FVec Ideal S2x2048 .f32) (a45 : FVec Ideal S2x4x128x128 .f32) (a46 : FVec Ideal S16x512 .f32) (a47 : FVec Ideal S2x31x128 .f32) : FVec Ideal S1536x128 .f32 :=
  packed (sec bcast_S_S2x2048 a36 a24) (sec bcast_S_S2x512 a37 a25) (sec bcast_S_S2x512 a38 a26) (sec bcast_S_S2x512 a39 a27) (sec bcast_S_S2x512 a40 a28) (sec bcast_S_S2x2048 a41 a29) (sec bcast_S_S2x2048 a42 a30) (sec bcast_S_S2x2048 a43 a31) (sec bcast_S_S2x2048 a44 a32) (sec bcast_S_S2x4x128x128 a45 a33) (sec bcast_S_S16x512 a46 a34) (sec bcast_S_S2x31x128 a47 a35)

/-- How many entries stand before piece 0. -/
theorem pre_0 : ((([] : List Shape)).map fun s => if h : s.rank = S171776.rank then s.size ((0 : Fin S171776.rank).cast h.symm) else 0).sum = 0 := by decide +kernel

/-- An entry of piece 0. -/
theorem flat_0 (p : S171776.Idx) (h0 : 0 ≤ (p 0).val) (h1 : (p 0).val < 4096) :
    ∃ e : S2x2048.Idx, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x0 e :=
  ⟨Shape.reshapeEquiv shapeCasts_S2x2048_S4096 (ix1 ⟨(p 0).val - 0, by omega⟩), fun x0 x1 x2 x3 x4 x5 x6 x7 x8 x9 x10 x11 => by
    unfold flat
    refine concatenate_apply_piece 0 _ _ p 0 ?_ S4096 (shapeCast S4096 x0 shapeCasts_S2x2048_S4096) ?_ rfl 0 ?_
      (ix1 ⟨(p 0).val - 0, by omega⟩) (fun b hb => absurd (Subsingleton.elim _ _) hb) ?_
    · simp
    · rfl
    · exact pre_0
    · show 0 + ((p 0).val - 0) = (p 0).val; omega⟩

/-- How many entries stand before piece 1. -/
theorem pre_1 : ((([S4096] : List Shape)).map fun s => if h : s.rank = S171776.rank then s.size ((0 : Fin S171776.rank).cast h.symm) else 0).sum = 4096 := by decide +kernel

/-- An entry of piece 1. -/
theorem flat_1 (p : S171776.Idx) (h0 : 4096 ≤ (p 0).val) (h1 : (p 0).val < 5120) :
    ∃ e : S2x512.Idx, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x1 e :=
  ⟨Shape.reshapeEquiv shapeCasts_S2x512_S1024 (ix1 ⟨(p 0).val - 4096, by omega⟩), fun x0 x1 x2 x3 x4 x5 x6 x7 x8 x9 x10 x11 => by
    unfold flat
    refine concatenate_apply_piece 0 _ _ p 1 ?_ S1024 (shapeCast S1024 x1 shapeCasts_S2x512_S1024) ?_ rfl 4096 ?_
      (ix1 ⟨(p 0).val - 4096, by omega⟩) (fun b hb => absurd (Subsingleton.elim _ _) hb) ?_
    · simp
    · rfl
    · exact pre_1
    · show 4096 + ((p 0).val - 4096) = (p 0).val; omega⟩

/-- How many entries stand before piece 2. -/
theorem pre_2 : ((([S4096, S1024] : List Shape)).map fun s => if h : s.rank = S171776.rank then s.size ((0 : Fin S171776.rank).cast h.symm) else 0).sum = 5120 := by decide +kernel

/-- An entry of piece 2. -/
theorem flat_2 (p : S171776.Idx) (h0 : 5120 ≤ (p 0).val) (h1 : (p 0).val < 6144) :
    ∃ e : S2x512.Idx, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x2 e :=
  ⟨Shape.reshapeEquiv shapeCasts_S2x512_S1024 (ix1 ⟨(p 0).val - 5120, by omega⟩), fun x0 x1 x2 x3 x4 x5 x6 x7 x8 x9 x10 x11 => by
    unfold flat
    refine concatenate_apply_piece 0 _ _ p 2 ?_ S1024 (shapeCast S1024 x2 shapeCasts_S2x512_S1024) ?_ rfl 5120 ?_
      (ix1 ⟨(p 0).val - 5120, by omega⟩) (fun b hb => absurd (Subsingleton.elim _ _) hb) ?_
    · simp
    · rfl
    · exact pre_2
    · show 5120 + ((p 0).val - 5120) = (p 0).val; omega⟩

/-- How many entries stand before piece 3. -/
theorem pre_3 : ((([S4096, S1024, S1024] : List Shape)).map fun s => if h : s.rank = S171776.rank then s.size ((0 : Fin S171776.rank).cast h.symm) else 0).sum = 6144 := by decide +kernel

/-- An entry of piece 3. -/
theorem flat_3 (p : S171776.Idx) (h0 : 6144 ≤ (p 0).val) (h1 : (p 0).val < 7168) :
    ∃ e : S2x512.Idx, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x3 e :=
  ⟨Shape.reshapeEquiv shapeCasts_S2x512_S1024 (ix1 ⟨(p 0).val - 6144, by omega⟩), fun x0 x1 x2 x3 x4 x5 x6 x7 x8 x9 x10 x11 => by
    unfold flat
    refine concatenate_apply_piece 0 _ _ p 3 ?_ S1024 (shapeCast S1024 x3 shapeCasts_S2x512_S1024) ?_ rfl 6144 ?_
      (ix1 ⟨(p 0).val - 6144, by omega⟩) (fun b hb => absurd (Subsingleton.elim _ _) hb) ?_
    · simp
    · rfl
    · exact pre_3
    · show 6144 + ((p 0).val - 6144) = (p 0).val; omega⟩

/-- How many entries stand before piece 4. -/
theorem pre_4 : ((([S4096, S1024, S1024, S1024] : List Shape)).map fun s => if h : s.rank = S171776.rank then s.size ((0 : Fin S171776.rank).cast h.symm) else 0).sum = 7168 := by decide +kernel

/-- An entry of piece 4. -/
theorem flat_4 (p : S171776.Idx) (h0 : 7168 ≤ (p 0).val) (h1 : (p 0).val < 8192) :
    ∃ e : S2x512.Idx, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x4 e :=
  ⟨Shape.reshapeEquiv shapeCasts_S2x512_S1024 (ix1 ⟨(p 0).val - 7168, by omega⟩), fun x0 x1 x2 x3 x4 x5 x6 x7 x8 x9 x10 x11 => by
    unfold flat
    refine concatenate_apply_piece 0 _ _ p 4 ?_ S1024 (shapeCast S1024 x4 shapeCasts_S2x512_S1024) ?_ rfl 7168 ?_
      (ix1 ⟨(p 0).val - 7168, by omega⟩) (fun b hb => absurd (Subsingleton.elim _ _) hb) ?_
    · simp
    · rfl
    · exact pre_4
    · show 7168 + ((p 0).val - 7168) = (p 0).val; omega⟩

/-- How many entries stand before piece 5. -/
theorem pre_5 : ((([S4096, S1024, S1024, S1024, S1024] : List Shape)).map fun s => if h : s.rank = S171776.rank then s.size ((0 : Fin S171776.rank).cast h.symm) else 0).sum = 8192 := by decide +kernel

/-- An entry of piece 5. -/
theorem flat_5 (p : S171776.Idx) (h0 : 8192 ≤ (p 0).val) (h1 : (p 0).val < 12288) :
    ∃ e : S2x2048.Idx, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x5 e :=
  ⟨Shape.reshapeEquiv shapeCasts_S2x2048_S4096 (ix1 ⟨(p 0).val - 8192, by omega⟩), fun x0 x1 x2 x3 x4 x5 x6 x7 x8 x9 x10 x11 => by
    unfold flat
    refine concatenate_apply_piece 0 _ _ p 5 ?_ S4096 (shapeCast S4096 x5 shapeCasts_S2x2048_S4096) ?_ rfl 8192 ?_
      (ix1 ⟨(p 0).val - 8192, by omega⟩) (fun b hb => absurd (Subsingleton.elim _ _) hb) ?_
    · simp
    · rfl
    · exact pre_5
    · show 8192 + ((p 0).val - 8192) = (p 0).val; omega⟩

/-- How many entries stand before piece 6. -/
theorem pre_6 : ((([S4096, S1024, S1024, S1024, S1024, S4096] : List Shape)).map fun s => if h : s.rank = S171776.rank then s.size ((0 : Fin S171776.rank).cast h.symm) else 0).sum = 12288 := by decide +kernel

/-- An entry of piece 6. -/
theorem flat_6 (p : S171776.Idx) (h0 : 12288 ≤ (p 0).val) (h1 : (p 0).val < 16384) :
    ∃ e : S2x2048.Idx, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x6 e :=
  ⟨Shape.reshapeEquiv shapeCasts_S2x2048_S4096 (ix1 ⟨(p 0).val - 12288, by omega⟩), fun x0 x1 x2 x3 x4 x5 x6 x7 x8 x9 x10 x11 => by
    unfold flat
    refine concatenate_apply_piece 0 _ _ p 6 ?_ S4096 (shapeCast S4096 x6 shapeCasts_S2x2048_S4096) ?_ rfl 12288 ?_
      (ix1 ⟨(p 0).val - 12288, by omega⟩) (fun b hb => absurd (Subsingleton.elim _ _) hb) ?_
    · simp
    · rfl
    · exact pre_6
    · show 12288 + ((p 0).val - 12288) = (p 0).val; omega⟩

/-- How many entries stand before piece 7. -/
theorem pre_7 : ((([S4096, S1024, S1024, S1024, S1024, S4096, S4096] : List Shape)).map fun s => if h : s.rank = S171776.rank then s.size ((0 : Fin S171776.rank).cast h.symm) else 0).sum = 16384 := by decide +kernel

/-- An entry of piece 7. -/
theorem flat_7 (p : S171776.Idx) (h0 : 16384 ≤ (p 0).val) (h1 : (p 0).val < 20480) :
    ∃ e : S2x2048.Idx, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x7 e :=
  ⟨Shape.reshapeEquiv shapeCasts_S2x2048_S4096 (ix1 ⟨(p 0).val - 16384, by omega⟩), fun x0 x1 x2 x3 x4 x5 x6 x7 x8 x9 x10 x11 => by
    unfold flat
    refine concatenate_apply_piece 0 _ _ p 7 ?_ S4096 (shapeCast S4096 x7 shapeCasts_S2x2048_S4096) ?_ rfl 16384 ?_
      (ix1 ⟨(p 0).val - 16384, by omega⟩) (fun b hb => absurd (Subsingleton.elim _ _) hb) ?_
    · simp
    · rfl
    · exact pre_7
    · show 16384 + ((p 0).val - 16384) = (p 0).val; omega⟩

/-- How many entries stand before piece 8. -/
theorem pre_8 : ((([S4096, S1024, S1024, S1024, S1024, S4096, S4096, S4096] : List Shape)).map fun s => if h : s.rank = S171776.rank then s.size ((0 : Fin S171776.rank).cast h.symm) else 0).sum = 20480 := by decide +kernel

/-- An entry of piece 8. -/
theorem flat_8 (p : S171776.Idx) (h0 : 20480 ≤ (p 0).val) (h1 : (p 0).val < 24576) :
    ∃ e : S2x2048.Idx, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x8 e :=
  ⟨Shape.reshapeEquiv shapeCasts_S2x2048_S4096 (ix1 ⟨(p 0).val - 20480, by omega⟩), fun x0 x1 x2 x3 x4 x5 x6 x7 x8 x9 x10 x11 => by
    unfold flat
    refine concatenate_apply_piece 0 _ _ p 8 ?_ S4096 (shapeCast S4096 x8 shapeCasts_S2x2048_S4096) ?_ rfl 20480 ?_
      (ix1 ⟨(p 0).val - 20480, by omega⟩) (fun b hb => absurd (Subsingleton.elim _ _) hb) ?_
    · simp
    · rfl
    · exact pre_8
    · show 20480 + ((p 0).val - 20480) = (p 0).val; omega⟩

/-- How many entries stand before piece 9. -/
theorem pre_9 : ((([S4096, S1024, S1024, S1024, S1024, S4096, S4096, S4096, S4096] : List Shape)).map fun s => if h : s.rank = S171776.rank then s.size ((0 : Fin S171776.rank).cast h.symm) else 0).sum = 24576 := by decide +kernel

/-- An entry of piece 9. -/
theorem flat_9 (p : S171776.Idx) (h0 : 24576 ≤ (p 0).val) (h1 : (p 0).val < 155648) :
    ∃ e : S2x4x128x128.Idx, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x9 e :=
  ⟨Shape.reshapeEquiv shapeCasts_S2x4x128x128_S131072 (ix1 ⟨(p 0).val - 24576, by omega⟩), fun x0 x1 x2 x3 x4 x5 x6 x7 x8 x9 x10 x11 => by
    unfold flat
    refine concatenate_apply_piece 0 _ _ p 9 ?_ S131072 (shapeCast S131072 x9 shapeCasts_S2x4x128x128_S131072) ?_ rfl 24576 ?_
      (ix1 ⟨(p 0).val - 24576, by omega⟩) (fun b hb => absurd (Subsingleton.elim _ _) hb) ?_
    · simp
    · rfl
    · exact pre_9
    · show 24576 + ((p 0).val - 24576) = (p 0).val; omega⟩

/-- How many entries stand before piece 10. -/
theorem pre_10 : ((([S4096, S1024, S1024, S1024, S1024, S4096, S4096, S4096, S4096, S131072] : List Shape)).map fun s => if h : s.rank = S171776.rank then s.size ((0 : Fin S171776.rank).cast h.symm) else 0).sum = 155648 := by decide +kernel

/-- An entry of piece 10. -/
theorem flat_10 (p : S171776.Idx) (h0 : 155648 ≤ (p 0).val) (h1 : (p 0).val < 163840) :
    ∃ e : S16x512.Idx, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x10 e :=
  ⟨Shape.reshapeEquiv shapeCasts_S16x512_S8192 (ix1 ⟨(p 0).val - 155648, by omega⟩), fun x0 x1 x2 x3 x4 x5 x6 x7 x8 x9 x10 x11 => by
    unfold flat
    refine concatenate_apply_piece 0 _ _ p 10 ?_ S8192 (shapeCast S8192 x10 shapeCasts_S16x512_S8192) ?_ rfl 155648 ?_
      (ix1 ⟨(p 0).val - 155648, by omega⟩) (fun b hb => absurd (Subsingleton.elim _ _) hb) ?_
    · simp
    · rfl
    · exact pre_10
    · show 155648 + ((p 0).val - 155648) = (p 0).val; omega⟩

/-- How many entries stand before piece 11. -/
theorem pre_11 : ((([S4096, S1024, S1024, S1024, S1024, S4096, S4096, S4096, S4096, S131072, S8192] : List Shape)).map fun s => if h : s.rank = S171776.rank then s.size ((0 : Fin S171776.rank).cast h.symm) else 0).sum = 163840 := by decide +kernel

/-- An entry of piece 11. -/
theorem flat_11 (p : S171776.Idx) (h0 : 163840 ≤ (p 0).val) (h1 : (p 0).val < 171776) :
    ∃ e : S2x31x128.Idx, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x11 e :=
  ⟨Shape.reshapeEquiv shapeCasts_S2x31x128_S7936 (ix1 ⟨(p 0).val - 163840, by omega⟩), fun x0 x1 x2 x3 x4 x5 x6 x7 x8 x9 x10 x11 => by
    unfold flat
    refine concatenate_apply_piece 0 _ _ p 11 ?_ S7936 (shapeCast S7936 x11 shapeCasts_S2x31x128_S7936) ?_ rfl 163840 ?_
      (ix1 ⟨(p 0).val - 163840, by omega⟩) (fun b hb => absurd (Subsingleton.elim _ _) hb) ?_
    · simp
    · rfl
    · exact pre_11
    · show 163840 + ((p 0).val - 163840) = (p 0).val; omega⟩

/-- An entry of the weights one behind the other is one weight's. -/
theorem flat_cases (p : S171776.Idx) : (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x0 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x1 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x2 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x3 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x4 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x5 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x6 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x7 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x8 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x9 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x10 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), flat x0 x1 x2 x3 x4 x5 x6 x7 x8 x9 x10 x11 p = x11 e) := by
  have hp : (p 0).val < 171776 := (p 0).isLt
  by_cases h0 : (p 0).val < 4096
  · exact Or.inl (flat_0 p (by omega) h0)
  by_cases h1 : (p 0).val < 5120
  · exact Or.inr (Or.inl (flat_1 p (by omega) h1))
  by_cases h2 : (p 0).val < 6144
  · exact Or.inr (Or.inr (Or.inl (flat_2 p (by omega) h2)))
  by_cases h3 : (p 0).val < 7168
  · exact Or.inr (Or.inr (Or.inr (Or.inl (flat_3 p (by omega) h3))))
  by_cases h4 : (p 0).val < 8192
  · exact Or.inr (Or.inr (Or.inr (Or.inr (Or.inl (flat_4 p (by omega) h4)))))
  by_cases h5 : (p 0).val < 12288
  · exact Or.inr (Or.inr (Or.inr (Or.inr (Or.inr (Or.inl (flat_5 p (by omega) h5))))))
  by_cases h6 : (p 0).val < 16384
  · exact Or.inr (Or.inr (Or.inr (Or.inr (Or.inr (Or.inr (Or.inl (flat_6 p (by omega) h6)))))))
  by_cases h7 : (p 0).val < 20480
  · exact Or.inr (Or.inr (Or.inr (Or.inr (Or.inr (Or.inr (Or.inr (Or.inl (flat_7 p (by omega) h7))))))))
  by_cases h8 : (p 0).val < 24576
  · exact Or.inr (Or.inr (Or.inr (Or.inr (Or.inr (Or.inr (Or.inr (Or.inr (Or.inl (flat_8 p (by omega) h8)))))))))
  by_cases h9 : (p 0).val < 155648
  · exact Or.inr (Or.inr (Or.inr (Or.inr (Or.inr (Or.inr (Or.inr (Or.inr (Or.inr (Or.inl (flat_9 p (by omega) h9))))))))))
  by_cases h10 : (p 0).val < 163840
  · exact Or.inr (Or.inr (Or.inr (Or.inr (Or.inr (Or.inr (Or.inr (Or.inr (Or.inr (Or.inr (Or.inl (flat_10 p (by omega) h10)))))))))))
  exact Or.inr (Or.inr (Or.inr (Or.inr (Or.inr (Or.inr (Or.inr (Or.inr (Or.inr (Or.inr (Or.inr (flat_11 p (by omega) hp)))))))))))

/-- An entry of the packed rows is zero or one weight's. -/
theorem packed_cases (j : S1536x128.Idx) : (∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), packed x0 x1 x2 x3 x4 x5 x6 x7 x8 x9 x10 x11 j = 0) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), packed x0 x1 x2 x3 x4 x5 x6 x7 x8 x9 x10 x11 j = x0 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), packed x0 x1 x2 x3 x4 x5 x6 x7 x8 x9 x10 x11 j = x1 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), packed x0 x1 x2 x3 x4 x5 x6 x7 x8 x9 x10 x11 j = x2 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), packed x0 x1 x2 x3 x4 x5 x6 x7 x8 x9 x10 x11 j = x3 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), packed x0 x1 x2 x3 x4 x5 x6 x7 x8 x9 x10 x11 j = x4 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), packed x0 x1 x2 x3 x4 x5 x6 x7 x8 x9 x10 x11 j = x5 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), packed x0 x1 x2 x3 x4 x5 x6 x7 x8 x9 x10 x11 j = x6 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), packed x0 x1 x2 x3 x4 x5 x6 x7 x8 x9 x10 x11 j = x7 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), packed x0 x1 x2 x3 x4 x5 x6 x7 x8 x9 x10 x11 j = x8 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), packed x0 x1 x2 x3 x4 x5 x6 x7 x8 x9 x10 x11 j = x9 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), packed x0 x1 x2 x3 x4 x5 x6 x7 x8 x9 x10 x11 j = x10 e) ∨ (∃ e, ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), packed x0 x1 x2 x3 x4 x5 x6 x7 x8 x9 x10 x11 j = x11 e) := by
  set q : S196608.Idx := Shape.reshapeEquiv shapeCasts_S196608_S1536x128 j with hq
  by_cases hlt : (q 0).val < 171776
  · right
    have e : ∀ (x0 : FVec Ideal S2x2048 .f32) (x1 x2 x3 x4 : FVec Ideal S2x512 .f32) (x5 x6 x7 x8 : FVec Ideal S2x2048 .f32) (x9 : FVec Ideal S2x4x128x128 .f32) (x10 : FVec Ideal S16x512 .f32) (x11 : FVec Ideal S2x31x128 .f32), packed x0 x1 x2 x3 x4 x5 x6 x7 x8 x9 x10 x11 j = flat x0 x1 x2 x3 x4 x5 x6 x7 x8 x9 x10 x11 (ix1 ⟨(q 0).val, hlt⟩) := by
      intro x0 x1 x2 x3 x4 x5 x6 x7 x8 x9 x10 x11
      show pad S196608 ![0] ![24832] ![0] (flat x0 x1 x2 x3 x4 x5 x6 x7 x8 x9 x10 x11) (sitofp (F := Ideal) .f32 (constantI S_ 32 0#32)) pads_S171776_S196608_0248320 h_S_ q = _
      pointwise
      rw [dif_pos hlt]
    simp only [e]
    exact flat_cases _
  · left
    intro x0 x1 x2 x3 x4 x5 x6 x7 x8 x9 x10 x11
    show pad S196608 ![0] ![24832] ![0] (flat x0 x1 x2 x3 x4 x5 x6 x7 x8 x9 x10 x11) (sitofp (F := Ideal) .f32 (constantI S_ 32 0#32)) pads_S171776_S196608_0248320 h_S_ q = _
    pointwise
    rw [dif_neg hlt]; exact sitofp_zero

/-- A constant of the step is not zero. -/
theorem c1_ne : Ideal.ofBits .f32 1059503362#32 ≠ 0 := by
  simp [Ideal.ofBits, Ideal.ieee, -EReal.coe_mul]
  try norm_num

/-- A constant of the step is not zero. -/
theorem c2_ne : Ideal.ofBits .f32 1008933580#32 ≠ 0 := by
  simp [Ideal.ofBits, Ideal.ieee, -EReal.coe_mul]
  try norm_num

/-- A constant of the step is not zero. -/
theorem c3_ne : Ideal.ofBits .f32 841731191#32 ≠ 0 := by
  simp [Ideal.ofBits, Ideal.ieee, -EReal.coe_mul]
  try norm_num

/-- The square root of zero is zero. -/
theorem sqrt_zero : Ideal.sqrt 0 = 0 := by
  show (if (0 : ℝ) < 0 then (⊥ : EReal) else ((Real.sqrt 0 : ℝ) : EReal)) = 0
  simp

/-- The step taken weight by weight and packed is the step on the packed rows. -/
theorem refM_eq (h : S_.BroadcastsInDim S1536x128 ![]) (a0 : FVec Ideal S2x2048 .f32) (a1 a2 a3 a4 : FVec Ideal S2x512 .f32) (a5 a6 a7 a8 : FVec Ideal S2x2048 .f32) (a9 : FVec Ideal S2x4x128x128 .f32) (a10 : FVec Ideal S16x512 .f32) (a11 : FVec Ideal S2x31x128 .f32) (a12 : FVec Ideal S2x2048 .f32) (a13 a14 a15 a16 : FVec Ideal S2x512 .f32) (a17 a18 a19 a20 : FVec Ideal S2x2048 .f32) (a21 : FVec Ideal S2x4x128x128 .f32) (a22 : FVec Ideal S16x512 .f32) (a23 : FVec Ideal S2x31x128 .f32) (a24 : FVec Ideal S2x2048 .f32) (a25 a26 a27 a28 : FVec Ideal S2x512 .f32) (a29 a30 a31 a32 : FVec Ideal S2x2048 .f32) (a33 : FVec Ideal S2x4x128x128 .f32) (a34 : FVec Ideal S16x512 .f32) (a35 : FVec Ideal S2x31x128 .f32) (a36 : FVec Ideal S2x2048 .f32) (a37 a38 a39 a40 : FVec Ideal S2x512 .f32) (a41 a42 a43 a44 : FVec Ideal S2x2048 .f32) (a45 : FVec Ideal S2x4x128x128 .f32) (a46 : FVec Ideal S16x512 .f32) (a47 : FVec Ideal S2x31x128 .f32) :
    refM a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 = mom h (packed a36 a37 a38 a39 a40 a41 a42 a43 a44 a45 a46 a47) (packed a12 a13 a14 a15 a16 a17 a18 a19 a20 a21 a22 a23) := by
  funext j
  rcases packed_cases j with e | ⟨z, e⟩ | ⟨z, e⟩ | ⟨z, e⟩ | ⟨z, e⟩ | ⟨z, e⟩ | ⟨z, e⟩ | ⟨z, e⟩ | ⟨z, e⟩ | ⟨z, e⟩ | ⟨z, e⟩ | ⟨z, e⟩ | ⟨z, e⟩
  · pointwise [refM, mom, mom, sec]
    simp only [e]
    simp [Ideal.zero_div, c1_ne, c2_ne, c3_ne, sqrt_zero]
  all_goals
    pointwise [refM, mom, mom, sec]
    simp only [e]
    pointwise

/-- The step taken weight by weight and packed is the step on the packed rows. -/
theorem refV_eq (h : S_.BroadcastsInDim S1536x128 ![]) (a0 : FVec Ideal S2x2048 .f32) (a1 a2 a3 a4 : FVec Ideal S2x512 .f32) (a5 a6 a7 a8 : FVec Ideal S2x2048 .f32) (a9 : FVec Ideal S2x4x128x128 .f32) (a10 : FVec Ideal S16x512 .f32) (a11 : FVec Ideal S2x31x128 .f32) (a12 : FVec Ideal S2x2048 .f32) (a13 a14 a15 a16 : FVec Ideal S2x512 .f32) (a17 a18 a19 a20 : FVec Ideal S2x2048 .f32) (a21 : FVec Ideal S2x4x128x128 .f32) (a22 : FVec Ideal S16x512 .f32) (a23 : FVec Ideal S2x31x128 .f32) (a24 : FVec Ideal S2x2048 .f32) (a25 a26 a27 a28 : FVec Ideal S2x512 .f32) (a29 a30 a31 a32 : FVec Ideal S2x2048 .f32) (a33 : FVec Ideal S2x4x128x128 .f32) (a34 : FVec Ideal S16x512 .f32) (a35 : FVec Ideal S2x31x128 .f32) (a36 : FVec Ideal S2x2048 .f32) (a37 a38 a39 a40 : FVec Ideal S2x512 .f32) (a41 a42 a43 a44 : FVec Ideal S2x2048 .f32) (a45 : FVec Ideal S2x4x128x128 .f32) (a46 : FVec Ideal S16x512 .f32) (a47 : FVec Ideal S2x31x128 .f32) :
    refV a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 = sec h (packed a36 a37 a38 a39 a40 a41 a42 a43 a44 a45 a46 a47) (packed a24 a25 a26 a27 a28 a29 a30 a31 a32 a33 a34 a35) := by
  funext j
  rcases packed_cases j with e | ⟨z, e⟩ | ⟨z, e⟩ | ⟨z, e⟩ | ⟨z, e⟩ | ⟨z, e⟩ | ⟨z, e⟩ | ⟨z, e⟩ | ⟨z, e⟩ | ⟨z, e⟩ | ⟨z, e⟩ | ⟨z, e⟩ | ⟨z, e⟩
  · pointwise [refV, sec, mom, sec]
    simp only [e]
    simp [Ideal.zero_div, c1_ne, c2_ne, c3_ne, sqrt_zero]
  all_goals
    pointwise [refV, sec, mom, sec]
    simp only [e]
    pointwise

/-- The step taken weight by weight and packed is the step on the packed rows. -/
theorem refDelta_eq (h : S_.BroadcastsInDim S1536x128 ![]) (a0 : FVec Ideal S2x2048 .f32) (a1 a2 a3 a4 : FVec Ideal S2x512 .f32) (a5 a6 a7 a8 : FVec Ideal S2x2048 .f32) (a9 : FVec Ideal S2x4x128x128 .f32) (a10 : FVec Ideal S16x512 .f32) (a11 : FVec Ideal S2x31x128 .f32) (a12 : FVec Ideal S2x2048 .f32) (a13 a14 a15 a16 : FVec Ideal S2x512 .f32) (a17 a18 a19 a20 : FVec Ideal S2x2048 .f32) (a21 : FVec Ideal S2x4x128x128 .f32) (a22 : FVec Ideal S16x512 .f32) (a23 : FVec Ideal S2x31x128 .f32) (a24 : FVec Ideal S2x2048 .f32) (a25 a26 a27 a28 : FVec Ideal S2x512 .f32) (a29 a30 a31 a32 : FVec Ideal S2x2048 .f32) (a33 : FVec Ideal S2x4x128x128 .f32) (a34 : FVec Ideal S16x512 .f32) (a35 : FVec Ideal S2x31x128 .f32) (a36 : FVec Ideal S2x2048 .f32) (a37 a38 a39 a40 : FVec Ideal S2x512 .f32) (a41 a42 a43 a44 : FVec Ideal S2x2048 .f32) (a45 : FVec Ideal S2x4x128x128 .f32) (a46 : FVec Ideal S16x512 .f32) (a47 : FVec Ideal S2x31x128 .f32) :
    refDelta a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 = upd h (packed a0 a1 a2 a3 a4 a5 a6 a7 a8 a9 a10 a11) (packed a12 a13 a14 a15 a16 a17 a18 a19 a20 a21 a22 a23) (packed a24 a25 a26 a27 a28 a29 a30 a31 a32 a33 a34 a35) (packed a36 a37 a38 a39 a40 a41 a42 a43 a44 a45 a46 a47) := by
  funext j
  rcases packed_cases j with e | ⟨z, e⟩ | ⟨z, e⟩ | ⟨z, e⟩ | ⟨z, e⟩ | ⟨z, e⟩ | ⟨z, e⟩ | ⟨z, e⟩ | ⟨z, e⟩ | ⟨z, e⟩ | ⟨z, e⟩ | ⟨z, e⟩ | ⟨z, e⟩
  · pointwise [refDelta, upd, mom, sec]
    simp only [e]
    simp [Ideal.zero_div, c1_ne, c2_ne, c3_ne, sqrt_zero]
  all_goals
    pointwise [refDelta, upd, mom, sec]
    simp only [e]
    pointwise

end Cert.Reference29Ideal.Value

namespace Cert.Kernel29Ideal.Value

open Cert.Kernel29Ideal Cert.Kernel29Ideal.Gen Cert.Reference29Ideal.Value

variable (m : (ℓ : Loc nD τ sig) → Buf (Elt Ideal) ℓ)

/-- Every window's block index at every grid point. -/
theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The packed weights when the region starts. -/
theorem arr_0 (c : Dev nD) : V m c main_v14 = packed (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) := by
  entry_read
  rfl

/-- The block of packed weights that point `t` reads. -/
theorem rd_0 (c : Dev nD) (t : Fin cfg0.N) (y : S256x128.Idx) :
    iblk m c 0 t y = packed (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (((cfg0.win 4).blk t).view.emb y) := by
  rw [← arr_0 m c]
  blk_simp [iblk, idx_val t]
  exact congrArg (V m c main_v14) (by blk_ext [idx_val t])

/-- The packed first moments when the region starts. -/
theorem arr_1 (c : Dev nD) : V m c main_v29 = packed (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21)) (m (c.tc.loc main_arg22)) (m (c.tc.loc main_arg23)) := by
  entry_read
  rfl

/-- The block of packed first moments that point `t` reads. -/
theorem rd_1 (c : Dev nD) (t : Fin cfg0.N) (y : S256x128.Idx) :
    iblk m c 1 t y = packed (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21)) (m (c.tc.loc main_arg22)) (m (c.tc.loc main_arg23)) (((cfg0.win 4).blk t).view.emb y) := by
  rw [← arr_1 m c]
  blk_simp [iblk, idx_val t]
  exact congrArg (V m c main_v29) (by blk_ext [idx_val t])

/-- The packed second moments when the region starts. -/
theorem arr_2 (c : Dev nD) : V m c main_v44 = packed (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) := by
  entry_read
  rfl

/-- The block of packed second moments that point `t` reads. -/
theorem rd_2 (c : Dev nD) (t : Fin cfg0.N) (y : S256x128.Idx) :
    iblk m c 2 t y = packed (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (((cfg0.win 4).blk t).view.emb y) := by
  rw [← arr_2 m c]
  blk_simp [iblk, idx_val t]
  exact congrArg (V m c main_v44) (by blk_ext [idx_val t])

/-- The packed gradients when the region starts. -/
theorem arr_3 (c : Dev nD) : V m c main_v59 = packed (m (c.tc.loc main_arg36)) (m (c.tc.loc main_arg37)) (m (c.tc.loc main_arg38)) (m (c.tc.loc main_arg39)) (m (c.tc.loc main_arg40)) (m (c.tc.loc main_arg41)) (m (c.tc.loc main_arg42)) (m (c.tc.loc main_arg43)) (m (c.tc.loc main_arg44)) (m (c.tc.loc main_arg45)) (m (c.tc.loc main_arg46)) (m (c.tc.loc main_arg47)) := by
  entry_read
  rfl

/-- The block of packed gradients that point `t` reads. -/
theorem rd_3 (c : Dev nD) (t : Fin cfg0.N) (y : S256x128.Idx) :
    iblk m c 3 t y = packed (m (c.tc.loc main_arg36)) (m (c.tc.loc main_arg37)) (m (c.tc.loc main_arg38)) (m (c.tc.loc main_arg39)) (m (c.tc.loc main_arg40)) (m (c.tc.loc main_arg41)) (m (c.tc.loc main_arg42)) (m (c.tc.loc main_arg43)) (m (c.tc.loc main_arg44)) (m (c.tc.loc main_arg45)) (m (c.tc.loc main_arg46)) (m (c.tc.loc main_arg47)) (((cfg0.win 4).blk t).view.emb y) := by
  rw [← arr_3 m c]
  blk_simp [iblk, idx_val t]
  exact congrArg (V m c main_v59) (by blk_ext [idx_val t])

set_option maxHeartbeats 1000000 in
/-- The packed updates are the reference's. -/
theorem final_4 (c : Dev nD) : (dats m 0 c).arrAt 4 (cfgs 0).N = refDelta (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (m (c.tc.loc main_arg36)) (m (c.tc.loc main_arg37)) (m (c.tc.loc main_arg38)) (m (c.tc.loc main_arg39)) (m (c.tc.loc main_arg40)) (m (c.tc.loc main_arg41)) (m (c.tc.loc main_arg42)) (m (c.tc.loc main_arg43)) (m (c.tc.loc main_arg44)) (m (c.tc.loc main_arg45)) (m (c.tc.loc main_arg46)) (m (c.tc.loc main_arg47)) := by
  refine (dats m 0 c).arrAt_eq_of_covers 4 _ (by decide +kernel) fun t hf y => ?_
  blk_simp
  rw [after0_4]
  frame_out
  rw [refDelta_eq (by decide)]
  have h0 := rd_0 m c t y
  have h1 := rd_1 m c t y
  have h2 := rd_2 m c t y
  have h3 := rd_3 m c t y
  have he : ((cfg0.win 4).blk t).view.emb y = ((cfg0.win 4).blk t).view.emb y := by blk_ext [idx_val t]
  revert h0 h1 h2 h3 he
  generalize ((cfg0.win 4).blk t).view.emb y = z
  intro h0 h1 h2 h3 he
  pointwise [k0_pay1, k0_pay2, k0_pay3, k0_pay4, mom, sec, upd]
  erw [he]
  simp only [h0, h1, h2, h3]

set_option maxHeartbeats 1000000 in
/-- The packed new first moments are the reference's. -/
theorem final_5 (c : Dev nD) : (dats m 0 c).arrAt 5 (cfgs 0).N = refM (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (m (c.tc.loc main_arg36)) (m (c.tc.loc main_arg37)) (m (c.tc.loc main_arg38)) (m (c.tc.loc main_arg39)) (m (c.tc.loc main_arg40)) (m (c.tc.loc main_arg41)) (m (c.tc.loc main_arg42)) (m (c.tc.loc main_arg43)) (m (c.tc.loc main_arg44)) (m (c.tc.loc main_arg45)) (m (c.tc.loc main_arg46)) (m (c.tc.loc main_arg47)) := by
  refine (dats m 0 c).arrAt_eq_of_covers 5 _ (by decide +kernel) fun t hf y => ?_
  blk_simp
  rw [after0_5]
  frame_out
  rw [refM_eq (by decide)]
  have h0 := rd_0 m c t y
  have h1 := rd_1 m c t y
  have h2 := rd_2 m c t y
  have h3 := rd_3 m c t y
  have he : ((cfg0.win 5).blk t).view.emb y = ((cfg0.win 4).blk t).view.emb y := by blk_ext [idx_val t]
  revert h0 h1 h2 h3 he
  generalize ((cfg0.win 4).blk t).view.emb y = z
  intro h0 h1 h2 h3 he
  pointwise [k0_pay1, k0_pay2, k0_pay3, k0_pay4, mom, sec, upd]
  erw [he]
  simp only [h0, h1, h2, h3]

set_option maxHeartbeats 1000000 in
/-- The packed new second moments are the reference's. -/
theorem final_6 (c : Dev nD) : (dats m 0 c).arrAt 6 (cfgs 0).N = refV (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (m (c.tc.loc main_arg36)) (m (c.tc.loc main_arg37)) (m (c.tc.loc main_arg38)) (m (c.tc.loc main_arg39)) (m (c.tc.loc main_arg40)) (m (c.tc.loc main_arg41)) (m (c.tc.loc main_arg42)) (m (c.tc.loc main_arg43)) (m (c.tc.loc main_arg44)) (m (c.tc.loc main_arg45)) (m (c.tc.loc main_arg46)) (m (c.tc.loc main_arg47)) := by
  refine (dats m 0 c).arrAt_eq_of_covers 6 _ (by decide +kernel) fun t hf y => ?_
  blk_simp
  rw [after0_6]
  frame_out
  rw [refV_eq (by decide)]
  have h0 := rd_0 m c t y
  have h1 := rd_1 m c t y
  have h2 := rd_2 m c t y
  have h3 := rd_3 m c t y
  have he : ((cfg0.win 6).blk t).view.emb y = ((cfg0.win 4).blk t).view.emb y := by blk_ext [idx_val t]
  revert h0 h1 h2 h3 he
  generalize ((cfg0.win 4).blk t).view.emb y = z
  intro h0 h1 h2 h3 he
  pointwise [k0_pay1, k0_pay2, k0_pay3, k0_pay4, mom, sec, upd]
  erw [he]
  simp only [h0, h1, h2, h3]

end Cert.Kernel29Ideal.Value

end
-- ==== Proof.RunAdamSmall.lean ====
/- The run of the reference `reference29`, its results under the names that the values use. -/
module

public import proofs.«01_k».proof.Proof.ValueAdamSmall
public import Idealize.ShloMosaic.Lib.Pipeline.ReadBack
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference29Ideal.Value
open Cert.Reference29Ideal Cert.Reference29Ideal.Gen

/-- Every run of the reference ends with the named results, its arguments unchanged. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v302) = refDelta (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (m (c.tc.loc main_arg36)) (m (c.tc.loc main_arg37)) (m (c.tc.loc main_arg38)) (m (c.tc.loc main_arg39)) (m (c.tc.loc main_arg40)) (m (c.tc.loc main_arg41)) (m (c.tc.loc main_arg42)) (m (c.tc.loc main_arg43)) (m (c.tc.loc main_arg44)) (m (c.tc.loc main_arg45)) (m (c.tc.loc main_arg46)) (m (c.tc.loc main_arg47))
      ∧ r.2.mem (c.tc.loc main_v317) = refM (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (m (c.tc.loc main_arg36)) (m (c.tc.loc main_arg37)) (m (c.tc.loc main_arg38)) (m (c.tc.loc main_arg39)) (m (c.tc.loc main_arg40)) (m (c.tc.loc main_arg41)) (m (c.tc.loc main_arg42)) (m (c.tc.loc main_arg43)) (m (c.tc.loc main_arg44)) (m (c.tc.loc main_arg45)) (m (c.tc.loc main_arg46)) (m (c.tc.loc main_arg47))
      ∧ r.2.mem (c.tc.loc main_v332) = refV (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (m (c.tc.loc main_arg36)) (m (c.tc.loc main_arg37)) (m (c.tc.loc main_arg38)) (m (c.tc.loc main_arg39)) (m (c.tc.loc main_arg40)) (m (c.tc.loc main_arg41)) (m (c.tc.loc main_arg42)) (m (c.tc.loc main_arg43)) (m (c.tc.loc main_arg44)) (m (c.tc.loc main_arg45)) (m (c.tc.loc main_arg46)) (m (c.tc.loc main_arg47))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12)
      ∧ r.2.mem (c.tc.loc main_arg13) = m (c.tc.loc main_arg13)
      ∧ r.2.mem (c.tc.loc main_arg14) = m (c.tc.loc main_arg14)
      ∧ r.2.mem (c.tc.loc main_arg15) = m (c.tc.loc main_arg15)
      ∧ r.2.mem (c.tc.loc main_arg16) = m (c.tc.loc main_arg16)
      ∧ r.2.mem (c.tc.loc main_arg17) = m (c.tc.loc main_arg17)
      ∧ r.2.mem (c.tc.loc main_arg18) = m (c.tc.loc main_arg18)
      ∧ r.2.mem (c.tc.loc main_arg19) = m (c.tc.loc main_arg19)
      ∧ r.2.mem (c.tc.loc main_arg20) = m (c.tc.loc main_arg20)
      ∧ r.2.mem (c.tc.loc main_arg21) = m (c.tc.loc main_arg21)
      ∧ r.2.mem (c.tc.loc main_arg22) = m (c.tc.loc main_arg22)
      ∧ r.2.mem (c.tc.loc main_arg23) = m (c.tc.loc main_arg23)
      ∧ r.2.mem (c.tc.loc main_arg24) = m (c.tc.loc main_arg24)
      ∧ r.2.mem (c.tc.loc main_arg25) = m (c.tc.loc main_arg25)
      ∧ r.2.mem (c.tc.loc main_arg26) = m (c.tc.loc main_arg26)
      ∧ r.2.mem (c.tc.loc main_arg27) = m (c.tc.loc main_arg27)
      ∧ r.2.mem (c.tc.loc main_arg28) = m (c.tc.loc main_arg28)
      ∧ r.2.mem (c.tc.loc main_arg29) = m (c.tc.loc main_arg29)
      ∧ r.2.mem (c.tc.loc main_arg30) = m (c.tc.loc main_arg30)
      ∧ r.2.mem (c.tc.loc main_arg31) = m (c.tc.loc main_arg31)
      ∧ r.2.mem (c.tc.loc main_arg32) = m (c.tc.loc main_arg32)
      ∧ r.2.mem (c.tc.loc main_arg33) = m (c.tc.loc main_arg33)
      ∧ r.2.mem (c.tc.loc main_arg34) = m (c.tc.loc main_arg34)
      ∧ r.2.mem (c.tc.loc main_arg35) = m (c.tc.loc main_arg35)
      ∧ r.2.mem (c.tc.loc main_arg36) = m (c.tc.loc main_arg36)
      ∧ r.2.mem (c.tc.loc main_arg37) = m (c.tc.loc main_arg37)
      ∧ r.2.mem (c.tc.loc main_arg38) = m (c.tc.loc main_arg38)
      ∧ r.2.mem (c.tc.loc main_arg39) = m (c.tc.loc main_arg39)
      ∧ r.2.mem (c.tc.loc main_arg40) = m (c.tc.loc main_arg40)
      ∧ r.2.mem (c.tc.loc main_arg41) = m (c.tc.loc main_arg41)
      ∧ r.2.mem (c.tc.loc main_arg42) = m (c.tc.loc main_arg42)
      ∧ r.2.mem (c.tc.loc main_arg43) = m (c.tc.loc main_arg43)
      ∧ r.2.mem (c.tc.loc main_arg44) = m (c.tc.loc main_arg44)
      ∧ r.2.mem (c.tc.loc main_arg45) = m (c.tc.loc main_arg45)
      ∧ r.2.mem (c.tc.loc main_arg46) = m (c.tc.loc main_arg46)
      ∧ r.2.mem (c.tc.loc main_arg47) = m (c.tc.loc main_arg47) :=
  (θ_run defs _ _).mono (fun _ h c => ⟨(h c).1, (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2.1, (h c).2.2.2.2.2.2.2.2.2.2.2.2.2.2.2.2.2.2.2.2.1, (h c).2.2.2.2.2.2.2.2.2.2.2.2.2.2.2.2.2.2.2.2.2.1, (h c).2.2.2.2.2.2.2.2.2.2.2.2.2.2.2.2.2.2.2.2.2.2.1, (h c).2.2.2.2.2.2.2.2.2.2.2.2.2.2.2.2.2.2.2.2.2.2.2.1, (h c).2.2.2.2.2.2.2.2.2.2.2.2.2.2.2.2.2.2.2.2.2.2.2.2.1, (h c).2.2.2.2.2.2.2.2.2.2.2.2.2.2.2.2.2.2.2.2.2.2.2.2.2.1, (h c).2.2.2.2.2.2.2.2.2.2.2.2.2.2.2.2.2.2.2.2.2.2.2.2.2.2.1, (h c).2.2.2.2.2.2.2.2.2.2.2.2.2.2.2.2.2.2.2.2.2.2.2.2.2.2.2.1, (h c).2.2.2.2.2.2.2.2.2.2.2.2.2.2.2.2.2.2.2.2.2.2.2.2.2.2.2.2.1, (h c).2.2.2.2.2.2.2.2.2.2.2.2.2.2.2.2.2.2.2.2.2.2.2.2.2.2.2.2.2.1, (h c).2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.2.2.2.2.2.2.2.2.2.2.2.2.2.2.2.2.2.2.2⟩) (run m ρ)

end Cert.Reference29Ideal.Value

end
-- ==== Proof.ValueSumSmall.lean ====
/- The values of the sum of the small weights' gradients over the devices (the kernel `sum_small`). -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel30Ideal.Value
public import proofs.«01_k».proof.Proof.Gen.Reference30Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference30Ideal.Value
open Cert.Reference30Ideal Cert.Reference30Ideal.Gen

/-- The sum over the devices, as the reference computes it. -/
def refSum (a0 : FVec Ideal S8x1792x128 .f32) : FVec Ideal S1792x128 .f32 :=
  Host.reduceAdd a0 (constant S_ .f32 0x00000000#32) reducesTo_S8x1792x128_S1792x128_d0 h_S_

end Cert.Reference30Ideal.Value

namespace Cert.Kernel30Ideal.Value

open Cert.Kernel30Ideal Cert.Kernel30Ideal.Gen Cert.Reference30Ideal.Value

variable (m : (ℓ : Loc nD τ sig) → Buf (Elt Ideal) ℓ)

/-- Every window's block index at every grid point. -/
theorem idx_val : ∀ t : Fin cfg0.N, win0_0.index t = ![0, t.val, 0] ∧ win0_1.index t = ![t.val, 0] :=
  (by decide +kernel : ∀ t : Fin grid0.N, _)

/-- The block that point `t` reads, at a slot and at the index the result window writes. -/
theorem rd (c : Dev nD) (t : Fin cfg0.N) (k : Fin 8) (y : S256x128.Idx) :
    iblk m c 0 t (ix3 k (y 0) (y 1)) = (m (c.tc.loc main_arg0)) (ix3 k (((cfg0.win 1).blk t).view.emb y 0) (((cfg0.win 1).blk t).view.emb y 1)) := by
  blk_simp [iblk, idx_val t]; entry_read; pointwise; blk_ext [idx_val t]

/-- The kernel's sum is the reference's. -/
theorem final (c : Dev nD) : (dats m 0 c).arrAt 1 (cfgs 0).N = refSum (m (c.tc.loc main_arg0)) := by
  refine (dats m 0 c).arrAt_eq_of_covers 1 _ (by decide +kernel) fun t hf y => ?_
  blk_simp; rw [after0_1]; frame_out
  have h := fun k => rd m c t k y
  revert h
  generalize ((cfg0.win 1).blk t).view.emb y = z
  intro h
  pointwise [k0_pay1, refSum]
  simp only [Fin.sum_univ_eight]
  simp only [h]

end Cert.Kernel30Ideal.Value

end
-- ==== Proof.RunSumSmall.lean ====
/- The run of the reference `reference30`, its results under the names that the values use. -/
module

public import proofs.«01_k».proof.Proof.ValueSumSmall
public import Idealize.ShloMosaic.Lib.Pipeline.ReadBack
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference30Ideal.Value
open Cert.Reference30Ideal Cert.Reference30Ideal.Gen

/-- Every run of the reference ends with the named results, its arguments unchanged. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v0) = refSum (m (c.tc.loc main_arg0))
      ∧ r.2.mem (c.tc.loc main_arg0) = m (c.tc.loc main_arg0) :=
  (θ_run defs _ _).mono (fun _ h c => ⟨(h c).1, (h c).2⟩) (run m ρ)

end Cert.Reference30Ideal.Value

end
-- ==== Proof.ValueSumIn.lean ====
/- The values of the sum of `w_in`'s gradients over the plane, for both layers (the kernel `sum_w_in`). -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel31Ideal.Value
public import proofs.«01_k».proof.Proof.Gen.Reference31Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference31Ideal.Value
open Cert.Reference31Ideal Cert.Reference31Ideal.Gen

/-- The sum over the plane, layer by layer, as the reference computes it. -/
def refSum (a0 a1 : FVec Ideal S4x2048x1152 .bf16) : FVec Ideal S2x2048x1152 .f32 :=
  concatenate S2x2048x1152 0 [⟨S1x2048x1152, (broadcastInDim S1x2048x1152 ![1, 2] bcast_S2048x1152_S1x2048x1152_1_2 (Host.reduceAdd (extf .f32 a0 bitsLt_bf16_f32) (constant S_ .f32 0x00000000#32) reducesTo_S4x2048x1152_S2048x1152_d0 h_S_))⟩, ⟨S1x2048x1152, (broadcastInDim S1x2048x1152 ![1, 2] bcast_S2048x1152_S1x2048x1152_1_2 (Host.reduceAdd (extf .f32 a1 bitsLt_bf16_f32) (constant S_ .f32 0x00000000#32) reducesTo_S4x2048x1152_S2048x1152_d0 h_S_))⟩] concatenates_S1x2048x1152_S1x2048x1152_S2x2048x1152_d0

end Cert.Reference31Ideal.Value

namespace Cert.Kernel31Ideal.Value

open Cert.Kernel31Ideal Cert.Kernel31Ideal.Gen Cert.Reference31Ideal.Value

variable (m : (ℓ : Loc nD τ sig) → Buf (Elt Ideal) ℓ)

/-- The first layer's block at the points of its half of the grid. -/
theorem idx_0 : ∀ t : Fin cfg0.N, t.val < 8 → win0_0.index t = ![0, t.val, 0] :=
  (by decide +kernel : ∀ t : Fin grid0.N, _)

/-- The second layer's block at the points of its half of the grid. -/
theorem idx_1 : ∀ t : Fin cfg0.N, 8 ≤ t.val → win0_1.index t = ![0, t.val - 8, 0] :=
  (by decide +kernel : ∀ t : Fin grid0.N, _)

/-- The block of the result at the points of the first half of the grid. -/
theorem idx_2a : ∀ t : Fin cfg0.N, t.val < 8 → win0_2.index t = ![0, t.val, 0] :=
  (by decide +kernel : ∀ t : Fin grid0.N, _)

/-- The block of the result at the points of the second half of the grid. -/
theorem idx_2b : ∀ t : Fin cfg0.N, 8 ≤ t.val → win0_2.index t = ![1, t.val - 8, 0] :=
  (by decide +kernel : ∀ t : Fin grid0.N, _)

/-- The first layer's block, at a slot and at the index the result window writes. -/
theorem rd_0 (c : Dev nD) (t : Fin cfg0.N) (ht : t.val < 8) (k : Fin 4) (y : S1x256x1152.Idx) :
    iblk m c 0 t (ix3 k (y 1) (y 2)) = (m (c.tc.loc main_arg0)) (ix3 k (((cfg0.win 2).blk t).view.emb y 1) (((cfg0.win 2).blk t).view.emb y 2)) := by
  blk_simp [iblk, idx_0 t ht, idx_2a t ht]; entry_read; pointwise; blk_ext [idx_0 t ht, idx_2a t ht]

/-- The second layer's block, at a slot and at the index the result window writes. -/
theorem rd_1 (c : Dev nD) (t : Fin cfg0.N) (ht : 8 ≤ t.val) (k : Fin 4) (y : S1x256x1152.Idx) :
    iblk m c 1 t (ix3 k (y 1) (y 2)) = (m (c.tc.loc main_arg1)) (ix3 k (((cfg0.win 2).blk t).view.emb y 1) (((cfg0.win 2).blk t).view.emb y 2)) := by
  blk_simp [iblk, idx_1 t ht, idx_2b t ht]; entry_read; pointwise; blk_ext [idx_1 t ht, idx_2b t ht]

/-- The first half of the grid writes the first layer. -/
theorem lay_a (t : Fin cfg0.N) (ht : t.val < 8) (y : S1x256x1152.Idx) : (((cfg0.win 2).blk t).view.emb y 0).val = 0 := by
  blk_simp [idx_2a t ht]; try omega

/-- The second half of the grid writes the second layer. -/
theorem lay_b (t : Fin cfg0.N) (ht : 8 ≤ t.val) (y : S1x256x1152.Idx) : (((cfg0.win 2).blk t).view.emb y 0).val = 1 := by
  blk_simp [idx_2b t ht]; try omega

/-- The kernel's sum is the reference's. -/
theorem final (c : Dev nD) : (dats m 0 c).arrAt 2 (cfgs 0).N = refSum (m (c.tc.loc main_arg0)) (m (c.tc.loc main_arg1)) := by
  refine (dats m 0 c).arrAt_eq_of_covers 2 _ (by decide +kernel) fun t hf y => ?_
  blk_simp; rw [after0_2]
  by_cases ht : t.val < 8
  · rw [outsAt0_A m c t ht (by omega)]; frame_out
    have h := fun k => rd_0 m c t ht k y
    have hl := lay_a t ht y
    revert h hl
    generalize ((cfg0.win 2).blk t).view.emb y = z
    intro h hl
    pointwise [k0_pay1, refSum, hl]
    simp only [Fin.sum_univ_four]
    simp only [h]
  · rw [outsAt0_B m c t ht (by omega)]; frame_out
    have h := fun k => rd_1 m c t (by omega) k y
    have hl := lay_b t (by omega) y
    revert h hl
    generalize ((cfg0.win 2).blk t).view.emb y = z
    intro h hl
    pointwise [k0_pay2, refSum, hl]
    simp only [Fin.sum_univ_four]
    simp only [h]

end Cert.Kernel31Ideal.Value

end
-- ==== Proof.ValueSumOut.lean ====
/- The values of the sum of `w_out`'s gradients over the plane, for both layers (the kernel `sum_w_out`). -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel32Ideal.Value
public import proofs.«01_k».proof.Proof.Gen.Reference32Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference32Ideal.Value
open Cert.Reference32Ideal Cert.Reference32Ideal.Gen

/-- The sum over the plane, layer by layer, as the reference computes it. -/
def refSum (a0 a1 : FVec Ideal S4x512x2048 .bf16) : FVec Ideal S2x512x2048 .f32 :=
  concatenate S2x512x2048 0 [⟨S1x512x2048, (broadcastInDim S1x512x2048 ![1, 2] bcast_S512x2048_S1x512x2048_1_2 (Host.reduceAdd (extf .f32 a0 bitsLt_bf16_f32) (constant S_ .f32 0x00000000#32) reducesTo_S4x512x2048_S512x2048_d0 h_S_))⟩, ⟨S1x512x2048, (broadcastInDim S1x512x2048 ![1, 2] bcast_S512x2048_S1x512x2048_1_2 (Host.reduceAdd (extf .f32 a1 bitsLt_bf16_f32) (constant S_ .f32 0x00000000#32) reducesTo_S4x512x2048_S512x2048_d0 h_S_))⟩] concatenates_S1x512x2048_S1x512x2048_S2x512x2048_d0

end Cert.Reference32Ideal.Value

namespace Cert.Kernel32Ideal.Value

open Cert.Kernel32Ideal Cert.Kernel32Ideal.Gen Cert.Reference32Ideal.Value

variable (m : (ℓ : Loc nD τ sig) → Buf (Elt Ideal) ℓ)

/-- The first layer's block at the points of its half of the grid. -/
theorem idx_0 : ∀ t : Fin cfg0.N, t.val < 2 → win0_0.index t = ![0, t.val, 0] :=
  (by decide +kernel : ∀ t : Fin grid0.N, _)

/-- The second layer's block at the points of its half of the grid. -/
theorem idx_1 : ∀ t : Fin cfg0.N, 2 ≤ t.val → win0_1.index t = ![0, t.val - 2, 0] :=
  (by decide +kernel : ∀ t : Fin grid0.N, _)

/-- The block of the result at the points of the first half of the grid. -/
theorem idx_2a : ∀ t : Fin cfg0.N, t.val < 2 → win0_2.index t = ![0, t.val, 0] :=
  (by decide +kernel : ∀ t : Fin grid0.N, _)

/-- The block of the result at the points of the second half of the grid. -/
theorem idx_2b : ∀ t : Fin cfg0.N, 2 ≤ t.val → win0_2.index t = ![1, t.val - 2, 0] :=
  (by decide +kernel : ∀ t : Fin grid0.N, _)

/-- The first layer's block, at a slot and at the index the result window writes. -/
theorem rd_0 (c : Dev nD) (t : Fin cfg0.N) (ht : t.val < 2) (k : Fin 4) (y : S1x256x2048.Idx) :
    iblk m c 0 t (ix3 k (y 1) (y 2)) = (m (c.tc.loc main_arg0)) (ix3 k (((cfg0.win 2).blk t).view.emb y 1) (((cfg0.win 2).blk t).view.emb y 2)) := by
  blk_simp [iblk, idx_0 t ht, idx_2a t ht]; entry_read; pointwise; blk_ext [idx_0 t ht, idx_2a t ht]

/-- The second layer's block, at a slot and at the index the result window writes. -/
theorem rd_1 (c : Dev nD) (t : Fin cfg0.N) (ht : 2 ≤ t.val) (k : Fin 4) (y : S1x256x2048.Idx) :
    iblk m c 1 t (ix3 k (y 1) (y 2)) = (m (c.tc.loc main_arg1)) (ix3 k (((cfg0.win 2).blk t).view.emb y 1) (((cfg0.win 2).blk t).view.emb y 2)) := by
  blk_simp [iblk, idx_1 t ht, idx_2b t ht]; entry_read; pointwise; blk_ext [idx_1 t ht, idx_2b t ht]

/-- The first half of the grid writes the first layer. -/
theorem lay_a (t : Fin cfg0.N) (ht : t.val < 2) (y : S1x256x2048.Idx) : (((cfg0.win 2).blk t).view.emb y 0).val = 0 := by
  blk_simp [idx_2a t ht]; try omega

/-- The second half of the grid writes the second layer. -/
theorem lay_b (t : Fin cfg0.N) (ht : 2 ≤ t.val) (y : S1x256x2048.Idx) : (((cfg0.win 2).blk t).view.emb y 0).val = 1 := by
  blk_simp [idx_2b t ht]; try omega

/-- The kernel's sum is the reference's. -/
theorem final (c : Dev nD) : (dats m 0 c).arrAt 2 (cfgs 0).N = refSum (m (c.tc.loc main_arg0)) (m (c.tc.loc main_arg1)) := by
  refine (dats m 0 c).arrAt_eq_of_covers 2 _ (by decide +kernel) fun t hf y => ?_
  blk_simp; rw [after0_2]
  by_cases ht : t.val < 2
  · rw [outsAt0_A m c t ht (by omega)]; frame_out
    have h := fun k => rd_0 m c t ht k y
    have hl := lay_a t ht y
    revert h hl
    generalize ((cfg0.win 2).blk t).view.emb y = z
    intro h hl
    pointwise [k0_pay1, refSum, hl]
    simp only [Fin.sum_univ_four]
    simp only [h]
  · rw [outsAt0_B m c t ht (by omega)]; frame_out
    have h := fun k => rd_1 m c t (by omega) k y
    have hl := lay_b t (by omega) y
    revert h hl
    generalize ((cfg0.win 2).blk t).view.emb y = z
    intro h hl
    pointwise [k0_pay2, refSum, hl]
    simp only [Fin.sum_univ_four]
    simp only [h]

end Cert.Kernel32Ideal.Value

end
-- ==== Proof.ValueSumGate.lean ====
/- The values of the sum of `w_gate`'s gradients over the plane, for both layers (the kernel `sum_w_gate`). -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel33Ideal.Value
public import proofs.«01_k».proof.Proof.Gen.Reference33Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference33Ideal.Value
open Cert.Reference33Ideal Cert.Reference33Ideal.Gen

/-- The sum over the plane, layer by layer, as the reference computes it. -/
def refSum (a0 a1 : FVec Ideal S4x2048x1408 .bf16) : FVec Ideal S2x2048x1408 .f32 :=
  concatenate S2x2048x1408 0 [⟨S1x2048x1408, (broadcastInDim S1x2048x1408 ![1, 2] bcast_S2048x1408_S1x2048x1408_1_2 (Host.reduceAdd (extf .f32 a0 bitsLt_bf16_f32) (constant S_ .f32 0x00000000#32) reducesTo_S4x2048x1408_S2048x1408_d0 h_S_))⟩, ⟨S1x2048x1408, (broadcastInDim S1x2048x1408 ![1, 2] bcast_S2048x1408_S1x2048x1408_1_2 (Host.reduceAdd (extf .f32 a1 bitsLt_bf16_f32) (constant S_ .f32 0x00000000#32) reducesTo_S4x2048x1408_S2048x1408_d0 h_S_))⟩] concatenates_S1x2048x1408_S1x2048x1408_S2x2048x1408_d0

end Cert.Reference33Ideal.Value

namespace Cert.Kernel33Ideal.Value

open Cert.Kernel33Ideal Cert.Kernel33Ideal.Gen Cert.Reference33Ideal.Value

variable (m : (ℓ : Loc nD τ sig) → Buf (Elt Ideal) ℓ)

/-- The first layer's block at the points of its half of the grid. -/
theorem idx_0 : ∀ t : Fin cfg0.N, t.val < 8 → win0_0.index t = ![0, t.val, 0] :=
  (by decide +kernel : ∀ t : Fin grid0.N, _)

/-- The second layer's block at the points of its half of the grid. -/
theorem idx_1 : ∀ t : Fin cfg0.N, 8 ≤ t.val → win0_1.index t = ![0, t.val - 8, 0] :=
  (by decide +kernel : ∀ t : Fin grid0.N, _)

/-- The block of the result at the points of the first half of the grid. -/
theorem idx_2a : ∀ t : Fin cfg0.N, t.val < 8 → win0_2.index t = ![0, t.val, 0] :=
  (by decide +kernel : ∀ t : Fin grid0.N, _)

/-- The block of the result at the points of the second half of the grid. -/
theorem idx_2b : ∀ t : Fin cfg0.N, 8 ≤ t.val → win0_2.index t = ![1, t.val - 8, 0] :=
  (by decide +kernel : ∀ t : Fin grid0.N, _)

/-- The first layer's block, at a slot and at the index the result window writes. -/
theorem rd_0 (c : Dev nD) (t : Fin cfg0.N) (ht : t.val < 8) (k : Fin 4) (y : S1x256x1408.Idx) :
    iblk m c 0 t (ix3 k (y 1) (y 2)) = (m (c.tc.loc main_arg0)) (ix3 k (((cfg0.win 2).blk t).view.emb y 1) (((cfg0.win 2).blk t).view.emb y 2)) := by
  blk_simp [iblk, idx_0 t ht, idx_2a t ht]; entry_read; pointwise; blk_ext [idx_0 t ht, idx_2a t ht]

/-- The second layer's block, at a slot and at the index the result window writes. -/
theorem rd_1 (c : Dev nD) (t : Fin cfg0.N) (ht : 8 ≤ t.val) (k : Fin 4) (y : S1x256x1408.Idx) :
    iblk m c 1 t (ix3 k (y 1) (y 2)) = (m (c.tc.loc main_arg1)) (ix3 k (((cfg0.win 2).blk t).view.emb y 1) (((cfg0.win 2).blk t).view.emb y 2)) := by
  blk_simp [iblk, idx_1 t ht, idx_2b t ht]; entry_read; pointwise; blk_ext [idx_1 t ht, idx_2b t ht]

/-- The first half of the grid writes the first layer. -/
theorem lay_a (t : Fin cfg0.N) (ht : t.val < 8) (y : S1x256x1408.Idx) : (((cfg0.win 2).blk t).view.emb y 0).val = 0 := by
  blk_simp [idx_2a t ht]; try omega

/-- The second half of the grid writes the second layer. -/
theorem lay_b (t : Fin cfg0.N) (ht : 8 ≤ t.val) (y : S1x256x1408.Idx) : (((cfg0.win 2).blk t).view.emb y 0).val = 1 := by
  blk_simp [idx_2b t ht]; try omega

/-- The kernel's sum is the reference's. -/
theorem final (c : Dev nD) : (dats m 0 c).arrAt 2 (cfgs 0).N = refSum (m (c.tc.loc main_arg0)) (m (c.tc.loc main_arg1)) := by
  refine (dats m 0 c).arrAt_eq_of_covers 2 _ (by decide +kernel) fun t hf y => ?_
  blk_simp; rw [after0_2]
  by_cases ht : t.val < 8
  · rw [outsAt0_A m c t ht (by omega)]; frame_out
    have h := fun k => rd_0 m c t ht k y
    have hl := lay_a t ht y
    revert h hl
    generalize ((cfg0.win 2).blk t).view.emb y = z
    intro h hl
    pointwise [k0_pay1, refSum, hl]
    simp only [Fin.sum_univ_four]
    simp only [h]
  · rw [outsAt0_B m c t ht (by omega)]; frame_out
    have h := fun k => rd_1 m c t (by omega) k y
    have hl := lay_b t (by omega) y
    revert h hl
    generalize ((cfg0.win 2).blk t).view.emb y = z
    intro h hl
    pointwise [k0_pay2, refSum, hl]
    simp only [Fin.sum_univ_four]
    simp only [h]

end Cert.Kernel33Ideal.Value

end
-- ==== Proof.ValueSumDown.lean ====
/- The values of the sum of `w_down`'s gradients over the plane, for both layers (the kernel `sum_w_down`). -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel34Ideal.Value
public import proofs.«01_k».proof.Proof.Gen.Reference34Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference34Ideal.Value
open Cert.Reference34Ideal Cert.Reference34Ideal.Gen

/-- The sum over the plane, layer by layer, as the reference computes it. -/
def refSum (a0 a1 : FVec Ideal S4x1408x2048 .bf16) : FVec Ideal S2x1408x2048 .f32 :=
  concatenate S2x1408x2048 0 [⟨S1x1408x2048, (broadcastInDim S1x1408x2048 ![1, 2] bcast_S1408x2048_S1x1408x2048_1_2 (Host.reduceAdd (extf .f32 a0 bitsLt_bf16_f32) (constant S_ .f32 0x00000000#32) reducesTo_S4x1408x2048_S1408x2048_d0 h_S_))⟩, ⟨S1x1408x2048, (broadcastInDim S1x1408x2048 ![1, 2] bcast_S1408x2048_S1x1408x2048_1_2 (Host.reduceAdd (extf .f32 a1 bitsLt_bf16_f32) (constant S_ .f32 0x00000000#32) reducesTo_S4x1408x2048_S1408x2048_d0 h_S_))⟩] concatenates_S1x1408x2048_S1x1408x2048_S2x1408x2048_d0

end Cert.Reference34Ideal.Value

namespace Cert.Kernel34Ideal.Value

open Cert.Kernel34Ideal Cert.Kernel34Ideal.Gen Cert.Reference34Ideal.Value

variable (m : (ℓ : Loc nD τ sig) → Buf (Elt Ideal) ℓ)

/-- The first layer's block at the points of its half of the grid. -/
theorem idx_0 : ∀ t : Fin cfg0.N, t.val < 11 → win0_0.index t = ![0, t.val, 0] :=
  (by decide +kernel : ∀ t : Fin grid0.N, _)

/-- The second layer's block at the points of its half of the grid. -/
theorem idx_1 : ∀ t : Fin cfg0.N, 11 ≤ t.val → win0_1.index t = ![0, t.val - 11, 0] :=
  (by decide +kernel : ∀ t : Fin grid0.N, _)

/-- The block of the result at the points of the first half of the grid. -/
theorem idx_2a : ∀ t : Fin cfg0.N, t.val < 11 → win0_2.index t = ![0, t.val, 0] :=
  (by decide +kernel : ∀ t : Fin grid0.N, _)

/-- The block of the result at the points of the second half of the grid. -/
theorem idx_2b : ∀ t : Fin cfg0.N, 11 ≤ t.val → win0_2.index t = ![1, t.val - 11, 0] :=
  (by decide +kernel : ∀ t : Fin grid0.N, _)

/-- The first layer's block, at a slot and at the index the result window writes. -/
theorem rd_0 (c : Dev nD) (t : Fin cfg0.N) (ht : t.val < 11) (k : Fin 4) (y : S1x128x2048.Idx) :
    iblk m c 0 t (ix3 k (y 1) (y 2)) = (m (c.tc.loc main_arg0)) (ix3 k (((cfg0.win 2).blk t).view.emb y 1) (((cfg0.win 2).blk t).view.emb y 2)) := by
  blk_simp [iblk, idx_0 t ht, idx_2a t ht]; entry_read; pointwise; blk_ext [idx_0 t ht, idx_2a t ht]

/-- The second layer's block, at a slot and at the index the result window writes. -/
theorem rd_1 (c : Dev nD) (t : Fin cfg0.N) (ht : 11 ≤ t.val) (k : Fin 4) (y : S1x128x2048.Idx) :
    iblk m c 1 t (ix3 k (y 1) (y 2)) = (m (c.tc.loc main_arg1)) (ix3 k (((cfg0.win 2).blk t).view.emb y 1) (((cfg0.win 2).blk t).view.emb y 2)) := by
  blk_simp [iblk, idx_1 t ht, idx_2b t ht]; entry_read; pointwise; blk_ext [idx_1 t ht, idx_2b t ht]

/-- The first half of the grid writes the first layer. -/
theorem lay_a (t : Fin cfg0.N) (ht : t.val < 11) (y : S1x128x2048.Idx) : (((cfg0.win 2).blk t).view.emb y 0).val = 0 := by
  blk_simp [idx_2a t ht]; try omega

/-- The second half of the grid writes the second layer. -/
theorem lay_b (t : Fin cfg0.N) (ht : 11 ≤ t.val) (y : S1x128x2048.Idx) : (((cfg0.win 2).blk t).view.emb y 0).val = 1 := by
  blk_simp [idx_2b t ht]; try omega

/-- The kernel's sum is the reference's. -/
theorem final (c : Dev nD) : (dats m 0 c).arrAt 2 (cfgs 0).N = refSum (m (c.tc.loc main_arg0)) (m (c.tc.loc main_arg1)) := by
  refine (dats m 0 c).arrAt_eq_of_covers 2 _ (by decide +kernel) fun t hf y => ?_
  blk_simp; rw [after0_2]
  by_cases ht : t.val < 11
  · rw [outsAt0_A m c t ht (by omega)]; frame_out
    have h := fun k => rd_0 m c t ht k y
    have hl := lay_a t ht y
    revert h hl
    generalize ((cfg0.win 2).blk t).view.emb y = z
    intro h hl
    pointwise [k0_pay1, refSum, hl]
    simp only [Fin.sum_univ_four]
    simp only [h]
  · rw [outsAt0_B m c t ht (by omega)]; frame_out
    have h := fun k => rd_1 m c t (by omega) k y
    have hl := lay_b t (by omega) y
    revert h hl
    generalize ((cfg0.win 2).blk t).view.emb y = z
    intro h hl
    pointwise [k0_pay2, refSum, hl]
    simp only [Fin.sum_univ_four]
    simp only [h]

end Cert.Kernel34Ideal.Value

end
-- ==== Proof.ValueSumPw.lean ====
/- The values of the sum of `w_pw`'s gradients over the plane, for both layers (the kernel `sum_w_pw`). -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel35Ideal.Value
public import proofs.«01_k».proof.Proof.Gen.Reference35Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference35Ideal.Value
open Cert.Reference35Ideal Cert.Reference35Ideal.Gen

/-- The sum over the plane, layer by layer, as the reference computes it. -/
def refSum (a0 a1 : FVec Ideal S4x128x512 .bf16) : FVec Ideal S2x128x512 .f32 :=
  concatenate S2x128x512 0 [⟨S1x128x512, (broadcastInDim S1x128x512 ![1, 2] bcast_S128x512_S1x128x512_1_2 (Host.reduceAdd (extf .f32 a0 bitsLt_bf16_f32) (constant S_ .f32 0x00000000#32) reducesTo_S4x128x512_S128x512_d0 h_S_))⟩, ⟨S1x128x512, (broadcastInDim S1x128x512 ![1, 2] bcast_S128x512_S1x128x512_1_2 (Host.reduceAdd (extf .f32 a1 bitsLt_bf16_f32) (constant S_ .f32 0x00000000#32) reducesTo_S4x128x512_S128x512_d0 h_S_))⟩] concatenates_S1x128x512_S1x128x512_S2x128x512_d0

end Cert.Reference35Ideal.Value

namespace Cert.Kernel35Ideal.Value

open Cert.Kernel35Ideal Cert.Kernel35Ideal.Gen Cert.Reference35Ideal.Value

variable (m : (ℓ : Loc nD τ sig) → Buf (Elt Ideal) ℓ)

/-- The first layer's block at the points of its half of the grid. -/
theorem idx_0 : ∀ t : Fin cfg0.N, t.val < 1 → win0_0.index t = ![0, t.val, 0] :=
  (by decide +kernel : ∀ t : Fin grid0.N, _)

/-- The second layer's block at the points of its half of the grid. -/
theorem idx_1 : ∀ t : Fin cfg0.N, 1 ≤ t.val → win0_1.index t = ![0, t.val - 1, 0] :=
  (by decide +kernel : ∀ t : Fin grid0.N, _)

/-- The block of the result at the points of the first half of the grid. -/
theorem idx_2a : ∀ t : Fin cfg0.N, t.val < 1 → win0_2.index t = ![0, t.val, 0] :=
  (by decide +kernel : ∀ t : Fin grid0.N, _)

/-- The block of the result at the points of the second half of the grid. -/
theorem idx_2b : ∀ t : Fin cfg0.N, 1 ≤ t.val → win0_2.index t = ![1, t.val - 1, 0] :=
  (by decide +kernel : ∀ t : Fin grid0.N, _)

/-- The first layer's block, at a slot and at the index the result window writes. -/
theorem rd_0 (c : Dev nD) (t : Fin cfg0.N) (ht : t.val < 1) (k : Fin 4) (y : S1x128x512.Idx) :
    iblk m c 0 t (ix3 k (y 1) (y 2)) = (m (c.tc.loc main_arg0)) (ix3 k (((cfg0.win 2).blk t).view.emb y 1) (((cfg0.win 2).blk t).view.emb y 2)) := by
  blk_simp [iblk, idx_0 t ht, idx_2a t ht]; entry_read; pointwise; blk_ext [idx_0 t ht, idx_2a t ht]

/-- The second layer's block, at a slot and at the index the result window writes. -/
theorem rd_1 (c : Dev nD) (t : Fin cfg0.N) (ht : 1 ≤ t.val) (k : Fin 4) (y : S1x128x512.Idx) :
    iblk m c 1 t (ix3 k (y 1) (y 2)) = (m (c.tc.loc main_arg1)) (ix3 k (((cfg0.win 2).blk t).view.emb y 1) (((cfg0.win 2).blk t).view.emb y 2)) := by
  blk_simp [iblk, idx_1 t ht, idx_2b t ht]; entry_read; pointwise; blk_ext [idx_1 t ht, idx_2b t ht]

/-- The first half of the grid writes the first layer. -/
theorem lay_a (t : Fin cfg0.N) (ht : t.val < 1) (y : S1x128x512.Idx) : (((cfg0.win 2).blk t).view.emb y 0).val = 0 := by
  blk_simp [idx_2a t ht]; try omega

/-- The second half of the grid writes the second layer. -/
theorem lay_b (t : Fin cfg0.N) (ht : 1 ≤ t.val) (y : S1x128x512.Idx) : (((cfg0.win 2).blk t).view.emb y 0).val = 1 := by
  blk_simp [idx_2b t ht]; try omega

/-- The kernel's sum is the reference's. -/
theorem final (c : Dev nD) : (dats m 0 c).arrAt 2 (cfgs 0).N = refSum (m (c.tc.loc main_arg0)) (m (c.tc.loc main_arg1)) := by
  refine (dats m 0 c).arrAt_eq_of_covers 2 _ (by decide +kernel) fun t hf y => ?_
  blk_simp; rw [after0_2]
  by_cases ht : t.val < 1
  · have hN : t.val < 2 := t.isLt
    rw [outsAt0_A m c t (by omega) (by omega)]; frame_out
    have h := fun k => rd_0 m c t ht k y
    have hl := lay_a t ht y
    revert h hl
    generalize ((cfg0.win 2).blk t).view.emb y = z
    intro h hl
    pointwise [k0_pay1, refSum, hl]
    simp only [Fin.sum_univ_four]
    simp only [h]
  · have hN : t.val < 2 := t.isLt
    rw [outsAt0_B m c t (by omega) (by omega)]; frame_out
    have h := fun k => rd_1 m c t (by omega) k y
    have hl := lay_b t (by omega) y
    revert h hl
    generalize ((cfg0.win 2).blk t).view.emb y = z
    intro h hl
    pointwise [k0_pay2, refSum, hl]
    simp only [Fin.sum_univ_four]
    simp only [h]

end Cert.Kernel35Ideal.Value

end
-- ==== Proof.PoolSums.lean ====
/- Sums over a window of rows, taken by doubling with rotations. -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Pool

/-- The rows and lanes that the rotations work on. -/
abbrev R : Shape := ⟨2, ![160, 128]⟩

/-- A rotation down by `s` rows, away from the rows that wrap. -/
theorem rot_down (sb : BitVec 32) (s : ℕ) (hsb : sb.toNat = s) (h0 : 0 < s) (hs : s < 160) (x : FVec Ideal R .f32) (h : R.Rotates 0 none)
    (e : Fin 160) (d : Fin 128) (he : s ≤ e.val) :
    dynamicRotate 0 sb none x h (ix2 e d) = x (ix2 ⟨e.val - s, by omega⟩ d) := by
  refine dynamicRotate_apply (s := R) (0 : Fin 2) sb _ h _ _ ?_
  intro b
  match b with
  | ⟨0, _⟩ =>
    show e.val - s = (e.val + 160 - sb.toNat % 160) % 160
    have := e.isLt
    rw [hsb, Nat.mod_eq_of_lt hs]; omega
  | ⟨1, _⟩ => rfl

/-- A rotation up by `s` rows, away from the rows that wrap. -/
theorem rot_up (sb : BitVec 32) (s : ℕ) (hsb : sb.toNat = 160 - s) (h0 : 0 < s) (hs : s < 160) (x : FVec Ideal R .f32) (h : R.Rotates 0 none)
    (e : Fin 160) (d : Fin 128) (he : e.val + s < 160) :
    dynamicRotate 0 sb none x h (ix2 e d) = x (ix2 ⟨e.val + s, he⟩ d) := by
  refine dynamicRotate_apply (s := R) (0 : Fin 2) sb _ h _ _ ?_
  intro b
  match b with
  | ⟨0, _⟩ =>
    show e.val + s = (e.val + 160 - sb.toNat % 160) % 160
    rw [hsb, Nat.mod_eq_of_lt (by omega)]; omega
  | ⟨1, _⟩ => rfl

/-- A window of `s` rows upwards becomes one of twice as many. -/
theorem dbl_down (sb : BitVec 32) (s a : ℕ) (hsb : sb.toNat = s) (h0 : 0 < s) (hs : s < 160) (x : FVec Ideal R .f32) (h : R.Rotates 0 none)
    (d : Fin 128) (f : ℕ → EReal) (hx : ∀ e : Fin 160, a ≤ e.val → x (ix2 e d) = ∑ k ∈ Finset.range s, f (e.val - k)) :
    ∀ e : Fin 160, a + s ≤ e.val → (addf x (dynamicRotate 0 sb none x h)) (ix2 e d) = ∑ k ∈ Finset.range (s + s), f (e.val - k) := by
  intro e he
  show x (ix2 e d) + dynamicRotate 0 sb none x h (ix2 e d) = _
  rw [rot_down sb s hsb h0 hs x h e d (by omega), hx e (by omega), hx ⟨e.val - s, by omega⟩ (by show a ≤ e.val - s; omega), Finset.sum_range_add]
  simp only [Nat.sub_sub]

/-- A window of `s` rows downwards becomes one of twice as many. -/
theorem dbl_up (sb : BitVec 32) (s a : ℕ) (hsb : sb.toNat = 160 - s) (h0 : 0 < s) (hs : s < 160) (x : FVec Ideal R .f32) (h : R.Rotates 0 none)
    (d : Fin 128) (f : ℕ → EReal) (hx : ∀ e : Fin 160, e.val + a < 160 → x (ix2 e d) = ∑ k ∈ Finset.range s, f (e.val + k)) :
    ∀ e : Fin 160, e.val + (a + s) < 160 → (addf x (dynamicRotate 0 sb none x h)) (ix2 e d) = ∑ k ∈ Finset.range (s + s), f (e.val + k) := by
  intro e he
  show x (ix2 e d) + dynamicRotate 0 sb none x h (ix2 e d) = _
  rw [rot_up sb s hsb h0 hs x h e d (by omega), hx e (by omega), hx ⟨e.val + s, by omega⟩ (by show e.val + s + a < 160; omega), Finset.sum_range_add]
  simp only [Nat.add_assoc]

end Cert.Pool

end
-- ==== Proof.PoolRef.lean ====
/- The multi-scale pooling heads as the reference computes them. -/
module

public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel15Ideal.Value
public import proofs.«01_k».proof.Proof.Gen.Reference15Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference15Ideal.Value
open Cert.Reference15Ideal Cert.Reference15Ideal.Gen

/-- The rows, 1 later. -/
def lag1 (u : FVec Ideal S4112x128 .f32) : FVec Ideal S4112x128 .f32 :=
  concatenate S4112x128 0 [⟨S1x128, (broadcastInDim S1x128 ![] bcast_S_S1x128 (constant S_ .f32 0x00000000#32))⟩, ⟨S4111x128, (extractStridedSlice S4111x128 ![0, 0] u slices_S4112x128_S4111x128_0_0)⟩] concatenates_S1x128_S4111x128_S4112x128_d0

/-- The rows, 2 later. -/
def lag2 (u : FVec Ideal S4112x128 .f32) : FVec Ideal S4112x128 .f32 :=
  concatenate S4112x128 0 [⟨S2x128, (broadcastInDim S2x128 ![] bcast_S_S2x128 (constant S_ .f32 0x00000000#32))⟩, ⟨S4110x128, (extractStridedSlice S4110x128 ![0, 0] u slices_S4112x128_S4110x128_0_0)⟩] concatenates_S2x128_S4110x128_S4112x128_d0

/-- The rows, 3 later. -/
def lag3 (u : FVec Ideal S4112x128 .f32) : FVec Ideal S4112x128 .f32 :=
  concatenate S4112x128 0 [⟨S3x128, (broadcastInDim S3x128 ![] bcast_S_S3x128 (constant S_ .f32 0x00000000#32))⟩, ⟨S4109x128, (extractStridedSlice S4109x128 ![0, 0] u slices_S4112x128_S4109x128_0_0)⟩] concatenates_S3x128_S4109x128_S4112x128_d0

/-- The rows, 4 later. -/
def lag4 (u : FVec Ideal S4112x128 .f32) : FVec Ideal S4112x128 .f32 :=
  concatenate S4112x128 0 [⟨S4x128, (broadcastInDim S4x128 ![] bcast_S_S4x128 (constant S_ .f32 0x00000000#32))⟩, ⟨S4108x128, (extractStridedSlice S4108x128 ![0, 0] u slices_S4112x128_S4108x128_0_0)⟩] concatenates_S4x128_S4108x128_S4112x128_d0

/-- The rows, 5 later. -/
def lag5 (u : FVec Ideal S4112x128 .f32) : FVec Ideal S4112x128 .f32 :=
  concatenate S4112x128 0 [⟨S5x128, (broadcastInDim S5x128 ![] bcast_S_S5x128 (constant S_ .f32 0x00000000#32))⟩, ⟨S4107x128, (extractStridedSlice S4107x128 ![0, 0] u slices_S4112x128_S4107x128_0_0)⟩] concatenates_S5x128_S4107x128_S4112x128_d0

/-- The rows, 6 later. -/
def lag6 (u : FVec Ideal S4112x128 .f32) : FVec Ideal S4112x128 .f32 :=
  concatenate S4112x128 0 [⟨S6x128, (broadcastInDim S6x128 ![] bcast_S_S6x128 (constant S_ .f32 0x00000000#32))⟩, ⟨S4106x128, (extractStridedSlice S4106x128 ![0, 0] u slices_S4112x128_S4106x128_0_0)⟩] concatenates_S6x128_S4106x128_S4112x128_d0

/-- The rows, 7 later. -/
def lag7 (u : FVec Ideal S4112x128 .f32) : FVec Ideal S4112x128 .f32 :=
  concatenate S4112x128 0 [⟨S7x128, (broadcastInDim S7x128 ![] bcast_S_S7x128 (constant S_ .f32 0x00000000#32))⟩, ⟨S4105x128, (extractStridedSlice S4105x128 ![0, 0] u slices_S4112x128_S4105x128_0_0)⟩] concatenates_S7x128_S4105x128_S4112x128_d0

/-- The rows, 8 later. -/
def lag8 (u : FVec Ideal S4112x128 .f32) : FVec Ideal S4112x128 .f32 :=
  concatenate S4112x128 0 [⟨S8x128, (broadcastInDim S8x128 ![] bcast_S_S8x128 (constant S_ .f32 0x00000000#32))⟩, ⟨S4104x128, (extractStridedSlice S4104x128 ![0, 0] u slices_S4112x128_S4104x128_0_0)⟩] concatenates_S8x128_S4104x128_S4112x128_d0

/-- The rows, 9 later. -/
def lag9 (u : FVec Ideal S4112x128 .f32) : FVec Ideal S4112x128 .f32 :=
  concatenate S4112x128 0 [⟨S9x128, (broadcastInDim S9x128 ![] bcast_S_S9x128 (constant S_ .f32 0x00000000#32))⟩, ⟨S4103x128, (extractStridedSlice S4103x128 ![0, 0] u slices_S4112x128_S4103x128_0_0)⟩] concatenates_S9x128_S4103x128_S4112x128_d0

/-- The rows, 10 later. -/
def lag10 (u : FVec Ideal S4112x128 .f32) : FVec Ideal S4112x128 .f32 :=
  concatenate S4112x128 0 [⟨S10x128, (broadcastInDim S10x128 ![] bcast_S_S10x128 (constant S_ .f32 0x00000000#32))⟩, ⟨S4102x128, (extractStridedSlice S4102x128 ![0, 0] u slices_S4112x128_S4102x128_0_0)⟩] concatenates_S10x128_S4102x128_S4112x128_d0

/-- The rows, 11 later. -/
def lag11 (u : FVec Ideal S4112x128 .f32) : FVec Ideal S4112x128 .f32 :=
  concatenate S4112x128 0 [⟨S11x128, (broadcastInDim S11x128 ![] bcast_S_S11x128 (constant S_ .f32 0x00000000#32))⟩, ⟨S4101x128, (extractStridedSlice S4101x128 ![0, 0] u slices_S4112x128_S4101x128_0_0)⟩] concatenates_S11x128_S4101x128_S4112x128_d0

/-- The rows, 12 later. -/
def lag12 (u : FVec Ideal S4112x128 .f32) : FVec Ideal S4112x128 .f32 :=
  concatenate S4112x128 0 [⟨S12x128, (broadcastInDim S12x128 ![] bcast_S_S12x128 (constant S_ .f32 0x00000000#32))⟩, ⟨S4100x128, (extractStridedSlice S4100x128 ![0, 0] u slices_S4112x128_S4100x128_0_0)⟩] concatenates_S12x128_S4100x128_S4112x128_d0

/-- The rows, 13 later. -/
def lag13 (u : FVec Ideal S4112x128 .f32) : FVec Ideal S4112x128 .f32 :=
  concatenate S4112x128 0 [⟨S13x128, (broadcastInDim S13x128 ![] bcast_S_S13x128 (constant S_ .f32 0x00000000#32))⟩, ⟨S4099x128, (extractStridedSlice S4099x128 ![0, 0] u slices_S4112x128_S4099x128_0_0)⟩] concatenates_S13x128_S4099x128_S4112x128_d0

/-- The rows, 14 later. -/
def lag14 (u : FVec Ideal S4112x128 .f32) : FVec Ideal S4112x128 .f32 :=
  concatenate S4112x128 0 [⟨S14x128, (broadcastInDim S14x128 ![] bcast_S_S14x128 (constant S_ .f32 0x00000000#32))⟩, ⟨S4098x128, (extractStridedSlice S4098x128 ![0, 0] u slices_S4112x128_S4098x128_0_0)⟩] concatenates_S14x128_S4098x128_S4112x128_d0

/-- The rows, 15 later. -/
def lag15 (u : FVec Ideal S4112x128 .f32) : FVec Ideal S4112x128 .f32 :=
  concatenate S4112x128 0 [⟨S15x128, (broadcastInDim S15x128 ![] bcast_S_S15x128 (constant S_ .f32 0x00000000#32))⟩, ⟨S4097x128, (extractStridedSlice S4097x128 ![0, 0] u slices_S4112x128_S4097x128_0_0)⟩] concatenates_S15x128_S4097x128_S4112x128_d0

/-- A row of a group's inputs, counted with the 112 rows of zeros before them. -/
def pu (u : FVec Ideal S4112x128 .f32) (d : Fin 128) (p : ℕ) : EReal :=
  if p < 112 then 0 else if h : p - 112 < 4112 then u (ix2 ⟨p - 112, h⟩ d) else 0

/-- An entry of the projection, counted with the 112 rows of zeros before it. -/
def pv (a0 : FVec Ideal S4112x4608 .f32) (q : Fin 512) (p : ℕ) : EReal :=
  if p < 112 then 0 else if h : p - 112 < 4112 then a0 (ix2 ⟨p - 112, h⟩ ⟨3072 + q.val, by omega⟩) else 0

theorem pu_0 (u : FVec Ideal S4112x128 .f32) (p : Fin 4112) (d : Fin 128) : u (ix2 p d) = pu u d (p.val + 112 - 0) := by
  have hp := p.isLt
  unfold pu
  rw [if_neg (by omega), dif_pos (by omega)]
  exact congrArg u (congrArg (fun r => ix2 r d) (Fin.ext (by show p.val = p.val + 112 - 0 - 112; omega)))

theorem lag1_at (u : FVec Ideal S4112x128 .f32) (p : Fin 4112) (d : Fin 128) : lag1 u (ix2 p d) = pu u d (p.val + 112 - 1) := by
  have hp := p.isLt
  unfold lag1 pu
  pointwise
  by_cases h : p.val < 1
  · rw [dif_pos h]
    exact (if_pos (by omega)).symm
  · rw [dif_neg h]
    have e1 : ¬ p.val + 112 - 1 < 112 := by omega
    have e2 : p.val + 112 - 1 - 112 < 4112 := by omega
    refine Eq.trans ?_ ((if_neg e1).trans (dif_pos e2)).symm
    exact congrArg u (congrArg (fun r => ix2 r d) (Fin.ext (by show p.val - 1 = p.val + 112 - 1 - 112; omega)))

theorem lag2_at (u : FVec Ideal S4112x128 .f32) (p : Fin 4112) (d : Fin 128) : lag2 u (ix2 p d) = pu u d (p.val + 112 - 2) := by
  have hp := p.isLt
  unfold lag2 pu
  pointwise
  by_cases h : p.val < 2
  · rw [dif_pos h]
    exact (if_pos (by omega)).symm
  · rw [dif_neg h]
    have e1 : ¬ p.val + 112 - 2 < 112 := by omega
    have e2 : p.val + 112 - 2 - 112 < 4112 := by omega
    refine Eq.trans ?_ ((if_neg e1).trans (dif_pos e2)).symm
    exact congrArg u (congrArg (fun r => ix2 r d) (Fin.ext (by show p.val - 2 = p.val + 112 - 2 - 112; omega)))

theorem lag3_at (u : FVec Ideal S4112x128 .f32) (p : Fin 4112) (d : Fin 128) : lag3 u (ix2 p d) = pu u d (p.val + 112 - 3) := by
  have hp := p.isLt
  unfold lag3 pu
  pointwise
  by_cases h : p.val < 3
  · rw [dif_pos h]
    exact (if_pos (by omega)).symm
  · rw [dif_neg h]
    have e1 : ¬ p.val + 112 - 3 < 112 := by omega
    have e2 : p.val + 112 - 3 - 112 < 4112 := by omega
    refine Eq.trans ?_ ((if_neg e1).trans (dif_pos e2)).symm
    exact congrArg u (congrArg (fun r => ix2 r d) (Fin.ext (by show p.val - 3 = p.val + 112 - 3 - 112; omega)))

theorem lag4_at (u : FVec Ideal S4112x128 .f32) (p : Fin 4112) (d : Fin 128) : lag4 u (ix2 p d) = pu u d (p.val + 112 - 4) := by
  have hp := p.isLt
  unfold lag4 pu
  pointwise
  by_cases h : p.val < 4
  · rw [dif_pos h]
    exact (if_pos (by omega)).symm
  · rw [dif_neg h]
    have e1 : ¬ p.val + 112 - 4 < 112 := by omega
    have e2 : p.val + 112 - 4 - 112 < 4112 := by omega
    refine Eq.trans ?_ ((if_neg e1).trans (dif_pos e2)).symm
    exact congrArg u (congrArg (fun r => ix2 r d) (Fin.ext (by show p.val - 4 = p.val + 112 - 4 - 112; omega)))

theorem lag5_at (u : FVec Ideal S4112x128 .f32) (p : Fin 4112) (d : Fin 128) : lag5 u (ix2 p d) = pu u d (p.val + 112 - 5) := by
  have hp := p.isLt
  unfold lag5 pu
  pointwise
  by_cases h : p.val < 5
  · rw [dif_pos h]
    exact (if_pos (by omega)).symm
  · rw [dif_neg h]
    have e1 : ¬ p.val + 112 - 5 < 112 := by omega
    have e2 : p.val + 112 - 5 - 112 < 4112 := by omega
    refine Eq.trans ?_ ((if_neg e1).trans (dif_pos e2)).symm
    exact congrArg u (congrArg (fun r => ix2 r d) (Fin.ext (by show p.val - 5 = p.val + 112 - 5 - 112; omega)))

theorem lag6_at (u : FVec Ideal S4112x128 .f32) (p : Fin 4112) (d : Fin 128) : lag6 u (ix2 p d) = pu u d (p.val + 112 - 6) := by
  have hp := p.isLt
  unfold lag6 pu
  pointwise
  by_cases h : p.val < 6
  · rw [dif_pos h]
    exact (if_pos (by omega)).symm
  · rw [dif_neg h]
    have e1 : ¬ p.val + 112 - 6 < 112 := by omega
    have e2 : p.val + 112 - 6 - 112 < 4112 := by omega
    refine Eq.trans ?_ ((if_neg e1).trans (dif_pos e2)).symm
    exact congrArg u (congrArg (fun r => ix2 r d) (Fin.ext (by show p.val - 6 = p.val + 112 - 6 - 112; omega)))

theorem lag7_at (u : FVec Ideal S4112x128 .f32) (p : Fin 4112) (d : Fin 128) : lag7 u (ix2 p d) = pu u d (p.val + 112 - 7) := by
  have hp := p.isLt
  unfold lag7 pu
  pointwise
  by_cases h : p.val < 7
  · rw [dif_pos h]
    exact (if_pos (by omega)).symm
  · rw [dif_neg h]
    have e1 : ¬ p.val + 112 - 7 < 112 := by omega
    have e2 : p.val + 112 - 7 - 112 < 4112 := by omega
    refine Eq.trans ?_ ((if_neg e1).trans (dif_pos e2)).symm
    exact congrArg u (congrArg (fun r => ix2 r d) (Fin.ext (by show p.val - 7 = p.val + 112 - 7 - 112; omega)))

theorem lag8_at (u : FVec Ideal S4112x128 .f32) (p : Fin 4112) (d : Fin 128) : lag8 u (ix2 p d) = pu u d (p.val + 112 - 8) := by
  have hp := p.isLt
  unfold lag8 pu
  pointwise
  by_cases h : p.val < 8
  · rw [dif_pos h]
    exact (if_pos (by omega)).symm
  · rw [dif_neg h]
    have e1 : ¬ p.val + 112 - 8 < 112 := by omega
    have e2 : p.val + 112 - 8 - 112 < 4112 := by omega
    refine Eq.trans ?_ ((if_neg e1).trans (dif_pos e2)).symm
    exact congrArg u (congrArg (fun r => ix2 r d) (Fin.ext (by show p.val - 8 = p.val + 112 - 8 - 112; omega)))

theorem lag9_at (u : FVec Ideal S4112x128 .f32) (p : Fin 4112) (d : Fin 128) : lag9 u (ix2 p d) = pu u d (p.val + 112 - 9) := by
  have hp := p.isLt
  unfold lag9 pu
  pointwise
  by_cases h : p.val < 9
  · rw [dif_pos h]
    exact (if_pos (by omega)).symm
  · rw [dif_neg h]
    have e1 : ¬ p.val + 112 - 9 < 112 := by omega
    have e2 : p.val + 112 - 9 - 112 < 4112 := by omega
    refine Eq.trans ?_ ((if_neg e1).trans (dif_pos e2)).symm
    exact congrArg u (congrArg (fun r => ix2 r d) (Fin.ext (by show p.val - 9 = p.val + 112 - 9 - 112; omega)))

theorem lag10_at (u : FVec Ideal S4112x128 .f32) (p : Fin 4112) (d : Fin 128) : lag10 u (ix2 p d) = pu u d (p.val + 112 - 10) := by
  have hp := p.isLt
  unfold lag10 pu
  pointwise
  by_cases h : p.val < 10
  · rw [dif_pos h]
    exact (if_pos (by omega)).symm
  · rw [dif_neg h]
    have e1 : ¬ p.val + 112 - 10 < 112 := by omega
    have e2 : p.val + 112 - 10 - 112 < 4112 := by omega
    refine Eq.trans ?_ ((if_neg e1).trans (dif_pos e2)).symm
    exact congrArg u (congrArg (fun r => ix2 r d) (Fin.ext (by show p.val - 10 = p.val + 112 - 10 - 112; omega)))

theorem lag11_at (u : FVec Ideal S4112x128 .f32) (p : Fin 4112) (d : Fin 128) : lag11 u (ix2 p d) = pu u d (p.val + 112 - 11) := by
  have hp := p.isLt
  unfold lag11 pu
  pointwise
  by_cases h : p.val < 11
  · rw [dif_pos h]
    exact (if_pos (by omega)).symm
  · rw [dif_neg h]
    have e1 : ¬ p.val + 112 - 11 < 112 := by omega
    have e2 : p.val + 112 - 11 - 112 < 4112 := by omega
    refine Eq.trans ?_ ((if_neg e1).trans (dif_pos e2)).symm
    exact congrArg u (congrArg (fun r => ix2 r d) (Fin.ext (by show p.val - 11 = p.val + 112 - 11 - 112; omega)))

theorem lag12_at (u : FVec Ideal S4112x128 .f32) (p : Fin 4112) (d : Fin 128) : lag12 u (ix2 p d) = pu u d (p.val + 112 - 12) := by
  have hp := p.isLt
  unfold lag12 pu
  pointwise
  by_cases h : p.val < 12
  · rw [dif_pos h]
    exact (if_pos (by omega)).symm
  · rw [dif_neg h]
    have e1 : ¬ p.val + 112 - 12 < 112 := by omega
    have e2 : p.val + 112 - 12 - 112 < 4112 := by omega
    refine Eq.trans ?_ ((if_neg e1).trans (dif_pos e2)).symm
    exact congrArg u (congrArg (fun r => ix2 r d) (Fin.ext (by show p.val - 12 = p.val + 112 - 12 - 112; omega)))

theorem lag13_at (u : FVec Ideal S4112x128 .f32) (p : Fin 4112) (d : Fin 128) : lag13 u (ix2 p d) = pu u d (p.val + 112 - 13) := by
  have hp := p.isLt
  unfold lag13 pu
  pointwise
  by_cases h : p.val < 13
  · rw [dif_pos h]
    exact (if_pos (by omega)).symm
  · rw [dif_neg h]
    have e1 : ¬ p.val + 112 - 13 < 112 := by omega
    have e2 : p.val + 112 - 13 - 112 < 4112 := by omega
    refine Eq.trans ?_ ((if_neg e1).trans (dif_pos e2)).symm
    exact congrArg u (congrArg (fun r => ix2 r d) (Fin.ext (by show p.val - 13 = p.val + 112 - 13 - 112; omega)))

theorem lag14_at (u : FVec Ideal S4112x128 .f32) (p : Fin 4112) (d : Fin 128) : lag14 u (ix2 p d) = pu u d (p.val + 112 - 14) := by
  have hp := p.isLt
  unfold lag14 pu
  pointwise
  by_cases h : p.val < 14
  · rw [dif_pos h]
    exact (if_pos (by omega)).symm
  · rw [dif_neg h]
    have e1 : ¬ p.val + 112 - 14 < 112 := by omega
    have e2 : p.val + 112 - 14 - 112 < 4112 := by omega
    refine Eq.trans ?_ ((if_neg e1).trans (dif_pos e2)).symm
    exact congrArg u (congrArg (fun r => ix2 r d) (Fin.ext (by show p.val - 14 = p.val + 112 - 14 - 112; omega)))

theorem lag15_at (u : FVec Ideal S4112x128 .f32) (p : Fin 4112) (d : Fin 128) : lag15 u (ix2 p d) = pu u d (p.val + 112 - 15) := by
  have hp := p.isLt
  unfold lag15 pu
  pointwise
  by_cases h : p.val < 15
  · rw [dif_pos h]
    exact (if_pos (by omega)).symm
  · rw [dif_neg h]
    have e1 : ¬ p.val + 112 - 15 < 112 := by omega
    have e2 : p.val + 112 - 15 - 112 < 4112 := by omega
    refine Eq.trans ?_ ((if_neg e1).trans (dif_pos e2)).symm
    exact congrArg u (congrArg (fun r => ix2 r d) (Fin.ext (by show p.val - 15 = p.val + 112 - 15 - 112; omega)))

/-- The sums over windows of 2 rows. -/
def ws0 (u : FVec Ideal S4112x128 .f32) : FVec Ideal S4112x128 .f32 := addf u (lag1 u)

theorem ws0_at (u : FVec Ideal S4112x128 .f32) (p : Fin 4112) (d : Fin 128) : ws0 u (ix2 p d) = ∑ k ∈ Finset.range 2, pu u d (p.val + 112 - k) := by
  show (u (ix2 p d) + lag1 u (ix2 p d)) = _
  rw [lag1_at, pu_0 u p d]
  simp only [Finset.sum_range_succ, Finset.sum_range_zero, zero_add]

/-- The counts of the rows in a window of 2. -/
def cnt0 : FVec Ideal S4112x128 .f32 :=
  broadcastInDim S4112x128 ![0, 1] bcast_S4112x1_S4112x128_0_1 (broadcastInDim S4112x1 ![0] bcast_S4112_S4112x1_0 (sitofp .f32 (minsi (addi (iotaInDim S4112 32 0) (broadcastInDim S4112 ![] bcast_S_S4112 (constantI S_ 32 1#32))) (broadcastInDim S4112 ![] bcast_S_S4112 (constantI S_ 32 2#32)))))

theorem cntw0 : ∀ p : Fin 4112, IntOp.minsi (IntOp.addi (BitVec.ofNat 32 p.val) 1#32) 2#32 = BitVec.ofNat 32 (min (p.val + 112 - 111) 2) := by decide +kernel

theorem cnt0_at (p : Fin 4112) (d : Fin 128) : cnt0 (ix2 p d) = (FloatOps.sitofp (F := Ideal) .f32 (BitVec.ofNat 32 (min (p.val + 112 - 111) 2)) : EReal) := by
  rw [← cntw0 p]
  unfold cnt0
  pointwise

/-- Group 0's inputs. -/
def ug0 (a0 : FVec Ideal S4112x4608 .f32) : FVec Ideal S4112x128 .f32 :=
  extractStridedSlice S4112x128 ![0, 0] (extractStridedSlice S4112x512 ![0, 3072] a0 slices_S4112x4608_S4112x512_0_3072) slices_S4112x512_S4112x128_0_0

theorem pu_ug0 (a0 : FVec Ideal S4112x4608 .f32) (d : Fin 128) (p : ℕ) : pu (ug0 a0) d p = pv a0 ⟨d.val, by omega⟩ p := by
  unfold pu pv ug0
  by_cases h : p < 112
  · rw [if_pos h, if_pos h]
  · rw [if_neg h, if_neg h]
    by_cases h2 : p - 112 < 4112
    · rw [dif_pos h2, dif_pos h2]
      pointwise

    · rw [dif_neg h2, dif_neg h2]

/-- Group 0's pooled rows. -/
def pool0 (u : FVec Ideal S4112x128 .f32) : FVec Ideal S4112x128 .f32 := subf (Host.divf (ws0 u) cnt0) u

/-- The sums over windows of 4 rows. -/
def ws1 (u : FVec Ideal S4112x128 .f32) : FVec Ideal S4112x128 .f32 := addf (addf (addf u (lag1 u)) (lag2 u)) (lag3 u)

theorem ws1_at (u : FVec Ideal S4112x128 .f32) (p : Fin 4112) (d : Fin 128) : ws1 u (ix2 p d) = ∑ k ∈ Finset.range 4, pu u d (p.val + 112 - k) := by
  show (((u (ix2 p d) + lag1 u (ix2 p d)) + lag2 u (ix2 p d)) + lag3 u (ix2 p d)) = _
  rw [lag1_at, lag2_at, lag3_at, pu_0 u p d]
  simp only [Finset.sum_range_succ, Finset.sum_range_zero, zero_add]

/-- The counts of the rows in a window of 4. -/
def cnt1 : FVec Ideal S4112x128 .f32 :=
  broadcastInDim S4112x128 ![0, 1] bcast_S4112x1_S4112x128_0_1 (broadcastInDim S4112x1 ![0] bcast_S4112_S4112x1_0 (sitofp .f32 (minsi (addi (iotaInDim S4112 32 0) (broadcastInDim S4112 ![] bcast_S_S4112 (constantI S_ 32 1#32))) (broadcastInDim S4112 ![] bcast_S_S4112 (constantI S_ 32 4#32)))))

theorem cntw1 : ∀ p : Fin 4112, IntOp.minsi (IntOp.addi (BitVec.ofNat 32 p.val) 1#32) 4#32 = BitVec.ofNat 32 (min (p.val + 112 - 111) 4) := by decide +kernel

theorem cnt1_at (p : Fin 4112) (d : Fin 128) : cnt1 (ix2 p d) = (FloatOps.sitofp (F := Ideal) .f32 (BitVec.ofNat 32 (min (p.val + 112 - 111) 4)) : EReal) := by
  rw [← cntw1 p]
  unfold cnt1
  pointwise

/-- Group 1's inputs. -/
def ug1 (a0 : FVec Ideal S4112x4608 .f32) : FVec Ideal S4112x128 .f32 :=
  extractStridedSlice S4112x128 ![0, 128] (extractStridedSlice S4112x512 ![0, 3072] a0 slices_S4112x4608_S4112x512_0_3072) slices_S4112x512_S4112x128_0_128

theorem pu_ug1 (a0 : FVec Ideal S4112x4608 .f32) (d : Fin 128) (p : ℕ) : pu (ug1 a0) d p = pv a0 ⟨128 + d.val, by omega⟩ p := by
  unfold pu pv ug1
  by_cases h : p < 112
  · rw [if_pos h, if_pos h]
  · rw [if_neg h, if_neg h]
    by_cases h2 : p - 112 < 4112
    · rw [dif_pos h2, dif_pos h2]
      pointwise

    · rw [dif_neg h2, dif_neg h2]

/-- Group 1's pooled rows. -/
def pool1 (u : FVec Ideal S4112x128 .f32) : FVec Ideal S4112x128 .f32 := subf (Host.divf (ws1 u) cnt1) u

/-- The sums over windows of 8 rows. -/
def ws2 (u : FVec Ideal S4112x128 .f32) : FVec Ideal S4112x128 .f32 := addf (addf (addf (addf (addf (addf (addf u (lag1 u)) (lag2 u)) (lag3 u)) (lag4 u)) (lag5 u)) (lag6 u)) (lag7 u)

theorem ws2_at (u : FVec Ideal S4112x128 .f32) (p : Fin 4112) (d : Fin 128) : ws2 u (ix2 p d) = ∑ k ∈ Finset.range 8, pu u d (p.val + 112 - k) := by
  show (((((((u (ix2 p d) + lag1 u (ix2 p d)) + lag2 u (ix2 p d)) + lag3 u (ix2 p d)) + lag4 u (ix2 p d)) + lag5 u (ix2 p d)) + lag6 u (ix2 p d)) + lag7 u (ix2 p d)) = _
  rw [lag1_at, lag2_at, lag3_at, lag4_at, lag5_at, lag6_at, lag7_at, pu_0 u p d]
  simp only [Finset.sum_range_succ, Finset.sum_range_zero, zero_add]

/-- The counts of the rows in a window of 8. -/
def cnt2 : FVec Ideal S4112x128 .f32 :=
  broadcastInDim S4112x128 ![0, 1] bcast_S4112x1_S4112x128_0_1 (broadcastInDim S4112x1 ![0] bcast_S4112_S4112x1_0 (sitofp .f32 (minsi (addi (iotaInDim S4112 32 0) (broadcastInDim S4112 ![] bcast_S_S4112 (constantI S_ 32 1#32))) (broadcastInDim S4112 ![] bcast_S_S4112 (constantI S_ 32 8#32)))))

theorem cntw2 : ∀ p : Fin 4112, IntOp.minsi (IntOp.addi (BitVec.ofNat 32 p.val) 1#32) 8#32 = BitVec.ofNat 32 (min (p.val + 112 - 111) 8) := by decide +kernel

theorem cnt2_at (p : Fin 4112) (d : Fin 128) : cnt2 (ix2 p d) = (FloatOps.sitofp (F := Ideal) .f32 (BitVec.ofNat 32 (min (p.val + 112 - 111) 8)) : EReal) := by
  rw [← cntw2 p]
  unfold cnt2
  pointwise

/-- Group 2's inputs. -/
def ug2 (a0 : FVec Ideal S4112x4608 .f32) : FVec Ideal S4112x128 .f32 :=
  extractStridedSlice S4112x128 ![0, 256] (extractStridedSlice S4112x512 ![0, 3072] a0 slices_S4112x4608_S4112x512_0_3072) slices_S4112x512_S4112x128_0_256

theorem pu_ug2 (a0 : FVec Ideal S4112x4608 .f32) (d : Fin 128) (p : ℕ) : pu (ug2 a0) d p = pv a0 ⟨256 + d.val, by omega⟩ p := by
  unfold pu pv ug2
  by_cases h : p < 112
  · rw [if_pos h, if_pos h]
  · rw [if_neg h, if_neg h]
    by_cases h2 : p - 112 < 4112
    · rw [dif_pos h2, dif_pos h2]
      pointwise

    · rw [dif_neg h2, dif_neg h2]

/-- Group 2's pooled rows. -/
def pool2 (u : FVec Ideal S4112x128 .f32) : FVec Ideal S4112x128 .f32 := subf (Host.divf (ws2 u) cnt2) u

/-- The sums over windows of 16 rows. -/
def ws3 (u : FVec Ideal S4112x128 .f32) : FVec Ideal S4112x128 .f32 := addf (addf (addf (addf (addf (addf (addf (addf (addf (addf (addf (addf (addf (addf (addf u (lag1 u)) (lag2 u)) (lag3 u)) (lag4 u)) (lag5 u)) (lag6 u)) (lag7 u)) (lag8 u)) (lag9 u)) (lag10 u)) (lag11 u)) (lag12 u)) (lag13 u)) (lag14 u)) (lag15 u)

theorem ws3_at (u : FVec Ideal S4112x128 .f32) (p : Fin 4112) (d : Fin 128) : ws3 u (ix2 p d) = ∑ k ∈ Finset.range 16, pu u d (p.val + 112 - k) := by
  show (((((((((((((((u (ix2 p d) + lag1 u (ix2 p d)) + lag2 u (ix2 p d)) + lag3 u (ix2 p d)) + lag4 u (ix2 p d)) + lag5 u (ix2 p d)) + lag6 u (ix2 p d)) + lag7 u (ix2 p d)) + lag8 u (ix2 p d)) + lag9 u (ix2 p d)) + lag10 u (ix2 p d)) + lag11 u (ix2 p d)) + lag12 u (ix2 p d)) + lag13 u (ix2 p d)) + lag14 u (ix2 p d)) + lag15 u (ix2 p d)) = _
  rw [lag1_at, lag2_at, lag3_at, lag4_at, lag5_at, lag6_at, lag7_at, lag8_at, lag9_at, lag10_at, lag11_at, lag12_at, lag13_at, lag14_at, lag15_at, pu_0 u p d]
  simp only [Finset.sum_range_succ, Finset.sum_range_zero, zero_add]

/-- The counts of the rows in a window of 16. -/
def cnt3 : FVec Ideal S4112x128 .f32 :=
  broadcastInDim S4112x128 ![0, 1] bcast_S4112x1_S4112x128_0_1 (broadcastInDim S4112x1 ![0] bcast_S4112_S4112x1_0 (sitofp .f32 (minsi (addi (iotaInDim S4112 32 0) (broadcastInDim S4112 ![] bcast_S_S4112 (constantI S_ 32 1#32))) (broadcastInDim S4112 ![] bcast_S_S4112 (constantI S_ 32 16#32)))))

theorem cntw3 : ∀ p : Fin 4112, IntOp.minsi (IntOp.addi (BitVec.ofNat 32 p.val) 1#32) 16#32 = BitVec.ofNat 32 (min (p.val + 112 - 111) 16) := by decide +kernel

theorem cnt3_at (p : Fin 4112) (d : Fin 128) : cnt3 (ix2 p d) = (FloatOps.sitofp (F := Ideal) .f32 (BitVec.ofNat 32 (min (p.val + 112 - 111) 16)) : EReal) := by
  rw [← cntw3 p]
  unfold cnt3
  pointwise

/-- Group 3's inputs. -/
def ug3 (a0 : FVec Ideal S4112x4608 .f32) : FVec Ideal S4112x128 .f32 :=
  extractStridedSlice S4112x128 ![0, 384] (extractStridedSlice S4112x512 ![0, 3072] a0 slices_S4112x4608_S4112x512_0_3072) slices_S4112x512_S4112x128_0_384

theorem pu_ug3 (a0 : FVec Ideal S4112x4608 .f32) (d : Fin 128) (p : ℕ) : pu (ug3 a0) d p = pv a0 ⟨384 + d.val, by omega⟩ p := by
  unfold pu pv ug3
  by_cases h : p < 112
  · rw [if_pos h, if_pos h]
  · rw [if_neg h, if_neg h]
    by_cases h2 : p - 112 < 4112
    · rw [dif_pos h2, dif_pos h2]
      pointwise

    · rw [dif_neg h2, dif_neg h2]

/-- Group 3's pooled rows. -/
def pool3 (u : FVec Ideal S4112x128 .f32) : FVec Ideal S4112x128 .f32 := subf (Host.divf (ws3 u) cnt3) u

/-- A pooled entry: the mean of the rows in the window less the row, zero in the pad. -/
def pooledV (a0 : FVec Ideal S4112x4608 .f32) (w : ℕ) (q : Fin 512) (p : ℕ) : EReal :=
  if p < 112 then 0 else Ideal.div (∑ k ∈ Finset.range w, pv a0 q (p - k)) (FloatOps.sitofp (F := Ideal) .f32 (BitVec.ofNat 32 (min (p - 111) w))) - pv a0 q p

theorem pool0_at (a0 : FVec Ideal S4112x4608 .f32) (p : Fin 4112) (d : Fin 128) :
    pool0 (ug0 a0) (ix2 p d) = pooledV a0 2 ⟨d.val, by omega⟩ (p.val + 112) := by
  unfold pooledV
  rw [if_neg (by omega)]
  show Ideal.div (ws0 (ug0 a0) (ix2 p d)) (cnt0 (ix2 p d)) - ug0 a0 (ix2 p d) = _
  rw [ws0_at, cnt0_at, pu_0 (ug0 a0) p d]
  simp only [pu_ug0, Nat.sub_zero]

/-- Group 0's rows after its weight and its scale. -/
def head0 (a0 : FVec Ideal S4112x4608 .f32) (a1 : FVec Ideal S4x128x128 .f32) (a2 : FVec Ideal S1x512 .f32) : FVec Ideal S4112x128 .f32 :=
  mulf (Host.dotGeneral dot_S4112x128_S128x128_S4112x128_1_0_0_1_n_n none (pool0 (ug0 a0)) (shapeCast _ (extractStridedSlice S1x128x128 ![0, 0, 0] a1 slices_S4x128x128_S1x128x128_0_0_0) shapeCasts_S1x128x128_S128x128)) (broadcastInDim S4112x128 ![0, 1] bcast_S1x128_S4112x128_0_1 (extractStridedSlice S1x128 ![0, 0] a2 slices_S1x512_S1x128_0_0))

theorem head0_at (a0 : FVec Ideal S4112x4608 .f32) (a1 : FVec Ideal S4x128x128 .f32) (a2 : FVec Ideal S1x512 .f32) (p : Fin 4112) (d : Fin 128) :
    head0 a0 a1 a2 (ix2 p d) = (∑ k : Fin 128, pooledV a0 2 ⟨k.val, by omega⟩ (p.val + 112) * a1 (ix3 ⟨0, by decide⟩ k d)) * a2 (ix2 0 ⟨d.val, by omega⟩) := by
  simp only [← pool0_at]
  unfold head0
  generalize pool0 (ug0 a0) = u
  pointwise

theorem pool1_at (a0 : FVec Ideal S4112x4608 .f32) (p : Fin 4112) (d : Fin 128) :
    pool1 (ug1 a0) (ix2 p d) = pooledV a0 4 ⟨128 + d.val, by omega⟩ (p.val + 112) := by
  unfold pooledV
  rw [if_neg (by omega)]
  show Ideal.div (ws1 (ug1 a0) (ix2 p d)) (cnt1 (ix2 p d)) - ug1 a0 (ix2 p d) = _
  rw [ws1_at, cnt1_at, pu_0 (ug1 a0) p d]
  simp only [pu_ug1, Nat.sub_zero]

/-- Group 1's rows after its weight and its scale. -/
def head1 (a0 : FVec Ideal S4112x4608 .f32) (a1 : FVec Ideal S4x128x128 .f32) (a2 : FVec Ideal S1x512 .f32) : FVec Ideal S4112x128 .f32 :=
  mulf (Host.dotGeneral dot_S4112x128_S128x128_S4112x128_1_0_0_1_n_n none (pool1 (ug1 a0)) (shapeCast _ (extractStridedSlice S1x128x128 ![1, 0, 0] a1 slices_S4x128x128_S1x128x128_1_0_0) shapeCasts_S1x128x128_S128x128)) (broadcastInDim S4112x128 ![0, 1] bcast_S1x128_S4112x128_0_1 (extractStridedSlice S1x128 ![0, 128] a2 slices_S1x512_S1x128_0_128))

theorem head1_at (a0 : FVec Ideal S4112x4608 .f32) (a1 : FVec Ideal S4x128x128 .f32) (a2 : FVec Ideal S1x512 .f32) (p : Fin 4112) (d : Fin 128) :
    head1 a0 a1 a2 (ix2 p d) = (∑ k : Fin 128, pooledV a0 4 ⟨128 + k.val, by omega⟩ (p.val + 112) * a1 (ix3 ⟨1, by decide⟩ k d)) * a2 (ix2 0 ⟨128 + d.val, by omega⟩) := by
  simp only [← pool1_at]
  unfold head1
  generalize pool1 (ug1 a0) = u
  pointwise

theorem pool2_at (a0 : FVec Ideal S4112x4608 .f32) (p : Fin 4112) (d : Fin 128) :
    pool2 (ug2 a0) (ix2 p d) = pooledV a0 8 ⟨256 + d.val, by omega⟩ (p.val + 112) := by
  unfold pooledV
  rw [if_neg (by omega)]
  show Ideal.div (ws2 (ug2 a0) (ix2 p d)) (cnt2 (ix2 p d)) - ug2 a0 (ix2 p d) = _
  rw [ws2_at, cnt2_at, pu_0 (ug2 a0) p d]
  simp only [pu_ug2, Nat.sub_zero]

/-- Group 2's rows after its weight and its scale. -/
def head2 (a0 : FVec Ideal S4112x4608 .f32) (a1 : FVec Ideal S4x128x128 .f32) (a2 : FVec Ideal S1x512 .f32) : FVec Ideal S4112x128 .f32 :=
  mulf (Host.dotGeneral dot_S4112x128_S128x128_S4112x128_1_0_0_1_n_n none (pool2 (ug2 a0)) (shapeCast _ (extractStridedSlice S1x128x128 ![2, 0, 0] a1 slices_S4x128x128_S1x128x128_2_0_0) shapeCasts_S1x128x128_S128x128)) (broadcastInDim S4112x128 ![0, 1] bcast_S1x128_S4112x128_0_1 (extractStridedSlice S1x128 ![0, 256] a2 slices_S1x512_S1x128_0_256))

theorem head2_at (a0 : FVec Ideal S4112x4608 .f32) (a1 : FVec Ideal S4x128x128 .f32) (a2 : FVec Ideal S1x512 .f32) (p : Fin 4112) (d : Fin 128) :
    head2 a0 a1 a2 (ix2 p d) = (∑ k : Fin 128, pooledV a0 8 ⟨256 + k.val, by omega⟩ (p.val + 112) * a1 (ix3 ⟨2, by decide⟩ k d)) * a2 (ix2 0 ⟨256 + d.val, by omega⟩) := by
  simp only [← pool2_at]
  unfold head2
  generalize pool2 (ug2 a0) = u
  pointwise

theorem pool3_at (a0 : FVec Ideal S4112x4608 .f32) (p : Fin 4112) (d : Fin 128) :
    pool3 (ug3 a0) (ix2 p d) = pooledV a0 16 ⟨384 + d.val, by omega⟩ (p.val + 112) := by
  unfold pooledV
  rw [if_neg (by omega)]
  show Ideal.div (ws3 (ug3 a0) (ix2 p d)) (cnt3 (ix2 p d)) - ug3 a0 (ix2 p d) = _
  rw [ws3_at, cnt3_at, pu_0 (ug3 a0) p d]
  simp only [pu_ug3, Nat.sub_zero]

/-- Group 3's rows after its weight and its scale. -/
def head3 (a0 : FVec Ideal S4112x4608 .f32) (a1 : FVec Ideal S4x128x128 .f32) (a2 : FVec Ideal S1x512 .f32) : FVec Ideal S4112x128 .f32 :=
  mulf (Host.dotGeneral dot_S4112x128_S128x128_S4112x128_1_0_0_1_n_n none (pool3 (ug3 a0)) (shapeCast _ (extractStridedSlice S1x128x128 ![3, 0, 0] a1 slices_S4x128x128_S1x128x128_3_0_0) shapeCasts_S1x128x128_S128x128)) (broadcastInDim S4112x128 ![0, 1] bcast_S1x128_S4112x128_0_1 (extractStridedSlice S1x128 ![0, 384] a2 slices_S1x512_S1x128_0_384))

theorem head3_at (a0 : FVec Ideal S4112x4608 .f32) (a1 : FVec Ideal S4x128x128 .f32) (a2 : FVec Ideal S1x512 .f32) (p : Fin 4112) (d : Fin 128) :
    head3 a0 a1 a2 (ix2 p d) = (∑ k : Fin 128, pooledV a0 16 ⟨384 + k.val, by omega⟩ (p.val + 112) * a1 (ix3 ⟨3, by decide⟩ k d)) * a2 (ix2 0 ⟨384 + d.val, by omega⟩) := by
  simp only [← pool3_at]
  unfold head3
  generalize pool3 (ug3 a0) = u
  pointwise

/-- The pooling heads, as the reference computes them. -/
def refPool (a0 : FVec Ideal S4112x4608 .f32) (a1 : FVec Ideal S4x128x128 .f32) (a2 : FVec Ideal S1x512 .f32) : FVec Ideal S4224x512 .f32 :=
  concatenate S4224x512 0 [⟨S112x512, (broadcastInDim S112x512 ![] bcast_S_S112x512 (constant S_ .f32 0x00000000#32))⟩, ⟨S4112x512, concatenate S4112x512 1 [⟨S4112x128, head0 a0 a1 a2⟩, ⟨S4112x128, head1 a0 a1 a2⟩, ⟨S4112x128, head2 a0 a1 a2⟩, ⟨S4112x128, head3 a0 a1 a2⟩] concatenates_S4112x128_S4112x128_S4112x128_S4112x128_S4112x512_d1⟩] concatenates_S112x512_S4112x512_S4224x512_d0

theorem refPool_0 (a0 : FVec Ideal S4112x4608 .f32) (a1 : FVec Ideal S4x128x128 .f32) (a2 : FVec Ideal S1x512 .f32) (p : Fin 4224) (d : Fin 128) :
    refPool a0 a1 a2 (ix2 p ⟨d.val, by omega⟩) = (∑ k : Fin 128, pooledV a0 2 ⟨k.val, by omega⟩ p.val * a1 (ix3 ⟨0, by decide⟩ k d)) * a2 (ix2 0 ⟨d.val, by omega⟩) := by
  have hp := p.isLt
  by_cases h : p.val < 112
  · have e : ∀ k : Fin 128, pooledV a0 2 ⟨k.val, by omega⟩ p.val = 0 := fun k => by unfold pooledV; rw [if_pos h]
    simp only [e, zero_mul, Finset.sum_const_zero]
    unfold refPool
    pointwise
    rw [dif_pos h]
  · have e := head0_at a0 a1 a2 ⟨p.val - 112, by omega⟩ d
    have e2 : p.val - 112 + 112 = p.val := by omega
    simp only [e2] at e
    rw [← e]
    unfold refPool
    generalize head0 a0 a1 a2 = h0
    generalize head1 a0 a1 a2 = h1
    generalize head2 a0 a1 a2 = h2
    generalize head3 a0 a1 a2 = h3
    pointwise
    rw [dif_neg h]

theorem refPool_1 (a0 : FVec Ideal S4112x4608 .f32) (a1 : FVec Ideal S4x128x128 .f32) (a2 : FVec Ideal S1x512 .f32) (p : Fin 4224) (d : Fin 128) :
    refPool a0 a1 a2 (ix2 p ⟨128 + d.val, by omega⟩) = (∑ k : Fin 128, pooledV a0 4 ⟨128 + k.val, by omega⟩ p.val * a1 (ix3 ⟨1, by decide⟩ k d)) * a2 (ix2 0 ⟨128 + d.val, by omega⟩) := by
  have hp := p.isLt
  by_cases h : p.val < 112
  · have e : ∀ k : Fin 128, pooledV a0 4 ⟨128 + k.val, by omega⟩ p.val = 0 := fun k => by unfold pooledV; rw [if_pos h]
    simp only [e, zero_mul, Finset.sum_const_zero]
    unfold refPool
    pointwise
    rw [dif_pos h]
  · have e := head1_at a0 a1 a2 ⟨p.val - 112, by omega⟩ d
    have e2 : p.val - 112 + 112 = p.val := by omega
    simp only [e2] at e
    rw [← e]
    unfold refPool
    generalize head0 a0 a1 a2 = h0
    generalize head1 a0 a1 a2 = h1
    generalize head2 a0 a1 a2 = h2
    generalize head3 a0 a1 a2 = h3
    pointwise
    rw [dif_neg h]

theorem refPool_2 (a0 : FVec Ideal S4112x4608 .f32) (a1 : FVec Ideal S4x128x128 .f32) (a2 : FVec Ideal S1x512 .f32) (p : Fin 4224) (d : Fin 128) :
    refPool a0 a1 a2 (ix2 p ⟨256 + d.val, by omega⟩) = (∑ k : Fin 128, pooledV a0 8 ⟨256 + k.val, by omega⟩ p.val * a1 (ix3 ⟨2, by decide⟩ k d)) * a2 (ix2 0 ⟨256 + d.val, by omega⟩) := by
  have hp := p.isLt
  by_cases h : p.val < 112
  · have e : ∀ k : Fin 128, pooledV a0 8 ⟨256 + k.val, by omega⟩ p.val = 0 := fun k => by unfold pooledV; rw [if_pos h]
    simp only [e, zero_mul, Finset.sum_const_zero]
    unfold refPool
    pointwise
    rw [dif_pos h]
  · have e := head2_at a0 a1 a2 ⟨p.val - 112, by omega⟩ d
    have e2 : p.val - 112 + 112 = p.val := by omega
    simp only [e2] at e
    rw [← e]
    unfold refPool
    generalize head0 a0 a1 a2 = h0
    generalize head1 a0 a1 a2 = h1
    generalize head2 a0 a1 a2 = h2
    generalize head3 a0 a1 a2 = h3
    pointwise
    rw [dif_neg h, dif_neg (by omega), dif_neg (by omega), dif_pos (by omega)]
    exact congrArg h2 (congrArg (ix2 _) (Fin.ext (by show 256 + d.val - 128 - 128 = d.val; omega)))

theorem refPool_3 (a0 : FVec Ideal S4112x4608 .f32) (a1 : FVec Ideal S4x128x128 .f32) (a2 : FVec Ideal S1x512 .f32) (p : Fin 4224) (d : Fin 128) :
    refPool a0 a1 a2 (ix2 p ⟨384 + d.val, by omega⟩) = (∑ k : Fin 128, pooledV a0 16 ⟨384 + k.val, by omega⟩ p.val * a1 (ix3 ⟨3, by decide⟩ k d)) * a2 (ix2 0 ⟨384 + d.val, by omega⟩) := by
  have hp := p.isLt
  by_cases h : p.val < 112
  · have e : ∀ k : Fin 128, pooledV a0 16 ⟨384 + k.val, by omega⟩ p.val = 0 := fun k => by unfold pooledV; rw [if_pos h]
    simp only [e, zero_mul, Finset.sum_const_zero]
    unfold refPool
    pointwise
    rw [dif_pos h]
  · have e := head3_at a0 a1 a2 ⟨p.val - 112, by omega⟩ d
    have e2 : p.val - 112 + 112 = p.val := by omega
    simp only [e2] at e
    rw [← e]
    unfold refPool
    generalize head0 a0 a1 a2 = h0
    generalize head1 a0 a1 a2 = h1
    generalize head2 a0 a1 a2 = h2
    generalize head3 a0 a1 a2 = h3
    pointwise
    rw [dif_neg h, dif_neg (by omega), dif_neg (by omega), dif_neg (by omega)]
    exact congrArg h3 (congrArg (ix2 _) (Fin.ext (by show 384 + d.val - 128 - 128 - 128 = d.val; omega)))

end Cert.Reference15Ideal.Value

end
-- ==== Proof.ValuePoolFwd.lean ====
/- The values of the multi-scale pooling heads (the kernel `pool_fwd`). -/
module

public import proofs.«01_k».proof.Proof.PoolSums
public import proofs.«01_k».proof.Proof.PoolRef
public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel15Ideal.Value
public import proofs.«01_k».proof.Proof.Gen.Reference15Ideal.Run

@[expose] public section

set_option maxRecDepth 16384

noncomputable section

open Idealize.ShloMosaic Idealize.ShloMosaic.TcCoe Idealize.SL.Sem
open Idealize.ShloMosaic.Pipeline (Dat)
open scoped BigOperators

namespace Cert.Kernel15Ideal.Value

open Cert.Kernel15Ideal Cert.Kernel15Ideal.Gen Cert.Reference15Ideal.Value

/-- The rows before and in the block, one lane: the last 32 rows of the one before it, then its own. -/
def extv (v0 v2 : FVec Ideal S128x512 .f32) (q : Fin 512) (e : ℕ) : EReal :=
  if h : e < 32 then v0 (ix2 ⟨96 + e, by omega⟩ q) else if h2 : e < 160 then v2 (ix2 ⟨e - 32, by omega⟩ q) else 0

/-- The same as rows. -/
def ext (v0 v2 : FVec Ideal S128x512 .f32) : FVec Ideal S160x512 .f32 :=
  concatenate S160x512 0 [⟨S32x512, extractStridedSlice S32x512 ![96, 0] (shapeCast S128x512 v0 shapeCasts_S128x512_S128x512) slices_S128x512_o96_0_S32x512⟩, ⟨S128x512, k0_pay2 v2⟩] concatenates_S32x512_S128x512_S160x512_d0

theorem ext_at (v0 v2 : FVec Ideal S128x512 .f32) (e : Fin 160) (q : Fin 512) : ext v0 v2 (ix2 e q) = extv v0 v2 q e.val := by
  have he := e.isLt
  unfold ext extv
  pointwise [k0_pay2]

/-- Group 0's lanes. -/
def lanes0 (v0 v2 : FVec Ideal S128x512 .f32) : FVec Ideal S160x128 .f32 := extractStridedSlice S160x128 ![0, 0] (ext v0 v2) slices_S160x512_o0_0_S160x128

theorem lanes0_at (v0 v2 : FVec Ideal S128x512 .f32) (e : Fin 160) (d : Fin 128) :
    lanes0 v0 v2 (ix2 e d) = extv v0 v2 ⟨d.val, by omega⟩ e.val := by
  rw [← ext_at]
  unfold lanes0
  refine extractStridedSlice_apply _ _ _ _ _ ?_
  intro b; fin_cases b <;> simp [ix2]

def w0_1 (v0 v2 : FVec Ideal S128x512 .f32) : FVec Ideal S160x128 .f32 := addf (lanes0 v0 v2) (dynamicRotate 0 1#32 none (lanes0 v0 v2) rotates_S160x128_d0)

theorem w0_1_at (v0 v2 : FVec Ideal S128x512 .f32) (d : Fin 128) : ∀ e : Fin 160, 0 + 1 ≤ e.val →
    w0_1 v0 v2 (ix2 e d) = ∑ k ∈ Finset.range (1 + 1), extv v0 v2 ⟨d.val, by omega⟩ (e.val - k) :=
  Cert.Pool.dbl_down 1#32 1 (0) rfl (by decide) (by decide) _ _ d _ (fun e _ => by rw [lanes0_at]; simp)

/-- Group 1's lanes. -/
def lanes1 (v0 v2 : FVec Ideal S128x512 .f32) : FVec Ideal S160x128 .f32 := extractStridedSlice S160x128 ![0, 128] (ext v0 v2) slices_S160x512_o0_128_S160x128

theorem lanes1_at (v0 v2 : FVec Ideal S128x512 .f32) (e : Fin 160) (d : Fin 128) :
    lanes1 v0 v2 (ix2 e d) = extv v0 v2 ⟨128 + d.val, by omega⟩ e.val := by
  rw [← ext_at]
  unfold lanes1
  refine extractStridedSlice_apply _ _ _ _ _ ?_
  intro b; fin_cases b <;> simp [ix2]

def w1_1 (v0 v2 : FVec Ideal S128x512 .f32) : FVec Ideal S160x128 .f32 := addf (lanes1 v0 v2) (dynamicRotate 0 1#32 none (lanes1 v0 v2) rotates_S160x128_d0)

theorem w1_1_at (v0 v2 : FVec Ideal S128x512 .f32) (d : Fin 128) : ∀ e : Fin 160, 0 + 1 ≤ e.val →
    w1_1 v0 v2 (ix2 e d) = ∑ k ∈ Finset.range (1 + 1), extv v0 v2 ⟨128 + d.val, by omega⟩ (e.val - k) :=
  Cert.Pool.dbl_down 1#32 1 (0) rfl (by decide) (by decide) _ _ d _ (fun e _ => by rw [lanes1_at]; simp)

def w1_2 (v0 v2 : FVec Ideal S128x512 .f32) : FVec Ideal S160x128 .f32 := addf (w1_1 v0 v2) (dynamicRotate 0 2#32 none (w1_1 v0 v2) rotates_S160x128_d0)

theorem w1_2_at (v0 v2 : FVec Ideal S128x512 .f32) (d : Fin 128) : ∀ e : Fin 160, 0 + 1 + 2 ≤ e.val →
    w1_2 v0 v2 (ix2 e d) = ∑ k ∈ Finset.range (2 + 2), extv v0 v2 ⟨128 + d.val, by omega⟩ (e.val - k) :=
  Cert.Pool.dbl_down 2#32 2 (0 + 1) rfl (by decide) (by decide) _ _ d _ (w1_1_at v0 v2 d)

/-- Group 2's lanes. -/
def lanes2 (v0 v2 : FVec Ideal S128x512 .f32) : FVec Ideal S160x128 .f32 := extractStridedSlice S160x128 ![0, 256] (ext v0 v2) slices_S160x512_o0_256_S160x128

theorem lanes2_at (v0 v2 : FVec Ideal S128x512 .f32) (e : Fin 160) (d : Fin 128) :
    lanes2 v0 v2 (ix2 e d) = extv v0 v2 ⟨256 + d.val, by omega⟩ e.val := by
  rw [← ext_at]
  unfold lanes2
  refine extractStridedSlice_apply _ _ _ _ _ ?_
  intro b; fin_cases b <;> simp [ix2]

def w2_1 (v0 v2 : FVec Ideal S128x512 .f32) : FVec Ideal S160x128 .f32 := addf (lanes2 v0 v2) (dynamicRotate 0 1#32 none (lanes2 v0 v2) rotates_S160x128_d0)

theorem w2_1_at (v0 v2 : FVec Ideal S128x512 .f32) (d : Fin 128) : ∀ e : Fin 160, 0 + 1 ≤ e.val →
    w2_1 v0 v2 (ix2 e d) = ∑ k ∈ Finset.range (1 + 1), extv v0 v2 ⟨256 + d.val, by omega⟩ (e.val - k) :=
  Cert.Pool.dbl_down 1#32 1 (0) rfl (by decide) (by decide) _ _ d _ (fun e _ => by rw [lanes2_at]; simp)

def w2_2 (v0 v2 : FVec Ideal S128x512 .f32) : FVec Ideal S160x128 .f32 := addf (w2_1 v0 v2) (dynamicRotate 0 2#32 none (w2_1 v0 v2) rotates_S160x128_d0)

theorem w2_2_at (v0 v2 : FVec Ideal S128x512 .f32) (d : Fin 128) : ∀ e : Fin 160, 0 + 1 + 2 ≤ e.val →
    w2_2 v0 v2 (ix2 e d) = ∑ k ∈ Finset.range (2 + 2), extv v0 v2 ⟨256 + d.val, by omega⟩ (e.val - k) :=
  Cert.Pool.dbl_down 2#32 2 (0 + 1) rfl (by decide) (by decide) _ _ d _ (w2_1_at v0 v2 d)

def w2_4 (v0 v2 : FVec Ideal S128x512 .f32) : FVec Ideal S160x128 .f32 := addf (w2_2 v0 v2) (dynamicRotate 0 4#32 none (w2_2 v0 v2) rotates_S160x128_d0)

theorem w2_4_at (v0 v2 : FVec Ideal S128x512 .f32) (d : Fin 128) : ∀ e : Fin 160, 0 + 1 + 2 + 4 ≤ e.val →
    w2_4 v0 v2 (ix2 e d) = ∑ k ∈ Finset.range (4 + 4), extv v0 v2 ⟨256 + d.val, by omega⟩ (e.val - k) :=
  Cert.Pool.dbl_down 4#32 4 (0 + 1 + 2) rfl (by decide) (by decide) _ _ d _ (w2_2_at v0 v2 d)

/-- Group 3's lanes. -/
def lanes3 (v0 v2 : FVec Ideal S128x512 .f32) : FVec Ideal S160x128 .f32 := extractStridedSlice S160x128 ![0, 384] (ext v0 v2) slices_S160x512_o0_384_S160x128

theorem lanes3_at (v0 v2 : FVec Ideal S128x512 .f32) (e : Fin 160) (d : Fin 128) :
    lanes3 v0 v2 (ix2 e d) = extv v0 v2 ⟨384 + d.val, by omega⟩ e.val := by
  rw [← ext_at]
  unfold lanes3
  refine extractStridedSlice_apply _ _ _ _ _ ?_
  intro b; fin_cases b <;> simp [ix2]

def w3_1 (v0 v2 : FVec Ideal S128x512 .f32) : FVec Ideal S160x128 .f32 := addf (lanes3 v0 v2) (dynamicRotate 0 1#32 none (lanes3 v0 v2) rotates_S160x128_d0)

theorem w3_1_at (v0 v2 : FVec Ideal S128x512 .f32) (d : Fin 128) : ∀ e : Fin 160, 0 + 1 ≤ e.val →
    w3_1 v0 v2 (ix2 e d) = ∑ k ∈ Finset.range (1 + 1), extv v0 v2 ⟨384 + d.val, by omega⟩ (e.val - k) :=
  Cert.Pool.dbl_down 1#32 1 (0) rfl (by decide) (by decide) _ _ d _ (fun e _ => by rw [lanes3_at]; simp)

def w3_2 (v0 v2 : FVec Ideal S128x512 .f32) : FVec Ideal S160x128 .f32 := addf (w3_1 v0 v2) (dynamicRotate 0 2#32 none (w3_1 v0 v2) rotates_S160x128_d0)

theorem w3_2_at (v0 v2 : FVec Ideal S128x512 .f32) (d : Fin 128) : ∀ e : Fin 160, 0 + 1 + 2 ≤ e.val →
    w3_2 v0 v2 (ix2 e d) = ∑ k ∈ Finset.range (2 + 2), extv v0 v2 ⟨384 + d.val, by omega⟩ (e.val - k) :=
  Cert.Pool.dbl_down 2#32 2 (0 + 1) rfl (by decide) (by decide) _ _ d _ (w3_1_at v0 v2 d)

def w3_4 (v0 v2 : FVec Ideal S128x512 .f32) : FVec Ideal S160x128 .f32 := addf (w3_2 v0 v2) (dynamicRotate 0 4#32 none (w3_2 v0 v2) rotates_S160x128_d0)

theorem w3_4_at (v0 v2 : FVec Ideal S128x512 .f32) (d : Fin 128) : ∀ e : Fin 160, 0 + 1 + 2 + 4 ≤ e.val →
    w3_4 v0 v2 (ix2 e d) = ∑ k ∈ Finset.range (4 + 4), extv v0 v2 ⟨384 + d.val, by omega⟩ (e.val - k) :=
  Cert.Pool.dbl_down 4#32 4 (0 + 1 + 2) rfl (by decide) (by decide) _ _ d _ (w3_2_at v0 v2 d)

def w3_8 (v0 v2 : FVec Ideal S128x512 .f32) : FVec Ideal S160x128 .f32 := addf (w3_4 v0 v2) (dynamicRotate 0 8#32 none (w3_4 v0 v2) rotates_S160x128_d0)

theorem w3_8_at (v0 v2 : FVec Ideal S128x512 .f32) (d : Fin 128) : ∀ e : Fin 160, 0 + 1 + 2 + 4 + 8 ≤ e.val →
    w3_8 v0 v2 (ix2 e d) = ∑ k ∈ Finset.range (8 + 8), extv v0 v2 ⟨384 + d.val, by omega⟩ (e.val - k) :=
  Cert.Pool.dbl_down 8#32 8 (0 + 1 + 2 + 4) rfl (by decide) (by decide) _ _ d _ (w3_4_at v0 v2 d)

/-- Group 0's window sums. -/
theorem wsum0 (v0 v2 : FVec Ideal S128x512 .f32) (i d : Fin 128) :
    (k0_pay4 (F := Ideal) v0 v2 : FVec Ideal S128x512 .f32) (ix2 i ⟨d.val, by omega⟩) = ∑ k ∈ Finset.range 2, extv v0 v2 ⟨d.val, by omega⟩ (32 + i.val - k) := by
  show extractStridedSlice (s := S160x512) (α := EReal) S128x512 ![32, 0] (concatenate S160x512 1 [⟨S160x128, w0_1 v0 v2⟩, ⟨S160x128, w1_2 v0 v2⟩, ⟨S160x128, w2_4 v0 v2⟩, ⟨S160x128, w3_8 v0 v2⟩] concatenates_S160x128_S160x128_S160x128_S160x128_S160x512_d1) slices_S160x512_o32_0_S128x512 _ = _
  refine (extractStridedSlice_apply _ _ _ _ (ix2 (⟨32 + i.val, by omega⟩ : Fin 160) ⟨d.val, by omega⟩) ?_).trans ?_
  · intro b; fin_cases b <;> simp [ix2]
  refine (concatenate_apply_piece (t := S160x512) 1 _ _ _ 0 ?_ S160x128 (w0_1 v0 v2) ?_ rfl 0 ?_ (ix2 (⟨32 + i.val, by omega⟩ : Fin 160) d) ?_ ?_).trans ?_
  · simp
  · rfl
  · exact (by decide +kernel : ((([] : List Shape)).map fun s => if h : s.rank = S160x512.rank then s.size ((1 : Fin S160x512.rank).cast h.symm) else 0).sum = 0)
  · intro b hb
    match b with
    | ⟨0, _⟩ => rfl
    | ⟨1, _⟩ => exact absurd rfl hb
  · exact Nat.zero_add _
  · exact w0_1_at v0 v2 d ⟨32 + i.val, by omega⟩ (by show _ ≤ 32 + i.val; omega)

/-- Group 1's window sums. -/
theorem wsum1 (v0 v2 : FVec Ideal S128x512 .f32) (i d : Fin 128) :
    (k0_pay4 (F := Ideal) v0 v2 : FVec Ideal S128x512 .f32) (ix2 i ⟨128 + d.val, by omega⟩) = ∑ k ∈ Finset.range 4, extv v0 v2 ⟨128 + d.val, by omega⟩ (32 + i.val - k) := by
  show extractStridedSlice (s := S160x512) (α := EReal) S128x512 ![32, 0] (concatenate S160x512 1 [⟨S160x128, w0_1 v0 v2⟩, ⟨S160x128, w1_2 v0 v2⟩, ⟨S160x128, w2_4 v0 v2⟩, ⟨S160x128, w3_8 v0 v2⟩] concatenates_S160x128_S160x128_S160x128_S160x128_S160x512_d1) slices_S160x512_o32_0_S128x512 _ = _
  refine (extractStridedSlice_apply _ _ _ _ (ix2 (⟨32 + i.val, by omega⟩ : Fin 160) ⟨128 + d.val, by omega⟩) ?_).trans ?_
  · intro b; fin_cases b <;> simp [ix2]
  refine (concatenate_apply_piece (t := S160x512) 1 _ _ _ 1 ?_ S160x128 (w1_2 v0 v2) ?_ rfl 128 ?_ (ix2 (⟨32 + i.val, by omega⟩ : Fin 160) d) ?_ ?_).trans ?_
  · simp
  · rfl
  · exact (by decide +kernel : ((([S160x128] : List Shape)).map fun s => if h : s.rank = S160x512.rank then s.size ((1 : Fin S160x512.rank).cast h.symm) else 0).sum = 128)
  · intro b hb
    match b with
    | ⟨0, _⟩ => rfl
    | ⟨1, _⟩ => exact absurd rfl hb
  · rfl
  · exact w1_2_at v0 v2 d ⟨32 + i.val, by omega⟩ (by show _ ≤ 32 + i.val; omega)

/-- Group 2's window sums. -/
theorem wsum2 (v0 v2 : FVec Ideal S128x512 .f32) (i d : Fin 128) :
    (k0_pay4 (F := Ideal) v0 v2 : FVec Ideal S128x512 .f32) (ix2 i ⟨256 + d.val, by omega⟩) = ∑ k ∈ Finset.range 8, extv v0 v2 ⟨256 + d.val, by omega⟩ (32 + i.val - k) := by
  show extractStridedSlice (s := S160x512) (α := EReal) S128x512 ![32, 0] (concatenate S160x512 1 [⟨S160x128, w0_1 v0 v2⟩, ⟨S160x128, w1_2 v0 v2⟩, ⟨S160x128, w2_4 v0 v2⟩, ⟨S160x128, w3_8 v0 v2⟩] concatenates_S160x128_S160x128_S160x128_S160x128_S160x512_d1) slices_S160x512_o32_0_S128x512 _ = _
  refine (extractStridedSlice_apply _ _ _ _ (ix2 (⟨32 + i.val, by omega⟩ : Fin 160) ⟨256 + d.val, by omega⟩) ?_).trans ?_
  · intro b; fin_cases b <;> simp [ix2]
  refine (concatenate_apply_piece (t := S160x512) 1 _ _ _ 2 ?_ S160x128 (w2_4 v0 v2) ?_ rfl 256 ?_ (ix2 (⟨32 + i.val, by omega⟩ : Fin 160) d) ?_ ?_).trans ?_
  · simp
  · rfl
  · exact (by decide +kernel : ((([S160x128, S160x128] : List Shape)).map fun s => if h : s.rank = S160x512.rank then s.size ((1 : Fin S160x512.rank).cast h.symm) else 0).sum = 256)
  · intro b hb
    match b with
    | ⟨0, _⟩ => rfl
    | ⟨1, _⟩ => exact absurd rfl hb
  · rfl
  · exact w2_4_at v0 v2 d ⟨32 + i.val, by omega⟩ (by show _ ≤ 32 + i.val; omega)

/-- Group 3's window sums. -/
theorem wsum3 (v0 v2 : FVec Ideal S128x512 .f32) (i d : Fin 128) :
    (k0_pay4 (F := Ideal) v0 v2 : FVec Ideal S128x512 .f32) (ix2 i ⟨384 + d.val, by omega⟩) = ∑ k ∈ Finset.range 16, extv v0 v2 ⟨384 + d.val, by omega⟩ (32 + i.val - k) := by
  show extractStridedSlice (s := S160x512) (α := EReal) S128x512 ![32, 0] (concatenate S160x512 1 [⟨S160x128, w0_1 v0 v2⟩, ⟨S160x128, w1_2 v0 v2⟩, ⟨S160x128, w2_4 v0 v2⟩, ⟨S160x128, w3_8 v0 v2⟩] concatenates_S160x128_S160x128_S160x128_S160x128_S160x512_d1) slices_S160x512_o32_0_S128x512 _ = _
  refine (extractStridedSlice_apply _ _ _ _ (ix2 (⟨32 + i.val, by omega⟩ : Fin 160) ⟨384 + d.val, by omega⟩) ?_).trans ?_
  · intro b; fin_cases b <;> simp [ix2]
  refine (concatenate_apply_piece (t := S160x512) 1 _ _ _ 3 ?_ S160x128 (w3_8 v0 v2) ?_ rfl 384 ?_ (ix2 (⟨32 + i.val, by omega⟩ : Fin 160) d) ?_ ?_).trans ?_
  · simp
  · rfl
  · exact (by decide +kernel : ((([S160x128, S160x128, S160x128] : List Shape)).map fun s => if h : s.rank = S160x512.rank then s.size ((1 : Fin S160x512.rank).cast h.symm) else 0).sum = 384)
  · intro b hb
    match b with
    | ⟨0, _⟩ => rfl
    | ⟨1, _⟩ => exact absurd rfl hb
  · rfl
  · exact w3_8_at v0 v2 d ⟨32 + i.val, by omega⟩ (by show _ ≤ 32 + i.val; omega)

variable (m : (ℓ : Loc nD τ sig) → Buf (Elt Ideal) ℓ)

/-- Every window's block index at every grid point. -/
theorem idx_val : ∀ t : Fin cfg0.N, win0_0.index t = ![t.val - 1, 6] ∧ win0_1.index t = ![t.val, 6] ∧ win0_2.index t = ![0, 0] ∧ win0_3.index t = ![0, 0] ∧ win0_4.index t = ![t.val, 0] :=
  (by decide +kernel : ∀ t : Fin grid0.N, _)

/-- The rows of the pad are masked. -/
theorem mask : ∀ t : Fin grid0.N, ∀ i : Fin 128, IntOp.cmpi CmpIPredicate.sge (IntOp.subi (IntOp.addi (Scalar.muli (BitVec.ofNat 32 (grid0.coords t 0).val) 128#32) (BitVec.ofNat 32 i.val)) 112#32) 0#32 = if 128 * t.val + i.val < 112 then 0#1 else 1#1 := by
  decide +kernel

/-- The count of a row's window. -/
theorem kcnt0 : ∀ t : Fin grid0.N, ∀ i : Fin 128, ¬ 128 * t.val + i.val < 112 → IntOp.minsi (2#32) (IntOp.maxsi (1#32) (IntOp.addi (IntOp.subi (IntOp.addi (Scalar.muli (BitVec.ofNat 32 (grid0.coords t 0).val) 128#32) (BitVec.ofNat 32 i.val)) 112#32) 1#32)) = BitVec.ofNat 32 (min (128 * t.val + i.val - 111) 2) := by
  decide +kernel

/-- The count of a row's window. -/
theorem kcnt1 : ∀ t : Fin grid0.N, ∀ i : Fin 128, ¬ 128 * t.val + i.val < 112 → IntOp.minsi (4#32) (IntOp.maxsi (1#32) (IntOp.addi (IntOp.subi (IntOp.addi (Scalar.muli (BitVec.ofNat 32 (grid0.coords t 0).val) 128#32) (BitVec.ofNat 32 i.val)) 112#32) 1#32)) = BitVec.ofNat 32 (min (128 * t.val + i.val - 111) 4) := by
  decide +kernel

/-- The count of a row's window. -/
theorem kcnt2 : ∀ t : Fin grid0.N, ∀ i : Fin 128, ¬ 128 * t.val + i.val < 112 → IntOp.minsi (8#32) (IntOp.maxsi (1#32) (IntOp.addi (IntOp.subi (IntOp.addi (Scalar.muli (BitVec.ofNat 32 (grid0.coords t 0).val) 128#32) (BitVec.ofNat 32 i.val)) 112#32) 1#32)) = BitVec.ofNat 32 (min (128 * t.val + i.val - 111) 8) := by
  decide +kernel

/-- The count of a row's window. -/
theorem kcnt3 : ∀ t : Fin grid0.N, ∀ i : Fin 128, ¬ 128 * t.val + i.val < 112 → IntOp.minsi (16#32) (IntOp.maxsi (1#32) (IntOp.addi (IntOp.subi (IntOp.addi (Scalar.muli (BitVec.ofNat 32 (grid0.coords t 0).val) 128#32) (BitVec.ofNat 32 i.val)) 112#32) 1#32)) = BitVec.ofNat 32 (min (128 * t.val + i.val - 111) 16) := by
  decide +kernel

/-- An entry of the padded projection's block. -/
theorem cur (c : Dev nD) (t : Fin cfg0.N) (i : Fin 128) (q : Fin 512) :
    iblk m c 1 t (ix2 i q) = pv (m (c.tc.loc main_arg0)) q (128 * t.val + i.val) := by
  have ht : t.val < 33 := t.isLt
  have hi := i.isLt
  have e : ((View.whole main_v1).slice (win0_1.rect t)).emb (ix2 i q) = ix2 ⟨128 * t.val + i.val, by omega⟩ ⟨3072 + q.val, by omega⟩ := by blk_ext [idx_val t]
  blk_simp [iblk]; rw [e]; entry_read; pointwise
  unfold pv
  by_cases h : 128 * t.val + i.val < 112
  · rw [dif_pos h, if_pos h]
  · rw [dif_neg h, if_neg h, dif_pos (by omega)]

/-- An entry of the block before it. -/
theorem prev (c : Dev nD) (t : Fin cfg0.N) (i : Fin 128) (q : Fin 512) :
    iblk m c 0 t (ix2 i q) = pv (m (c.tc.loc main_arg0)) q (128 * (t.val - 1) + i.val) := by
  have ht : t.val < 33 := t.isLt
  have hi := i.isLt
  have e : ((View.whole main_v1).slice (win0_0.rect t)).emb (ix2 i q) = ix2 ⟨128 * (t.val - 1) + i.val, by omega⟩ ⟨3072 + q.val, by omega⟩ := by blk_ext [idx_val t]
  blk_simp [iblk]; rw [e]; entry_read; pointwise
  unfold pv
  by_cases h : 128 * (t.val - 1) + i.val < 112
  · rw [dif_pos h, if_pos h]
  · rw [dif_neg h, if_neg h, dif_pos (by omega)]

/-- A row at most 15 before a row of the block. -/
theorem back (c : Dev nD) (t : Fin cfg0.N) (i : Fin 128) (q : Fin 512) (k : ℕ) (hk : k < 16) (h : ¬ 128 * t.val + i.val < 112) :
    extv (iblk m c 0 t) (iblk m c 1 t) q (32 + i.val - k) = pv (m (c.tc.loc main_arg0)) q (128 * t.val + i.val - k) := by
  have hi := i.isLt
  unfold extv
  by_cases h1 : 32 + i.val - k < 32
  · rw [dif_pos h1, prev]; congr 1; show 128 * (t.val - 1) + (96 + (32 + i.val - k)) = _; omega
  · rw [dif_neg h1, dif_pos (by omega), cur]; congr 1; show 128 * t.val + (32 + i.val - k - 32) = _; omega

/-- A pooled entry of group 0. -/
theorem pooled0 (c : Dev nD) (t : Fin cfg0.N) (i d : Fin 128) :
    k0_pay7 (k0_pay2 (iblk m c 1 t)) (k0_pay3 (grid0.coords t)) (k0_pay4 (iblk m c 0 t) (iblk m c 1 t)) (k0_pay5 (grid0.coords t)) k0_pay6 (ix2 i ⟨d.val, by omega⟩) = pooledV (m (c.tc.loc main_arg0)) 2 ⟨d.val, by omega⟩ (128 * t.val + i.val) := by
  have e := wsum0 (iblk m c 0 t) (iblk m c 1 t) i d
  have e1 := cur m c t i ⟨d.val, by omega⟩
  revert e
  generalize k0_pay4 (iblk m c 0 t) (iblk m c 1 t) = v37
  intro e
  unfold pooledV
  pointwise [k0_pay7, k0_pay2, k0_pay3, k0_pay5, k0_pay6]
  rw [mask, e, e1]
  by_cases h : 128 * t.val + i.val < 112
  · simp [h, Scalar.select]
  · have n0 : (d.val < 128) = True := eq_true (by omega)
    have n1 : True := trivial
    have n2 : True := trivial
    skip
    rw [kcnt0 t i h, Finset.sum_congr rfl (fun k hk => back m c t i _ k (by have := Finset.mem_range.mp hk; omega) h)]
    simp [h, Scalar.select]

/-- A pooled entry of group 1. -/
theorem pooled1 (c : Dev nD) (t : Fin cfg0.N) (i d : Fin 128) :
    k0_pay7 (k0_pay2 (iblk m c 1 t)) (k0_pay3 (grid0.coords t)) (k0_pay4 (iblk m c 0 t) (iblk m c 1 t)) (k0_pay5 (grid0.coords t)) k0_pay6 (ix2 i ⟨128 + d.val, by omega⟩) = pooledV (m (c.tc.loc main_arg0)) 4 ⟨128 + d.val, by omega⟩ (128 * t.val + i.val) := by
  have e := wsum1 (iblk m c 0 t) (iblk m c 1 t) i d
  have e1 := cur m c t i ⟨128 + d.val, by omega⟩
  revert e
  generalize k0_pay4 (iblk m c 0 t) (iblk m c 1 t) = v37
  intro e
  unfold pooledV
  pointwise [k0_pay7, k0_pay2, k0_pay3, k0_pay5, k0_pay6]
  rw [mask, e, e1]
  by_cases h : 128 * t.val + i.val < 112
  · simp [h, Scalar.select]
  · have n0 : (128 + d.val < 128) = False := eq_false (by omega)
    have n1 : (128 + d.val - 128 < 128) = True := eq_true (by omega)
    have n2 : True := trivial
    skip
    rw [kcnt1 t i h, Finset.sum_congr rfl (fun k hk => back m c t i _ k (by have := Finset.mem_range.mp hk; omega) h)]
    simp [h, Scalar.select]

/-- A pooled entry of group 2. -/
theorem pooled2 (c : Dev nD) (t : Fin cfg0.N) (i d : Fin 128) :
    k0_pay7 (k0_pay2 (iblk m c 1 t)) (k0_pay3 (grid0.coords t)) (k0_pay4 (iblk m c 0 t) (iblk m c 1 t)) (k0_pay5 (grid0.coords t)) k0_pay6 (ix2 i ⟨256 + d.val, by omega⟩) = pooledV (m (c.tc.loc main_arg0)) 8 ⟨256 + d.val, by omega⟩ (128 * t.val + i.val) := by
  have e := wsum2 (iblk m c 0 t) (iblk m c 1 t) i d
  have e1 := cur m c t i ⟨256 + d.val, by omega⟩
  revert e
  generalize k0_pay4 (iblk m c 0 t) (iblk m c 1 t) = v37
  intro e
  unfold pooledV
  pointwise [k0_pay7, k0_pay2, k0_pay3, k0_pay5, k0_pay6]
  rw [mask, e, e1]
  by_cases h : 128 * t.val + i.val < 112
  · simp [h, Scalar.select]
  · have n0 : (256 + d.val < 128) = False := eq_false (by omega)
    have n1 : (256 + d.val - 128 < 128) = False := eq_false (by omega)
    have n2 : (256 + d.val - 128 - 128 < 128) = True := eq_true (by omega)
    simp only [n0, n1, n2, if_false, if_true]
    rw [kcnt2 t i h, Finset.sum_congr rfl (fun k hk => back m c t i _ k (by have := Finset.mem_range.mp hk; omega) h)]
    simp [h, Scalar.select]

/-- A pooled entry of group 3. -/
theorem pooled3 (c : Dev nD) (t : Fin cfg0.N) (i d : Fin 128) :
    k0_pay7 (k0_pay2 (iblk m c 1 t)) (k0_pay3 (grid0.coords t)) (k0_pay4 (iblk m c 0 t) (iblk m c 1 t)) (k0_pay5 (grid0.coords t)) k0_pay6 (ix2 i ⟨384 + d.val, by omega⟩) = pooledV (m (c.tc.loc main_arg0)) 16 ⟨384 + d.val, by omega⟩ (128 * t.val + i.val) := by
  have e := wsum3 (iblk m c 0 t) (iblk m c 1 t) i d
  have e1 := cur m c t i ⟨384 + d.val, by omega⟩
  revert e
  generalize k0_pay4 (iblk m c 0 t) (iblk m c 1 t) = v37
  intro e
  unfold pooledV
  pointwise [k0_pay7, k0_pay2, k0_pay3, k0_pay5, k0_pay6]
  rw [mask, e, e1]
  by_cases h : 128 * t.val + i.val < 112
  · simp [h, Scalar.select]
  · have n0 : (384 + d.val < 128) = False := eq_false (by omega)
    have n1 : (384 + d.val - 128 < 128) = False := eq_false (by omega)
    have n2 : (384 + d.val - 128 - 128 < 128) = False := eq_false (by omega)
    simp only [n0, n1, n2, if_false, if_true]
    rw [kcnt3 t i h, Finset.sum_congr rfl (fun k hk => back m c t i _ k (by have := Finset.mem_range.mp hk; omega) h)]
    simp [h, Scalar.select]

/-- The scale's block. -/
theorem scale (c : Dev nD) (t : Fin cfg0.N) (q : Fin 512) : iblk m c 3 t (ix2 0 q) = m (c.tc.loc main_arg2) (ix2 0 q) := by
  have e : ((View.whole main_arg2).slice (win0_3.rect t)).emb (ix2 0 q) = ix2 0 q := by blk_ext [idx_val t]
  blk_simp [iblk]; rw [e]; entry_read; rfl

/-- The weights' block. -/
theorem wblk (c : Dev nD) (t : Fin cfg0.N) (r : Fin 512) (d : Fin 128) : iblk m c 2 t (ix2 r d) = m (c.tc.loc main_arg1) (ix3 ⟨r.val / 128, by omega⟩ ⟨r.val % 128, by omega⟩ d) := by
  have e : ((View.whole main_v3).slice (win0_2.rect t)).emb (ix2 r d) = ix2 r d := by blk_ext [idx_val t]
  blk_simp [iblk]; rw [e]; entry_read; pointwise

/-- Group 0's weight. -/
theorem weight0 (c : Dev nD) (t : Fin cfg0.N) (k d : Fin 128) : View.ld (iblk m c 2 t) r0_1 (ix2 k d) = m (c.tc.loc main_arg1) (ix3 ⟨0, by decide⟩ k d) := by
  have hk := k.isLt
  have e : View.ld (iblk m c 2 t) r0_1 (ix2 k d) = iblk m c 2 t (ix2 ⟨k.val, by omega⟩ d) := by
    generalize iblk m c 2 t = B
    refine congrArg B ?_
    funext b
    fin_cases b <;> refine Fin.ext ?_
    · show 0 + 1 * k.val = k.val; omega
    · show 0 + 1 * d.val = d.val; omega
  rw [e, wblk]
  have h1 : (k.val) / 128 = 0 := by omega
  have h2 : (k.val) % 128 = k.val := by omega
  simp only [h1, h2]

/-- Group 1's weight. -/
theorem weight1 (c : Dev nD) (t : Fin cfg0.N) (k d : Fin 128) : View.ld (iblk m c 2 t) r0_2 (ix2 k d) = m (c.tc.loc main_arg1) (ix3 ⟨1, by decide⟩ k d) := by
  have hk := k.isLt
  have e : View.ld (iblk m c 2 t) r0_2 (ix2 k d) = iblk m c 2 t (ix2 ⟨128 + k.val, by omega⟩ d) := by
    generalize iblk m c 2 t = B
    refine congrArg B ?_
    funext b
    fin_cases b <;> refine Fin.ext ?_
    · show 128 + 1 * k.val = 128 + k.val; omega
    · show 0 + 1 * d.val = d.val; omega
  rw [e, wblk]
  have h1 : (128 + k.val) / 128 = 1 := by omega
  have h2 : (128 + k.val) % 128 = k.val := by omega
  simp only [h1, h2]

/-- Group 2's weight. -/
theorem weight2 (c : Dev nD) (t : Fin cfg0.N) (k d : Fin 128) : View.ld (iblk m c 2 t) r0_3 (ix2 k d) = m (c.tc.loc main_arg1) (ix3 ⟨2, by decide⟩ k d) := by
  have hk := k.isLt
  have e : View.ld (iblk m c 2 t) r0_3 (ix2 k d) = iblk m c 2 t (ix2 ⟨256 + k.val, by omega⟩ d) := by
    generalize iblk m c 2 t = B
    refine congrArg B ?_
    funext b
    fin_cases b <;> refine Fin.ext ?_
    · show 256 + 1 * k.val = 256 + k.val; omega
    · show 0 + 1 * d.val = d.val; omega
  rw [e, wblk]
  have h1 : (256 + k.val) / 128 = 2 := by omega
  have h2 : (256 + k.val) % 128 = k.val := by omega
  simp only [h1, h2]

/-- Group 3's weight. -/
theorem weight3 (c : Dev nD) (t : Fin cfg0.N) (k d : Fin 128) : View.ld (iblk m c 2 t) r0_4 (ix2 k d) = m (c.tc.loc main_arg1) (ix3 ⟨3, by decide⟩ k d) := by
  have hk := k.isLt
  have e : View.ld (iblk m c 2 t) r0_4 (ix2 k d) = iblk m c 2 t (ix2 ⟨384 + k.val, by omega⟩ d) := by
    generalize iblk m c 2 t = B
    refine congrArg B ?_
    funext b
    fin_cases b <;> refine Fin.ext ?_
    · show 384 + 1 * k.val = 384 + k.val; omega
    · show 0 + 1 * d.val = d.val; omega
  rw [e, wblk]
  have h1 : (384 + k.val) / 128 = 3 := by omega
  have h2 : (384 + k.val) % 128 = k.val := by omega
  simp only [h1, h2]

/-- An entry of group 0 from the pooled rows. -/
theorem mix0 (P : FVec Ideal S128x512 .f32) (w0 w1 w2 w3 : FVec Ideal S128x128 .bf16) (s : FVec Ideal S1x512 .f32) (i d : Fin 128) :
    (k0_pay1 P (truncf .bf16 (extractStridedSlice S128x128 ![0, 0] P slices_S128x512_o0_0_S128x128) bitsLt_bf16_f32) (k0_pay9 w0) w1 w2 w3 s : FVec Ideal S128x512 .f32) (ix2 i ⟨d.val, by omega⟩) = (∑ k : Fin 128, P (ix2 i ⟨k.val, by omega⟩) * w0 (ix2 k d)) * s (ix2 0 ⟨d.val, by omega⟩) := by
  pointwise [k0_pay1, k0_pay9]

/-- An entry of group 1 from the pooled rows. -/
theorem mix1 (P : FVec Ideal S128x512 .f32) (w0 w1 w2 w3 : FVec Ideal S128x128 .bf16) (s : FVec Ideal S1x512 .f32) (i d : Fin 128) :
    (k0_pay1 P (truncf .bf16 (extractStridedSlice S128x128 ![0, 0] P slices_S128x512_o0_0_S128x128) bitsLt_bf16_f32) (k0_pay9 w0) w1 w2 w3 s : FVec Ideal S128x512 .f32) (ix2 i ⟨128 + d.val, by omega⟩) = (∑ k : Fin 128, P (ix2 i ⟨128 + k.val, by omega⟩) * w1 (ix2 k d)) * s (ix2 0 ⟨128 + d.val, by omega⟩) := by
  pointwise [k0_pay1, k0_pay9]

/-- An entry of group 2 from the pooled rows. -/
theorem mix2 (P : FVec Ideal S128x512 .f32) (w0 w1 w2 w3 : FVec Ideal S128x128 .bf16) (s : FVec Ideal S1x512 .f32) (i d : Fin 128) :
    (k0_pay1 P (truncf .bf16 (extractStridedSlice S128x128 ![0, 0] P slices_S128x512_o0_0_S128x128) bitsLt_bf16_f32) (k0_pay9 w0) w1 w2 w3 s : FVec Ideal S128x512 .f32) (ix2 i ⟨256 + d.val, by omega⟩) = (∑ k : Fin 128, P (ix2 i ⟨256 + k.val, by omega⟩) * w2 (ix2 k d)) * s (ix2 0 ⟨256 + d.val, by omega⟩) := by
  pointwise [k0_pay1, k0_pay9]
  rw [dif_neg (by omega), dif_neg (by omega), dif_pos (by omega)]
  refine congrArg (fun r : EReal => r * s (ix2 0 ⟨256 + d.val, by omega⟩)) (Finset.sum_congr rfl fun k _ => ?_)
  exact congrArg (fun r : Fin 128 => P (ix2 i ⟨256 + k.val, by omega⟩) * w2 (ix2 k r)) (Fin.ext (by show 256 + d.val - 128 - 128 = d.val; omega))

/-- An entry of group 3 from the pooled rows. -/
theorem mix3 (P : FVec Ideal S128x512 .f32) (w0 w1 w2 w3 : FVec Ideal S128x128 .bf16) (s : FVec Ideal S1x512 .f32) (i d : Fin 128) :
    (k0_pay1 P (truncf .bf16 (extractStridedSlice S128x128 ![0, 0] P slices_S128x512_o0_0_S128x128) bitsLt_bf16_f32) (k0_pay9 w0) w1 w2 w3 s : FVec Ideal S128x512 .f32) (ix2 i ⟨384 + d.val, by omega⟩) = (∑ k : Fin 128, P (ix2 i ⟨384 + k.val, by omega⟩) * w3 (ix2 k d)) * s (ix2 0 ⟨384 + d.val, by omega⟩) := by
  pointwise [k0_pay1, k0_pay9]
  rw [dif_neg (by omega), dif_neg (by omega), dif_neg (by omega)]
  refine congrArg (fun r : EReal => r * s (ix2 0 ⟨384 + d.val, by omega⟩)) (Finset.sum_congr rfl fun k _ => ?_)
  exact congrArg (fun r : Fin 128 => P (ix2 i ⟨384 + k.val, by omega⟩) * w3 (ix2 k r)) (Fin.ext (by show 384 + d.val - 128 - 128 - 128 = d.val; omega))

/-- The block's pooled rows. -/
def poolv (c : Dev nD) (t : Fin cfg0.N) : FVec Ideal S128x512 .f32 :=
  k0_pay7 (k0_pay2 (iblk m c 1 t)) (k0_pay3 (grid0.coords t)) (k0_pay4 (iblk m c 0 t) (iblk m c 1 t)) (k0_pay5 (grid0.coords t)) k0_pay6

/-- The block of results. -/
def outv (c : Dev nD) (t : Fin cfg0.N) : FVec Ideal S128x512 .f32 :=
  k0_pay1 (poolv m c t) (truncf .bf16 (extractStridedSlice S128x128 ![0, 0] (poolv m c t) slices_S128x512_o0_0_S128x128) bitsLt_bf16_f32) (k0_pay9 (View.ld (iblk m c 2 t) r0_1)) (View.ld (iblk m c 2 t) r0_2) (View.ld (iblk m c 2 t) r0_3) (View.ld (iblk m c 2 t) r0_4) (iblk m c 3 t)

/-- The entries of group 0. -/
theorem out0 (c : Dev nD) (t : Fin cfg0.N) (i d : Fin 128) :
    outv m c t (ix2 i ⟨d.val, by omega⟩) = refPool (m (c.tc.loc main_arg0)) (m (c.tc.loc main_arg1)) (m (c.tc.loc main_arg2)) (ix2 ⟨128 * t.val + i.val, by have : t.val < 33 := t.isLt; omega⟩ ⟨d.val, by omega⟩) := by
  refine (mix0 _ _ _ _ _ _ i d).trans (Eq.trans ?_ (refPool_0 _ _ _ _ d).symm)
  exact congr (congrArg HMul.hMul (Finset.sum_congr rfl fun k _ => congr (congrArg HMul.hMul (pooled0 m c t i k)) (weight0 m c t k d))) (scale m c t _)

/-- The entries of group 1. -/
theorem out1 (c : Dev nD) (t : Fin cfg0.N) (i d : Fin 128) :
    outv m c t (ix2 i ⟨128 + d.val, by omega⟩) = refPool (m (c.tc.loc main_arg0)) (m (c.tc.loc main_arg1)) (m (c.tc.loc main_arg2)) (ix2 ⟨128 * t.val + i.val, by have : t.val < 33 := t.isLt; omega⟩ ⟨128 + d.val, by omega⟩) := by
  refine (mix1 _ _ _ _ _ _ i d).trans (Eq.trans ?_ (refPool_1 _ _ _ _ d).symm)
  exact congr (congrArg HMul.hMul (Finset.sum_congr rfl fun k _ => congr (congrArg HMul.hMul (pooled1 m c t i k)) (weight1 m c t k d))) (scale m c t _)

/-- The entries of group 2. -/
theorem out2 (c : Dev nD) (t : Fin cfg0.N) (i d : Fin 128) :
    outv m c t (ix2 i ⟨256 + d.val, by omega⟩) = refPool (m (c.tc.loc main_arg0)) (m (c.tc.loc main_arg1)) (m (c.tc.loc main_arg2)) (ix2 ⟨128 * t.val + i.val, by have : t.val < 33 := t.isLt; omega⟩ ⟨256 + d.val, by omega⟩) := by
  refine (mix2 _ _ _ _ _ _ i d).trans (Eq.trans ?_ (refPool_2 _ _ _ _ d).symm)
  exact congr (congrArg HMul.hMul (Finset.sum_congr rfl fun k _ => congr (congrArg HMul.hMul (pooled2 m c t i k)) (weight2 m c t k d))) (scale m c t _)

/-- The entries of group 3. -/
theorem out3 (c : Dev nD) (t : Fin cfg0.N) (i d : Fin 128) :
    outv m c t (ix2 i ⟨384 + d.val, by omega⟩) = refPool (m (c.tc.loc main_arg0)) (m (c.tc.loc main_arg1)) (m (c.tc.loc main_arg2)) (ix2 ⟨128 * t.val + i.val, by have : t.val < 33 := t.isLt; omega⟩ ⟨384 + d.val, by omega⟩) := by
  refine (mix3 _ _ _ _ _ _ i d).trans (Eq.trans ?_ (refPool_3 _ _ _ _ d).symm)
  exact congr (congrArg HMul.hMul (Finset.sum_congr rfl fun k _ => congr (congrArg HMul.hMul (pooled3 m c t i k)) (weight3 m c t k d))) (scale m c t _)

/-- The entries of a block. -/
theorem out (c : Dev nD) (t : Fin cfg0.N) (i : Fin 128) (q : Fin 512) :
    outv m c t (ix2 i q) = refPool (m (c.tc.loc main_arg0)) (m (c.tc.loc main_arg1)) (m (c.tc.loc main_arg2)) (ix2 ⟨128 * t.val + i.val, by have : t.val < 33 := t.isLt; omega⟩ q) := by
  have hq := q.isLt
  by_cases h0 : q.val < 128
  · have e : q = ⟨(⟨q.val, by omega⟩ : Fin 128).val, by show q.val < 512; omega⟩ := rfl
    rw [e]; exact out0 m c t i ⟨q.val, by omega⟩
  by_cases h1 : q.val < 256
  · have e : q = ⟨128 + (⟨q.val - 128, by omega⟩ : Fin 128).val, by show 128 + (q.val - 128) < 512; omega⟩ := Fin.ext (by show q.val = 128 + (q.val - 128); omega)
    rw [e]; exact out1 m c t i ⟨q.val - 128, by omega⟩
  by_cases h2 : q.val < 384
  · have e : q = ⟨256 + (⟨q.val - 256, by omega⟩ : Fin 128).val, by show 256 + (q.val - 256) < 512; omega⟩ := Fin.ext (by show q.val = 256 + (q.val - 256); omega)
    rw [e]; exact out2 m c t i ⟨q.val - 256, by omega⟩
  · have e : q = ⟨384 + (⟨q.val - 384, by omega⟩ : Fin 128).val, by show 384 + (q.val - 384) < 512; omega⟩ := Fin.ext (by show q.val = 384 + (q.val - 384); omega)
    rw [e]; exact out3 m c t i ⟨q.val - 384, by omega⟩

/-- A load of a whole block. -/
theorem ld_whole (B : Vec Ideal S128x512 .f32) : View.ld B r0_0 = B := by
  funext j
  refine congrArg B ?_
  funext b
  fin_cases b <;> refine Fin.ext ?_
  · show 0 + 1 * (j 0).val = (j 0).val; omega
  · show 0 + 1 * (j 1).val = (j 1).val; omega

theorem p10 (c : Dev nD) (t : Fin cfg0.N) : k0_pay10 (grid0.coords t) (iblk m c 0 t) (iblk m c 1 t) (iblk m c 2 t) (iblk m c 3 t) = k0_pay2 (iblk m c 1 t) := by
  show k0_pay2 (View.ld (iblk m c 1 t) r0_0) = _
  simp only [ld_whole]

theorem p11 (c : Dev nD) (t : Fin cfg0.N) : k0_pay11 (grid0.coords t) (iblk m c 0 t) (iblk m c 1 t) (iblk m c 2 t) (iblk m c 3 t) = k0_pay3 (grid0.coords t) := rfl

theorem p12 (c : Dev nD) (t : Fin cfg0.N) : k0_pay12 (grid0.coords t) (iblk m c 0 t) (iblk m c 1 t) (iblk m c 2 t) (iblk m c 3 t) = k0_pay4 (iblk m c 0 t) (iblk m c 1 t) := by
  show k0_pay4 (View.ld (iblk m c 0 t) r0_0) (View.ld (iblk m c 1 t) r0_0) = _
  simp only [ld_whole]

theorem p13 (c : Dev nD) (t : Fin cfg0.N) : k0_pay13 (grid0.coords t) (iblk m c 0 t) (iblk m c 1 t) (iblk m c 2 t) (iblk m c 3 t) = k0_pay5 (grid0.coords t) := rfl

theorem p14 (c : Dev nD) (t : Fin cfg0.N) : k0_pay14 (grid0.coords t) (iblk m c 0 t) (iblk m c 1 t) (iblk m c 2 t) (iblk m c 3 t) = k0_pay6 := rfl

theorem p8 (a : FVec Ideal S128x512 .f32) (b : IVec S128x1 32) (d : FVec Ideal S128x512 .f32) (e : IVec S128x1 1) (f : IVec S128x1 32) :
    k0_pay8 a b d e f = truncf .bf16 (extractStridedSlice S128x128 ![0, 0] (k0_pay7 a b d e f) slices_S128x512_o0_0_S128x128) bitsLt_bf16_f32 := rfl

/-- The kernel's heads are the reference's. -/
theorem final (c : Dev nD) : (dats m 0 c).arrAt 4 (cfgs 0).N = refPool (m (c.tc.loc main_arg0)) (m (c.tc.loc main_arg1)) (m (c.tc.loc main_arg2)) := by
  refine (dats m 0 c).arrAt_eq_of_covers 4 _ (by decide +kernel) fun t hf y => ?_
  have ht : t.val < 33 := t.isLt
  obtain ⟨i, q, rfl⟩ : ∃ (i : Fin 128) (q : Fin 512), y = ix2 i q := ⟨y 0, y 1, by funext b; fin_cases b <;> rfl⟩
  have hi := i.isLt
  have e : ((View.whole main_v4).slice (win0_4.rect t)).emb (ix2 i q) = ix2 ⟨128 * t.val + i.val, by omega⟩ q := by blk_ext [idx_val t]
  blk_simp; rw [after0_4, e]; frame_out
  rw [p10, p11, p12, p13, p14, p8]
  exact out m c t i q

end Cert.Kernel15Ideal.Value

end
-- ==== Proof.RunPoolFwd.lean ====
/- The run of the reference `reference15`, its results under the names that the values use. -/
module

public import proofs.«01_k».proof.Proof.ValuePoolFwd
public import Idealize.ShloMosaic.Lib.Pipeline.ReadBack
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference15Ideal.Value
open Cert.Reference15Ideal Cert.Reference15Ideal.Gen

/-- Every run of the reference ends with the named results, its arguments unchanged. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v175) = refPool (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun _ h c => ⟨(h c).1, (h c).2.1, (h c).2.2.1, (h c).2.2.2⟩) (run m ρ)

end Cert.Reference15Ideal.Value

end
-- ==== Proof.PoolRefB.lean ====
/- The gradient of the multi-scale pooling heads as the reference computes it. -/
module

public import proofs.«01_k».proof.Proof.PoolRef
public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel14Ideal.Value
public import proofs.«01_k».proof.Proof.Gen.Reference14Ideal.Run

@[expose] public section

set_option maxRecDepth 16384

noncomputable section

open Idealize.ShloMosaic Idealize.ShloMosaic.TcCoe Idealize.SL.Sem
open Idealize.ShloMosaic.Pipeline (Dat)
open scoped BigOperators

namespace Cert.Reference14Ideal.Value
open Cert.Reference14Ideal Cert.Reference14Ideal.Gen Cert.Reference15Ideal.Value

variable (a0 : FVec Ideal S4112x4608 .f32) (a1 : FVec Ideal S4224x512 .f32) (a2 : FVec Ideal S4x128x128 .f32) (a3 : FVec Ideal S1x512 .f32)

/-- An entry of the gradient that comes in, by its row number. -/
def doV (q : Fin 512) (p : ℕ) : EReal :=
  if h : p < 4224 then a1 (ix2 ⟨p, h⟩ q) else 0

/-- The gradient of the mixed rows, zero in the pad. -/
def dmV (q : Fin 512) (p : ℕ) : EReal :=
  if p < 112 then 0 else doV a1 q p * a3 (ix2 0 q)

theorem dmV_end (q : Fin 512) (p : ℕ) (h : 4224 ≤ p) : dmV a1 a3 q p = 0 := by
  unfold dmV doV
  rw [if_neg (by omega), dif_neg (by omega), zero_mul]

/-- Rows of zeros in front add nothing. -/
theorem sum_pad (f : ℕ → EReal) (h : ∀ p, p < 112 → f p = 0) : ∑ p : Fin 4112, f (p.val + 112) = ∑ p : Fin 4224, f p.val := by
  rw [Fin.sum_univ_eq_sum_range (fun p => f (p + 112)) 4112, Fin.sum_univ_eq_sum_range f 4224]
  refine Eq.trans ?_ (Finset.sum_range_add f 112 4112).symm
  rw [Finset.sum_eq_zero (fun p hp => h p (Finset.mem_range.mp hp)), zero_add]
  exact Finset.sum_congr rfl fun p _ => congrArg f (Nat.add_comm p 112)

/-- A row of the reference's arrays by number, zero after the last. -/
def bu (u : FVec Ideal S4112x128 .f32) (d : Fin 128) (p : ℕ) : EReal := if h : p < 4112 then u (ix2 ⟨p, h⟩ d) else 0

theorem bu_0 (u : FVec Ideal S4112x128 .f32) (p : Fin 4112) (d : Fin 128) : u (ix2 p d) = bu u d (p.val + 0) := by
  unfold bu
  rw [dif_pos (by omega)]
  rfl

/-- The rows, 1 earlier. -/
def blag1 (u : FVec Ideal S4112x128 .f32) : FVec Ideal S4112x128 .f32 :=
  pad S4112x128 ![0, 0] ![1, 0] ![0, 0] (extractStridedSlice S4111x128 ![1, 0] u slices_S4112x128_S4111x128_1_0) (constant S_ .f32 0x00000000#32) pads_S4111x128_S4112x128_010_000 h_S_

theorem blag1_at (u : FVec Ideal S4112x128 .f32) (p : Fin 4112) (d : Fin 128) : blag1 u (ix2 p d) = bu u d (p.val + 1) := by
  have hp := p.isLt
  unfold blag1 bu
  pointwise
  by_cases h : p.val < 4111
  · rw [dif_pos h, dif_pos (by omega)]
    exact congrArg u (congrArg (fun r => ix2 r _) (Fin.ext (Nat.add_comm _ _)))
  · rw [dif_neg h, dif_neg (by omega)]

/-- The rows, 2 earlier. -/
def blag2 (u : FVec Ideal S4112x128 .f32) : FVec Ideal S4112x128 .f32 :=
  pad S4112x128 ![0, 0] ![2, 0] ![0, 0] (extractStridedSlice S4110x128 ![2, 0] u slices_S4112x128_S4110x128_2_0) (constant S_ .f32 0x00000000#32) pads_S4110x128_S4112x128_020_000 h_S_

theorem blag2_at (u : FVec Ideal S4112x128 .f32) (p : Fin 4112) (d : Fin 128) : blag2 u (ix2 p d) = bu u d (p.val + 2) := by
  have hp := p.isLt
  unfold blag2 bu
  pointwise
  by_cases h : p.val < 4110
  · rw [dif_pos h, dif_pos (by omega)]
    exact congrArg u (congrArg (fun r => ix2 r _) (Fin.ext (Nat.add_comm _ _)))
  · rw [dif_neg h, dif_neg (by omega)]

/-- The rows, 3 earlier. -/
def blag3 (u : FVec Ideal S4112x128 .f32) : FVec Ideal S4112x128 .f32 :=
  pad S4112x128 ![0, 0] ![3, 0] ![0, 0] (extractStridedSlice S4109x128 ![3, 0] u slices_S4112x128_S4109x128_3_0) (constant S_ .f32 0x00000000#32) pads_S4109x128_S4112x128_030_000 h_S_

theorem blag3_at (u : FVec Ideal S4112x128 .f32) (p : Fin 4112) (d : Fin 128) : blag3 u (ix2 p d) = bu u d (p.val + 3) := by
  have hp := p.isLt
  unfold blag3 bu
  pointwise
  by_cases h : p.val < 4109
  · rw [dif_pos h, dif_pos (by omega)]
    exact congrArg u (congrArg (fun r => ix2 r _) (Fin.ext (Nat.add_comm _ _)))
  · rw [dif_neg h, dif_neg (by omega)]

/-- The rows, 4 earlier. -/
def blag4 (u : FVec Ideal S4112x128 .f32) : FVec Ideal S4112x128 .f32 :=
  pad S4112x128 ![0, 0] ![4, 0] ![0, 0] (extractStridedSlice S4108x128 ![4, 0] u slices_S4112x128_S4108x128_4_0) (constant S_ .f32 0x00000000#32) pads_S4108x128_S4112x128_040_000 h_S_

theorem blag4_at (u : FVec Ideal S4112x128 .f32) (p : Fin 4112) (d : Fin 128) : blag4 u (ix2 p d) = bu u d (p.val + 4) := by
  have hp := p.isLt
  unfold blag4 bu
  pointwise
  by_cases h : p.val < 4108
  · rw [dif_pos h, dif_pos (by omega)]
    exact congrArg u (congrArg (fun r => ix2 r _) (Fin.ext (Nat.add_comm _ _)))
  · rw [dif_neg h, dif_neg (by omega)]

/-- The rows, 5 earlier. -/
def blag5 (u : FVec Ideal S4112x128 .f32) : FVec Ideal S4112x128 .f32 :=
  pad S4112x128 ![0, 0] ![5, 0] ![0, 0] (extractStridedSlice S4107x128 ![5, 0] u slices_S4112x128_S4107x128_5_0) (constant S_ .f32 0x00000000#32) pads_S4107x128_S4112x128_050_000 h_S_

theorem blag5_at (u : FVec Ideal S4112x128 .f32) (p : Fin 4112) (d : Fin 128) : blag5 u (ix2 p d) = bu u d (p.val + 5) := by
  have hp := p.isLt
  unfold blag5 bu
  pointwise
  by_cases h : p.val < 4107
  · rw [dif_pos h, dif_pos (by omega)]
    exact congrArg u (congrArg (fun r => ix2 r _) (Fin.ext (Nat.add_comm _ _)))
  · rw [dif_neg h, dif_neg (by omega)]

/-- The rows, 6 earlier. -/
def blag6 (u : FVec Ideal S4112x128 .f32) : FVec Ideal S4112x128 .f32 :=
  pad S4112x128 ![0, 0] ![6, 0] ![0, 0] (extractStridedSlice S4106x128 ![6, 0] u slices_S4112x128_S4106x128_6_0) (constant S_ .f32 0x00000000#32) pads_S4106x128_S4112x128_060_000 h_S_

theorem blag6_at (u : FVec Ideal S4112x128 .f32) (p : Fin 4112) (d : Fin 128) : blag6 u (ix2 p d) = bu u d (p.val + 6) := by
  have hp := p.isLt
  unfold blag6 bu
  pointwise
  by_cases h : p.val < 4106
  · rw [dif_pos h, dif_pos (by omega)]
    exact congrArg u (congrArg (fun r => ix2 r _) (Fin.ext (Nat.add_comm _ _)))
  · rw [dif_neg h, dif_neg (by omega)]

/-- The rows, 7 earlier. -/
def blag7 (u : FVec Ideal S4112x128 .f32) : FVec Ideal S4112x128 .f32 :=
  pad S4112x128 ![0, 0] ![7, 0] ![0, 0] (extractStridedSlice S4105x128 ![7, 0] u slices_S4112x128_S4105x128_7_0) (constant S_ .f32 0x00000000#32) pads_S4105x128_S4112x128_070_000 h_S_

theorem blag7_at (u : FVec Ideal S4112x128 .f32) (p : Fin 4112) (d : Fin 128) : blag7 u (ix2 p d) = bu u d (p.val + 7) := by
  have hp := p.isLt
  unfold blag7 bu
  pointwise
  by_cases h : p.val < 4105
  · rw [dif_pos h, dif_pos (by omega)]
    exact congrArg u (congrArg (fun r => ix2 r _) (Fin.ext (Nat.add_comm _ _)))
  · rw [dif_neg h, dif_neg (by omega)]

/-- The rows, 8 earlier. -/
def blag8 (u : FVec Ideal S4112x128 .f32) : FVec Ideal S4112x128 .f32 :=
  pad S4112x128 ![0, 0] ![8, 0] ![0, 0] (extractStridedSlice S4104x128 ![8, 0] u slices_S4112x128_S4104x128_8_0) (constant S_ .f32 0x00000000#32) pads_S4104x128_S4112x128_080_000 h_S_

theorem blag8_at (u : FVec Ideal S4112x128 .f32) (p : Fin 4112) (d : Fin 128) : blag8 u (ix2 p d) = bu u d (p.val + 8) := by
  have hp := p.isLt
  unfold blag8 bu
  pointwise
  by_cases h : p.val < 4104
  · rw [dif_pos h, dif_pos (by omega)]
    exact congrArg u (congrArg (fun r => ix2 r _) (Fin.ext (Nat.add_comm _ _)))
  · rw [dif_neg h, dif_neg (by omega)]

/-- The rows, 9 earlier. -/
def blag9 (u : FVec Ideal S4112x128 .f32) : FVec Ideal S4112x128 .f32 :=
  pad S4112x128 ![0, 0] ![9, 0] ![0, 0] (extractStridedSlice S4103x128 ![9, 0] u slices_S4112x128_S4103x128_9_0) (constant S_ .f32 0x00000000#32) pads_S4103x128_S4112x128_090_000 h_S_

theorem blag9_at (u : FVec Ideal S4112x128 .f32) (p : Fin 4112) (d : Fin 128) : blag9 u (ix2 p d) = bu u d (p.val + 9) := by
  have hp := p.isLt
  unfold blag9 bu
  pointwise
  by_cases h : p.val < 4103
  · rw [dif_pos h, dif_pos (by omega)]
    exact congrArg u (congrArg (fun r => ix2 r _) (Fin.ext (Nat.add_comm _ _)))
  · rw [dif_neg h, dif_neg (by omega)]

/-- The rows, 10 earlier. -/
def blag10 (u : FVec Ideal S4112x128 .f32) : FVec Ideal S4112x128 .f32 :=
  pad S4112x128 ![0, 0] ![10, 0] ![0, 0] (extractStridedSlice S4102x128 ![10, 0] u slices_S4112x128_S4102x128_10_0) (constant S_ .f32 0x00000000#32) pads_S4102x128_S4112x128_0100_000 h_S_

theorem blag10_at (u : FVec Ideal S4112x128 .f32) (p : Fin 4112) (d : Fin 128) : blag10 u (ix2 p d) = bu u d (p.val + 10) := by
  have hp := p.isLt
  unfold blag10 bu
  pointwise
  by_cases h : p.val < 4102
  · rw [dif_pos h, dif_pos (by omega)]
    exact congrArg u (congrArg (fun r => ix2 r _) (Fin.ext (Nat.add_comm _ _)))
  · rw [dif_neg h, dif_neg (by omega)]

/-- The rows, 11 earlier. -/
def blag11 (u : FVec Ideal S4112x128 .f32) : FVec Ideal S4112x128 .f32 :=
  pad S4112x128 ![0, 0] ![11, 0] ![0, 0] (extractStridedSlice S4101x128 ![11, 0] u slices_S4112x128_S4101x128_11_0) (constant S_ .f32 0x00000000#32) pads_S4101x128_S4112x128_0110_000 h_S_

theorem blag11_at (u : FVec Ideal S4112x128 .f32) (p : Fin 4112) (d : Fin 128) : blag11 u (ix2 p d) = bu u d (p.val + 11) := by
  have hp := p.isLt
  unfold blag11 bu
  pointwise
  by_cases h : p.val < 4101
  · rw [dif_pos h, dif_pos (by omega)]
    exact congrArg u (congrArg (fun r => ix2 r _) (Fin.ext (Nat.add_comm _ _)))
  · rw [dif_neg h, dif_neg (by omega)]

/-- The rows, 12 earlier. -/
def blag12 (u : FVec Ideal S4112x128 .f32) : FVec Ideal S4112x128 .f32 :=
  pad S4112x128 ![0, 0] ![12, 0] ![0, 0] (extractStridedSlice S4100x128 ![12, 0] u slices_S4112x128_S4100x128_12_0) (constant S_ .f32 0x00000000#32) pads_S4100x128_S4112x128_0120_000 h_S_

theorem blag12_at (u : FVec Ideal S4112x128 .f32) (p : Fin 4112) (d : Fin 128) : blag12 u (ix2 p d) = bu u d (p.val + 12) := by
  have hp := p.isLt
  unfold blag12 bu
  pointwise
  by_cases h : p.val < 4100
  · rw [dif_pos h, dif_pos (by omega)]
    exact congrArg u (congrArg (fun r => ix2 r _) (Fin.ext (Nat.add_comm _ _)))
  · rw [dif_neg h, dif_neg (by omega)]

/-- The rows, 13 earlier. -/
def blag13 (u : FVec Ideal S4112x128 .f32) : FVec Ideal S4112x128 .f32 :=
  pad S4112x128 ![0, 0] ![13, 0] ![0, 0] (extractStridedSlice S4099x128 ![13, 0] u slices_S4112x128_S4099x128_13_0) (constant S_ .f32 0x00000000#32) pads_S4099x128_S4112x128_0130_000 h_S_

theorem blag13_at (u : FVec Ideal S4112x128 .f32) (p : Fin 4112) (d : Fin 128) : blag13 u (ix2 p d) = bu u d (p.val + 13) := by
  have hp := p.isLt
  unfold blag13 bu
  pointwise
  by_cases h : p.val < 4099
  · rw [dif_pos h, dif_pos (by omega)]
    exact congrArg u (congrArg (fun r => ix2 r _) (Fin.ext (Nat.add_comm _ _)))
  · rw [dif_neg h, dif_neg (by omega)]

/-- The rows, 14 earlier. -/
def blag14 (u : FVec Ideal S4112x128 .f32) : FVec Ideal S4112x128 .f32 :=
  pad S4112x128 ![0, 0] ![14, 0] ![0, 0] (extractStridedSlice S4098x128 ![14, 0] u slices_S4112x128_S4098x128_14_0) (constant S_ .f32 0x00000000#32) pads_S4098x128_S4112x128_0140_000 h_S_

theorem blag14_at (u : FVec Ideal S4112x128 .f32) (p : Fin 4112) (d : Fin 128) : blag14 u (ix2 p d) = bu u d (p.val + 14) := by
  have hp := p.isLt
  unfold blag14 bu
  pointwise
  by_cases h : p.val < 4098
  · rw [dif_pos h, dif_pos (by omega)]
    exact congrArg u (congrArg (fun r => ix2 r _) (Fin.ext (Nat.add_comm _ _)))
  · rw [dif_neg h, dif_neg (by omega)]

/-- The rows, 15 earlier. -/
def blag15 (u : FVec Ideal S4112x128 .f32) : FVec Ideal S4112x128 .f32 :=
  pad S4112x128 ![0, 0] ![15, 0] ![0, 0] (extractStridedSlice S4097x128 ![15, 0] u slices_S4112x128_S4097x128_15_0) (constant S_ .f32 0x00000000#32) pads_S4097x128_S4112x128_0150_000 h_S_

theorem blag15_at (u : FVec Ideal S4112x128 .f32) (p : Fin 4112) (d : Fin 128) : blag15 u (ix2 p d) = bu u d (p.val + 15) := by
  have hp := p.isLt
  unfold blag15 bu
  pointwise
  by_cases h : p.val < 4097
  · rw [dif_pos h, dif_pos (by omega)]
    exact congrArg u (congrArg (fun r => ix2 r _) (Fin.ext (Nat.add_comm _ _)))
  · rw [dif_neg h, dif_neg (by omega)]

/-- The gradient of group 0's inputs from that of its pooled rows `n` and that of its means `u`. -/
def bs0 (n u : FVec Ideal S4112x128 .f32) : FVec Ideal S4112x128 .f32 := addf (addf (Host.negf n) u) (blag1 u)

theorem bs0_at (n u : FVec Ideal S4112x128 .f32) (p : Fin 4112) (d : Fin 128) : bs0 n u (ix2 p d) = (∑ k ∈ Finset.range 2, bu u d (p.val + k)) - n (ix2 p d) := by
  show (-n (ix2 p d) + u (ix2 p d)) + blag1 u (ix2 p d) = _
  rw [blag1_at, bu_0 u p d, sub_eq_add_neg]
  simp only [Finset.sum_range_succ, Finset.sum_range_zero, zero_add]
  ac_rfl

/-- Group 0's weight. -/
def wt0 : FVec Ideal S128x128 .f32 := shapeCast _ (extractStridedSlice S1x128x128 ![0, 0, 0] a2 slices_S4x128x128_S1x128x128_0_0_0) shapeCasts_S1x128x128_S128x128

theorem wt0_at (k d : Fin 128) : wt0 a2 (ix2 k d) = a2 (ix3 ⟨0, by decide⟩ k d) := by
  unfold wt0
  pointwise

/-- Group 0 of the gradient that comes in. -/
def dg0 : FVec Ideal S4112x128 .f32 := extractStridedSlice S4112x128 ![0, 0] (extractStridedSlice S4112x512 ![112, 0] a1 slices_S4224x512_S4112x512_112_0) slices_S4112x512_S4112x128_0_0

theorem dg0_at (p : Fin 4112) (d : Fin 128) : dg0 a1 (ix2 p d) = doV a1 ⟨d.val, by omega⟩ (p.val + 112) := by
  have hp := p.isLt
  unfold dg0 doV
  rw [dif_pos (by omega)]
  pointwise
  exact congrArg a1 (congrArg (fun r => ix2 r _) (Fin.ext (Nat.add_comm _ _)))

/-- Group 0's mixed rows. -/
def mx0 : FVec Ideal S4112x128 .f32 := Host.dotGeneral dot_S4112x128_S128x128_S4112x128_1_0_0_1_n_n none (pool0 (ug0 a0)) (wt0 a2)

theorem mx0_at (p : Fin 4112) (d : Fin 128) : mx0 a0 a2 (ix2 p d) = ∑ k : Fin 128, pooledV a0 2 ⟨k.val, by omega⟩ (p.val + 112) * a2 (ix3 ⟨0, by decide⟩ k d) := by
  simp only [← pool0_at, ← wt0_at]
  unfold mx0
  generalize pool0 (ug0 a0) = u
  generalize wt0 a2 = v
  pointwise

/-- The gradient of group 0's mixed rows. -/
def dm0 : FVec Ideal S4112x128 .f32 := mulf (dg0 a1) (broadcastInDim S4112x128 ![0, 1] bcast_S1x128_S4112x128_0_1 (extractStridedSlice S1x128 ![0, 0] a3 slices_S1x512_S1x128_0_0))

theorem dm0_at (p : Fin 4112) (d : Fin 128) : dm0 a1 a3 (ix2 p d) = dmV a1 a3 ⟨d.val, by omega⟩ (p.val + 112) := by
  unfold dmV
  rw [if_neg (by omega), ← dg0_at]
  unfold dm0
  generalize dg0 a1 = u
  pointwise

/-- An entry of the gradient of group 0's pooled rows. -/
def dpV0 (c : Fin 128) (p : ℕ) : EReal := ∑ d : Fin 128, dmV a1 a3 ⟨d.val, by omega⟩ p * a2 (ix3 ⟨0, by decide⟩ c d)

/-- The gradient of group 0's pooled rows. -/
def dp0 : FVec Ideal S4112x128 .f32 := Host.dotGeneral dot_S4112x128_S128x128_S4112x128_1_1_0_0_n_n none (dm0 a1 a3) (wt0 a2)

theorem dp0_at (p : Fin 4112) (c : Fin 128) : dp0 a1 a2 a3 (ix2 p c) = dpV0 a1 a2 a3 c (p.val + 112) := by
  unfold dpV0
  simp only [← dm0_at, ← wt0_at]
  unfold dp0
  generalize dm0 a1 a3 = u
  generalize wt0 a2 = v
  pointwise

/-- An entry of the gradient of group 0's means. -/
def dvV0 (c : Fin 128) (p : ℕ) : EReal := Ideal.div (dpV0 a1 a2 a3 c p) (FloatOps.sitofp (F := Ideal) .f32 (BitVec.ofNat 32 (min (p - 111) 2)))

theorem dvV0_end (c : Fin 128) (p : ℕ) (h : 4224 ≤ p) : dvV0 a1 a2 a3 c p = 0 := by
  unfold dvV0 dpV0
  simp only [dmV_end a1 a3 _ p h, zero_mul, Finset.sum_const_zero]
  rw [show min (p - 111) 2 = 2 by omega]
  exact Ideal.zero_div (by show ((((2#32 : BitVec 32).toInt : ℤ) : ℝ) : EReal) ≠ 0; rw [show (2#32 : BitVec 32).toInt = 2 from rfl]; norm_num)

theorem bu_dv0 (d : Fin 128) (p : ℕ) : bu (Host.divf (dp0 a1 a2 a3) cnt0) d p = dvV0 a1 a2 a3 d (p + 112) := by
  unfold bu
  by_cases h : p < 4112
  · rw [dif_pos h]
    show Ideal.div (dp0 a1 a2 a3 (ix2 ⟨p, h⟩ d)) (cnt0 (ix2 ⟨p, h⟩ d)) = _
    rw [dp0_at, cnt0_at]
    rfl
  · rw [dif_neg h, dvV0_end _ _ _ _ _ (by omega)]

/-- An entry of the gradient of group 0's inputs. -/
def duV0 (c : Fin 128) (p : ℕ) : EReal :=
  if p < 112 then 0 else (∑ k ∈ Finset.range 2, dvV0 a1 a2 a3 c (p + k)) - dpV0 a1 a2 a3 c p

/-- The gradient of group 0's inputs. -/
def du0 : FVec Ideal S4112x128 .f32 := bs0 (dp0 a1 a2 a3) (Host.divf (dp0 a1 a2 a3) cnt0)

theorem du0_at (p : Fin 4112) (d : Fin 128) : du0 a1 a2 a3 (ix2 p d) = duV0 a1 a2 a3 d (p.val + 112) := by
  unfold du0 duV0
  rw [bs0_at, if_neg (by omega), dp0_at]
  simp only [bu_dv0, Nat.add_right_comm]

/-- The gradient of group 1's inputs from that of its pooled rows `n` and that of its means `u`. -/
def bs1 (n u : FVec Ideal S4112x128 .f32) : FVec Ideal S4112x128 .f32 := addf (addf (addf (addf (Host.negf n) (blag3 u)) (blag2 u)) u) (blag1 u)

theorem bs1_at (n u : FVec Ideal S4112x128 .f32) (p : Fin 4112) (d : Fin 128) : bs1 n u (ix2 p d) = (∑ k ∈ Finset.range 4, bu u d (p.val + k)) - n (ix2 p d) := by
  show (((-n (ix2 p d) + blag3 u (ix2 p d)) + blag2 u (ix2 p d)) + u (ix2 p d)) + blag1 u (ix2 p d) = _
  rw [blag3_at, blag2_at, blag1_at, bu_0 u p d, sub_eq_add_neg]
  simp only [Finset.sum_range_succ, Finset.sum_range_zero, zero_add]
  ac_rfl

/-- Group 1's weight. -/
def wt1 : FVec Ideal S128x128 .f32 := shapeCast _ (extractStridedSlice S1x128x128 ![1, 0, 0] a2 slices_S4x128x128_S1x128x128_1_0_0) shapeCasts_S1x128x128_S128x128

theorem wt1_at (k d : Fin 128) : wt1 a2 (ix2 k d) = a2 (ix3 ⟨1, by decide⟩ k d) := by
  unfold wt1
  pointwise

/-- Group 1 of the gradient that comes in. -/
def dg1 : FVec Ideal S4112x128 .f32 := extractStridedSlice S4112x128 ![0, 128] (extractStridedSlice S4112x512 ![112, 0] a1 slices_S4224x512_S4112x512_112_0) slices_S4112x512_S4112x128_0_128

theorem dg1_at (p : Fin 4112) (d : Fin 128) : dg1 a1 (ix2 p d) = doV a1 ⟨128 + d.val, by omega⟩ (p.val + 112) := by
  have hp := p.isLt
  unfold dg1 doV
  rw [dif_pos (by omega)]
  pointwise
  exact congrArg a1 (congrArg (fun r => ix2 r _) (Fin.ext (Nat.add_comm _ _)))

/-- Group 1's mixed rows. -/
def mx1 : FVec Ideal S4112x128 .f32 := Host.dotGeneral dot_S4112x128_S128x128_S4112x128_1_0_0_1_n_n none (pool1 (ug1 a0)) (wt1 a2)

theorem mx1_at (p : Fin 4112) (d : Fin 128) : mx1 a0 a2 (ix2 p d) = ∑ k : Fin 128, pooledV a0 4 ⟨128 + k.val, by omega⟩ (p.val + 112) * a2 (ix3 ⟨1, by decide⟩ k d) := by
  simp only [← pool1_at, ← wt1_at]
  unfold mx1
  generalize pool1 (ug1 a0) = u
  generalize wt1 a2 = v
  pointwise

/-- The gradient of group 1's mixed rows. -/
def dm1 : FVec Ideal S4112x128 .f32 := mulf (dg1 a1) (broadcastInDim S4112x128 ![0, 1] bcast_S1x128_S4112x128_0_1 (extractStridedSlice S1x128 ![0, 128] a3 slices_S1x512_S1x128_0_128))

theorem dm1_at (p : Fin 4112) (d : Fin 128) : dm1 a1 a3 (ix2 p d) = dmV a1 a3 ⟨128 + d.val, by omega⟩ (p.val + 112) := by
  unfold dmV
  rw [if_neg (by omega), ← dg1_at]
  unfold dm1
  generalize dg1 a1 = u
  pointwise

/-- An entry of the gradient of group 1's pooled rows. -/
def dpV1 (c : Fin 128) (p : ℕ) : EReal := ∑ d : Fin 128, dmV a1 a3 ⟨128 + d.val, by omega⟩ p * a2 (ix3 ⟨1, by decide⟩ c d)

/-- The gradient of group 1's pooled rows. -/
def dp1 : FVec Ideal S4112x128 .f32 := Host.dotGeneral dot_S4112x128_S128x128_S4112x128_1_1_0_0_n_n none (dm1 a1 a3) (wt1 a2)

theorem dp1_at (p : Fin 4112) (c : Fin 128) : dp1 a1 a2 a3 (ix2 p c) = dpV1 a1 a2 a3 c (p.val + 112) := by
  unfold dpV1
  simp only [← dm1_at, ← wt1_at]
  unfold dp1
  generalize dm1 a1 a3 = u
  generalize wt1 a2 = v
  pointwise

/-- An entry of the gradient of group 1's means. -/
def dvV1 (c : Fin 128) (p : ℕ) : EReal := Ideal.div (dpV1 a1 a2 a3 c p) (FloatOps.sitofp (F := Ideal) .f32 (BitVec.ofNat 32 (min (p - 111) 4)))

theorem dvV1_end (c : Fin 128) (p : ℕ) (h : 4224 ≤ p) : dvV1 a1 a2 a3 c p = 0 := by
  unfold dvV1 dpV1
  simp only [dmV_end a1 a3 _ p h, zero_mul, Finset.sum_const_zero]
  rw [show min (p - 111) 4 = 4 by omega]
  exact Ideal.zero_div (by show ((((4#32 : BitVec 32).toInt : ℤ) : ℝ) : EReal) ≠ 0; rw [show (4#32 : BitVec 32).toInt = 4 from rfl]; norm_num)

theorem bu_dv1 (d : Fin 128) (p : ℕ) : bu (Host.divf (dp1 a1 a2 a3) cnt1) d p = dvV1 a1 a2 a3 d (p + 112) := by
  unfold bu
  by_cases h : p < 4112
  · rw [dif_pos h]
    show Ideal.div (dp1 a1 a2 a3 (ix2 ⟨p, h⟩ d)) (cnt1 (ix2 ⟨p, h⟩ d)) = _
    rw [dp1_at, cnt1_at]
    rfl
  · rw [dif_neg h, dvV1_end _ _ _ _ _ (by omega)]

/-- An entry of the gradient of group 1's inputs. -/
def duV1 (c : Fin 128) (p : ℕ) : EReal :=
  if p < 112 then 0 else (∑ k ∈ Finset.range 4, dvV1 a1 a2 a3 c (p + k)) - dpV1 a1 a2 a3 c p

/-- The gradient of group 1's inputs. -/
def du1 : FVec Ideal S4112x128 .f32 := bs1 (dp1 a1 a2 a3) (Host.divf (dp1 a1 a2 a3) cnt1)

theorem du1_at (p : Fin 4112) (d : Fin 128) : du1 a1 a2 a3 (ix2 p d) = duV1 a1 a2 a3 d (p.val + 112) := by
  unfold du1 duV1
  rw [bs1_at, if_neg (by omega), dp1_at]
  simp only [bu_dv1, Nat.add_right_comm]

/-- The gradient of group 2's inputs from that of its pooled rows `n` and that of its means `u`. -/
def bs2 (n u : FVec Ideal S4112x128 .f32) : FVec Ideal S4112x128 .f32 := addf (addf (addf (addf (addf (addf (addf (addf (Host.negf n) (blag7 u)) (blag6 u)) (blag5 u)) (blag4 u)) (blag3 u)) (blag2 u)) u) (blag1 u)

theorem bs2_at (n u : FVec Ideal S4112x128 .f32) (p : Fin 4112) (d : Fin 128) : bs2 n u (ix2 p d) = (∑ k ∈ Finset.range 8, bu u d (p.val + k)) - n (ix2 p d) := by
  show (((((((-n (ix2 p d) + blag7 u (ix2 p d)) + blag6 u (ix2 p d)) + blag5 u (ix2 p d)) + blag4 u (ix2 p d)) + blag3 u (ix2 p d)) + blag2 u (ix2 p d)) + u (ix2 p d)) + blag1 u (ix2 p d) = _
  rw [blag7_at, blag6_at, blag5_at, blag4_at, blag3_at, blag2_at, blag1_at, bu_0 u p d, sub_eq_add_neg]
  simp only [Finset.sum_range_succ, Finset.sum_range_zero, zero_add]
  ac_rfl

/-- Group 2's weight. -/
def wt2 : FVec Ideal S128x128 .f32 := shapeCast _ (extractStridedSlice S1x128x128 ![2, 0, 0] a2 slices_S4x128x128_S1x128x128_2_0_0) shapeCasts_S1x128x128_S128x128

theorem wt2_at (k d : Fin 128) : wt2 a2 (ix2 k d) = a2 (ix3 ⟨2, by decide⟩ k d) := by
  unfold wt2
  pointwise

/-- Group 2 of the gradient that comes in. -/
def dg2 : FVec Ideal S4112x128 .f32 := extractStridedSlice S4112x128 ![0, 256] (extractStridedSlice S4112x512 ![112, 0] a1 slices_S4224x512_S4112x512_112_0) slices_S4112x512_S4112x128_0_256

theorem dg2_at (p : Fin 4112) (d : Fin 128) : dg2 a1 (ix2 p d) = doV a1 ⟨256 + d.val, by omega⟩ (p.val + 112) := by
  have hp := p.isLt
  unfold dg2 doV
  rw [dif_pos (by omega)]
  pointwise
  exact congrArg a1 (congrArg (fun r => ix2 r _) (Fin.ext (Nat.add_comm _ _)))

/-- Group 2's mixed rows. -/
def mx2 : FVec Ideal S4112x128 .f32 := Host.dotGeneral dot_S4112x128_S128x128_S4112x128_1_0_0_1_n_n none (pool2 (ug2 a0)) (wt2 a2)

theorem mx2_at (p : Fin 4112) (d : Fin 128) : mx2 a0 a2 (ix2 p d) = ∑ k : Fin 128, pooledV a0 8 ⟨256 + k.val, by omega⟩ (p.val + 112) * a2 (ix3 ⟨2, by decide⟩ k d) := by
  simp only [← pool2_at, ← wt2_at]
  unfold mx2
  generalize pool2 (ug2 a0) = u
  generalize wt2 a2 = v
  pointwise

/-- The gradient of group 2's mixed rows. -/
def dm2 : FVec Ideal S4112x128 .f32 := mulf (dg2 a1) (broadcastInDim S4112x128 ![0, 1] bcast_S1x128_S4112x128_0_1 (extractStridedSlice S1x128 ![0, 256] a3 slices_S1x512_S1x128_0_256))

theorem dm2_at (p : Fin 4112) (d : Fin 128) : dm2 a1 a3 (ix2 p d) = dmV a1 a3 ⟨256 + d.val, by omega⟩ (p.val + 112) := by
  unfold dmV
  rw [if_neg (by omega), ← dg2_at]
  unfold dm2
  generalize dg2 a1 = u
  pointwise

/-- An entry of the gradient of group 2's pooled rows. -/
def dpV2 (c : Fin 128) (p : ℕ) : EReal := ∑ d : Fin 128, dmV a1 a3 ⟨256 + d.val, by omega⟩ p * a2 (ix3 ⟨2, by decide⟩ c d)

/-- The gradient of group 2's pooled rows. -/
def dp2 : FVec Ideal S4112x128 .f32 := Host.dotGeneral dot_S4112x128_S128x128_S4112x128_1_1_0_0_n_n none (dm2 a1 a3) (wt2 a2)

theorem dp2_at (p : Fin 4112) (c : Fin 128) : dp2 a1 a2 a3 (ix2 p c) = dpV2 a1 a2 a3 c (p.val + 112) := by
  unfold dpV2
  simp only [← dm2_at, ← wt2_at]
  unfold dp2
  generalize dm2 a1 a3 = u
  generalize wt2 a2 = v
  pointwise

/-- An entry of the gradient of group 2's means. -/
def dvV2 (c : Fin 128) (p : ℕ) : EReal := Ideal.div (dpV2 a1 a2 a3 c p) (FloatOps.sitofp (F := Ideal) .f32 (BitVec.ofNat 32 (min (p - 111) 8)))

theorem dvV2_end (c : Fin 128) (p : ℕ) (h : 4224 ≤ p) : dvV2 a1 a2 a3 c p = 0 := by
  unfold dvV2 dpV2
  simp only [dmV_end a1 a3 _ p h, zero_mul, Finset.sum_const_zero]
  rw [show min (p - 111) 8 = 8 by omega]
  exact Ideal.zero_div (by show ((((8#32 : BitVec 32).toInt : ℤ) : ℝ) : EReal) ≠ 0; rw [show (8#32 : BitVec 32).toInt = 8 from rfl]; norm_num)

theorem bu_dv2 (d : Fin 128) (p : ℕ) : bu (Host.divf (dp2 a1 a2 a3) cnt2) d p = dvV2 a1 a2 a3 d (p + 112) := by
  unfold bu
  by_cases h : p < 4112
  · rw [dif_pos h]
    show Ideal.div (dp2 a1 a2 a3 (ix2 ⟨p, h⟩ d)) (cnt2 (ix2 ⟨p, h⟩ d)) = _
    rw [dp2_at, cnt2_at]
    rfl
  · rw [dif_neg h, dvV2_end _ _ _ _ _ (by omega)]

/-- An entry of the gradient of group 2's inputs. -/
def duV2 (c : Fin 128) (p : ℕ) : EReal :=
  if p < 112 then 0 else (∑ k ∈ Finset.range 8, dvV2 a1 a2 a3 c (p + k)) - dpV2 a1 a2 a3 c p

/-- The gradient of group 2's inputs. -/
def du2 : FVec Ideal S4112x128 .f32 := bs2 (dp2 a1 a2 a3) (Host.divf (dp2 a1 a2 a3) cnt2)

theorem du2_at (p : Fin 4112) (d : Fin 128) : du2 a1 a2 a3 (ix2 p d) = duV2 a1 a2 a3 d (p.val + 112) := by
  unfold du2 duV2
  rw [bs2_at, if_neg (by omega), dp2_at]
  simp only [bu_dv2, Nat.add_right_comm]

/-- The gradient of group 3's inputs from that of its pooled rows `n` and that of its means `u`. -/
def bs3 (n u : FVec Ideal S4112x128 .f32) : FVec Ideal S4112x128 .f32 := addf (addf (addf (addf (addf (addf (addf (addf (addf (addf (addf (addf (addf (addf (addf (addf (Host.negf n) (blag15 u)) (blag14 u)) (blag13 u)) (blag12 u)) (blag11 u)) (blag10 u)) (blag9 u)) (blag8 u)) (blag7 u)) (blag6 u)) (blag5 u)) (blag4 u)) (blag3 u)) (blag2 u)) u) (blag1 u)

theorem bs3_at (n u : FVec Ideal S4112x128 .f32) (p : Fin 4112) (d : Fin 128) : bs3 n u (ix2 p d) = (∑ k ∈ Finset.range 16, bu u d (p.val + k)) - n (ix2 p d) := by
  show (((((((((((((((-n (ix2 p d) + blag15 u (ix2 p d)) + blag14 u (ix2 p d)) + blag13 u (ix2 p d)) + blag12 u (ix2 p d)) + blag11 u (ix2 p d)) + blag10 u (ix2 p d)) + blag9 u (ix2 p d)) + blag8 u (ix2 p d)) + blag7 u (ix2 p d)) + blag6 u (ix2 p d)) + blag5 u (ix2 p d)) + blag4 u (ix2 p d)) + blag3 u (ix2 p d)) + blag2 u (ix2 p d)) + u (ix2 p d)) + blag1 u (ix2 p d) = _
  rw [blag15_at, blag14_at, blag13_at, blag12_at, blag11_at, blag10_at, blag9_at, blag8_at, blag7_at, blag6_at, blag5_at, blag4_at, blag3_at, blag2_at, blag1_at, bu_0 u p d, sub_eq_add_neg]
  simp only [Finset.sum_range_succ, Finset.sum_range_zero, zero_add]
  ac_rfl

/-- Group 3's weight. -/
def wt3 : FVec Ideal S128x128 .f32 := shapeCast _ (extractStridedSlice S1x128x128 ![3, 0, 0] a2 slices_S4x128x128_S1x128x128_3_0_0) shapeCasts_S1x128x128_S128x128

theorem wt3_at (k d : Fin 128) : wt3 a2 (ix2 k d) = a2 (ix3 ⟨3, by decide⟩ k d) := by
  unfold wt3
  pointwise

/-- Group 3 of the gradient that comes in. -/
def dg3 : FVec Ideal S4112x128 .f32 := extractStridedSlice S4112x128 ![0, 384] (extractStridedSlice S4112x512 ![112, 0] a1 slices_S4224x512_S4112x512_112_0) slices_S4112x512_S4112x128_0_384

theorem dg3_at (p : Fin 4112) (d : Fin 128) : dg3 a1 (ix2 p d) = doV a1 ⟨384 + d.val, by omega⟩ (p.val + 112) := by
  have hp := p.isLt
  unfold dg3 doV
  rw [dif_pos (by omega)]
  pointwise
  exact congrArg a1 (congrArg (fun r => ix2 r _) (Fin.ext (Nat.add_comm _ _)))

/-- Group 3's mixed rows. -/
def mx3 : FVec Ideal S4112x128 .f32 := Host.dotGeneral dot_S4112x128_S128x128_S4112x128_1_0_0_1_n_n none (pool3 (ug3 a0)) (wt3 a2)

theorem mx3_at (p : Fin 4112) (d : Fin 128) : mx3 a0 a2 (ix2 p d) = ∑ k : Fin 128, pooledV a0 16 ⟨384 + k.val, by omega⟩ (p.val + 112) * a2 (ix3 ⟨3, by decide⟩ k d) := by
  simp only [← pool3_at, ← wt3_at]
  unfold mx3
  generalize pool3 (ug3 a0) = u
  generalize wt3 a2 = v
  pointwise

/-- The gradient of group 3's mixed rows. -/
def dm3 : FVec Ideal S4112x128 .f32 := mulf (dg3 a1) (broadcastInDim S4112x128 ![0, 1] bcast_S1x128_S4112x128_0_1 (extractStridedSlice S1x128 ![0, 384] a3 slices_S1x512_S1x128_0_384))

theorem dm3_at (p : Fin 4112) (d : Fin 128) : dm3 a1 a3 (ix2 p d) = dmV a1 a3 ⟨384 + d.val, by omega⟩ (p.val + 112) := by
  unfold dmV
  rw [if_neg (by omega), ← dg3_at]
  unfold dm3
  generalize dg3 a1 = u
  pointwise

/-- An entry of the gradient of group 3's pooled rows. -/
def dpV3 (c : Fin 128) (p : ℕ) : EReal := ∑ d : Fin 128, dmV a1 a3 ⟨384 + d.val, by omega⟩ p * a2 (ix3 ⟨3, by decide⟩ c d)

/-- The gradient of group 3's pooled rows. -/
def dp3 : FVec Ideal S4112x128 .f32 := Host.dotGeneral dot_S4112x128_S128x128_S4112x128_1_1_0_0_n_n none (dm3 a1 a3) (wt3 a2)

theorem dp3_at (p : Fin 4112) (c : Fin 128) : dp3 a1 a2 a3 (ix2 p c) = dpV3 a1 a2 a3 c (p.val + 112) := by
  unfold dpV3
  simp only [← dm3_at, ← wt3_at]
  unfold dp3
  generalize dm3 a1 a3 = u
  generalize wt3 a2 = v
  pointwise

/-- An entry of the gradient of group 3's means. -/
def dvV3 (c : Fin 128) (p : ℕ) : EReal := Ideal.div (dpV3 a1 a2 a3 c p) (FloatOps.sitofp (F := Ideal) .f32 (BitVec.ofNat 32 (min (p - 111) 16)))

theorem dvV3_end (c : Fin 128) (p : ℕ) (h : 4224 ≤ p) : dvV3 a1 a2 a3 c p = 0 := by
  unfold dvV3 dpV3
  simp only [dmV_end a1 a3 _ p h, zero_mul, Finset.sum_const_zero]
  rw [show min (p - 111) 16 = 16 by omega]
  exact Ideal.zero_div (by show ((((16#32 : BitVec 32).toInt : ℤ) : ℝ) : EReal) ≠ 0; rw [show (16#32 : BitVec 32).toInt = 16 from rfl]; norm_num)

theorem bu_dv3 (d : Fin 128) (p : ℕ) : bu (Host.divf (dp3 a1 a2 a3) cnt3) d p = dvV3 a1 a2 a3 d (p + 112) := by
  unfold bu
  by_cases h : p < 4112
  · rw [dif_pos h]
    show Ideal.div (dp3 a1 a2 a3 (ix2 ⟨p, h⟩ d)) (cnt3 (ix2 ⟨p, h⟩ d)) = _
    rw [dp3_at, cnt3_at]
    rfl
  · rw [dif_neg h, dvV3_end _ _ _ _ _ (by omega)]

/-- An entry of the gradient of group 3's inputs. -/
def duV3 (c : Fin 128) (p : ℕ) : EReal :=
  if p < 112 then 0 else (∑ k ∈ Finset.range 16, dvV3 a1 a2 a3 c (p + k)) - dpV3 a1 a2 a3 c p

/-- The gradient of group 3's inputs. -/
def du3 : FVec Ideal S4112x128 .f32 := bs3 (dp3 a1 a2 a3) (Host.divf (dp3 a1 a2 a3) cnt3)

theorem du3_at (p : Fin 4112) (d : Fin 128) : du3 a1 a2 a3 (ix2 p d) = duV3 a1 a2 a3 d (p.val + 112) := by
  unfold du3 duV3
  rw [bs3_at, if_neg (by omega), dp3_at]
  simp only [bu_dv3, Nat.add_right_comm]

/-- The gradient of group 0's scale. -/
def sg0 : FVec Ideal S1x128 .f32 := shapeCast _ (Host.reduceAdd (mulf (mx0 a0 a2) (dg0 a1)) (constant S_ .f32 0x00000000#32) reducesTo_S4112x128_S128_d0 h_S_) shapeCasts_S128_S1x128

/-- An entry of the gradient of group 0's scale. -/
def dsV0 (d : Fin 128) : EReal :=
  ∑ p : Fin 4224, (∑ k : Fin 128, pooledV a0 2 ⟨k.val, by omega⟩ p.val * a2 (ix3 ⟨0, by decide⟩ k d)) * doV a1 ⟨d.val, by omega⟩ p.val

theorem pooledV_pad0 (q : Fin 512) (p : ℕ) (h : p < 112) : pooledV a0 2 q p = 0 := by
  unfold pooledV
  rw [if_pos h]

theorem sg0_at (d : Fin 128) : sg0 a0 a1 a2 (ix2 0 d) = dsV0 a0 a1 a2 d := by
  refine Eq.trans ?_ (sum_pad (fun p => (∑ k : Fin 128, pooledV a0 2 ⟨k.val, by omega⟩ p * a2 (ix3 ⟨0, by decide⟩ k d)) * doV a1 ⟨d.val, by omega⟩ p) ?_)
  · simp only [← mx0_at, ← dg0_at]
    unfold sg0
    generalize mx0 a0 a2 = u
    generalize dg0 a1 = v
    pointwise
  · intro p hp
    simp only [pooledV_pad0 a0 _ p hp, zero_mul, Finset.sum_const_zero]

/-- An entry of the gradient of group 0's weight. -/
def dwV0 (k d : Fin 128) : EReal :=
  ∑ p : Fin 4224, pooledV a0 2 ⟨k.val, by omega⟩ p.val * dmV a1 a3 ⟨d.val, by omega⟩ p.val

theorem dot0_at (k d : Fin 128) :
    Host.dotGeneral dot_S4112x128_S4112x128_S128x128_0_0_1_1_n_n none (dm0 a1 a3) (pool0 (ug0 a0)) (ix2 d k) = dwV0 a0 a1 a3 k d := by
  refine Eq.trans ?_ (sum_pad (fun p => pooledV a0 2 ⟨k.val, by omega⟩ p * dmV a1 a3 ⟨d.val, by omega⟩ p) ?_)
  · simp only [← dm0_at, ← pool0_at]
    generalize dm0 a1 a3 = u
    generalize pool0 (ug0 a0) = v
    pointwise
    exact Finset.sum_congr rfl fun p _ => mul_comm _ _
  · intro p hp
    simp only [pooledV_pad0 a0 _ p hp, zero_mul]

/-- The gradient of group 1's scale. -/
def sg1 : FVec Ideal S1x128 .f32 := shapeCast _ (Host.reduceAdd (mulf (mx1 a0 a2) (dg1 a1)) (constant S_ .f32 0x00000000#32) reducesTo_S4112x128_S128_d0 h_S_) shapeCasts_S128_S1x128

/-- An entry of the gradient of group 1's scale. -/
def dsV1 (d : Fin 128) : EReal :=
  ∑ p : Fin 4224, (∑ k : Fin 128, pooledV a0 4 ⟨128 + k.val, by omega⟩ p.val * a2 (ix3 ⟨1, by decide⟩ k d)) * doV a1 ⟨128 + d.val, by omega⟩ p.val

theorem pooledV_pad1 (q : Fin 512) (p : ℕ) (h : p < 112) : pooledV a0 4 q p = 0 := by
  unfold pooledV
  rw [if_pos h]

theorem sg1_at (d : Fin 128) : sg1 a0 a1 a2 (ix2 0 d) = dsV1 a0 a1 a2 d := by
  refine Eq.trans ?_ (sum_pad (fun p => (∑ k : Fin 128, pooledV a0 4 ⟨128 + k.val, by omega⟩ p * a2 (ix3 ⟨1, by decide⟩ k d)) * doV a1 ⟨128 + d.val, by omega⟩ p) ?_)
  · simp only [← mx1_at, ← dg1_at]
    unfold sg1
    generalize mx1 a0 a2 = u
    generalize dg1 a1 = v
    pointwise
  · intro p hp
    simp only [pooledV_pad1 a0 _ p hp, zero_mul, Finset.sum_const_zero]

/-- An entry of the gradient of group 1's weight. -/
def dwV1 (k d : Fin 128) : EReal :=
  ∑ p : Fin 4224, pooledV a0 4 ⟨128 + k.val, by omega⟩ p.val * dmV a1 a3 ⟨128 + d.val, by omega⟩ p.val

theorem dot1_at (k d : Fin 128) :
    Host.dotGeneral dot_S4112x128_S4112x128_S128x128_0_0_1_1_n_n none (dm1 a1 a3) (pool1 (ug1 a0)) (ix2 d k) = dwV1 a0 a1 a3 k d := by
  refine Eq.trans ?_ (sum_pad (fun p => pooledV a0 4 ⟨128 + k.val, by omega⟩ p * dmV a1 a3 ⟨128 + d.val, by omega⟩ p) ?_)
  · simp only [← dm1_at, ← pool1_at]
    generalize dm1 a1 a3 = u
    generalize pool1 (ug1 a0) = v
    pointwise
    exact Finset.sum_congr rfl fun p _ => mul_comm _ _
  · intro p hp
    simp only [pooledV_pad1 a0 _ p hp, zero_mul]

/-- The gradient of group 2's scale. -/
def sg2 : FVec Ideal S1x128 .f32 := shapeCast _ (Host.reduceAdd (mulf (mx2 a0 a2) (dg2 a1)) (constant S_ .f32 0x00000000#32) reducesTo_S4112x128_S128_d0 h_S_) shapeCasts_S128_S1x128

/-- An entry of the gradient of group 2's scale. -/
def dsV2 (d : Fin 128) : EReal :=
  ∑ p : Fin 4224, (∑ k : Fin 128, pooledV a0 8 ⟨256 + k.val, by omega⟩ p.val * a2 (ix3 ⟨2, by decide⟩ k d)) * doV a1 ⟨256 + d.val, by omega⟩ p.val

theorem pooledV_pad2 (q : Fin 512) (p : ℕ) (h : p < 112) : pooledV a0 8 q p = 0 := by
  unfold pooledV
  rw [if_pos h]

theorem sg2_at (d : Fin 128) : sg2 a0 a1 a2 (ix2 0 d) = dsV2 a0 a1 a2 d := by
  refine Eq.trans ?_ (sum_pad (fun p => (∑ k : Fin 128, pooledV a0 8 ⟨256 + k.val, by omega⟩ p * a2 (ix3 ⟨2, by decide⟩ k d)) * doV a1 ⟨256 + d.val, by omega⟩ p) ?_)
  · simp only [← mx2_at, ← dg2_at]
    unfold sg2
    generalize mx2 a0 a2 = u
    generalize dg2 a1 = v
    pointwise
  · intro p hp
    simp only [pooledV_pad2 a0 _ p hp, zero_mul, Finset.sum_const_zero]

/-- An entry of the gradient of group 2's weight. -/
def dwV2 (k d : Fin 128) : EReal :=
  ∑ p : Fin 4224, pooledV a0 8 ⟨256 + k.val, by omega⟩ p.val * dmV a1 a3 ⟨256 + d.val, by omega⟩ p.val

theorem dot2_at (k d : Fin 128) :
    Host.dotGeneral dot_S4112x128_S4112x128_S128x128_0_0_1_1_n_n none (dm2 a1 a3) (pool2 (ug2 a0)) (ix2 d k) = dwV2 a0 a1 a3 k d := by
  refine Eq.trans ?_ (sum_pad (fun p => pooledV a0 8 ⟨256 + k.val, by omega⟩ p * dmV a1 a3 ⟨256 + d.val, by omega⟩ p) ?_)
  · simp only [← dm2_at, ← pool2_at]
    generalize dm2 a1 a3 = u
    generalize pool2 (ug2 a0) = v
    pointwise
    exact Finset.sum_congr rfl fun p _ => mul_comm _ _
  · intro p hp
    simp only [pooledV_pad2 a0 _ p hp, zero_mul]

/-- The gradient of group 3's scale. -/
def sg3 : FVec Ideal S1x128 .f32 := shapeCast _ (Host.reduceAdd (mulf (mx3 a0 a2) (dg3 a1)) (constant S_ .f32 0x00000000#32) reducesTo_S4112x128_S128_d0 h_S_) shapeCasts_S128_S1x128

/-- An entry of the gradient of group 3's scale. -/
def dsV3 (d : Fin 128) : EReal :=
  ∑ p : Fin 4224, (∑ k : Fin 128, pooledV a0 16 ⟨384 + k.val, by omega⟩ p.val * a2 (ix3 ⟨3, by decide⟩ k d)) * doV a1 ⟨384 + d.val, by omega⟩ p.val

theorem pooledV_pad3 (q : Fin 512) (p : ℕ) (h : p < 112) : pooledV a0 16 q p = 0 := by
  unfold pooledV
  rw [if_pos h]

theorem sg3_at (d : Fin 128) : sg3 a0 a1 a2 (ix2 0 d) = dsV3 a0 a1 a2 d := by
  refine Eq.trans ?_ (sum_pad (fun p => (∑ k : Fin 128, pooledV a0 16 ⟨384 + k.val, by omega⟩ p * a2 (ix3 ⟨3, by decide⟩ k d)) * doV a1 ⟨384 + d.val, by omega⟩ p) ?_)
  · simp only [← mx3_at, ← dg3_at]
    unfold sg3
    generalize mx3 a0 a2 = u
    generalize dg3 a1 = v
    pointwise
  · intro p hp
    simp only [pooledV_pad3 a0 _ p hp, zero_mul, Finset.sum_const_zero]

/-- An entry of the gradient of group 3's weight. -/
def dwV3 (k d : Fin 128) : EReal :=
  ∑ p : Fin 4224, pooledV a0 16 ⟨384 + k.val, by omega⟩ p.val * dmV a1 a3 ⟨384 + d.val, by omega⟩ p.val

theorem dot3_at (k d : Fin 128) :
    Host.dotGeneral dot_S4112x128_S4112x128_S128x128_0_0_1_1_n_n none (dm3 a1 a3) (pool3 (ug3 a0)) (ix2 d k) = dwV3 a0 a1 a3 k d := by
  refine Eq.trans ?_ (sum_pad (fun p => pooledV a0 16 ⟨384 + k.val, by omega⟩ p * dmV a1 a3 ⟨384 + d.val, by omega⟩ p) ?_)
  · simp only [← dm3_at, ← pool3_at]
    generalize dm3 a1 a3 = u
    generalize pool3 (ug3 a0) = v
    pointwise
    exact Finset.sum_congr rfl fun p _ => mul_comm _ _
  · intro p hp
    simp only [pooledV_pad3 a0 _ p hp, zero_mul]

/-- The gradient of the projection's lanes, as the reference computes it. -/
def refDu (a0 : FVec Ideal S4112x4608 .f32) (a1 : FVec Ideal S4224x512 .f32) (a2 : FVec Ideal S4x128x128 .f32) (a3 : FVec Ideal S1x512 .f32) : FVec Ideal S4224x512 .bf16 :=
  truncf .bf16 (concatenate S4224x512 0 [⟨S112x512, (broadcastInDim S112x512 ![] bcast_S_S112x512 (constant S_ .f32 0x00000000#32))⟩, ⟨S4112x512, (addf (addf (addf (pad S4112x512 ![0, 384] ![0, 0] ![0, 0] (du3 a1 a2 a3) (constant S_ .f32 0x00000000#32) pads_S4112x128_S4112x512_000_38400 h_S_) (pad S4112x512 ![0, 256] ![0, 128] ![0, 0] (du2 a1 a2 a3) (constant S_ .f32 0x00000000#32) pads_S4112x128_S4112x512_000_2561280 h_S_)) (pad S4112x512 ![0, 128] ![0, 256] ![0, 0] (du1 a1 a2 a3) (constant S_ .f32 0x00000000#32) pads_S4112x128_S4112x512_000_1282560 h_S_)) (pad S4112x512 ![0, 0] ![0, 384] ![0, 0] (du0 a1 a2 a3) (constant S_ .f32 0x00000000#32) pads_S4112x128_S4112x512_000_03840 h_S_))⟩] concatenates_S112x512_S4112x512_S4224x512_d0) bitsLt_bf16_f32

/-- The gradient of the weights, as the reference computes it. -/
def refDw (a0 : FVec Ideal S4112x4608 .f32) (a1 : FVec Ideal S4224x512 .f32) (a2 : FVec Ideal S4x128x128 .f32) (a3 : FVec Ideal S1x512 .f32) : FVec Ideal S512x128 .f32 :=
  shapeCast _ (addf (addf (addf (pad S4x128x128 ![3, 0, 0] ![0, 0, 0] ![0, 0, 0] (broadcastInDim S1x128x128 ![1, 2] bcast_S128x128_S1x128x128_1_2 (transpose S128x128 [1, 0] (Host.dotGeneral dot_S4112x128_S4112x128_S128x128_0_0_1_1_n_n none (dm3 a1 a3) (pool3 (ug3 a0))) transposes_S128x128_S128x128_1_0)) (constant S_ .f32 0x00000000#32) pads_S1x128x128_S4x128x128_300_000_000 h_S_) (pad S4x128x128 ![2, 0, 0] ![1, 0, 0] ![0, 0, 0] (broadcastInDim S1x128x128 ![1, 2] bcast_S128x128_S1x128x128_1_2 (transpose S128x128 [1, 0] (Host.dotGeneral dot_S4112x128_S4112x128_S128x128_0_0_1_1_n_n none (dm2 a1 a3) (pool2 (ug2 a0))) transposes_S128x128_S128x128_1_0)) (constant S_ .f32 0x00000000#32) pads_S1x128x128_S4x128x128_210_000_000 h_S_)) (pad S4x128x128 ![1, 0, 0] ![2, 0, 0] ![0, 0, 0] (broadcastInDim S1x128x128 ![1, 2] bcast_S128x128_S1x128x128_1_2 (transpose S128x128 [1, 0] (Host.dotGeneral dot_S4112x128_S4112x128_S128x128_0_0_1_1_n_n none (dm1 a1 a3) (pool1 (ug1 a0))) transposes_S128x128_S128x128_1_0)) (constant S_ .f32 0x00000000#32) pads_S1x128x128_S4x128x128_120_000_000 h_S_)) (pad S4x128x128 ![0, 0, 0] ![3, 0, 0] ![0, 0, 0] (broadcastInDim S1x128x128 ![1, 2] bcast_S128x128_S1x128x128_1_2 (transpose S128x128 [1, 0] (Host.dotGeneral dot_S4112x128_S4112x128_S128x128_0_0_1_1_n_n none (dm0 a1 a3) (pool0 (ug0 a0))) transposes_S128x128_S128x128_1_0)) (constant S_ .f32 0x00000000#32) pads_S1x128x128_S4x128x128_030_000_000 h_S_)) shapeCasts_S4x128x128_S512x128

/-- The gradient of the scales, as the reference computes it. -/
def refDs (a0 : FVec Ideal S4112x4608 .f32) (a1 : FVec Ideal S4224x512 .f32) (a2 : FVec Ideal S4x128x128 .f32) (a3 : FVec Ideal S1x512 .f32) : FVec Ideal S1x512 .f32 :=
  addf (addf (addf (pad S1x512 ![0, 384] ![0, 0] ![0, 0] (sg3 a0 a1 a2) (constant S_ .f32 0x00000000#32) pads_S1x128_S1x512_000_38400 h_S_) (pad S1x512 ![0, 256] ![0, 128] ![0, 0] (sg2 a0 a1 a2) (constant S_ .f32 0x00000000#32) pads_S1x128_S1x512_000_2561280 h_S_)) (pad S1x512 ![0, 128] ![0, 256] ![0, 0] (sg1 a0 a1 a2) (constant S_ .f32 0x00000000#32) pads_S1x128_S1x512_000_1282560 h_S_)) (pad S1x512 ![0, 0] ![0, 384] ![0, 0] (sg0 a0 a1 a2) (constant S_ .f32 0x00000000#32) pads_S1x128_S1x512_000_03840 h_S_)

theorem refDs_0 (d : Fin 128) : refDs a0 a1 a2 a3 (ix2 0 ⟨d.val, by omega⟩) = dsV0 a0 a1 a2 d := by
  rw [← sg0_at]
  unfold refDs
  generalize sg0 a0 a1 a2 = u0
  generalize sg1 a0 a1 a2 = u1
  generalize sg2 a0 a1 a2 = u2
  generalize sg3 a0 a1 a2 = u3
  pointwise
  split_ifs <;> first | (exfalso; omega) | (simp; done) | (exfalso; simp_all; done) | (simp; exact congrArg _ (congrArg (ix2 _) (Fin.ext (Nat.mod_eq_of_lt (by omega)))))

theorem refDw_0 (k d : Fin 128) : refDw a0 a1 a2 a3 (ix2 ⟨k.val, by omega⟩ d) = dwV0 a0 a1 a3 k d := by
  rw [← dot0_at]
  unfold refDw
  generalize Host.dotGeneral dot_S4112x128_S4112x128_S128x128_0_0_1_1_n_n none (dm0 a1 a3) (pool0 (ug0 a0)) = u0
  generalize Host.dotGeneral dot_S4112x128_S4112x128_S128x128_0_0_1_1_n_n none (dm1 a1 a3) (pool1 (ug1 a0)) = u1
  generalize Host.dotGeneral dot_S4112x128_S4112x128_S128x128_0_0_1_1_n_n none (dm2 a1 a3) (pool2 (ug2 a0)) = u2
  generalize Host.dotGeneral dot_S4112x128_S4112x128_S128x128_0_0_1_1_n_n none (dm3 a1 a3) (pool3 (ug3 a0)) = u3
  pointwise
  split_ifs <;> first | (exfalso; omega) | (simp; done) | (exfalso; simp_all; done) | (simp; exact congrArg _ (congrArg (ix2 _) (Fin.ext (Nat.mod_eq_of_lt (by omega)))))

theorem refDu_0 (p : Fin 4224) (d : Fin 128) : refDu a0 a1 a2 a3 (ix2 p ⟨d.val, by omega⟩) = duV0 a1 a2 a3 d p.val := by
  have hp := p.isLt
  by_cases h : p.val < 112
  · unfold duV0
    rw [if_pos h]
    unfold refDu
    pointwise
    rw [dif_pos h]
  · have e := du0_at a1 a2 a3 ⟨p.val - 112, by omega⟩ d
    have e2 : p.val - 112 + 112 = p.val := by omega
    simp only [e2] at e
    rw [← e]
    unfold refDu
    generalize du0 a1 a2 a3 = u0
    generalize du1 a1 a2 a3 = u1
    generalize du2 a1 a2 a3 = u2
    generalize du3 a1 a2 a3 = u3
    pointwise
    rw [dif_neg h]
    split_ifs <;> first | (exfalso; omega) | (simp; done) | (exfalso; simp_all; done) | (rw [dif_neg (by omega), dif_neg (by omega)]; simp; done) | (rw [dif_neg (by omega), dif_neg (by omega), dif_neg (by omega)]; simp; done) | (simp; exact congrArg _ (congrArg (ix2 _) (Fin.ext (Nat.mod_eq_of_lt (by omega)))))

theorem refDs_1 (d : Fin 128) : refDs a0 a1 a2 a3 (ix2 0 ⟨128 + d.val, by omega⟩) = dsV1 a0 a1 a2 d := by
  rw [← sg1_at]
  unfold refDs
  generalize sg0 a0 a1 a2 = u0
  generalize sg1 a0 a1 a2 = u1
  generalize sg2 a0 a1 a2 = u2
  generalize sg3 a0 a1 a2 = u3
  pointwise
  split_ifs <;> first | (exfalso; omega) | (simp; done) | (exfalso; simp_all; done) | (simp; exact congrArg _ (congrArg (ix2 _) (Fin.ext (Nat.mod_eq_of_lt (by omega)))))

theorem refDw_1 (k d : Fin 128) : refDw a0 a1 a2 a3 (ix2 ⟨128 + k.val, by omega⟩ d) = dwV1 a0 a1 a3 k d := by
  rw [← dot1_at]
  unfold refDw
  generalize Host.dotGeneral dot_S4112x128_S4112x128_S128x128_0_0_1_1_n_n none (dm0 a1 a3) (pool0 (ug0 a0)) = u0
  generalize Host.dotGeneral dot_S4112x128_S4112x128_S128x128_0_0_1_1_n_n none (dm1 a1 a3) (pool1 (ug1 a0)) = u1
  generalize Host.dotGeneral dot_S4112x128_S4112x128_S128x128_0_0_1_1_n_n none (dm2 a1 a3) (pool2 (ug2 a0)) = u2
  generalize Host.dotGeneral dot_S4112x128_S4112x128_S128x128_0_0_1_1_n_n none (dm3 a1 a3) (pool3 (ug3 a0)) = u3
  pointwise
  split_ifs <;> first | (exfalso; omega) | (simp; done) | (exfalso; simp_all; done) | (simp; exact congrArg _ (congrArg (ix2 _) (Fin.ext (Nat.mod_eq_of_lt (by omega)))))

theorem refDu_1 (p : Fin 4224) (d : Fin 128) : refDu a0 a1 a2 a3 (ix2 p ⟨128 + d.val, by omega⟩) = duV1 a1 a2 a3 d p.val := by
  have hp := p.isLt
  by_cases h : p.val < 112
  · unfold duV1
    rw [if_pos h]
    unfold refDu
    pointwise
    rw [dif_pos h]
  · have e := du1_at a1 a2 a3 ⟨p.val - 112, by omega⟩ d
    have e2 : p.val - 112 + 112 = p.val := by omega
    simp only [e2] at e
    rw [← e]
    unfold refDu
    generalize du0 a1 a2 a3 = u0
    generalize du1 a1 a2 a3 = u1
    generalize du2 a1 a2 a3 = u2
    generalize du3 a1 a2 a3 = u3
    pointwise
    rw [dif_neg h]
    split_ifs <;> first | (exfalso; omega) | (simp; done) | (exfalso; simp_all; done) | (rw [dif_neg (by omega), dif_neg (by omega)]; simp; done) | (rw [dif_neg (by omega), dif_neg (by omega), dif_neg (by omega)]; simp; done) | (simp; exact congrArg _ (congrArg (ix2 _) (Fin.ext (Nat.mod_eq_of_lt (by omega)))))

theorem refDs_2 (d : Fin 128) : refDs a0 a1 a2 a3 (ix2 0 ⟨256 + d.val, by omega⟩) = dsV2 a0 a1 a2 d := by
  rw [← sg2_at]
  unfold refDs
  generalize sg0 a0 a1 a2 = u0
  generalize sg1 a0 a1 a2 = u1
  generalize sg2 a0 a1 a2 = u2
  generalize sg3 a0 a1 a2 = u3
  pointwise
  split_ifs <;> first | (exfalso; omega) | (simp; done) | (exfalso; simp_all; done) | (simp; exact congrArg _ (congrArg (ix2 _) (Fin.ext (Nat.mod_eq_of_lt (by omega)))))

theorem refDw_2 (k d : Fin 128) : refDw a0 a1 a2 a3 (ix2 ⟨256 + k.val, by omega⟩ d) = dwV2 a0 a1 a3 k d := by
  rw [← dot2_at]
  unfold refDw
  generalize Host.dotGeneral dot_S4112x128_S4112x128_S128x128_0_0_1_1_n_n none (dm0 a1 a3) (pool0 (ug0 a0)) = u0
  generalize Host.dotGeneral dot_S4112x128_S4112x128_S128x128_0_0_1_1_n_n none (dm1 a1 a3) (pool1 (ug1 a0)) = u1
  generalize Host.dotGeneral dot_S4112x128_S4112x128_S128x128_0_0_1_1_n_n none (dm2 a1 a3) (pool2 (ug2 a0)) = u2
  generalize Host.dotGeneral dot_S4112x128_S4112x128_S128x128_0_0_1_1_n_n none (dm3 a1 a3) (pool3 (ug3 a0)) = u3
  pointwise
  split_ifs <;> first | (exfalso; omega) | (simp; done) | (exfalso; simp_all; done) | (simp; exact congrArg _ (congrArg (ix2 _) (Fin.ext (Nat.mod_eq_of_lt (by omega)))))

theorem refDu_2 (p : Fin 4224) (d : Fin 128) : refDu a0 a1 a2 a3 (ix2 p ⟨256 + d.val, by omega⟩) = duV2 a1 a2 a3 d p.val := by
  have hp := p.isLt
  by_cases h : p.val < 112
  · unfold duV2
    rw [if_pos h]
    unfold refDu
    pointwise
    rw [dif_pos h]
  · have e := du2_at a1 a2 a3 ⟨p.val - 112, by omega⟩ d
    have e2 : p.val - 112 + 112 = p.val := by omega
    simp only [e2] at e
    rw [← e]
    unfold refDu
    generalize du0 a1 a2 a3 = u0
    generalize du1 a1 a2 a3 = u1
    generalize du2 a1 a2 a3 = u2
    generalize du3 a1 a2 a3 = u3
    pointwise
    rw [dif_neg h]
    split_ifs <;> first | (exfalso; omega) | (simp; done) | (exfalso; simp_all; done) | (rw [dif_neg (by omega), dif_neg (by omega)]; simp; done) | (rw [dif_neg (by omega), dif_neg (by omega), dif_neg (by omega)]; simp; done) | (simp; exact congrArg _ (congrArg (ix2 _) (Fin.ext (Nat.mod_eq_of_lt (by omega)))))

theorem refDs_3 (d : Fin 128) : refDs a0 a1 a2 a3 (ix2 0 ⟨384 + d.val, by omega⟩) = dsV3 a0 a1 a2 d := by
  rw [← sg3_at]
  unfold refDs
  generalize sg0 a0 a1 a2 = u0
  generalize sg1 a0 a1 a2 = u1
  generalize sg2 a0 a1 a2 = u2
  generalize sg3 a0 a1 a2 = u3
  pointwise
  split_ifs <;> first | (exfalso; omega) | (simp; done) | (exfalso; simp_all; done) | (simp; exact congrArg _ (congrArg (ix2 _) (Fin.ext (Nat.mod_eq_of_lt (by omega)))))

theorem refDw_3 (k d : Fin 128) : refDw a0 a1 a2 a3 (ix2 ⟨384 + k.val, by omega⟩ d) = dwV3 a0 a1 a3 k d := by
  rw [← dot3_at]
  unfold refDw
  generalize Host.dotGeneral dot_S4112x128_S4112x128_S128x128_0_0_1_1_n_n none (dm0 a1 a3) (pool0 (ug0 a0)) = u0
  generalize Host.dotGeneral dot_S4112x128_S4112x128_S128x128_0_0_1_1_n_n none (dm1 a1 a3) (pool1 (ug1 a0)) = u1
  generalize Host.dotGeneral dot_S4112x128_S4112x128_S128x128_0_0_1_1_n_n none (dm2 a1 a3) (pool2 (ug2 a0)) = u2
  generalize Host.dotGeneral dot_S4112x128_S4112x128_S128x128_0_0_1_1_n_n none (dm3 a1 a3) (pool3 (ug3 a0)) = u3
  pointwise
  split_ifs <;> first | (exfalso; omega) | (simp; done) | (exfalso; simp_all; done) | (simp; exact congrArg _ (congrArg (ix2 _) (Fin.ext (Nat.mod_eq_of_lt (by omega)))))

theorem refDu_3 (p : Fin 4224) (d : Fin 128) : refDu a0 a1 a2 a3 (ix2 p ⟨384 + d.val, by omega⟩) = duV3 a1 a2 a3 d p.val := by
  have hp := p.isLt
  by_cases h : p.val < 112
  · unfold duV3
    rw [if_pos h]
    unfold refDu
    pointwise
    rw [dif_pos h]
  · have e := du3_at a1 a2 a3 ⟨p.val - 112, by omega⟩ d
    have e2 : p.val - 112 + 112 = p.val := by omega
    simp only [e2] at e
    rw [← e]
    unfold refDu
    generalize du0 a1 a2 a3 = u0
    generalize du1 a1 a2 a3 = u1
    generalize du2 a1 a2 a3 = u2
    generalize du3 a1 a2 a3 = u3
    pointwise
    rw [dif_neg h]
    split_ifs <;> first | (exfalso; omega) | (simp; done) | (exfalso; simp_all; done) | (rw [dif_neg (by omega), dif_neg (by omega)]; simp; done) | (rw [dif_neg (by omega), dif_neg (by omega), dif_neg (by omega)]; simp; done) | (simp; exact congrArg _ (congrArg (ix2 _) (Fin.ext (Nat.mod_eq_of_lt (by omega)))))

end Cert.Reference14Ideal.Value

end
-- ==== Proof.ValuePoolBwd.lean ====
/- The values of the gradient of the multi-scale pooling heads (the kernel `pool_bwd`). -/
module

public import proofs.«01_k».proof.Proof.PoolSums
public import proofs.«01_k».proof.Proof.PoolRefB
public import proofs.«01_k».proof.Proof.ValuePoolFwd
public import proofs.«01_k».proof.Proof.Finite
public import Idealize.ShloMosaic.Lib.Pipeline.ReadBack
public import Idealize.ShloMosaic.Lib.Claim
public import Idealize.ShloMosaic.Lib.Pipeline.ValueKit
public import Idealize.ShloMosaic.Lib.Pointwise
public import proofs.«01_k».proof.Proof.Gen.Kernel14Ideal.Value
public import proofs.«01_k».proof.Proof.Gen.Reference14Ideal.Run

@[expose] public section

set_option maxRecDepth 16384

noncomputable section

open Idealize.ShloMosaic Idealize.ShloMosaic.TcCoe Idealize.SL.Sem
open Idealize.ShloMosaic.Pipeline (Dat)
open scoped BigOperators

namespace Cert.Kernel14Ideal.Value

open Cert.Kernel14Ideal Cert.Kernel14Ideal.Gen Cert.Reference14Ideal.Value Cert.Reference15Ideal.Value
open Cert.Kernel15Ideal.Value (extv)

/-- Group 0's window sums. -/
theorem wsum0 (v0 v2 : FVec Ideal S128x512 .f32) (i d : Fin 128) :
    (k0_pay8 (F := Ideal) v0 v2 : FVec Ideal S160x512 .f32) (ix2 (⟨32 + i.val, by omega⟩ : Fin 160) ⟨d.val, by omega⟩) = ∑ k ∈ Finset.range 2, extv v0 v2 ⟨d.val, by omega⟩ (32 + i.val - k) := by
  have e : extractStridedSlice (s := S160x512) (α := EReal) S128x512 ![32, 0] (k0_pay8 (F := Ideal) v0 v2) slices_S160x512_o32_0_S128x512 (ix2 i ⟨d.val, by omega⟩) = _ := Cert.Kernel15Ideal.Value.wsum0 v0 v2 i d
  refine (extractStridedSlice_apply _ _ _ _ (ix2 (⟨32 + i.val, by omega⟩ : Fin 160) ⟨d.val, by omega⟩) ?_).symm.trans e
  intro b; fin_cases b <;> simp [ix2]

/-- Group 1's window sums. -/
theorem wsum1 (v0 v2 : FVec Ideal S128x512 .f32) (i d : Fin 128) :
    (k0_pay8 (F := Ideal) v0 v2 : FVec Ideal S160x512 .f32) (ix2 (⟨32 + i.val, by omega⟩ : Fin 160) ⟨128 + d.val, by omega⟩) = ∑ k ∈ Finset.range 4, extv v0 v2 ⟨128 + d.val, by omega⟩ (32 + i.val - k) := by
  have e : extractStridedSlice (s := S160x512) (α := EReal) S128x512 ![32, 0] (k0_pay8 (F := Ideal) v0 v2) slices_S160x512_o32_0_S128x512 (ix2 i ⟨128 + d.val, by omega⟩) = _ := Cert.Kernel15Ideal.Value.wsum1 v0 v2 i d
  refine (extractStridedSlice_apply _ _ _ _ (ix2 (⟨32 + i.val, by omega⟩ : Fin 160) ⟨128 + d.val, by omega⟩) ?_).symm.trans e
  intro b; fin_cases b <;> simp [ix2]

/-- Group 2's window sums. -/
theorem wsum2 (v0 v2 : FVec Ideal S128x512 .f32) (i d : Fin 128) :
    (k0_pay8 (F := Ideal) v0 v2 : FVec Ideal S160x512 .f32) (ix2 (⟨32 + i.val, by omega⟩ : Fin 160) ⟨256 + d.val, by omega⟩) = ∑ k ∈ Finset.range 8, extv v0 v2 ⟨256 + d.val, by omega⟩ (32 + i.val - k) := by
  have e : extractStridedSlice (s := S160x512) (α := EReal) S128x512 ![32, 0] (k0_pay8 (F := Ideal) v0 v2) slices_S160x512_o32_0_S128x512 (ix2 i ⟨256 + d.val, by omega⟩) = _ := Cert.Kernel15Ideal.Value.wsum2 v0 v2 i d
  refine (extractStridedSlice_apply _ _ _ _ (ix2 (⟨32 + i.val, by omega⟩ : Fin 160) ⟨256 + d.val, by omega⟩) ?_).symm.trans e
  intro b; fin_cases b <;> simp [ix2]

/-- Group 3's window sums. -/
theorem wsum3 (v0 v2 : FVec Ideal S128x512 .f32) (i d : Fin 128) :
    (k0_pay8 (F := Ideal) v0 v2 : FVec Ideal S160x512 .f32) (ix2 (⟨32 + i.val, by omega⟩ : Fin 160) ⟨384 + d.val, by omega⟩) = ∑ k ∈ Finset.range 16, extv v0 v2 ⟨384 + d.val, by omega⟩ (32 + i.val - k) := by
  have e : extractStridedSlice (s := S160x512) (α := EReal) S128x512 ![32, 0] (k0_pay8 (F := Ideal) v0 v2) slices_S160x512_o32_0_S128x512 (ix2 i ⟨384 + d.val, by omega⟩) = _ := Cert.Kernel15Ideal.Value.wsum3 v0 v2 i d
  refine (extractStridedSlice_apply _ _ _ _ (ix2 (⟨32 + i.val, by omega⟩ : Fin 160) ⟨384 + d.val, by omega⟩) ?_).symm.trans e
  intro b; fin_cases b <;> simp [ix2]

variable (m : (ℓ : Loc nD τ sig) → Buf (Elt Ideal) ℓ)

/-- Every window's block index at every grid point. -/
theorem idx_val : ∀ t : Fin cfg0.N, win0_0.index t = ![t.val - 1, 6] ∧ win0_1.index t = ![t.val, 6] ∧ win0_2.index t = ![t.val, 0] ∧ win0_3.index t = ![min (t.val + 1) 32, 0] ∧ win0_4.index t = ![0, 0] ∧ win0_5.index t = ![0, 0] ∧ win0_6.index t = ![t.val, 0] ∧ win0_7.index t = ![0, 0] ∧ win0_8.index t = ![0, 0] :=
  (by decide +kernel : ∀ t : Fin grid0.N, _)

/-- The rows of the pad are masked. -/
theorem mask : ∀ t : Fin grid0.N, ∀ i : Fin 128, IntOp.cmpi CmpIPredicate.sge (IntOp.subi (IntOp.addi (Scalar.muli (BitVec.ofNat 32 (grid0.coords t 0).val) 128#32) (BitVec.ofNat 32 i.val)) 112#32) 0#32 = if 128 * t.val + i.val < 112 then 0#1 else 1#1 := by
  decide +kernel

/-- The count of a row's window. -/
theorem kcnt0 : ∀ t : Fin grid0.N, ∀ i : Fin 128, ¬ 128 * t.val + i.val < 112 → IntOp.minsi (2#32) (IntOp.maxsi (1#32) (IntOp.addi (IntOp.subi (IntOp.addi (Scalar.muli (BitVec.ofNat 32 (grid0.coords t 0).val) 128#32) (BitVec.ofNat 32 i.val)) 112#32) 1#32)) = BitVec.ofNat 32 (min (128 * t.val + i.val - 111) 2) := by
  decide +kernel

/-- The count of a row's window. -/
theorem kcnt1 : ∀ t : Fin grid0.N, ∀ i : Fin 128, ¬ 128 * t.val + i.val < 112 → IntOp.minsi (4#32) (IntOp.maxsi (1#32) (IntOp.addi (IntOp.subi (IntOp.addi (Scalar.muli (BitVec.ofNat 32 (grid0.coords t 0).val) 128#32) (BitVec.ofNat 32 i.val)) 112#32) 1#32)) = BitVec.ofNat 32 (min (128 * t.val + i.val - 111) 4) := by
  decide +kernel

/-- The count of a row's window. -/
theorem kcnt2 : ∀ t : Fin grid0.N, ∀ i : Fin 128, ¬ 128 * t.val + i.val < 112 → IntOp.minsi (8#32) (IntOp.maxsi (1#32) (IntOp.addi (IntOp.subi (IntOp.addi (Scalar.muli (BitVec.ofNat 32 (grid0.coords t 0).val) 128#32) (BitVec.ofNat 32 i.val)) 112#32) 1#32)) = BitVec.ofNat 32 (min (128 * t.val + i.val - 111) 8) := by
  decide +kernel

/-- The count of a row's window. -/
theorem kcnt3 : ∀ t : Fin grid0.N, ∀ i : Fin 128, ¬ 128 * t.val + i.val < 112 → IntOp.minsi (16#32) (IntOp.maxsi (1#32) (IntOp.addi (IntOp.subi (IntOp.addi (Scalar.muli (BitVec.ofNat 32 (grid0.coords t 0).val) 128#32) (BitVec.ofNat 32 i.val)) 112#32) 1#32)) = BitVec.ofNat 32 (min (128 * t.val + i.val - 111) 16) := by
  decide +kernel

/-- An entry of the padded projection's block. -/
theorem cur (c : Dev nD) (t : Fin cfg0.N) (i : Fin 128) (q : Fin 512) :
    iblk m c 1 t (ix2 i q) = pv (m (c.tc.loc main_arg0)) q (128 * t.val + i.val) := by
  have ht : t.val < 33 := t.isLt
  have hi := i.isLt
  have e : ((View.whole main_v1).slice (win0_1.rect t)).emb (ix2 i q) = ix2 ⟨128 * t.val + i.val, by omega⟩ ⟨3072 + q.val, by omega⟩ := by blk_ext [idx_val t]
  blk_simp [iblk]; rw [e]; entry_read; pointwise
  unfold pv
  by_cases h : 128 * t.val + i.val < 112
  · rw [dif_pos h, if_pos h]
  · rw [dif_neg h, if_neg h, dif_pos (by omega)]

/-- An entry of the block before it. -/
theorem prev (c : Dev nD) (t : Fin cfg0.N) (i : Fin 128) (q : Fin 512) :
    iblk m c 0 t (ix2 i q) = pv (m (c.tc.loc main_arg0)) q (128 * (t.val - 1) + i.val) := by
  have ht : t.val < 33 := t.isLt
  have hi := i.isLt
  have e : ((View.whole main_v1).slice (win0_0.rect t)).emb (ix2 i q) = ix2 ⟨128 * (t.val - 1) + i.val, by omega⟩ ⟨3072 + q.val, by omega⟩ := by blk_ext [idx_val t]
  blk_simp [iblk]; rw [e]; entry_read; pointwise
  unfold pv
  by_cases h : 128 * (t.val - 1) + i.val < 112
  · rw [dif_pos h, if_pos h]
  · rw [dif_neg h, if_neg h, dif_pos (by omega)]

/-- A row at most 15 before a row of the block. -/
theorem back (c : Dev nD) (t : Fin cfg0.N) (i : Fin 128) (q : Fin 512) (k : ℕ) (hk : k < 16) (h : ¬ 128 * t.val + i.val < 112) :
    extv (iblk m c 0 t) (iblk m c 1 t) q (32 + i.val - k) = pv (m (c.tc.loc main_arg0)) q (128 * t.val + i.val - k) := by
  have hi := i.isLt
  unfold extv
  by_cases h1 : 32 + i.val - k < 32
  · rw [dif_pos h1, prev]; congr 1; show 128 * (t.val - 1) + (96 + (32 + i.val - k)) = _; omega
  · rw [dif_neg h1, dif_pos (by omega), cur]; congr 1; show 128 * t.val + (32 + i.val - k - 32) = _; omega

/-- The block's pooled rows. -/
def poolB (c : Dev nD) (t : Fin cfg0.N) : FVec Ideal S128x512 .f32 := (k0_pay9 (k0_pay6 (iblk m c 1 t)) (k0_pay7 (grid0.coords t)) (k0_pay8 (iblk m c 0 t) (iblk m c 1 t)))

/-- A pooled entry of group 0. -/
theorem pooled0 (c : Dev nD) (t : Fin cfg0.N) (i d : Fin 128) :
    poolB m c t (ix2 i ⟨d.val, by omega⟩) = pooledV (m (c.tc.loc main_arg0)) 2 ⟨d.val, by omega⟩ (128 * t.val + i.val) := by
  have e := wsum0 (iblk m c 0 t) (iblk m c 1 t) i d
  have e1 := cur m c t i ⟨d.val, by omega⟩
  revert e
  unfold poolB
  generalize k0_pay8 (F := Ideal) (iblk m c 0 t) (iblk m c 1 t) = v37
  intro e
  unfold pooledV
  pointwise [k0_pay9, k0_pay6, k0_pay7]
  rw [mask, e, e1]
  by_cases h : 128 * t.val + i.val < 112
  · simp [h, Scalar.select]
  · have n0 : (d.val < 128) = True := eq_true (by omega)
    have n1 : True := trivial
    have n2 : True := trivial
    skip
    rw [kcnt0 t i h, Finset.sum_congr rfl (fun k hk => back m c t i _ k (by have := Finset.mem_range.mp hk; omega) h)]
    simp [h, Scalar.select]

/-- A pooled entry of group 1. -/
theorem pooled1 (c : Dev nD) (t : Fin cfg0.N) (i d : Fin 128) :
    poolB m c t (ix2 i ⟨128 + d.val, by omega⟩) = pooledV (m (c.tc.loc main_arg0)) 4 ⟨128 + d.val, by omega⟩ (128 * t.val + i.val) := by
  have e := wsum1 (iblk m c 0 t) (iblk m c 1 t) i d
  have e1 := cur m c t i ⟨128 + d.val, by omega⟩
  revert e
  unfold poolB
  generalize k0_pay8 (F := Ideal) (iblk m c 0 t) (iblk m c 1 t) = v37
  intro e
  unfold pooledV
  pointwise [k0_pay9, k0_pay6, k0_pay7]
  rw [mask, e, e1]
  by_cases h : 128 * t.val + i.val < 112
  · simp [h, Scalar.select]
  · have n0 : (128 + d.val < 128) = False := eq_false (by omega)
    have n1 : (128 + d.val - 128 < 128) = True := eq_true (by omega)
    have n2 : True := trivial
    skip
    rw [kcnt1 t i h, Finset.sum_congr rfl (fun k hk => back m c t i _ k (by have := Finset.mem_range.mp hk; omega) h)]
    simp [h, Scalar.select]

/-- A pooled entry of group 2. -/
theorem pooled2 (c : Dev nD) (t : Fin cfg0.N) (i d : Fin 128) :
    poolB m c t (ix2 i ⟨256 + d.val, by omega⟩) = pooledV (m (c.tc.loc main_arg0)) 8 ⟨256 + d.val, by omega⟩ (128 * t.val + i.val) := by
  have e := wsum2 (iblk m c 0 t) (iblk m c 1 t) i d
  have e1 := cur m c t i ⟨256 + d.val, by omega⟩
  revert e
  unfold poolB
  generalize k0_pay8 (F := Ideal) (iblk m c 0 t) (iblk m c 1 t) = v37
  intro e
  unfold pooledV
  pointwise [k0_pay9, k0_pay6, k0_pay7]
  rw [mask, e, e1]
  by_cases h : 128 * t.val + i.val < 112
  · simp [h, Scalar.select]
  · have n0 : (256 + d.val < 128) = False := eq_false (by omega)
    have n1 : (256 + d.val - 128 < 128) = False := eq_false (by omega)
    have n2 : (256 + d.val - 128 - 128 < 128) = True := eq_true (by omega)
    simp only [n0, n1, n2, if_false, if_true]
    rw [kcnt2 t i h, Finset.sum_congr rfl (fun k hk => back m c t i _ k (by have := Finset.mem_range.mp hk; omega) h)]
    simp [h, Scalar.select]

/-- A pooled entry of group 3. -/
theorem pooled3 (c : Dev nD) (t : Fin cfg0.N) (i d : Fin 128) :
    poolB m c t (ix2 i ⟨384 + d.val, by omega⟩) = pooledV (m (c.tc.loc main_arg0)) 16 ⟨384 + d.val, by omega⟩ (128 * t.val + i.val) := by
  have e := wsum3 (iblk m c 0 t) (iblk m c 1 t) i d
  have e1 := cur m c t i ⟨384 + d.val, by omega⟩
  revert e
  unfold poolB
  generalize k0_pay8 (F := Ideal) (iblk m c 0 t) (iblk m c 1 t) = v37
  intro e
  unfold pooledV
  pointwise [k0_pay9, k0_pay6, k0_pay7]
  rw [mask, e, e1]
  by_cases h : 128 * t.val + i.val < 112
  · simp [h, Scalar.select]
  · have n0 : (384 + d.val < 128) = False := eq_false (by omega)
    have n1 : (384 + d.val - 128 < 128) = False := eq_false (by omega)
    have n2 : (384 + d.val - 128 - 128 < 128) = False := eq_false (by omega)
    simp only [n0, n1, n2, if_false, if_true]
    rw [kcnt3 t i h, Finset.sum_congr rfl (fun k hk => back m c t i _ k (by have := Finset.mem_range.mp hk; omega) h)]
    simp [h, Scalar.select]

/-- The block of the gradient that comes in. -/
theorem dcur (c : Dev nD) (t : Fin cfg0.N) (i : Fin 128) (q : Fin 512) : iblk m c 2 t (ix2 i q) = doV (m (c.tc.loc main_arg1)) q (128 * t.val + i.val) := by
  have ht : t.val < 33 := t.isLt
  have hi := i.isLt
  have e : ((View.whole main_arg1).slice (win0_2.rect t)).emb (ix2 i q) = ix2 ⟨128 * t.val + i.val, by omega⟩ q := by blk_ext [idx_val t]
  unfold doV
  rw [dif_pos (by omega)]
  blk_simp [iblk]; rw [e]; entry_read; rfl

/-- The block after it. -/
theorem dnext (c : Dev nD) (t : Fin cfg0.N) (i : Fin 128) (q : Fin 512) : iblk m c 3 t (ix2 i q) = doV (m (c.tc.loc main_arg1)) q (128 * min (t.val + 1) 32 + i.val) := by
  have ht : t.val < 33 := t.isLt
  have hi := i.isLt
  have e : ((View.whole main_arg1).slice (win0_3.rect t)).emb (ix2 i q) = ix2 ⟨128 * min (t.val + 1) 32 + i.val, by omega⟩ q := by blk_ext [idx_val t]
  unfold doV
  rw [dif_pos (by omega)]
  blk_simp [iblk]; rw [e]; entry_read; rfl

/-- Its first rows. -/
theorem dnext32 (c : Dev nD) (t : Fin cfg0.N) (i : Fin 32) (q : Fin 512) : (View.ld (iblk m c 3 t) (Rect.unit ![0, 0] ![32, 512] inb_S128x512_S32x512_0_0)) (ix2 i q) = doV (m (c.tc.loc main_arg1)) q (128 * min (t.val + 1) 32 + i.val) := by
  have hi := i.isLt
  rw [← dnext m c t ⟨i.val, by omega⟩ q]
  generalize iblk m c 3 t = B
  refine congrArg B ?_
  funext b
  fin_cases b <;> refine Fin.ext ?_
  · show 0 + 1 * i.val = i.val; omega
  · show 0 + 1 * q.val = q.val; omega

/-- The scale's block. -/
theorem scale (c : Dev nD) (t : Fin cfg0.N) (q : Fin 512) : iblk m c 5 t (ix2 0 q) = (m (c.tc.loc main_arg3)) (ix2 0 q) := by
  have e : ((View.whole main_arg3).slice (win0_5.rect t)).emb (ix2 0 q) = ix2 0 q := by blk_ext [idx_val t]
  blk_simp [iblk]; rw [e]; entry_read; rfl

/-- The weights' block. -/
theorem wblk (c : Dev nD) (t : Fin cfg0.N) (r : Fin 512) (d : Fin 128) : iblk m c 4 t (ix2 r d) = (m (c.tc.loc main_arg2)) (ix3 ⟨r.val / 128, by omega⟩ ⟨r.val % 128, by omega⟩ d) := by
  have e : ((View.whole main_v3).slice (win0_4.rect t)).emb (ix2 r d) = ix2 r d := by blk_ext [idx_val t]
  blk_simp [iblk]; rw [e]; entry_read; pointwise

/-- Group 0's weight. -/
def wB0 (c : Dev nD) (t : Fin cfg0.N) : FVec Ideal S128x128 .bf16 := (View.ld (iblk m c 4 t) (Rect.unit ![0, 0] ![128, 128] inb_S512x128_S128x128_0_0))

theorem weight0 (c : Dev nD) (t : Fin cfg0.N) (k d : Fin 128) : wB0 m c t (ix2 k d) = (m (c.tc.loc main_arg2)) (ix3 ⟨0, by decide⟩ k d) := by
  have hk := k.isLt
  unfold wB0
  have e : (View.ld (iblk m c 4 t) (Rect.unit ![0, 0] ![128, 128] inb_S512x128_S128x128_0_0)) (ix2 k d) = iblk m c 4 t (ix2 ⟨k.val, by omega⟩ d) := by
    generalize iblk m c 4 t = B
    refine congrArg B ?_
    funext b
    fin_cases b <;> refine Fin.ext ?_
    · show 0 + 1 * k.val = k.val; omega
    · show 0 + 1 * d.val = d.val; omega
  rw [e, wblk]
  have h1 : (k.val) / 128 = 0 := by omega
  have h2 : (k.val) % 128 = k.val := by omega
  simp only [h1, h2]

/-- Group 1's weight. -/
def wB1 (c : Dev nD) (t : Fin cfg0.N) : FVec Ideal S128x128 .bf16 := (View.ld (iblk m c 4 t) (Rect.unit ![128, 0] ![128, 128] inb_S512x128_S128x128_128_0))

theorem weight1 (c : Dev nD) (t : Fin cfg0.N) (k d : Fin 128) : wB1 m c t (ix2 k d) = (m (c.tc.loc main_arg2)) (ix3 ⟨1, by decide⟩ k d) := by
  have hk := k.isLt
  unfold wB1
  have e : (View.ld (iblk m c 4 t) (Rect.unit ![128, 0] ![128, 128] inb_S512x128_S128x128_128_0)) (ix2 k d) = iblk m c 4 t (ix2 ⟨128 + k.val, by omega⟩ d) := by
    generalize iblk m c 4 t = B
    refine congrArg B ?_
    funext b
    fin_cases b <;> refine Fin.ext ?_
    · show 128 + 1 * k.val = 128 + k.val; omega
    · show 0 + 1 * d.val = d.val; omega
  rw [e, wblk]
  have h1 : (128 + k.val) / 128 = 1 := by omega
  have h2 : (128 + k.val) % 128 = k.val := by omega
  simp only [h1, h2]

/-- Group 2's weight. -/
def wB2 (c : Dev nD) (t : Fin cfg0.N) : FVec Ideal S128x128 .bf16 := (View.ld (iblk m c 4 t) (Rect.unit ![256, 0] ![128, 128] inb_S512x128_S128x128_256_0))

theorem weight2 (c : Dev nD) (t : Fin cfg0.N) (k d : Fin 128) : wB2 m c t (ix2 k d) = (m (c.tc.loc main_arg2)) (ix3 ⟨2, by decide⟩ k d) := by
  have hk := k.isLt
  unfold wB2
  have e : (View.ld (iblk m c 4 t) (Rect.unit ![256, 0] ![128, 128] inb_S512x128_S128x128_256_0)) (ix2 k d) = iblk m c 4 t (ix2 ⟨256 + k.val, by omega⟩ d) := by
    generalize iblk m c 4 t = B
    refine congrArg B ?_
    funext b
    fin_cases b <;> refine Fin.ext ?_
    · show 256 + 1 * k.val = 256 + k.val; omega
    · show 0 + 1 * d.val = d.val; omega
  rw [e, wblk]
  have h1 : (256 + k.val) / 128 = 2 := by omega
  have h2 : (256 + k.val) % 128 = k.val := by omega
  simp only [h1, h2]

/-- Group 3's weight. -/
def wB3 (c : Dev nD) (t : Fin cfg0.N) : FVec Ideal S128x128 .bf16 := (View.ld (iblk m c 4 t) (Rect.unit ![384, 0] ![128, 128] inb_S512x128_S128x128_384_0))

theorem weight3 (c : Dev nD) (t : Fin cfg0.N) (k d : Fin 128) : wB3 m c t (ix2 k d) = (m (c.tc.loc main_arg2)) (ix3 ⟨3, by decide⟩ k d) := by
  have hk := k.isLt
  unfold wB3
  have e : (View.ld (iblk m c 4 t) (Rect.unit ![384, 0] ![128, 128] inb_S512x128_S128x128_384_0)) (ix2 k d) = iblk m c 4 t (ix2 ⟨384 + k.val, by omega⟩ d) := by
    generalize iblk m c 4 t = B
    refine congrArg B ?_
    funext b
    fin_cases b <;> refine Fin.ext ?_
    · show 384 + 1 * k.val = 384 + k.val; omega
    · show 0 + 1 * d.val = d.val; omega
  rw [e, wblk]
  have h1 : (384 + k.val) / 128 = 3 := by omega
  have h2 : (384 + k.val) % 128 = k.val := by omega
  simp only [h1, h2]

/-- The rows of the pad and those past the end are masked. -/
theorem dmask : ∀ t : Fin grid0.N, ∀ e : Fin 160, IntOp.andi (IntOp.cmpi CmpIPredicate.sge (IntOp.subi (IntOp.addi (Scalar.muli (BitVec.ofNat 32 (grid0.coords t 0).val) 128#32) (BitVec.ofNat 32 e.val)) 112#32) 0#32) (IntOp.cmpi CmpIPredicate.slt (IntOp.subi (IntOp.addi (Scalar.muli (BitVec.ofNat 32 (grid0.coords t 0).val) 128#32) (BitVec.ofNat 32 e.val)) 112#32) 4112#32) = if 128 * t.val + e.val < 112 ∨ 4224 ≤ 128 * t.val + e.val then 0#1 else 1#1 := by
  decide +kernel

/-- The gradient of the mixed rows, of the block and the first rows of the next. -/
def gmB (c : Dev nD) (t : Fin cfg0.N) : FVec Ideal S160x512 .f32 := (k0_pay11 (BitVec.ofNat 32 (grid0.coords t 0).val) (iblk m c 2 t) (View.ld (iblk m c 3 t) (Rect.unit ![0, 0] ![32, 512] inb_S128x512_S32x512_0_0)) (iblk m c 5 t))

theorem dmB (c : Dev nD) (t : Fin cfg0.N) (e : Fin 160) (q : Fin 512) : gmB m c t (ix2 e q) = dmV (m (c.tc.loc main_arg1)) (m (c.tc.loc main_arg3)) q (128 * t.val + e.val) := by
  have ht : t.val < 33 := t.isLt
  have he := e.isLt
  unfold gmB
  pointwise [k0_pay11, k0_pay10]
  rw [dmask, scale]
  by_cases h : 128 * t.val + e.val < 112
  · unfold dmV
    rw [if_pos h]
    simp [h, Scalar.select]
  by_cases h2 : 4224 ≤ 128 * t.val + e.val
  · rw [dmV_end _ _ _ _ h2]
    simp [h, h2, Scalar.select]
  · unfold dmV
    rw [if_neg h]
    have h3 : ¬ (128 * t.val + e.val < 112 ∨ 4224 ≤ 128 * t.val + e.val) := by omega
    by_cases h1 : e.val < 128
    · simp only [if_neg h3, dif_pos h1, dcur]
      simp [Scalar.select]
    · have h4 : min (t.val + 1) 32 = t.val + 1 := by omega
      have h5 : 128 * (t.val + 1) + (e.val - 128) = 128 * t.val + e.val := by omega
      simp only [if_neg h3, dif_neg h1, dnext32, dnext, h4, h5]
      simp [Scalar.select]

/-- The gradient of group 0's pooled rows from that of its mixed rows. -/
theorem dpq0 (x : BitVec 32) (v86 : FVec Ideal S128x512 .f32) (v87 : FVec Ideal S32x512 .f32) (v100 : FVec Ideal S1x512 .f32) (w0 w1 w2 w3 : FVec Ideal S128x128 .bf16) (e : Fin 160) (k : Fin 128) :
    (k0_pay16 (k0_pay12 x v86 v87 v100 w0) (k0_pay13 x v86 v87 v100 w1) (k0_pay14 x v86 v87 v100 w2) (k0_pay15 x v86 v87 v100) w3 : FVec Ideal S160x512 .f32) (ix2 e ⟨k.val, by omega⟩) = ∑ d : Fin 128, (k0_pay11 x v86 v87 v100 : FVec Ideal S160x512 .f32) (ix2 e ⟨d.val, by omega⟩) * w0 (ix2 k d) := by
  pointwise [k0_pay16, k0_pay12, k0_pay13, k0_pay14, k0_pay15]

/-- The count of a row's window. -/
theorem kcntE0 : ∀ t : Fin grid0.N, ∀ e : Fin 160, ¬ 128 * t.val + e.val < 112 → IntOp.minsi (2#32) (IntOp.maxsi (1#32) (IntOp.addi (IntOp.subi (IntOp.addi (Scalar.muli (BitVec.ofNat 32 (grid0.coords t 0).val) 128#32) (BitVec.ofNat 32 e.val)) 112#32) 1#32)) = BitVec.ofNat 32 (min (128 * t.val + e.val - 111) 2) := by
  decide +kernel

/-- The gradient of group 0's means. -/
theorem dvq0 (t : Fin cfg0.N) (P111 P116 P121 : FVec Ideal S160x128 .f32) (P123 : FVec Ideal S160x128 .bf16) (w3 : FVec Ideal S128x128 .bf16) (e : Fin 160) (k : Fin 128) (h : ¬ 128 * t.val + e.val < 112) :
    (k0_pay17 (k0_pay10 (BitVec.ofNat 32 (grid0.coords t 0).val)) P111 P116 P121 P123 w3 : FVec Ideal S160x512 .f32) (ix2 e ⟨k.val, by omega⟩) = Ideal.div ((k0_pay16 P111 P116 P121 P123 w3 : FVec Ideal S160x512 .f32) (ix2 e ⟨k.val, by omega⟩)) (FloatOps.sitofp (F := Ideal) .f32 (BitVec.ofNat 32 (min (128 * t.val + e.val - 111) 2))) := by
  rw [← kcntE0 t e h]
  pointwise [k0_pay17, k0_pay10]

/-- The gradient of group 1's pooled rows from that of its mixed rows. -/
theorem dpq1 (x : BitVec 32) (v86 : FVec Ideal S128x512 .f32) (v87 : FVec Ideal S32x512 .f32) (v100 : FVec Ideal S1x512 .f32) (w0 w1 w2 w3 : FVec Ideal S128x128 .bf16) (e : Fin 160) (k : Fin 128) :
    (k0_pay16 (k0_pay12 x v86 v87 v100 w0) (k0_pay13 x v86 v87 v100 w1) (k0_pay14 x v86 v87 v100 w2) (k0_pay15 x v86 v87 v100) w3 : FVec Ideal S160x512 .f32) (ix2 e ⟨128 + k.val, by omega⟩) = ∑ d : Fin 128, (k0_pay11 x v86 v87 v100 : FVec Ideal S160x512 .f32) (ix2 e ⟨128 + d.val, by omega⟩) * w1 (ix2 k d) := by
  pointwise [k0_pay16, k0_pay12, k0_pay13, k0_pay14, k0_pay15]

/-- The count of a row's window. -/
theorem kcntE1 : ∀ t : Fin grid0.N, ∀ e : Fin 160, ¬ 128 * t.val + e.val < 112 → IntOp.minsi (4#32) (IntOp.maxsi (1#32) (IntOp.addi (IntOp.subi (IntOp.addi (Scalar.muli (BitVec.ofNat 32 (grid0.coords t 0).val) 128#32) (BitVec.ofNat 32 e.val)) 112#32) 1#32)) = BitVec.ofNat 32 (min (128 * t.val + e.val - 111) 4) := by
  decide +kernel

/-- The gradient of group 1's means. -/
theorem dvq1 (t : Fin cfg0.N) (P111 P116 P121 : FVec Ideal S160x128 .f32) (P123 : FVec Ideal S160x128 .bf16) (w3 : FVec Ideal S128x128 .bf16) (e : Fin 160) (k : Fin 128) (h : ¬ 128 * t.val + e.val < 112) :
    (k0_pay17 (k0_pay10 (BitVec.ofNat 32 (grid0.coords t 0).val)) P111 P116 P121 P123 w3 : FVec Ideal S160x512 .f32) (ix2 e ⟨128 + k.val, by omega⟩) = Ideal.div ((k0_pay16 P111 P116 P121 P123 w3 : FVec Ideal S160x512 .f32) (ix2 e ⟨128 + k.val, by omega⟩)) (FloatOps.sitofp (F := Ideal) .f32 (BitVec.ofNat 32 (min (128 * t.val + e.val - 111) 4))) := by
  rw [← kcntE1 t e h]
  pointwise [k0_pay17, k0_pay10]

/-- The gradient of group 2's pooled rows from that of its mixed rows. -/
theorem dpq2 (x : BitVec 32) (v86 : FVec Ideal S128x512 .f32) (v87 : FVec Ideal S32x512 .f32) (v100 : FVec Ideal S1x512 .f32) (w0 w1 w2 w3 : FVec Ideal S128x128 .bf16) (e : Fin 160) (k : Fin 128) :
    (k0_pay16 (k0_pay12 x v86 v87 v100 w0) (k0_pay13 x v86 v87 v100 w1) (k0_pay14 x v86 v87 v100 w2) (k0_pay15 x v86 v87 v100) w3 : FVec Ideal S160x512 .f32) (ix2 e ⟨256 + k.val, by omega⟩) = ∑ d : Fin 128, (k0_pay11 x v86 v87 v100 : FVec Ideal S160x512 .f32) (ix2 e ⟨256 + d.val, by omega⟩) * w2 (ix2 k d) := by
  pointwise [k0_pay16, k0_pay12, k0_pay13, k0_pay14, k0_pay15]
  rw [dif_neg (by omega), dif_neg (by omega), dif_pos (by omega)]
  refine Finset.sum_congr rfl fun d _ => ?_
  exact congrArg (fun r : Fin 128 => (k0_pay11 x v86 v87 v100 : FVec Ideal S160x512 .f32) (ix2 e ⟨256 + d.val, by omega⟩) * w2 (ix2 r d)) (Fin.ext (by show 256 + k.val - 128 - 128 = k.val; omega))

/-- The count of a row's window. -/
theorem kcntE2 : ∀ t : Fin grid0.N, ∀ e : Fin 160, ¬ 128 * t.val + e.val < 112 → IntOp.minsi (8#32) (IntOp.maxsi (1#32) (IntOp.addi (IntOp.subi (IntOp.addi (Scalar.muli (BitVec.ofNat 32 (grid0.coords t 0).val) 128#32) (BitVec.ofNat 32 e.val)) 112#32) 1#32)) = BitVec.ofNat 32 (min (128 * t.val + e.val - 111) 8) := by
  decide +kernel

/-- The gradient of group 2's means. -/
theorem dvq2 (t : Fin cfg0.N) (P111 P116 P121 : FVec Ideal S160x128 .f32) (P123 : FVec Ideal S160x128 .bf16) (w3 : FVec Ideal S128x128 .bf16) (e : Fin 160) (k : Fin 128) (h : ¬ 128 * t.val + e.val < 112) :
    (k0_pay17 (k0_pay10 (BitVec.ofNat 32 (grid0.coords t 0).val)) P111 P116 P121 P123 w3 : FVec Ideal S160x512 .f32) (ix2 e ⟨256 + k.val, by omega⟩) = Ideal.div ((k0_pay16 P111 P116 P121 P123 w3 : FVec Ideal S160x512 .f32) (ix2 e ⟨256 + k.val, by omega⟩)) (FloatOps.sitofp (F := Ideal) .f32 (BitVec.ofNat 32 (min (128 * t.val + e.val - 111) 8))) := by
  rw [← kcntE2 t e h]
  pointwise [k0_pay17, k0_pay10]
  rw [dif_neg (by omega), dif_neg (by omega), dif_pos (by omega)]

/-- The gradient of group 3's pooled rows from that of its mixed rows. -/
theorem dpq3 (x : BitVec 32) (v86 : FVec Ideal S128x512 .f32) (v87 : FVec Ideal S32x512 .f32) (v100 : FVec Ideal S1x512 .f32) (w0 w1 w2 w3 : FVec Ideal S128x128 .bf16) (e : Fin 160) (k : Fin 128) :
    (k0_pay16 (k0_pay12 x v86 v87 v100 w0) (k0_pay13 x v86 v87 v100 w1) (k0_pay14 x v86 v87 v100 w2) (k0_pay15 x v86 v87 v100) w3 : FVec Ideal S160x512 .f32) (ix2 e ⟨384 + k.val, by omega⟩) = ∑ d : Fin 128, (k0_pay11 x v86 v87 v100 : FVec Ideal S160x512 .f32) (ix2 e ⟨384 + d.val, by omega⟩) * w3 (ix2 k d) := by
  pointwise [k0_pay16, k0_pay12, k0_pay13, k0_pay14, k0_pay15]
  rw [dif_neg (by omega), dif_neg (by omega), dif_neg (by omega)]
  refine Finset.sum_congr rfl fun d _ => ?_
  exact congrArg (fun r : Fin 128 => (k0_pay11 x v86 v87 v100 : FVec Ideal S160x512 .f32) (ix2 e ⟨384 + d.val, by omega⟩) * w3 (ix2 r d)) (Fin.ext (by show 384 + k.val - 128 - 128 - 128 = k.val; omega))

/-- The count of a row's window. -/
theorem kcntE3 : ∀ t : Fin grid0.N, ∀ e : Fin 160, ¬ 128 * t.val + e.val < 112 → IntOp.minsi (16#32) (IntOp.maxsi (1#32) (IntOp.addi (IntOp.subi (IntOp.addi (Scalar.muli (BitVec.ofNat 32 (grid0.coords t 0).val) 128#32) (BitVec.ofNat 32 e.val)) 112#32) 1#32)) = BitVec.ofNat 32 (min (128 * t.val + e.val - 111) 16) := by
  decide +kernel

/-- The gradient of group 3's means. -/
theorem dvq3 (t : Fin cfg0.N) (P111 P116 P121 : FVec Ideal S160x128 .f32) (P123 : FVec Ideal S160x128 .bf16) (w3 : FVec Ideal S128x128 .bf16) (e : Fin 160) (k : Fin 128) (h : ¬ 128 * t.val + e.val < 112) :
    (k0_pay17 (k0_pay10 (BitVec.ofNat 32 (grid0.coords t 0).val)) P111 P116 P121 P123 w3 : FVec Ideal S160x512 .f32) (ix2 e ⟨384 + k.val, by omega⟩) = Ideal.div ((k0_pay16 P111 P116 P121 P123 w3 : FVec Ideal S160x512 .f32) (ix2 e ⟨384 + k.val, by omega⟩)) (FloatOps.sitofp (F := Ideal) .f32 (BitVec.ofNat 32 (min (128 * t.val + e.val - 111) 16))) := by
  rw [← kcntE3 t e h]
  pointwise [k0_pay17, k0_pay10]
  rw [dif_neg (by omega), dif_neg (by omega), dif_neg (by omega)]

/-- An entry of an array of 160 rows by its row number. -/
def bv (V : FVec Ideal S160x512 .f32) (q : Fin 512) (p : ℕ) : EReal := if h : p < 160 then V (ix2 ⟨p, h⟩ q) else 0

/-- Group 0's lanes. -/
def up0 (V : FVec Ideal S160x512 .f32) : FVec Ideal S160x128 .f32 := extractStridedSlice S160x128 ![0, 0] V slices_S160x512_o0_0_S160x128

theorem up0_at (V : FVec Ideal S160x512 .f32) (e : Fin 160) (d : Fin 128) : up0 V (ix2 e d) = bv V ⟨d.val, by omega⟩ e.val := by
  unfold up0 bv
  rw [dif_pos e.isLt]
  refine extractStridedSlice_apply _ _ _ _ _ ?_
  intro b; fin_cases b <;> simp [ix2]

def y0_1 (V : FVec Ideal S160x512 .f32) : FVec Ideal S160x128 .f32 := addf (up0 V) (dynamicRotate 0 159#32 none (up0 V) rotates_S160x128_d0)

theorem y0_1_at (V : FVec Ideal S160x512 .f32) (d : Fin 128) : ∀ e : Fin 160, e.val + (0 + 1) < 160 →
    y0_1 V (ix2 e d) = ∑ k ∈ Finset.range (1 + 1), bv V ⟨d.val, by omega⟩ (e.val + k) :=
  Cert.Pool.dbl_up 159#32 1 (0) rfl (by decide) (by decide) _ _ d _ (fun e _ => by rw [up0_at]; simp)

/-- Group 1's lanes. -/
def up1 (V : FVec Ideal S160x512 .f32) : FVec Ideal S160x128 .f32 := extractStridedSlice S160x128 ![0, 128] V slices_S160x512_o0_128_S160x128

theorem up1_at (V : FVec Ideal S160x512 .f32) (e : Fin 160) (d : Fin 128) : up1 V (ix2 e d) = bv V ⟨128 + d.val, by omega⟩ e.val := by
  unfold up1 bv
  rw [dif_pos e.isLt]
  refine extractStridedSlice_apply _ _ _ _ _ ?_
  intro b; fin_cases b <;> simp [ix2]

def y1_1 (V : FVec Ideal S160x512 .f32) : FVec Ideal S160x128 .f32 := addf (up1 V) (dynamicRotate 0 159#32 none (up1 V) rotates_S160x128_d0)

theorem y1_1_at (V : FVec Ideal S160x512 .f32) (d : Fin 128) : ∀ e : Fin 160, e.val + (0 + 1) < 160 →
    y1_1 V (ix2 e d) = ∑ k ∈ Finset.range (1 + 1), bv V ⟨128 + d.val, by omega⟩ (e.val + k) :=
  Cert.Pool.dbl_up 159#32 1 (0) rfl (by decide) (by decide) _ _ d _ (fun e _ => by rw [up1_at]; simp)

def y1_2 (V : FVec Ideal S160x512 .f32) : FVec Ideal S160x128 .f32 := addf (y1_1 V) (dynamicRotate 0 158#32 none (y1_1 V) rotates_S160x128_d0)

theorem y1_2_at (V : FVec Ideal S160x512 .f32) (d : Fin 128) : ∀ e : Fin 160, e.val + (0 + 1 + 2) < 160 →
    y1_2 V (ix2 e d) = ∑ k ∈ Finset.range (2 + 2), bv V ⟨128 + d.val, by omega⟩ (e.val + k) :=
  Cert.Pool.dbl_up 158#32 2 (0 + 1) rfl (by decide) (by decide) _ _ d _ (y1_1_at V d)

/-- Group 2's lanes. -/
def up2 (V : FVec Ideal S160x512 .f32) : FVec Ideal S160x128 .f32 := extractStridedSlice S160x128 ![0, 256] V slices_S160x512_o0_256_S160x128

theorem up2_at (V : FVec Ideal S160x512 .f32) (e : Fin 160) (d : Fin 128) : up2 V (ix2 e d) = bv V ⟨256 + d.val, by omega⟩ e.val := by
  unfold up2 bv
  rw [dif_pos e.isLt]
  refine extractStridedSlice_apply _ _ _ _ _ ?_
  intro b; fin_cases b <;> simp [ix2]

def y2_1 (V : FVec Ideal S160x512 .f32) : FVec Ideal S160x128 .f32 := addf (up2 V) (dynamicRotate 0 159#32 none (up2 V) rotates_S160x128_d0)

theorem y2_1_at (V : FVec Ideal S160x512 .f32) (d : Fin 128) : ∀ e : Fin 160, e.val + (0 + 1) < 160 →
    y2_1 V (ix2 e d) = ∑ k ∈ Finset.range (1 + 1), bv V ⟨256 + d.val, by omega⟩ (e.val + k) :=
  Cert.Pool.dbl_up 159#32 1 (0) rfl (by decide) (by decide) _ _ d _ (fun e _ => by rw [up2_at]; simp)

def y2_2 (V : FVec Ideal S160x512 .f32) : FVec Ideal S160x128 .f32 := addf (y2_1 V) (dynamicRotate 0 158#32 none (y2_1 V) rotates_S160x128_d0)

theorem y2_2_at (V : FVec Ideal S160x512 .f32) (d : Fin 128) : ∀ e : Fin 160, e.val + (0 + 1 + 2) < 160 →
    y2_2 V (ix2 e d) = ∑ k ∈ Finset.range (2 + 2), bv V ⟨256 + d.val, by omega⟩ (e.val + k) :=
  Cert.Pool.dbl_up 158#32 2 (0 + 1) rfl (by decide) (by decide) _ _ d _ (y2_1_at V d)

def y2_4 (V : FVec Ideal S160x512 .f32) : FVec Ideal S160x128 .f32 := addf (y2_2 V) (dynamicRotate 0 156#32 none (y2_2 V) rotates_S160x128_d0)

theorem y2_4_at (V : FVec Ideal S160x512 .f32) (d : Fin 128) : ∀ e : Fin 160, e.val + (0 + 1 + 2 + 4) < 160 →
    y2_4 V (ix2 e d) = ∑ k ∈ Finset.range (4 + 4), bv V ⟨256 + d.val, by omega⟩ (e.val + k) :=
  Cert.Pool.dbl_up 156#32 4 (0 + 1 + 2) rfl (by decide) (by decide) _ _ d _ (y2_2_at V d)

/-- Group 3's lanes. -/
def up3 (V : FVec Ideal S160x512 .f32) : FVec Ideal S160x128 .f32 := extractStridedSlice S160x128 ![0, 384] V slices_S160x512_o0_384_S160x128

theorem up3_at (V : FVec Ideal S160x512 .f32) (e : Fin 160) (d : Fin 128) : up3 V (ix2 e d) = bv V ⟨384 + d.val, by omega⟩ e.val := by
  unfold up3 bv
  rw [dif_pos e.isLt]
  refine extractStridedSlice_apply _ _ _ _ _ ?_
  intro b; fin_cases b <;> simp [ix2]

def y3_1 (V : FVec Ideal S160x512 .f32) : FVec Ideal S160x128 .f32 := addf (up3 V) (dynamicRotate 0 159#32 none (up3 V) rotates_S160x128_d0)

theorem y3_1_at (V : FVec Ideal S160x512 .f32) (d : Fin 128) : ∀ e : Fin 160, e.val + (0 + 1) < 160 →
    y3_1 V (ix2 e d) = ∑ k ∈ Finset.range (1 + 1), bv V ⟨384 + d.val, by omega⟩ (e.val + k) :=
  Cert.Pool.dbl_up 159#32 1 (0) rfl (by decide) (by decide) _ _ d _ (fun e _ => by rw [up3_at]; simp)

def y3_2 (V : FVec Ideal S160x512 .f32) : FVec Ideal S160x128 .f32 := addf (y3_1 V) (dynamicRotate 0 158#32 none (y3_1 V) rotates_S160x128_d0)

theorem y3_2_at (V : FVec Ideal S160x512 .f32) (d : Fin 128) : ∀ e : Fin 160, e.val + (0 + 1 + 2) < 160 →
    y3_2 V (ix2 e d) = ∑ k ∈ Finset.range (2 + 2), bv V ⟨384 + d.val, by omega⟩ (e.val + k) :=
  Cert.Pool.dbl_up 158#32 2 (0 + 1) rfl (by decide) (by decide) _ _ d _ (y3_1_at V d)

def y3_4 (V : FVec Ideal S160x512 .f32) : FVec Ideal S160x128 .f32 := addf (y3_2 V) (dynamicRotate 0 156#32 none (y3_2 V) rotates_S160x128_d0)

theorem y3_4_at (V : FVec Ideal S160x512 .f32) (d : Fin 128) : ∀ e : Fin 160, e.val + (0 + 1 + 2 + 4) < 160 →
    y3_4 V (ix2 e d) = ∑ k ∈ Finset.range (4 + 4), bv V ⟨384 + d.val, by omega⟩ (e.val + k) :=
  Cert.Pool.dbl_up 156#32 4 (0 + 1 + 2) rfl (by decide) (by decide) _ _ d _ (y3_2_at V d)

def y3_8 (V : FVec Ideal S160x512 .f32) : FVec Ideal S160x128 .f32 := addf (y3_4 V) (dynamicRotate 0 152#32 none (y3_4 V) rotates_S160x128_d0)

theorem y3_8_at (V : FVec Ideal S160x512 .f32) (d : Fin 128) : ∀ e : Fin 160, e.val + (0 + 1 + 2 + 4 + 8) < 160 →
    y3_8 V (ix2 e d) = ∑ k ∈ Finset.range (8 + 8), bv V ⟨384 + d.val, by omega⟩ (e.val + k) :=
  Cert.Pool.dbl_up 152#32 8 (0 + 1 + 2 + 4) rfl (by decide) (by decide) _ _ d _ (y3_4_at V d)

/-- The window sums of the gradients of the means. -/
def ups (V : FVec Ideal S160x512 .f32) : FVec Ideal S160x512 .f32 := concatenate S160x512 1 [⟨S160x128, y0_1 V⟩, ⟨S160x128, y1_2 V⟩, ⟨S160x128, y2_4 V⟩, ⟨S160x128, y3_8 V⟩] concatenates_S160x128_S160x128_S160x128_S160x128_S160x512_d1

theorem ups_0 (V : FVec Ideal S160x512 .f32) (i d : Fin 128) : ups V (ix2 ⟨i.val, by omega⟩ ⟨d.val, by omega⟩) = ∑ k ∈ Finset.range 2, bv V ⟨d.val, by omega⟩ (i.val + k) := by
  unfold ups
  refine (concatenate_apply_piece (t := S160x512) 1 _ _ _ 0 ?_ S160x128 (y0_1 V) ?_ rfl 0 ?_ (ix2 (⟨i.val, by omega⟩ : Fin 160) d) ?_ ?_).trans ?_
  · simp
  · rfl
  · exact (by decide +kernel : ((([] : List Shape)).map fun s => if h : s.rank = S160x512.rank then s.size ((1 : Fin S160x512.rank).cast h.symm) else 0).sum = 0)
  · intro b hb
    match b with
    | ⟨0, _⟩ => rfl
    | ⟨1, _⟩ => exact absurd rfl hb
  · exact Nat.zero_add _
  · have hi := i.isLt
    exact y0_1_at V d ⟨i.val, by omega⟩ (by show i.val + _ < 160; omega)

theorem ups_1 (V : FVec Ideal S160x512 .f32) (i d : Fin 128) : ups V (ix2 ⟨i.val, by omega⟩ ⟨128 + d.val, by omega⟩) = ∑ k ∈ Finset.range 4, bv V ⟨128 + d.val, by omega⟩ (i.val + k) := by
  unfold ups
  refine (concatenate_apply_piece (t := S160x512) 1 _ _ _ 1 ?_ S160x128 (y1_2 V) ?_ rfl 128 ?_ (ix2 (⟨i.val, by omega⟩ : Fin 160) d) ?_ ?_).trans ?_
  · simp
  · rfl
  · exact (by decide +kernel : ((([S160x128] : List Shape)).map fun s => if h : s.rank = S160x512.rank then s.size ((1 : Fin S160x512.rank).cast h.symm) else 0).sum = 128)
  · intro b hb
    match b with
    | ⟨0, _⟩ => rfl
    | ⟨1, _⟩ => exact absurd rfl hb
  · rfl
  · have hi := i.isLt
    exact y1_2_at V d ⟨i.val, by omega⟩ (by show i.val + _ < 160; omega)

theorem ups_2 (V : FVec Ideal S160x512 .f32) (i d : Fin 128) : ups V (ix2 ⟨i.val, by omega⟩ ⟨256 + d.val, by omega⟩) = ∑ k ∈ Finset.range 8, bv V ⟨256 + d.val, by omega⟩ (i.val + k) := by
  unfold ups
  refine (concatenate_apply_piece (t := S160x512) 1 _ _ _ 2 ?_ S160x128 (y2_4 V) ?_ rfl 256 ?_ (ix2 (⟨i.val, by omega⟩ : Fin 160) d) ?_ ?_).trans ?_
  · simp
  · rfl
  · exact (by decide +kernel : ((([S160x128, S160x128] : List Shape)).map fun s => if h : s.rank = S160x512.rank then s.size ((1 : Fin S160x512.rank).cast h.symm) else 0).sum = 256)
  · intro b hb
    match b with
    | ⟨0, _⟩ => rfl
    | ⟨1, _⟩ => exact absurd rfl hb
  · rfl
  · have hi := i.isLt
    exact y2_4_at V d ⟨i.val, by omega⟩ (by show i.val + _ < 160; omega)

theorem ups_3 (V : FVec Ideal S160x512 .f32) (i d : Fin 128) : ups V (ix2 ⟨i.val, by omega⟩ ⟨384 + d.val, by omega⟩) = ∑ k ∈ Finset.range 16, bv V ⟨384 + d.val, by omega⟩ (i.val + k) := by
  unfold ups
  refine (concatenate_apply_piece (t := S160x512) 1 _ _ _ 3 ?_ S160x128 (y3_8 V) ?_ rfl 384 ?_ (ix2 (⟨i.val, by omega⟩ : Fin 160) d) ?_ ?_).trans ?_
  · simp
  · rfl
  · exact (by decide +kernel : ((([S160x128, S160x128, S160x128] : List Shape)).map fun s => if h : s.rank = S160x512.rank then s.size ((1 : Fin S160x512.rank).cast h.symm) else 0).sum = 384)
  · intro b hb
    match b with
    | ⟨0, _⟩ => rfl
    | ⟨1, _⟩ => exact absurd rfl hb
  · rfl
  · have hi := i.isLt
    exact y3_8_at V d ⟨i.val, by omega⟩ (by show i.val + _ < 160; omega)

/-- An entry of the gradient of the inputs. -/
theorem duq (v94 : IVec S160x1 32) (v127 v165 : FVec Ideal S160x512 .f32) (i : Fin 128) (q : Fin 512) :
    (k0_pay20 v94 v127 v165 (y0_1 v165) (up1 v165) : FVec Ideal S128x512 .bf16) (ix2 i q) = Scalar.select (IntOp.cmpi CmpIPredicate.sge (v94 (ix2 ⟨i.val, by omega⟩ 0)) 0#32) (ups v165 (ix2 ⟨i.val, by omega⟩ q) - v127 (ix2 ⟨i.val, by omega⟩ q)) 0 := by
  show truncf .bf16 (select (broadcastTo S128x512 (shapeCast S128x1 (cmpi .sge (extractStridedSlice S128x1 ![0, 0] v94 slices_S160x1_o0_0_S128x1) (broadcast S128x1 0#32)) shapeCasts_S128x1_S128x1) broadcasts_S128x1_S128x512) (subf (extractStridedSlice S128x512 ![0, 0] (ups v165) slices_S160x512_o0_0_S128x512) (extractStridedSlice S128x512 ![0, 0] v127 slices_S160x512_o0_0_S128x512)) (broadcast S128x512 (Scalar.ofBits .f32 0x00000000#32 : Ideal .f32))) bitsLt_bf16_f32 (ix2 i q) = _
  generalize ups v165 = U
  pointwise

/-- The block of the gradient of the pooled rows, and the first rows of the next. -/
def dpA (c : Dev nD) (t : Fin cfg0.N) : FVec Ideal S160x512 .f32 :=
  k0_pay16 (k0_pay12 (BitVec.ofNat 32 (grid0.coords t 0).val) (iblk m c 2 t) (View.ld (iblk m c 3 t) (Rect.unit ![0, 0] ![32, 512] inb_S128x512_S32x512_0_0)) (iblk m c 5 t) (wB0 m c t)) (k0_pay13 (BitVec.ofNat 32 (grid0.coords t 0).val) (iblk m c 2 t) (View.ld (iblk m c 3 t) (Rect.unit ![0, 0] ![32, 512] inb_S128x512_S32x512_0_0)) (iblk m c 5 t) (wB1 m c t)) (k0_pay14 (BitVec.ofNat 32 (grid0.coords t 0).val) (iblk m c 2 t) (View.ld (iblk m c 3 t) (Rect.unit ![0, 0] ![32, 512] inb_S128x512_S32x512_0_0)) (iblk m c 5 t) (wB2 m c t)) (k0_pay15 (BitVec.ofNat 32 (grid0.coords t 0).val) (iblk m c 2 t) (View.ld (iblk m c 3 t) (Rect.unit ![0, 0] ![32, 512] inb_S128x512_S32x512_0_0)) (iblk m c 5 t)) (wB3 m c t)

/-- That of the means. -/
def dvA (c : Dev nD) (t : Fin cfg0.N) : FVec Ideal S160x512 .f32 :=
  k0_pay17 (k0_pay10 (BitVec.ofNat 32 (grid0.coords t 0).val)) (k0_pay12 (BitVec.ofNat 32 (grid0.coords t 0).val) (iblk m c 2 t) (View.ld (iblk m c 3 t) (Rect.unit ![0, 0] ![32, 512] inb_S128x512_S32x512_0_0)) (iblk m c 5 t) (wB0 m c t)) (k0_pay13 (BitVec.ofNat 32 (grid0.coords t 0).val) (iblk m c 2 t) (View.ld (iblk m c 3 t) (Rect.unit ![0, 0] ![32, 512] inb_S128x512_S32x512_0_0)) (iblk m c 5 t) (wB1 m c t)) (k0_pay14 (BitVec.ofNat 32 (grid0.coords t 0).val) (iblk m c 2 t) (View.ld (iblk m c 3 t) (Rect.unit ![0, 0] ![32, 512] inb_S128x512_S32x512_0_0)) (iblk m c 5 t) (wB2 m c t)) (k0_pay15 (BitVec.ofNat 32 (grid0.coords t 0).val) (iblk m c 2 t) (View.ld (iblk m c 3 t) (Rect.unit ![0, 0] ![32, 512] inb_S128x512_S32x512_0_0)) (iblk m c 5 t)) (wB3 m c t)

/-- The block of the gradient of the inputs. -/
def duA (c : Dev nD) (t : Fin cfg0.N) : FVec Ideal S128x512 .bf16 :=
  k0_pay20 (k0_pay10 (BitVec.ofNat 32 (grid0.coords t 0).val)) (dpA m c t) (dvA m c t) (y0_1 (dvA m c t)) (up1 (dvA m c t))

theorem kmask : ∀ t : Fin grid0.N, ∀ i : Fin 128, IntOp.cmpi CmpIPredicate.sge (k0_pay10 (BitVec.ofNat 32 (grid0.coords t 0).val) (ix2 ⟨i.val, by omega⟩ 0)) 0#32 = if 128 * t.val + i.val < 112 then 0#1 else 1#1 := by
  intro t i
  rw [← mask t i]
  pointwise [k0_pay10]

theorem dpA_0 (c : Dev nD) (t : Fin cfg0.N) (e : Fin 160) (k : Fin 128) : dpA m c t (ix2 e ⟨k.val, by omega⟩) = dpV0 (m (c.tc.loc main_arg1)) (m (c.tc.loc main_arg2)) (m (c.tc.loc main_arg3)) k (128 * t.val + e.val) := by
  unfold dpA
  refine (dpq0 _ _ _ _ _ _ _ _ e k).trans ?_
  unfold dpV0
  exact Finset.sum_congr rfl fun d _ => congr (congrArg HMul.hMul (dmB m c t e _)) (weight0 m c t k d)

theorem dvA_0 (c : Dev nD) (t : Fin cfg0.N) (e : Fin 160) (k : Fin 128) (h : ¬ 128 * t.val + e.val < 112) : dvA m c t (ix2 e ⟨k.val, by omega⟩) = dvV0 (m (c.tc.loc main_arg1)) (m (c.tc.loc main_arg2)) (m (c.tc.loc main_arg3)) k (128 * t.val + e.val) := by
  unfold dvV0
  rw [← dpA_0]
  unfold dvA dpA
  exact dvq0 t _ _ _ _ _ e k h

theorem duA_0 (c : Dev nD) (t : Fin cfg0.N) (i d : Fin 128) : duA m c t (ix2 i ⟨d.val, by omega⟩) = duV0 (m (c.tc.loc main_arg1)) (m (c.tc.loc main_arg2)) (m (c.tc.loc main_arg3)) d (128 * t.val + i.val) := by
  have hi := i.isLt
  unfold duA duV0
  rw [duq, kmask]
  by_cases h : 128 * t.val + i.val < 112
  · rw [if_pos h, if_pos h]
    rfl
  · rw [if_neg h, if_neg h, ups_0, dpA_0]
    show _ - _ = _ - _
    refine congrArg (fun r : EReal => r - _) (Finset.sum_congr rfl fun k hk => ?_)
    have hk' := Finset.mem_range.mp hk
    unfold bv
    rw [dif_pos (by omega), dvA_0 m c t _ d (by show ¬ 128 * t.val + (i.val + k) < 112; omega)]
    exact congrArg _ (by show 128 * t.val + (i.val + k) = _; omega)

theorem dpA_1 (c : Dev nD) (t : Fin cfg0.N) (e : Fin 160) (k : Fin 128) : dpA m c t (ix2 e ⟨128 + k.val, by omega⟩) = dpV1 (m (c.tc.loc main_arg1)) (m (c.tc.loc main_arg2)) (m (c.tc.loc main_arg3)) k (128 * t.val + e.val) := by
  unfold dpA
  refine (dpq1 _ _ _ _ _ _ _ _ e k).trans ?_
  unfold dpV1
  exact Finset.sum_congr rfl fun d _ => congr (congrArg HMul.hMul (dmB m c t e _)) (weight1 m c t k d)

theorem dvA_1 (c : Dev nD) (t : Fin cfg0.N) (e : Fin 160) (k : Fin 128) (h : ¬ 128 * t.val + e.val < 112) : dvA m c t (ix2 e ⟨128 + k.val, by omega⟩) = dvV1 (m (c.tc.loc main_arg1)) (m (c.tc.loc main_arg2)) (m (c.tc.loc main_arg3)) k (128 * t.val + e.val) := by
  unfold dvV1
  rw [← dpA_1]
  unfold dvA dpA
  exact dvq1 t _ _ _ _ _ e k h

theorem duA_1 (c : Dev nD) (t : Fin cfg0.N) (i d : Fin 128) : duA m c t (ix2 i ⟨128 + d.val, by omega⟩) = duV1 (m (c.tc.loc main_arg1)) (m (c.tc.loc main_arg2)) (m (c.tc.loc main_arg3)) d (128 * t.val + i.val) := by
  have hi := i.isLt
  unfold duA duV1
  rw [duq, kmask]
  by_cases h : 128 * t.val + i.val < 112
  · rw [if_pos h, if_pos h]
    rfl
  · rw [if_neg h, if_neg h, ups_1, dpA_1]
    show _ - _ = _ - _
    refine congrArg (fun r : EReal => r - _) (Finset.sum_congr rfl fun k hk => ?_)
    have hk' := Finset.mem_range.mp hk
    unfold bv
    rw [dif_pos (by omega), dvA_1 m c t _ d (by show ¬ 128 * t.val + (i.val + k) < 112; omega)]
    exact congrArg _ (by show 128 * t.val + (i.val + k) = _; omega)

theorem dpA_2 (c : Dev nD) (t : Fin cfg0.N) (e : Fin 160) (k : Fin 128) : dpA m c t (ix2 e ⟨256 + k.val, by omega⟩) = dpV2 (m (c.tc.loc main_arg1)) (m (c.tc.loc main_arg2)) (m (c.tc.loc main_arg3)) k (128 * t.val + e.val) := by
  unfold dpA
  refine (dpq2 _ _ _ _ _ _ _ _ e k).trans ?_
  unfold dpV2
  exact Finset.sum_congr rfl fun d _ => congr (congrArg HMul.hMul (dmB m c t e _)) (weight2 m c t k d)

theorem dvA_2 (c : Dev nD) (t : Fin cfg0.N) (e : Fin 160) (k : Fin 128) (h : ¬ 128 * t.val + e.val < 112) : dvA m c t (ix2 e ⟨256 + k.val, by omega⟩) = dvV2 (m (c.tc.loc main_arg1)) (m (c.tc.loc main_arg2)) (m (c.tc.loc main_arg3)) k (128 * t.val + e.val) := by
  unfold dvV2
  rw [← dpA_2]
  unfold dvA dpA
  exact dvq2 t _ _ _ _ _ e k h

theorem duA_2 (c : Dev nD) (t : Fin cfg0.N) (i d : Fin 128) : duA m c t (ix2 i ⟨256 + d.val, by omega⟩) = duV2 (m (c.tc.loc main_arg1)) (m (c.tc.loc main_arg2)) (m (c.tc.loc main_arg3)) d (128 * t.val + i.val) := by
  have hi := i.isLt
  unfold duA duV2
  rw [duq, kmask]
  by_cases h : 128 * t.val + i.val < 112
  · rw [if_pos h, if_pos h]
    rfl
  · rw [if_neg h, if_neg h, ups_2, dpA_2]
    show _ - _ = _ - _
    refine congrArg (fun r : EReal => r - _) (Finset.sum_congr rfl fun k hk => ?_)
    have hk' := Finset.mem_range.mp hk
    unfold bv
    rw [dif_pos (by omega), dvA_2 m c t _ d (by show ¬ 128 * t.val + (i.val + k) < 112; omega)]
    exact congrArg _ (by show 128 * t.val + (i.val + k) = _; omega)

theorem dpA_3 (c : Dev nD) (t : Fin cfg0.N) (e : Fin 160) (k : Fin 128) : dpA m c t (ix2 e ⟨384 + k.val, by omega⟩) = dpV3 (m (c.tc.loc main_arg1)) (m (c.tc.loc main_arg2)) (m (c.tc.loc main_arg3)) k (128 * t.val + e.val) := by
  unfold dpA
  refine (dpq3 _ _ _ _ _ _ _ _ e k).trans ?_
  unfold dpV3
  exact Finset.sum_congr rfl fun d _ => congr (congrArg HMul.hMul (dmB m c t e _)) (weight3 m c t k d)

theorem dvA_3 (c : Dev nD) (t : Fin cfg0.N) (e : Fin 160) (k : Fin 128) (h : ¬ 128 * t.val + e.val < 112) : dvA m c t (ix2 e ⟨384 + k.val, by omega⟩) = dvV3 (m (c.tc.loc main_arg1)) (m (c.tc.loc main_arg2)) (m (c.tc.loc main_arg3)) k (128 * t.val + e.val) := by
  unfold dvV3
  rw [← dpA_3]
  unfold dvA dpA
  exact dvq3 t _ _ _ _ _ e k h

theorem duA_3 (c : Dev nD) (t : Fin cfg0.N) (i d : Fin 128) : duA m c t (ix2 i ⟨384 + d.val, by omega⟩) = duV3 (m (c.tc.loc main_arg1)) (m (c.tc.loc main_arg2)) (m (c.tc.loc main_arg3)) d (128 * t.val + i.val) := by
  have hi := i.isLt
  unfold duA duV3
  rw [duq, kmask]
  by_cases h : 128 * t.val + i.val < 112
  · rw [if_pos h, if_pos h]
    rfl
  · rw [if_neg h, if_neg h, ups_3, dpA_3]
    show _ - _ = _ - _
    refine congrArg (fun r : EReal => r - _) (Finset.sum_congr rfl fun k hk => ?_)
    have hk' := Finset.mem_range.mp hk
    unfold bv
    rw [dif_pos (by omega), dvA_3 m c t _ d (by show ¬ 128 * t.val + (i.val + k) < 112; omega)]
    exact congrArg _ (by show 128 * t.val + (i.val + k) = _; omega)

/-- What both cases leave of the gradient of the inputs. -/
theorem out6 (c : Dev nD) (t : Fin cfg0.N) : (outsAt0 m c t.val t.isLt).1 = duA m c t := by
  by_cases h0 : t.val % 33 = 0
  · rw [outsAt0_A m c t h0]
    frame_out
    rfl
  · rw [outsAt0_B m c t h0]
    frame_out
    rfl

theorem duA_all (c : Dev nD) (t : Fin cfg0.N) (i : Fin 128) (q : Fin 512) :
    duA m c t (ix2 i q) = refDu (m (c.tc.loc main_arg0)) (m (c.tc.loc main_arg1)) (m (c.tc.loc main_arg2)) (m (c.tc.loc main_arg3)) (ix2 ⟨128 * t.val + i.val, by have : t.val < 33 := t.isLt; omega⟩ q) := by
  have hq := q.isLt
  have ht : t.val < 33 := t.isLt
  by_cases h0 : q.val < 128
  · have e : q = ⟨(⟨q.val, by omega⟩ : Fin 128).val, by show q.val < 512; omega⟩ := rfl
    rw [e]; exact ((duA_0 m c t i (⟨q.val, by omega⟩ : Fin 128)).trans (refDu_0 _ _ _ _ ⟨128 * t.val + i.val, by omega⟩ _).symm)
  by_cases h1 : q.val < 256
  · have e : q = ⟨128 + (⟨q.val - 128, by omega⟩ : Fin 128).val, by show 128 + (q.val - 128) < 512; omega⟩ := Fin.ext (by show q.val = 128 + (q.val - 128); omega)
    rw [e]; exact ((duA_1 m c t i (⟨q.val - 128, by omega⟩ : Fin 128)).trans (refDu_1 _ _ _ _ ⟨128 * t.val + i.val, by omega⟩ _).symm)
  by_cases h2 : q.val < 384
  · have e : q = ⟨256 + (⟨q.val - 256, by omega⟩ : Fin 128).val, by show 256 + (q.val - 256) < 512; omega⟩ := Fin.ext (by show q.val = 256 + (q.val - 256); omega)
    rw [e]; exact ((duA_2 m c t i (⟨q.val - 256, by omega⟩ : Fin 128)).trans (refDu_2 _ _ _ _ ⟨128 * t.val + i.val, by omega⟩ _).symm)
  · have e : q = ⟨384 + (⟨q.val - 384, by omega⟩ : Fin 128).val, by show 384 + (q.val - 384) < 512; omega⟩ := Fin.ext (by show q.val = 384 + (q.val - 384); omega)
    rw [e]; exact ((duA_3 m c t i (⟨q.val - 384, by omega⟩ : Fin 128)).trans (refDu_3 _ _ _ _ ⟨128 * t.val + i.val, by omega⟩ _).symm)

/-- The kernel's gradient of the inputs is the reference's. -/
theorem final_6 (c : Dev nD) : (dats m 0 c).arrAt 6 (cfgs 0).N = refDu (m (c.tc.loc main_arg0)) (m (c.tc.loc main_arg1)) (m (c.tc.loc main_arg2)) (m (c.tc.loc main_arg3)) := by
  refine (dats m 0 c).arrAt_eq_of_covers 6 _ (by decide +kernel) fun t hf y => ?_
  have ht : t.val < 33 := t.isLt
  obtain ⟨i, q, rfl⟩ : ∃ (i : Fin 128) (q : Fin 512), y = ix2 i q := ⟨y 0, y 1, by funext b; fin_cases b <;> rfl⟩
  have hi := i.isLt
  have e : ((View.whole main_v4_0).slice (win0_6.rect t)).emb (ix2 i q) = ix2 ⟨128 * t.val + i.val, by omega⟩ q := by blk_ext [idx_val t]
  blk_simp; rw [after0_6, e, out6]
  exact duA_all m c t i q

/-- What one point adds to group 0's part of the gradient of the scale. -/
def dsp0 (c : Dev nD) (t : Fin cfg0.N) (d : Fin 128) : EReal := ∑ i : Fin 128, doV (m (c.tc.loc main_arg1)) ⟨d.val, by omega⟩ (128 * t.val + i.val) * ∑ k : Fin 128, pooledV (m (c.tc.loc main_arg0)) 2 ⟨k.val, by omega⟩ (128 * t.val + i.val) * (m (c.tc.loc main_arg2)) (ix3 ⟨0, by decide⟩ k d)

theorem dsgen0 (V : FVec Ideal S128x512 .f32) (w0 w1 w2 w3 : FVec Ideal S128x128 .bf16) (p : FVec Ideal S1x512 .f32) (D : FVec Ideal S128x512 .f32) (d : Fin 128) :
    (k0_pay23 V (k0_pay21 V w0) (k0_pay22 V) w1 w2 w3 p D : FVec Ideal S1x512 .f32) (ix2 0 ⟨d.val, by omega⟩) = p (ix2 0 ⟨d.val, by omega⟩) + ∑ i : Fin 128, D (ix2 i ⟨d.val, by omega⟩) * ∑ k : Fin 128, V (ix2 i ⟨k.val, by omega⟩) * w0 (ix2 k d) := by
  pointwise [k0_pay23, k0_pay21, k0_pay22]

theorem dsstep0 (c : Dev nD) (t : Fin cfg0.N) (p : FVec Ideal S1x512 .f32) (d : Fin 128) :
    (k0_pay23 (poolB m c t) (k0_pay21 (poolB m c t) (wB0 m c t)) (k0_pay22 (poolB m c t)) (wB1 m c t) (wB2 m c t) (wB3 m c t) (p) (iblk m c 2 t) : FVec Ideal S1x512 .f32) (ix2 0 ⟨d.val, by omega⟩) = p (ix2 0 ⟨d.val, by omega⟩) + dsp0 m c t d := by
  refine (dsgen0 _ _ _ _ _ _ _ d).trans (congrArg _ (Finset.sum_congr rfl fun i _ => congr (congrArg HMul.hMul (dcur m c t i _)) (Finset.sum_congr rfl fun k _ => congr (congrArg HMul.hMul (pooled0 m c t i k)) (weight0 m c t k d))))

theorem dsfirst0 (c : Dev nD) (t : Fin cfg0.N) (h0 : t.val % 33 = 0) (d : Fin 128) :
    (outsAt0 m c t.val t.isLt).2.2 (ix2 0 ⟨d.val, by omega⟩) = (0 : EReal) + dsp0 m c t d := by
  rw [outsAt0_A m c t h0]
  dsimp only
  frame_out
  refine (dsstep0 m c t _ d).trans ?_
  refine congrArg (fun r : EReal => r + _) ?_
  pointwise [k0_pay5]

theorem dsnext0 (c : Dev nD) (t : Fin cfg0.N) (h0 : ¬ t.val % 33 = 0) (d : Fin 128) :
    (outsAt0 m c t.val t.isLt).2.2 (ix2 0 ⟨d.val, by omega⟩) = (outsAt0 m c (t.val - 1) (Nat.lt_of_le_of_lt (Nat.sub_le _ _) t.isLt)).2.2 (ix2 0 ⟨d.val, by omega⟩) + dsp0 m c t d := by
  rw [outsAt0_B m c t h0]
  dsimp only
  frame_out
  exact dsstep0 m c t _ d

theorem ds_0 (c : Dev nD) (t : Fin cfg0.N) (h1 : t.val % 33 = 32) (d : Fin 128) :
    (outsAt0 m c t.val t.isLt).2.2 (ix2 0 ⟨d.val, by omega⟩) = dsV0 (m (c.tc.loc main_arg0)) (m (c.tc.loc main_arg1)) (m (c.tc.loc main_arg2)) d := by
  refine ((Pipeline.eq_sum_fin_of_reset_step_apply_of_flush (fun n h (d : Fin 128) => (outsAt0 m c n h).2.2 (ix2 0 ⟨d.val, by omega⟩)) 33 (fun _ => (0 : EReal)) _
    (fun t h d => dsfirst0 m c t h d) (fun t h d => dsnext0 m c t h d) t h1 d).trans (zero_add (_ : EReal))).trans ?_
  have ht : t.val / 33 = 0 := Nat.div_eq_of_lt (lt_of_lt_of_eq t.isLt N_0)
  unfold dsV0 dsp0
  refine Fin.sum_mul_add_congr fun s k hl => ?_
  have hr : 128 * (33 * (t.val / 33) + s.val) + k.val = s.val * 128 + k.val := by omega
  simp only [hr]
  exact mul_comm (_ : EReal) _

/-- What one point adds to group 1's part of the gradient of the scale. -/
def dsp1 (c : Dev nD) (t : Fin cfg0.N) (d : Fin 128) : EReal := ∑ i : Fin 128, doV (m (c.tc.loc main_arg1)) ⟨128 + d.val, by omega⟩ (128 * t.val + i.val) * ∑ k : Fin 128, pooledV (m (c.tc.loc main_arg0)) 4 ⟨128 + k.val, by omega⟩ (128 * t.val + i.val) * (m (c.tc.loc main_arg2)) (ix3 ⟨1, by decide⟩ k d)

theorem dsgen1 (V : FVec Ideal S128x512 .f32) (w0 w1 w2 w3 : FVec Ideal S128x128 .bf16) (p : FVec Ideal S1x512 .f32) (D : FVec Ideal S128x512 .f32) (d : Fin 128) :
    (k0_pay23 V (k0_pay21 V w0) (k0_pay22 V) w1 w2 w3 p D : FVec Ideal S1x512 .f32) (ix2 0 ⟨128 + d.val, by omega⟩) = p (ix2 0 ⟨128 + d.val, by omega⟩) + ∑ i : Fin 128, D (ix2 i ⟨128 + d.val, by omega⟩) * ∑ k : Fin 128, V (ix2 i ⟨128 + k.val, by omega⟩) * w1 (ix2 k d) := by
  pointwise [k0_pay23, k0_pay21, k0_pay22]

theorem dsstep1 (c : Dev nD) (t : Fin cfg0.N) (p : FVec Ideal S1x512 .f32) (d : Fin 128) :
    (k0_pay23 (poolB m c t) (k0_pay21 (poolB m c t) (wB0 m c t)) (k0_pay22 (poolB m c t)) (wB1 m c t) (wB2 m c t) (wB3 m c t) (p) (iblk m c 2 t) : FVec Ideal S1x512 .f32) (ix2 0 ⟨128 + d.val, by omega⟩) = p (ix2 0 ⟨128 + d.val, by omega⟩) + dsp1 m c t d := by
  refine (dsgen1 _ _ _ _ _ _ _ d).trans (congrArg _ (Finset.sum_congr rfl fun i _ => congr (congrArg HMul.hMul (dcur m c t i _)) (Finset.sum_congr rfl fun k _ => congr (congrArg HMul.hMul (pooled1 m c t i k)) (weight1 m c t k d))))

theorem dsfirst1 (c : Dev nD) (t : Fin cfg0.N) (h0 : t.val % 33 = 0) (d : Fin 128) :
    (outsAt0 m c t.val t.isLt).2.2 (ix2 0 ⟨128 + d.val, by omega⟩) = (0 : EReal) + dsp1 m c t d := by
  rw [outsAt0_A m c t h0]
  dsimp only
  frame_out
  refine (dsstep1 m c t _ d).trans ?_
  refine congrArg (fun r : EReal => r + _) ?_
  pointwise [k0_pay5]

theorem dsnext1 (c : Dev nD) (t : Fin cfg0.N) (h0 : ¬ t.val % 33 = 0) (d : Fin 128) :
    (outsAt0 m c t.val t.isLt).2.2 (ix2 0 ⟨128 + d.val, by omega⟩) = (outsAt0 m c (t.val - 1) (Nat.lt_of_le_of_lt (Nat.sub_le _ _) t.isLt)).2.2 (ix2 0 ⟨128 + d.val, by omega⟩) + dsp1 m c t d := by
  rw [outsAt0_B m c t h0]
  dsimp only
  frame_out
  exact dsstep1 m c t _ d

theorem ds_1 (c : Dev nD) (t : Fin cfg0.N) (h1 : t.val % 33 = 32) (d : Fin 128) :
    (outsAt0 m c t.val t.isLt).2.2 (ix2 0 ⟨128 + d.val, by omega⟩) = dsV1 (m (c.tc.loc main_arg0)) (m (c.tc.loc main_arg1)) (m (c.tc.loc main_arg2)) d := by
  refine ((Pipeline.eq_sum_fin_of_reset_step_apply_of_flush (fun n h (d : Fin 128) => (outsAt0 m c n h).2.2 (ix2 0 ⟨128 + d.val, by omega⟩)) 33 (fun _ => (0 : EReal)) _
    (fun t h d => dsfirst1 m c t h d) (fun t h d => dsnext1 m c t h d) t h1 d).trans (zero_add (_ : EReal))).trans ?_
  have ht : t.val / 33 = 0 := Nat.div_eq_of_lt (lt_of_lt_of_eq t.isLt N_0)
  unfold dsV1 dsp1
  refine Fin.sum_mul_add_congr fun s k hl => ?_
  have hr : 128 * (33 * (t.val / 33) + s.val) + k.val = s.val * 128 + k.val := by omega
  simp only [hr]
  exact mul_comm (_ : EReal) _

/-- What one point adds to group 2's part of the gradient of the scale. -/
def dsp2 (c : Dev nD) (t : Fin cfg0.N) (d : Fin 128) : EReal := ∑ i : Fin 128, doV (m (c.tc.loc main_arg1)) ⟨256 + d.val, by omega⟩ (128 * t.val + i.val) * ∑ k : Fin 128, pooledV (m (c.tc.loc main_arg0)) 8 ⟨256 + k.val, by omega⟩ (128 * t.val + i.val) * (m (c.tc.loc main_arg2)) (ix3 ⟨2, by decide⟩ k d)

theorem dsgen2 (V : FVec Ideal S128x512 .f32) (w0 w1 w2 w3 : FVec Ideal S128x128 .bf16) (p : FVec Ideal S1x512 .f32) (D : FVec Ideal S128x512 .f32) (d : Fin 128) :
    (k0_pay23 V (k0_pay21 V w0) (k0_pay22 V) w1 w2 w3 p D : FVec Ideal S1x512 .f32) (ix2 0 ⟨256 + d.val, by omega⟩) = p (ix2 0 ⟨256 + d.val, by omega⟩) + ∑ i : Fin 128, D (ix2 i ⟨256 + d.val, by omega⟩) * ∑ k : Fin 128, V (ix2 i ⟨256 + k.val, by omega⟩) * w2 (ix2 k d) := by
  pointwise [k0_pay23, k0_pay21, k0_pay22]
  have n0 : (256 + d.val < 128) = False := eq_false (by omega)
  have n1 : (256 + d.val - 128 < 128) = False := eq_false (by omega)
  have n2 : (256 + d.val - 128 - 128 < 128) = True := eq_true (by omega)
  simp only [n0, n1, n2, dite_false, dite_true, ↓reduceDIte]
  have h9 : (⟨256 + d.val - 128 - 128, by omega⟩ : Fin 128) = d := Fin.ext (by show 256 + d.val - 128 - 128 = d.val; omega)
  simp only [h9]
  try rfl

theorem dsstep2 (c : Dev nD) (t : Fin cfg0.N) (p : FVec Ideal S1x512 .f32) (d : Fin 128) :
    (k0_pay23 (poolB m c t) (k0_pay21 (poolB m c t) (wB0 m c t)) (k0_pay22 (poolB m c t)) (wB1 m c t) (wB2 m c t) (wB3 m c t) (p) (iblk m c 2 t) : FVec Ideal S1x512 .f32) (ix2 0 ⟨256 + d.val, by omega⟩) = p (ix2 0 ⟨256 + d.val, by omega⟩) + dsp2 m c t d := by
  refine (dsgen2 _ _ _ _ _ _ _ d).trans (congrArg _ (Finset.sum_congr rfl fun i _ => congr (congrArg HMul.hMul (dcur m c t i _)) (Finset.sum_congr rfl fun k _ => congr (congrArg HMul.hMul (pooled2 m c t i k)) (weight2 m c t k d))))

theorem dsfirst2 (c : Dev nD) (t : Fin cfg0.N) (h0 : t.val % 33 = 0) (d : Fin 128) :
    (outsAt0 m c t.val t.isLt).2.2 (ix2 0 ⟨256 + d.val, by omega⟩) = (0 : EReal) + dsp2 m c t d := by
  rw [outsAt0_A m c t h0]
  dsimp only
  frame_out
  refine (dsstep2 m c t _ d).trans ?_
  refine congrArg (fun r : EReal => r + _) ?_
  pointwise [k0_pay5]

theorem dsnext2 (c : Dev nD) (t : Fin cfg0.N) (h0 : ¬ t.val % 33 = 0) (d : Fin 128) :
    (outsAt0 m c t.val t.isLt).2.2 (ix2 0 ⟨256 + d.val, by omega⟩) = (outsAt0 m c (t.val - 1) (Nat.lt_of_le_of_lt (Nat.sub_le _ _) t.isLt)).2.2 (ix2 0 ⟨256 + d.val, by omega⟩) + dsp2 m c t d := by
  rw [outsAt0_B m c t h0]
  dsimp only
  frame_out
  exact dsstep2 m c t _ d

theorem ds_2 (c : Dev nD) (t : Fin cfg0.N) (h1 : t.val % 33 = 32) (d : Fin 128) :
    (outsAt0 m c t.val t.isLt).2.2 (ix2 0 ⟨256 + d.val, by omega⟩) = dsV2 (m (c.tc.loc main_arg0)) (m (c.tc.loc main_arg1)) (m (c.tc.loc main_arg2)) d := by
  refine ((Pipeline.eq_sum_fin_of_reset_step_apply_of_flush (fun n h (d : Fin 128) => (outsAt0 m c n h).2.2 (ix2 0 ⟨256 + d.val, by omega⟩)) 33 (fun _ => (0 : EReal)) _
    (fun t h d => dsfirst2 m c t h d) (fun t h d => dsnext2 m c t h d) t h1 d).trans (zero_add (_ : EReal))).trans ?_
  have ht : t.val / 33 = 0 := Nat.div_eq_of_lt (lt_of_lt_of_eq t.isLt N_0)
  unfold dsV2 dsp2
  refine Fin.sum_mul_add_congr fun s k hl => ?_
  have hr : 128 * (33 * (t.val / 33) + s.val) + k.val = s.val * 128 + k.val := by omega
  simp only [hr]
  exact mul_comm (_ : EReal) _

/-- What one point adds to group 3's part of the gradient of the scale. -/
def dsp3 (c : Dev nD) (t : Fin cfg0.N) (d : Fin 128) : EReal := ∑ i : Fin 128, doV (m (c.tc.loc main_arg1)) ⟨384 + d.val, by omega⟩ (128 * t.val + i.val) * ∑ k : Fin 128, pooledV (m (c.tc.loc main_arg0)) 16 ⟨384 + k.val, by omega⟩ (128 * t.val + i.val) * (m (c.tc.loc main_arg2)) (ix3 ⟨3, by decide⟩ k d)

theorem dsgen3 (V : FVec Ideal S128x512 .f32) (w0 w1 w2 w3 : FVec Ideal S128x128 .bf16) (p : FVec Ideal S1x512 .f32) (D : FVec Ideal S128x512 .f32) (d : Fin 128) :
    (k0_pay23 V (k0_pay21 V w0) (k0_pay22 V) w1 w2 w3 p D : FVec Ideal S1x512 .f32) (ix2 0 ⟨384 + d.val, by omega⟩) = p (ix2 0 ⟨384 + d.val, by omega⟩) + ∑ i : Fin 128, D (ix2 i ⟨384 + d.val, by omega⟩) * ∑ k : Fin 128, V (ix2 i ⟨384 + k.val, by omega⟩) * w3 (ix2 k d) := by
  pointwise [k0_pay23, k0_pay21, k0_pay22]
  have n0 : (384 + d.val < 128) = False := eq_false (by omega)
  have n1 : (384 + d.val - 128 < 128) = False := eq_false (by omega)
  have n2 : (384 + d.val - 128 - 128 < 128) = False := eq_false (by omega)
  simp only [n0, n1, n2, dite_false, dite_true, ↓reduceDIte]
  have h9 : (⟨384 + d.val - 128 - 128 - 128, by omega⟩ : Fin 128) = d := Fin.ext (by show 384 + d.val - 128 - 128 - 128 = d.val; omega)
  simp only [h9]
  try rfl

theorem dsstep3 (c : Dev nD) (t : Fin cfg0.N) (p : FVec Ideal S1x512 .f32) (d : Fin 128) :
    (k0_pay23 (poolB m c t) (k0_pay21 (poolB m c t) (wB0 m c t)) (k0_pay22 (poolB m c t)) (wB1 m c t) (wB2 m c t) (wB3 m c t) (p) (iblk m c 2 t) : FVec Ideal S1x512 .f32) (ix2 0 ⟨384 + d.val, by omega⟩) = p (ix2 0 ⟨384 + d.val, by omega⟩) + dsp3 m c t d := by
  refine (dsgen3 _ _ _ _ _ _ _ d).trans (congrArg _ (Finset.sum_congr rfl fun i _ => congr (congrArg HMul.hMul (dcur m c t i _)) (Finset.sum_congr rfl fun k _ => congr (congrArg HMul.hMul (pooled3 m c t i k)) (weight3 m c t k d))))

theorem dsfirst3 (c : Dev nD) (t : Fin cfg0.N) (h0 : t.val % 33 = 0) (d : Fin 128) :
    (outsAt0 m c t.val t.isLt).2.2 (ix2 0 ⟨384 + d.val, by omega⟩) = (0 : EReal) + dsp3 m c t d := by
  rw [outsAt0_A m c t h0]
  dsimp only
  frame_out
  refine (dsstep3 m c t _ d).trans ?_
  refine congrArg (fun r : EReal => r + _) ?_
  pointwise [k0_pay5]

theorem dsnext3 (c : Dev nD) (t : Fin cfg0.N) (h0 : ¬ t.val % 33 = 0) (d : Fin 128) :
    (outsAt0 m c t.val t.isLt).2.2 (ix2 0 ⟨384 + d.val, by omega⟩) = (outsAt0 m c (t.val - 1) (Nat.lt_of_le_of_lt (Nat.sub_le _ _) t.isLt)).2.2 (ix2 0 ⟨384 + d.val, by omega⟩) + dsp3 m c t d := by
  rw [outsAt0_B m c t h0]
  dsimp only
  frame_out
  exact dsstep3 m c t _ d

theorem ds_3 (c : Dev nD) (t : Fin cfg0.N) (h1 : t.val % 33 = 32) (d : Fin 128) :
    (outsAt0 m c t.val t.isLt).2.2 (ix2 0 ⟨384 + d.val, by omega⟩) = dsV3 (m (c.tc.loc main_arg0)) (m (c.tc.loc main_arg1)) (m (c.tc.loc main_arg2)) d := by
  refine ((Pipeline.eq_sum_fin_of_reset_step_apply_of_flush (fun n h (d : Fin 128) => (outsAt0 m c n h).2.2 (ix2 0 ⟨384 + d.val, by omega⟩)) 33 (fun _ => (0 : EReal)) _
    (fun t h d => dsfirst3 m c t h d) (fun t h d => dsnext3 m c t h d) t h1 d).trans (zero_add (_ : EReal))).trans ?_
  have ht : t.val / 33 = 0 := Nat.div_eq_of_lt (lt_of_lt_of_eq t.isLt N_0)
  unfold dsV3 dsp3
  refine Fin.sum_mul_add_congr fun s k hl => ?_
  have hr : 128 * (33 * (t.val / 33) + s.val) + k.val = s.val * 128 + k.val := by omega
  simp only [hr]
  exact mul_comm (_ : EReal) _

theorem ds_all (c : Dev nD) (t : Fin cfg0.N) (hl : t.val % 33 = 32) (q : Fin 512) :
    (outsAt0 m c t.val t.isLt).2.2 (ix2 0 q) = refDs (m (c.tc.loc main_arg0)) (m (c.tc.loc main_arg1)) (m (c.tc.loc main_arg2)) (m (c.tc.loc main_arg3)) (ix2 0 q) := by
  have hq := q.isLt
  by_cases h0 : q.val < 128
  · have e : q = ⟨(⟨q.val, by omega⟩ : Fin 128).val, by show q.val < 512; omega⟩ := rfl
    rw [e]; exact ((ds_0 m c t hl (⟨q.val, by omega⟩ : Fin 128)).trans (refDs_0 _ _ _ _ _).symm)
  by_cases h1 : q.val < 256
  · have e : q = ⟨128 + (⟨q.val - 128, by omega⟩ : Fin 128).val, by show 128 + (q.val - 128) < 512; omega⟩ := Fin.ext (by show q.val = 128 + (q.val - 128); omega)
    rw [e]; exact ((ds_1 m c t hl (⟨q.val - 128, by omega⟩ : Fin 128)).trans (refDs_1 _ _ _ _ _).symm)
  by_cases h2 : q.val < 384
  · have e : q = ⟨256 + (⟨q.val - 256, by omega⟩ : Fin 128).val, by show 256 + (q.val - 256) < 512; omega⟩ := Fin.ext (by show q.val = 256 + (q.val - 256); omega)
    rw [e]; exact ((ds_2 m c t hl (⟨q.val - 256, by omega⟩ : Fin 128)).trans (refDs_2 _ _ _ _ _).symm)
  · have e : q = ⟨384 + (⟨q.val - 384, by omega⟩ : Fin 128).val, by show 384 + (q.val - 384) < 512; omega⟩ := Fin.ext (by show q.val = 384 + (q.val - 384); omega)
    rw [e]; exact ((ds_3 m c t hl (⟨q.val - 384, by omega⟩ : Fin 128)).trans (refDs_3 _ _ _ _ _).symm)

/-- The kernel's gradient of the scale is the reference's. -/
theorem final_8 (c : Dev nD) : (dats m 0 c).arrAt 8 (cfgs 0).N = refDs (m (c.tc.loc main_arg0)) (m (c.tc.loc main_arg1)) (m (c.tc.loc main_arg2)) (m (c.tc.loc main_arg3)) := by
  refine (dats m 0 c).arrAt_eq_of_covers 8 _ (by decide +kernel) fun t hf y => ?_
  have hy : (y : S1x512.Idx) = ((cfg0.win 8).blk t).view.emb y := by blk_ext [idx_val t]
  have e1 : (y : S1x512.Idx) = ix2 0 (y 1) := by blk_ext
  blk_simp; rw [after0_8]
  exact (congrArg _ e1).trans ((ds_all m c t ((flush0_8 t).mp hf) (y 1)).trans (congrArg _ (e1.symm.trans hy)))

/-- Group 0's block of the written blocks. -/
theorem pick0 (x0 x1 x2 x3 : FVec Ideal S128x128 .f32) (L : List (View.Piece (Elt Ideal) S512x128 .f32)) (k d : Fin 128) :
    View.canon ((⟨Rect.unit ![384, 0] ![128, 128] inb_S512x128_S128x128_384_0, x3⟩ : View.Piece (Elt Ideal) S512x128 .f32) :: ⟨Rect.unit ![256, 0] ![128, 128] inb_S512x128_S128x128_256_0, x2⟩ :: ⟨Rect.unit ![128, 0] ![128, 128] inb_S512x128_S128x128_128_0, x1⟩ :: ⟨Rect.unit ![0, 0] ![128, 128] inb_S512x128_S128x128_0_0, x0⟩ :: L) (ix2 ⟨k.val, by omega⟩ d) = x0 (ix2 k d) := by
  have hk := k.isLt
  rw [View.canon_cons_of_not_mem _ _ (Rect.not_mem_set_of_axis _ _ 0 384 128 rfl rfl rfl (Or.inl (show k.val < 384 by omega)))]
  rw [View.canon_cons_of_not_mem _ _ (Rect.not_mem_set_of_axis _ _ 0 256 128 rfl rfl rfl (Or.inl (show k.val < 256 by omega)))]
  rw [View.canon_cons_of_not_mem _ _ (Rect.not_mem_set_of_axis _ _ 0 128 128 rfl rfl rfl (Or.inl (show k.val < 128 by omega)))]
  have e : (ix2 ⟨k.val, by omega⟩ d : S512x128.Idx) = (Rect.unit ![0, 0] ![128, 128] inb_S512x128_S128x128_0_0).emb (ix2 k d) := by
    funext b
    fin_cases b <;> refine Fin.ext ?_
    · show k.val = 0 + 1 * k.val; omega
    · show d.val = 0 + 1 * d.val; omega
  rw [e]
  exact View.canon_cons_emb _ _ _ _

/-- Group 1's block of the written blocks. -/
theorem pick1 (x0 x1 x2 x3 : FVec Ideal S128x128 .f32) (L : List (View.Piece (Elt Ideal) S512x128 .f32)) (k d : Fin 128) :
    View.canon ((⟨Rect.unit ![384, 0] ![128, 128] inb_S512x128_S128x128_384_0, x3⟩ : View.Piece (Elt Ideal) S512x128 .f32) :: ⟨Rect.unit ![256, 0] ![128, 128] inb_S512x128_S128x128_256_0, x2⟩ :: ⟨Rect.unit ![128, 0] ![128, 128] inb_S512x128_S128x128_128_0, x1⟩ :: ⟨Rect.unit ![0, 0] ![128, 128] inb_S512x128_S128x128_0_0, x0⟩ :: L) (ix2 ⟨128 + k.val, by omega⟩ d) = x1 (ix2 k d) := by
  have hk := k.isLt
  rw [View.canon_cons_of_not_mem _ _ (Rect.not_mem_set_of_axis _ _ 0 384 128 rfl rfl rfl (Or.inl (show 128 + k.val < 384 by omega)))]
  rw [View.canon_cons_of_not_mem _ _ (Rect.not_mem_set_of_axis _ _ 0 256 128 rfl rfl rfl (Or.inl (show 128 + k.val < 256 by omega)))]
  have e : (ix2 ⟨128 + k.val, by omega⟩ d : S512x128.Idx) = (Rect.unit ![128, 0] ![128, 128] inb_S512x128_S128x128_128_0).emb (ix2 k d) := by
    funext b
    fin_cases b <;> refine Fin.ext ?_
    · show 128 + k.val = 128 + 1 * k.val; omega
    · show d.val = 0 + 1 * d.val; omega
  rw [e]
  exact View.canon_cons_emb _ _ _ _

/-- Group 2's block of the written blocks. -/
theorem pick2 (x0 x1 x2 x3 : FVec Ideal S128x128 .f32) (L : List (View.Piece (Elt Ideal) S512x128 .f32)) (k d : Fin 128) :
    View.canon ((⟨Rect.unit ![384, 0] ![128, 128] inb_S512x128_S128x128_384_0, x3⟩ : View.Piece (Elt Ideal) S512x128 .f32) :: ⟨Rect.unit ![256, 0] ![128, 128] inb_S512x128_S128x128_256_0, x2⟩ :: ⟨Rect.unit ![128, 0] ![128, 128] inb_S512x128_S128x128_128_0, x1⟩ :: ⟨Rect.unit ![0, 0] ![128, 128] inb_S512x128_S128x128_0_0, x0⟩ :: L) (ix2 ⟨256 + k.val, by omega⟩ d) = x2 (ix2 k d) := by
  have hk := k.isLt
  rw [View.canon_cons_of_not_mem _ _ (Rect.not_mem_set_of_axis _ _ 0 384 128 rfl rfl rfl (Or.inl (show 256 + k.val < 384 by omega)))]
  have e : (ix2 ⟨256 + k.val, by omega⟩ d : S512x128.Idx) = (Rect.unit ![256, 0] ![128, 128] inb_S512x128_S128x128_256_0).emb (ix2 k d) := by
    funext b
    fin_cases b <;> refine Fin.ext ?_
    · show 256 + k.val = 256 + 1 * k.val; omega
    · show d.val = 0 + 1 * d.val; omega
  rw [e]
  exact View.canon_cons_emb _ _ _ _

/-- Group 3's block of the written blocks. -/
theorem pick3 (x0 x1 x2 x3 : FVec Ideal S128x128 .f32) (L : List (View.Piece (Elt Ideal) S512x128 .f32)) (k d : Fin 128) :
    View.canon ((⟨Rect.unit ![384, 0] ![128, 128] inb_S512x128_S128x128_384_0, x3⟩ : View.Piece (Elt Ideal) S512x128 .f32) :: ⟨Rect.unit ![256, 0] ![128, 128] inb_S512x128_S128x128_256_0, x2⟩ :: ⟨Rect.unit ![128, 0] ![128, 128] inb_S512x128_S128x128_128_0, x1⟩ :: ⟨Rect.unit ![0, 0] ![128, 128] inb_S512x128_S128x128_0_0, x0⟩ :: L) (ix2 ⟨384 + k.val, by omega⟩ d) = x3 (ix2 k d) := by
  have hk := k.isLt
  have e : (ix2 ⟨384 + k.val, by omega⟩ d : S512x128.Idx) = (Rect.unit ![384, 0] ![128, 128] inb_S512x128_S128x128_384_0).emb (ix2 k d) := by
    funext b
    fin_cases b <;> refine Fin.ext ?_
    · show 384 + k.val = 384 + 1 * k.val; omega
    · show d.val = 0 + 1 * d.val; omega
  rw [e]
  exact View.canon_cons_emb _ _ _ _

/-- What one point adds to group 0's part of the gradient of the weights. -/
def dwp0 (c : Dev nD) (t : Fin cfg0.N) (k d : Fin 128) : EReal := ∑ i : Fin 128, pooledV (m (c.tc.loc main_arg0)) 2 ⟨k.val, by omega⟩ (128 * t.val + i.val) * dmV (m (c.tc.loc main_arg1)) (m (c.tc.loc main_arg3)) ⟨d.val, by omega⟩ (128 * t.val + i.val)

theorem dwgen0 (V : FVec Ideal S128x512 .f32) (M : FVec Ideal S160x512 .f32) (p : FVec Ideal S128x128 .f32) (k d : Fin 128) :
    ((k0_pay26 V M p) : FVec Ideal S128x128 .f32) (ix2 k d) = p (ix2 k d) + ∑ i : Fin 128, V (ix2 i ⟨k.val, by omega⟩) * M (ix2 ⟨i.val, by omega⟩ ⟨d.val, by omega⟩) := by
  pointwise [k0_pay26, k0_pay1, k0_pay27, k0_pay28, k0_pay2, k0_pay3, k0_pay24, k0_pay25]

theorem dwstep0 (c : Dev nD) (t : Fin cfg0.N) (p : FVec Ideal S128x128 .f32) (k d : Fin 128) :
    ((k0_pay26 (poolB m c t) (gmB m c t) p) : FVec Ideal S128x128 .f32) (ix2 k d) = p (ix2 k d) + dwp0 m c t k d := by
  refine (dwgen0 _ _ _ k d).trans (congrArg _ (Finset.sum_congr rfl fun i _ => congr (congrArg HMul.hMul (pooled0 m c t i k)) (dmB m c t ⟨i.val, by omega⟩ _)))

theorem dwfirst0 (c : Dev nD) (t : Fin cfg0.N) (h0 : t.val % 33 = 0) (k d : Fin 128) :
    (outsAt0 m c t.val t.isLt).2.1 (ix2 ⟨k.val, by omega⟩ d) = (0 : EReal) + dwp0 m c t k d := by
  rw [outsAt0_A m c t h0]
  dsimp only
  frame_out
  simp (disch := decide) only [↓ View.readCov_skip, ↓ View.readCov_fill]
  refine (pick0 _ _ _ _ _ k d).trans ((dwstep0 m c t _ k d).trans (congrArg (fun r : EReal => r + _) ?_))
  show (k0_pay4 : FVec Ideal S512x128 .f32) _ = 0
  pointwise [k0_pay4]

theorem dwnext0 (c : Dev nD) (t : Fin cfg0.N) (h0 : ¬ t.val % 33 = 0) (k d : Fin 128) :
    (outsAt0 m c t.val t.isLt).2.1 (ix2 ⟨k.val, by omega⟩ d) = (outsAt0 m c (t.val - 1) (Nat.lt_of_le_of_lt (Nat.sub_le _ _) t.isLt)).2.1 (ix2 ⟨k.val, by omega⟩ d) + dwp0 m c t k d := by
  rw [outsAt0_B m c t h0]
  dsimp only
  frame_out
  refine (pick0 _ _ _ _ _ k d).trans ((dwstep0 m c t _ k d).trans (congrArg (fun r : EReal => r + _) ?_))
  generalize (outsAt0 m c (t.val - 1) (Nat.lt_of_le_of_lt (Nat.sub_le _ _) t.isLt)).2.1 = B
  refine congrArg B ?_
  funext b
  fin_cases b <;> refine Fin.ext ?_
  · show 0 + 1 * k.val = k.val; omega
  · show 0 + 1 * d.val = d.val; omega

theorem dw_0 (c : Dev nD) (t : Fin cfg0.N) (h1 : t.val % 33 = 32) (k d : Fin 128) :
    (outsAt0 m c t.val t.isLt).2.1 (ix2 ⟨k.val, by omega⟩ d) = dwV0 (m (c.tc.loc main_arg0)) (m (c.tc.loc main_arg1)) (m (c.tc.loc main_arg3)) k d := by
  refine ((Pipeline.eq_sum_fin_of_reset_step_apply_of_flush (fun n h (d : Fin 128) => (outsAt0 m c n h).2.1 (ix2 ⟨k.val, by omega⟩ d)) 33 (fun _ => (0 : EReal)) _
    (fun t h d => dwfirst0 m c t h k d) (fun t h d => dwnext0 m c t h k d) t h1 d).trans (zero_add (_ : EReal))).trans ?_
  have ht : t.val / 33 = 0 := Nat.div_eq_of_lt (lt_of_lt_of_eq t.isLt N_0)
  unfold dwV0 dwp0
  refine Fin.sum_mul_add_congr fun s k hl => ?_
  have hr : 128 * (33 * (t.val / 33) + s.val) + k.val = s.val * 128 + k.val := by omega
  simp only [hr]

/-- What one point adds to group 1's part of the gradient of the weights. -/
def dwp1 (c : Dev nD) (t : Fin cfg0.N) (k d : Fin 128) : EReal := ∑ i : Fin 128, pooledV (m (c.tc.loc main_arg0)) 4 ⟨128 + k.val, by omega⟩ (128 * t.val + i.val) * dmV (m (c.tc.loc main_arg1)) (m (c.tc.loc main_arg3)) ⟨128 + d.val, by omega⟩ (128 * t.val + i.val)

theorem dwgen1 (V : FVec Ideal S128x512 .f32) (M : FVec Ideal S160x512 .f32) (p : FVec Ideal S128x128 .f32) (k d : Fin 128) :
    ((k0_pay1 (k0_pay27 p) (k0_pay28 V M)) : FVec Ideal S128x128 .f32) (ix2 k d) = p (ix2 k d) + ∑ i : Fin 128, V (ix2 i ⟨128 + k.val, by omega⟩) * M (ix2 ⟨i.val, by omega⟩ ⟨128 + d.val, by omega⟩) := by
  pointwise [k0_pay26, k0_pay1, k0_pay27, k0_pay28, k0_pay2, k0_pay3, k0_pay24, k0_pay25]

theorem dwstep1 (c : Dev nD) (t : Fin cfg0.N) (p : FVec Ideal S128x128 .f32) (k d : Fin 128) :
    ((k0_pay1 (k0_pay27 p) (k0_pay28 (poolB m c t) (gmB m c t))) : FVec Ideal S128x128 .f32) (ix2 k d) = p (ix2 k d) + dwp1 m c t k d := by
  refine (dwgen1 _ _ _ k d).trans (congrArg _ (Finset.sum_congr rfl fun i _ => congr (congrArg HMul.hMul (pooled1 m c t i k)) (dmB m c t ⟨i.val, by omega⟩ _)))

theorem dwfirst1 (c : Dev nD) (t : Fin cfg0.N) (h0 : t.val % 33 = 0) (k d : Fin 128) :
    (outsAt0 m c t.val t.isLt).2.1 (ix2 ⟨128 + k.val, by omega⟩ d) = (0 : EReal) + dwp1 m c t k d := by
  rw [outsAt0_A m c t h0]
  dsimp only
  frame_out
  simp (disch := decide) only [↓ View.readCov_skip, ↓ View.readCov_fill]
  refine (pick1 _ _ _ _ _ k d).trans ((dwstep1 m c t _ k d).trans (congrArg (fun r : EReal => r + _) ?_))
  show (k0_pay4 : FVec Ideal S512x128 .f32) _ = 0
  pointwise [k0_pay4]

theorem dwnext1 (c : Dev nD) (t : Fin cfg0.N) (h0 : ¬ t.val % 33 = 0) (k d : Fin 128) :
    (outsAt0 m c t.val t.isLt).2.1 (ix2 ⟨128 + k.val, by omega⟩ d) = (outsAt0 m c (t.val - 1) (Nat.lt_of_le_of_lt (Nat.sub_le _ _) t.isLt)).2.1 (ix2 ⟨128 + k.val, by omega⟩ d) + dwp1 m c t k d := by
  rw [outsAt0_B m c t h0]
  dsimp only
  frame_out
  refine (pick1 _ _ _ _ _ k d).trans ((dwstep1 m c t _ k d).trans (congrArg (fun r : EReal => r + _) ?_))
  generalize (outsAt0 m c (t.val - 1) (Nat.lt_of_le_of_lt (Nat.sub_le _ _) t.isLt)).2.1 = B
  refine congrArg B ?_
  funext b
  fin_cases b <;> refine Fin.ext ?_
  · show 128 + 1 * k.val = 128 + k.val; omega
  · show 0 + 1 * d.val = d.val; omega

theorem dw_1 (c : Dev nD) (t : Fin cfg0.N) (h1 : t.val % 33 = 32) (k d : Fin 128) :
    (outsAt0 m c t.val t.isLt).2.1 (ix2 ⟨128 + k.val, by omega⟩ d) = dwV1 (m (c.tc.loc main_arg0)) (m (c.tc.loc main_arg1)) (m (c.tc.loc main_arg3)) k d := by
  refine ((Pipeline.eq_sum_fin_of_reset_step_apply_of_flush (fun n h (d : Fin 128) => (outsAt0 m c n h).2.1 (ix2 ⟨128 + k.val, by omega⟩ d)) 33 (fun _ => (0 : EReal)) _
    (fun t h d => dwfirst1 m c t h k d) (fun t h d => dwnext1 m c t h k d) t h1 d).trans (zero_add (_ : EReal))).trans ?_
  have ht : t.val / 33 = 0 := Nat.div_eq_of_lt (lt_of_lt_of_eq t.isLt N_0)
  unfold dwV1 dwp1
  refine Fin.sum_mul_add_congr fun s k hl => ?_
  have hr : 128 * (33 * (t.val / 33) + s.val) + k.val = s.val * 128 + k.val := by omega
  simp only [hr]

/-- What one point adds to group 2's part of the gradient of the weights. -/
def dwp2 (c : Dev nD) (t : Fin cfg0.N) (k d : Fin 128) : EReal := ∑ i : Fin 128, pooledV (m (c.tc.loc main_arg0)) 8 ⟨256 + k.val, by omega⟩ (128 * t.val + i.val) * dmV (m (c.tc.loc main_arg1)) (m (c.tc.loc main_arg3)) ⟨256 + d.val, by omega⟩ (128 * t.val + i.val)

theorem dwgen2 (V : FVec Ideal S128x512 .f32) (M : FVec Ideal S160x512 .f32) (p : FVec Ideal S128x128 .f32) (k d : Fin 128) :
    ((k0_pay2 (k0_pay24 V) (k0_pay25 M) p) : FVec Ideal S128x128 .f32) (ix2 k d) = p (ix2 k d) + ∑ i : Fin 128, V (ix2 i ⟨256 + k.val, by omega⟩) * M (ix2 ⟨i.val, by omega⟩ ⟨256 + d.val, by omega⟩) := by
  pointwise [k0_pay26, k0_pay1, k0_pay27, k0_pay28, k0_pay2, k0_pay3, k0_pay24, k0_pay25]

theorem dwstep2 (c : Dev nD) (t : Fin cfg0.N) (p : FVec Ideal S128x128 .f32) (k d : Fin 128) :
    ((k0_pay2 (k0_pay24 (poolB m c t)) (k0_pay25 (gmB m c t)) p) : FVec Ideal S128x128 .f32) (ix2 k d) = p (ix2 k d) + dwp2 m c t k d := by
  refine (dwgen2 _ _ _ k d).trans (congrArg _ (Finset.sum_congr rfl fun i _ => congr (congrArg HMul.hMul (pooled2 m c t i k)) (dmB m c t ⟨i.val, by omega⟩ _)))

theorem dwfirst2 (c : Dev nD) (t : Fin cfg0.N) (h0 : t.val % 33 = 0) (k d : Fin 128) :
    (outsAt0 m c t.val t.isLt).2.1 (ix2 ⟨256 + k.val, by omega⟩ d) = (0 : EReal) + dwp2 m c t k d := by
  rw [outsAt0_A m c t h0]
  dsimp only
  frame_out
  simp (disch := decide) only [↓ View.readCov_skip, ↓ View.readCov_fill]
  refine (pick2 _ _ _ _ _ k d).trans ((dwstep2 m c t _ k d).trans (congrArg (fun r : EReal => r + _) ?_))
  show (k0_pay4 : FVec Ideal S512x128 .f32) _ = 0
  pointwise [k0_pay4]

theorem dwnext2 (c : Dev nD) (t : Fin cfg0.N) (h0 : ¬ t.val % 33 = 0) (k d : Fin 128) :
    (outsAt0 m c t.val t.isLt).2.1 (ix2 ⟨256 + k.val, by omega⟩ d) = (outsAt0 m c (t.val - 1) (Nat.lt_of_le_of_lt (Nat.sub_le _ _) t.isLt)).2.1 (ix2 ⟨256 + k.val, by omega⟩ d) + dwp2 m c t k d := by
  rw [outsAt0_B m c t h0]
  dsimp only
  frame_out
  refine (pick2 _ _ _ _ _ k d).trans ((dwstep2 m c t _ k d).trans (congrArg (fun r : EReal => r + _) ?_))
  generalize (outsAt0 m c (t.val - 1) (Nat.lt_of_le_of_lt (Nat.sub_le _ _) t.isLt)).2.1 = B
  refine congrArg B ?_
  funext b
  fin_cases b <;> refine Fin.ext ?_
  · show 256 + 1 * k.val = 256 + k.val; omega
  · show 0 + 1 * d.val = d.val; omega

theorem dw_2 (c : Dev nD) (t : Fin cfg0.N) (h1 : t.val % 33 = 32) (k d : Fin 128) :
    (outsAt0 m c t.val t.isLt).2.1 (ix2 ⟨256 + k.val, by omega⟩ d) = dwV2 (m (c.tc.loc main_arg0)) (m (c.tc.loc main_arg1)) (m (c.tc.loc main_arg3)) k d := by
  refine ((Pipeline.eq_sum_fin_of_reset_step_apply_of_flush (fun n h (d : Fin 128) => (outsAt0 m c n h).2.1 (ix2 ⟨256 + k.val, by omega⟩ d)) 33 (fun _ => (0 : EReal)) _
    (fun t h d => dwfirst2 m c t h k d) (fun t h d => dwnext2 m c t h k d) t h1 d).trans (zero_add (_ : EReal))).trans ?_
  have ht : t.val / 33 = 0 := Nat.div_eq_of_lt (lt_of_lt_of_eq t.isLt N_0)
  unfold dwV2 dwp2
  refine Fin.sum_mul_add_congr fun s k hl => ?_
  have hr : 128 * (33 * (t.val / 33) + s.val) + k.val = s.val * 128 + k.val := by omega
  simp only [hr]

/-- What one point adds to group 3's part of the gradient of the weights. -/
def dwp3 (c : Dev nD) (t : Fin cfg0.N) (k d : Fin 128) : EReal := ∑ i : Fin 128, pooledV (m (c.tc.loc main_arg0)) 16 ⟨384 + k.val, by omega⟩ (128 * t.val + i.val) * dmV (m (c.tc.loc main_arg1)) (m (c.tc.loc main_arg3)) ⟨384 + d.val, by omega⟩ (128 * t.val + i.val)

theorem dwgen3 (V : FVec Ideal S128x512 .f32) (M : FVec Ideal S160x512 .f32) (p : FVec Ideal S128x128 .f32) (k d : Fin 128) :
    ((k0_pay3 (k0_pay24 V) (k0_pay25 M) p) : FVec Ideal S128x128 .f32) (ix2 k d) = p (ix2 k d) + ∑ i : Fin 128, V (ix2 i ⟨384 + k.val, by omega⟩) * M (ix2 ⟨i.val, by omega⟩ ⟨384 + d.val, by omega⟩) := by
  pointwise [k0_pay26, k0_pay1, k0_pay27, k0_pay28, k0_pay2, k0_pay3, k0_pay24, k0_pay25]

theorem dwstep3 (c : Dev nD) (t : Fin cfg0.N) (p : FVec Ideal S128x128 .f32) (k d : Fin 128) :
    ((k0_pay3 (k0_pay24 (poolB m c t)) (k0_pay25 (gmB m c t)) p) : FVec Ideal S128x128 .f32) (ix2 k d) = p (ix2 k d) + dwp3 m c t k d := by
  refine (dwgen3 _ _ _ k d).trans (congrArg _ (Finset.sum_congr rfl fun i _ => congr (congrArg HMul.hMul (pooled3 m c t i k)) (dmB m c t ⟨i.val, by omega⟩ _)))

theorem dwfirst3 (c : Dev nD) (t : Fin cfg0.N) (h0 : t.val % 33 = 0) (k d : Fin 128) :
    (outsAt0 m c t.val t.isLt).2.1 (ix2 ⟨384 + k.val, by omega⟩ d) = (0 : EReal) + dwp3 m c t k d := by
  rw [outsAt0_A m c t h0]
  dsimp only
  frame_out
  simp (disch := decide) only [↓ View.readCov_skip, ↓ View.readCov_fill]
  refine (pick3 _ _ _ _ _ k d).trans ((dwstep3 m c t _ k d).trans (congrArg (fun r : EReal => r + _) ?_))
  show (k0_pay4 : FVec Ideal S512x128 .f32) _ = 0
  pointwise [k0_pay4]

theorem dwnext3 (c : Dev nD) (t : Fin cfg0.N) (h0 : ¬ t.val % 33 = 0) (k d : Fin 128) :
    (outsAt0 m c t.val t.isLt).2.1 (ix2 ⟨384 + k.val, by omega⟩ d) = (outsAt0 m c (t.val - 1) (Nat.lt_of_le_of_lt (Nat.sub_le _ _) t.isLt)).2.1 (ix2 ⟨384 + k.val, by omega⟩ d) + dwp3 m c t k d := by
  rw [outsAt0_B m c t h0]
  dsimp only
  frame_out
  refine (pick3 _ _ _ _ _ k d).trans ((dwstep3 m c t _ k d).trans (congrArg (fun r : EReal => r + _) ?_))
  generalize (outsAt0 m c (t.val - 1) (Nat.lt_of_le_of_lt (Nat.sub_le _ _) t.isLt)).2.1 = B
  refine congrArg B ?_
  funext b
  fin_cases b <;> refine Fin.ext ?_
  · show 384 + 1 * k.val = 384 + k.val; omega
  · show 0 + 1 * d.val = d.val; omega

theorem dw_3 (c : Dev nD) (t : Fin cfg0.N) (h1 : t.val % 33 = 32) (k d : Fin 128) :
    (outsAt0 m c t.val t.isLt).2.1 (ix2 ⟨384 + k.val, by omega⟩ d) = dwV3 (m (c.tc.loc main_arg0)) (m (c.tc.loc main_arg1)) (m (c.tc.loc main_arg3)) k d := by
  refine ((Pipeline.eq_sum_fin_of_reset_step_apply_of_flush (fun n h (d : Fin 128) => (outsAt0 m c n h).2.1 (ix2 ⟨384 + k.val, by omega⟩ d)) 33 (fun _ => (0 : EReal)) _
    (fun t h d => dwfirst3 m c t h k d) (fun t h d => dwnext3 m c t h k d) t h1 d).trans (zero_add (_ : EReal))).trans ?_
  have ht : t.val / 33 = 0 := Nat.div_eq_of_lt (lt_of_lt_of_eq t.isLt N_0)
  unfold dwV3 dwp3
  refine Fin.sum_mul_add_congr fun s k hl => ?_
  have hr : 128 * (33 * (t.val / 33) + s.val) + k.val = s.val * 128 + k.val := by omega
  simp only [hr]

theorem dw_all (c : Dev nD) (t : Fin cfg0.N) (hl : t.val % 33 = 32) (q : Fin 512) (d : Fin 128) :
    (outsAt0 m c t.val t.isLt).2.1 (ix2 q d) = refDw (m (c.tc.loc main_arg0)) (m (c.tc.loc main_arg1)) (m (c.tc.loc main_arg2)) (m (c.tc.loc main_arg3)) (ix2 q d) := by
  have hq := q.isLt
  by_cases h0 : q.val < 128
  · have e : q = ⟨(⟨q.val, by omega⟩ : Fin 128).val, by show q.val < 512; omega⟩ := rfl
    rw [e]; exact ((dw_0 m c t hl (⟨q.val, by omega⟩ : Fin 128) d).trans (refDw_0 _ _ _ _ _ d).symm)
  by_cases h1 : q.val < 256
  · have e : q = ⟨128 + (⟨q.val - 128, by omega⟩ : Fin 128).val, by show 128 + (q.val - 128) < 512; omega⟩ := Fin.ext (by show q.val = 128 + (q.val - 128); omega)
    rw [e]; exact ((dw_1 m c t hl (⟨q.val - 128, by omega⟩ : Fin 128) d).trans (refDw_1 _ _ _ _ _ d).symm)
  by_cases h2 : q.val < 384
  · have e : q = ⟨256 + (⟨q.val - 256, by omega⟩ : Fin 128).val, by show 256 + (q.val - 256) < 512; omega⟩ := Fin.ext (by show q.val = 256 + (q.val - 256); omega)
    rw [e]; exact ((dw_2 m c t hl (⟨q.val - 256, by omega⟩ : Fin 128) d).trans (refDw_2 _ _ _ _ _ d).symm)
  · have e : q = ⟨384 + (⟨q.val - 384, by omega⟩ : Fin 128).val, by show 384 + (q.val - 384) < 512; omega⟩ := Fin.ext (by show q.val = 384 + (q.val - 384); omega)
    rw [e]; exact ((dw_3 m c t hl (⟨q.val - 384, by omega⟩ : Fin 128) d).trans (refDw_3 _ _ _ _ _ d).symm)

/-- The kernel's gradient of the weights is the reference's. -/
theorem final_7 (c : Dev nD) : (dats m 0 c).arrAt 7 (cfgs 0).N = refDw (m (c.tc.loc main_arg0)) (m (c.tc.loc main_arg1)) (m (c.tc.loc main_arg2)) (m (c.tc.loc main_arg3)) := by
  refine (dats m 0 c).arrAt_eq_of_covers 7 _ (by decide +kernel) fun t hf y => ?_
  have hy : (y : S512x128.Idx) = ((cfg0.win 7).blk t).view.emb y := by blk_ext [idx_val t]
  have e1 : (y : S512x128.Idx) = ix2 (y 0) (y 1) := by funext b; fin_cases b <;> rfl
  blk_simp; rw [after0_7]
  exact (congrArg _ e1).trans ((dw_all m c t ((flush0_7 t).mp hf) (y 0) (y 1)).trans (congrArg _ (e1.symm.trans hy)))

end Cert.Kernel14Ideal.Value

end
-- ==== Proof.RunPoolBwd.lean ====
/- The run of the reference `reference14`, its results under the names that the values use. -/
module

public import proofs.«01_k».proof.Proof.ValuePoolBwd
public import Idealize.ShloMosaic.Lib.Pipeline.ReadBack
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Reference14Ideal.Value
open Cert.Reference14Ideal Cert.Reference14Ideal.Gen

/-- Every run of the reference ends with the named results, its arguments unchanged. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v384) = refDu (m (c.tc.loc main_arg0)) (m (c.tc.loc main_arg1)) (m (c.tc.loc main_arg2)) (m (c.tc.loc main_arg3))
      ∧ r.2.mem (c.tc.loc main_v385) = refDw (m (c.tc.loc main_arg0)) (m (c.tc.loc main_arg1)) (m (c.tc.loc main_arg2)) (m (c.tc.loc main_arg3))
      ∧ r.2.mem (c.tc.loc main_v365) = refDs (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨(h c).1, (h c).2.1, (h c).2.2.1, (h c).2.2.2.1, (h c).2.2.2.2.1, (h c).2.2.2.2.2.1, (h c).2.2.2.2.2.2⟩) (run m ρ)

end Cert.Reference14Ideal.Value

end
-- ==== Proof.lean ====
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel33.Frame
public import proofs.«01_k».proof.Proof.Gen.Kernel34.Frame
public import proofs.«01_k».proof.Proof.Gen.Kernel35.Frame
public import proofs.«01_k».proof.Proof.Gen.Kernel15.Frame
public import proofs.«01_k».proof.Proof.Gen.Kernel14.Frame
public import proofs.«01_k».proof.Proof.Gen.Pre_finite
public import Idealize.ShloMosaic.Adequacy
public import Idealize.ShloMosaic.Init
public import Idealize.ShloMosaic.Lib.Claim
public import proofs.«01_k».proof.Proof.ValueGate
public import proofs.«01_k».proof.Proof.ValueDown
public import proofs.«01_k».proof.Proof.ValueUp
public import proofs.«01_k».proof.Proof.ValueDu
public import proofs.«01_k».proof.Proof.ValueMerged
public import proofs.«01_k».proof.Proof.ValueDwOut
public import proofs.«01_k».proof.Proof.ValueDinput
public import proofs.«01_k».proof.Proof.ValueDwIn
public import proofs.«01_k».proof.Proof.ValueProj
public import proofs.«01_k».proof.Proof.ValueGateProd
public import proofs.«01_k».proof.Proof.ValueAct
public import proofs.«01_k».proof.Proof.ValueFfDown
public import proofs.«01_k».proof.Proof.ValueOutProj
public import proofs.«01_k».proof.Proof.ValueAdam16
public import proofs.«01_k».proof.Proof.ValueAdam17
public import proofs.«01_k».proof.Proof.ValueAdam18
public import proofs.«01_k».proof.Proof.ValueAdam19
public import proofs.«01_k».proof.Proof.ValueAdam20
public import proofs.«01_k».proof.Proof.ValueNorm
public import proofs.«01_k».proof.Proof.RunPostMix
public import proofs.«01_k».proof.Proof.RunPostFfnB
public import proofs.«01_k».proof.Proof.RunPostMixB
public import proofs.«01_k».proof.Proof.RunMerge
public import proofs.«01_k».proof.Proof.RunMergeB
public import proofs.«01_k».proof.Proof.RunPreMixB
public import proofs.«01_k».proof.Proof.RunLossHead
public import proofs.«01_k».proof.Proof.RunAdamSmall
public import proofs.«01_k».proof.Proof.RunSumSmall
public import proofs.«01_k».proof.Proof.ValueSumIn
public import proofs.«01_k».proof.Proof.ValueSumOut
public import proofs.«01_k».proof.Proof.ValueSumGate
public import proofs.«01_k».proof.Proof.ValueSumDown
public import proofs.«01_k».proof.Proof.ValueSumPw
public import proofs.«01_k».proof.Proof.RunPoolFwd
public import proofs.«01_k».proof.Proof.RunPoolBwd

@[expose] public section

set_option maxRecDepth 16384

noncomputable section

namespace Cert.Proof

open Idealize.ShloMosaic Idealize.SL.Sem

/-- Argument arrays that satisfy the precondition hold reals. -/
theorem reals (m : (ℓ : Loc Cert.KernelIdeal.nD Cert.KernelIdeal.τ Cert.KernelIdeal.sig) → Buf (Elt Ideal) ℓ)
    (h : Pre_KernelIdeal_finite m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal)) := by
  obtain ⟨h0, h1, h2, h3, h4⟩ := h c
  exact ⟨fun i => Cert.Finite.real_of_olt _ (congrFun h0 i), fun i => Cert.Finite.real_of_olt _ (congrFun h1 i), fun i => Cert.Finite.real_of_olt _ (congrFun h2 i), fun i => Cert.Finite.real_of_olt _ (congrFun h3 i), fun i => Cert.Finite.real_of_olt _ (congrFun h4 i)⟩

/-- the gradient of the SwiGLU gate: d_gate_up: the two programs agree. -/
theorem alg_KernelIdeal : algebraic_KernelIdeal_ReferenceIdeal_pre_finite := by
  pair_intro
  · run_from Cert.KernelIdeal.Value.run_blocks m g
  · run_from Cert.ReferenceIdeal.Value.run m' g'
    · obtain ⟨h0, h1, h2, h3, h4⟩ := reals m hpre c
      exact (Cert.KernelIdeal.Value.final_4 m c h0 h1 h2 h3 h4).symm
    · exact (Cert.KernelIdeal.Value.final_5 m c).symm

/-- the gradient of w_down: dw_down: the two programs agree. -/
theorem alg_Kernel2Ideal : algebraic_Kernel2Ideal_Reference2Ideal := by
  pair_intro
  · run_from Cert.Kernel2Ideal.Value.run_blocks m g
  · run_from Cert.Reference2Ideal.Value.run m' g'
    exact (Cert.Kernel2Ideal.Value.final m c).symm

/-- the gradient of w_gate and of w_up: dw_gate, dw_up: the two programs agree. -/
theorem alg_Kernel3Ideal : algebraic_Kernel3Ideal_Reference3Ideal := by
  pair_intro
  · run_from Cert.Kernel3Ideal.Value.run_blocks m g
  · run_from Cert.Reference3Ideal.Value.run m' g'
    exact (Cert.Kernel3Ideal.Value.final m c).symm

/-- the gradient of the feed-forward's input: d_u2: the two programs agree. -/
theorem alg_Kernel4Ideal : algebraic_Kernel4Ideal_Reference4Ideal := by
  pair_intro
  · run_from Cert.Kernel4Ideal.Value.run_blocks m g
  · run_from Cert.Reference4Ideal.Value.run m' g'
    exact (Cert.Kernel4Ideal.Value.final m c).symm

/-- the gradient of the mixer's merged heads: d_merged: the two programs agree. -/
theorem alg_Kernel5Ideal : algebraic_Kernel5Ideal_Reference5Ideal := by
  pair_intro
  · run_from Cert.Kernel5Ideal.Value.run_blocks m g
  · run_from Cert.Reference5Ideal.Value.run m' g'
    exact (Cert.Kernel5Ideal.Value.final m c).symm

/-- the gradient of w_out: dw_out: the two programs agree. -/
theorem alg_Kernel6Ideal : algebraic_Kernel6Ideal_Reference6Ideal := by
  pair_intro
  · run_from Cert.Kernel6Ideal.Value.run_blocks m g
  · run_from Cert.Reference6Ideal.Value.run m' g'
    exact (Cert.Kernel6Ideal.Value.final m c).symm

/-- the gradient of the layer's normed input: d_u: the two programs agree. -/
theorem alg_Kernel7Ideal : algebraic_Kernel7Ideal_Reference7Ideal := by
  pair_intro
  · run_from Cert.Kernel7Ideal.Value.run_blocks m g
  · run_from Cert.Reference7Ideal.Value.run m' g'
    exact (Cert.Kernel7Ideal.Value.final m c).symm

/-- the gradient of w_in: dw_in: the two programs agree. -/
theorem alg_Kernel8Ideal : algebraic_Kernel8Ideal_Reference8Ideal := by
  pair_intro
  · run_from Cert.Kernel8Ideal.Value.run_blocks m g
  · run_from Cert.Reference8Ideal.Value.run m' g'
    exact (Cert.Kernel8Ideal.Value.final m c).symm

/-- the projection in: in_proj: the two programs agree. -/
theorem alg_Kernel9Ideal : algebraic_Kernel9Ideal_Reference9Ideal := by
  pair_intro
  · run_from Cert.Kernel9Ideal.Value.run_blocks m g
  · run_from Cert.Reference9Ideal.Value.run m' g'
    exact (Cert.Kernel9Ideal.Value.final m c).symm

/-- the feed-forward's gate product: ffn_gate: the two programs agree. -/
theorem alg_Kernel10Ideal : algebraic_Kernel10Ideal_Reference10Ideal := by
  pair_intro
  · run_from Cert.Kernel10Ideal.Value.run_blocks m g
  · run_from Cert.Reference10Ideal.Value.run m' g'
    exact (Cert.Kernel10Ideal.Value.final m c).symm

/-- the feed-forward's up product and gated activation: ffn_up: the two programs agree. -/
theorem alg_Kernel11Ideal : algebraic_Kernel11Ideal_Reference11Ideal := by
  pair_intro
  · run_from Cert.Kernel11Ideal.Value.run_blocks m g
  · run_from Cert.Reference11Ideal.Value.run m' g'
    · exact (Cert.Kernel11Ideal.Value.final_3 m c).symm
    · exact (Cert.Kernel11Ideal.Value.final_4 m c).symm

/-- the feed-forward's product down: ffn_down: the two programs agree. -/
theorem alg_Kernel12Ideal : algebraic_Kernel12Ideal_Reference12Ideal := by
  pair_intro
  · run_from Cert.Kernel12Ideal.Value.run_blocks m g
  · run_from Cert.Reference12Ideal.Value.run m' g'
    exact (Cert.Kernel12Ideal.Value.final m c).symm

/-- the projection out: out_proj: the two programs agree. -/
theorem alg_Kernel13Ideal : algebraic_Kernel13Ideal_Reference13Ideal := by
  pair_intro
  · run_from Cert.Kernel13Ideal.Value.run_blocks m g
  · run_from Cert.Reference13Ideal.Value.run m' g'
    exact (Cert.Kernel13Ideal.Value.final m c).symm

/-- the optimiser step of w_in: adamw_w_in: the two programs agree. -/
theorem alg_Kernel16Ideal : algebraic_Kernel16Ideal_Reference16Ideal := by
  pair_intro
  · run_from Cert.Kernel16Ideal.Value.run_blocks m g
  · run_from Cert.Reference16Ideal.Value.run m' g'
    · exact (Cert.Kernel16Ideal.Value.final_5 m c).symm
    · exact (Cert.Kernel16Ideal.Value.final_6 m c).symm
    · exact (Cert.Kernel16Ideal.Value.final_7 m c).symm
    · exact (Cert.Kernel16Ideal.Value.final_8 m c).symm

/-- the optimiser step of w_out: adamw_w_out: the two programs agree. -/
theorem alg_Kernel17Ideal : algebraic_Kernel17Ideal_Reference17Ideal := by
  pair_intro
  · run_from Cert.Kernel17Ideal.Value.run_blocks m g
  · run_from Cert.Reference17Ideal.Value.run m' g'
    · exact (Cert.Kernel17Ideal.Value.final_5 m c).symm
    · exact (Cert.Kernel17Ideal.Value.final_6 m c).symm
    · exact (Cert.Kernel17Ideal.Value.final_7 m c).symm
    · exact (Cert.Kernel17Ideal.Value.final_8 m c).symm

/-- the optimiser step of w_gate: adamw_w_gate: the two programs agree. -/
theorem alg_Kernel18Ideal : algebraic_Kernel18Ideal_Reference18Ideal := by
  pair_intro
  · run_from Cert.Kernel18Ideal.Value.run_blocks m g
  · run_from Cert.Reference18Ideal.Value.run m' g'
    · exact (Cert.Kernel18Ideal.Value.final_5 m c).symm
    · exact (Cert.Kernel18Ideal.Value.final_6 m c).symm
    · exact (Cert.Kernel18Ideal.Value.final_7 m c).symm
    · exact (Cert.Kernel18Ideal.Value.final_8 m c).symm

/-- the optimiser step of w_down: adamw_w_down: the two programs agree. -/
theorem alg_Kernel19Ideal : algebraic_Kernel19Ideal_Reference19Ideal := by
  pair_intro
  · run_from Cert.Kernel19Ideal.Value.run_blocks m g
  · run_from Cert.Reference19Ideal.Value.run m' g'
    · exact (Cert.Kernel19Ideal.Value.final_5 m c).symm
    · exact (Cert.Kernel19Ideal.Value.final_6 m c).symm
    · exact (Cert.Kernel19Ideal.Value.final_7 m c).symm
    · exact (Cert.Kernel19Ideal.Value.final_8 m c).symm

/-- the optimiser step of w_pw: adamw_w_pw: the two programs agree. -/
theorem alg_Kernel20Ideal : algebraic_Kernel20Ideal_Reference20Ideal := by
  pair_intro
  · run_from Cert.Kernel20Ideal.Value.run_blocks m g
  · run_from Cert.Reference20Ideal.Value.run m' g'
    · exact (Cert.Kernel20Ideal.Value.final_5 m c).symm
    · exact (Cert.Kernel20Ideal.Value.final_6 m c).symm
    · exact (Cert.Kernel20Ideal.Value.final_7 m c).symm
    · exact (Cert.Kernel20Ideal.Value.final_8 m c).symm

/-- the first norm: pre_mix_norm: the two programs agree. -/
theorem alg_Kernel21Ideal : algebraic_Kernel21Ideal_Reference21Ideal := by
  pair_intro
  · run_from Cert.Kernel21Ideal.Value.run_blocks m g
  · run_from Cert.Reference21Ideal.Value.run m' g'
    exact (Cert.Kernel21Ideal.Value.final m c).symm

/-- the residual and the next norm: post_mix, post_ffn: the two programs agree. -/
theorem alg_Kernel22Ideal : algebraic_Kernel22Ideal_Reference22Ideal := by
  pair_intro
  · run_from Cert.Kernel22Ideal.Value.run_blocks m g
  · run_from Cert.Reference22Ideal.Value.run_named m' g'
    · exact (Cert.Kernel22Ideal.Value.final_4 m c).symm
    · exact (Cert.Kernel22Ideal.Value.final_5 m c).symm

/-- the gradient of the norm after the feed-forward: post_ffn_b: the two programs agree. -/
theorem alg_Kernel23Ideal : algebraic_Kernel23Ideal_Reference23Ideal := by
  pair_intro
  · run_from Cert.Kernel23Ideal.Value.run_blocks m g
  · run_from Cert.Reference23Ideal.Value.run_named m' g'
    · exact (Cert.Kernel23Ideal.Value.final_3 m c).symm
    · exact (Cert.Kernel23Ideal.Value.final_4 m c).symm

/-- the gradient of the residual and the norms round it: post_mix_b: the two programs agree. -/
theorem alg_Kernel24Ideal : algebraic_Kernel24Ideal_Reference24Ideal := by
  pair_intro
  · run_from Cert.Kernel24Ideal.Value.run_blocks m g
  · run_from Cert.Reference24Ideal.Value.run_named m' g'
    · exact (Cert.Kernel24Ideal.Value.final_6 m c).symm
    · exact (Cert.Kernel24Ideal.Value.final_7 m c).symm
    · exact (Cert.Kernel24Ideal.Value.final_8 m c).symm
    · exact (Cert.Kernel24Ideal.Value.final_9 m c).symm

/-- the norms of the three head groups: merge: the two programs agree. -/
theorem alg_Kernel25Ideal : algebraic_Kernel25Ideal_Reference25Ideal := by
  pair_intro
  · run_from Cert.Kernel25Ideal.Value.run_blocks m g
  · run_from Cert.Reference25Ideal.Value.run_named m' g'
    exact (Cert.Kernel25Ideal.Value.final m c).symm

/-- the gradient of the norms of the three head groups: merge_b: the two programs agree. -/
theorem alg_Kernel26Ideal : algebraic_Kernel26Ideal_Reference26Ideal := by
  pair_intro
  · run_from Cert.Kernel26Ideal.Value.run_blocks m g
  · run_from Cert.Reference26Ideal.Value.run_named m' g'
    · exact (Cert.Kernel26Ideal.Value.final_7 m c).symm
    · exact (Cert.Kernel26Ideal.Value.final_8 m c).symm
    · exact (Cert.Kernel26Ideal.Value.final_9 m c).symm
    · exact (Cert.Kernel26Ideal.Value.final_10 m c).symm
    · exact (Cert.Kernel26Ideal.Value.final_11 m c).symm
    · exact (Cert.Kernel26Ideal.Value.final_12 m c).symm

/-- the gradient of the step's input: pre_mix_b: the two programs agree. -/
theorem alg_Kernel27Ideal : algebraic_Kernel27Ideal_Reference27Ideal := by
  pair_intro
  · run_from Cert.Kernel27Ideal.Value.run_blocks m g
  · run_from Cert.Reference27Ideal.Value.run_named m' g'
    · exact (Cert.Kernel27Ideal.Value.final_4 m c).symm
    · exact (Cert.Kernel27Ideal.Value.final_5 m c).symm
    · exact (Cert.Kernel27Ideal.Value.final_6 m c).symm

/-- the loss and its gradient: loss_head: the two programs agree. -/
theorem alg_Kernel28Ideal : algebraic_Kernel28Ideal_Reference28Ideal := by
  pair_intro
  · run_from Cert.Kernel28Ideal.Value.run_blocks m g
  · run_from Cert.Reference28Ideal.Value.run_named m' g'
    · exact (Cert.Kernel28Ideal.Value.final_4 m c).symm
    · exact (Cert.Kernel28Ideal.Value.final_5 m c).symm

/-- the optimiser step of the small weights: adamw_small: the two programs agree. -/
theorem alg_Kernel29Ideal : algebraic_Kernel29Ideal_Reference29Ideal := by
  pair_intro
  · run_from Cert.Kernel29Ideal.Value.run_blocks m g
  · run_from Cert.Reference29Ideal.Value.run_named m' g'
    · exact (Cert.Kernel29Ideal.Value.final_4 m c).symm
    · exact (Cert.Kernel29Ideal.Value.final_5 m c).symm
    · exact (Cert.Kernel29Ideal.Value.final_6 m c).symm

/-- the sum of the gradients of the small weights over the devices: sum_small: the two programs agree. -/
theorem alg_Kernel30Ideal : algebraic_Kernel30Ideal_Reference30Ideal := by
  pair_intro
  · run_from Cert.Kernel30Ideal.Value.run_blocks m g
  · run_from Cert.Reference30Ideal.Value.run_named m' g'
    exact (Cert.Kernel30Ideal.Value.final m c).symm

/-- the sum of the gradient of w_in over the plane: sum_w_in: the two programs agree. -/
theorem alg_Kernel31Ideal : algebraic_Kernel31Ideal_Reference31Ideal := by
  pair_intro
  · run_from Cert.Kernel31Ideal.Value.run_blocks m g
  · run_from Cert.Reference31Ideal.Value.run m' g'
    exact (Cert.Kernel31Ideal.Value.final m c).symm

/-- the sum of the gradient of w_out over the plane: sum_w_out: the two programs agree. -/
theorem alg_Kernel32Ideal : algebraic_Kernel32Ideal_Reference32Ideal := by
  pair_intro
  · run_from Cert.Kernel32Ideal.Value.run_blocks m g
  · run_from Cert.Reference32Ideal.Value.run m' g'
    exact (Cert.Kernel32Ideal.Value.final m c).symm

/-- the sum of the gradient of w_gate over the plane: sum_w_gate: the two programs agree. -/
theorem alg_Kernel33Ideal : algebraic_Kernel33Ideal_Reference33Ideal := by
  pair_intro
  · run_from Cert.Kernel33Ideal.Value.run_blocks m g
  · run_from Cert.Reference33Ideal.Value.run m' g'
    exact (Cert.Kernel33Ideal.Value.final m c).symm

/-- the sum of the gradient of w_down over the plane: sum_w_down: the two programs agree. -/
theorem alg_Kernel34Ideal : algebraic_Kernel34Ideal_Reference34Ideal := by
  pair_intro
  · run_from Cert.Kernel34Ideal.Value.run_blocks m g
  · run_from Cert.Reference34Ideal.Value.run m' g'
    exact (Cert.Kernel34Ideal.Value.final m c).symm

/-- the sum of the gradient of w_pw over the plane: sum_w_pw: the two programs agree. -/
theorem alg_Kernel35Ideal : algebraic_Kernel35Ideal_Reference35Ideal := by
  pair_intro
  · run_from Cert.Kernel35Ideal.Value.run_blocks m g
  · run_from Cert.Reference35Ideal.Value.run m' g'
    exact (Cert.Kernel35Ideal.Value.final m c).symm

/-- the pooling heads: pool_fwd: the two programs agree. -/
theorem alg_Kernel15Ideal : algebraic_Kernel15Ideal_Reference15Ideal := by
  pair_intro
  · run_from Cert.Kernel15Ideal.Value.run_blocks m g
  · run_from Cert.Reference15Ideal.Value.run_named m' g'
    exact (Cert.Kernel15Ideal.Value.final m c).symm

/-- the gradient of the pooling heads: pool_bwd: the two programs agree. -/
theorem alg_Kernel14Ideal : algebraic_Kernel14Ideal_Reference14Ideal := by
  pair_intro
  · run_from Cert.Kernel14Ideal.Value.run_blocks m g
  · run_from Cert.Reference14Ideal.Value.run_named m' g'
    · exact (Cert.Kernel14Ideal.Value.final_6 m c).symm
    · exact (Cert.Kernel14Ideal.Value.final_7 m c).symm
    · exact (Cert.Kernel14Ideal.Value.final_8 m c).symm

/-- Every claim. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel15.Gen.facts, Cert.Kernel15Ideal.Gen.facts, Cert.Reference15Ideal.Gen.facts, Cert.Kernel14.Gen.facts, Cert.Kernel14Ideal.Gen.facts, Cert.Reference14Ideal.Gen.facts, Cert.Pre_finite.Gen.facts,
  (fun m ρ _ => Cert.Kernel.Gen.frame m ρ),
  (fun m ρ _ => Cert.KernelIdeal.Gen.frame m ρ),
  (fun m ρ _ => Cert.KernelIdeal.Gen.frame m ρ),
  (fun m g _ => (θ_run _ _ _).mono
    (fun r h => ⟨fun c => (h c).2.2, sem_eq_zero_of_no_sems (by decide) r.2⟩) (Cert.ReferenceIdeal.Value.run m g)),
  (fun m g _ => (θ_run _ _ _).mono
    (fun r h => ⟨fun c => (h c).2.2, sem_eq_zero_of_no_sems (by decide) r.2⟩) (Cert.ReferenceIdeal.Value.run m g)),
  (fun m ρ _ => Cert.Kernel2.Gen.frame m ρ),
  (fun m ρ _ => Cert.Kernel2Ideal.Gen.frame m ρ),
  (fun m g _ => (θ_run _ _ _).mono
    (fun r h => ⟨fun c => (h c).2, sem_eq_zero_of_no_sems (by decide) r.2⟩) (Cert.Reference2Ideal.Value.run m g)),
  (fun m ρ _ => Cert.Kernel3.Gen.frame m ρ),
  (fun m ρ _ => Cert.Kernel3Ideal.Gen.frame m ρ),
  (fun m g _ => (θ_run _ _ _).mono
    (fun r h => ⟨fun c => (h c).2, sem_eq_zero_of_no_sems (by decide) r.2⟩) (Cert.Reference3Ideal.Value.run m g)),
  (fun m ρ _ => Cert.Kernel4.Gen.frame m ρ),
  (fun m ρ _ => Cert.Kernel4Ideal.Gen.frame m ρ),
  (fun m g _ => (θ_run _ _ _).mono
    (fun r h => ⟨fun c => (h c).2, sem_eq_zero_of_no_sems (by decide) r.2⟩) (Cert.Reference4Ideal.Value.run m g)),
  (fun m ρ _ => Cert.Kernel5.Gen.frame m ρ),
  (fun m ρ _ => Cert.Kernel5Ideal.Gen.frame m ρ),
  (fun m g _ => (θ_run _ _ _).mono
    (fun r h => ⟨fun c => (h c).2, sem_eq_zero_of_no_sems (by decide) r.2⟩) (Cert.Reference5Ideal.Value.run m g)),
  (fun m ρ _ => Cert.Kernel6.Gen.frame m ρ),
  (fun m ρ _ => Cert.Kernel6Ideal.Gen.frame m ρ),
  (fun m g _ => (θ_run _ _ _).mono
    (fun r h => ⟨fun c => (h c).2, sem_eq_zero_of_no_sems (by decide) r.2⟩) (Cert.Reference6Ideal.Value.run m g)),
  (fun m ρ _ => Cert.Kernel7.Gen.frame m ρ),
  (fun m ρ _ => Cert.Kernel7Ideal.Gen.frame m ρ),
  (fun m g _ => (θ_run _ _ _).mono
    (fun r h => ⟨fun c => (h c).2, sem_eq_zero_of_no_sems (by decide) r.2⟩) (Cert.Reference7Ideal.Value.run m g)),
  (fun m ρ _ => Cert.Kernel8.Gen.frame m ρ),
  (fun m ρ _ => Cert.Kernel8Ideal.Gen.frame m ρ),
  (fun m g _ => (θ_run _ _ _).mono
    (fun r h => ⟨fun c => (h c).2, sem_eq_zero_of_no_sems (by decide) r.2⟩) (Cert.Reference8Ideal.Value.run m g)),
  (fun m ρ _ => Cert.Kernel9.Gen.frame m ρ),
  (fun m ρ _ => Cert.Kernel9Ideal.Gen.frame m ρ),
  (fun m g _ => (θ_run _ _ _).mono
    (fun r h => ⟨fun c => (h c).2, sem_eq_zero_of_no_sems (by decide) r.2⟩) (Cert.Reference9Ideal.Value.run m g)),
  (fun m ρ _ => Cert.Kernel10.Gen.frame m ρ),
  (fun m ρ _ => Cert.Kernel10Ideal.Gen.frame m ρ),
  (fun m g _ => (θ_run _ _ _).mono
    (fun r h => ⟨fun c => (h c).2, sem_eq_zero_of_no_sems (by decide) r.2⟩) (Cert.Reference10Ideal.Value.run m g)),
  (fun m ρ _ => Cert.Kernel11.Gen.frame m ρ),
  (fun m ρ _ => Cert.Kernel11Ideal.Gen.frame m ρ),
  (fun m g _ => (θ_run _ _ _).mono
    (fun r h => ⟨fun c => (h c).2.2, sem_eq_zero_of_no_sems (by decide) r.2⟩) (Cert.Reference11Ideal.Value.run m g)),
  (fun m ρ _ => Cert.Kernel12.Gen.frame m ρ),
  (fun m ρ _ => Cert.Kernel12Ideal.Gen.frame m ρ),
  (fun m g _ => (θ_run _ _ _).mono
    (fun r h => ⟨fun c => (h c).2, sem_eq_zero_of_no_sems (by decide) r.2⟩) (Cert.Reference12Ideal.Value.run m g)),
  (fun m ρ _ => Cert.Kernel13.Gen.frame m ρ),
  (fun m ρ _ => Cert.Kernel13Ideal.Gen.frame m ρ),
  (fun m g _ => (θ_run _ _ _).mono
    (fun r h => ⟨fun c => (h c).2, sem_eq_zero_of_no_sems (by decide) r.2⟩) (Cert.Reference13Ideal.Value.run m g)),
  (fun m ρ _ => Cert.Kernel16.Gen.frame m ρ),
  (fun m ρ _ => Cert.Kernel16Ideal.Gen.frame m ρ),
  (fun m g _ => (θ_run _ _ _).mono
    (fun r h => ⟨fun c => (h c).2.2.2.2, sem_eq_zero_of_no_sems (by decide) r.2⟩) (Cert.Reference16Ideal.Value.run m g)),
  (fun m ρ _ => Cert.Kernel17.Gen.frame m ρ),
  (fun m ρ _ => Cert.Kernel17Ideal.Gen.frame m ρ),
  (fun m g _ => (θ_run _ _ _).mono
    (fun r h => ⟨fun c => (h c).2.2.2.2, sem_eq_zero_of_no_sems (by decide) r.2⟩) (Cert.Reference17Ideal.Value.run m g)),
  (fun m ρ _ => Cert.Kernel18.Gen.frame m ρ),
  (fun m ρ _ => Cert.Kernel18Ideal.Gen.frame m ρ),
  (fun m g _ => (θ_run _ _ _).mono
    (fun r h => ⟨fun c => (h c).2.2.2.2, sem_eq_zero_of_no_sems (by decide) r.2⟩) (Cert.Reference18Ideal.Value.run m g)),
  (fun m ρ _ => Cert.Kernel19.Gen.frame m ρ),
  (fun m ρ _ => Cert.Kernel19Ideal.Gen.frame m ρ),
  (fun m g _ => (θ_run _ _ _).mono
    (fun r h => ⟨fun c => (h c).2.2.2.2, sem_eq_zero_of_no_sems (by decide) r.2⟩) (Cert.Reference19Ideal.Value.run m g)),
  (fun m ρ _ => Cert.Kernel20.Gen.frame m ρ),
  (fun m ρ _ => Cert.Kernel20Ideal.Gen.frame m ρ),
  (fun m g _ => (θ_run _ _ _).mono
    (fun r h => ⟨fun c => (h c).2.2.2.2, sem_eq_zero_of_no_sems (by decide) r.2⟩) (Cert.Reference20Ideal.Value.run m g)),
  (fun m ρ _ => Cert.Kernel21.Gen.frame m ρ),
  (fun m ρ _ => Cert.Kernel21Ideal.Gen.frame m ρ),
  (fun m g _ => (θ_run _ _ _).mono
    (fun r h => ⟨fun c => (h c).2, sem_eq_zero_of_no_sems (by decide) r.2⟩) (Cert.Reference21Ideal.Value.run m g)),
  (fun m ρ _ => Cert.Kernel22.Gen.frame m ρ),
  (fun m ρ _ => Cert.Kernel22Ideal.Gen.frame m ρ),
  (fun m g _ => (θ_run _ _ _).mono
    (fun r h => ⟨fun c => (h c).2.2, sem_eq_zero_of_no_sems (by decide) r.2⟩) (Cert.Reference22Ideal.Value.run m g)),
  (fun m ρ _ => Cert.Kernel23.Gen.frame m ρ),
  (fun m ρ _ => Cert.Kernel23Ideal.Gen.frame m ρ),
  (fun m g _ => (θ_run _ _ _).mono
    (fun r h => ⟨fun c => (h c).2.2, sem_eq_zero_of_no_sems (by decide) r.2⟩) (Cert.Reference23Ideal.Value.run m g)),
  (fun m ρ _ => Cert.Kernel24.Gen.frame m ρ),
  (fun m ρ _ => Cert.Kernel24Ideal.Gen.frame m ρ),
  (fun m g _ => (θ_run _ _ _).mono
    (fun r h => ⟨fun c => (h c).2.2.2.2, sem_eq_zero_of_no_sems (by decide) r.2⟩) (Cert.Reference24Ideal.Value.run m g)),
  (fun m ρ _ => Cert.Kernel25.Gen.frame m ρ),
  (fun m ρ _ => Cert.Kernel25Ideal.Gen.frame m ρ),
  (fun m g _ => (θ_run _ _ _).mono
    (fun r h => ⟨fun c => (h c).2, sem_eq_zero_of_no_sems (by decide) r.2⟩) (Cert.Reference25Ideal.Value.run m g)),
  (fun m ρ _ => Cert.Kernel26.Gen.frame m ρ),
  (fun m ρ _ => Cert.Kernel26Ideal.Gen.frame m ρ),
  (fun m g _ => (θ_run _ _ _).mono
    (fun r h => ⟨fun c => (h c).2.2.2.2.2.2, sem_eq_zero_of_no_sems (by decide) r.2⟩) (Cert.Reference26Ideal.Value.run m g)),
  (fun m ρ _ => Cert.Kernel27.Gen.frame m ρ),
  (fun m ρ _ => Cert.Kernel27Ideal.Gen.frame m ρ),
  (fun m g _ => (θ_run _ _ _).mono
    (fun r h => ⟨fun c => (h c).2.2.2, sem_eq_zero_of_no_sems (by decide) r.2⟩) (Cert.Reference27Ideal.Value.run m g)),
  (fun m ρ _ => Cert.Kernel28.Gen.frame m ρ),
  (fun m ρ _ => Cert.Kernel28Ideal.Gen.frame m ρ),
  (fun m g _ => (θ_run _ _ _).mono
    (fun r h => ⟨fun c => (h c).2.2, sem_eq_zero_of_no_sems (by decide) r.2⟩) (Cert.Reference28Ideal.Value.run m g)),
  (fun m ρ _ => Cert.Kernel29.Gen.frame m ρ),
  (fun m ρ _ => Cert.Kernel29Ideal.Gen.frame m ρ),
  (fun m g _ => (θ_run _ _ _).mono
    (fun r h => ⟨fun c => (h c).2.2.2, sem_eq_zero_of_no_sems (by decide) r.2⟩) (Cert.Reference29Ideal.Value.run m g)),
  (fun m ρ _ => Cert.Kernel30.Gen.frame m ρ),
  (fun m ρ _ => Cert.Kernel30Ideal.Gen.frame m ρ),
  (fun m g _ => (θ_run _ _ _).mono
    (fun r h => ⟨fun c => (h c).2, sem_eq_zero_of_no_sems (by decide) r.2⟩) (Cert.Reference30Ideal.Value.run m g)),
  (fun m ρ _ => Cert.Kernel31.Gen.frame m ρ),
  (fun m ρ _ => Cert.Kernel31Ideal.Gen.frame m ρ),
  (fun m g _ => (θ_run _ _ _).mono
    (fun r h => ⟨fun c => (h c).2, sem_eq_zero_of_no_sems (by decide) r.2⟩) (Cert.Reference31Ideal.Value.run m g)),
  (fun m ρ _ => Cert.Kernel32.Gen.frame m ρ),
  (fun m ρ _ => Cert.Kernel32Ideal.Gen.frame m ρ),
  (fun m g _ => (θ_run _ _ _).mono
    (fun r h => ⟨fun c => (h c).2, sem_eq_zero_of_no_sems (by decide) r.2⟩) (Cert.Reference32Ideal.Value.run m g)),
  (fun m ρ _ => Cert.Kernel33.Gen.frame m ρ),
  (fun m ρ _ => Cert.Kernel33Ideal.Gen.frame m ρ),
  (fun m g _ => (θ_run _ _ _).mono
    (fun r h => ⟨fun c => (h c).2, sem_eq_zero_of_no_sems (by decide) r.2⟩) (Cert.Reference33Ideal.Value.run m g)),
  (fun m ρ _ => Cert.Kernel34.Gen.frame m ρ),
  (fun m ρ _ => Cert.Kernel34Ideal.Gen.frame m ρ),
  (fun m g _ => (θ_run _ _ _).mono
    (fun r h => ⟨fun c => (h c).2, sem_eq_zero_of_no_sems (by decide) r.2⟩) (Cert.Reference34Ideal.Value.run m g)),
  (fun m ρ _ => Cert.Kernel35.Gen.frame m ρ),
  (fun m ρ _ => Cert.Kernel35Ideal.Gen.frame m ρ),
  (fun m g _ => (θ_run _ _ _).mono
    (fun r h => ⟨fun c => (h c).2, sem_eq_zero_of_no_sems (by decide) r.2⟩) (Cert.Reference35Ideal.Value.run m g)),
  (fun m ρ _ => Cert.Kernel15.Gen.frame m ρ),
  (fun m ρ _ => Cert.Kernel15Ideal.Gen.frame m ρ),
  (fun m g _ => (θ_run _ _ _).mono
    (fun r h => ⟨fun c => (h c).2, sem_eq_zero_of_no_sems (by decide) r.2⟩) (Cert.Reference15Ideal.Value.run m g)),
  (fun m ρ _ => Cert.Kernel14.Gen.frame m ρ),
  (fun m ρ _ => Cert.Kernel14Ideal.Gen.frame m ρ),
  (fun m g _ => (θ_run _ _ _).mono
    (fun r h => ⟨fun c => (h c).2.2.2, sem_eq_zero_of_no_sems (by decide) r.2⟩) (Cert.Reference14Ideal.Value.run m g)),
  trivial,
  alg_KernelIdeal,
  trivial,
  alg_Kernel2Ideal,
  trivial,
  alg_Kernel3Ideal,
  trivial,
  alg_Kernel4Ideal,
  trivial,
  alg_Kernel5Ideal,
  trivial,
  alg_Kernel6Ideal,
  trivial,
  alg_Kernel7Ideal,
  trivial,
  alg_Kernel8Ideal,
  trivial,
  alg_Kernel9Ideal,
  trivial,
  alg_Kernel10Ideal,
  trivial,
  alg_Kernel11Ideal,
  trivial,
  alg_Kernel12Ideal,
  trivial,
  alg_Kernel13Ideal,
  trivial,
  alg_Kernel16Ideal,
  trivial,
  alg_Kernel17Ideal,
  trivial,
  alg_Kernel18Ideal,
  trivial,
  alg_Kernel19Ideal,
  trivial,
  alg_Kernel20Ideal,
  trivial,
  alg_Kernel21Ideal,
  trivial,
  alg_Kernel22Ideal,
  trivial,
  alg_Kernel23Ideal,
  trivial,
  alg_Kernel24Ideal,
  trivial,
  alg_Kernel25Ideal,
  trivial,
  alg_Kernel26Ideal,
  trivial,
  alg_Kernel27Ideal,
  trivial,
  alg_Kernel28Ideal,
  trivial,
  alg_Kernel29Ideal,
  trivial,
  alg_Kernel30Ideal,
  trivial,
  alg_Kernel31Ideal,
  trivial,
  alg_Kernel32Ideal,
  trivial,
  alg_Kernel33Ideal,
  trivial,
  alg_Kernel34Ideal,
  trivial,
  alg_Kernel35Ideal,
  trivial,
  alg_Kernel15Ideal,
  trivial,
  alg_Kernel14Ideal⟩

end Cert.Proof

end
